-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_XNorm (m : (ℓ : Loc Cert.XNorm.nD Cert.XNorm.τ Cert.XNorm.sig) → Buf (Elt Bits) ℓ) : Prop :=
  True

def Pre_XNormIdeal (m : (ℓ : Loc Cert.XNormIdeal.nD Cert.XNormIdeal.τ Cert.XNormIdeal.sig) → Buf (Elt Ideal) ℓ) : Prop :=
  True

def Pre_XNormReferenceIdeal (m : (ℓ : Loc Cert.XNormReferenceIdeal.nD Cert.XNormReferenceIdeal.τ Cert.XNormReferenceIdeal.sig) → Buf (Elt Ideal) ℓ) : Prop :=
  True

def Pre_HNorm (m : (ℓ : Loc Cert.HNorm.nD Cert.HNorm.τ Cert.HNorm.sig) → Buf (Elt Bits) ℓ) : Prop :=
  True

def Pre_HNormIdeal (m : (ℓ : Loc Cert.HNormIdeal.nD Cert.HNormIdeal.τ Cert.HNormIdeal.sig) → Buf (Elt Ideal) ℓ) : Prop :=
  True

def Pre_HNormReferenceIdeal (m : (ℓ : Loc Cert.HNormReferenceIdeal.nD Cert.HNormReferenceIdeal.τ Cert.HNormReferenceIdeal.sig) → Buf (Elt Ideal) ℓ) : Prop :=
  True

def Pre_AttnQuant (m : (ℓ : Loc Cert.AttnQuant.nD Cert.AttnQuant.τ Cert.AttnQuant.sig) → Buf (Elt Bits) ℓ) : Prop :=
  True

def Pre_AttnQuantIdeal (m : (ℓ : Loc Cert.AttnQuantIdeal.nD Cert.AttnQuantIdeal.τ Cert.AttnQuantIdeal.sig) → Buf (Elt Ideal) ℓ) : Prop :=
  True

def Pre_AttnQuantReferenceIdeal (m : (ℓ : Loc Cert.AttnQuantReferenceIdeal.nD Cert.AttnQuantReferenceIdeal.τ Cert.AttnQuantReferenceIdeal.sig) → Buf (Elt Ideal) ℓ) : Prop :=
  True

def Pre_SiluQuant (m : (ℓ : Loc Cert.SiluQuant.nD Cert.SiluQuant.τ Cert.SiluQuant.sig) → Buf (Elt Bits) ℓ) : Prop :=
  True

def Pre_SiluQuantIdeal (m : (ℓ : Loc Cert.SiluQuantIdeal.nD Cert.SiluQuantIdeal.τ Cert.SiluQuantIdeal.sig) → Buf (Elt Ideal) ℓ) : Prop :=
  True

def Pre_SiluQuantReferenceIdeal (m : (ℓ : Loc Cert.SiluQuantReferenceIdeal.nD Cert.SiluQuantReferenceIdeal.τ Cert.SiluQuantReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_XNorm [hXNorm : Cert.XNorm.Facts] : Prop :=
  ∀ (m : (ℓ : Loc Cert.XNorm.nD Cert.XNorm.τ Cert.XNorm.sig) → Buf (Elt Bits) ℓ) (g : Dev Cert.XNorm.nD → PrngReg), Pre_XNorm m →
    θ_run (Cert.XNorm.defs (F := Bits)) (onTc (τ := Cert.XNorm.τ) (Cert.XNorm.main (F := Bits))) ⟨m, fun _ => 0, g⟩ (fun r => (∀ c : Dev Cert.XNorm.nD,
      r.2.mem ((c.tc : Thread Cert.XNorm.nD Cert.XNorm.τ).loc Cert.XNorm.main_arg0) = m ((c.tc : Thread Cert.XNorm.nD Cert.XNorm.τ).loc Cert.XNorm.main_arg0)
      ∧ r.2.mem ((c.tc : Thread Cert.XNorm.nD Cert.XNorm.τ).loc Cert.XNorm.main_arg1) = m ((c.tc : Thread Cert.XNorm.nD Cert.XNorm.τ).loc Cert.XNorm.main_arg1))
      ∧ r.2.sem = fun _ => 0)

def quiescent_XNormIdeal [hXNormIdeal : Cert.XNormIdeal.Facts] : Prop :=
  ∀ (m : (ℓ : Loc Cert.XNormIdeal.nD Cert.XNormIdeal.τ Cert.XNormIdeal.sig) → Buf (Elt Ideal) ℓ) (g : Dev Cert.XNormIdeal.nD → PrngReg), Pre_XNormIdeal m →
    θ_run (Cert.XNormIdeal.defs (F := Ideal)) (onTc (τ := Cert.XNormIdeal.τ) (Cert.XNormIdeal.main (F := Ideal))) ⟨m, fun _ => 0, g⟩ (fun r => (∀ c : Dev Cert.XNormIdeal.nD,
      r.2.mem ((c.tc : Thread Cert.XNormIdeal.nD Cert.XNormIdeal.τ).loc Cert.XNormIdeal.main_arg0) = m ((c.tc : Thread Cert.XNormIdeal.nD Cert.XNormIdeal.τ).loc Cert.XNormIdeal.main_arg0)
      ∧ r.2.mem ((c.tc : Thread Cert.XNormIdeal.nD Cert.XNormIdeal.τ).loc Cert.XNormIdeal.main_arg1) = m ((c.tc : Thread Cert.XNormIdeal.nD Cert.XNormIdeal.τ).loc Cert.XNormIdeal.main_arg1))
      ∧ r.2.sem = fun _ => 0)

def quiescent_XNormReferenceIdeal [hXNormReferenceIdeal : Cert.XNormReferenceIdeal.Facts] : Prop :=
  ∀ (m : (ℓ : Loc Cert.XNormReferenceIdeal.nD Cert.XNormReferenceIdeal.τ Cert.XNormReferenceIdeal.sig) → Buf (Elt Ideal) ℓ) (g : Dev Cert.XNormReferenceIdeal.nD → PrngReg), Pre_XNormReferenceIdeal m →
    θ_run (Cert.XNormReferenceIdeal.defs (F := Ideal)) (onTc (τ := Cert.XNormReferenceIdeal.τ) (Cert.XNormReferenceIdeal.main (F := Ideal))) ⟨m, fun _ => 0, g⟩ (fun r => (∀ c : Dev Cert.XNormReferenceIdeal.nD,
      r.2.mem ((c.tc : Thread Cert.XNormReferenceIdeal.nD Cert.XNormReferenceIdeal.τ).loc Cert.XNormReferenceIdeal.main_arg0) = m ((c.tc : Thread Cert.XNormReferenceIdeal.nD Cert.XNormReferenceIdeal.τ).loc Cert.XNormReferenceIdeal.main_arg0)
      ∧ r.2.mem ((c.tc : Thread Cert.XNormReferenceIdeal.nD Cert.XNormReferenceIdeal.τ).loc Cert.XNormReferenceIdeal.main_arg1) = m ((c.tc : Thread Cert.XNormReferenceIdeal.nD Cert.XNormReferenceIdeal.τ).loc Cert.XNormReferenceIdeal.main_arg1))
      ∧ r.2.sem = fun _ => 0)

def quiescent_HNorm [hHNorm : Cert.HNorm.Facts] : Prop :=
  ∀ (m : (ℓ : Loc Cert.HNorm.nD Cert.HNorm.τ Cert.HNorm.sig) → Buf (Elt Bits) ℓ) (g : Dev Cert.HNorm.nD → PrngReg), Pre_HNorm m →
    θ_run (Cert.HNorm.defs (F := Bits)) (onTc (τ := Cert.HNorm.τ) (Cert.HNorm.main (F := Bits))) ⟨m, fun _ => 0, g⟩ (fun r => (∀ c : Dev Cert.HNorm.nD,
      r.2.mem ((c.tc : Thread Cert.HNorm.nD Cert.HNorm.τ).loc Cert.HNorm.main_arg0) = m ((c.tc : Thread Cert.HNorm.nD Cert.HNorm.τ).loc Cert.HNorm.main_arg0)
      ∧ r.2.mem ((c.tc : Thread Cert.HNorm.nD Cert.HNorm.τ).loc Cert.HNorm.main_arg1) = m ((c.tc : Thread Cert.HNorm.nD Cert.HNorm.τ).loc Cert.HNorm.main_arg1))
      ∧ r.2.sem = fun _ => 0)

def quiescent_HNormIdeal [hHNormIdeal : Cert.HNormIdeal.Facts] : Prop :=
  ∀ (m : (ℓ : Loc Cert.HNormIdeal.nD Cert.HNormIdeal.τ Cert.HNormIdeal.sig) → Buf (Elt Ideal) ℓ) (g : Dev Cert.HNormIdeal.nD → PrngReg), Pre_HNormIdeal m →
    θ_run (Cert.HNormIdeal.defs (F := Ideal)) (onTc (τ := Cert.HNormIdeal.τ) (Cert.HNormIdeal.main (F := Ideal))) ⟨m, fun _ => 0, g⟩ (fun r => (∀ c : Dev Cert.HNormIdeal.nD,
      r.2.mem ((c.tc : Thread Cert.HNormIdeal.nD Cert.HNormIdeal.τ).loc Cert.HNormIdeal.main_arg0) = m ((c.tc : Thread Cert.HNormIdeal.nD Cert.HNormIdeal.τ).loc Cert.HNormIdeal.main_arg0)
      ∧ r.2.mem ((c.tc : Thread Cert.HNormIdeal.nD Cert.HNormIdeal.τ).loc Cert.HNormIdeal.main_arg1) = m ((c.tc : Thread Cert.HNormIdeal.nD Cert.HNormIdeal.τ).loc Cert.HNormIdeal.main_arg1))
      ∧ r.2.sem = fun _ => 0)

def quiescent_HNormReferenceIdeal [hHNormReferenceIdeal : Cert.HNormReferenceIdeal.Facts] : Prop :=
  ∀ (m : (ℓ : Loc Cert.HNormReferenceIdeal.nD Cert.HNormReferenceIdeal.τ Cert.HNormReferenceIdeal.sig) → Buf (Elt Ideal) ℓ) (g : Dev Cert.HNormReferenceIdeal.nD → PrngReg), Pre_HNormReferenceIdeal m →
    θ_run (Cert.HNormReferenceIdeal.defs (F := Ideal)) (onTc (τ := Cert.HNormReferenceIdeal.τ) (Cert.HNormReferenceIdeal.main (F := Ideal))) ⟨m, fun _ => 0, g⟩ (fun r => (∀ c : Dev Cert.HNormReferenceIdeal.nD,
      r.2.mem ((c.tc : Thread Cert.HNormReferenceIdeal.nD Cert.HNormReferenceIdeal.τ).loc Cert.HNormReferenceIdeal.main_arg0) = m ((c.tc : Thread Cert.HNormReferenceIdeal.nD Cert.HNormReferenceIdeal.τ).loc Cert.HNormReferenceIdeal.main_arg0)
      ∧ r.2.mem ((c.tc : Thread Cert.HNormReferenceIdeal.nD Cert.HNormReferenceIdeal.τ).loc Cert.HNormReferenceIdeal.main_arg1) = m ((c.tc : Thread Cert.HNormReferenceIdeal.nD Cert.HNormReferenceIdeal.τ).loc Cert.HNormReferenceIdeal.main_arg1))
      ∧ r.2.sem = fun _ => 0)

def quiescent_AttnQuant [hAttnQuant : Cert.AttnQuant.Facts] : Prop :=
  ∀ (m : (ℓ : Loc Cert.AttnQuant.nD Cert.AttnQuant.τ Cert.AttnQuant.sig) → Buf (Elt Bits) ℓ) (g : Dev Cert.AttnQuant.nD → PrngReg), Pre_AttnQuant m →
    θ_run (Cert.AttnQuant.defs (F := Bits)) (onTc (τ := Cert.AttnQuant.τ) (Cert.AttnQuant.main (F := Bits))) ⟨m, fun _ => 0, g⟩ (fun r => (∀ c : Dev Cert.AttnQuant.nD,
      r.2.mem ((c.tc : Thread Cert.AttnQuant.nD Cert.AttnQuant.τ).loc Cert.AttnQuant.main_arg0) = m ((c.tc : Thread Cert.AttnQuant.nD Cert.AttnQuant.τ).loc Cert.AttnQuant.main_arg0))
      ∧ r.2.sem = fun _ => 0)

def quiescent_AttnQuantIdeal [hAttnQuantIdeal : Cert.AttnQuantIdeal.Facts] : Prop :=
  ∀ (m : (ℓ : Loc Cert.AttnQuantIdeal.nD Cert.AttnQuantIdeal.τ Cert.AttnQuantIdeal.sig) → Buf (Elt Ideal) ℓ) (g : Dev Cert.AttnQuantIdeal.nD → PrngReg), Pre_AttnQuantIdeal m →
    θ_run (Cert.AttnQuantIdeal.defs (F := Ideal)) (onTc (τ := Cert.AttnQuantIdeal.τ) (Cert.AttnQuantIdeal.main (F := Ideal))) ⟨m, fun _ => 0, g⟩ (fun r => (∀ c : Dev Cert.AttnQuantIdeal.nD,
      r.2.mem ((c.tc : Thread Cert.AttnQuantIdeal.nD Cert.AttnQuantIdeal.τ).loc Cert.AttnQuantIdeal.main_arg0) = m ((c.tc : Thread Cert.AttnQuantIdeal.nD Cert.AttnQuantIdeal.τ).loc Cert.AttnQuantIdeal.main_arg0))
      ∧ r.2.sem = fun _ => 0)

def quiescent_AttnQuantReferenceIdeal [hAttnQuantReferenceIdeal : Cert.AttnQuantReferenceIdeal.Facts] : Prop :=
  ∀ (m : (ℓ : Loc Cert.AttnQuantReferenceIdeal.nD Cert.AttnQuantReferenceIdeal.τ Cert.AttnQuantReferenceIdeal.sig) → Buf (Elt Ideal) ℓ) (g : Dev Cert.AttnQuantReferenceIdeal.nD → PrngReg), Pre_AttnQuantReferenceIdeal m →
    θ_run (Cert.AttnQuantReferenceIdeal.defs (F := Ideal)) (onTc (τ := Cert.AttnQuantReferenceIdeal.τ) (Cert.AttnQuantReferenceIdeal.main (F := Ideal))) ⟨m, fun _ => 0, g⟩ (fun r => (∀ c : Dev Cert.AttnQuantReferenceIdeal.nD,
      r.2.mem ((c.tc : Thread Cert.AttnQuantReferenceIdeal.nD Cert.AttnQuantReferenceIdeal.τ).loc Cert.AttnQuantReferenceIdeal.main_arg0) = m ((c.tc : Thread Cert.AttnQuantReferenceIdeal.nD Cert.AttnQuantReferenceIdeal.τ).loc Cert.AttnQuantReferenceIdeal.main_arg0))
      ∧ r.2.sem = fun _ => 0)

def quiescent_SiluQuant [hSiluQuant : Cert.SiluQuant.Facts] : Prop :=
  ∀ (m : (ℓ : Loc Cert.SiluQuant.nD Cert.SiluQuant.τ Cert.SiluQuant.sig) → Buf (Elt Bits) ℓ) (g : Dev Cert.SiluQuant.nD → PrngReg), Pre_SiluQuant m →
    θ_run (Cert.SiluQuant.defs (F := Bits)) (onTc (τ := Cert.SiluQuant.τ) (Cert.SiluQuant.main (F := Bits))) ⟨m, fun _ => 0, g⟩ (fun r => (∀ c : Dev Cert.SiluQuant.nD,
      r.2.mem ((c.tc : Thread Cert.SiluQuant.nD Cert.SiluQuant.τ).loc Cert.SiluQuant.main_arg0) = m ((c.tc : Thread Cert.SiluQuant.nD Cert.SiluQuant.τ).loc Cert.SiluQuant.main_arg0)
      ∧ r.2.mem ((c.tc : Thread Cert.SiluQuant.nD Cert.SiluQuant.τ).loc Cert.SiluQuant.main_arg1) = m ((c.tc : Thread Cert.SiluQuant.nD Cert.SiluQuant.τ).loc Cert.SiluQuant.main_arg1))
      ∧ r.2.sem = fun _ => 0)

def quiescent_SiluQuantIdeal [hSiluQuantIdeal : Cert.SiluQuantIdeal.Facts] : Prop :=
  ∀ (m : (ℓ : Loc Cert.SiluQuantIdeal.nD Cert.SiluQuantIdeal.τ Cert.SiluQuantIdeal.sig) → Buf (Elt Ideal) ℓ) (g : Dev Cert.SiluQuantIdeal.nD → PrngReg), Pre_SiluQuantIdeal m →
    θ_run (Cert.SiluQuantIdeal.defs (F := Ideal)) (onTc (τ := Cert.SiluQuantIdeal.τ) (Cert.SiluQuantIdeal.main (F := Ideal))) ⟨m, fun _ => 0, g⟩ (fun r => (∀ c : Dev Cert.SiluQuantIdeal.nD,
      r.2.mem ((c.tc : Thread Cert.SiluQuantIdeal.nD Cert.SiluQuantIdeal.τ).loc Cert.SiluQuantIdeal.main_arg0) = m ((c.tc : Thread Cert.SiluQuantIdeal.nD Cert.SiluQuantIdeal.τ).loc Cert.SiluQuantIdeal.main_arg0)
      ∧ r.2.mem ((c.tc : Thread Cert.SiluQuantIdeal.nD Cert.SiluQuantIdeal.τ).loc Cert.SiluQuantIdeal.main_arg1) = m ((c.tc : Thread Cert.SiluQuantIdeal.nD Cert.SiluQuantIdeal.τ).loc Cert.SiluQuantIdeal.main_arg1))
      ∧ r.2.sem = fun _ => 0)

def quiescent_SiluQuantReferenceIdeal [hSiluQuantReferenceIdeal : Cert.SiluQuantReferenceIdeal.Facts] : Prop :=
  ∀ (m : (ℓ : Loc Cert.SiluQuantReferenceIdeal.nD Cert.SiluQuantReferenceIdeal.τ Cert.SiluQuantReferenceIdeal.sig) → Buf (Elt Ideal) ℓ) (g : Dev Cert.SiluQuantReferenceIdeal.nD → PrngReg), Pre_SiluQuantReferenceIdeal m →
    θ_run (Cert.SiluQuantReferenceIdeal.defs (F := Ideal)) (onTc (τ := Cert.SiluQuantReferenceIdeal.τ) (Cert.SiluQuantReferenceIdeal.main (F := Ideal))) ⟨m, fun _ => 0, g⟩ (fun r => (∀ c : Dev Cert.SiluQuantReferenceIdeal.nD,
      r.2.mem ((c.tc : Thread Cert.SiluQuantReferenceIdeal.nD Cert.SiluQuantReferenceIdeal.τ).loc Cert.SiluQuantReferenceIdeal.main_arg0) = m ((c.tc : Thread Cert.SiluQuantReferenceIdeal.nD Cert.SiluQuantReferenceIdeal.τ).loc Cert.SiluQuantReferenceIdeal.main_arg0)
      ∧ r.2.mem ((c.tc : Thread Cert.SiluQuantReferenceIdeal.nD Cert.SiluQuantReferenceIdeal.τ).loc Cert.SiluQuantReferenceIdeal.main_arg1) = m ((c.tc : Thread Cert.SiluQuantReferenceIdeal.nD Cert.SiluQuantReferenceIdeal.τ).loc Cert.SiluQuantReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_XNorm_XNormIdeal : Prop :=
  True

def algebraic_XNormIdeal_XNormReferenceIdeal [hXNormIdeal : Cert.XNormIdeal.Facts] [hXNormReferenceIdeal : Cert.XNormReferenceIdeal.Facts] : Prop :=
  ∀ (m : (ℓ : Loc Cert.XNormIdeal.nD Cert.XNormIdeal.τ Cert.XNormIdeal.sig) → Buf (Elt Ideal) ℓ) (g : Dev Cert.XNormIdeal.nD → PrngReg)
    (m' : (ℓ : Loc Cert.XNormReferenceIdeal.nD Cert.XNormReferenceIdeal.τ Cert.XNormReferenceIdeal.sig) → Buf (Elt Ideal) ℓ) (g' : Dev Cert.XNormReferenceIdeal.nD → PrngReg), Pre_XNormIdeal m →
    (∀ c : Dev Cert.XNormIdeal.nD,
      m' ((c.tc : Thread Cert.XNormReferenceIdeal.nD Cert.XNormReferenceIdeal.τ).loc Cert.XNormReferenceIdeal.main_arg0) = m ((c.tc : Thread Cert.XNormIdeal.nD Cert.XNormIdeal.τ).loc Cert.XNormIdeal.main_arg0)
      ∧ m' ((c.tc : Thread Cert.XNormReferenceIdeal.nD Cert.XNormReferenceIdeal.τ).loc Cert.XNormReferenceIdeal.main_arg1) = m ((c.tc : Thread Cert.XNormIdeal.nD Cert.XNormIdeal.τ).loc Cert.XNormIdeal.main_arg1)) →
    ∃ (v0 : (c : Dev Cert.XNormIdeal.nD) → Buf (Elt Ideal) ((c.tc : Thread Cert.XNormIdeal.nD Cert.XNormIdeal.τ).loc Cert.XNormIdeal.main_v1_0)) (v1 : (c : Dev Cert.XNormIdeal.nD) → Buf (Elt Ideal) ((c.tc : Thread Cert.XNormIdeal.nD Cert.XNormIdeal.τ).loc Cert.XNormIdeal.main_v1_1)),
      θ_run (Cert.XNormIdeal.defs (F := Ideal)) (onTc (τ := Cert.XNormIdeal.τ) (Cert.XNormIdeal.main (F := Ideal))) ⟨m, fun _ => 0, g⟩ (fun r => ∀ c : Dev Cert.XNormIdeal.nD,
          r.2.mem ((c.tc : Thread Cert.XNormIdeal.nD Cert.XNormIdeal.τ).loc Cert.XNormIdeal.main_v1_0) = v0 c
          ∧ r.2.mem ((c.tc : Thread Cert.XNormIdeal.nD Cert.XNormIdeal.τ).loc Cert.XNormIdeal.main_v1_1) = v1 c
          ∧ r.2.mem ((c.tc : Thread Cert.XNormIdeal.nD Cert.XNormIdeal.τ).loc Cert.XNormIdeal.main_arg0) = m ((c.tc : Thread Cert.XNormIdeal.nD Cert.XNormIdeal.τ).loc Cert.XNormIdeal.main_arg0)
          ∧ r.2.mem ((c.tc : Thread Cert.XNormIdeal.nD Cert.XNormIdeal.τ).loc Cert.XNormIdeal.main_arg1) = m ((c.tc : Thread Cert.XNormIdeal.nD Cert.XNormIdeal.τ).loc Cert.XNormIdeal.main_arg1))
      ∧ θ_run (Cert.XNormReferenceIdeal.defs (F := Ideal)) (onTc (τ := Cert.XNormReferenceIdeal.τ) (Cert.XNormReferenceIdeal.main (F := Ideal))) ⟨m', fun _ => 0, g'⟩ (fun r => ∀ c : Dev Cert.XNormReferenceIdeal.nD,
          r.2.mem ((c.tc : Thread Cert.XNormReferenceIdeal.nD Cert.XNormReferenceIdeal.τ).loc Cert.XNormReferenceIdeal.main_v29) = v0 c
          ∧ r.2.mem ((c.tc : Thread Cert.XNormReferenceIdeal.nD Cert.XNormReferenceIdeal.τ).loc Cert.XNormReferenceIdeal.main_v21) = v1 c
          ∧ r.2.mem ((c.tc : Thread Cert.XNormReferenceIdeal.nD Cert.XNormReferenceIdeal.τ).loc Cert.XNormReferenceIdeal.main_arg0) = m' ((c.tc : Thread Cert.XNormReferenceIdeal.nD Cert.XNormReferenceIdeal.τ).loc Cert.XNormReferenceIdeal.main_arg0)
          ∧ r.2.mem ((c.tc : Thread Cert.XNormReferenceIdeal.nD Cert.XNormReferenceIdeal.τ).loc Cert.XNormReferenceIdeal.main_arg1) = m' ((c.tc : Thread Cert.XNormReferenceIdeal.nD Cert.XNormReferenceIdeal.τ).loc Cert.XNormReferenceIdeal.main_arg1))

def preserves_HNorm_HNormIdeal : Prop :=
  True

def algebraic_HNormIdeal_HNormReferenceIdeal [hHNormIdeal : Cert.HNormIdeal.Facts] [hHNormReferenceIdeal : Cert.HNormReferenceIdeal.Facts] : Prop :=
  ∀ (m : (ℓ : Loc Cert.HNormIdeal.nD Cert.HNormIdeal.τ Cert.HNormIdeal.sig) → Buf (Elt Ideal) ℓ) (g : Dev Cert.HNormIdeal.nD → PrngReg)
    (m' : (ℓ : Loc Cert.HNormReferenceIdeal.nD Cert.HNormReferenceIdeal.τ Cert.HNormReferenceIdeal.sig) → Buf (Elt Ideal) ℓ) (g' : Dev Cert.HNormReferenceIdeal.nD → PrngReg), Pre_HNormIdeal m →
    (∀ c : Dev Cert.HNormIdeal.nD,
      m' ((c.tc : Thread Cert.HNormReferenceIdeal.nD Cert.HNormReferenceIdeal.τ).loc Cert.HNormReferenceIdeal.main_arg0) = m ((c.tc : Thread Cert.HNormIdeal.nD Cert.HNormIdeal.τ).loc Cert.HNormIdeal.main_arg0)
      ∧ m' ((c.tc : Thread Cert.HNormReferenceIdeal.nD Cert.HNormReferenceIdeal.τ).loc Cert.HNormReferenceIdeal.main_arg1) = m ((c.tc : Thread Cert.HNormIdeal.nD Cert.HNormIdeal.τ).loc Cert.HNormIdeal.main_arg1)) →
    ∃ (v0 : (c : Dev Cert.HNormIdeal.nD) → Buf (Elt Ideal) ((c.tc : Thread Cert.HNormIdeal.nD Cert.HNormIdeal.τ).loc Cert.HNormIdeal.main_v1_0)) (v1 : (c : Dev Cert.HNormIdeal.nD) → Buf (Elt Ideal) ((c.tc : Thread Cert.HNormIdeal.nD Cert.HNormIdeal.τ).loc Cert.HNormIdeal.main_v1_1)),
      θ_run (Cert.HNormIdeal.defs (F := Ideal)) (onTc (τ := Cert.HNormIdeal.τ) (Cert.HNormIdeal.main (F := Ideal))) ⟨m, fun _ => 0, g⟩ (fun r => ∀ c : Dev Cert.HNormIdeal.nD,
          r.2.mem ((c.tc : Thread Cert.HNormIdeal.nD Cert.HNormIdeal.τ).loc Cert.HNormIdeal.main_v1_0) = v0 c
          ∧ r.2.mem ((c.tc : Thread Cert.HNormIdeal.nD Cert.HNormIdeal.τ).loc Cert.HNormIdeal.main_v1_1) = v1 c
          ∧ r.2.mem ((c.tc : Thread Cert.HNormIdeal.nD Cert.HNormIdeal.τ).loc Cert.HNormIdeal.main_arg0) = m ((c.tc : Thread Cert.HNormIdeal.nD Cert.HNormIdeal.τ).loc Cert.HNormIdeal.main_arg0)
          ∧ r.2.mem ((c.tc : Thread Cert.HNormIdeal.nD Cert.HNormIdeal.τ).loc Cert.HNormIdeal.main_arg1) = m ((c.tc : Thread Cert.HNormIdeal.nD Cert.HNormIdeal.τ).loc Cert.HNormIdeal.main_arg1))
      ∧ θ_run (Cert.HNormReferenceIdeal.defs (F := Ideal)) (onTc (τ := Cert.HNormReferenceIdeal.τ) (Cert.HNormReferenceIdeal.main (F := Ideal))) ⟨m', fun _ => 0, g'⟩ (fun r => ∀ c : Dev Cert.HNormReferenceIdeal.nD,
          r.2.mem ((c.tc : Thread Cert.HNormReferenceIdeal.nD Cert.HNormReferenceIdeal.τ).loc Cert.HNormReferenceIdeal.main_v28) = v0 c
          ∧ r.2.mem ((c.tc : Thread Cert.HNormReferenceIdeal.nD Cert.HNormReferenceIdeal.τ).loc Cert.HNormReferenceIdeal.main_v20) = v1 c
          ∧ r.2.mem ((c.tc : Thread Cert.HNormReferenceIdeal.nD Cert.HNormReferenceIdeal.τ).loc Cert.HNormReferenceIdeal.main_arg0) = m' ((c.tc : Thread Cert.HNormReferenceIdeal.nD Cert.HNormReferenceIdeal.τ).loc Cert.HNormReferenceIdeal.main_arg0)
          ∧ r.2.mem ((c.tc : Thread Cert.HNormReferenceIdeal.nD Cert.HNormReferenceIdeal.τ).loc Cert.HNormReferenceIdeal.main_arg1) = m' ((c.tc : Thread Cert.HNormReferenceIdeal.nD Cert.HNormReferenceIdeal.τ).loc Cert.HNormReferenceIdeal.main_arg1))

def preserves_AttnQuant_AttnQuantIdeal : Prop :=
  True

def algebraic_AttnQuantIdeal_AttnQuantReferenceIdeal [hAttnQuantIdeal : Cert.AttnQuantIdeal.Facts] [hAttnQuantReferenceIdeal : Cert.AttnQuantReferenceIdeal.Facts] : Prop :=
  ∀ (m : (ℓ : Loc Cert.AttnQuantIdeal.nD Cert.AttnQuantIdeal.τ Cert.AttnQuantIdeal.sig) → Buf (Elt Ideal) ℓ) (g : Dev Cert.AttnQuantIdeal.nD → PrngReg)
    (m' : (ℓ : Loc Cert.AttnQuantReferenceIdeal.nD Cert.AttnQuantReferenceIdeal.τ Cert.AttnQuantReferenceIdeal.sig) → Buf (Elt Ideal) ℓ) (g' : Dev Cert.AttnQuantReferenceIdeal.nD → PrngReg), Pre_AttnQuantIdeal m →
    (∀ c : Dev Cert.AttnQuantIdeal.nD,
      m' ((c.tc : Thread Cert.AttnQuantReferenceIdeal.nD Cert.AttnQuantReferenceIdeal.τ).loc Cert.AttnQuantReferenceIdeal.main_arg0) = m ((c.tc : Thread Cert.AttnQuantIdeal.nD Cert.AttnQuantIdeal.τ).loc Cert.AttnQuantIdeal.main_arg0)) →
    ∃ (v0 : (c : Dev Cert.AttnQuantIdeal.nD) → Buf (Elt Ideal) ((c.tc : Thread Cert.AttnQuantIdeal.nD Cert.AttnQuantIdeal.τ).loc Cert.AttnQuantIdeal.main_v0_0)) (v1 : (c : Dev Cert.AttnQuantIdeal.nD) → Buf (Elt Ideal) ((c.tc : Thread Cert.AttnQuantIdeal.nD Cert.AttnQuantIdeal.τ).loc Cert.AttnQuantIdeal.main_v0_1)),
      θ_run (Cert.AttnQuantIdeal.defs (F := Ideal)) (onTc (τ := Cert.AttnQuantIdeal.τ) (Cert.AttnQuantIdeal.main (F := Ideal))) ⟨m, fun _ => 0, g⟩ (fun r => ∀ c : Dev Cert.AttnQuantIdeal.nD,
          r.2.mem ((c.tc : Thread Cert.AttnQuantIdeal.nD Cert.AttnQuantIdeal.τ).loc Cert.AttnQuantIdeal.main_v0_0) = v0 c
          ∧ r.2.mem ((c.tc : Thread Cert.AttnQuantIdeal.nD Cert.AttnQuantIdeal.τ).loc Cert.AttnQuantIdeal.main_v0_1) = v1 c
          ∧ r.2.mem ((c.tc : Thread Cert.AttnQuantIdeal.nD Cert.AttnQuantIdeal.τ).loc Cert.AttnQuantIdeal.main_arg0) = m ((c.tc : Thread Cert.AttnQuantIdeal.nD Cert.AttnQuantIdeal.τ).loc Cert.AttnQuantIdeal.main_arg0))
      ∧ θ_run (Cert.AttnQuantReferenceIdeal.defs (F := Ideal)) (onTc (τ := Cert.AttnQuantReferenceIdeal.τ) (Cert.AttnQuantReferenceIdeal.main (F := Ideal))) ⟨m', fun _ => 0, g'⟩ (fun r => ∀ c : Dev Cert.AttnQuantReferenceIdeal.nD,
          r.2.mem ((c.tc : Thread Cert.AttnQuantReferenceIdeal.nD Cert.AttnQuantReferenceIdeal.τ).loc Cert.AttnQuantReferenceIdeal.main_v15) = v0 c
          ∧ r.2.mem ((c.tc : Thread Cert.AttnQuantReferenceIdeal.nD Cert.AttnQuantReferenceIdeal.τ).loc Cert.AttnQuantReferenceIdeal.main_v7) = v1 c
          ∧ r.2.mem ((c.tc : Thread Cert.AttnQuantReferenceIdeal.nD Cert.AttnQuantReferenceIdeal.τ).loc Cert.AttnQuantReferenceIdeal.main_arg0) = m' ((c.tc : Thread Cert.AttnQuantReferenceIdeal.nD Cert.AttnQuantReferenceIdeal.τ).loc Cert.AttnQuantReferenceIdeal.main_arg0))

def preserves_SiluQuant_SiluQuantIdeal : Prop :=
  True

def algebraic_SiluQuantIdeal_SiluQuantReferenceIdeal [hSiluQuantIdeal : Cert.SiluQuantIdeal.Facts] [hSiluQuantReferenceIdeal : Cert.SiluQuantReferenceIdeal.Facts] : Prop :=
  ∀ (m : (ℓ : Loc Cert.SiluQuantIdeal.nD Cert.SiluQuantIdeal.τ Cert.SiluQuantIdeal.sig) → Buf (Elt Ideal) ℓ) (g : Dev Cert.SiluQuantIdeal.nD → PrngReg)
    (m' : (ℓ : Loc Cert.SiluQuantReferenceIdeal.nD Cert.SiluQuantReferenceIdeal.τ Cert.SiluQuantReferenceIdeal.sig) → Buf (Elt Ideal) ℓ) (g' : Dev Cert.SiluQuantReferenceIdeal.nD → PrngReg), Pre_SiluQuantIdeal m →
    (∀ c : Dev Cert.SiluQuantIdeal.nD,
      m' ((c.tc : Thread Cert.SiluQuantReferenceIdeal.nD Cert.SiluQuantReferenceIdeal.τ).loc Cert.SiluQuantReferenceIdeal.main_arg0) = m ((c.tc : Thread Cert.SiluQuantIdeal.nD Cert.SiluQuantIdeal.τ).loc Cert.SiluQuantIdeal.main_arg0)
      ∧ m' ((c.tc : Thread Cert.SiluQuantReferenceIdeal.nD Cert.SiluQuantReferenceIdeal.τ).loc Cert.SiluQuantReferenceIdeal.main_arg1) = m ((c.tc : Thread Cert.SiluQuantIdeal.nD Cert.SiluQuantIdeal.τ).loc Cert.SiluQuantIdeal.main_arg1)) →
    ∃ (v0 : (c : Dev Cert.SiluQuantIdeal.nD) → Buf (Elt Ideal) ((c.tc : Thread Cert.SiluQuantIdeal.nD Cert.SiluQuantIdeal.τ).loc Cert.SiluQuantIdeal.main_v0_0)) (v1 : (c : Dev Cert.SiluQuantIdeal.nD) → Buf (Elt Ideal) ((c.tc : Thread Cert.SiluQuantIdeal.nD Cert.SiluQuantIdeal.τ).loc Cert.SiluQuantIdeal.main_v0_1)),
      θ_run (Cert.SiluQuantIdeal.defs (F := Ideal)) (onTc (τ := Cert.SiluQuantIdeal.τ) (Cert.SiluQuantIdeal.main (F := Ideal))) ⟨m, fun _ => 0, g⟩ (fun r => ∀ c : Dev Cert.SiluQuantIdeal.nD,
          r.2.mem ((c.tc : Thread Cert.SiluQuantIdeal.nD Cert.SiluQuantIdeal.τ).loc Cert.SiluQuantIdeal.main_v0_0) = v0 c
          ∧ r.2.mem ((c.tc : Thread Cert.SiluQuantIdeal.nD Cert.SiluQuantIdeal.τ).loc Cert.SiluQuantIdeal.main_v0_1) = v1 c
          ∧ r.2.mem ((c.tc : Thread Cert.SiluQuantIdeal.nD Cert.SiluQuantIdeal.τ).loc Cert.SiluQuantIdeal.main_arg0) = m ((c.tc : Thread Cert.SiluQuantIdeal.nD Cert.SiluQuantIdeal.τ).loc Cert.SiluQuantIdeal.main_arg0)
          ∧ r.2.mem ((c.tc : Thread Cert.SiluQuantIdeal.nD Cert.SiluQuantIdeal.τ).loc Cert.SiluQuantIdeal.main_arg1) = m ((c.tc : Thread Cert.SiluQuantIdeal.nD Cert.SiluQuantIdeal.τ).loc Cert.SiluQuantIdeal.main_arg1))
      ∧ θ_run (Cert.SiluQuantReferenceIdeal.defs (F := Ideal)) (onTc (τ := Cert.SiluQuantReferenceIdeal.τ) (Cert.SiluQuantReferenceIdeal.main (F := Ideal))) ⟨m', fun _ => 0, g'⟩ (fun r => ∀ c : Dev Cert.SiluQuantReferenceIdeal.nD,
          r.2.mem ((c.tc : Thread Cert.SiluQuantReferenceIdeal.nD Cert.SiluQuantReferenceIdeal.τ).loc Cert.SiluQuantReferenceIdeal.main_v17) = v0 c
          ∧ r.2.mem ((c.tc : Thread Cert.SiluQuantReferenceIdeal.nD Cert.SiluQuantReferenceIdeal.τ).loc Cert.SiluQuantReferenceIdeal.main_v9) = v1 c
          ∧ r.2.mem ((c.tc : Thread Cert.SiluQuantReferenceIdeal.nD Cert.SiluQuantReferenceIdeal.τ).loc Cert.SiluQuantReferenceIdeal.main_arg0) = m' ((c.tc : Thread Cert.SiluQuantReferenceIdeal.nD Cert.SiluQuantReferenceIdeal.τ).loc Cert.SiluQuantReferenceIdeal.main_arg0)
          ∧ r.2.mem ((c.tc : Thread Cert.SiluQuantReferenceIdeal.nD Cert.SiluQuantReferenceIdeal.τ).loc Cert.SiluQuantReferenceIdeal.main_arg1) = m' ((c.tc : Thread Cert.SiluQuantReferenceIdeal.nD Cert.SiluQuantReferenceIdeal.τ).loc Cert.SiluQuantReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v123) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def Claim : Prop :=
  ∃ (hKernel : Cert.Kernel.Facts) (hKernelIdeal : Cert.KernelIdeal.Facts) (hReferenceIdeal : Cert.ReferenceIdeal.Facts) (hXNorm : Cert.XNorm.Facts) (hXNormIdeal : Cert.XNormIdeal.Facts) (hXNormReferenceIdeal : Cert.XNormReferenceIdeal.Facts) (hHNorm : Cert.HNorm.Facts) (hHNormIdeal : Cert.HNormIdeal.Facts) (hHNormReferenceIdeal : Cert.HNormReferenceIdeal.Facts) (hAttnQuant : Cert.AttnQuant.Facts) (hAttnQuantIdeal : Cert.AttnQuantIdeal.Facts) (hAttnQuantReferenceIdeal : Cert.AttnQuantReferenceIdeal.Facts) (hSiluQuant : Cert.SiluQuant.Facts) (hSiluQuantIdeal : Cert.SiluQuantIdeal.Facts) (hSiluQuantReferenceIdeal : Cert.SiluQuantReferenceIdeal.Facts) (hDown : Cert.Down.Facts) (hDownIdeal : Cert.DownIdeal.Facts) (hDownReferenceIdeal : Cert.DownReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ quiescent_XNorm (hXNorm := hXNorm)
    ∧ quiescent_XNormIdeal (hXNormIdeal := hXNormIdeal)
    ∧ quiescent_XNormReferenceIdeal (hXNormReferenceIdeal := hXNormReferenceIdeal)
    ∧ quiescent_HNorm (hHNorm := hHNorm)
    ∧ quiescent_HNormIdeal (hHNormIdeal := hHNormIdeal)
    ∧ quiescent_HNormReferenceIdeal (hHNormReferenceIdeal := hHNormReferenceIdeal)
    ∧ quiescent_AttnQuant (hAttnQuant := hAttnQuant)
    ∧ quiescent_AttnQuantIdeal (hAttnQuantIdeal := hAttnQuantIdeal)
    ∧ quiescent_AttnQuantReferenceIdeal (hAttnQuantReferenceIdeal := hAttnQuantReferenceIdeal)
    ∧ quiescent_SiluQuant (hSiluQuant := hSiluQuant)
    ∧ quiescent_SiluQuantIdeal (hSiluQuantIdeal := hSiluQuantIdeal)
    ∧ quiescent_SiluQuantReferenceIdeal (hSiluQuantReferenceIdeal := hSiluQuantReferenceIdeal)
    ∧ quiescent_Down (hDown := hDown)
    ∧ quiescent_DownIdeal (hDownIdeal := hDownIdeal)
    ∧ quiescent_DownReferenceIdeal (hDownReferenceIdeal := hDownReferenceIdeal)
    ∧ preserves_Kernel_KernelIdeal
    ∧ algebraic_KernelIdeal_ReferenceIdeal_pre_finite_scales (hKernelIdeal := hKernelIdeal) (hReferenceIdeal := hReferenceIdeal) (hPre_finite_scales := hPre_finite_scales)
    ∧ preserves_XNorm_XNormIdeal
    ∧ algebraic_XNormIdeal_XNormReferenceIdeal (hXNormIdeal := hXNormIdeal) (hXNormReferenceIdeal := hXNormReferenceIdeal)
    ∧ preserves_HNorm_HNormIdeal
    ∧ algebraic_HNormIdeal_HNormReferenceIdeal (hHNormIdeal := hHNormIdeal) (hHNormReferenceIdeal := hHNormReferenceIdeal)
    ∧ preserves_AttnQuant_AttnQuantIdeal
    ∧ algebraic_AttnQuantIdeal_AttnQuantReferenceIdeal (hAttnQuantIdeal := hAttnQuantIdeal) (hAttnQuantReferenceIdeal := hAttnQuantReferenceIdeal)
    ∧ preserves_SiluQuant_SiluQuantIdeal
    ∧ algebraic_SiluQuantIdeal_SiluQuantReferenceIdeal (hSiluQuantIdeal := hSiluQuantIdeal) (hSiluQuantReferenceIdeal := hSiluQuantReferenceIdeal)
    ∧ preserves_Down_DownIdeal
    ∧ algebraic_DownIdeal_DownReferenceIdeal (hDownIdeal := hDownIdeal) (hDownReferenceIdeal := hDownReferenceIdeal)
-- ==== Pre_finite_scales.lean ====
abbrev S40x8192 : Shape := ⟨2, ![40, 8192]⟩
abbrev S40x32 : Shape := ⟨2, ![40, 32]⟩
abbrev S7168x32x128 : Shape := ⟨3, ![7168, 32, 128]⟩
abbrev S7168x32x12 : Shape := ⟨3, ![7168, 32, 12]⟩
abbrev S7168x32 : Shape := ⟨2, ![7168, 32]⟩
abbrev S_ : Shape := ⟨0, ![]⟩

class Facts : Prop where
  bcast_S_S40x32 : S_.BroadcastsInDim S40x32 (![] : Fin 0 → Fin S40x32.rank)

variable [Facts]

def fn {F : FTy → Type} [FloatOps F] (main_arg0 : IVec S40x8192 8) (main_arg1 : FVec F S40x32 .f32) (main_arg2 : IVec S7168x32x128 8) (main_arg3 : IVec S7168x32x12 8) (main_arg4 : IVec S7168x32 16) (main_arg5 : IVec S7168x32 16) : IVec S40x32 1 :=
  let main_v0 : FVec F S40x32 .f32 := Host.absf main_arg1
  let main_cst : FVec F S_ .f32 := constant S_ .f32 0x7F800000#32
  let main_v1 : FVec F S40x32 .f32 := broadcastInDim S40x32 ![] bcast_S_S40x32 main_cst
  let main_v2 : IVec S40x32 1 := cmpf .olt main_v0 main_v1
  main_v2
-- ==== Kernel.lean ====
abbrev S40x8192 : Shape := ⟨2, ![40, 8192]⟩
abbrev S40x32 : Shape := ⟨2, ![40, 32]⟩
abbrev S7168x32x128 : Shape := ⟨3, ![7168, 32, 128]⟩
abbrev S7168x32x12 : Shape := ⟨3, ![7168, 32, 12]⟩
abbrev S7168x32 : Shape := ⟨2, ![7168, 32]⟩
abbrev S40x32x4x2x32 : Shape := ⟨5, ![40, 32, 4, 2, 32]⟩
abbrev S32x40x4x32x2 : Shape := ⟨5, ![32, 40, 4, 32, 2]⟩
abbrev S32x40x256 : Shape := ⟨3, ![32, 40, 256]⟩
abbrev S12x32x7168 : Shape := ⟨3, ![12, 32, 7168]⟩
abbrev S32x7168 : Shape := ⟨2, ![32, 7168]⟩
abbrev S40x7168 : Shape := ⟨2, ![40, 7168]⟩
abbrev S256x32x128 : Shape := ⟨3, ![256, 32, 128]⟩
abbrev S12x32x256 : Shape := ⟨3, ![12, 32, 256]⟩
abbrev S32x256 : Shape := ⟨2, ![32, 256]⟩
abbrev S40x256 : Shape := ⟨2, ![40, 256]⟩
abbrev S32x40x128 : Shape := ⟨3, ![32, 40, 128]⟩
abbrev S2x2x512x128 : Shape := ⟨4, ![2, 2, 512, 128]⟩
abbrev S4x4x8x256 : Shape := ⟨4, ![4, 4, 8, 256]⟩
abbrev S2x32x128 : Shape := ⟨3, ![2, 32, 128]⟩
abbrev S256x256 : Shape := ⟨2, ![256, 256]⟩
abbrev S40x1 : Shape := ⟨2, ![40, 1]⟩
abbrev S40x128 : Shape := ⟨2, ![40, 128]⟩
abbrev S1x40x128 : Shape := ⟨3, ![1, 40, 128]⟩
abbrev S1x40x256 : Shape := ⟨3, ![1, 40, 256]⟩
abbrev S16x256 : Shape := ⟨2, ![16, 256]⟩
abbrev S16x128 : Shape := ⟨2, ![16, 128]⟩
abbrev S1x16x128 : Shape := ⟨3, ![1, 16, 128]⟩
abbrev S1x32x256 : Shape := ⟨3, ![1, 32, 256]⟩
abbrev S8x256 : Shape := ⟨2, ![8, 256]⟩
abbrev S1x1x8x256 : Shape := ⟨4, ![1, 1, 8, 256]⟩
abbrev S1x8x128 : Shape := ⟨3, ![1, 8, 128]⟩
abbrev S8x128 : Shape := ⟨2, ![8, 128]⟩
abbrev S256x4x128 : Shape := ⟨3, ![256, 4, 128]⟩
abbrev S256x1x128 : Shape := ⟨3, ![256, 1, 128]⟩
abbrev S256x128 : Shape := ⟨2, ![256, 128]⟩
abbrev S128x256 : Shape := ⟨2, ![128, 256]⟩
abbrev S512x256 : Shape := ⟨2, ![512, 256]⟩
abbrev S512x128 : Shape := ⟨2, ![512, 128]⟩
abbrev S1x1x512x128 : Shape := ⟨4, ![1, 1, 512, 128]⟩
abbrev S1x1x128x128 : Shape := ⟨4, ![1, 1, 128, 128]⟩
abbrev S128x128 : Shape := ⟨2, ![128, 128]⟩
abbrev S32x128 : Shape := ⟨2, ![32, 128]⟩
abbrev S64x128 : Shape := ⟨2, ![64, 128]⟩
abbrev S1x1x1x128 : Shape := ⟨4, ![1, 1, 1, 128]⟩
abbrev S1x128 : Shape := ⟨2, ![1, 128]⟩
abbrev S1x1x128 : Shape := ⟨3, ![1, 1, 128]⟩
abbrev S1x256 : Shape := ⟨2, ![1, 256]⟩

abbrev nBuf : Space → Nat
  | .hbm => 13
  | .vmem => 20
  | .smem => 0
  | _ => 0

abbrev bufTy : (tb : Table) → Fin (tcTables nBuf tb) → BufTy
  | .hbm, ⟨0, _⟩ => ⟨S40x8192, .i8⟩
  | .hbm, ⟨1, _⟩ => ⟨S40x32, .f32⟩
  | .hbm, ⟨2, _⟩ => ⟨S7168x32x128, .i8⟩
  | .hbm, ⟨3, _⟩ => ⟨S7168x32x12, .i8⟩
  | .hbm, ⟨4, _⟩ => ⟨S7168x32, .i16⟩
  | .hbm, ⟨5, _⟩ => ⟨S7168x32, .i16⟩
  | .hbm, ⟨6, _⟩ => ⟨S40x32x4x2x32, .i8⟩
  | .hbm, ⟨7, _⟩ => ⟨S32x40x4x32x2, .i8⟩
  | .hbm, ⟨8, _⟩ => ⟨S32x40x256, .i8⟩
  | .hbm, ⟨9, _⟩ => ⟨S12x32x7168, .i8⟩
  | .hbm, ⟨10, _⟩ => ⟨S32x7168, .i16⟩
  | .hbm, ⟨11, _⟩ => ⟨S32x7168, .i16⟩
  | .hbm, ⟨12, _⟩ => ⟨S40x7168, .f32⟩
  | .local _ .vmem, ⟨0, _⟩ => ⟨S32x40x256, .i8⟩
  | .local _ .vmem, ⟨1, _⟩ => ⟨S40x32, .f32⟩
  | .local _ .vmem, ⟨2, _⟩ => ⟨S256x32x128, .i8⟩
  | .local _ .vmem, ⟨3, _⟩ => ⟨S256x32x128, .i8⟩
  | .local _ .vmem, ⟨4, _⟩ => ⟨S12x32x256, .i8⟩
  | .local _ .vmem, ⟨5, _⟩ => ⟨S12x32x256, .i8⟩
  | .local _ .vmem, ⟨6, _⟩ => ⟨S32x256, .i16⟩
  | .local _ .vmem, ⟨7, _⟩ => ⟨S32x256, .i16⟩
  | .local _ .vmem, ⟨8, _⟩ => ⟨S32x256, .i16⟩
  | .local _ .vmem, ⟨9, _⟩ => ⟨S32x256, .i16⟩
  | .local _ .vmem, ⟨10, _⟩ => ⟨S40x256, .f32⟩
  | .local _ .vmem, ⟨11, _⟩ => ⟨S40x256, .f32⟩
  | .local _ .vmem, ⟨12, _⟩ => ⟨S32x40x128, .f32⟩
  | .local _ .vmem, ⟨13, _⟩ => ⟨S40x256, .f32⟩
  | .local _ .vmem, ⟨14, _⟩ => ⟨S2x2x512x128, .i32⟩
  | .local _ .vmem, ⟨15, _⟩ => ⟨S4x4x8x256, .i32⟩
  | .local _ .vmem, ⟨16, _⟩ => ⟨S4x4x8x256, .i32⟩
  | .local _ .vmem, ⟨17, _⟩ => ⟨S2x32x128, .f32⟩
  | .local _ .vmem, ⟨18, _⟩ => ⟨S2x32x128, .f32⟩
  | .local _ .vmem, ⟨19, _⟩ => ⟨S256x256, .f32⟩
  | _, _ => ⟨S40x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x40x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x32x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x32x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S40x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S40x8192 : Shape := ⟨2, ![40, 8192]⟩
abbrev S40x32 : Shape := ⟨2, ![40, 32]⟩
abbrev S7168x32x128 : Shape := ⟨3, ![7168, 32, 128]⟩
abbrev S7168x32x12 : Shape := ⟨3, ![7168, 32, 12]⟩
abbrev S7168x32 : Shape := ⟨2, ![7168, 32]⟩
abbrev S40x32x8x32 : Shape := ⟨4, ![40, 32, 8, 32]⟩
abbrev S_ : Shape := ⟨0, ![]⟩
abbrev S40x32x8 : Shape := ⟨3, ![40, 32, 8]⟩
abbrev S7168x32x4 : Shape := ⟨3, ![7168, 32, 4]⟩
abbrev S7168x32x8 : Shape := ⟨3, ![7168, 32, 8]⟩
abbrev S7168x32x4x2 : Shape := ⟨4, ![7168, 32, 4, 2]⟩
abbrev S7168x32x4x32 : Shape := ⟨4, ![7168, 32, 4, 32]⟩
abbrev S7168x32x4x1 : Shape := ⟨4, ![7168, 32, 4, 1]⟩
abbrev S40x32x4x2x32 : Shape := ⟨5, ![40, 32, 4, 2, 32]⟩
abbrev S40x32x4x1x32 : Shape := ⟨5, ![40, 32, 4, 1, 32]⟩
abbrev S40x32x4x32 : Shape := ⟨4, ![40, 32, 4, 32]⟩
abbrev S32x40x7168 : Shape := ⟨3, ![32, 40, 7168]⟩
abbrev S32x7168 : Shape := ⟨2, ![32, 7168]⟩
abbrev S32x1x7168 : Shape := ⟨3, ![32, 1, 7168]⟩
abbrev S32x40 : Shape := ⟨2, ![32, 40]⟩
abbrev S32x40x1 : Shape := ⟨3, ![32, 40, 1]⟩
abbrev S40x7168 : Shape := ⟨2, ![40, 7168]⟩

abbrev nBuf : Space → Nat
  | .hbm => 186
  | .vmem => 0
  | .smem => 0
  | _ => 0

abbrev hbmTy0_0 (i : Nat) : BufTy := match i % 128 with
  | 0 => ⟨S40x8192, .i8⟩
  | 1 => ⟨S40x32, .f32⟩
  | 2 => ⟨S7168x32x128, .i8⟩
  | 3 => ⟨S7168x32x12, .i8⟩
  | 4 => ⟨S7168x32, .i16⟩
  | 5 => ⟨S7168x32, .i16⟩
  | 6 => ⟨S40x8192, .i32⟩
  | 7 => ⟨S40x32x8x32, .i32⟩
  | 8 => ⟨S_, .i32⟩
  | 9 => ⟨S40x32x8, .i32⟩
  | 10 => ⟨S40x32x8, .f32⟩
  | 11 => ⟨S7168x32x12, .i32⟩
  | 12 => ⟨S7168x32x4, .i32⟩
  | 13 => ⟨S7168x32x4, .i32⟩
  | 14 => ⟨S7168x32x4, .i32⟩
  | 15 => ⟨S_, .i32⟩
  | 16 => ⟨S7168x32x4, .i32⟩
  | 17 => ⟨S7168x32x4, .i32⟩
  | 18 => ⟨S_, .i32⟩
  | 19 => ⟨S7168x32x4, .i32⟩
  | 20 => ⟨S7168x32x4, .i32⟩
  | 21 => ⟨S_, .i32⟩
  | 22 => ⟨S7168x32x4, .i32⟩
  | 23 => ⟨S7168x32x4, .i32⟩
  | 24 => ⟨S_, .i32⟩
  | 25 => ⟨S7168x32x4, .i32⟩
  | 26 => ⟨S7168x32x4, .i32⟩
  | 27 => ⟨S7168x32x4, .i32⟩
  | 28 => ⟨S7168x32x8, .i32⟩
  | 29 => ⟨S_, .i32⟩
  | 30 => ⟨S7168x32x4, .i32⟩
  | 31 => ⟨S7168x32x4, .i32⟩
  | 32 => ⟨S_, .i32⟩
  | 33 => ⟨S7168x32x4, .i32⟩
  | 34 => ⟨S7168x32x4, .i32⟩
  | 35 => ⟨S_, .i32⟩
  | 36 => ⟨S7168x32x4, .i32⟩
  | 37 => ⟨S7168x32x4, .i32⟩
  | 38 => ⟨S_, .i32⟩
  | 39 => ⟨S7168x32x4, .i32⟩
  | 40 => ⟨S7168x32x4, .i32⟩
  | 41 => ⟨S7168x32x4, .i32⟩
  | 42 => ⟨S7168x32x8, .i32⟩
  | 43 => ⟨S7168x32x4x2, .i32⟩
  | 44 => ⟨S7168x32x128, .i32⟩
  | 45 => ⟨S7168x32x4x32, .i32⟩
  | 46 => ⟨S7168x32x4x1, .i32⟩
  | 47 => ⟨S7168x32x4, .i32⟩
  | 48 => ⟨S7168x32x4x1, .i32⟩
  | 49 => ⟨S_, .i32⟩
  | 50 => ⟨S7168x32x4x32, .i32⟩
  | 51 => ⟨S7168x32x4x32, .i32⟩
  | 52 => ⟨S7168x32x4x32, .i32⟩
  | 53 => ⟨S7168x32x4x32, .i32⟩
  | 54 => ⟨S7168x32x4x1, .i32⟩
  | 55 => ⟨S7168x32x4, .i32⟩
  | 56 => ⟨S7168x32x4x1, .i32⟩
  | 57 => ⟨S_, .i32⟩
  | 58 => ⟨S7168x32x4x32, .i32⟩
  | 59 => ⟨S7168x32x4x32, .i32⟩
  | 60 => ⟨S7168x32x4x32, .i32⟩
  | 61 => ⟨S7168x32x4x32, .i32⟩
  | 62 => ⟨S40x32x4x2x32, .i8⟩
  | 63 => ⟨S40x32x4x1x32, .i8⟩
  | 64 => ⟨S40x32x4x32, .i8⟩
  | 65 => ⟨S40x32x4x32, .i32⟩
  | 66 => ⟨S40x32x4x32, .bf16⟩
  | 67 => ⟨S_, .i32⟩
  | 68 => ⟨S7168x32x4x32, .i32⟩
  | 69 => ⟨S7168x32x4x32, .i32⟩
  | 70 => ⟨S7168x32x4x32, .bf16⟩
  | 71 => ⟨S32x40x7168, .f32⟩
  | 72 => ⟨S_, .i32⟩
  | 73 => ⟨S7168x32x4x32, .i32⟩
  | 74 => ⟨S7168x32x4x32, .i32⟩
  | 75 => ⟨S7168x32x4x32, .bf16⟩
  | 76 => ⟨S32x40x7168, .f32⟩
  | 77 => ⟨S32x40x7168, .f32⟩
  | 78 => ⟨S32x40x7168, .i32⟩
  | 79 => ⟨S_, .i32⟩
  | 80 => ⟨S32x40x7168, .i32⟩
  | 81 => ⟨S32x40x7168, .i32⟩
  | 82 => ⟨S32x40x7168, .f32⟩
  | 83 => ⟨S32x40x7168, .i32⟩
  | 84 => ⟨S32x40x7168, .i32⟩
  | 85 => ⟨S40x32x4x1x32, .i8⟩
  | 86 => ⟨S40x32x4x32, .i8⟩
  | 87 => ⟨S40x32x4x32, .i32⟩
  | 88 => ⟨S40x32x4x32, .bf16⟩
  | 89 => ⟨S_, .i32⟩
  | 90 => ⟨S7168x32x4x32, .i32⟩
  | 91 => ⟨S7168x32x4x32, .i32⟩
  | 92 => ⟨S7168x32x4x32, .bf16⟩
  | 93 => ⟨S32x40x7168, .f32⟩
  | 94 => ⟨S_, .i32⟩
  | 95 => ⟨S7168x32x4x32, .i32⟩
  | 96 => ⟨S7168x32x4x32, .i32⟩
  | 97 => ⟨S7168x32x4x32, .bf16⟩
  | 98 => ⟨S32x40x7168, .f32⟩
  | 99 => ⟨S32x40x7168, .f32⟩
  | 100 => ⟨S32x40x7168, .i32⟩
  | 101 => ⟨S_, .i32⟩
  | 102 => ⟨S32x40x7168, .i32⟩
  | 103 => ⟨S32x40x7168, .i32⟩
  | 104 => ⟨S32x40x7168, .f32⟩
  | 105 => ⟨S32x40x7168, .i32⟩
  | 106 => ⟨S32x40x7168, .i32⟩
  | 107 => ⟨S32x40x7168, .i32⟩
  | 108 => ⟨S7168x32x8, .f32⟩
  | 109 => ⟨S32x40x7168, .f32⟩
  | 110 => ⟨S7168x32, .i32⟩
  | 111 => ⟨S_, .i32⟩
  | 112 => ⟨S7168x32, .i32⟩
  | 113 => ⟨S7168x32, .i32⟩
  | 114 => ⟨S_, .i32⟩
  | 115 => ⟨S7168x32, .i32⟩
  | 116 => ⟨S7168x32, .i32⟩
  | 117 => ⟨S_, .i32⟩
  | 118 => ⟨S7168x32, .i32⟩
  | 119 => ⟨S7168x32, .i32⟩
  | 120 => ⟨S_, .i32⟩
  | 121 => ⟨S7168x32, .i32⟩
  | 122 => ⟨S7168x32, .i32⟩
  | 123 => ⟨S_, .i32⟩
  | 124 => ⟨S7168x32, .i32⟩
  | 125 => ⟨S7168x32, .i32⟩
  | 126 => ⟨S_, .i32⟩
  | 127 => ⟨S7168x32, .i32⟩
  | _ => ⟨S40x8192, .i8⟩

abbrev hbmTy0_1 (i : Nat) : BufTy := match i % 128 with
  | 0 => ⟨S7168x32, .i32⟩
  | 1 => ⟨S7168x32, .i32⟩
  | 2 => ⟨S_, .i32⟩
  | 3 => ⟨S7168x32, .i32⟩
  | 4 => ⟨S7168x32, .i32⟩
  | 5 => ⟨S7168x32, .f32⟩
  | 6 => ⟨S_, .i32⟩
  | 7 => ⟨S7168x32, .i32⟩
  | 8 => ⟨S7168x32, .i32⟩
  | 9 => ⟨S7168x32, .i32⟩
  | 10 => ⟨S7168x32, .f32⟩
  | 11 => ⟨S7168x32, .f32⟩
  | 12 => ⟨S32x7168, .f32⟩
  | 13 => ⟨S32x1x7168, .f32⟩
  | 14 => ⟨S7168x32, .i32⟩
  | 15 => ⟨S_, .i32⟩
  | 16 => ⟨S7168x32, .i32⟩
  | 17 => ⟨S7168x32, .i32⟩
  | 18 => ⟨S_, .i32⟩
  | 19 => ⟨S7168x32, .i32⟩
  | 20 => ⟨S7168x32, .i32⟩
  | 21 => ⟨S_, .i32⟩
  | 22 => ⟨S7168x32, .i32⟩
  | 23 => ⟨S7168x32, .i32⟩
  | 24 => ⟨S_, .i32⟩
  | 25 => ⟨S7168x32, .i32⟩
  | 26 => ⟨S7168x32, .i32⟩
  | 27 => ⟨S_, .i32⟩
  | 28 => ⟨S7168x32, .i32⟩
  | 29 => ⟨S7168x32, .i32⟩
  | 30 => ⟨S_, .i32⟩
  | 31 => ⟨S7168x32, .i32⟩
  | 32 => ⟨S7168x32, .i32⟩
  | 33 => ⟨S7168x32, .i32⟩
  | 34 => ⟨S_, .i32⟩
  | 35 => ⟨S7168x32, .i32⟩
  | 36 => ⟨S7168x32, .i32⟩
  | 37 => ⟨S7168x32, .f32⟩
  | 38 => ⟨S_, .i32⟩
  | 39 => ⟨S7168x32, .i32⟩
  | 40 => ⟨S7168x32, .i32⟩
  | 41 => ⟨S7168x32, .i32⟩
  | 42 => ⟨S7168x32, .f32⟩
  | 43 => ⟨S7168x32, .f32⟩
  | 44 => ⟨S32x7168, .f32⟩
  | 45 => ⟨S32x1x7168, .f32⟩
  | 46 => ⟨S32x40, .f32⟩
  | 47 => ⟨S32x40x1, .f32⟩
  | 48 => ⟨S32x40x7168, .f32⟩
  | 49 => ⟨S32x40x7168, .f32⟩
  | 50 => ⟨S32x40x7168, .f32⟩
  | 51 => ⟨S32x40x7168, .f32⟩
  | 52 => ⟨S32x40x7168, .f32⟩
  | 53 => ⟨S32x40x7168, .f32⟩
  | 54 => ⟨S32x40x7168, .f32⟩
  | 55 => ⟨S32x40x7168, .f32⟩
  | 56 => ⟨S_, .f32⟩
  | 57 => ⟨S40x7168, .f32⟩
  | _ => ⟨S40x8192, .i8⟩

abbrev hbmTy (i : Nat) : BufTy := match i / 128 with
  | 0 => hbmTy0_0 i
  | 1 => hbmTy0_1 i
  | _ => ⟨S40x8192, .i8⟩

abbrev bufTy : (tb : Table) → Fin (tcTables nBuf tb) → BufTy
  | .hbm, ⟨i, _⟩ => hbmTy i
  | _, _ => ⟨S40x8192, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_15 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_16 : Ref sig .tc := ⟨.hbm, 111, rfl⟩
abbrev main_v88 : Ref sig .tc := ⟨.hbm, 112, rfl⟩
abbrev main_v89 : Ref sig .tc := ⟨.hbm, 113, rfl⟩
abbrev main_c_17 : Ref sig .tc := ⟨.hbm, 114, rfl⟩
abbrev main_v90 : Ref sig .tc := ⟨.hbm, 115, rfl⟩
abbrev main_v91 : Ref sig .tc := ⟨.hbm, 116, rfl⟩
abbrev main_c_18 : Ref sig .tc := ⟨.hbm, 117, rfl⟩
abbrev main_v92 : Ref sig .tc := ⟨.hbm, 118, rfl⟩
abbrev main_v93 : Ref sig .tc := ⟨.hbm, 119, rfl⟩
abbrev main_c_19 : Ref sig .tc := ⟨.hbm, 120, rfl⟩
abbrev main_v94 : Ref sig .tc := ⟨.hbm, 121, rfl⟩
abbrev main_v95 : Ref sig .tc := ⟨.hbm, 122, rfl⟩
abbrev main_c_20 : Ref sig .tc := ⟨.hbm, 123, rfl⟩
abbrev main_v96 : Ref sig .tc := ⟨.hbm, 124, rfl⟩
abbrev main_v97 : Ref sig .tc := ⟨.hbm, 125, rfl⟩
abbrev main_c_21 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_c_22 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c_23 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_c_24 : Ref sig .tc := ⟨.hbm, 143, rfl⟩
abbrev main_v112 : Ref sig .tc := ⟨.hbm, 144, rfl⟩
abbrev main_v113 : Ref sig .tc := ⟨.hbm, 145, rfl⟩
abbrev main_c_25 : Ref sig .tc := ⟨.hbm, 146, rfl⟩
abbrev main_v114 : Ref sig .tc := ⟨.hbm, 147, rfl⟩
abbrev main_v115 : Ref sig .tc := ⟨.hbm, 148, rfl⟩
abbrev main_c_26 : Ref sig .tc := ⟨.hbm, 149, rfl⟩
abbrev main_v116 : Ref sig .tc := ⟨.hbm, 150, rfl⟩
abbrev main_v117 : Ref sig .tc := ⟨.hbm, 151, rfl⟩
abbrev main_c_27 : Ref sig .tc := ⟨.hbm, 152, rfl⟩
abbrev main_v118 : Ref sig .tc := ⟨.hbm, 153, rfl⟩
abbrev main_v119 : Ref sig .tc := ⟨.hbm, 154, rfl⟩
abbrev main_c_28 : Ref sig .tc := ⟨.hbm, 155, rfl⟩
abbrev main_v120 : Ref sig .tc := ⟨.hbm, 156, rfl⟩
abbrev main_v121 : Ref sig .tc := ⟨.hbm, 157, rfl⟩
abbrev main_c_29 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_c_30 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_31 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst : Ref sig .tc := ⟨.hbm, 184, rfl⟩
abbrev main_v145 : Ref sig .tc := ⟨.hbm, 185, rfl⟩

abbrev nD : Nat := 1
abbrev τ : Topo := Topo.v7x

variable {F : FTy → Type} [FloatOps F]
-- ==== XNorm.lean ====
abbrev S40x8192 : Shape := ⟨2, ![40, 8192]⟩
abbrev S8192 : Shape := ⟨1, ![8192]⟩
abbrev S1x8192 : Shape := ⟨2, ![1, 8192]⟩
abbrev S40x32 : Shape := ⟨2, ![40, 32]⟩
abbrev S40 : Shape := ⟨1, ![40]⟩
abbrev S40x1 : Shape := ⟨2, ![40, 1]⟩
abbrev S40x256 : Shape := ⟨2, ![40, 256]⟩

abbrev nBuf : Space → Nat
  | .hbm => 5
  | .vmem => 4
  | .smem => 0
  | _ => 0

abbrev bufTy : (tb : Table) → Fin (tcTables nBuf tb) → BufTy
  | .hbm, ⟨0, _⟩ => ⟨S40x8192, .bf16⟩
  | .hbm, ⟨1, _⟩ => ⟨S8192, .f32⟩
  | .hbm, ⟨2, _⟩ => ⟨S1x8192, .f32⟩
  | .hbm, ⟨3, _⟩ => ⟨S40x8192, .i8⟩
  | .hbm, ⟨4, _⟩ => ⟨S40x32, .f32⟩
  | .local _ .vmem, ⟨0, _⟩ => ⟨S40x8192, .bf16⟩
  | .local _ .vmem, ⟨1, _⟩ => ⟨S1x8192, .f32⟩
  | .local _ .vmem, ⟨2, _⟩ => ⟨S40x8192, .i8⟩
  | .local _ .vmem, ⟨3, _⟩ => ⟨S40x32, .f32⟩
  | _, _ => ⟨S40x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S40x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== XNormIdeal.lean ====
abbrev S40x8192 : Shape := ⟨2, ![40, 8192]⟩
abbrev S8192 : Shape := ⟨1, ![8192]⟩
abbrev S1x8192 : Shape := ⟨2, ![1, 8192]⟩
abbrev S40x32 : Shape := ⟨2, ![40, 32]⟩
abbrev S40 : Shape := ⟨1, ![40]⟩
abbrev S40x1 : Shape := ⟨2, ![40, 1]⟩
abbrev S40x256 : Shape := ⟨2, ![40, 256]⟩

abbrev nBuf : Space → Nat
  | .hbm => 5
  | .vmem => 4
  | .smem => 0
  | _ => 0

abbrev bufTy : (tb : Table) → Fin (tcTables nBuf tb) → BufTy
  | .hbm, ⟨0, _⟩ => ⟨S40x8192, .bf16⟩
  | .hbm, ⟨1, _⟩ => ⟨S8192, .f32⟩
  | .hbm, ⟨2, _⟩ => ⟨S1x8192, .f32⟩
  | .hbm, ⟨3, _⟩ => ⟨S40x8192, .i8⟩
  | .hbm, ⟨4, _⟩ => ⟨S40x32, .f32⟩
  | .local _ .vmem, ⟨0, _⟩ => ⟨S40x8192, .bf16⟩
  | .local _ .vmem, ⟨1, _⟩ => ⟨S1x8192, .f32⟩
  | .local _ .vmem, ⟨2, _⟩ => ⟨S40x8192, .i8⟩
  | .local _ .vmem, ⟨3, _⟩ => ⟨S40x32, .f32⟩
  | _, _ => ⟨S40x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S40x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== XNormReferenceIdeal.lean ====
abbrev S40x8192 : Shape := ⟨2, ![40, 8192]⟩
abbrev S8192 : Shape := ⟨1, ![8192]⟩
abbrev S_ : Shape := ⟨0, ![]⟩
abbrev S40 : Shape := ⟨1, ![40]⟩
abbrev S40x1 : Shape := ⟨2, ![40, 1]⟩
abbrev S1x8192 : Shape := ⟨2, ![1, 8192]⟩
abbrev S40x32x256 : Shape := ⟨3, ![40, 32, 256]⟩
abbrev S40x32 : Shape := ⟨2, ![40, 32]⟩
abbrev S40x32x1 : Shape := ⟨3, ![40, 32, 1]⟩

abbrev nBuf : Space → Nat
  | .hbm => 48
  | .vmem => 0
  | .smem => 0
  | _ => 0

abbrev bufTy : (tb : Table) → Fin (tcTables nBuf tb) → BufTy
  | .hbm, ⟨0, _⟩ => ⟨S40x8192, .bf16⟩
  | .hbm, ⟨1, _⟩ => ⟨S8192, .f32⟩
  | .hbm, ⟨2, _⟩ => ⟨S40x8192, .f32⟩
  | .hbm, ⟨3, _⟩ => ⟨S40x8192, .f32⟩
  | .hbm, ⟨4, _⟩ => ⟨S_, .f32⟩
  | .hbm, ⟨5, _⟩ => ⟨S40, .f32⟩
  | .hbm, ⟨6, _⟩ => ⟨S40x1, .f32⟩
  | .hbm, ⟨7, _⟩ => ⟨S_, .f32⟩
  | .hbm, ⟨8, _⟩ => ⟨S40x1, .f32⟩
  | .hbm, ⟨9, _⟩ => ⟨S40x1, .f32⟩
  | .hbm, ⟨10, _⟩ => ⟨S_, .f32⟩
  | .hbm, ⟨11, _⟩ => ⟨S40x1, .f32⟩
  | .hbm, ⟨12, _⟩ => ⟨S40x1, .f32⟩
  | .hbm, ⟨13, _⟩ => ⟨S40x1, .f32⟩
  | .hbm, ⟨14, _⟩ => ⟨S40x8192, .f32⟩
  | .hbm, ⟨15, _⟩ => ⟨S40x8192, .f32⟩
  | .hbm, ⟨16, _⟩ => ⟨S1x8192, .f32⟩
  | .hbm, ⟨17, _⟩ => ⟨S40x8192, .f32⟩
  | .hbm, ⟨18, _⟩ => ⟨S40x8192, .f32⟩
  | .hbm, ⟨19, _⟩ => ⟨S40x32x256, .f32⟩
  | .hbm, ⟨20, _⟩ => ⟨S40x32x256, .f32⟩
  | .hbm, ⟨21, _⟩ => ⟨S_, .f32⟩
  | .hbm, ⟨22, _⟩ => ⟨S40x32, .f32⟩
  | .hbm, ⟨23, _⟩ => ⟨S_, .f32⟩
  | .hbm, ⟨24, _⟩ => ⟨S40x32, .f32⟩
  | .hbm, ⟨25, _⟩ => ⟨S40x32, .i1⟩
  | .hbm, ⟨26, _⟩ => ⟨S_, .f32⟩
  | .hbm, ⟨27, _⟩ => ⟨S40x32, .f32⟩
  | .hbm, ⟨28, _⟩ => ⟨S40x32, .f32⟩
  | .hbm, ⟨29, _⟩ => ⟨S_, .f32⟩
  | .hbm, ⟨30, _⟩ => ⟨S_, .f32⟩
  | .hbm, ⟨31, _⟩ => ⟨S40x32, .f32⟩
  | .hbm, ⟨32, _⟩ => ⟨S40x32, .f32⟩
  | .hbm, ⟨33, _⟩ => ⟨S40x32x1, .f32⟩
  | .hbm, ⟨34, _⟩ => ⟨S40x32x256, .f32⟩
  | .hbm, ⟨35, _⟩ => ⟨S40x32x256, .f32⟩
  | .hbm, ⟨36, _⟩ => ⟨S40x32x256, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S40x32x256, .f32⟩
  | .hbm, ⟨41, _⟩ => ⟨S40x32x256, .f32⟩
  | .hbm, ⟨42, _⟩ => ⟨S_, .f32⟩
  | .hbm, ⟨43, _⟩ => ⟨S40x32x256, .f32⟩
  | .hbm, ⟨44, _⟩ => ⟨S40x32x256, .f32⟩
  | .hbm, ⟨45, _⟩ => ⟨S40x32x256, .i32⟩
  | .hbm, ⟨46, _⟩ => ⟨S40x32x256, .i8⟩
  | .hbm, ⟨47, _⟩ => ⟨S40x8192, .i8⟩
  | _, _ => ⟨S40x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_c_6 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== HNorm.lean ====
abbrev S40x8192 : Shape := ⟨2, ![40, 8192]⟩
abbrev S8192 : Shape := ⟨1, ![8192]⟩
abbrev S1x8192 : Shape := ⟨2, ![1, 8192]⟩
abbrev S40x32 : Shape := ⟨2, ![40, 32]⟩
abbrev S40 : Shape := ⟨1, ![40]⟩
abbrev S40x1 : Shape := ⟨2, ![40, 1]⟩
abbrev S40x256 : Shape := ⟨2, ![40, 256]⟩

abbrev nBuf : Space → Nat
  | .hbm => 5
  | .vmem => 4
  | .smem => 0
  | _ => 0

abbrev bufTy : (tb : Table) → Fin (tcTables nBuf tb) → BufTy
  | .hbm, ⟨0, _⟩ => ⟨S40x8192, .f32⟩
  | .hbm, ⟨1, _⟩ => ⟨S8192, .f32⟩
  | .hbm, ⟨2, _⟩ => ⟨S1x8192, .f32⟩
  | .hbm, ⟨3, _⟩ => ⟨S40x8192, .i8⟩
  | .hbm, ⟨4, _⟩ => ⟨S40x32, .f32⟩
  | .local _ .vmem, ⟨0, _⟩ => ⟨S40x8192, .f32⟩
  | .local _ .vmem, ⟨1, _⟩ => ⟨S1x8192, .f32⟩
  | .local _ .vmem, ⟨2, _⟩ => ⟨S40x8192, .i8⟩
  | .local _ .vmem, ⟨3, _⟩ => ⟨S40x32, .f32⟩
  | _, _ => ⟨S40x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S40x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== HNormReferenceIdeal.lean ====
abbrev S40x8192 : Shape := ⟨2, ![40, 8192]⟩
abbrev S8192 : Shape := ⟨1, ![8192]⟩
abbrev S_ : Shape := ⟨0, ![]⟩
abbrev S40 : Shape := ⟨1, ![40]⟩
abbrev S40x1 : Shape := ⟨2, ![40, 1]⟩
abbrev S1x8192 : Shape := ⟨2, ![1, 8192]⟩
abbrev S40x32x256 : Shape := ⟨3, ![40, 32, 256]⟩
abbrev S40x32 : Shape := ⟨2, ![40, 32]⟩
abbrev S40x32x1 : Shape := ⟨3, ![40, 32, 1]⟩

abbrev nBuf : Space → Nat
  | .hbm => 47
  | .vmem => 0
  | .smem => 0
  | _ => 0

abbrev bufTy : (tb : Table) → Fin (tcTables nBuf tb) → BufTy
  | .hbm, ⟨0, _⟩ => ⟨S40x8192, .f32⟩
  | .hbm, ⟨1, _⟩ => ⟨S8192, .f32⟩
  | .hbm, ⟨2, _⟩ => ⟨S40x8192, .f32⟩
  | .hbm, ⟨3, _⟩ => ⟨S_, .f32⟩
  | .hbm, ⟨4, _⟩ => ⟨S40, .f32⟩
  | .hbm, ⟨5, _⟩ => ⟨S40x1, .f32⟩
  | .hbm, ⟨6, _⟩ => ⟨S_, .f32⟩
  | .hbm, ⟨7, _⟩ => ⟨S40x1, .f32⟩
  | .hbm, ⟨8, _⟩ => ⟨S40x1, .f32⟩
  | .hbm, ⟨9, _⟩ => ⟨S_, .f32⟩
  | .hbm, ⟨10, _⟩ => ⟨S40x1, .f32⟩
  | .hbm, ⟨11, _⟩ => ⟨S40x1, .f32⟩
  | .hbm, ⟨12, _⟩ => ⟨S40x1, .f32⟩
  | .hbm, ⟨13, _⟩ => ⟨S40x8192, .f32⟩
  | .hbm, ⟨14, _⟩ => ⟨S40x8192, .f32⟩
  | .hbm, ⟨15, _⟩ => ⟨S1x8192, .f32⟩
  | .hbm, ⟨16, _⟩ => ⟨S40x8192, .f32⟩
  | .hbm, ⟨17, _⟩ => ⟨S40x8192, .f32⟩
  | .hbm, ⟨18, _⟩ => ⟨S40x32x256, .f32⟩
  | .hbm, ⟨19, _⟩ => ⟨S40x32x256, .f32⟩
  | .hbm, ⟨20, _⟩ => ⟨S_, .f32⟩
  | .hbm, ⟨21, _⟩ => ⟨S40x32, .f32⟩
  | .hbm, ⟨22, _⟩ => ⟨S_, .f32⟩
  | .hbm, ⟨23, _⟩ => ⟨S40x32, .f32⟩
  | .hbm, ⟨24, _⟩ => ⟨S40x32, .i1⟩
  | .hbm, ⟨25, _⟩ => ⟨S_, .f32⟩
  | .hbm, ⟨26, _⟩ => ⟨S40x32, .f32⟩
  | .hbm, ⟨27, _⟩ => ⟨S40x32, .f32⟩
  | .hbm, ⟨28, _⟩ => ⟨S_, .f32⟩
  | .hbm, ⟨29, _⟩ => ⟨S_, .f32⟩
  | .hbm, ⟨30, _⟩ => ⟨S40x32, .f32⟩
  | .hbm, ⟨31, _⟩ => ⟨S40x32, .f32⟩
  | .hbm, ⟨32, _⟩ => ⟨S40x32x1, .f32⟩
  | .hbm, ⟨33, _⟩ => ⟨S40x32x256, .f32⟩
  | .hbm, ⟨34, _⟩ => ⟨S40x32x256, .f32⟩
  | .hbm, ⟨35, _⟩ => ⟨S40x32x256, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S40x32x256, .f32⟩
  | .hbm, ⟨40, _⟩ => ⟨S40x32x256, .f32⟩
  | .hbm, ⟨41, _⟩ => ⟨S_, .f32⟩
  | .hbm, ⟨42, _⟩ => ⟨S40x32x256, .f32⟩
  | .hbm, ⟨43, _⟩ => ⟨S40x32x256, .f32⟩
  | .hbm, ⟨44, _⟩ => ⟨S40x32x256, .i32⟩
  | .hbm, ⟨45, _⟩ => ⟨S40x32x256, .i8⟩
  | .hbm, ⟨46, _⟩ => ⟨S40x8192, .i8⟩
  | _, _ => ⟨S40x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_c_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== AttnQuant.lean ====
abbrev S40x2048 : Shape := ⟨2, ![40, 2048]⟩
abbrev S40x8 : Shape := ⟨2, ![40, 8]⟩
abbrev S40x256 : Shape := ⟨2, ![40, 256]⟩
abbrev S40 : Shape := ⟨1, ![40]⟩
abbrev S40x1 : Shape := ⟨2, ![40, 1]⟩

abbrev nBuf : Space → Nat
  | .hbm => 3
  | .vmem => 3
  | .smem => 0
  | _ => 0

abbrev bufTy : (tb : Table) → Fin (tcTables nBuf tb) → BufTy
  | .hbm, ⟨0, _⟩ => ⟨S40x2048, .f32⟩
  | .hbm, ⟨1, _⟩ => ⟨S40x2048, .i8⟩
  | .hbm, ⟨2, _⟩ => ⟨S40x8, .f32⟩
  | .local _ .vmem, ⟨0, _⟩ => ⟨S40x2048, .f32⟩
  | .local _ .vmem, ⟨1, _⟩ => ⟨S40x2048, .i8⟩
  | .local _ .vmem, ⟨2, _⟩ => ⟨S40x8, .f32⟩
  | _, _ => ⟨S40x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AttnQuantReferenceIdeal.lean ====
abbrev S40x2048 : Shape := ⟨2, ![40, 2048]⟩
abbrev S40x8x256 : Shape := ⟨3, ![40, 8, 256]⟩
abbrev S_ : Shape := ⟨0, ![]⟩
abbrev S40x8 : Shape := ⟨2, ![40, 8]⟩
abbrev S40x8x1 : Shape := ⟨3, ![40, 8, 1]⟩

abbrev nBuf : Space → Nat
  | .hbm => 30
  | .vmem => 0
  | .smem => 0
  | _ => 0

abbrev bufTy : (tb : Table) → Fin (tcTables nBuf tb) → BufTy
  | .hbm, ⟨0, _⟩ => ⟨S40x2048, .f32⟩
  | .hbm, ⟨1, _⟩ => ⟨S40x8x256, .f32⟩
  | .hbm, ⟨2, _⟩ => ⟨S40x8x256, .f32⟩
  | .hbm, ⟨3, _⟩ => ⟨S_, .f32⟩
  | .hbm, ⟨4, _⟩ => ⟨S40x8, .f32⟩
  | .hbm, ⟨5, _⟩ => ⟨S_, .f32⟩
  | .hbm, ⟨6, _⟩ => ⟨S40x8, .f32⟩
  | .hbm, ⟨7, _⟩ => ⟨S40x8, .i1⟩
  | .hbm, ⟨8, _⟩ => ⟨S_, .f32⟩
  | .hbm, ⟨9, _⟩ => ⟨S40x8, .f32⟩
  | .hbm, ⟨10, _⟩ => ⟨S40x8, .f32⟩
  | .hbm, ⟨11, _⟩ => ⟨S_, .f32⟩
  | .hbm, ⟨12, _⟩ => ⟨S_, .f32⟩
  | .hbm, ⟨13, _⟩ => ⟨S40x8, .f32⟩
  | .hbm, ⟨14, _⟩ => ⟨S40x8, .f32⟩
  | .hbm, ⟨15, _⟩ => ⟨S40x8x1, .f32⟩
  | .hbm, ⟨16, _⟩ => ⟨S40x8x256, .f32⟩
  | .hbm, ⟨17, _⟩ => ⟨S40x8x256, .f32⟩
  | .hbm, ⟨18, _⟩ => ⟨S40x8x256, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S40x8x256, .f32⟩
  | .hbm, ⟨23, _⟩ => ⟨S40x8x256, .f32⟩
  | .hbm, ⟨24, _⟩ => ⟨S_, .f32⟩
  | .hbm, ⟨25, _⟩ => ⟨S40x8x256, .f32⟩
  | .hbm, ⟨26, _⟩ => ⟨S40x8x256, .f32⟩
  | .hbm, ⟨27, _⟩ => ⟨S40x8x256, .i32⟩
  | .hbm, ⟨28, _⟩ => ⟨S40x8x256, .i8⟩
  | .hbm, ⟨29, _⟩ => ⟨S40x2048, .i8⟩
  | _, _ => ⟨S40x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_c_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== SiluQuant.lean ====
abbrev S40x7168 : Shape := ⟨2, ![40, 7168]⟩
abbrev S40x28 : Shape := ⟨2, ![40, 28]⟩
abbrev S40x256 : Shape := ⟨2, ![40, 256]⟩
abbrev S40 : Shape := ⟨1, ![40]⟩
abbrev S40x1 : Shape := ⟨2, ![40, 1]⟩

abbrev nBuf : Space → Nat
  | .hbm => 4
  | .vmem => 4
  | .smem => 0
  | _ => 0

abbrev bufTy : (tb : Table) → Fin (tcTables nBuf tb) → BufTy
  | .hbm, ⟨0, _⟩ => ⟨S40x7168, .f32⟩
  | .hbm, ⟨1, _⟩ => ⟨S40x7168, .f32⟩
  | .hbm, ⟨2, _⟩ => ⟨S40x7168, .i8⟩
  | .hbm, ⟨3, _⟩ => ⟨S40x28, .f32⟩
  | .local _ .vmem, ⟨0, _⟩ => ⟨S40x7168, .f32⟩
  | .local _ .vmem, ⟨1, _⟩ => ⟨S40x7168, .f32⟩
  | .local _ .vmem, ⟨2, _⟩ => ⟨S40x7168, .i8⟩
  | .local _ .vmem, ⟨3, _⟩ => ⟨S40x28, .f32⟩
  | _, _ => ⟨S40x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S40x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SiluQuantReferenceIdeal.lean ====
abbrev S40x7168 : Shape := ⟨2, ![40, 7168]⟩
abbrev S_ : Shape := ⟨0, ![]⟩
abbrev S40x28x256 : Shape := ⟨3, ![40, 28, 256]⟩
abbrev S40x28 : Shape := ⟨2, ![40, 28]⟩
abbrev S40x28x1 : Shape := ⟨3, ![40, 28, 1]⟩

abbrev nBuf : Space → Nat
  | .hbm => 41
  | .vmem => 0
  | .smem => 0
  | _ => 0

abbrev bufTy : (tb : Table) → Fin (tcTables nBuf tb) → BufTy
  | .hbm, ⟨0, _⟩ => ⟨S40x7168, .f32⟩
  | .hbm, ⟨1, _⟩ => ⟨S40x7168, .f32⟩
  | .hbm, ⟨2, _⟩ => ⟨S40x7168, .f32⟩
  | .hbm, ⟨3, _⟩ => ⟨S40x7168, .f32⟩
  | .hbm, ⟨4, _⟩ => ⟨S_, .f32⟩
  | .hbm, ⟨5, _⟩ => ⟨S40x7168, .f32⟩
  | .hbm, ⟨6, _⟩ => ⟨S40x7168, .f32⟩
  | .hbm, ⟨7, _⟩ => ⟨S_, .f32⟩
  | .hbm, ⟨8, _⟩ => ⟨S40x7168, .f32⟩
  | .hbm, ⟨9, _⟩ => ⟨S40x7168, .f32⟩
  | .hbm, ⟨10, _⟩ => ⟨S40x7168, .f32⟩
  | .hbm, ⟨11, _⟩ => ⟨S40x7168, .f32⟩
  | .hbm, ⟨12, _⟩ => ⟨S40x28x256, .f32⟩
  | .hbm, ⟨13, _⟩ => ⟨S40x28x256, .f32⟩
  | .hbm, ⟨14, _⟩ => ⟨S_, .f32⟩
  | .hbm, ⟨15, _⟩ => ⟨S40x28, .f32⟩
  | .hbm, ⟨16, _⟩ => ⟨S_, .f32⟩
  | .hbm, ⟨17, _⟩ => ⟨S40x28, .f32⟩
  | .hbm, ⟨18, _⟩ => ⟨S40x28, .i1⟩
  | .hbm, ⟨19, _⟩ => ⟨S_, .f32⟩
  | .hbm, ⟨20, _⟩ => ⟨S40x28, .f32⟩
  | .hbm, ⟨21, _⟩ => ⟨S40x28, .f32⟩
  | .hbm, ⟨22, _⟩ => ⟨S_, .f32⟩
  | .hbm, ⟨23, _⟩ => ⟨S_, .f32⟩
  | .hbm, ⟨24, _⟩ => ⟨S40x28, .f32⟩
  | .hbm, ⟨25, _⟩ => ⟨S40x28, .f32⟩
  | .hbm, ⟨26, _⟩ => ⟨S40x28x1, .f32⟩
  | .hbm, ⟨27, _⟩ => ⟨S40x28x256, .f32⟩
  | .hbm, ⟨28, _⟩ => ⟨S40x28x256, .f32⟩
  | .hbm, ⟨29, _⟩ => ⟨S40x28x256, .f32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S40x28x256, .f32⟩
  | .hbm, ⟨34, _⟩ => ⟨S40x28x256, .f32⟩
  | .hbm, ⟨35, _⟩ => ⟨S_, .f32⟩
  | .hbm, ⟨36, _⟩ => ⟨S40x28x256, .f32⟩
  | .hbm, ⟨37, _⟩ => ⟨S40x28x256, .f32⟩
  | .hbm, ⟨38, _⟩ => ⟨S40x28x256, .i32⟩
  | .hbm, ⟨39, _⟩ => ⟨S40x28x256, .i8⟩
  | .hbm, ⟨40, _⟩ => ⟨S40x7168, .i8⟩
  | _, _ => ⟨S40x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_c_3 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩

abbrev nD : Nat := 1
abbrev τ : Topo := Topo.v7x

variable {F : FTy → Type} [FloatOps F]
-- ==== Down.lean ====
abbrev S40x7168 : Shape := ⟨2, ![40, 7168]⟩
abbrev S40x28 : Shape := ⟨2, ![40, 28]⟩
abbrev S8192x28x128 : Shape := ⟨3, ![8192, 28, 128]⟩
abbrev S8192x28x64 : Shape := ⟨3, ![8192, 28, 64]⟩
abbrev S8192x28x16 : Shape := ⟨3, ![8192, 28, 16]⟩
abbrev S8192x28 : Shape := ⟨2, ![8192, 28]⟩
abbrev S40x28x256 : Shape := ⟨3, ![40, 28, 256]⟩
abbrev S28x40x256 : Shape := ⟨3, ![28, 40, 256]⟩
abbrev S28x8192x128 : Shape := ⟨3, ![28, 8192, 128]⟩
abbrev S28x64x8192 : Shape := ⟨3, ![28, 64, 8192]⟩
abbrev S28x16x8192 : Shape := ⟨3, ![28, 16, 8192]⟩
abbrev S28x8192 : Shape := ⟨2, ![28, 8192]⟩
abbrev S40x8192 : Shape := ⟨2, ![40, 8192]⟩
abbrev S28x256x128 : Shape := ⟨3, ![28, 256, 128]⟩
abbrev S28x64x256 : Shape := ⟨3, ![28, 64, 256]⟩
abbrev S28x16x256 : Shape := ⟨3, ![28, 16, 256]⟩
abbrev S28x256 : Shape := ⟨2, ![28, 256]⟩
abbrev S40x256 : Shape := ⟨2, ![40, 256]⟩
abbrev S28x40x128 : Shape := ⟨3, ![28, 40, 128]⟩
abbrev S2x28x128 : Shape := ⟨3, ![2, 28, 128]⟩
abbrev S40x1 : Shape := ⟨2, ![40, 1]⟩
abbrev S40x128 : Shape := ⟨2, ![40, 128]⟩
abbrev S1x40x128 : Shape := ⟨3, ![1, 40, 128]⟩
abbrev S14x256 : Shape := ⟨2, ![14, 256]⟩
abbrev S14x128 : Shape := ⟨2, ![14, 128]⟩
abbrev S1x14x128 : Shape := ⟨3, ![1, 14, 128]⟩
abbrev S1x16x256 : Shape := ⟨3, ![1, 16, 256]⟩
abbrev S16x256 : Shape := ⟨2, ![16, 256]⟩
abbrev S1x256x128 : Shape := ⟨3, ![1, 256, 128]⟩
abbrev S256x128 : Shape := ⟨2, ![256, 128]⟩
abbrev S64x128 : Shape := ⟨2, ![64, 128]⟩
abbrev S128x256 : Shape := ⟨2, ![128, 256]⟩
abbrev S1x64x256 : Shape := ⟨3, ![1, 64, 256]⟩
abbrev S64x256 : Shape := ⟨2, ![64, 256]⟩
abbrev S32x256 : Shape := ⟨2, ![32, 256]⟩
abbrev S1x1x256 : Shape := ⟨3, ![1, 1, 256]⟩
abbrev S1x256 : Shape := ⟨2, ![1, 256]⟩
abbrev S8x256 : Shape := ⟨2, ![8, 256]⟩
abbrev S1x40x256 : Shape := ⟨3, ![1, 40, 256]⟩
abbrev S256x256 : Shape := ⟨2, ![256, 256]⟩
abbrev S1x1x128 : Shape := ⟨3, ![1, 1, 128]⟩
abbrev S1x128 : Shape := ⟨2, ![1, 128]⟩

abbrev nBuf : Space → Nat
  | .hbm => 13
  | .vmem => 16
  | .smem => 0
  | _ => 0

abbrev bufTy : (tb : Table) → Fin (tcTables nBuf tb) → BufTy
  | .hbm, ⟨0, _⟩ => ⟨S40x7168, .i8⟩
  | .hbm, ⟨1, _⟩ => ⟨S40x28, .f32⟩
  | .hbm, ⟨2, _⟩ => ⟨S8192x28x128, .i8⟩
  | .hbm, ⟨3, _⟩ => ⟨S8192x28x64, .i8⟩
  | .hbm, ⟨4, _⟩ => ⟨S8192x28x16, .i8⟩
  | .hbm, ⟨5, _⟩ => ⟨S8192x28, .i16⟩
  | .hbm, ⟨6, _⟩ => ⟨S40x28x256, .i8⟩
  | .hbm, ⟨7, _⟩ => ⟨S28x40x256, .i8⟩
  | .hbm, ⟨8, _⟩ => ⟨S28x8192x128, .i8⟩
  | .hbm, ⟨9, _⟩ => ⟨S28x64x8192, .i8⟩
  | .hbm, ⟨10, _⟩ => ⟨S28x16x8192, .i8⟩
  | .hbm, ⟨11, _⟩ => ⟨S28x8192, .i16⟩
  | .hbm, ⟨12, _⟩ => ⟨S40x8192, .f32⟩
  | .local _ .vmem, ⟨0, _⟩ => ⟨S28x40x256, .i8⟩
  | .local _ .vmem, ⟨1, _⟩ => ⟨S40x28, .f32⟩
  | .local _ .vmem, ⟨2, _⟩ => ⟨S28x256x128, .i8⟩
  | .local _ .vmem, ⟨3, _⟩ => ⟨S28x256x128, .i8⟩
  | .local _ .vmem, ⟨4, _⟩ => ⟨S28x64x256, .i8⟩
  | .local _ .vmem, ⟨5, _⟩ => ⟨S28x64x256, .i8⟩
  | .local _ .vmem, ⟨6, _⟩ => ⟨S28x16x256, .i8⟩
  | .local _ .vmem, ⟨7, _⟩ => ⟨S28x16x256, .i8⟩
  | .local _ .vmem, ⟨8, _⟩ => ⟨S28x256, .i16⟩
  | .local _ .vmem, ⟨9, _⟩ => ⟨S28x256, .i16⟩
  | .local _ .vmem, ⟨10, _⟩ => ⟨S40x256, .f32⟩
  | .local _ .vmem, ⟨11, _⟩ => ⟨S40x256, .f32⟩
  | .local _ .vmem, ⟨12, _⟩ => ⟨S28x40x128, .f32⟩
  | .local _ .vmem, ⟨13, _⟩ => ⟨S28x16x256, .i32⟩
  | .local _ .vmem, ⟨14, _⟩ => ⟨S28x16x256, .i32⟩
  | .local _ .vmem, ⟨15, _⟩ => ⟨S2x28x128, .f32⟩
  | _, _ => ⟨S40x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S28x40x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S28x256x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x64x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x16x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S28x256 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S40x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownReferenceIdeal.lean ====
abbrev S40x7168 : Shape := ⟨2, ![40, 7168]⟩
abbrev S40x28 : Shape := ⟨2, ![40, 28]⟩
abbrev S8192x28x128 : Shape := ⟨3, ![8192, 28, 128]⟩
abbrev S8192x28x64 : Shape := ⟨3, ![8192, 28, 64]⟩
abbrev S8192x28x16 : Shape := ⟨3, ![8192, 28, 16]⟩
abbrev S8192x28 : Shape := ⟨2, ![8192, 28]⟩
abbrev S8192x28x2x2x32 : Shape := ⟨5, ![8192, 28, 2, 2, 32]⟩
abbrev S8192x28x2x1x32 : Shape := ⟨5, ![8192, 28, 2, 1, 32]⟩
abbrev S2 : Shape := ⟨1, ![2]⟩
abbrev S2x1 : Shape := ⟨2, ![2, 1]⟩
abbrev S_ : Shape := ⟨0, ![]⟩
abbrev S1x1x1x2x1 : Shape := ⟨5, ![1, 1, 1, 2, 1]⟩
abbrev S8192x28x2x2x2x2 : Shape := ⟨6, ![8192, 28, 2, 2, 2, 2]⟩
abbrev S40x28x2x2x2x32 : Shape := ⟨6, ![40, 28, 2, 2, 2, 32]⟩
abbrev S40x28x2x1x2x32 : Shape := ⟨6, ![40, 28, 2, 1, 2, 32]⟩
abbrev S40x28x2x2x32 : Shape := ⟨5, ![40, 28, 2, 2, 32]⟩
abbrev S8192x28x2x1x2x2 : Shape := ⟨6, ![8192, 28, 2, 1, 2, 2]⟩
abbrev S8192x28x2x2x2 : Shape := ⟨5, ![8192, 28, 2, 2, 2]⟩
abbrev S8192x28x2x2x2x16 : Shape := ⟨6, ![8192, 28, 2, 2, 2, 16]⟩
abbrev S8192x28x2x2x2x1 : Shape := ⟨6, ![8192, 28, 2, 2, 2, 1]⟩
abbrev S28x40x8192 : Shape := ⟨3, ![28, 40, 8192]⟩
abbrev S28x8192 : Shape := ⟨2, ![28, 8192]⟩
abbrev S28x1x8192 : Shape := ⟨3, ![28, 1, 8192]⟩
abbrev S28x40 : Shape := ⟨2, ![28, 40]⟩
abbrev S28x40x1 : Shape := ⟨3, ![28, 40, 1]⟩
abbrev S40x8192 : Shape := ⟨2, ![40, 8192]⟩

abbrev nBuf : Space → Nat
  | .hbm => 155
  | .vmem => 0
  | .smem => 0
  | _ => 0

abbrev hbmTy0_0 (i : Nat) : BufTy := match i % 128 with
  | 0 => ⟨S40x7168, .i8⟩
  | 1 => ⟨S40x28, .f32⟩
  | 2 => ⟨S8192x28x128, .i8⟩
  | 3 => ⟨S8192x28x64, .i8⟩
  | 4 => ⟨S8192x28x16, .i8⟩
  | 5 => ⟨S8192x28, .i16⟩
  | 6 => ⟨S8192x28x128, .i32⟩
  | 7 => ⟨S8192x28x2x2x32, .i32⟩
  | 8 => ⟨S8192x28x64, .i32⟩
  | 9 => ⟨S8192x28x2x1x32, .i32⟩
  | 10 => ⟨S2, .i32⟩
  | 11 => ⟨S2x1, .i32⟩
  | 12 => ⟨S_, .i32⟩
  | 13 => ⟨S2x1, .i32⟩
  | 14 => ⟨S2x1, .i32⟩
  | 15 => ⟨S_, .i32⟩
  | 16 => ⟨S8192x28x2x2x32, .i32⟩
  | 17 => ⟨S8192x28x2x2x32, .i32⟩
  | 18 => ⟨S1x1x1x2x1, .i32⟩
  | 19 => ⟨S8192x28x2x2x32, .i32⟩
  | 20 => ⟨S8192x28x2x2x32, .i32⟩
  | 21 => ⟨S8192x28x2x2x32, .i32⟩
  | 22 => ⟨S_, .i32⟩
  | 23 => ⟨S8192x28x2x2x32, .i32⟩
  | 24 => ⟨S8192x28x2x2x32, .i32⟩
  | 25 => ⟨S_, .i32⟩
  | 26 => ⟨S8192x28x2x2x32, .i32⟩
  | 27 => ⟨S8192x28x2x2x32, .i32⟩
  | 28 => ⟨S8192x28x2x2x32, .i32⟩
  | 29 => ⟨S_, .i32⟩
  | 30 => ⟨S8192x28x2x2x32, .i32⟩
  | 31 => ⟨S8192x28x2x2x32, .i32⟩
  | 32 => ⟨S_, .i32⟩
  | 33 => ⟨S2x1, .i32⟩
  | 34 => ⟨S2x1, .i32⟩
  | 35 => ⟨S1x1x1x2x1, .i32⟩
  | 36 => ⟨S8192x28x2x2x32, .i32⟩
  | 37 => ⟨S8192x28x2x2x32, .i32⟩
  | 38 => ⟨S8192x28x2x2x32, .i32⟩
  | 39 => ⟨S_, .i32⟩
  | 40 => ⟨S8192x28x2x2x32, .i32⟩
  | 41 => ⟨S8192x28x2x2x32, .i32⟩
  | 42 => ⟨S_, .i32⟩
  | 43 => ⟨S8192x28x2x2x32, .i32⟩
  | 44 => ⟨S8192x28x2x2x32, .i32⟩
  | 45 => ⟨S8192x28x2x2x32, .i32⟩
  | 46 => ⟨S8192x28x16, .i32⟩
  | 47 => ⟨S8192x28x2x2x2x2, .i32⟩
  | 48 => ⟨S40x28x2x2x2x32, .i8⟩
  | 49 => ⟨S40x28x2x1x2x32, .i8⟩
  | 50 => ⟨S40x28x2x2x32, .i8⟩
  | 51 => ⟨S8192x28x2x1x2x2, .i32⟩
  | 52 => ⟨S8192x28x2x2x2, .i32⟩
  | 53 => ⟨S8192x28x2x2x2x16, .i32⟩
  | 54 => ⟨S_, .i32⟩
  | 55 => ⟨S8192x28x2x2x2x16, .i32⟩
  | 56 => ⟨S8192x28x2x2x2x16, .i32⟩
  | 57 => ⟨S8192x28x2x2x2x1, .i32⟩
  | 58 => ⟨S8192x28x2x2x2x16, .i32⟩
  | 59 => ⟨S8192x28x2x2x2x16, .i32⟩
  | 60 => ⟨S8192x28x2x2x32, .i32⟩
  | 61 => ⟨S40x28x2x2x32, .i32⟩
  | 62 => ⟨S40x28x2x2x32, .bf16⟩
  | 63 => ⟨S_, .i32⟩
  | 64 => ⟨S8192x28x2x2x32, .i32⟩
  | 65 => ⟨S8192x28x2x2x32, .i32⟩
  | 66 => ⟨S8192x28x2x2x32, .bf16⟩
  | 67 => ⟨S28x40x8192, .f32⟩
  | 68 => ⟨S_, .i32⟩
  | 69 => ⟨S8192x28x2x2x32, .i32⟩
  | 70 => ⟨S8192x28x2x2x32, .i32⟩
  | 71 => ⟨S8192x28x2x2x32, .bf16⟩
  | 72 => ⟨S28x40x8192, .f32⟩
  | 73 => ⟨S28x40x8192, .f32⟩
  | 74 => ⟨S28x40x8192, .i32⟩
  | 75 => ⟨S_, .i32⟩
  | 76 => ⟨S28x40x8192, .i32⟩
  | 77 => ⟨S28x40x8192, .i32⟩
  | 78 => ⟨S28x40x8192, .f32⟩
  | 79 => ⟨S28x40x8192, .i32⟩
  | 80 => ⟨S28x40x8192, .i32⟩
  | 81 => ⟨S40x28x2x1x2x32, .i8⟩
  | 82 => ⟨S40x28x2x2x32, .i8⟩
  | 83 => ⟨S8192x28x2x1x2x2, .i32⟩
  | 84 => ⟨S8192x28x2x2x2, .i32⟩
  | 85 => ⟨S8192x28x2x2x2x16, .i32⟩
  | 86 => ⟨S_, .i32⟩
  | 87 => ⟨S8192x28x2x2x2x16, .i32⟩
  | 88 => ⟨S8192x28x2x2x2x16, .i32⟩
  | 89 => ⟨S8192x28x2x2x2x1, .i32⟩
  | 90 => ⟨S8192x28x2x2x2x16, .i32⟩
  | 91 => ⟨S8192x28x2x2x2x16, .i32⟩
  | 92 => ⟨S8192x28x2x2x32, .i32⟩
  | 93 => ⟨S40x28x2x2x32, .i32⟩
  | 94 => ⟨S40x28x2x2x32, .bf16⟩
  | 95 => ⟨S_, .i32⟩
  | 96 => ⟨S8192x28x2x2x32, .i32⟩
  | 97 => ⟨S8192x28x2x2x32, .i32⟩
  | 98 => ⟨S8192x28x2x2x32, .bf16⟩
  | 99 => ⟨S28x40x8192, .f32⟩
  | 100 => ⟨S_, .i32⟩
  | 101 => ⟨S8192x28x2x2x32, .i32⟩
  | 102 => ⟨S8192x28x2x2x32, .i32⟩
  | 103 => ⟨S8192x28x2x2x32, .bf16⟩
  | 104 => ⟨S28x40x8192, .f32⟩
  | 105 => ⟨S28x40x8192, .f32⟩
  | 106 => ⟨S28x40x8192, .i32⟩
  | 107 => ⟨S_, .i32⟩
  | 108 => ⟨S28x40x8192, .i32⟩
  | 109 => ⟨S28x40x8192, .i32⟩
  | 110 => ⟨S28x40x8192, .f32⟩
  | 111 => ⟨S28x40x8192, .i32⟩
  | 112 => ⟨S28x40x8192, .i32⟩
  | 113 => ⟨S28x40x8192, .i32⟩
  | 114 => ⟨S8192x28, .i32⟩
  | 115 => ⟨S_, .i32⟩
  | 116 => ⟨S8192x28, .i32⟩
  | 117 => ⟨S8192x28, .i32⟩
  | 118 => ⟨S_, .i32⟩
  | 119 => ⟨S8192x28, .i32⟩
  | 120 => ⟨S8192x28, .i32⟩
  | 121 => ⟨S_, .i32⟩
  | 122 => ⟨S8192x28, .i32⟩
  | 123 => ⟨S8192x28, .i32⟩
  | 124 => ⟨S_, .i32⟩
  | 125 => ⟨S8192x28, .i32⟩
  | 126 => ⟨S8192x28, .i32⟩
  | 127 => ⟨S_, .i32⟩
  | _ => ⟨S40x7168, .i8⟩

abbrev hbmTy0_1 (i : Nat) : BufTy := match i % 128 with
  | 0 => ⟨S8192x28, .i32⟩
  | 1 => ⟨S8192x28, .i32⟩
  | 2 => ⟨S_, .i32⟩
  | 3 => ⟨S8192x28, .i32⟩
  | 4 => ⟨S8192x28, .i32⟩
  | 5 => ⟨S8192x28, .i32⟩
  | 6 => ⟨S_, .i32⟩
  | 7 => ⟨S8192x28, .i32⟩
  | 8 => ⟨S8192x28, .i32⟩
  | 9 => ⟨S8192x28, .f32⟩
  | 10 => ⟨S_, .i32⟩
  | 11 => ⟨S8192x28, .i32⟩
  | 12 => ⟨S8192x28, .i32⟩
  | 13 => ⟨S8192x28, .i32⟩
  | 14 => ⟨S8192x28, .f32⟩
  | 15 => ⟨S8192x28, .f32⟩
  | 16 => ⟨S28x8192, .f32⟩
  | 17 => ⟨S28x1x8192, .f32⟩
  | 18 => ⟨S28x40, .f32⟩
  | 19 => ⟨S28x40x1, .f32⟩
  | 20 => ⟨S28x40x8192, .f32⟩
  | 21 => ⟨S28x40x8192, .f32⟩
  | 22 => ⟨S28x40x8192, .f32⟩
  | 23 => ⟨S28x40x8192, .f32⟩
  | 24 => ⟨S28x40x8192, .f32⟩
  | 25 => ⟨S_, .f32⟩
  | 26 => ⟨S40x8192, .f32⟩
  | _ => ⟨S40x7168, .i8⟩

abbrev hbmTy (i : Nat) : BufTy := match i / 128 with
  | 0 => hbmTy0_0 i
  | 1 => hbmTy0_1 i
  | _ => ⟨S40x7168, .i8⟩

abbrev bufTy : (tb : Table) → Fin (tcTables nBuf tb) → BufTy
  | .hbm, ⟨i, _⟩ => hbmTy i
  | _, _ => ⟨S40x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_11 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_12 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_13 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_14 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_c_15 : Ref sig .tc := ⟨.hbm, 115, rfl⟩
abbrev main_v93 : Ref sig .tc := ⟨.hbm, 116, rfl⟩
abbrev main_v94 : Ref sig .tc := ⟨.hbm, 117, rfl⟩
abbrev main_c_16 : Ref sig .tc := ⟨.hbm, 118, rfl⟩
abbrev main_v95 : Ref sig .tc := ⟨.hbm, 119, rfl⟩
abbrev main_v96 : Ref sig .tc := ⟨.hbm, 120, rfl⟩
abbrev main_c_17 : Ref sig .tc := ⟨.hbm, 121, rfl⟩
abbrev main_v97 : Ref sig .tc := ⟨.hbm, 122, rfl⟩
abbrev main_v98 : Ref sig .tc := ⟨.hbm, 123, rfl⟩
abbrev main_c_18 : Ref sig .tc := ⟨.hbm, 124, rfl⟩
abbrev main_v99 : Ref sig .tc := ⟨.hbm, 125, rfl⟩
abbrev main_v100 : Ref sig .tc := ⟨.hbm, 126, rfl⟩
abbrev main_c_19 : Ref sig .tc := ⟨.hbm, 127, rfl⟩
abbrev main_v101 : Ref sig .tc := ⟨.hbm, 128, rfl⟩
abbrev main_v102 : Ref sig .tc := ⟨.hbm, 129, rfl⟩
abbrev main_c_20 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_21 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_22 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst : Ref sig .tc := ⟨.hbm, 153, rfl⟩
abbrev main_v123 : Ref sig .tc := ⟨.hbm, 154, rfl⟩

abbrev nD : Nat := 1
abbrev τ : Topo := Topo.v7x

variable {F : FTy → Type} [FloatOps F]
-- ==== Proof.Step.lean ====
/- The work of one sub-block step, as one function of what it loads, and its value at an index. -/
module

public import proofs.«01_k».proof.Proof.Gen.KernelIdeal.Value
public import Idealize.ShloMosaic.Lib.Pointwise

@[expose] public section

noncomputable section

namespace Cert.Step

open Idealize.ShloMosaic Idealize.SL.Sem Cert.KernelIdeal Cert.KernelIdeal.Gen

variable {F : FTy → Type} [FloatOps F]

/-- Words read as pairs of bf16 rows, 128 taken off. -/
def halves (w : IVec S32x128 32) : FVec F S64x128 .bf16 :=
  subf (bitcastToFloat .bf16 (bitcast S64x128 16 w bitcasts_S32x128_w32_S64x128_w16))
    (broadcast S64x128 (Scalar.ofBits .bf16 0x4300#16))

/-- A row of scale words, spread over the 64 rows it multiplies. -/
def spread (q : Vec F S1x1x1x128 .i32) : FVec F S64x128 .bf16 :=
  halves (broadcastTo S32x128 (shapeCast S1x128 (shapeCast S1x128 q shapeCasts_S1x1x1x128_S1x128)
    shapeCasts_S1x128_S1x128) broadcasts_S1x128_S32x128)

/-- The four blocks of nibbles, each times its row of scales. -/
def weights (w : Vec F S1x1x128x128 .i32) (q0 q1 q2 q3 : Vec F S1x1x1x128 .i32) : FVec F S256x128 .bf16 :=
  concatenate S256x128 0
    [⟨S64x128, mulf (halves (extractStridedSlice S32x128 ![0, 0] (shapeCast S128x128 w shapeCasts_S1x1x128x128_S128x128) slices_S128x128_o0_0_S32x128)) (spread q0)⟩,
     ⟨S64x128, mulf (halves (extractStridedSlice S32x128 ![32, 0] (shapeCast S128x128 w shapeCasts_S1x1x128x128_S128x128) slices_S128x128_o32_0_S32x128)) (spread q1)⟩,
     ⟨S64x128, mulf (halves (extractStridedSlice S32x128 ![64, 0] (shapeCast S128x128 w shapeCasts_S1x1x128x128_S128x128) slices_S128x128_o64_0_S32x128)) (spread q2)⟩,
     ⟨S64x128, mulf (halves (extractStridedSlice S32x128 ![96, 0] (shapeCast S128x128 w shapeCasts_S1x1x128x128_S128x128) slices_S128x128_o96_0_S32x128)) (spread q3)⟩]
    concatenates_S64x128_S64x128_S64x128_S64x128_S256x128_d0

/-- One sub-block's contribution added to the sum so far. -/
def step (acc : FVec F S40x256 .f32) (w0 w1 : Vec F S1x1x128x128 .i32)
    (h00 h01 h02 h03 l00 l01 l02 l03 h10 h11 h12 h13 l10 l11 l12 l13 : Vec F S1x1x1x128 .i32)
    (a : Vec F S1x40x256 .i8) (d0 d1 : Vec F S1x1x128 .f32) (sa : Vec F S1x40x128 .f32) : FVec F S40x256 .f32 :=
  addf acc (mulf
    (concatenate S40x256 1 [⟨S40x128, shapeCast S40x128 sa shapeCasts_S1x40x128_S40x128⟩, ⟨S40x128, shapeCast S40x128 sa shapeCasts_S1x40x128_S40x128⟩] concatenates_S40x128_S40x128_S40x256_d1)
    (mulf (broadcastTo S40x256 (concatenate S1x256 1 [⟨S1x128, shapeCast S1x128 d0 shapeCasts_S1x1x128_S1x128⟩, ⟨S1x128, shapeCast S1x128 d1 shapeCasts_S1x1x128_S1x128⟩] concatenates_S1x128_S1x128_S1x256_d1) broadcasts_S1x256_S40x256)
      (addf
        (matmul dot_S40x256_S256x256_S40x256_1_0_0_1_n_n none
          (mulf (sitofp .bf16 (shapeCast S40x256 a shapeCasts_S1x40x256_S40x256)) (broadcast S40x256 (Scalar.ofBits .bf16 0x4100#16)))
          (concatenate S256x256 1 [⟨S256x128, weights w0 h00 h01 h02 h03⟩, ⟨S256x128, weights w1 h10 h11 h12 h13⟩] concatenates_S256x128_S256x128_S256x256_d1)
          (constant S40x256 .f32 0x00000000#32))
        (matmul dot_S40x256_S256x256_S40x256_1_0_0_1_n_n none
          (sitofp .bf16 (shapeCast S40x256 a shapeCasts_S1x40x256_S40x256))
          (concatenate S256x256 1 [⟨S256x128, weights w0 l00 l01 l02 l03⟩, ⟨S256x128, weights w1 l10 l11 l12 l13⟩] concatenates_S256x128_S256x128_S256x256_d1)
          (constant S40x256 .f32 0x00000000#32)))))

end Cert.Step
end
-- ==== Proof.Bits.lean ====
/- The integer words the kernel builds, and what they hold. -/
module

public import Idealize.ShloMosaic.Lib.Pointwise
public import Idealize.ShloMosaic.Lib.BitcastFour

@[expose] public section

noncomputable section

namespace Cert.Step

open Idealize.ShloMosaic

/-- Two bytes in the halves of a word, each under the exponent of 128. -/
def pairW (u v : BitVec 8) : BitVec 32 := (u.setWidth 32 ||| (v.setWidth 32 <<< 16)) ||| 0x43004300#32

theorem pairW_lo (u v : BitVec 8) : (pairW u v).extractLsb' 0 16 = 0x4300#16 ||| u.setWidth 16 := by
  apply BitVec.eq_of_getLsbD_eq; intro i hi
  have h : ∀ i < 16, (0x43004300#32).getLsbD i = (0x4300#16).getLsbD i := by decide
  simp only [pairW, BitVec.getLsbD_extractLsb', BitVec.getLsbD_or, BitVec.getLsbD_setWidth, BitVec.getLsbD_shiftLeft]
  rw [Nat.zero_add, h i hi]
  have h2 : i < 32 := by omega
  generalize (0x4300#16).getLsbD i = b
  simp [hi, h2, Bool.or_comm]

theorem pairW_hi (u v : BitVec 8) : (pairW u v).extractLsb' 16 16 = 0x4300#16 ||| v.setWidth 16 := by
  apply BitVec.eq_of_getLsbD_eq; intro i hi
  have h : ∀ i < 16, (0x43004300#32).getLsbD (16 + i) = (0x4300#16).getLsbD i := by decide
  have hu : u.getLsbD (16 + i) = false := BitVec.getLsbD_of_ge u _ (by omega)
  simp only [pairW, BitVec.getLsbD_extractLsb', BitVec.getLsbD_or, BitVec.getLsbD_setWidth, BitVec.getLsbD_shiftLeft]
  have h2 : 16 + i < 32 := by omega
  rw [h i hi, hu]
  have h3 : i < 32 := by omega
  generalize (0x4300#16).getLsbD i = b
  simp [hi, h2, h3, Bool.or_comm]

private theorem mag_fin (k : Fin 16) :
    Ideal.ieee 8 7 (0x4300#16 ||| BitVec.ofNat 16 k.val) - Ideal.ieee 8 7 0x4300#16 = ((k.val : ℝ) : EReal) := by
  have h1 : ((0x4300#16 ||| BitVec.ofNat 16 k.val).extractLsb' 15 1 == 1#1) = false := by revert k; decide
  have h2 : ((0x4300#16 ||| BitVec.ofNat 16 k.val).extractLsb' 7 8).toNat = 134 := by revert k; decide
  have h3 : ((0x4300#16 ||| BitVec.ofNat 16 k.val).extractLsb' 0 7).toNat = k.val := by revert k; decide
  have h4 : ((0x4300#16).extractLsb' 15 1 == 1#1) = false := by decide
  have h5 : ((0x4300#16).extractLsb' 7 8).toNat = 134 := by decide
  have h6 : ((0x4300#16).extractLsb' 0 7).toNat = 0 := by decide
  unfold Ideal.ieee
  simp only [Nat.reduceAdd, h1, h2, h3, h4, h5, h6]
  repeat rw [if_neg (by decide)]
  rw [← EReal.coe_sub]
  congr 1
  norm_num

/-- A byte below sixteen under the exponent of 128, less 128, is the byte. -/
theorem mag (u : BitVec 8) (hu : u.toNat < 16) :
    Ideal.ofBits .bf16 (0x4300#16 ||| u.setWidth 16) - Ideal.ofBits .bf16 0x4300#16 = ((u.toNat : ℝ) : EReal) := by
  have h := mag_fin ⟨u.toNat, hu⟩
  have e : u.setWidth 16 = BitVec.ofNat 16 u.toNat := by
    apply BitVec.eq_of_toNat_eq; simp
  rw [e]; exact h

/-- The six-bit scale of sub-block half `j`, from the twelve bytes of its row. -/
def S6 (x : Fin 12 → BitVec 8) (j : Nat) : BitVec 8 :=
  if j < 4 then x (Fin.ofNat 12 j) &&& 63#8
  else (x (Fin.ofNat 12 (j + 4)) &&& 15#8) ||| ((x (Fin.ofNat 12 (j - 4)) >>> 2) &&& 48#8)

/-- The six-bit minimum of sub-block half `j`. -/
def M6 (x : Fin 12 → BitVec 8) (j : Nat) : BitVec 8 :=
  if j < 4 then x (Fin.ofNat 12 (j + 4)) &&& 63#8
  else ((x (Fin.ofNat 12 (j + 4)) >>> 4) &&& 15#8) ||| ((x (Fin.ofNat 12 j) >>> 2) &&& 48#8)

end Cert.Step
end
-- ==== Proof.StepVal.lean ====
/- One sub-block step at an index, over the extended reals. -/
module

public import proofs.«01_k».proof.Proof.Step
public import proofs.«01_k».proof.Proof.Bits
public import Idealize.ShloMosaic.Lib.BitcastPair

@[expose] public section

noncomputable section

namespace Cert.Step

open Idealize.ShloMosaic Idealize.SL.Sem Cert.KernelIdeal Cert.KernelIdeal.Gen

theorem halves_apply (w : IVec S32x128 32) (y : Fin 32) (h : Fin 2) (l : Fin 128) (r : Fin 64) (hr : r.val = 2 * y.val + h.val) :
    halves (F := Ideal) w (ix2 r l)
      = Ideal.ofBits .bf16 ((w (ix2 y l)).extractLsb' (16 * h.val) 16) - Ideal.ofBits .bf16 0x4300#16 := by
  unfold halves
  pointwise
  rw [bitcast_32_16]
  have hrow : S64x128.row (ix2 r l) = r.val := by simp [Shape.row, Shape.rowAx]
  have e1 : S64x128.row (ix2 r l) % 2 = h.val := by rw [hrow]; omega
  have e : ∀ hp, bitcasts_S32x128_w32_S64x128_w16.srcIdx (ix2 r l) (S64x128.row (ix2 r l) / 2) hp = ix2 y l := by
    intro hp
    funext a
    match a with
    | ⟨0, _⟩ => exact Fin.ext ((Shape.Bitcasts.srcIdx_row _ _ _ _ ⟨0, Nat.zero_lt_two⟩ rfl).trans (by show S64x128.row (ix2 r l) / 2 = y.val; rw [hrow]; omega))
    | ⟨1, _⟩ => exact Fin.ext (Shape.Bitcasts.srcIdx_other _ _ _ _ ⟨1, Nat.one_lt_two⟩ (by show ¬ 1 + 2 = 2; omega))
  rw [e, e1]

/-- `halves` of a word of two small bytes. -/
theorem halves_pair (w : IVec S32x128 32) (y : Fin 32) (h : Fin 2) (l : Fin 128) (r : Fin 64) (hr : r.val = 2 * y.val + h.val)
    (b : Fin 2 → BitVec 8) (hb : ∀ h, (b h).toNat < 16) (hw : w (ix2 y l) = pairW (b 0) (b 1)) :
    halves (F := Ideal) w (ix2 r l) = (((b h).toNat : ℝ) : EReal) := by
  rw [halves_apply w y h l r hr, hw]
  match h with
  | ⟨0, _⟩ => exact (congrArg (fun z => Ideal.ofBits .bf16 z - Ideal.ofBits .bf16 0x4300#16) (pairW_lo _ _)).trans (mag _ (hb 0))
  | ⟨1, _⟩ => exact (congrArg (fun z => Ideal.ofBits .bf16 z - Ideal.ofBits .bf16 0x4300#16) (pairW_hi _ _)).trans (mag _ (hb 1))

theorem spread_pair (q : Vec Ideal S1x1x1x128 .i32) (h : Fin 2) (l : Fin 128) (r : Fin 64) (hr : r.val % 2 = h.val)
    (b : Fin 2 → BitVec 8) (hb : ∀ h, (b h).toNat < 16) (hq : q (ix4 0 0 0 l) = pairW (b 0) (b 1)) :
    spread (F := Ideal) q (ix2 r l) = (((b h).toNat : ℝ) : EReal) := by
  unfold spread
  refine halves_pair _ ⟨r.val / 2, by omega⟩ h l r (by simp only []; omega) b hb ?_
  pointwise
  exact hq

/-- Which of the four blocks, which word row and which half row `k` of the weights is. -/
def kc (k : Fin 256) : Fin 4 := ⟨k.val / 64, by omega⟩
def ky (k : Fin 256) : Fin 128 := ⟨32 * (k.val / 64) + k.val % 64 / 2, by omega⟩
def kh (k : Fin 256) : Fin 2 := ⟨k.val % 2, by omega⟩

theorem concat4 (x0 x1 x2 x3 : FVec Ideal S64x128 .bf16) (k : Fin 256) (l : Fin 128) (c : Fin 4) (r : Fin 64)
    (hk : k.val = 64 * c.val + r.val) :
    concatenate S256x128 0 [⟨S64x128, x0⟩, ⟨S64x128, x1⟩, ⟨S64x128, x2⟩, ⟨S64x128, x3⟩]
      concatenates_S64x128_S64x128_S64x128_S64x128_S256x128_d0 (ix2 k l) = (![x0, x1, x2, x3] c) (ix2 r l) := by
  pointwise
  have hr := r.isLt
  match c with
  | ⟨0, _⟩ =>
    have e : k.val = 0 + r.val := hk
    skip
    rw [dif_pos (by omega : k.val < 64)]
    exact congrArg (fun z => x0 (ix2 z l)) (Fin.ext (by show k.val = r.val; omega))
  | ⟨1, _⟩ =>
    have e : k.val = 64 + r.val := hk
    rw [dif_neg (by omega : ¬ k.val < 64)]
    rw [dif_pos (by omega : k.val - 64 < 64)]
    exact congrArg (fun z => x1 (ix2 z l)) (Fin.ext (by show k.val - 64 = r.val; omega))
  | ⟨2, _⟩ =>
    have e : k.val = 128 + r.val := hk
    rw [dif_neg (by omega : ¬ k.val < 64), dif_neg (by omega : ¬ k.val - 64 < 64)]
    rw [dif_pos (by omega : k.val - 64 - 64 < 64)]
    exact congrArg (fun z => x2 (ix2 z l)) (Fin.ext (by show k.val - 64 - 64 = r.val; omega))
  | ⟨3, _⟩ =>
    have e : k.val = 192 + r.val := hk
    rw [dif_neg (by omega : ¬ k.val < 64), dif_neg (by omega : ¬ k.val - 64 < 64), dif_neg (by omega : ¬ k.val - 64 - 64 < 64)]
    skip
    exact congrArg (fun z => x3 (ix2 z l)) (Fin.ext (by show k.val - 64 - 64 - 64 = r.val; omega))

theorem weights_apply (w : Vec Ideal S1x1x128x128 .i32) (q0 q1 q2 q3 : Vec Ideal S1x1x1x128 .i32) (k : Fin 256) (l : Fin 128)
    (N : Fin 2 → Fin 128 → BitVec 8) (S : Fin 2 → Fin 4 → BitVec 8)
    (hN : ∀ h y, (N h y).toNat < 16) (hS : ∀ h c, (S h c).toNat < 16)
    (hw : ∀ y, w (ix4 0 0 y l) = pairW (N 0 y) (N 1 y))
    (h0 : q0 (ix4 0 0 0 l) = pairW (S 0 0) (S 1 0)) (h1 : q1 (ix4 0 0 0 l) = pairW (S 0 1) (S 1 1))
    (h2 : q2 (ix4 0 0 0 l) = pairW (S 0 2) (S 1 2)) (h3 : q3 (ix4 0 0 0 l) = pairW (S 0 3) (S 1 3)) :
    weights (F := Ideal) w q0 q1 q2 q3 (ix2 k l)
      = (((N (kh k) (ky k)).toNat : ℝ) : EReal) * (((S (kh k) (kc k)).toNat : ℝ) : EReal) := by
  have one : ∀ (c : Fin 4) (q : Vec Ideal S1x1x1x128 .i32) (hq : q (ix4 0 0 0 l) = pairW (S 0 c) (S 1 c))
      (off : Fin 2 → Nat) (hs : S128x128.Slices off S32x128) (r : Fin 64) (hk : k.val = 64 * c.val + r.val) (ho : off = ![32 * c.val, 0]),
      mulf (halves (F := Ideal) (extractStridedSlice S32x128 off (shapeCast S128x128 w shapeCasts_S1x1x128x128_S128x128) hs)) (spread q) (ix2 r l)
        = (((N (kh k) (ky k)).toNat : ℝ) : EReal) * (((S (kh k) (kc k)).toNat : ℝ) : EReal) := by
    intro c q hq off hs r hk ho
    subst ho
    have hc : kc k = c := Fin.ext (by simp only [kc]; omega)
    have e1 := halves_pair (extractStridedSlice S32x128 ![32 * c.val, 0] (shapeCast S128x128 w shapeCasts_S1x1x128x128_S128x128) hs)
      ⟨r.val / 2, by omega⟩ (kh k) l r (by simp only [kh]; omega) (fun h => N h (ky k)) (fun h => hN h _) (by
        have hy : ky k = ⟨32 * c.val + r.val / 2, by omega⟩ := Fin.ext (by simp only [ky]; omega)
        rw [← hw, hy]
        pointwise)
    have e2 := spread_pair q (kh k) l r (by simp only [kh]; omega) (fun h => S h c) (fun h => hS h _) hq
    rw [hc]
    exact congrArg₂ (fun a b : EReal => a * b) e1 e2
  unfold weights
  have hr : k.val = 64 * (kc k).val + (⟨k.val % 64, by omega⟩ : Fin 64).val := by simp only [kc]; omega
  obtain ⟨c, hc⟩ : ∃ c, kc k = c := ⟨_, rfl⟩
  rw [hc] at hr
  rw [concat4 _ _ _ _ k l c ⟨k.val % 64, by omega⟩ hr]
  match c with
  | ⟨0, _⟩ => exact one 0 q0 h0 ![0, 0] slices_S128x128_o0_0_S32x128 _ hr rfl
  | ⟨1, _⟩ => exact one 1 q1 h1 ![32, 0] slices_S128x128_o32_0_S32x128 _ hr rfl
  | ⟨2, _⟩ => exact one 2 q2 h2 ![64, 0] slices_S128x128_o64_0_S32x128 _ hr rfl
  | ⟨3, _⟩ => exact one 3 q3 h3 ![96, 0] slices_S128x128_o96_0_S32x128 _ hr rfl

/-- Lane `l` of half `t` of a tile of 256 columns. -/
def lane (t : Fin 2) (l : Fin 128) : Fin 256 := ⟨128 * t.val + l.val, by omega⟩

/-- What one sub-block adds, at a row and a column: the group's scale, the column's scale, and the products of the codes
with eight times the scale's upper bits and with its lower ones. -/
def term (A : Fin 256 → BitVec 8) (N : Fin 2 → Fin 128 → BitVec 8) (SH SL : Fin 2 → Fin 4 → BitVec 8) (D a : EReal) : EReal :=
  a * (D * (∑ k : Fin 256, (((A k).toInt : ℝ) : EReal) * 8 * ((((N (kh k) (ky k)).toNat : ℝ) : EReal) * (((SH (kh k) (kc k)).toNat : ℝ) : EReal))
    + ∑ k : Fin 256, (((A k).toInt : ℝ) : EReal) * ((((N (kh k) (ky k)).toNat : ℝ) : EReal) * (((SL (kh k) (kc k)).toNat : ℝ) : EReal))))

theorem ofBits_eight : Ideal.ofBits .bf16 0x4100#16 = 8 := by
  simp [Ideal.ofBits, Ideal.ieee]; rw [← EReal.coe_mul]; norm_num; rfl

theorem step_apply (acc : FVec Ideal S40x256 .f32) (w0 w1 : Vec Ideal S1x1x128x128 .i32)
    (h00 h01 h02 h03 l00 l01 l02 l03 h10 h11 h12 h13 l10 l11 l12 l13 : Vec Ideal S1x1x1x128 .i32)
    (a : Vec Ideal S1x40x256 .i8) (d0 d1 : Vec Ideal S1x1x128 .f32) (sa : Vec Ideal S1x40x128 .f32)
    (A : Fin 40 → Fin 256 → BitVec 8) (N : Fin 256 → Fin 2 → Fin 128 → BitVec 8) (SH SL : Fin 256 → Fin 2 → Fin 4 → BitVec 8)
    (D : Fin 256 → EReal) (Sa : Fin 40 → EReal)
    (hN : ∀ n h y, (N n h y).toNat < 16) (hSH : ∀ n h c, (SH n h c).toNat < 16) (hSL : ∀ n h c, (SL n h c).toNat < 16)
    (hw0 : ∀ y l, w0 (ix4 0 0 y l) = pairW (N (lane 0 l) 0 y) (N (lane 0 l) 1 y))
    (hw1 : ∀ y l, w1 (ix4 0 0 y l) = pairW (N (lane 1 l) 0 y) (N (lane 1 l) 1 y))
    (e00 : ∀ l, h00 (ix4 0 0 0 l) = pairW (SH (lane 0 l) 0 0) (SH (lane 0 l) 1 0))
    (e01 : ∀ l, h01 (ix4 0 0 0 l) = pairW (SH (lane 0 l) 0 1) (SH (lane 0 l) 1 1))
    (e02 : ∀ l, h02 (ix4 0 0 0 l) = pairW (SH (lane 0 l) 0 2) (SH (lane 0 l) 1 2))
    (e03 : ∀ l, h03 (ix4 0 0 0 l) = pairW (SH (lane 0 l) 0 3) (SH (lane 0 l) 1 3))
    (f00 : ∀ l, l00 (ix4 0 0 0 l) = pairW (SL (lane 0 l) 0 0) (SL (lane 0 l) 1 0))
    (f01 : ∀ l, l01 (ix4 0 0 0 l) = pairW (SL (lane 0 l) 0 1) (SL (lane 0 l) 1 1))
    (f02 : ∀ l, l02 (ix4 0 0 0 l) = pairW (SL (lane 0 l) 0 2) (SL (lane 0 l) 1 2))
    (f03 : ∀ l, l03 (ix4 0 0 0 l) = pairW (SL (lane 0 l) 0 3) (SL (lane 0 l) 1 3))
    (e10 : ∀ l, h10 (ix4 0 0 0 l) = pairW (SH (lane 1 l) 0 0) (SH (lane 1 l) 1 0))
    (e11 : ∀ l, h11 (ix4 0 0 0 l) = pairW (SH (lane 1 l) 0 1) (SH (lane 1 l) 1 1))
    (e12 : ∀ l, h12 (ix4 0 0 0 l) = pairW (SH (lane 1 l) 0 2) (SH (lane 1 l) 1 2))
    (e13 : ∀ l, h13 (ix4 0 0 0 l) = pairW (SH (lane 1 l) 0 3) (SH (lane 1 l) 1 3))
    (f10 : ∀ l, l10 (ix4 0 0 0 l) = pairW (SL (lane 1 l) 0 0) (SL (lane 1 l) 1 0))
    (f11 : ∀ l, l11 (ix4 0 0 0 l) = pairW (SL (lane 1 l) 0 1) (SL (lane 1 l) 1 1))
    (f12 : ∀ l, l12 (ix4 0 0 0 l) = pairW (SL (lane 1 l) 0 2) (SL (lane 1 l) 1 2))
    (f13 : ∀ l, l13 (ix4 0 0 0 l) = pairW (SL (lane 1 l) 0 3) (SL (lane 1 l) 1 3))
    (ha : ∀ i k, a (ix3 0 i k) = A i k)
    (hd0 : ∀ l, d0 (ix3 0 0 l) = D (lane 0 l)) (hd1 : ∀ l, d1 (ix3 0 0 l) = D (lane 1 l))
    (hsa : ∀ i l, sa (ix3 0 i l) = Sa i) (i : Fin 40) (n : Fin 256) :
    step acc w0 w1 h00 h01 h02 h03 l00 l01 l02 l03 h10 h11 h12 h13 l10 l11 l12 l13 a d0 d1 sa (ix2 i n)
      = acc (ix2 i n) + term (A i) (N n) (SH n) (SL n) (D n) (Sa i) := by
  unfold step term
  obtain ⟨t, l, rfl⟩ : ∃ t l, n = lane t l := ⟨⟨n.val / 128, by omega⟩, ⟨n.val % 128, by omega⟩, Fin.ext (by simp only [lane]; omega)⟩
  pointwise
  match t with
  | ⟨0, _⟩ =>
    have hlt : (lane 0 l).val < 128 := by have := l.isLt; simp [lane]
    have hl : ∀ p, (⟨(lane 0 l).val, p⟩ : Fin 128) = l := fun p => Fin.ext (by simp [lane])
    have eh : ∀ k, weights (F := Ideal) w0 h00 h01 h02 h03 (ix2 k l) = _ := fun k =>
      weights_apply w0 h00 h01 h02 h03 k l (N (lane 0 l)) (SH (lane 0 l)) (hN _) (hSH _) (fun y => hw0 y l) (e00 l) (e01 l) (e02 l) (e03 l)
    have el : ∀ k, weights (F := Ideal) w0 l00 l01 l02 l03 (ix2 k l) = _ := fun k =>
      weights_apply w0 l00 l01 l02 l03 k l (N (lane 0 l)) (SL (lane 0 l)) (hN _) (hSL _) (fun y => hw0 y l) (f00 l) (f01 l) (f02 l) (f03 l)
    change acc (ix2 i (lane 0 l)) + _ = acc (ix2 i (lane 0 l)) + _
    simp only [Fin.mk_zero, Fin.mk_one, Fin.zero_eta, Fin.reduceFinMk, dif_pos hlt, hl, hsa, hd0, ha, ofBits_eight, eh, el]
    rfl
  | ⟨1, _⟩ =>
    have hlt : ¬ (lane 1 l).val < 128 := by have := l.isLt; simp [lane]
    have hl : ∀ p, (⟨(lane 1 l).val - 128, p⟩ : Fin 128) = l := fun p => Fin.ext (by simp [lane])
    have eh : ∀ k, weights (F := Ideal) w1 h10 h11 h12 h13 (ix2 k l) = _ := fun k =>
      weights_apply w1 h10 h11 h12 h13 k l (N (lane 1 l)) (SH (lane 1 l)) (hN _) (hSH _) (fun y => hw1 y l) (e10 l) (e11 l) (e12 l) (e13 l)
    have el : ∀ k, weights (F := Ideal) w1 l10 l11 l12 l13 (ix2 k l) = _ := fun k =>
      weights_apply w1 l10 l11 l12 l13 k l (N (lane 1 l)) (SL (lane 1 l)) (hN _) (hSL _) (fun y => hw1 y l) (f10 l) (f11 l) (f12 l) (f13 l)
    change acc (ix2 i (lane 1 l)) + _ = acc (ix2 i (lane 1 l)) + _
    simp only [Fin.mk_zero, Fin.mk_one, Fin.zero_eta, Fin.reduceFinMk, dif_neg hlt, hl, hsa, hd1, ha, ofBits_eight, eh, el]
    rfl

end Cert.Step
end
-- ==== Proof.WTile.lean ====
/- The tile of nibble words: what it holds at an index, and what a load of one byte's rows reads. -/
module

public import proofs.«01_k».proof.Proof.StepVal
public import Idealize.ShloMosaic.Lib.WholeRead

@[expose] public section

noncomputable section

namespace Cert.Step

open Idealize.ShloMosaic Idealize.SL.Sem Cert.KernelIdeal Cert.KernelIdeal.Gen

variable {F : FTy → Type} [FloatOps F]

/-- Four rows of packed bytes, as words turned over and read as bytes again: row `4 y + b` holds byte `b` of word `y`. -/
def wbytes (v : Vec F S256x4x128 .i8) : IVec S512x256 8 :=
  bitcast S512x256 8 (transpose S128x256 [1, 0] (shapeCast S256x128 (bitcast S256x1x128 32 v bitcasts_S256x4x128_w8_S256x1x128_w32)
    shapeCasts_S256x1x128_S256x128) transposes_S256x128_p1_0_S128x256) bitcasts_S128x256_w32_S512x256_w8

/-- The nibbles of the bytes in the halves of words, under the exponent of 128. -/
def wwords (v : Vec F S256x4x128 .i8) : IVec S512x256 32 :=
  ori (ori (andi (extui 32 (wbytes v) natLt_8_32) (broadcast S512x256 15#32))
    (shli (shrsi (extui 32 (wbytes v) natLt_8_32) (broadcast S512x256 4#32)) (broadcast S512x256 16#32)))
    (broadcast S512x256 0x43004300#32)

def wtile (v : Vec F S256x4x128 .i8) (off : Fin 2 → Nat) (hs : S512x256.Slices off S512x128) : IVec S1x1x512x128 32 :=
  shapeCast S1x1x512x128 (extractStridedSlice S512x128 off (wwords v) hs) shapeCasts_S512x128_S1x1x512x128

theorem wbytes_apply (v : Vec F S256x4x128 .i8) (y : Fin 128) (b : Fin 4) (n : Fin 256) (r : Fin 512) (hr : r.val = 4 * y.val + b.val) :
    wbytes v (ix2 r n) = v (ix3 n b y) := by
  have hrow : S512x256.row (ix2 r n) = r.val := by simp [Shape.row, Shape.rowAx]
  have hrow3 : S256x1x128.row (ix3 n 0 y) = 0 := by simp [Shape.row, Shape.rowAx]
  apply BitVec.eq_of_getLsbD_eq
  intro q hq
  unfold wbytes
  rw [bitcast_getLsbD _ _ _ q hq (by decide)]
  have e : ∀ hp, bitcasts_S128x256_w32_S512x256_w8.srcIdx (ix2 r n) ((S512x256.row (ix2 r n) * 8 + q) / 32) hp = ix2 y n := by
    intro hp
    funext a
    match a with
    | ⟨0, _⟩ => exact Fin.ext ((Shape.Bitcasts.srcIdx_row _ _ _ _ ⟨0, Nat.zero_lt_two⟩ rfl).trans (by show (S512x256.row (ix2 r n) * 8 + q) / 32 = y.val; rw [hrow]; omega))
    | ⟨1, _⟩ => exact Fin.ext (Shape.Bitcasts.srcIdx_other _ _ _ _ ⟨1, Nat.one_lt_two⟩ (by show ¬ 1 + 2 = 2; omega))
  have e1 : (S512x256.row (ix2 r n) * 8 + q) % 32 = 8 * b.val + q := by rw [hrow]; omega
  rw [e, e1]
  pointwise
  rw [bitcast_8_32_getLsbD _ _ _ (8 * b.val + q) (by omega)]
  have e2 : (8 * b.val + q) % 8 = q := by omega
  have e3 : ∀ hp, bitcasts_S256x4x128_w8_S256x1x128_w32.srcIdx (ix3 n 0 y) (4 * S256x1x128.row (ix3 n 0 y) + (8 * b.val + q) / 8) hp = ix3 n b y := by
    intro hp
    funext a
    match a with
    | ⟨0, _⟩ => exact Fin.ext (Shape.Bitcasts.srcIdx_other _ _ _ _ ⟨0, by decide⟩ (by show ¬ 0 + 2 = 3; omega))
    | ⟨1, _⟩ => exact Fin.ext ((Shape.Bitcasts.srcIdx_row _ _ _ _ ⟨1, by decide⟩ rfl).trans (by show 4 * S256x1x128.row (ix3 n 0 y) + (8 * b.val + q) / 8 = b.val; rw [hrow3]; omega))
    | ⟨2, _⟩ => exact Fin.ext (Shape.Bitcasts.srcIdx_other _ _ _ _ ⟨2, by decide⟩ (by show ¬ 2 + 2 = 3; omega))
  rw [e3, e2]

theorem nibbles (q : BitVec 8) :
    ((q.setWidth 32 &&& 15#32) ||| ((q.setWidth 32).sshiftRight 4 <<< 16)) ||| 0x43004300#32 = pairW (q &&& 15#8) (q >>> 4) := by
  revert q; decide +kernel

theorem wwords_apply (v : Vec F S256x4x128 .i8) (y : Fin 128) (b : Fin 4) (n : Fin 256) (r : Fin 512) (hr : r.val = 4 * y.val + b.val) :
    wwords v (ix2 r n) = pairW (v (ix3 n b y) &&& 15#8) (v (ix3 n b y) >>> 4) := by
  unfold wwords
  pointwise
  rw [wbytes_apply v y b n r hr]
  exact nibbles _

theorem wload (vw : View sig .tc .vmem S2x2x512x128 .i32) (v : Vec F S256x4x128 .i8) (L : List (View.Piece (Elt F) S2x2x512x128 .i32))
    (g : Nat) (h1 : ∀ a, ![g, 1, 0, 0] a + S1x1x512x128.size a ≤ S2x2x512x128.size a)
    (h0 : ∀ a, ![g, 0, 0, 0] a + S1x1x512x128.size a ≤ S2x2x512x128.size a) (s1 : S512x256.Slices ![0, 128] S512x128)
    (s0 : S512x256.Slices ![0, 0] S512x128) (t : Fin 2) (b : Fin 4)
    (hb : ∀ a, S1x1x128x128.size a = 0 ∨ ![g, t.val, b.val, 0] a + ![1, 1, 4, 1] a * (S1x1x128x128.size a - 1) < S2x2x512x128.size a)
    (y l : Fin 128) :
    vw.readCov (Val := Elt F) (⟨Rect.unit (s := S2x2x512x128) ![g, 1, 0, 0] S1x1x512x128.size h1, wtile v ![0, 128] s1⟩
        :: ⟨Rect.unit (s := S2x2x512x128) ![g, 0, 0, 0] S1x1x512x128.size h0, wtile v ![0, 0] s0⟩ :: L)
      { off := ![g, t.val, b.val, 0], size := S1x1x128x128.size, stride := ![1, 1, 4, 1], inb := hb } (ix4 0 0 y l)
      = pairW (v (ix3 (lane t l) b y) &&& 15#8) (v (ix3 (lane t l) b y) >>> 4) := by
  rw [View.readCov_eq_canon']
  have hg : g < 2 := by have := h1 0; simp at this; omega
  match t with
  | ⟨1, _⟩ =>
    have e : LoadRect.idx (s := S2x2x512x128) { off := ![g, 1, b.val, 0], size := S1x1x128x128.size, stride := ![1, 1, 4, 1], inb := hb } (ix4 0 0 y l)
        = (Rect.unit (s := S2x2x512x128) ![g, 1, 0, 0] S1x1x512x128.size h1).emb (ix4 0 0 ⟨4 * y.val + b.val, by omega⟩ l) := by
      funext a
      match a with
      | ⟨0, _⟩ => rfl
      | ⟨1, _⟩ => rfl
      | ⟨2, _⟩ => exact Fin.ext (by show b.val + 4 * y.val = 0 + 1 * (4 * y.val + b.val); omega)
      | ⟨3, _⟩ => rfl
    refine (congrArg _ e).trans ((View.canon_cons_emb _ _ _ _).trans ?_)
    unfold wtile
    pointwise
    exact wwords_apply v y b (lane 1 l) _ rfl
  | ⟨0, _⟩ =>
    have e : LoadRect.idx (s := S2x2x512x128) { off := ![g, 0, b.val, 0], size := S1x1x128x128.size, stride := ![1, 1, 4, 1], inb := hb } (ix4 0 0 y l)
        = (Rect.unit (s := S2x2x512x128) ![g, 0, 0, 0] S1x1x512x128.size h0).emb (ix4 0 0 ⟨4 * y.val + b.val, by omega⟩ l) := by
      funext a
      match a with
      | ⟨0, _⟩ => rfl
      | ⟨1, _⟩ => rfl
      | ⟨2, _⟩ => exact Fin.ext (by show b.val + 4 * y.val = 0 + 1 * (4 * y.val + b.val); omega)
      | ⟨3, _⟩ => rfl
    refine (congrArg _ e).trans ((View.canon_cons_of_not_mem _ _ ?_).trans ((View.canon_cons_emb _ _ _ _).trans ?_))
    · intro hm
      have h2 : 1 ≤ 0 + 1 * 0 := ((Rect.mem_set_unit (s := S2x2x512x128) (inb := h1)).mp hm (1 : Fin 4)).1
      omega
    · unfold wtile
      pointwise
      exact (wwords_apply v y b ⟨l.val, by omega⟩ _ rfl).trans (by
        have : (⟨l.val, by omega⟩ : Fin 256) = lane 0 l := Fin.ext (by simp [lane])
        rw [this])

/-- Four rows of the packed bytes, read from a whole window. -/
theorem rows_apply (m : Memref sig .tc .vmem S256x32x128 .i8) (hm : m.IsWhole) (x : Vec F S256x32x128 .i8) (r : Fin 8)
    (hi : ∀ a, ![0, 4 * r.val, 0] a + S256x4x128.size a ≤ S256x32x128.size a) (n : Fin 256) (b : Fin 4) (y : Fin 128) :
    View.readAt (Elt F) m.view (Rect.unit (s := S256x32x128) ![0, 4 * r.val, 0] S256x4x128.size hi).toLoadRect (hm.unread x) (ix3 n b y)
      = x (ix3 n ⟨4 * r.val + b.val, by omega⟩ y) := by
  rw [Memref.IsWhole.readAt_unread]
  refine congrArg x ?_
  funext a
  match a with
  | ⟨0, _⟩ => exact Fin.ext (by show 0 + 1 * n.val = n.val; omega)
  | ⟨1, _⟩ => exact Fin.ext (by show 4 * r.val + 1 * b.val = 4 * r.val + b.val; omega)
  | ⟨2, _⟩ => exact Fin.ext (by show 0 + 1 * y.val = y.val; omega)

end Cert.Step
end
-- ==== Proof.SixTile.lean ====
/- The words of the six-bit scales: what they hold at an index, and what a load of one row reads. -/
module

public import proofs.«01_k».proof.Proof.WTile

@[expose] public section

noncomputable section

namespace Cert.Step

open Idealize.ShloMosaic Idealize.SL.Sem Cert.KernelIdeal Cert.KernelIdeal.Gen

/-- One byte of a word. -/
def byteOf (w : BitVec 32) (b : Fin 4) : BitVec 8 := w.extractLsb' (8 * b.val) 8

def six0 (u : BitVec 32) : BitVec 32 := u &&& 0x3f3f3f3f#32
def six1 (u w : BitVec 32) : BitVec 32 := (u &&& 0x0f0f0f0f#32) ||| (w.sshiftRight 2 &&& 0x30303030#32)

theorem byteOf_six0 (u : BitVec 32) (b : Fin 4) : byteOf (six0 u) b = byteOf u b &&& 63#8 := by
  apply BitVec.eq_of_getLsbD_eq; intro q hq
  simp only [byteOf, six0, BitVec.getLsbD_extractLsb', BitVec.getLsbD_and]
  fin_cases b <;> interval_cases q <;> simp

theorem byteOf_six1 (u w : BitVec 32) (b : Fin 4) :
    byteOf (six1 u w) b = (byteOf u b &&& 15#8) ||| ((byteOf w b >>> 2) &&& 48#8) := by
  apply BitVec.eq_of_getLsbD_eq; intro q hq
  simp only [byteOf, six1, BitVec.getLsbD_extractLsb', BitVec.getLsbD_and, BitVec.getLsbD_or, BitVec.getLsbD_ushiftRight, BitVec.getLsbD_sshiftRight]
  fin_cases b <;> interval_cases q <;> simp

/-- The bytes of two words side by side in the halves of one: of rows 0 and 1, of rows 2 and 3. -/
def pair0 (e o : BitVec 32) : BitVec 32 := (e &&& 0xffff#32) ||| (o <<< 16)
def pair1 (e o : BitVec 32) : BitVec 32 := (e.sshiftRight 16 &&& 0xffff#32) ||| (o &&& 0xffff0000#32)

def pairAt (e o : BitVec 32) (b : Fin 4) : BitVec 32 :=
  match b with
  | 0 => pair0 e o
  | 1 => (pair0 e o).sshiftRight 8
  | 2 => pair1 e o
  | 3 => (pair1 e o).sshiftRight 8

theorem low_word (e o : BitVec 32) (b : Fin 4) :
    (pairAt e o b &&& 0x00070007#32) ||| 0x43004300#32 = pairW (byteOf e b &&& 7#8) (byteOf o b &&& 7#8) := by
  apply BitVec.eq_of_getLsbD_eq; intro q hq
  simp only [pairW, BitVec.getLsbD_or, BitVec.getLsbD_and, BitVec.getLsbD_setWidth, BitVec.getLsbD_shiftLeft]
  fin_cases b <;> interval_cases q <;> simp [pairAt, pair0, pair1, byteOf, BitVec.getElem_sshiftRight, BitVec.getLsbD_sshiftRight, BitVec.getLsbD_extractLsb']

theorem high_word (e o : BitVec 32) (b : Fin 4) :
    ((pairAt e o b).sshiftRight 3 &&& 0x00070007#32) ||| 0x43004300#32
      = pairW ((byteOf e b >>> 3) &&& 7#8) ((byteOf o b >>> 3) &&& 7#8) := by
  apply BitVec.eq_of_getLsbD_eq; intro q hq
  simp only [pairW, BitVec.getLsbD_or, BitVec.getLsbD_and, BitVec.getLsbD_setWidth, BitVec.getLsbD_shiftLeft]
  fin_cases b <;> interval_cases q <;> simp [pairAt, pair0, pair1, byteOf, BitVec.getElem_sshiftRight, BitVec.getLsbD_sshiftRight, BitVec.getLsbD_extractLsb']

variable {F : FTy → Type} [FloatOps F]

/-- A plane of scale bytes, four rows to a word. -/
def plane (v : Vec F S1x32x256 .i8) : IVec S8x256 32 :=
  bitcast S8x256 32 (shapeCast S32x256 v shapeCasts_S1x32x256_S32x256) bitcasts_S32x256_w8_S8x256_w32

theorem byteOf_plane (v : Vec F S1x32x256 .i8) (r : Fin 8) (n : Fin 256) (b : Fin 4) :
    byteOf (plane v (ix2 r n)) b = v (ix3 0 ⟨4 * r.val + b.val, by omega⟩ n) := by
  apply BitVec.eq_of_getLsbD_eq; intro q hq
  rw [byteOf, BitVec.getLsbD_extractLsb', plane]
  have h := bitcast_8_32_getLsbD_ix2 (shapeCast S32x256 v shapeCasts_S1x32x256_S32x256) bitcasts_S32x256_w8_S8x256_w32 r n (8 * b.val + q)
    (by omega) ⟨4 * r.val + b.val, by omega⟩ (by show 4 * r.val + b.val = 4 * r.val + (8 * b.val + q) / 8; omega)
  have h2 : (8 * b.val + q) % 8 = q := by omega
  rw [h2] at h
  have h3 : decide (q < 8) = true := by simpa using hq
  rw [h3, Bool.true_and]
  refine h.trans ?_
  congr 1
  pointwise

def vsix0 (u : IVec S8x256 32) : IVec S8x256 32 := andi u (broadcast S8x256 0x3f3f3f3f#32)
def vsix1 (u w : IVec S8x256 32) : IVec S8x256 32 :=
  ori (andi u (broadcast S8x256 0x0f0f0f0f#32)) (andi (shrsi w (broadcast S8x256 2#32)) (broadcast S8x256 0x30303030#32))

/-- The six-bit scales of sub-block half `j`, four rows to a word. -/
def vsix (V : Fin 12 → Vec F S1x32x256 .i8) (j : Fin 8) : IVec S8x256 32 :=
  match j with
  | 0 => vsix0 (plane (V 0))
  | 1 => vsix0 (plane (V 1))
  | 2 => vsix0 (plane (V 2))
  | 3 => vsix0 (plane (V 3))
  | 4 => vsix1 (plane (V 8)) (plane (V 0))
  | 5 => vsix1 (plane (V 9)) (plane (V 1))
  | 6 => vsix1 (plane (V 10)) (plane (V 2))
  | 7 => vsix1 (plane (V 11)) (plane (V 3))

def vpair0 (e o : IVec S8x256 32) : IVec S8x256 32 :=
  ori (andi e (broadcast S8x256 0xffff#32)) (shli o (broadcast S8x256 16#32))
def vpair1 (e o : IVec S8x256 32) : IVec S8x256 32 :=
  ori (andi (shrsi e (broadcast S8x256 16#32)) (broadcast S8x256 0xffff#32)) (andi o (broadcast S8x256 0xffff0000#32))

def vpairAt (e o : IVec S8x256 32) (b : Fin 4) : IVec S8x256 32 :=
  match b with
  | 0 => vpair0 e o
  | 1 => shrsi (vpair0 e o) (broadcast S8x256 8#32)
  | 2 => vpair1 e o
  | 3 => shrsi (vpair1 e o) (broadcast S8x256 8#32)

def vsixes (V : Fin 12 → Vec F S1x32x256 .i8) (c b : Fin 4) : IVec S8x256 32 :=
  match c with
  | 0 => vpairAt (vsix V 0) (vsix V 1) b
  | 1 => vpairAt (vsix V 2) (vsix V 3) b
  | 2 => vpairAt (vsix V 4) (vsix V 5) b
  | 3 => vpairAt (vsix V 6) (vsix V 7) b

def lowTile (V : Fin 12 → Vec F S1x32x256 .i8) (c b : Fin 4) : IVec S1x1x8x256 32 :=
  shapeCast S1x1x8x256 (ori (andi (vsixes V c b) (broadcast S8x256 0x00070007#32)) (broadcast S8x256 0x43004300#32)) shapeCasts_S8x256_S1x1x8x256
def highTile (V : Fin 12 → Vec F S1x32x256 .i8) (c b : Fin 4) : IVec S1x1x8x256 32 :=
  shapeCast S1x1x8x256 (ori (andi (shrsi (vsixes V c b) (broadcast S8x256 3#32)) (broadcast S8x256 0x00070007#32)) (broadcast S8x256 0x43004300#32)) shapeCasts_S8x256_S1x1x8x256

theorem vsix_apply (V : Fin 12 → Vec F S1x32x256 .i8) (j : Fin 8) (r : Fin 8) (n : Fin 256) (b : Fin 4) :
    byteOf (vsix V j (ix2 r n)) b = S6 (fun i => V i (ix3 0 ⟨4 * r.val + b.val, by omega⟩ n)) j.val := by
  have h0 : ∀ i : Fin 12, byteOf (vsix0 (plane (V i)) (ix2 r n)) b = V i (ix3 0 ⟨4 * r.val + b.val, by omega⟩ n) &&& 63#8 := by
    intro i; rw [← byteOf_plane (V i) r n b]; exact byteOf_six0 _ b
  have h1 : ∀ i k : Fin 12, byteOf (vsix1 (plane (V i)) (plane (V k)) (ix2 r n)) b
      = (V i (ix3 0 ⟨4 * r.val + b.val, by omega⟩ n) &&& 15#8) ||| ((V k (ix3 0 ⟨4 * r.val + b.val, by omega⟩ n) >>> 2) &&& 48#8) := by
    intro i k; rw [← byteOf_plane (V i) r n b, ← byteOf_plane (V k) r n b]; exact byteOf_six1 _ _ b
  match j with
  | 0 => exact h0 0
  | 1 => exact h0 1
  | 2 => exact h0 2
  | 3 => exact h0 3
  | 4 => exact h1 8 0
  | 5 => exact h1 9 1
  | 6 => exact h1 10 2
  | 7 => exact h1 11 3

theorem vpairAt_apply (e o : IVec S8x256 32) (b : Fin 4) (i : S8x256.Idx) : vpairAt e o b i = pairAt (e i) (o i) b := by
  match b with
  | 0 => rfl
  | 1 => rfl
  | 2 => rfl
  | 3 => rfl

theorem vsixes_apply (V : Fin 12 → Vec F S1x32x256 .i8) (c b : Fin 4) (i : S8x256.Idx) :
    vsixes V c b i = pairAt (vsix V ⟨2 * c.val, by omega⟩ i) (vsix V ⟨2 * c.val + 1, by omega⟩ i) b := by
  match c with
  | 0 => exact vpairAt_apply _ _ _ _
  | 1 => exact vpairAt_apply _ _ _ _
  | 2 => exact vpairAt_apply _ _ _ _
  | 3 => exact vpairAt_apply _ _ _ _

/-- Half `h` of group `c`, in row `s` of column `n`. -/
def sixOf (V : Fin 12 → Vec F S1x32x256 .i8) (c : Fin 4) (h : Fin 2) (s : Fin 32) (n : Fin 256) : BitVec 8 :=
  S6 (fun i => V i (ix3 0 s n)) (2 * c.val + h.val)

theorem lowTile_apply (V : Fin 12 → Vec F S1x32x256 .i8) (c b : Fin 4) (r : Fin 8) (n : Fin 256) :
    lowTile V c b (ix4 0 0 r n) = pairW (sixOf V c 0 ⟨4 * r.val + b.val, by omega⟩ n &&& 7#8) (sixOf V c 1 ⟨4 * r.val + b.val, by omega⟩ n &&& 7#8) := by
  unfold lowTile
  pointwise
  rw [vsixes_apply]
  exact (low_word _ _ b).trans (by rw [vsix_apply, vsix_apply]; rfl)

theorem highTile_apply (V : Fin 12 → Vec F S1x32x256 .i8) (c b : Fin 4) (r : Fin 8) (n : Fin 256) :
    highTile V c b (ix4 0 0 r n) = pairW ((sixOf V c 0 ⟨4 * r.val + b.val, by omega⟩ n >>> 3) &&& 7#8) ((sixOf V c 1 ⟨4 * r.val + b.val, by omega⟩ n >>> 3) &&& 7#8) := by
  unfold highTile
  pointwise
  rw [vsixes_apply]
  exact (high_word _ _ b).trans (by rw [vsix_apply, vsix_apply]; rfl)

theorem inb16 (c b : Fin 4) : ∀ a, ![c.val, b.val, 0, 0] a + S1x1x8x256.size a ≤ S4x4x8x256.size a := by
  revert c b; decide

def pc (w : Fin 4 → Fin 4 → IVec S1x1x8x256 32) (c b : Fin 4) : View.Piece (Elt F) S4x4x8x256 .i32 :=
  ⟨Rect.unit (s := S4x4x8x256) ![c.val, b.val, 0, 0] S1x1x8x256.size (inb16 c b), w c b⟩

def pieces16 (w : Fin 4 → Fin 4 → IVec S1x1x8x256 32) : List (View.Piece (Elt F) S4x4x8x256 .i32) :=
  [pc w 3 3, pc w 3 2, pc w 3 1, pc w 3 0, pc w 2 3, pc w 2 2, pc w 2 1, pc w 2 0,
   pc w 1 3, pc w 1 2, pc w 1 1, pc w 1 0, pc w 0 3, pc w 0 2, pc w 0 1, pc w 0 0]

theorem canon_pieces16 (w : Fin 4 → Fin 4 → IVec S1x1x8x256 32) (c b : Fin 4) (r : Fin 8) (n : Fin 256) :
    View.canon (Val := Elt F) (pieces16 w) (ix4 c b r n) = w c b (ix4 0 0 r n) := by
  refine View.canon_apply_of_pieces (Val := Elt F) (e := .i32) (S := S4x4x8x256) (fun j => (w (j 0) (j 1) (ix4 0 0 (j 2) (j 3)) : BitVec 32)) _ ?_ (ix4 c b r n) ?_
  · intro p hp x
    obtain ⟨c', b', rfl⟩ : ∃ c b, p = pc w c b := by
      simp only [pieces16, List.mem_cons, List.not_mem_nil, or_false] at hp
      rcases hp with h|h|h|h|h|h|h|h|h|h|h|h|h|h|h|h <;> exact ⟨_, _, h⟩
    have e0 : (x 0).val = 0 := Nat.lt_one_iff.mp (x 0).isLt
    have e1 : (x 1).val = 0 := Nat.lt_one_iff.mp (x 1).isLt
    have k0 : (pc (F := F) w c' b').1.emb x 0 = c' := Fin.ext (by show c'.val + 1 * (x 0).val = c'.val; omega)
    have k1 : (pc (F := F) w c' b').1.emb x 1 = b' := Fin.ext (by show b'.val + 1 * (x 1).val = b'.val; omega)
    have k : x = ix4 0 0 ((pc (F := F) w c' b').1.emb x 2) ((pc (F := F) w c' b').1.emb x 3) := by
      funext a
      match a with
      | ⟨0, _⟩ => exact Fin.ext e0
      | ⟨1, _⟩ => exact Fin.ext e1
      | ⟨2, _⟩ => exact Fin.ext (by show (x 2).val = 0 + 1 * (x 2).val; omega)
      | ⟨3, _⟩ => exact Fin.ext (by show (x 3).val = 0 + 1 * (x 3).val; omega)
    show w c' b' x = w _ _ _
    rw [k0, k1]
    exact congrArg (w c' b') k
  · refine ⟨pc w c b, ?_, ?_⟩
    · fin_cases c <;> fin_cases b <;> simp [pieces16]
    · refine (Rect.mem_set_unit (s := S4x4x8x256) (inb := inb16 c b)).mpr fun a => ?_
      match a with
      | ⟨0, _⟩ => exact ⟨Nat.le_refl _, Nat.lt_succ_self _⟩
      | ⟨1, _⟩ => exact ⟨Nat.le_refl _, Nat.lt_succ_self _⟩
      | ⟨2, _⟩ => exact ⟨Nat.zero_le _, by show r.val < 0 + 8; omega⟩
      | ⟨3, _⟩ => exact ⟨Nat.zero_le _, by show n.val < 0 + 256; omega⟩

theorem sixload (vw : View sig .tc .vmem S4x4x8x256 .i32) (w : Fin 4 → Fin 4 → IVec S1x1x8x256 32) (c b : Fin 4) (r : Fin 8) (t : Fin 2)
    (h : ∀ a, ![c.val, b.val, r.val, 128 * t.val] a + S1x1x1x128.size a ≤ S4x4x8x256.size a) (l : Fin 128) :
    vw.readCov (Val := Elt F) (pieces16 w) (Rect.unit (s := S4x4x8x256) ![c.val, b.val, r.val, 128 * t.val] S1x1x1x128.size h).toLoadRect (ix4 0 0 0 l)
      = w c b (ix4 0 0 r (lane t l)) := by
  rw [View.readCov_eq_canon', ← canon_pieces16 (F := F) w c b r (lane t l)]
  refine congrArg _ ?_
  funext a
  match a with
  | ⟨0, _⟩ => rfl
  | ⟨1, _⟩ => rfl
  | ⟨2, _⟩ => rfl
  | ⟨3, _⟩ => exact Fin.ext (by show 128 * t.val + 1 * l.val = 128 * t.val + l.val; omega)

theorem inb12 (i : Fin 12) : ∀ a, ![i.val, 0, 0] a + S1x32x256.size a ≤ S12x32x256.size a := by
  revert i; decide

/-- The twelve planes, read from a whole window. -/
def planes (m : Memref sig .tc .vmem S12x32x256 .i8) (hm : m.IsWhole) (x : Vec F S12x32x256 .i8) (i : Fin 12) : Vec F S1x32x256 .i8 :=
  View.readAt (Elt F) m.view (Rect.unit (s := S12x32x256) ![i.val, 0, 0] S1x32x256.size (inb12 i)).toLoadRect (hm.unread x)

theorem planes_apply (m : Memref sig .tc .vmem S12x32x256 .i8) (hm : m.IsWhole) (x : Vec F S12x32x256 .i8) (i : Fin 12) (s : Fin 32) (n : Fin 256) :
    planes m hm x i (ix3 0 s n) = x (ix3 i s n) := by
  unfold planes
  rw [Memref.IsWhole.readAt_unread]
  refine congrArg x ?_
  funext a
  match a with
  | ⟨0, _⟩ => rfl
  | ⟨1, _⟩ => exact Fin.ext (by show 0 + 1 * s.val = s.val; omega)
  | ⟨2, _⟩ => exact Fin.ext (by show 0 + 1 * n.val = n.val; omega)

/-- The six-bit scale of half `h` of group `c`, from the packed bytes. -/
def six (x : Vec F S12x32x256 .i8) (s : Fin 32) (n : Fin 256) (h : Fin 2) (c : Fin 4) : BitVec 8 :=
  S6 (fun i => x (ix3 i s n)) (2 * c.val + h.val)

theorem sixOf_planes (m : Memref sig .tc .vmem S12x32x256 .i8) (hm : m.IsWhole) (x : Vec F S12x32x256 .i8) (c : Fin 4) (h : Fin 2) (s : Fin 32) (n : Fin 256) :
    sixOf (planes m hm x) c h s n = six x s n h c := by
  unfold sixOf six
  simp only [planes_apply]

end Cert.Step
end
-- ==== Proof.DTile.lean ====
/- The 16-bit factors: the words the kernel builds of them, and what a load of rows reads. -/
module

public import proofs.«01_k».proof.Proof.WTile

@[expose] public section

noncomputable section

namespace Cert.Step

open Idealize.ShloMosaic Idealize.SL.Sem Cert.KernelIdeal Cert.KernelIdeal.Gen

variable {F : FTy → Type} [FloatOps F]

/-- The exponent bits and the fraction bits of 16-bit words, made a float. -/
def f16v (w : IVec S16x256 32) : FVec F S16x256 .f32 :=
  let e : IVec S16x256 32 := andi (shrsi w (broadcast S16x256 10#32)) (broadcast S16x256 31#32)
  let f : IVec S16x256 32 := andi w (broadcast S16x256 1023#32)
  let lead : IVec S16x256 32 := shrsi (addi e (broadcast S16x256 31#32)) (broadcast S16x256 5#32)
  mulf (sitofp .f32 (ori f (shli lead (broadcast S16x256 10#32))))
    (bitcastToFloat .f32 (shli (subi (addi e (broadcast S16x256 103#32)) lead) (broadcast S16x256 23#32)))

/-- The same of one word. -/
def f16 (w : BitVec 32) : F .f32 :=
  FloatOps.mulf (FloatOps.sitofp .f32 ((w &&& 1023#32) ||| ((((w.sshiftRight 10 &&& 31#32) + 31#32).sshiftRight 5) <<< 10)))
    (FloatOps.ofBits .f32 ((((w.sshiftRight 10 &&& 31#32) + 103#32) - (((w.sshiftRight 10 &&& 31#32) + 31#32).sshiftRight 5)) <<< 23))

theorem f16v_apply (w : IVec S16x256 32) (i : S16x256.Idx) : (f16v w : FVec F S16x256 .f32) i = f16 (w i) := rfl

def words16 (v : Vec F S32x256 .i16) : IVec S16x256 32 := shapeCast S16x256 (bitcast S16x256 32 v bitcasts_S32x256_w16_S16x256_w32) shapeCasts_S16x256_S16x256
def evens (v : Vec F S32x256 .i16) : IVec S16x256 32 := andi (words16 v) (broadcast S16x256 32767#32)
def odds (v : Vec F S32x256 .i16) : IVec S16x256 32 := andi (shrsi (words16 v) (broadcast S16x256 16#32)) (broadcast S16x256 32767#32)

def dtile (w : IVec S16x256 32) (off : Fin 2 → Nat) (h : S16x256.Slices off S16x128) : FVec F S1x16x128 .f32 :=
  shapeCast S1x16x128 (extractStridedSlice S16x128 off (f16v w) h) shapeCasts_S16x128_S1x16x128

theorem words16_eq (v : Vec F S32x256 .i16) : words16 v = bitcast S16x256 32 v bitcasts_S32x256_w16_S16x256_w32 := by
  unfold words16
  exact shapeCast_self _ _

theorem evens_apply (v : Vec F S32x256 .i16) (i : S16x256.Idx) : evens v i = words16 v i &&& 32767#32 := rfl
theorem odds_apply (v : Vec F S32x256 .i16) (i : S16x256.Idx) : odds v i = (words16 v i).sshiftRight 16 &&& 32767#32 := rfl

theorem words16_lo (v : Vec F S32x256 .i16) (y : Fin 16) (n : Fin 256) :
    words16 v (ix2 y n) &&& 32767#32 = (v (ix2 ⟨2 * y.val, by omega⟩ n)).setWidth 32 &&& 32767#32 := by
  have hrow : S16x256.row (ix2 y n) = y.val := by simp [Shape.row, Shape.rowAx]
  apply BitVec.eq_of_getLsbD_eq; intro q hq
  rw [BitVec.getLsbD_and, BitVec.getLsbD_and, BitVec.getLsbD_setWidth]
  have hm : ∀ q < 32, (32767#32).getLsbD q = decide (q < 15) := by decide
  rw [hm q hq]
  by_cases h15 : q < 15
  · rw [words16_eq, bitcast_getLsbD _ _ _ q hq (by decide)]
    have e : ∀ hp, bitcasts_S32x256_w16_S16x256_w32.srcIdx (ix2 y n) ((S16x256.row (ix2 y n) * 32 + q) / 16) hp = ix2 ⟨2 * y.val, by omega⟩ n := by
      intro hp
      funext a
      match a with
      | ⟨0, _⟩ => exact Fin.ext ((Shape.Bitcasts.srcIdx_row _ _ _ _ ⟨0, Nat.zero_lt_two⟩ rfl).trans (by show (S16x256.row (ix2 y n) * 32 + q) / 16 = 2 * y.val; rw [hrow]; omega))
      | ⟨1, _⟩ => exact Fin.ext (Shape.Bitcasts.srcIdx_other _ _ _ _ ⟨1, Nat.one_lt_two⟩ (by show ¬ 1 + 2 = 2; omega))
    have e1 : (S16x256.row (ix2 y n) * 32 + q) % 16 = q := by rw [hrow]; omega
    rw [e, e1]
    simp [h15, hq]
  · simp [h15]

theorem words16_hi (v : Vec F S32x256 .i16) (y : Fin 16) (n : Fin 256) :
    (words16 v (ix2 y n)).sshiftRight 16 &&& 32767#32 = (v (ix2 ⟨2 * y.val + 1, by omega⟩ n)).setWidth 32 &&& 32767#32 := by
  have hrow : S16x256.row (ix2 y n) = y.val := by simp [Shape.row, Shape.rowAx]
  apply BitVec.eq_of_getLsbD_eq; intro q hq
  rw [BitVec.getLsbD_and, BitVec.getLsbD_and, BitVec.getLsbD_setWidth, BitVec.getLsbD_sshiftRight]
  have hm : ∀ q < 32, (32767#32).getLsbD q = decide (q < 15) := by decide
  rw [hm q hq]
  by_cases h15 : q < 15
  · have h1 : decide (32 ≤ q) = false := by simp; omega
    have h2 : 16 + q < 32 := by omega
    rw [h1, if_pos h2]
    rw [words16_eq, bitcast_getLsbD _ _ _ (16 + q) h2 (by decide)]
    have e : ∀ hp, bitcasts_S32x256_w16_S16x256_w32.srcIdx (ix2 y n) ((S16x256.row (ix2 y n) * 32 + (16 + q)) / 16) hp = ix2 ⟨2 * y.val + 1, by omega⟩ n := by
      intro hp
      funext a
      match a with
      | ⟨0, _⟩ => exact Fin.ext ((Shape.Bitcasts.srcIdx_row _ _ _ _ ⟨0, Nat.zero_lt_two⟩ rfl).trans (by show (S16x256.row (ix2 y n) * 32 + (16 + q)) / 16 = 2 * y.val + 1; rw [hrow]; omega))
      | ⟨1, _⟩ => exact Fin.ext (Shape.Bitcasts.srcIdx_other _ _ _ _ ⟨1, Nat.one_lt_two⟩ (by show ¬ 1 + 2 = 2; omega))
    have e1 : (S16x256.row (ix2 y n) * 32 + (16 + q)) % 16 = q := by rw [hrow]; omega
    rw [e, e1]
    simp [h15, hq]
  · simp [h15]

/-- The factor of block `s` of column `n`. -/
def factor (v : Vec F S32x256 .i16) (s : Fin 32) (n : Fin 256) : F .f32 := f16 ((v (ix2 s n)).setWidth 32 &&& 32767#32)

theorem dtile_evens (v : Vec F S32x256 .i16) (t : Fin 2) (h : S16x256.Slices ![0, 128 * t.val] S16x128) (y : Fin 16) (l : Fin 128) :
    dtile (F := F) (evens v) ![0, 128 * t.val] h (ix3 0 y l) = factor v ⟨2 * y.val, by omega⟩ (lane t l) := by
  unfold dtile
  pointwise
  rw [f16v_apply, evens_apply]
  exact congrArg f16 (words16_lo v y (lane t l))

theorem dtile_odds (v : Vec F S32x256 .i16) (t : Fin 2) (h : S16x256.Slices ![0, 128 * t.val] S16x128) (y : Fin 16) (l : Fin 128) :
    dtile (F := F) (odds v) ![0, 128 * t.val] h (ix3 0 y l) = factor v ⟨2 * y.val + 1, by omega⟩ (lane t l) := by
  unfold dtile
  pointwise
  rw [f16v_apply, odds_apply]
  exact congrArg f16 (words16_hi v y (lane t l))

theorem inb4 (t p : Fin 2) : ∀ a, S1x16x128.size a = 0 ∨ ![t.val, p.val, 0] a + ![1, 2, 1] a * (S1x16x128.size a - 1) < S2x32x128.size a := by
  revert t p; decide

theorem slices4 (t : Fin 2) : S16x256.Slices ![0, 128 * t.val] S16x128 := by
  revert t; decide

def dp (v : Vec F S32x256 .i16) (t p : Fin 2) : View.Piece (Elt F) S2x32x128 .f32 :=
  ⟨{ off := ![t.val, p.val, 0], size := S1x16x128.size, stride := ![1, 2, 1], inb := inb4 t p, stride_pos := spos_1_2_1 },
    match p with
    | 0 => dtile (evens v) ![0, 128 * t.val] (slices4 t)
    | 1 => dtile (odds v) ![0, 128 * t.val] (slices4 t)⟩

def dpieces (v : Vec F S32x256 .i16) : List (View.Piece (Elt F) S2x32x128 .f32) := [dp v 1 1, dp v 1 0, dp v 0 1, dp v 0 0]

theorem canon_dpieces (v : Vec F S32x256 .i16) (t : Fin 2) (s : Fin 32) (l : Fin 128) :
    View.canon (Val := Elt F) (dpieces v) (ix3 t s l) = factor v s (lane t l) := by
  refine View.canon_apply_of_pieces (Val := Elt F) (e := .f32) (S := S2x32x128) (fun j => factor v (j 1) (lane (j 0) (j 2))) _ ?_ (ix3 t s l) ?_
  · intro p hp x
    obtain ⟨t', p', rfl⟩ : ∃ t b, p = dp v t b := by
      simp only [dpieces, List.mem_cons, List.not_mem_nil, or_false] at hp
      rcases hp with h|h|h|h <;> exact ⟨_, _, h⟩
    have e0 : (x 0).val = 0 := Nat.lt_one_iff.mp (x 0).isLt
    have k0 : (dp v t' p').1.emb x 0 = t' := Fin.ext (by show t'.val + 1 * (x 0).val = t'.val; omega)
    have k2 : (dp v t' p').1.emb x 2 = x 2 := Fin.ext (by show 0 + 1 * (x 2).val = (x 2).val; omega)
    have k : x = ix3 0 (x 1) (x 2) := by
      funext a
      match a with
      | ⟨0, _⟩ => exact Fin.ext e0
      | ⟨1, _⟩ => rfl
      | ⟨2, _⟩ => rfl
    show (dp v t' p').2 x = factor v _ (lane _ _)
    rw [k0, k2]
    match p' with
    | 0 =>
      refine (congrArg (dp v t' 0).2 k).trans ((dtile_evens v t' (slices4 t') (x 1) (x 2)).trans (congrArg (fun q => factor v q (lane t' (x 2))) ?_))
      exact Fin.ext (by show 2 * (x 1).val = 0 + 2 * (x 1).val; omega)
    | 1 =>
      refine (congrArg (dp v t' 1).2 k).trans ((dtile_odds v t' (slices4 t') (x 1) (x 2)).trans (congrArg (fun q => factor v q (lane t' (x 2))) ?_))
      exact Fin.ext (by show 2 * (x 1).val + 1 = 1 + 2 * (x 1).val; omega)
  · have hp : s.val % 2 < 2 := Nat.mod_lt _ (by decide)
    refine ⟨dp v t ⟨s.val % 2, hp⟩, ?_, ?_⟩
    · generalize (⟨s.val % 2, hp⟩ : Fin 2) = p
      fin_cases t <;> fin_cases p <;> simp [dpieces]
    · have e : ix3 t s l = (dp v t ⟨s.val % 2, hp⟩).1.emb (ix3 0 ⟨s.val / 2, by omega⟩ l) := by
        funext a
        match a with
        | ⟨0, _⟩ => rfl
        | ⟨1, _⟩ => exact Fin.ext (by show s.val = s.val % 2 + 2 * (s.val / 2); omega)
        | ⟨2, _⟩ => exact Fin.ext (by show l.val = 0 + 1 * l.val; omega)
      rw [e]
      exact LoadRect.idx_mem _ _

theorem dload (vw : View sig .tc .vmem S2x32x128 .f32) (v : Vec F S32x256 .i16) (t : Fin 2) (s : Fin 32)
    (h : ∀ a, ![t.val, s.val, 0] a + S1x1x128.size a ≤ S2x32x128.size a) (l : Fin 128) :
    vw.readCov (Val := Elt F) (dpieces v) (Rect.unit (s := S2x32x128) ![t.val, s.val, 0] S1x1x128.size h).toLoadRect (ix3 0 0 l)
      = factor v s (lane t l) := by
  rw [View.readCov_eq_canon', ← canon_dpieces v t s l]
  refine congrArg _ ?_
  funext a
  match a with
  | ⟨0, _⟩ => rfl
  | ⟨1, _⟩ => rfl
  | ⟨2, _⟩ => exact Fin.ext (by show 0 + 1 * l.val = l.val; omega)

theorem dmload (vw : View sig .tc .vmem S2x32x128 .f32) (v : Vec F S32x256 .i16) (t : Fin 2) (b : Fin 4)
    (h : ∀ a, S1x8x128.size a = 0 ∨ ![t.val, b.val, 0] a + ![1, 4, 1] a * (S1x8x128.size a - 1) < S2x32x128.size a) (r : Fin 8) (l : Fin 128) :
    vw.readCov (Val := Elt F) (dpieces v) { off := ![t.val, b.val, 0], size := S1x8x128.size, stride := ![1, 4, 1], inb := h } (ix3 0 r l)
      = factor v ⟨4 * r.val + b.val, by omega⟩ (lane t l) := by
  rw [View.readCov_eq_canon', ← canon_dpieces v t ⟨4 * r.val + b.val, by omega⟩ l]
  refine congrArg _ ?_
  funext a
  match a with
  | ⟨0, _⟩ => rfl
  | ⟨1, _⟩ => exact Fin.ext (by show b.val + 4 * r.val = 4 * r.val + b.val; omega)
  | ⟨2, _⟩ => exact Fin.ext (by show 0 + 1 * l.val = l.val; omega)

theorem rows16_apply (m : Memref sig .tc .vmem S32x256 .i16) (hm : m.IsWhole) (x : Vec F S32x256 .i16)
    (h : ∀ a, ![0, 0] a + S32x256.size a ≤ S32x256.size a) :
    View.readAt (Elt F) m.view (Rect.unit (s := S32x256) ![0, 0] S32x256.size h).toLoadRect (hm.unread x) = x := by
  funext i
  rw [Memref.IsWhole.readAt_unread]
  refine congrArg x ?_
  funext a
  match a with
  | ⟨0, _⟩ => exact Fin.ext (by show 0 + 1 * (i 0).val = (i 0).val; omega)
  | ⟨1, _⟩ => exact Fin.ext (by show 0 + 1 * (i 1).val = (i 1).val; omega)

end Cert.Step
end
-- ==== Proof.RMTile.lean ====
/- The table of scaled minima: what the kernel stores in it, and what a load of all of it reads. -/
module

public import proofs.«01_k».proof.Proof.SixTile
public import proofs.«01_k».proof.Proof.DTile

@[expose] public section

noncomputable section

namespace Cert.Step

open Idealize.ShloMosaic Idealize.SL.Sem Cert.KernelIdeal Cert.KernelIdeal.Gen

def min0 (u : BitVec 32) : BitVec 32 := u &&& 0x3f3f3f3f#32
def min1 (u w : BitVec 32) : BitVec 32 := (u.sshiftRight 4 &&& 0x0f0f0f0f#32) ||| (w.sshiftRight 2 &&& 0x30303030#32)

theorem min0_byte (u : BitVec 32) (b : Fin 4) :
    (min0 u).sshiftRight (8 * b.val) &&& 63#32 = (byteOf u b &&& 63#8).setWidth 32 := by
  apply BitVec.eq_of_getLsbD_eq; intro q hq
  simp only [byteOf, min0, BitVec.getLsbD_and, BitVec.getLsbD_setWidth]
  fin_cases b <;> interval_cases q <;> simp [BitVec.getElem_sshiftRight, BitVec.getLsbD_sshiftRight, BitVec.getLsbD_extractLsb']

theorem min1_byte (u w : BitVec 32) (b : Fin 4) :
    (min1 u w).sshiftRight (8 * b.val) &&& 63#32
      = (((byteOf u b >>> 4) &&& 15#8) ||| ((byteOf w b >>> 2) &&& 48#8)).setWidth 32 := by
  apply BitVec.eq_of_getLsbD_eq; intro q hq
  simp only [byteOf, min1, BitVec.getLsbD_and, BitVec.getLsbD_setWidth]
  fin_cases b <;> interval_cases q <;> simp [BitVec.getElem_sshiftRight, BitVec.getLsbD_sshiftRight, BitVec.getLsbD_extractLsb']

variable {F : FTy → Type} [FloatOps F]

def vmin0 (u : IVec S8x256 32) : IVec S8x256 32 := andi u (broadcast S8x256 0x3f3f3f3f#32)
def vmin1 (u w : IVec S8x256 32) : IVec S8x256 32 :=
  ori (andi (shrsi u (broadcast S8x256 4#32)) (broadcast S8x256 0x0f0f0f0f#32)) (andi (shrsi w (broadcast S8x256 2#32)) (broadcast S8x256 0x30303030#32))

/-- The six-bit minima of sub-block half `j`, four rows to a word. -/
def vmin (V : Fin 12 → Vec F S1x32x256 .i8) (j : Fin 8) : IVec S8x256 32 :=
  match j with
  | 0 => vmin0 (plane (V 4))
  | 1 => vmin0 (plane (V 5))
  | 2 => vmin0 (plane (V 6))
  | 3 => vmin0 (plane (V 7))
  | 4 => vmin1 (plane (V 8)) (plane (V 4))
  | 5 => vmin1 (plane (V 9)) (plane (V 5))
  | 6 => vmin1 (plane (V 10)) (plane (V 6))
  | 7 => vmin1 (plane (V 11)) (plane (V 7))

/-- The minima of the rows that byte `b` of the words holds. -/
def vminByte (w : IVec S8x256 32) (b : Fin 4) : IVec S8x256 32 :=
  match b with
  | 0 => andi (shrsi w (broadcast S8x256 0#32)) (broadcast S8x256 63#32)
  | 1 => andi (shrsi w (broadcast S8x256 8#32)) (broadcast S8x256 63#32)
  | 2 => andi (shrsi w (broadcast S8x256 16#32)) (broadcast S8x256 63#32)
  | 3 => andi (shrsi w (broadcast S8x256 24#32)) (broadcast S8x256 63#32)

theorem vminByte_apply (w : IVec S8x256 32) (b : Fin 4) (i : S8x256.Idx) :
    vminByte w b i = (w i).sshiftRight (8 * b.val) &&& 63#32 := by
  match b with
  | 0 => rfl
  | 1 => rfl
  | 2 => rfl
  | 3 => rfl

/-- The six-bit minimum of sub-block `j`, in row `s` of column `n`. -/
def minOf (V : Fin 12 → Vec F S1x32x256 .i8) (j : Fin 8) (s : Fin 32) (n : Fin 256) : BitVec 8 :=
  M6 (fun i => V i (ix3 0 s n)) j.val

theorem vmin_apply (V : Fin 12 → Vec F S1x32x256 .i8) (j : Fin 8) (r : Fin 8) (n : Fin 256) (b : Fin 4) :
    vminByte (vmin V j) b (ix2 r n) = (minOf V j ⟨4 * r.val + b.val, by omega⟩ n).setWidth 32 := by
  rw [vminByte_apply]
  have h0 : ∀ i : Fin 12, (vmin0 (plane (V i)) (ix2 r n)).sshiftRight (8 * b.val) &&& 63#32 = (V i (ix3 0 ⟨4 * r.val + b.val, by omega⟩ n) &&& 63#8).setWidth 32 := by
    intro i; rw [← byteOf_plane (V i) r n b]; exact min0_byte _ b
  have h1 : ∀ i k : Fin 12, (vmin1 (plane (V i)) (plane (V k)) (ix2 r n)).sshiftRight (8 * b.val) &&& 63#32
      = (((V i (ix3 0 ⟨4 * r.val + b.val, by omega⟩ n) >>> 4) &&& 15#8) ||| ((V k (ix3 0 ⟨4 * r.val + b.val, by omega⟩ n) >>> 2) &&& 48#8)).setWidth 32 := by
    intro i k; rw [← byteOf_plane (V i) r n b, ← byteOf_plane (V k) r n b]; exact min1_byte _ _ b
  match j with
  | 0 => exact h0 4
  | 1 => exact h0 5
  | 2 => exact h0 6
  | 3 => exact h0 7
  | 4 => exact h1 8 4
  | 5 => exact h1 9 5
  | 6 => exact h1 10 6
  | 7 => exact h1 11 7

theorem inbs4 (t : Fin 2) (b : Fin 4) :
    ∀ a, S1x8x128.size a = 0 ∨ ![t.val, b.val, 0] a + ![1, 4, 1] a * (S1x8x128.size a - 1) < S2x32x128.size a := by
  revert t b; decide

/-- Two rows of tiles side by side. -/
def sideBySide (x0 x1 : FVec F S1x8x128 .f32) : FVec F S8x256 .f32 :=
  concatenate S8x256 1 [⟨S8x128, shapeCast S8x128 x0 shapeCasts_S1x8x128_S8x128⟩, ⟨S8x128, shapeCast S8x128 x1 shapeCasts_S1x8x128_S8x128⟩]
    concatenates_S8x128_S8x128_S8x256_d1

theorem sideBySide_apply (x0 x1 : FVec F S1x8x128 .f32) (r : Fin 8) (G : Fin 256 → F .f32)
    (h0 : ∀ l, x0 (ix3 0 r l) = G (lane 0 l)) (h1 : ∀ l, x1 (ix3 0 r l) = G (lane 1 l)) (n : Fin 256) :
    sideBySide x0 x1 (ix2 r n) = G n := by
  obtain ⟨t, l, rfl⟩ : ∃ t l, n = lane t l := ⟨⟨n.val / 128, by omega⟩, ⟨n.val % 128, by omega⟩, Fin.ext (by simp only [lane]; omega)⟩
  unfold sideBySide
  pointwise
  match t with
  | ⟨0, _⟩ =>
    have hlt : (lane 0 l).val < 128 := by have := l.isLt; simp [lane]
    have hl : ∀ p, (⟨(lane 0 l).val, p⟩ : Fin 128) = l := fun p => Fin.ext (by simp [lane])
    refine (dif_pos hlt).trans ?_
    exact (congrArg (fun q => x0 (ix3 0 r q)) (hl _)).trans (h0 l)
  | ⟨1, _⟩ =>
    have hlt : ¬ (lane 1 l).val < 128 := by have := l.isLt; simp [lane]
    have hl : ∀ p, (⟨(lane 1 l).val - 128, p⟩ : Fin 128) = l := fun p => Fin.ext (by simp [lane])
    refine (dif_neg hlt).trans ?_
    exact (congrArg (fun q => x1 (ix3 0 r q)) (hl _)).trans (h1 l)

/-- Every fourth row of the factors of the minima, from row `b`. -/
def dmrows (vw : View sig .tc .vmem S2x32x128 .f32) (v : Vec F S32x256 .i16) (b : Fin 4) : FVec F S8x256 .f32 :=
  sideBySide
    (vw.readCov (Val := Elt F) (dpieces v) { off := ![(0 : Fin 2).val, b.val, 0], size := S1x8x128.size, stride := ![1, 4, 1], inb := inbs4 0 b })
    (vw.readCov (Val := Elt F) (dpieces v) { off := ![(1 : Fin 2).val, b.val, 0], size := S1x8x128.size, stride := ![1, 4, 1], inb := inbs4 1 b })

theorem dmrows_apply (vw : View sig .tc .vmem S2x32x128 .f32) (v : Vec F S32x256 .i16) (b : Fin 4) (r : Fin 8) (n : Fin 256) :
    dmrows vw v b (ix2 r n) = factor v ⟨4 * r.val + b.val, by omega⟩ n :=
  sideBySide_apply _ _ r (factor v ⟨4 * r.val + b.val, by omega⟩) (fun l => dmload vw v 0 b _ r l) (fun l => dmload vw v 1 b _ r l) n

def rmtile (vw : View sig .tc .vmem S2x32x128 .f32) (V : Fin 12 → Vec F S1x32x256 .i8) (v : Vec F S32x256 .i16) (j : Fin 8) (b : Fin 4) : FVec F S8x256 .f32 :=
  shapeCast S8x256 (mulf (sitofp .f32 (vminByte (vmin V j) b)) (dmrows vw v b)) shapeCasts_S8x256_S8x256

/-- One scaled minimum. -/
def scaledMin (V : Fin 12 → Vec F S1x32x256 .i8) (v : Vec F S32x256 .i16) (j : Fin 8) (s : Fin 32) (n : Fin 256) : F .f32 :=
  FloatOps.mulf (FloatOps.sitofp .f32 ((minOf V j s n).setWidth 32)) (factor v s n)

theorem rmtile_apply (vw : View sig .tc .vmem S2x32x128 .f32) (V : Fin 12 → Vec F S1x32x256 .i8) (v : Vec F S32x256 .i16) (j : Fin 8) (b : Fin 4) (r : Fin 8) (n : Fin 256) :
    rmtile vw V v j b (ix2 r n) = scaledMin V v j ⟨4 * r.val + b.val, by omega⟩ n := by
  unfold rmtile
  pointwise
  rw [vmin_apply, dmrows_apply]
  rfl

theorem inb32 (j : Fin 8) (b : Fin 4) : ∀ a, ![32 * j.val + 8 * b.val, 0] a + S8x256.size a ≤ S256x256.size a := by
  revert j b; decide

def rp (w : Fin 8 → Fin 4 → FVec F S8x256 .f32) (j : Fin 8) (b : Fin 4) : View.Piece (Elt F) S256x256 .f32 :=
  ⟨Rect.unit (s := S256x256) ![32 * j.val + 8 * b.val, 0] S8x256.size (inb32 j b), w j b⟩

def pieces32 (w : Fin 8 → Fin 4 → FVec F S8x256 .f32) : List (View.Piece (Elt F) S256x256 .f32) :=
  [rp w 7 3, rp w 6 3, rp w 5 3, rp w 4 3, rp w 3 3, rp w 2 3, rp w 1 3, rp w 0 3,
   rp w 7 2, rp w 6 2, rp w 5 2, rp w 4 2, rp w 3 2, rp w 2 2, rp w 1 2, rp w 0 2,
   rp w 7 1, rp w 6 1, rp w 5 1, rp w 4 1, rp w 3 1, rp w 2 1, rp w 1 1, rp w 0 1,
   rp w 7 0, rp w 6 0, rp w 5 0, rp w 4 0, rp w 3 0, rp w 2 0, rp w 1 0, rp w 0 0]

/-- The row of the table that holds sub-block `j` of block `s`. -/
def rowOf (j : Fin 8) (s : Fin 32) : Fin 256 := ⟨32 * j.val + 8 * (s.val % 4) + s.val / 4, by omega⟩

theorem canon_pieces32 (w : Fin 8 → Fin 4 → FVec F S8x256 .f32) (q : Fin 256) (n : Fin 256) :
    View.canon (Val := Elt F) (pieces32 w) (ix2 q n) = w ⟨q.val / 32, by omega⟩ ⟨q.val % 32 / 8, by omega⟩ (ix2 ⟨q.val % 8, by omega⟩ n) := by
  refine View.canon_apply_of_pieces (Val := Elt F) (e := .f32) (S := S256x256)
    (fun i => w ⟨(i 0).val / 32, by have : (i 0).val < 256 := (i 0).isLt; omega⟩ ⟨(i 0).val % 32 / 8, by omega⟩ (ix2 ⟨(i 0).val % 8, by omega⟩ (i 1))) _ ?_ (ix2 q n) ?_
  · intro p hp x
    obtain ⟨j, b, rfl⟩ : ∃ j b, p = rp w j b := by
      simp only [pieces32, List.mem_cons, List.not_mem_nil, or_false] at hp
      rcases hp with h|h|h|h|h|h|h|h|h|h|h|h|h|h|h|h|h|h|h|h|h|h|h|h|h|h|h|h|h|h|h|h <;> exact ⟨_, _, h⟩
    have hx : (x 0).val < 8 := (x 0).isLt
    have k0 : ((rp w j b).1.emb x 0).val = 32 * j.val + 8 * b.val + (x 0).val := by
      show 32 * j.val + 8 * b.val + 1 * (x 0).val = _; omega
    have a0 : ∀ p, (⟨((rp w j b).1.emb x 0).val / 32, p⟩ : Fin 8) = j := fun p => Fin.ext (by show ((rp w j b).1.emb x 0).val / 32 = _; rw [k0]; omega)
    have a1 : ∀ p, (⟨((rp w j b).1.emb x 0).val % 32 / 8, p⟩ : Fin 4) = b := fun p => Fin.ext (by show ((rp w j b).1.emb x 0).val % 32 / 8 = _; rw [k0]; omega)
    show w j b x = w _ _ _
    rw [a0, a1]
    refine congrArg (w j b) ?_
    funext a
    match a with
    | ⟨0, _⟩ => exact Fin.ext (by show (x 0).val = ((rp w j b).1.emb x 0).val % 8; rw [k0]; omega)
    | ⟨1, _⟩ => exact Fin.ext (by show (x 1).val = 0 + 1 * (x 1).val; omega)
  · refine ⟨rp w ⟨q.val / 32, by omega⟩ ⟨q.val % 32 / 8, by omega⟩, ?_, ?_⟩
    · generalize (⟨q.val / 32, _⟩ : Fin 8) = j
      generalize (⟨q.val % 32 / 8, _⟩ : Fin 4) = b
      fin_cases j <;> fin_cases b <;> simp [pieces32]
    · refine (Rect.mem_set_unit (s := S256x256) (inb := inb32 _ _)).mpr fun a => ?_
      match a with
      | ⟨0, _⟩ => exact ⟨by show 32 * (q.val / 32) + 8 * (q.val % 32 / 8) ≤ q.val; omega, by show q.val < 32 * (q.val / 32) + 8 * (q.val % 32 / 8) + 8; omega⟩
      | ⟨1, _⟩ => exact ⟨Nat.zero_le _, by show n.val < 0 + 256; omega⟩

theorem rmload (vw : View sig .tc .vmem S256x256 .f32) (w : Fin 8 → Fin 4 → FVec F S8x256 .f32)
    (h : ∀ a, ![0, 0] a + S256x256.size a ≤ S256x256.size a) (q n : Fin 256) :
    vw.readCov (Val := Elt F) (pieces32 w) (Rect.unit (s := S256x256) ![0, 0] S256x256.size h).toLoadRect (ix2 q n)
      = w ⟨q.val / 32, by omega⟩ ⟨q.val % 32 / 8, by omega⟩ (ix2 ⟨q.val % 8, by omega⟩ n) := by
  rw [View.readCov_eq_canon', ← canon_pieces32 (F := F) w q n]
  refine congrArg _ ?_
  funext a
  match a with
  | ⟨0, _⟩ => exact Fin.ext (by show 0 + 1 * q.val = q.val; omega)
  | ⟨1, _⟩ => exact Fin.ext (by show 0 + 1 * n.val = n.val; omega)

end Cert.Step
end
-- ==== Proof.ASTile.lean ====
/- The activations' scales, spread over lanes; one step's term by the arrays it is made of. -/
module

public import proofs.«01_k».proof.Proof.RMTile

@[expose] public section

noncomputable section

namespace Cert.Step

open Idealize.ShloMosaic Idealize.SL.Sem Cert.KernelIdeal Cert.KernelIdeal.Gen

variable {F : FTy → Type} [FloatOps F]

theorem inbAS (s : Fin 32) : ∀ a, ![s.val, 0, 0] a + S1x40x128.size a ≤ S32x40x128.size a := by
  revert s; decide

theorem slicesAS (s : Fin 32) : S40x32.Slices ![0, s.val] S40x1 := by
  revert s; decide

theorem castsAS : S40x1.ShapeCasts S40x1 := by decide
theorem broadcastsAS : S40x1.Broadcasts S40x128 := by decide
theorem castsAS' : S40x128.ShapeCasts S1x40x128 := by decide

def astile (v : Vec F S40x32 .f32) (s : Fin 32) : FVec F S1x40x128 .f32 :=
  shapeCast S1x40x128 (broadcastTo S40x128 (shapeCast S40x1 (extractStridedSlice S40x1 ![0, s.val] v (slicesAS s)) castsAS) broadcastsAS) castsAS'

theorem astile_apply (v : Vec F S40x32 .f32) (s : Fin 32) (i : Fin 40) (l : Fin 128) : astile v s (ix3 0 i l) = v (ix2 i s) := by
  unfold astile
  pointwise

def asp (v : Vec F S40x32 .f32) (s : Fin 32) : View.Piece (Elt F) S32x40x128 .f32 :=
  ⟨Rect.unit (s := S32x40x128) ![s.val, 0, 0] S1x40x128.size (inbAS s), astile v s⟩

def aspieces (v : Vec F S40x32 .f32) : List (View.Piece (Elt F) S32x40x128 .f32) :=
  [asp v 31, asp v 30, asp v 29, asp v 28, asp v 27, asp v 26, asp v 25, asp v 24, asp v 23, asp v 22, asp v 21, asp v 20, asp v 19, asp v 18,
   asp v 17, asp v 16, asp v 15, asp v 14, asp v 13, asp v 12, asp v 11, asp v 10, asp v 9, asp v 8, asp v 7, asp v 6, asp v 5, asp v 4, asp v 3,
   asp v 2, asp v 1, asp v 0]

theorem canon_aspieces (v : Vec F S40x32 .f32) (s : Fin 32) (i : Fin 40) (l : Fin 128) :
    View.canon (Val := Elt F) (aspieces v) (ix3 s i l) = v (ix2 i s) := by
  refine View.canon_apply_of_pieces (Val := Elt F) (e := .f32) (S := S32x40x128) (fun j => v (ix2 (j 1) (j 0))) _ ?_ (ix3 s i l) ?_
  · intro p hp x
    obtain ⟨s', rfl⟩ : ∃ s, p = asp v s := by
      simp only [aspieces, List.mem_cons, List.not_mem_nil, or_false] at hp
      rcases hp with h|h|h|h|h|h|h|h|h|h|h|h|h|h|h|h|h|h|h|h|h|h|h|h|h|h|h|h|h|h|h|h <;> exact ⟨_, h⟩
    have e0 : (x 0).val = 0 := Nat.lt_one_iff.mp (x 0).isLt
    have k0 : (asp v s').1.emb x 0 = s' := Fin.ext (by show s'.val + 1 * (x 0).val = s'.val; omega)
    have k1 : (asp v s').1.emb x 1 = x 1 := Fin.ext (by show 0 + 1 * (x 1).val = (x 1).val; omega)
    have k : x = ix3 0 (x 1) (x 2) := by
      funext a
      match a with
      | ⟨0, _⟩ => exact Fin.ext e0
      | ⟨1, _⟩ => rfl
      | ⟨2, _⟩ => rfl
    show astile v s' x = v (ix2 _ _)
    rw [k0, k1]
    exact (congrArg (astile v s') k).trans (astile_apply v s' (x 1) (x 2))
  · refine ⟨asp v s, ?_, ?_⟩
    · fin_cases s <;> simp [aspieces]
    · refine (Rect.mem_set_unit (s := S32x40x128) (inb := inbAS s)).mpr fun a => ?_
      match a with
      | ⟨0, _⟩ => exact ⟨Nat.le_refl _, Nat.lt_succ_self _⟩
      | ⟨1, _⟩ => exact ⟨Nat.zero_le _, by show i.val < 0 + 40; omega⟩
      | ⟨2, _⟩ => exact ⟨Nat.zero_le _, by show l.val < 0 + 128; omega⟩

theorem asload (vw : View sig .tc .vmem S32x40x128 .f32) (v : Vec F S40x32 .f32) (s : Fin 32)
    (h : ∀ a, ![s.val, 0, 0] a + S1x40x128.size a ≤ S32x40x128.size a) (i : Fin 40) (l : Fin 128) :
    vw.readCov (Val := Elt F) (aspieces v) (Rect.unit (s := S32x40x128) ![s.val, 0, 0] S1x40x128.size h).toLoadRect (ix3 0 i l) = v (ix2 i s) := by
  rw [View.readCov_eq_canon', ← canon_aspieces v s i l]
  refine congrArg _ ?_
  funext a
  match a with
  | ⟨0, _⟩ => rfl
  | ⟨1, _⟩ => exact Fin.ext (by show 0 + 1 * i.val = i.val; omega)
  | ⟨2, _⟩ => exact Fin.ext (by show 0 + 1 * l.val = l.val; omega)

theorem scales_apply (m : Memref sig .tc .vmem S40x32 .f32) (hm : m.IsWhole) (x : Vec F S40x32 .f32)
    (h : ∀ a, ![0, 0] a + S40x32.size a ≤ S40x32.size a) :
    View.readAt (Elt F) m.view (Rect.unit (s := S40x32) ![0, 0] S40x32.size h).toLoadRect (hm.unread x) = x := by
  funext i
  rw [Memref.IsWhole.readAt_unread]
  refine congrArg x ?_
  funext a
  match a with
  | ⟨0, _⟩ => exact Fin.ext (by show 0 + 1 * (i 0).val = (i 0).val; omega)
  | ⟨1, _⟩ => exact Fin.ext (by show 0 + 1 * (i 1).val = (i 1).val; omega)

/-- One block's rows of a whole window of three axes. -/
theorem arow_apply (m : Memref sig .tc .vmem S32x40x256 .i8) (hm : m.IsWhole) (x : Vec F S32x40x256 .i8) (s : Fin 32)
    (h : ∀ a, ![s.val, 0, 0] a + S1x40x256.size a ≤ S32x40x256.size a) (i : Fin 40) (k : Fin 256) :
    View.readAt (Elt F) m.view (Rect.unit (s := S32x40x256) ![s.val, 0, 0] S1x40x256.size h).toLoadRect (hm.unread x) (ix3 0 i k) = x (ix3 s i k) := by
  rw [Memref.IsWhole.readAt_unread]
  refine congrArg x ?_
  funext a
  match a with
  | ⟨0, _⟩ => rfl
  | ⟨1, _⟩ => exact Fin.ext (by show 0 + 1 * i.val = i.val; omega)
  | ⟨2, _⟩ => exact Fin.ext (by show 0 + 1 * k.val = k.val; omega)

theorem srow_apply (m : Memref sig .tc .vmem S32x40x128 .f32) (hm : m.IsWhole) (x : Vec F S32x40x128 .f32) (s : Fin 32)
    (h : ∀ a, ![s.val, 0, 0] a + S1x40x128.size a ≤ S32x40x128.size a) (i : Fin 40) (k : Fin 128) :
    View.readAt (Elt F) m.view (Rect.unit (s := S32x40x128) ![s.val, 0, 0] S1x40x128.size h).toLoadRect (hm.unread x) (ix3 0 i k) = x (ix3 s i k) := by
  rw [Memref.IsWhole.readAt_unread]
  refine congrArg x ?_
  funext a
  match a with
  | ⟨0, _⟩ => rfl
  | ⟨1, _⟩ => exact Fin.ext (by show 0 + 1 * i.val = i.val; omega)
  | ⟨2, _⟩ => exact Fin.ext (by show 0 + 1 * k.val = k.val; omega)

theorem lrows_apply (m : Memref sig .tc .vmem S40x256 .f32) (hm : m.IsWhole) (x : Vec F S40x256 .f32)
    (h : ∀ a, ![0, 0] a + S40x256.size a ≤ S40x256.size a) :
    View.readAt (Elt F) m.view (Rect.unit (s := S40x256) ![0, 0] S40x256.size h).toLoadRect (hm.unread x) = x := by
  funext i
  rw [Memref.IsWhole.readAt_unread]
  refine congrArg x ?_
  funext a
  match a with
  | ⟨0, _⟩ => exact Fin.ext (by show 0 + 1 * (i 0).val = (i 0).val; omega)
  | ⟨1, _⟩ => exact Fin.ext (by show 0 + 1 * (i 1).val = (i 1).val; omega)

/-- The two nibbles of a byte. -/
def nib (q : BitVec 8) (h : Fin 2) : BitVec 8 :=
  match h with
  | 0 => q &&& 15#8
  | 1 => q >>> 4

theorem nib_lt (q : BitVec 8) (h : Fin 2) : (nib q h).toNat < 16 := by
  revert q h; decide +kernel

theorem seven_lt (q : BitVec 8) : (q &&& 7#8).toNat < 16 := by
  revert q; decide +kernel

/-- What block `s` adds to an element of the result. -/
def blockTerm (x0 : Vec Ideal S32x40x256 .i8) (x2 : Vec Ideal S256x32x128 .i8) (x3 : Vec Ideal S12x32x256 .i8) (x4 : Vec Ideal S32x256 .i16)
    (Sa : Fin 32 → Fin 40 → EReal) (s : Fin 32) (i : Fin 40) (n : Fin 256) : EReal :=
  term (fun k => x0 (ix3 s i k)) (fun h y => nib (x2 (ix3 n s y)) h) (fun h c => (six (F := Ideal) x3 s n h c >>> 3) &&& 7#8)
    (fun h c => six (F := Ideal) x3 s n h c &&& 7#8) (factor (F := Ideal) x4 s n) (Sa s i)

theorem step_block {acc : FVec Ideal S40x256 .f32} {w0 w1 : Vec Ideal S1x1x128x128 .i32}
    {h00 h01 h02 h03 l00 l01 l02 l03 h10 h11 h12 h13 l10 l11 l12 l13 : Vec Ideal S1x1x1x128 .i32}
    {a : Vec Ideal S1x40x256 .i8} {d0 d1 : Vec Ideal S1x1x128 .f32} {sa : Vec Ideal S1x40x128 .f32}
    (x0 : Vec Ideal S32x40x256 .i8) (x2 : Vec Ideal S256x32x128 .i8) (x3 : Vec Ideal S12x32x256 .i8) (x4 : Vec Ideal S32x256 .i16)
    (Sa : Fin 32 → Fin 40 → EReal) (s : Fin 32)
    (hw0 : ∀ y l, w0 (ix4 0 0 y l) = pairW (x2 (ix3 (lane 0 l) s y) &&& 15#8) (x2 (ix3 (lane 0 l) s y) >>> 4))
    (hw1 : ∀ y l, w1 (ix4 0 0 y l) = pairW (x2 (ix3 (lane 1 l) s y) &&& 15#8) (x2 (ix3 (lane 1 l) s y) >>> 4))
    (eh00 : ∀ l, h00 (ix4 0 0 0 l) = pairW ((six (F := Ideal) x3 s (lane 0 l) 0 0 >>> 3) &&& 7#8) ((six (F := Ideal) x3 s (lane 0 l) 1 0 >>> 3) &&& 7#8))
    (eh01 : ∀ l, h01 (ix4 0 0 0 l) = pairW ((six (F := Ideal) x3 s (lane 0 l) 0 1 >>> 3) &&& 7#8) ((six (F := Ideal) x3 s (lane 0 l) 1 1 >>> 3) &&& 7#8))
    (eh02 : ∀ l, h02 (ix4 0 0 0 l) = pairW ((six (F := Ideal) x3 s (lane 0 l) 0 2 >>> 3) &&& 7#8) ((six (F := Ideal) x3 s (lane 0 l) 1 2 >>> 3) &&& 7#8))
    (eh03 : ∀ l, h03 (ix4 0 0 0 l) = pairW ((six (F := Ideal) x3 s (lane 0 l) 0 3 >>> 3) &&& 7#8) ((six (F := Ideal) x3 s (lane 0 l) 1 3 >>> 3) &&& 7#8))
    (el00 : ∀ l, l00 (ix4 0 0 0 l) = pairW (six (F := Ideal) x3 s (lane 0 l) 0 0 &&& 7#8) (six (F := Ideal) x3 s (lane 0 l) 1 0 &&& 7#8))
    (el01 : ∀ l, l01 (ix4 0 0 0 l) = pairW (six (F := Ideal) x3 s (lane 0 l) 0 1 &&& 7#8) (six (F := Ideal) x3 s (lane 0 l) 1 1 &&& 7#8))
    (el02 : ∀ l, l02 (ix4 0 0 0 l) = pairW (six (F := Ideal) x3 s (lane 0 l) 0 2 &&& 7#8) (six (F := Ideal) x3 s (lane 0 l) 1 2 &&& 7#8))
    (el03 : ∀ l, l03 (ix4 0 0 0 l) = pairW (six (F := Ideal) x3 s (lane 0 l) 0 3 &&& 7#8) (six (F := Ideal) x3 s (lane 0 l) 1 3 &&& 7#8))
    (eh10 : ∀ l, h10 (ix4 0 0 0 l) = pairW ((six (F := Ideal) x3 s (lane 1 l) 0 0 >>> 3) &&& 7#8) ((six (F := Ideal) x3 s (lane 1 l) 1 0 >>> 3) &&& 7#8))
    (eh11 : ∀ l, h11 (ix4 0 0 0 l) = pairW ((six (F := Ideal) x3 s (lane 1 l) 0 1 >>> 3) &&& 7#8) ((six (F := Ideal) x3 s (lane 1 l) 1 1 >>> 3) &&& 7#8))
    (eh12 : ∀ l, h12 (ix4 0 0 0 l) = pairW ((six (F := Ideal) x3 s (lane 1 l) 0 2 >>> 3) &&& 7#8) ((six (F := Ideal) x3 s (lane 1 l) 1 2 >>> 3) &&& 7#8))
    (eh13 : ∀ l, h13 (ix4 0 0 0 l) = pairW ((six (F := Ideal) x3 s (lane 1 l) 0 3 >>> 3) &&& 7#8) ((six (F := Ideal) x3 s (lane 1 l) 1 3 >>> 3) &&& 7#8))
    (el10 : ∀ l, l10 (ix4 0 0 0 l) = pairW (six (F := Ideal) x3 s (lane 1 l) 0 0 &&& 7#8) (six (F := Ideal) x3 s (lane 1 l) 1 0 &&& 7#8))
    (el11 : ∀ l, l11 (ix4 0 0 0 l) = pairW (six (F := Ideal) x3 s (lane 1 l) 0 1 &&& 7#8) (six (F := Ideal) x3 s (lane 1 l) 1 1 &&& 7#8))
    (el12 : ∀ l, l12 (ix4 0 0 0 l) = pairW (six (F := Ideal) x3 s (lane 1 l) 0 2 &&& 7#8) (six (F := Ideal) x3 s (lane 1 l) 1 2 &&& 7#8))
    (el13 : ∀ l, l13 (ix4 0 0 0 l) = pairW (six (F := Ideal) x3 s (lane 1 l) 0 3 &&& 7#8) (six (F := Ideal) x3 s (lane 1 l) 1 3 &&& 7#8))
    (ha : ∀ i k, a (ix3 0 i k) = x0 (ix3 s i k))
    (hd0 : ∀ l, d0 (ix3 0 0 l) = factor (F := Ideal) x4 s (lane 0 l)) (hd1 : ∀ l, d1 (ix3 0 0 l) = factor (F := Ideal) x4 s (lane 1 l))
    (hsa : ∀ i l, sa (ix3 0 i l) = Sa s i) (i : Fin 40) (n : Fin 256) :
    step acc w0 w1 h00 h01 h02 h03 l00 l01 l02 l03 h10 h11 h12 h13 l10 l11 l12 l13 a d0 d1 sa (ix2 i n)
      = acc (ix2 i n) + blockTerm x0 x2 x3 x4 Sa s i n :=
  step_apply acc w0 w1 h00 h01 h02 h03 l00 l01 l02 l03 h10 h11 h12 h13 l10 l11 l12 l13 a d0 d1 sa
    (fun i k => x0 (ix3 s i k)) (fun n h y => nib (x2 (ix3 n s y)) h) (fun n h c => (six (F := Ideal) x3 s n h c >>> 3) &&& 7#8)
    (fun n h c => six (F := Ideal) x3 s n h c &&& 7#8) (factor (F := Ideal) x4 s) (Sa s)
    (fun _ h _ => nib_lt _ h) (fun _ _ _ => seven_lt _) (fun _ _ _ => seven_lt _)
    hw0 hw1 eh00 eh01 eh02 eh03 el00 el01 el02 el03 eh10 eh11 eh12 eh13 el10 el11 el12 el13 ha hd0 hd1 hsa i n

end Cert.Step
end
-- ==== Proof.BridgeA.lean ====
/- Case A of the kernel body: each running sum is `step` of the one before and of what is loaded. -/
module

public import proofs.«01_k».proof.Proof.Step

@[expose] public section

noncomputable section

namespace Cert.Step

open Idealize.ShloMosaic Idealize.SL.Sem Cert.KernelIdeal Cert.KernelIdeal.Gen Cert.KernelIdeal.Gen.kernelRun0_A.sl

variable {F : FTy → Type} [FloatOps F] (c : Dev nD)
  (b1 : Memref sig Kind.tc Space.vmem S32x40x256 EltTy.i8) (hb1 : b1.IsWhole)
  (b2 : Memref sig Kind.tc Space.vmem S40x32 EltTy.f32) (hb2 : b2.IsWhole)
  (b3 : Memref sig Kind.tc Space.vmem S256x32x128 EltTy.i8) (hb3 : b3.IsWhole)
  (b4 : Memref sig Kind.tc Space.vmem S12x32x256 EltTy.i8) (hb4 : b4.IsWhole)
  (b5 : Memref sig Kind.tc Space.vmem S32x256 EltTy.i16) (hb5 : b5.IsWhole)
  (b6 : Memref sig Kind.tc Space.vmem S32x256 EltTy.i16) (hb6 : b6.IsWhole)
  (b7 : Memref sig Kind.tc Space.vmem S40x256 EltTy.f32) (hb7 : b7.IsWhole)
  (b8 : Memref sig Kind.tc Space.vmem S32x40x128 EltTy.f32) (hb8 : b8.IsWhole)
  (b9 : Memref sig Kind.tc Space.vmem S40x256 EltTy.f32) (hb9 : b9.IsWhole)
  (b10 : Memref sig Kind.tc Space.vmem S2x2x512x128 EltTy.i32) (hb10 : b10.IsWhole)
  (b11 : Memref sig Kind.tc Space.vmem S4x4x8x256 EltTy.i32) (hb11 : b11.IsWhole)
  (b12 : Memref sig Kind.tc Space.vmem S4x4x8x256 EltTy.i32) (hb12 : b12.IsWhole)
  (b13 : Memref sig Kind.tc Space.vmem S2x32x128 EltTy.f32) (hb13 : b13.IsWhole)
  (b14 : Memref sig Kind.tc Space.vmem S2x32x128 EltTy.f32) (hb14 : b14.IsWhole)
  (b15 : Memref sig Kind.tc Space.vmem S256x256 EltTy.f32) (hb15 : b15.IsWhole)
  (x0 : Vec F S32x40x256 .i8) (x1 : Vec F S40x32 .f32) (x2 : Vec F S256x32x128 .i8) (x3 : Vec F S12x32x256 .i8) (x4 : Vec F S32x256 .i16) (x5 : Vec F S32x256 .i16) (xs0 : Vec F S32x40x128 .f32) (xs1 : Vec F S40x256 .f32)

/-- Row block `s` of the codes. -/
abbrev rowA (s : Fin 32) : Vec F S1x40x256 .i8 :=
  View.readAt (Elt F) b1.view (Rect.unit (s := S32x40x256) ![s.val, 0, 0] S1x40x256.size (by revert s; decide)).toLoadRect (hb1.unread x0)

/-- `step` of one block's loads, each load given as a function of the memory it reads. -/
abbrev stepOfA (acc : FVec F S40x256 .f32) (s : Fin 32)
    (w0 w1 : Dev nD → (b3 : Memref sig Kind.tc Space.vmem S256x32x128 EltTy.i8) → b3.IsWhole → Memref sig Kind.tc Space.vmem S2x2x512x128 EltTy.i32 → Vec F S256x32x128 .i8 → Vec F S1x1x128x128 .i32)
    (h0 h1 h2 h3 l0 l1 l2 l3 g0 g1 g2 g3 m0 m1 m2 m3 : Dev nD → (b4 : Memref sig Kind.tc Space.vmem S12x32x256 EltTy.i8) → b4.IsWhole → Memref sig Kind.tc Space.vmem S4x4x8x256 EltTy.i32 → Vec F S12x32x256 .i8 → Vec F S1x1x1x128 .i32)
    (d0 d1 : Dev nD → (b5 : Memref sig Kind.tc Space.vmem S32x256 EltTy.i16) → b5.IsWhole → Memref sig Kind.tc Space.vmem S2x32x128 EltTy.f32 → Vec F S32x256 .i16 → Vec F S1x1x128 .f32)
    (sa : Vec F S1x40x128 .f32) : FVec F S40x256 .f32 :=
  step acc (w0 c b3 hb3 b10 x2) (w1 c b3 hb3 b10 x2)
    (h0 c b4 hb4 b11 x3) (h1 c b4 hb4 b11 x3) (h2 c b4 hb4 b11 x3) (h3 c b4 hb4 b11 x3) (l0 c b4 hb4 b12 x3) (l1 c b4 hb4 b12 x3) (l2 c b4 hb4 b12 x3) (l3 c b4 hb4 b12 x3)
    (g0 c b4 hb4 b11 x3) (g1 c b4 hb4 b11 x3) (g2 c b4 hb4 b11 x3) (g3 c b4 hb4 b11 x3) (m0 c b4 hb4 b12 x3) (m1 c b4 hb4 b12 x3) (m2 c b4 hb4 b12 x3) (m3 c b4 hb4 b12 x3)
    (rowA b1 hb1 x0 s) (d0 c b5 hb5 b13 x4) (d1 c b5 hb5 b13 x4) sa

theorem stepA_0 : (r_65 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_44 c b1 hb1 b2 hb2 b4 hb4 b6 hb6 b8 b9 b14 b15 x0 x1 x3 x5) 0 v909 v993 v915 v935 v955 v975 v923 v943 v963 v983 v999 v1019 v1039 v1059 v1007 v1027 v1047 v1067 v1087 v1089 (v7439 c b2 hb2 b8 x1) := rfl

theorem stepA_1 : (r_85 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_65 c b1 hb1 b2 hb2 b3 hb3 b4 hb4 b5 hb5 b6 hb6 b8 b9 b10 b11 b12 b13 b14 b15 x0 x1 x2 x3 x4 x5) 1 v1099 v1183 v1105 v1125 v1145 v1165 v1113 v1133 v1153 v1173 v1189 v1209 v1229 v1249 v1197 v1217 v1237 v1257 v1277 v1279 (v7450 c b2 hb2 b8 x1) := rfl

theorem stepA_2 : (r_105 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_85 c b1 hb1 b2 hb2 b3 hb3 b4 hb4 b5 hb5 b6 hb6 b8 b9 b10 b11 b12 b13 b14 b15 x0 x1 x2 x3 x4 x5) 2 v1289 v1373 v1295 v1315 v1335 v1355 v1303 v1323 v1343 v1363 v1379 v1399 v1419 v1439 v1387 v1407 v1427 v1447 v1467 v1469 (v7461 c b2 hb2 b8 x1) := rfl

theorem stepA_3 : (r_127 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_105 c b1 hb1 b2 hb2 b3 hb3 b4 hb4 b5 hb5 b6 hb6 b8 b9 b10 b11 b12 b13 b14 b15 x0 x1 x2 x3 x4 x5) 3 v1479 v1563 v1485 v1505 v1525 v1545 v1493 v1513 v1533 v1553 v1569 v1589 v1609 v1629 v1577 v1597 v1617 v1637 v1657 v1659 (v7472 c b2 hb2 b8 x1) := rfl

theorem stepA_4 : (r_150 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_127 c b1 hb1 b2 hb2 b3 hb3 b4 hb4 b5 hb5 b6 hb6 b8 b9 b10 b11 b12 b13 b14 b15 x0 x1 x2 x3 x4 x5) 4 v1692 v1776 v1698 v1718 v1738 v1758 v1706 v1726 v1746 v1766 v1782 v1802 v1822 v1842 v1790 v1810 v1830 v1850 v1870 v1872 (v7483 c b2 hb2 b8 x1) := rfl

theorem stepA_5 : (r_171 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_150 c b1 hb1 b2 hb2 b3 hb3 b4 hb4 b5 hb5 b6 hb6 b8 b9 b10 b11 b12 b13 b14 b15 x0 x1 x2 x3 x4 x5) 5 v1882 v1966 v1888 v1908 v1928 v1948 v1896 v1916 v1936 v1956 v1972 v1992 v2012 v2032 v1980 v2000 v2020 v2040 v2060 v2062 (v7494 c b2 hb2 b8 x1) := rfl

theorem stepA_6 : (r_192 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_171 c b1 hb1 b2 hb2 b3 hb3 b4 hb4 b5 hb5 b6 hb6 b8 b9 b10 b11 b12 b13 b14 b15 x0 x1 x2 x3 x4 x5) 6 v2072 v2156 v2078 v2098 v2118 v2138 v2086 v2106 v2126 v2146 v2162 v2182 v2202 v2222 v2170 v2190 v2210 v2230 v2250 v2252 (v7505 c b2 hb2 b8 x1) := rfl

theorem stepA_7 : (r_213 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_192 c b1 hb1 b2 hb2 b3 hb3 b4 hb4 b5 hb5 b6 hb6 b8 b9 b10 b11 b12 b13 b14 b15 x0 x1 x2 x3 x4 x5) 7 v2262 v2346 v2268 v2288 v2308 v2328 v2276 v2296 v2316 v2336 v2352 v2372 v2392 v2412 v2360 v2380 v2400 v2420 v2440 v2442 (v7516 c b2 hb2 b8 x1) := rfl

theorem stepA_8 : (r_239 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_213 c b1 hb1 b2 hb2 b3 hb3 b4 hb4 b5 hb5 b6 hb6 b8 b9 b10 b11 b12 b13 b14 b15 x0 x1 x2 x3 x4 x5) 8 v2475 v2559 v2481 v2501 v2521 v2541 v2489 v2509 v2529 v2549 v2565 v2585 v2605 v2625 v2573 v2593 v2613 v2633 v2653 v2655 (v7527 c b2 hb2 b8 x1) := rfl

theorem stepA_9 : (r_264 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_239 c b1 hb1 b2 hb2 b3 hb3 b4 hb4 b5 hb5 b6 hb6 b8 b9 b10 b11 b12 b13 b14 b15 x0 x1 x2 x3 x4 x5) 9 v2665 v2749 v2671 v2691 v2711 v2731 v2679 v2699 v2719 v2739 v2755 v2775 v2795 v2815 v2763 v2783 v2803 v2823 v2843 v2845 (v7538 c b2 hb2 b8 x1) := rfl

theorem stepA_10 : (r_289 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_264 c b1 hb1 b2 hb2 b3 hb3 b4 hb4 b5 hb5 b6 hb6 b8 b9 b10 b11 b12 b13 b14 b15 x0 x1 x2 x3 x4 x5) 10 v2855 v2939 v2861 v2881 v2901 v2921 v2869 v2889 v2909 v2929 v2945 v2965 v2985 v3005 v2953 v2973 v2993 v3013 v3033 v3035 (v7549 c b2 hb2 b8 x1) := rfl

theorem stepA_11 : (r_313 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_289 c b1 hb1 b2 hb2 b3 hb3 b4 hb4 b5 hb5 b6 hb6 b8 b9 b10 b11 b12 b13 b14 b15 x0 x1 x2 x3 x4 x5) 11 v3045 v3129 v3051 v3071 v3091 v3111 v3059 v3079 v3099 v3119 v3135 v3155 v3175 v3195 v3143 v3163 v3183 v3203 v3223 v3225 (v7560 c b2 hb2 b8 x1) := rfl

theorem stepA_12 : (r_334 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_313 c b1 hb1 b2 hb2 b3 hb3 b4 hb4 b5 hb5 b6 hb6 b8 b9 b10 b11 b12 b13 b14 b15 x0 x1 x2 x3 x4 x5) 12 v3258 v3342 v3264 v3284 v3304 v3324 v3272 v3292 v3312 v3332 v3348 v3368 v3388 v3408 v3356 v3376 v3396 v3416 v3436 v3438 (v7571 c b2 hb2 b8 x1) := rfl

theorem stepA_13 : (r_355 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_334 c b1 hb1 b2 hb2 b3 hb3 b4 hb4 b5 hb5 b6 hb6 b8 b9 b10 b11 b12 b13 b14 b15 x0 x1 x2 x3 x4 x5) 13 v3448 v3532 v3454 v3474 v3494 v3514 v3462 v3482 v3502 v3522 v3538 v3558 v3578 v3598 v3546 v3566 v3586 v3606 v3626 v3628 (v7582 c b2 hb2 b8 x1) := rfl

theorem stepA_14 : (r_375 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_355 c b1 hb1 b2 hb2 b3 hb3 b4 hb4 b5 hb5 b6 hb6 b8 b9 b10 b11 b12 b13 b14 b15 x0 x1 x2 x3 x4 x5) 14 v3638 v3722 v3644 v3664 v3684 v3704 v3652 v3672 v3692 v3712 v3728 v3748 v3768 v3788 v3736 v3756 v3776 v3796 v3816 v3818 (v7593 c b2 hb2 b8 x1) := rfl

theorem stepA_15 : (r_397 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_375 c b1 hb1 b2 hb2 b3 hb3 b4 hb4 b5 hb5 b6 hb6 b8 b9 b10 b11 b12 b13 b14 b15 x0 x1 x2 x3 x4 x5) 15 v3828 v3912 v3834 v3854 v3874 v3894 v3842 v3862 v3882 v3902 v3918 v3938 v3958 v3978 v3926 v3946 v3966 v3986 v4006 v4008 (v7604 c b2 hb2 b8 x1) := rfl

theorem stepA_16 : (r_421 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_397 c b1 hb1 b2 hb2 b3 hb3 b4 hb4 b5 hb5 b6 hb6 b8 b9 b10 b11 b12 b13 b14 b15 x0 x1 x2 x3 x4 x5) 16 v4041 v4125 v4047 v4067 v4087 v4107 v4055 v4075 v4095 v4115 v4131 v4151 v4171 v4191 v4139 v4159 v4179 v4199 v4219 v4221 (v7615 c b2 hb2 b8 x1) := rfl

theorem stepA_17 : (r_443 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_421 c b1 hb1 b2 hb2 b3 hb3 b4 hb4 b5 hb5 b6 hb6 b8 b9 b10 b11 b12 b13 b14 b15 x0 x1 x2 x3 x4 x5) 17 v4231 v4315 v4237 v4257 v4277 v4297 v4245 v4265 v4285 v4305 v4321 v4341 v4361 v4381 v4329 v4349 v4369 v4389 v4409 v4411 (v7626 c b2 hb2 b8 x1) := rfl

theorem stepA_18 : (r_464 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_443 c b1 hb1 b2 hb2 b3 hb3 b4 hb4 b5 hb5 b6 hb6 b8 b9 b10 b11 b12 b13 b14 b15 x0 x1 x2 x3 x4 x5) 18 v4421 v4505 v4427 v4447 v4467 v4487 v4435 v4455 v4475 v4495 v4511 v4531 v4551 v4571 v4519 v4539 v4559 v4579 v4599 v4601 (v7637 c b2 hb2 b8 x1) := rfl

theorem stepA_19 : (r_484 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_464 c b1 hb1 b2 hb2 b3 hb3 b4 hb4 b5 hb5 b6 hb6 b8 b9 b10 b11 b12 b13 b14 b15 x0 x1 x2 x3 x4 x5) 19 v4611 v4695 v4617 v4637 v4657 v4677 v4625 v4645 v4665 v4685 v4701 v4721 v4741 v4761 v4709 v4729 v4749 v4769 v4789 v4791 (v7648 c b2 hb2 b8 x1) := rfl

theorem stepA_20 : (r_510 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_484 c b1 hb1 b2 hb2 b3 hb3 b4 hb4 b5 hb5 b6 hb6 b8 b9 b10 b11 b12 b13 b14 b15 x0 x1 x2 x3 x4 x5) 20 v4824 v4908 v4830 v4850 v4870 v4890 v4838 v4858 v4878 v4898 v4914 v4934 v4954 v4974 v4922 v4942 v4962 v4982 v5002 v5004 (v7659 c b2 hb2 b8 x1) := rfl

theorem stepA_21 : (r_534 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_510 c b1 hb1 b2 hb2 b3 hb3 b4 hb4 b5 hb5 b6 hb6 b8 b9 b10 b11 b12 b13 b14 b15 x0 x1 x2 x3 x4 x5) 21 v5014 v5098 v5020 v5040 v5060 v5080 v5028 v5048 v5068 v5088 v5104 v5124 v5144 v5164 v5112 v5132 v5152 v5172 v5192 v5194 (v7670 c b2 hb2 b8 x1) := rfl

theorem stepA_22 : (r_557 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_534 c b1 hb1 b2 hb2 b3 hb3 b4 hb4 b5 hb5 b6 hb6 b8 b9 b10 b11 b12 b13 b14 b15 x0 x1 x2 x3 x4 x5) 22 v5204 v5288 v5210 v5230 v5250 v5270 v5218 v5238 v5258 v5278 v5294 v5314 v5334 v5354 v5302 v5322 v5342 v5362 v5382 v5384 (v7681 c b2 hb2 b8 x1) := rfl

theorem stepA_23 : (r_579 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_557 c b1 hb1 b2 hb2 b3 hb3 b4 hb4 b5 hb5 b6 hb6 b8 b9 b10 b11 b12 b13 b14 b15 x0 x1 x2 x3 x4 x5) 23 v5394 v5478 v5400 v5420 v5440 v5460 v5408 v5428 v5448 v5468 v5484 v5504 v5524 v5544 v5492 v5512 v5532 v5552 v5572 v5574 (v7692 c b2 hb2 b8 x1) := rfl

theorem stepA_24 : (r_604 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_579 c b1 hb1 b2 hb2 b3 hb3 b4 hb4 b5 hb5 b6 hb6 b8 b9 b10 b11 b12 b13 b14 b15 x0 x1 x2 x3 x4 x5) 24 v5607 v5691 v5613 v5633 v5653 v5673 v5621 v5641 v5661 v5681 v5697 v5717 v5737 v5757 v5705 v5725 v5745 v5765 v5785 v5787 (v7703 c b2 hb2 b8 x1) := rfl

theorem stepA_25 : (r_628 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_604 c b1 hb1 b2 hb2 b3 hb3 b4 hb4 b5 hb5 b6 hb6 b8 b9 b10 b11 b12 b13 b14 b15 x0 x1 x2 x3 x4 x5) 25 v5797 v5881 v5803 v5823 v5843 v5863 v5811 v5831 v5851 v5871 v5887 v5907 v5927 v5947 v5895 v5915 v5935 v5955 v5975 v5977 (v7714 c b2 hb2 b8 x1) := rfl

theorem stepA_26 : (r_652 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_628 c b1 hb1 b2 hb2 b3 hb3 b4 hb4 b5 hb5 b6 hb6 b8 b9 b10 b11 b12 b13 b14 b15 x0 x1 x2 x3 x4 x5) 26 v5987 v6071 v5993 v6013 v6033 v6053 v6001 v6021 v6041 v6061 v6077 v6097 v6117 v6137 v6085 v6105 v6125 v6145 v6165 v6167 (v7725 c b2 hb2 b8 x1) := rfl

theorem stepA_27 : (r_676 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_652 c b1 hb1 b2 hb2 b3 hb3 b4 hb4 b5 hb5 b6 hb6 b8 b9 b10 b11 b12 b13 b14 b15 x0 x1 x2 x3 x4 x5) 27 v6177 v6261 v6183 v6203 v6223 v6243 v6191 v6211 v6231 v6251 v6267 v6287 v6307 v6327 v6275 v6295 v6315 v6335 v6355 v6357 (v7736 c b2 hb2 b8 x1) := rfl

theorem stepA_28 : (r_699 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_676 c b1 hb1 b2 hb2 b3 hb3 b4 hb4 b5 hb5 b6 hb6 b8 b9 b10 b11 b12 b13 b14 b15 x0 x1 x2 x3 x4 x5) 28 v6390 v6474 v6396 v6416 v6436 v6456 v6404 v6424 v6444 v6464 v6480 v6500 v6520 v6540 v6488 v6508 v6528 v6548 v6568 v6570 (v7747 c b2 hb2 b8 x1) := rfl

theorem stepA_29 : (r_722 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_699 c b1 hb1 b2 hb2 b3 hb3 b4 hb4 b5 hb5 b6 hb6 b8 b9 b10 b11 b12 b13 b14 b15 x0 x1 x2 x3 x4 x5) 29 v6580 v6664 v6586 v6606 v6626 v6646 v6594 v6614 v6634 v6654 v6670 v6690 v6710 v6730 v6678 v6698 v6718 v6738 v6758 v6760 (v7758 c b2 hb2 b8 x1) := rfl

theorem stepA_30 : (r_744 c b1 hb1 b2 hb2 b3 hb3 b4 hb4 b5 hb5 b6 hb6 b8 b9 b10 b11 b12 b13 b14 b15 x0 x1 x2 x3 x4 x5) =
    stepOfA c b1 hb1 b3 hb3 b4 hb4 b5 hb5 b10 b11 b12 b13 x0 x2 x3 x4 (r_722 c b1 hb1 b2 hb2 b3 hb3 b4 hb4 b5 hb5 b6 hb6 b8 b9 b10 b11 b12 b13 b14 b15 x0 x1 x2 x3 x4 x5) 30 v6770 v6854 v6776 v6796 v6816 v6836 v6784 v6804 v6824 v6844 v6860 v6880 v6900 v6920 v6868 v6888 v6908 v6928 v6948 v6950 (v7769 c b2 hb2 b8 x1) := rfl

theorem stepA_31 : (k0_pay1099 (r_744 c b1 hb1 b2 hb2 b3 hb3 b4 hb4 b5 hb5 b6 hb6 b8 b9 b10 b11 b12 b13 b14 b15 x0 x1 x2 x3 x4 x5) (r_752 c b3 hb3 b4 hb4 b10 b11 x2 x3) (r_753 c b3 hb3 b4 hb4 b10 b12 x2 x3) (r_755 c b3 hb3 b4 hb4 b10 b11 x2 x3) (r_756 c b3 hb3 b4 hb4 b10 b12 x2 x3) (r_758 c b3 hb3 b4 hb4 b10 b11 x2 x3) (r_760 c b3 hb3 b4 hb4 b10 b12 x2 x3) (r_761 c b3 hb3 b4 hb4 b10 b11 x2 x3) (r_762 c b3 hb3 b4 hb4 b10 b12 x2 x3) (r_763 c b3 hb3 b10 x2) (r_764 c b3 hb3 b4 hb4 b10 b11 x2 x3) (r_765 c b4 hb4 b12 x3) (View.readAt (Elt F) b1.view (Rect.unit (s := S32x40x256) ![31, 0, 0] S1x40x256.size inb_S32x40x256_S1x40x256_31_0_0).toLoadRect (hb1.unread x0)) (v7138 c b5 hb5 b13 x4) (v7140 c b5 hb5 b13 x4) (v7780 c b2 hb2 b8 x1)) =
    stepOfA c b1 hb1 b3 hb3 b4 hb4 b5 hb5 b10 b11 b12 b13 x0 x2 x3 x4 (r_744 c b1 hb1 b2 hb2 b3 hb3 b4 hb4 b5 hb5 b6 hb6 b8 b9 b10 b11 b12 b13 b14 b15 x0 x1 x2 x3 x4 x5) 31 v6960 v7044 v6966 v6986 v7006 v7026 v6974 v6994 v7014 v7034 v7050 v7070 v7090 v7110 v7058 v7078 v7098 v7118 v7138 v7140 (v7780 c b2 hb2 b8 x1) := rfl

end Cert.Step
end
-- ==== Proof.LoadsA.lean ====
/- Case A of the kernel body: each block adds its term to an element of the running sum. -/
module

public import proofs.«01_k».proof.Proof.ASTile
public import proofs.«01_k».proof.Proof.BridgeA

@[expose] public section

noncomputable section

namespace Cert.Step

open Idealize.ShloMosaic Idealize.SL.Sem Cert.KernelIdeal Cert.KernelIdeal.Gen Cert.KernelIdeal.Gen.kernelRun0_A.sl

variable {F : FTy → Type} [FloatOps F] (c : Dev nD)
  (b1 : Memref sig Kind.tc Space.vmem S32x40x256 EltTy.i8) (hb1 : b1.IsWhole)
  (b2 : Memref sig Kind.tc Space.vmem S40x32 EltTy.f32) (hb2 : b2.IsWhole)
  (b3 : Memref sig Kind.tc Space.vmem S256x32x128 EltTy.i8) (hb3 : b3.IsWhole)
  (b4 : Memref sig Kind.tc Space.vmem S12x32x256 EltTy.i8) (hb4 : b4.IsWhole)
  (b5 : Memref sig Kind.tc Space.vmem S32x256 EltTy.i16) (hb5 : b5.IsWhole)
  (b6 : Memref sig Kind.tc Space.vmem S32x256 EltTy.i16) (hb6 : b6.IsWhole)
  (b7 : Memref sig Kind.tc Space.vmem S40x256 EltTy.f32) (hb7 : b7.IsWhole)
  (b8 : Memref sig Kind.tc Space.vmem S32x40x128 EltTy.f32) (hb8 : b8.IsWhole)
  (b9 : Memref sig Kind.tc Space.vmem S40x256 EltTy.f32) (hb9 : b9.IsWhole)
  (b10 : Memref sig Kind.tc Space.vmem S2x2x512x128 EltTy.i32) (hb10 : b10.IsWhole)
  (b11 : Memref sig Kind.tc Space.vmem S4x4x8x256 EltTy.i32) (hb11 : b11.IsWhole)
  (b12 : Memref sig Kind.tc Space.vmem S4x4x8x256 EltTy.i32) (hb12 : b12.IsWhole)
  (b13 : Memref sig Kind.tc Space.vmem S2x32x128 EltTy.f32) (hb13 : b13.IsWhole)
  (b14 : Memref sig Kind.tc Space.vmem S2x32x128 EltTy.f32) (hb14 : b14.IsWhole)
  (b15 : Memref sig Kind.tc Space.vmem S256x256 EltTy.f32) (hb15 : b15.IsWhole)
  (x0 : Vec F S32x40x256 .i8) (x1 : Vec F S40x32 .f32) (x2 : Vec F S256x32x128 .i8) (x3 : Vec F S12x32x256 .i8) (x4 : Vec F S32x256 .i16) (x5 : Vec F S32x256 .i16) (xs0 : Vec F S32x40x128 .f32) (xs1 : Vec F S40x256 .f32)

abbrev d5A := View.readAt (Elt F) b5.view (Rect.unit (s := S32x256) ![0, 0] S32x256.size inb_S32x256_S32x256_0_0).toLoadRect (hb5.unread x4)
abbrev d6A := View.readAt (Elt F) b6.view (Rect.unit (s := S32x256) ![0, 0] S32x256.size inb_S32x256_S32x256_0_0).toLoadRect (hb6.unread x5)

theorem highTileA : (HS3_16 c b4 hb4 x3) = pieces16 (highTile (planes b4 hb4 x3)) := rfl
theorem lowTileA : (HS4_16 c b4 hb4 x3) = pieces16 (lowTile (planes b4 hb4 x3)) := rfl
theorem dpiecesA : (HS5_4 c b5 hb5 x4) = dpieces (d5A b5 hb5 x4) := rfl
theorem dmpiecesA : (HS6_4 c b6 hb6 x5) = dpieces (d6A b6 hb6 x5) := rfl
theorem rmpiecesA : (HS7_32 c b4 hb4 b6 hb6 b14 x3 x5) = pieces32 (rmtile b14.view (planes b4 hb4 x3) (d6A b6 hb6 x5)) := rfl

theorem highA (q b : Fin 4) (r : Fin 8) (t : Fin 2) (h : ∀ a, ![q.val, b.val, r.val, 128 * t.val] a + S1x1x1x128.size a ≤ S4x4x8x256.size a) (l : Fin 128) :
    b11.view.readCov (Val := Elt F) (HS3_16 c b4 hb4 x3) (Rect.unit (s := S4x4x8x256) ![q.val, b.val, r.val, 128 * t.val] S1x1x1x128.size h).toLoadRect (ix4 0 0 0 l)
      = pairW ((six x3 ⟨4 * r.val + b.val, by omega⟩ (lane t l) 0 q >>> 3) &&& 7#8) ((six x3 ⟨4 * r.val + b.val, by omega⟩ (lane t l) 1 q >>> 3) &&& 7#8) := by
  rw [highTileA]
  refine (sixload b11.view (highTile (planes b4 hb4 x3)) q b r t h l).trans ((highTile_apply (planes b4 hb4 x3) q b r (lane t l)).trans ?_)
  rw [sixOf_planes, sixOf_planes]

theorem lowA (q b : Fin 4) (r : Fin 8) (t : Fin 2) (h : ∀ a, ![q.val, b.val, r.val, 128 * t.val] a + S1x1x1x128.size a ≤ S4x4x8x256.size a) (l : Fin 128) :
    b12.view.readCov (Val := Elt F) (HS4_16 c b4 hb4 x3) (Rect.unit (s := S4x4x8x256) ![q.val, b.val, r.val, 128 * t.val] S1x1x1x128.size h).toLoadRect (ix4 0 0 0 l)
      = pairW (six x3 ⟨4 * r.val + b.val, by omega⟩ (lane t l) 0 q &&& 7#8) (six x3 ⟨4 * r.val + b.val, by omega⟩ (lane t l) 1 q &&& 7#8) := by
  rw [lowTileA]
  refine (sixload b12.view (lowTile (planes b4 hb4 x3)) q b r t h l).trans ((lowTile_apply (planes b4 hb4 x3) q b r (lane t l)).trans ?_)
  rw [sixOf_planes, sixOf_planes]

theorem factA (t : Fin 2) (s : Fin 32) (h : ∀ a, ![t.val, s.val, 0] a + S1x1x128.size a ≤ S2x32x128.size a) (l : Fin 128) :
    b13.view.readCov (Val := Elt F) (HS5_4 c b5 hb5 x4) (Rect.unit (s := S2x32x128) ![t.val, s.val, 0] S1x1x128.size h).toLoadRect (ix3 0 0 l)
      = factor x4 s (lane t l) := by
  rw [dpiecesA]
  exact (dload b13.view _ t s h l).trans (congrArg (fun v => factor v s (lane t l)) (rows16_apply b5 hb5 x4 _))

theorem wA_0 (t : Fin 2) (b : Fin 4) (h : ∀ a, S1x1x128x128.size a = 0 ∨ ![0, t.val, b.val, 0] a + ![1, 1, 4, 1] a * (S1x1x128x128.size a - 1) < S2x2x512x128.size a) (y l : Fin 128) :
    b10.view.readCov (Val := Elt F) (HS2_2 c b3 hb3 x2) { off := ![0, t.val, b.val, 0], size := S1x1x128x128.size, stride := ![1, 1, 4, 1], inb := h } (ix4 0 0 y l)
      = pairW (x2 (ix3 (lane t l) ⟨0 + b.val, by omega⟩ y) &&& 15#8) (x2 (ix3 (lane t l) ⟨0 + b.val, by omega⟩ y) >>> 4) :=
  (wload b10.view (View.readAt (Elt F) b3.view (Rect.unit (s := S256x32x128) ![0, 0, 0] S256x4x128.size inb_S256x32x128_S256x4x128_0_0_0).toLoadRect (hb3.unread x2))
    [] 0 _ _ slices_S512x256_o0_128_S512x128 slices_S512x256_o0_0_S512x128 t b h y l).trans
    (congrArg (fun q : BitVec 8 => pairW (q &&& 15#8) (q >>> 4)) (rows_apply b3 hb3 x2 0 inb_S256x32x128_S256x4x128_0_0_0 (lane t l) b y))

theorem wA_1 (t : Fin 2) (b : Fin 4) (h : ∀ a, S1x1x128x128.size a = 0 ∨ ![1, t.val, b.val, 0] a + ![1, 1, 4, 1] a * (S1x1x128x128.size a - 1) < S2x2x512x128.size a) (y l : Fin 128) :
    b10.view.readCov (Val := Elt F) (HS2_4 c b3 hb3 x2) { off := ![1, t.val, b.val, 0], size := S1x1x128x128.size, stride := ![1, 1, 4, 1], inb := h } (ix4 0 0 y l)
      = pairW (x2 (ix3 (lane t l) ⟨4 + b.val, by omega⟩ y) &&& 15#8) (x2 (ix3 (lane t l) ⟨4 + b.val, by omega⟩ y) >>> 4) :=
  (wload b10.view (View.readAt (Elt F) b3.view (Rect.unit (s := S256x32x128) ![0, 4, 0] S256x4x128.size inb_S256x32x128_S256x4x128_0_4_0).toLoadRect (hb3.unread x2))
    (HS2_2 c b3 hb3 x2) 1 _ _ slices_S512x256_o0_128_S512x128 slices_S512x256_o0_0_S512x128 t b h y l).trans
    (congrArg (fun q : BitVec 8 => pairW (q &&& 15#8) (q >>> 4)) (rows_apply b3 hb3 x2 1 inb_S256x32x128_S256x4x128_0_4_0 (lane t l) b y))

theorem wA_2 (t : Fin 2) (b : Fin 4) (h : ∀ a, S1x1x128x128.size a = 0 ∨ ![0, t.val, b.val, 0] a + ![1, 1, 4, 1] a * (S1x1x128x128.size a - 1) < S2x2x512x128.size a) (y l : Fin 128) :
    b10.view.readCov (Val := Elt F) (HS2_6 c b3 hb3 x2) { off := ![0, t.val, b.val, 0], size := S1x1x128x128.size, stride := ![1, 1, 4, 1], inb := h } (ix4 0 0 y l)
      = pairW (x2 (ix3 (lane t l) ⟨8 + b.val, by omega⟩ y) &&& 15#8) (x2 (ix3 (lane t l) ⟨8 + b.val, by omega⟩ y) >>> 4) :=
  (wload b10.view (View.readAt (Elt F) b3.view (Rect.unit (s := S256x32x128) ![0, 8, 0] S256x4x128.size inb_S256x32x128_S256x4x128_0_8_0).toLoadRect (hb3.unread x2))
    (HS2_4 c b3 hb3 x2) 0 _ _ slices_S512x256_o0_128_S512x128 slices_S512x256_o0_0_S512x128 t b h y l).trans
    (congrArg (fun q : BitVec 8 => pairW (q &&& 15#8) (q >>> 4)) (rows_apply b3 hb3 x2 2 inb_S256x32x128_S256x4x128_0_8_0 (lane t l) b y))

theorem wA_3 (t : Fin 2) (b : Fin 4) (h : ∀ a, S1x1x128x128.size a = 0 ∨ ![1, t.val, b.val, 0] a + ![1, 1, 4, 1] a * (S1x1x128x128.size a - 1) < S2x2x512x128.size a) (y l : Fin 128) :
    b10.view.readCov (Val := Elt F) (HS2_8 c b3 hb3 x2) { off := ![1, t.val, b.val, 0], size := S1x1x128x128.size, stride := ![1, 1, 4, 1], inb := h } (ix4 0 0 y l)
      = pairW (x2 (ix3 (lane t l) ⟨12 + b.val, by omega⟩ y) &&& 15#8) (x2 (ix3 (lane t l) ⟨12 + b.val, by omega⟩ y) >>> 4) :=
  (wload b10.view (View.readAt (Elt F) b3.view (Rect.unit (s := S256x32x128) ![0, 12, 0] S256x4x128.size inb_S256x32x128_S256x4x128_0_12_0).toLoadRect (hb3.unread x2))
    (HS2_6 c b3 hb3 x2) 1 _ _ slices_S512x256_o0_128_S512x128 slices_S512x256_o0_0_S512x128 t b h y l).trans
    (congrArg (fun q : BitVec 8 => pairW (q &&& 15#8) (q >>> 4)) (rows_apply b3 hb3 x2 3 inb_S256x32x128_S256x4x128_0_12_0 (lane t l) b y))

theorem wA_4 (t : Fin 2) (b : Fin 4) (h : ∀ a, S1x1x128x128.size a = 0 ∨ ![0, t.val, b.val, 0] a + ![1, 1, 4, 1] a * (S1x1x128x128.size a - 1) < S2x2x512x128.size a) (y l : Fin 128) :
    b10.view.readCov (Val := Elt F) (HS2_10 c b3 hb3 x2) { off := ![0, t.val, b.val, 0], size := S1x1x128x128.size, stride := ![1, 1, 4, 1], inb := h } (ix4 0 0 y l)
      = pairW (x2 (ix3 (lane t l) ⟨16 + b.val, by omega⟩ y) &&& 15#8) (x2 (ix3 (lane t l) ⟨16 + b.val, by omega⟩ y) >>> 4) :=
  (wload b10.view (View.readAt (Elt F) b3.view (Rect.unit (s := S256x32x128) ![0, 16, 0] S256x4x128.size inb_S256x32x128_S256x4x128_0_16_0).toLoadRect (hb3.unread x2))
    (HS2_8 c b3 hb3 x2) 0 _ _ slices_S512x256_o0_128_S512x128 slices_S512x256_o0_0_S512x128 t b h y l).trans
    (congrArg (fun q : BitVec 8 => pairW (q &&& 15#8) (q >>> 4)) (rows_apply b3 hb3 x2 4 inb_S256x32x128_S256x4x128_0_16_0 (lane t l) b y))

theorem wA_5 (t : Fin 2) (b : Fin 4) (h : ∀ a, S1x1x128x128.size a = 0 ∨ ![1, t.val, b.val, 0] a + ![1, 1, 4, 1] a * (S1x1x128x128.size a - 1) < S2x2x512x128.size a) (y l : Fin 128) :
    b10.view.readCov (Val := Elt F) (HS2_12 c b3 hb3 x2) { off := ![1, t.val, b.val, 0], size := S1x1x128x128.size, stride := ![1, 1, 4, 1], inb := h } (ix4 0 0 y l)
      = pairW (x2 (ix3 (lane t l) ⟨20 + b.val, by omega⟩ y) &&& 15#8) (x2 (ix3 (lane t l) ⟨20 + b.val, by omega⟩ y) >>> 4) :=
  (wload b10.view (View.readAt (Elt F) b3.view (Rect.unit (s := S256x32x128) ![0, 20, 0] S256x4x128.size inb_S256x32x128_S256x4x128_0_20_0).toLoadRect (hb3.unread x2))
    (HS2_10 c b3 hb3 x2) 1 _ _ slices_S512x256_o0_128_S512x128 slices_S512x256_o0_0_S512x128 t b h y l).trans
    (congrArg (fun q : BitVec 8 => pairW (q &&& 15#8) (q >>> 4)) (rows_apply b3 hb3 x2 5 inb_S256x32x128_S256x4x128_0_20_0 (lane t l) b y))

theorem wA_6 (t : Fin 2) (b : Fin 4) (h : ∀ a, S1x1x128x128.size a = 0 ∨ ![0, t.val, b.val, 0] a + ![1, 1, 4, 1] a * (S1x1x128x128.size a - 1) < S2x2x512x128.size a) (y l : Fin 128) :
    b10.view.readCov (Val := Elt F) (HS2_14 c b3 hb3 x2) { off := ![0, t.val, b.val, 0], size := S1x1x128x128.size, stride := ![1, 1, 4, 1], inb := h } (ix4 0 0 y l)
      = pairW (x2 (ix3 (lane t l) ⟨24 + b.val, by omega⟩ y) &&& 15#8) (x2 (ix3 (lane t l) ⟨24 + b.val, by omega⟩ y) >>> 4) :=
  (wload b10.view (View.readAt (Elt F) b3.view (Rect.unit (s := S256x32x128) ![0, 24, 0] S256x4x128.size inb_S256x32x128_S256x4x128_0_24_0).toLoadRect (hb3.unread x2))
    (HS2_12 c b3 hb3 x2) 0 _ _ slices_S512x256_o0_128_S512x128 slices_S512x256_o0_0_S512x128 t b h y l).trans
    (congrArg (fun q : BitVec 8 => pairW (q &&& 15#8) (q >>> 4)) (rows_apply b3 hb3 x2 6 inb_S256x32x128_S256x4x128_0_24_0 (lane t l) b y))

theorem wA_7 (t : Fin 2) (b : Fin 4) (h : ∀ a, S1x1x128x128.size a = 0 ∨ ![1, t.val, b.val, 0] a + ![1, 1, 4, 1] a * (S1x1x128x128.size a - 1) < S2x2x512x128.size a) (y l : Fin 128) :
    b10.view.readCov (Val := Elt F) (HS2_16 c b3 hb3 x2) { off := ![1, t.val, b.val, 0], size := S1x1x128x128.size, stride := ![1, 1, 4, 1], inb := h } (ix4 0 0 y l)
      = pairW (x2 (ix3 (lane t l) ⟨28 + b.val, by omega⟩ y) &&& 15#8) (x2 (ix3 (lane t l) ⟨28 + b.val, by omega⟩ y) >>> 4) :=
  (wload b10.view (View.readAt (Elt F) b3.view (Rect.unit (s := S256x32x128) ![0, 28, 0] S256x4x128.size inb_S256x32x128_S256x4x128_0_28_0).toLoadRect (hb3.unread x2))
    (HS2_14 c b3 hb3 x2) 1 _ _ slices_S512x256_o0_128_S512x128 slices_S512x256_o0_0_S512x128 t b h y l).trans
    (congrArg (fun q : BitVec 8 => pairW (q &&& 15#8) (q >>> 4)) (rows_apply b3 hb3 x2 7 inb_S256x32x128_S256x4x128_0_28_0 (lane t l) b y))

theorem aspiecesA : (HS0_32 c b2 hb2 x1) = aspieces (View.readAt (Elt F) b2.view (Rect.unit (s := S40x32) ![0, 0] S40x32.size inb_S40x32_S40x32_0_0).toLoadRect (hb2.unread x1)) := rfl

theorem scaleA (s : Fin 32) (h : ∀ a, ![s.val, 0, 0] a + S1x40x128.size a ≤ S32x40x128.size a) (i : Fin 40) (l : Fin 128) :
    b8.view.readCov (Val := Elt F) (HS0_32 c b2 hb2 x1) (Rect.unit (s := S32x40x128) ![s.val, 0, 0] S1x40x128.size h).toLoadRect (ix3 0 i l) = x1 (ix2 i s) := by
  rw [aspiecesA]
  exact (asload b8.view _ s h i l).trans (congrFun (scales_apply b2 hb2 x1 _) (ix2 i s))

end Cert.Step
end
-- ==== Proof.LMin.lean ====
/- The sums of each sub-block's codes, found by a product with an indicator matrix and scaled. -/
module

public import proofs.«01_k».proof.Proof.LoadsA

@[expose] public section

noncomputable section

namespace Cert.Step

open Idealize.ShloMosaic Idealize.SL.Sem Cert.KernelIdeal Cert.KernelIdeal.Gen Cert.KernelIdeal.Gen.kernelRun0_A.sl

/-- The remainder as the machine finds it, of one number below 256. -/
theorem rem32 (q : Fin 256) : (Scalar.select (IntOp.andi (IntOp.xori (IntOp.cmpi CmpIPredicate.slt (IntOp.remsi ArithUnit.vector (BitVec.ofNat 32 q.val) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne (IntOp.remsi ArithUnit.vector (BitVec.ofNat 32 q.val) (Scalar.select (Scalar.cmpi CmpIPredicate.eq 32#32 0#32) 1#32 32#32)) 0#32))
      (IntOp.addi (IntOp.remsi ArithUnit.vector (BitVec.ofNat 32 q.val) (Scalar.select (Scalar.cmpi CmpIPredicate.eq 32#32 0#32) 1#32 32#32)) (Scalar.select (Scalar.cmpi CmpIPredicate.eq 32#32 0#32) 1#32 32#32))
      (IntOp.remsi ArithUnit.vector (BitVec.ofNat 32 q.val) (Scalar.select (Scalar.cmpi CmpIPredicate.eq 32#32 0#32) 1#32 32#32))) = BitVec.ofNat 32 (q.val % 32) := by
  revert q; decide +kernel

theorem rem2 (q : Fin 256) : (Scalar.select (IntOp.andi (IntOp.xori (IntOp.cmpi CmpIPredicate.slt (IntOp.remsi ArithUnit.vector (BitVec.ofNat 32 q.val) (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (IntOp.cmpi CmpIPredicate.ne (IntOp.remsi ArithUnit.vector (BitVec.ofNat 32 q.val) (Scalar.select (Scalar.cmpi CmpIPredicate.eq 2#32 0#32) 1#32 2#32)) 0#32))
      (IntOp.addi (IntOp.remsi ArithUnit.vector (BitVec.ofNat 32 q.val) (Scalar.select (Scalar.cmpi CmpIPredicate.eq 2#32 0#32) 1#32 2#32)) (Scalar.select (Scalar.cmpi CmpIPredicate.eq 2#32 0#32) 1#32 2#32))
      (IntOp.remsi ArithUnit.vector (BitVec.ofNat 32 q.val) (Scalar.select (Scalar.cmpi CmpIPredicate.eq 2#32 0#32) 1#32 2#32))) = BitVec.ofNat 32 (q.val % 2) := by
  revert q; decide +kernel

theorem div32 (q : Fin 256) : (Scalar.select
            (IntOp.andi
              (IntOp.cmpi CmpIPredicate.ne
                (IntOp.subi (BitVec.setWidth 32 (IntOp.cmpi CmpIPredicate.sgt (BitVec.ofNat 32 q.val) 0#32))
                  (BitVec.setWidth 32 (IntOp.cmpi CmpIPredicate.slt (BitVec.ofNat 32 q.val) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 q.val) 32#32) 0#32))
            (IntOp.subi (IntOp.divsi ArithUnit.vector (BitVec.ofNat 32 q.val) 32#32) 1#32)
            (IntOp.divsi ArithUnit.vector (BitVec.ofNat 32 q.val) 32#32)) = BitVec.ofNat 32 (q.val / 32) := by
  revert q; decide +kernel

theorem div64 (k : Fin 256) : (Scalar.select
                (IntOp.andi
                  (IntOp.cmpi CmpIPredicate.ne
                    (IntOp.subi (BitVec.setWidth 32 (IntOp.cmpi CmpIPredicate.sgt (BitVec.ofNat 32 k.val) 0#32))
                      (BitVec.setWidth 32 (IntOp.cmpi CmpIPredicate.slt (BitVec.ofNat 32 k.val) 0#32)))
                    1#32)
                  (IntOp.cmpi CmpIPredicate.ne (IntOp.remsi ArithUnit.vector (BitVec.ofNat 32 k.val) 64#32) 0#32))
                (IntOp.subi (IntOp.divsi ArithUnit.vector (BitVec.ofNat 32 k.val) 64#32) 1#32)
                (IntOp.divsi ArithUnit.vector (BitVec.ofNat 32 k.val) 64#32)) = BitVec.ofNat 32 (k.val / 64) := by
  revert k; decide +kernel

theorem same (a b : Nat) (ha : a < 16) (hb : b < 16) :
    (FloatOps.sitofp (F := Ideal) FTy.f32 (BitVec.setWidth 32 (IntOp.cmpi CmpIPredicate.eq (BitVec.ofNat 32 a) (BitVec.ofNat 32 b))) : EReal) = if a = b then 1 else 0 := by
  have hz : (FloatOps.sitofp (F := Ideal) FTy.f32 (0#32 : BitVec 32) : EReal) = 0 := by
    show (((0#32 : BitVec 32).toInt : ℝ) : EReal) = 0
    simp
  have ho : (FloatOps.sitofp (F := Ideal) FTy.f32 (1#32 : BitVec 32) : EReal) = 1 := by
    show (((1#32 : BitVec 32).toInt : ℝ) : EReal) = 1
    have : (1#32 : BitVec 32).toInt = 1 := by decide
    rw [this]; simp
  have hc : IntOp.cmpi CmpIPredicate.eq (BitVec.ofNat 32 a) (BitVec.ofNat 32 b) = if a = b then 1#1 else 0#1 := by
    have : ∀ a b : Fin 16, IntOp.cmpi CmpIPredicate.eq (BitVec.ofNat 32 a.val) (BitVec.ofNat 32 b.val) = if a.val = b.val then 1#1 else 0#1 := by decide +kernel
    exact this ⟨a, ha⟩ ⟨b, hb⟩
  rw [hc]
  by_cases h : a = b
  · rw [if_pos h, if_pos h]; exact ho
  · rw [if_neg h, if_neg h]; exact hz

theorem ind_apply (k q : Fin 256) : r_1 (F := Ideal) (ix2 k q) = if 2 * (k.val / 64) + k.val % 2 = q.val / 32 then 1 else 0 := by
  unfold r_1 k0_pay39 v7345 v7370 v7369
    v7361 v7350 v7353 v7365 v7368 v7344 v7346 v7348 v7360
  pointwise
  rw [rem2 k, div32 q, div64 k]
  have e : IntOp.addi (IntOp.muli 2#32 (BitVec.ofNat 32 (k.val / 64))) (BitVec.ofNat 32 (k.val % 2)) = BitVec.ofNat 32 (2 * (k.val / 64) + k.val % 2) := by
    revert k; decide +kernel
  rw [e]
  exact same _ _ (by omega) (by omega)

theorem col_apply (i : Fin 40) (q : Fin 256) : r_2 (ix2 i q) = BitVec.ofNat 32 (q.val % 32) := by
  unfold r_2 k0_pay40 v7417
  pointwise
  exact rem32 q

/-- What one group leaves in the columns that are its own: the sums of its sub-blocks' codes, scaled. -/
def lstep {F : FTy → Type} [FloatOps F] (ind : FVec F S256x256 .bf16) (ql : IVec S40x256 32) (k : BitVec 32) (acc : FVec F S40x256 .f32)
    (a : Vec F S1x40x256 .i8) (sa : Vec F S1x40x128 .f32) : FVec F S40x256 .f32 :=
  select (cmpi .eq ql (broadcast S40x256 k))
    (mulf (matmul dot_S40x256_S256x256_S40x256_1_0_0_1_n_n none (sitofp .bf16 (shapeCast S40x256 a shapeCasts_S1x40x256_S40x256)) ind
        (constant S40x256 .f32 0x00000000#32))
      (concatenate S40x256 1 [⟨S40x128, shapeCast S40x128 sa shapeCasts_S1x40x128_S40x128⟩, ⟨S40x128, shapeCast S40x128 sa shapeCasts_S1x40x128_S40x128⟩]
        concatenates_S40x128_S40x128_S40x256_d1))
    acc

/-- The sum of the codes of sub-block `j` of a group. -/
def csum (A : Fin 256 → BitVec 8) (j : Nat) : EReal :=
  ∑ k : Fin 256, (((A k).toInt : ℝ) : EReal) * (if 2 * (k.val / 64) + k.val % 2 = j then 1 else 0)

theorem lstep_apply (ind : FVec Ideal S256x256 .bf16) (ql : IVec S40x256 32) (k : BitVec 32) (acc : FVec Ideal S40x256 .f32)
    (a : Vec Ideal S1x40x256 .i8) (sa : Vec Ideal S1x40x128 .f32) (i : Fin 40) (q : Fin 256) (S : EReal) (A : Fin 256 → BitVec 8)
    (hind : ∀ k q : Fin 256, ind (ix2 k q) = if 2 * (k.val / 64) + k.val % 2 = q.val / 32 then 1 else 0)
    (ha : ∀ y, a (ix3 0 i y) = A y) (hs : ∀ l, sa (ix3 0 i l) = S) :
    lstep ind ql k acc a sa (ix2 i q) = if ql (ix2 i q) = k then csum A (q.val / 32) * S else acc (ix2 i q) := by
  unfold lstep csum
  pointwise
  have hc : Scalar.select (IntOp.cmpi CmpIPredicate.eq (ql (ix2 i q)) k) (csum A (q.val / 32) * S) (acc (ix2 i q))
      = if ql (ix2 i q) = k then csum A (q.val / 32) * S else acc (ix2 i q) := by
    by_cases h : ql (ix2 i q) = k
    · rw [if_pos h, h]
      have : IntOp.cmpi CmpIPredicate.eq k k = 1#1 := by simp [IntOp.cmpi]
      rw [this]; rfl
    · rw [if_neg h]
      have : IntOp.cmpi CmpIPredicate.eq (ql (ix2 i q)) k = 0#1 := by
        show BitVec.ofBool (ql (ix2 i q) == k) = 0#1
        rw [beq_eq_false_iff_ne.mpr h]; rfl
      rw [this]; rfl
  refine Eq.trans ?_ hc
  unfold csum
  simp only [hind, ha, hs, dite_eq_ite, ite_self]
  rfl

/-- The group whose sums a column holds. -/
def grp (q : Fin 256) : Fin 32 := ⟨4 * (q.val % 8) + q.val % 32 / 8, by omega⟩

/-- The scaled sum a column is to hold. -/
def codeSum (x0 : Vec Ideal S32x40x256 .i8) (Sa : Fin 32 → Fin 40 → EReal) (i : Fin 40) (q : Fin 256) : EReal :=
  csum (fun k => x0 (ix3 (grp q) i k)) (q.val / 32) * Sa (grp q) i

theorem lstep_inv (s : Fin 32) (k : BitVec 32) (acc : FVec Ideal S40x256 .f32)
    (a : Vec Ideal S1x40x256 .i8) (sa : Vec Ideal S1x40x128 .f32) (x0 : Vec Ideal S32x40x256 .i8) (Sa : Fin 32 → Fin 40 → EReal) (i : Fin 40)
    (hk : k = BitVec.ofNat 32 (8 * (s.val % 4) + s.val / 4))
    (ha : ∀ i y, a (ix3 0 i y) = x0 (ix3 s i y)) (hs : ∀ i l, sa (ix3 0 i l) = Sa s i)
    (h : ∀ q, (grp q).val < s.val → acc (ix2 i q) = codeSum x0 Sa i q) :
    ∀ q, (grp q).val < s.val + 1 → lstep (r_1 (F := Ideal)) r_2 k acc a sa (ix2 i q) = codeSum x0 Sa i q := by
  intro q hq
  rw [lstep_apply _ _ k acc a sa i q (Sa s i) (fun y => x0 (ix3 s i y)) ind_apply (ha i) (hs i), col_apply, hk]
  have e : ∀ (q : Fin 256) (s : Fin 32), BitVec.ofNat 32 (q.val % 32) = BitVec.ofNat 32 (8 * (s.val % 4) + s.val / 4) ↔ q.val % 32 = 8 * (s.val % 4) + s.val / 4 := by
    intro q s
    constructor
    · intro h
      have := congrArg BitVec.toNat h
      simp only [BitVec.toNat_ofNat] at this
      omega
    · intro h; rw [h]
  have g : ∀ (q : Fin 256) (s : Fin 32), (q.val % 32 = 8 * (s.val % 4) + s.val / 4) ↔ (grp q).val = s.val := by
    have : ∀ (q : Fin 256) (s : Fin 32), (q.val % 32 = 8 * (s.val % 4) + s.val / 4) ↔ 4 * (q.val % 8) + q.val % 32 / 8 = s.val := by decide +kernel
    exact this
  by_cases hc : q.val % 32 = 8 * (s.val % 4) + s.val / 4
  · rw [if_pos ((e q s).mpr hc)]
    have hg : grp q = s := Fin.ext ((g q s).mp hc)
    unfold codeSum
    rw [hg]
  · rw [if_neg (fun h => hc ((e q s).mp h))]
    refine h q (Nat.lt_of_le_of_ne (Nat.lt_succ_iff.mp hq) fun hg => hc ((g q s).mpr hg))

variable {F : FTy → Type} [FloatOps F] (c : Dev nD)
  (b1 : Memref sig Kind.tc Space.vmem S32x40x256 EltTy.i8) (hb1 : b1.IsWhole)
  (b2 : Memref sig Kind.tc Space.vmem S40x32 EltTy.f32) (hb2 : b2.IsWhole)
  (b3 : Memref sig Kind.tc Space.vmem S256x32x128 EltTy.i8) (hb3 : b3.IsWhole)
  (b4 : Memref sig Kind.tc Space.vmem S12x32x256 EltTy.i8) (hb4 : b4.IsWhole)
  (b5 : Memref sig Kind.tc Space.vmem S32x256 EltTy.i16) (hb5 : b5.IsWhole)
  (b6 : Memref sig Kind.tc Space.vmem S32x256 EltTy.i16) (hb6 : b6.IsWhole)
  (b7 : Memref sig Kind.tc Space.vmem S40x256 EltTy.f32) (hb7 : b7.IsWhole)
  (b8 : Memref sig Kind.tc Space.vmem S32x40x128 EltTy.f32) (hb8 : b8.IsWhole)
  (b9 : Memref sig Kind.tc Space.vmem S40x256 EltTy.f32) (hb9 : b9.IsWhole)
  (b10 : Memref sig Kind.tc Space.vmem S2x2x512x128 EltTy.i32) (hb10 : b10.IsWhole)
  (b11 : Memref sig Kind.tc Space.vmem S4x4x8x256 EltTy.i32) (hb11 : b11.IsWhole)
  (b12 : Memref sig Kind.tc Space.vmem S4x4x8x256 EltTy.i32) (hb12 : b12.IsWhole)
  (b13 : Memref sig Kind.tc Space.vmem S2x32x128 EltTy.f32) (hb13 : b13.IsWhole)
  (b14 : Memref sig Kind.tc Space.vmem S2x32x128 EltTy.f32) (hb14 : b14.IsWhole)
  (b15 : Memref sig Kind.tc Space.vmem S256x256 EltTy.f32) (hb15 : b15.IsWhole)
  (x0 : Vec F S32x40x256 .i8) (x1 : Vec F S40x32 .f32) (x2 : Vec F S256x32x128 .i8) (x3 : Vec F S12x32x256 .i8) (x4 : Vec F S32x256 .i16) (x5 : Vec F S32x256 .i16) (xs0 : Vec F S32x40x128 .f32) (xs1 : Vec F S40x256 .f32)
theorem lr_3 : (r_3 c b1 hb1 b2 hb2 b8 x0 x1) =
  (lstep r_1 r_2 8#32 (lstep r_1 r_2 0#32 (broadcast S40x256 (Scalar.ofBits .f32 0x00000000#32))
    (View.readAt (Elt F) b1.view (Rect.unit (s := S32x40x256) ![0, 0, 0] S1x40x256.size inb_S32x40x256_S1x40x256_0_0_0).toLoadRect (hb1.unread x0))
    (v7439 c b2 hb2 b8 x1))
    (View.readAt (Elt F) b1.view (Rect.unit (s := S32x40x256) ![1, 0, 0] S1x40x256.size inb_S32x40x256_S1x40x256_1_0_0).toLoadRect (hb1.unread x0))
    (v7450 c b2 hb2 b8 x1)) := rfl

theorem lr_3_apply (x0 : Vec Ideal S32x40x256 .i8) (x1 : Vec Ideal S40x32 .f32) (i : Fin 40) :
    ∀ q, (grp q).val < 2 → (r_3 c b1 hb1 b2 hb2 b8 x0 x1) (ix2 i q) = codeSum x0 (fun s i => x1 (ix2 i s)) i q := by
  rw [lr_3]
  exact (lstep_inv 1 8#32 _ _ _ x0 (fun s i => x1 (ix2 i s)) i rfl (fun i k => arow_apply b1 hb1 x0 1 _ i k)
    (fun i l => scaleA (F := Ideal) c b2 hb2 b8 x1 1 _ i l)
  (lstep_inv 0 0#32 _ _ _ x0 (fun s i => x1 (ix2 i s)) i rfl (fun i k => arow_apply b1 hb1 x0 0 _ i k)
    (fun i l => scaleA (F := Ideal) c b2 hb2 b8 x1 0 _ i l)
  (fun q hq => absurd hq (Nat.not_lt_zero _))))

theorem lr_4 : (r_4 c b1 hb1 b2 hb2 b8 x0 x1) =
  (lstep r_1 r_2 1#32 (lstep r_1 r_2 24#32 (lstep r_1 r_2 16#32 (r_3 c b1 hb1 b2 hb2 b8 x0 x1)
    (View.readAt (Elt F) b1.view (Rect.unit (s := S32x40x256) ![2, 0, 0] S1x40x256.size inb_S32x40x256_S1x40x256_2_0_0).toLoadRect (hb1.unread x0))
    (v7461 c b2 hb2 b8 x1))
    (View.readAt (Elt F) b1.view (Rect.unit (s := S32x40x256) ![3, 0, 0] S1x40x256.size inb_S32x40x256_S1x40x256_3_0_0).toLoadRect (hb1.unread x0))
    (v7472 c b2 hb2 b8 x1))
    (View.readAt (Elt F) b1.view (Rect.unit (s := S32x40x256) ![4, 0, 0] S1x40x256.size inb_S32x40x256_S1x40x256_4_0_0).toLoadRect (hb1.unread x0))
    (v7483 c b2 hb2 b8 x1)) := rfl

theorem lr_4_apply (x0 : Vec Ideal S32x40x256 .i8) (x1 : Vec Ideal S40x32 .f32) (i : Fin 40) :
    ∀ q, (grp q).val < 5 → (r_4 c b1 hb1 b2 hb2 b8 x0 x1) (ix2 i q) = codeSum x0 (fun s i => x1 (ix2 i s)) i q := by
  rw [lr_4]
  exact (lstep_inv 4 1#32 _ _ _ x0 (fun s i => x1 (ix2 i s)) i rfl (fun i k => arow_apply b1 hb1 x0 4 _ i k)
    (fun i l => scaleA (F := Ideal) c b2 hb2 b8 x1 4 _ i l)
  (lstep_inv 3 24#32 _ _ _ x0 (fun s i => x1 (ix2 i s)) i rfl (fun i k => arow_apply b1 hb1 x0 3 _ i k)
    (fun i l => scaleA (F := Ideal) c b2 hb2 b8 x1 3 _ i l)
  (lstep_inv 2 16#32 _ _ _ x0 (fun s i => x1 (ix2 i s)) i rfl (fun i k => arow_apply b1 hb1 x0 2 _ i k)
    (fun i l => scaleA (F := Ideal) c b2 hb2 b8 x1 2 _ i l)
  (lr_3_apply c b1 hb1 b2 hb2 b8 x0 x1 i))))

theorem lr_5 : (r_5 c b1 hb1 b2 hb2 b8 x0 x1) =
  (lstep r_1 r_2 25#32 (lstep r_1 r_2 17#32 (lstep r_1 r_2 9#32 (r_4 c b1 hb1 b2 hb2 b8 x0 x1)
    (View.readAt (Elt F) b1.view (Rect.unit (s := S32x40x256) ![5, 0, 0] S1x40x256.size inb_S32x40x256_S1x40x256_5_0_0).toLoadRect (hb1.unread x0))
    (v7494 c b2 hb2 b8 x1))
    (View.readAt (Elt F) b1.view (Rect.unit (s := S32x40x256) ![6, 0, 0] S1x40x256.size inb_S32x40x256_S1x40x256_6_0_0).toLoadRect (hb1.unread x0))
    (v7505 c b2 hb2 b8 x1))
    (View.readAt (Elt F) b1.view (Rect.unit (s := S32x40x256) ![7, 0, 0] S1x40x256.size inb_S32x40x256_S1x40x256_7_0_0).toLoadRect (hb1.unread x0))
    (v7516 c b2 hb2 b8 x1)) := rfl

theorem lr_5_apply (x0 : Vec Ideal S32x40x256 .i8) (x1 : Vec Ideal S40x32 .f32) (i : Fin 40) :
    ∀ q, (grp q).val < 8 → (r_5 c b1 hb1 b2 hb2 b8 x0 x1) (ix2 i q) = codeSum x0 (fun s i => x1 (ix2 i s)) i q := by
  rw [lr_5]
  exact (lstep_inv 7 25#32 _ _ _ x0 (fun s i => x1 (ix2 i s)) i rfl (fun i k => arow_apply b1 hb1 x0 7 _ i k)
    (fun i l => scaleA (F := Ideal) c b2 hb2 b8 x1 7 _ i l)
  (lstep_inv 6 17#32 _ _ _ x0 (fun s i => x1 (ix2 i s)) i rfl (fun i k => arow_apply b1 hb1 x0 6 _ i k)
    (fun i l => scaleA (F := Ideal) c b2 hb2 b8 x1 6 _ i l)
  (lstep_inv 5 9#32 _ _ _ x0 (fun s i => x1 (ix2 i s)) i rfl (fun i k => arow_apply b1 hb1 x0 5 _ i k)
    (fun i l => scaleA (F := Ideal) c b2 hb2 b8 x1 5 _ i l)
  (lr_4_apply c b1 hb1 b2 hb2 b8 x0 x1 i))))

theorem lr_7 : (r_7 c b1 hb1 b2 hb2 b8 x0 x1) =
  (lstep r_1 r_2 18#32 (lstep r_1 r_2 10#32 (lstep r_1 r_2 2#32 (r_5 c b1 hb1 b2 hb2 b8 x0 x1)
    (View.readAt (Elt F) b1.view (Rect.unit (s := S32x40x256) ![8, 0, 0] S1x40x256.size inb_S32x40x256_S1x40x256_8_0_0).toLoadRect (hb1.unread x0))
    (v7527 c b2 hb2 b8 x1))
    (View.readAt (Elt F) b1.view (Rect.unit (s := S32x40x256) ![9, 0, 0] S1x40x256.size inb_S32x40x256_S1x40x256_9_0_0).toLoadRect (hb1.unread x0))
    (v7538 c b2 hb2 b8 x1))
    (View.readAt (Elt F) b1.view (Rect.unit (s := S32x40x256) ![10, 0, 0] S1x40x256.size inb_S32x40x256_S1x40x256_10_0_0).toLoadRect (hb1.unread x0))
    (v7549 c b2 hb2 b8 x1)) := rfl

theorem lr_7_apply (x0 : Vec Ideal S32x40x256 .i8) (x1 : Vec Ideal S40x32 .f32) (i : Fin 40) :
    ∀ q, (grp q).val < 11 → (r_7 c b1 hb1 b2 hb2 b8 x0 x1) (ix2 i q) = codeSum x0 (fun s i => x1 (ix2 i s)) i q := by
  rw [lr_7]
  exact (lstep_inv 10 18#32 _ _ _ x0 (fun s i => x1 (ix2 i s)) i rfl (fun i k => arow_apply b1 hb1 x0 10 _ i k)
    (fun i l => scaleA (F := Ideal) c b2 hb2 b8 x1 10 _ i l)
  (lstep_inv 9 10#32 _ _ _ x0 (fun s i => x1 (ix2 i s)) i rfl (fun i k => arow_apply b1 hb1 x0 9 _ i k)
    (fun i l => scaleA (F := Ideal) c b2 hb2 b8 x1 9 _ i l)
  (lstep_inv 8 2#32 _ _ _ x0 (fun s i => x1 (ix2 i s)) i rfl (fun i k => arow_apply b1 hb1 x0 8 _ i k)
    (fun i l => scaleA (F := Ideal) c b2 hb2 b8 x1 8 _ i l)
  (lr_5_apply c b1 hb1 b2 hb2 b8 x0 x1 i))))

theorem lr_9 : (r_9 c b1 hb1 b2 hb2 b8 x0 x1) =
  (lstep r_1 r_2 11#32 (lstep r_1 r_2 3#32 (lstep r_1 r_2 26#32 (r_7 c b1 hb1 b2 hb2 b8 x0 x1)
    (View.readAt (Elt F) b1.view (Rect.unit (s := S32x40x256) ![11, 0, 0] S1x40x256.size inb_S32x40x256_S1x40x256_11_0_0).toLoadRect (hb1.unread x0))
    (v7560 c b2 hb2 b8 x1))
    (View.readAt (Elt F) b1.view (Rect.unit (s := S32x40x256) ![12, 0, 0] S1x40x256.size inb_S32x40x256_S1x40x256_12_0_0).toLoadRect (hb1.unread x0))
    (v7571 c b2 hb2 b8 x1))
    (View.readAt (Elt F) b1.view (Rect.unit (s := S32x40x256) ![13, 0, 0] S1x40x256.size inb_S32x40x256_S1x40x256_13_0_0).toLoadRect (hb1.unread x0))
    (v7582 c b2 hb2 b8 x1)) := rfl

theorem lr_9_apply (x0 : Vec Ideal S32x40x256 .i8) (x1 : Vec Ideal S40x32 .f32) (i : Fin 40) :
    ∀ q, (grp q).val < 14 → (r_9 c b1 hb1 b2 hb2 b8 x0 x1) (ix2 i q) = codeSum x0 (fun s i => x1 (ix2 i s)) i q := by
  rw [lr_9]
  exact (lstep_inv 13 11#32 _ _ _ x0 (fun s i => x1 (ix2 i s)) i rfl (fun i k => arow_apply b1 hb1 x0 13 _ i k)
    (fun i l => scaleA (F := Ideal) c b2 hb2 b8 x1 13 _ i l)
  (lstep_inv 12 3#32 _ _ _ x0 (fun s i => x1 (ix2 i s)) i rfl (fun i k => arow_apply b1 hb1 x0 12 _ i k)
    (fun i l => scaleA (F := Ideal) c b2 hb2 b8 x1 12 _ i l)
  (lstep_inv 11 26#32 _ _ _ x0 (fun s i => x1 (ix2 i s)) i rfl (fun i k => arow_apply b1 hb1 x0 11 _ i k)
    (fun i l => scaleA (F := Ideal) c b2 hb2 b8 x1 11 _ i l)
  (lr_7_apply c b1 hb1 b2 hb2 b8 x0 x1 i))))

theorem lr_11 : (r_11 c b1 hb1 b2 hb2 b8 x0 x1) =
  (lstep r_1 r_2 4#32 (lstep r_1 r_2 27#32 (lstep r_1 r_2 19#32 (r_9 c b1 hb1 b2 hb2 b8 x0 x1)
    (View.readAt (Elt F) b1.view (Rect.unit (s := S32x40x256) ![14, 0, 0] S1x40x256.size inb_S32x40x256_S1x40x256_14_0_0).toLoadRect (hb1.unread x0))
    (v7593 c b2 hb2 b8 x1))
    (View.readAt (Elt F) b1.view (Rect.unit (s := S32x40x256) ![15, 0, 0] S1x40x256.size inb_S32x40x256_S1x40x256_15_0_0).toLoadRect (hb1.unread x0))
    (v7604 c b2 hb2 b8 x1))
    (View.readAt (Elt F) b1.view (Rect.unit (s := S32x40x256) ![16, 0, 0] S1x40x256.size inb_S32x40x256_S1x40x256_16_0_0).toLoadRect (hb1.unread x0))
    (v7615 c b2 hb2 b8 x1)) := rfl

theorem lr_11_apply (x0 : Vec Ideal S32x40x256 .i8) (x1 : Vec Ideal S40x32 .f32) (i : Fin 40) :
    ∀ q, (grp q).val < 17 → (r_11 c b1 hb1 b2 hb2 b8 x0 x1) (ix2 i q) = codeSum x0 (fun s i => x1 (ix2 i s)) i q := by
  rw [lr_11]
  exact (lstep_inv 16 4#32 _ _ _ x0 (fun s i => x1 (ix2 i s)) i rfl (fun i k => arow_apply b1 hb1 x0 16 _ i k)
    (fun i l => scaleA (F := Ideal) c b2 hb2 b8 x1 16 _ i l)
  (lstep_inv 15 27#32 _ _ _ x0 (fun s i => x1 (ix2 i s)) i rfl (fun i k => arow_apply b1 hb1 x0 15 _ i k)
    (fun i l => scaleA (F := Ideal) c b2 hb2 b8 x1 15 _ i l)
  (lstep_inv 14 19#32 _ _ _ x0 (fun s i => x1 (ix2 i s)) i rfl (fun i k => arow_apply b1 hb1 x0 14 _ i k)
    (fun i l => scaleA (F := Ideal) c b2 hb2 b8 x1 14 _ i l)
  (lr_9_apply c b1 hb1 b2 hb2 b8 x0 x1 i))))

theorem lr_14 : (r_14 c b1 hb1 b2 hb2 b8 x0 x1) =
  (lstep r_1 r_2 28#32 (lstep r_1 r_2 20#32 (lstep r_1 r_2 12#32 (r_11 c b1 hb1 b2 hb2 b8 x0 x1)
    (View.readAt (Elt F) b1.view (Rect.unit (s := S32x40x256) ![17, 0, 0] S1x40x256.size inb_S32x40x256_S1x40x256_17_0_0).toLoadRect (hb1.unread x0))
    (v7626 c b2 hb2 b8 x1))
    (View.readAt (Elt F) b1.view (Rect.unit (s := S32x40x256) ![18, 0, 0] S1x40x256.size inb_S32x40x256_S1x40x256_18_0_0).toLoadRect (hb1.unread x0))
    (v7637 c b2 hb2 b8 x1))
    (View.readAt (Elt F) b1.view (Rect.unit (s := S32x40x256) ![19, 0, 0] S1x40x256.size inb_S32x40x256_S1x40x256_19_0_0).toLoadRect (hb1.unread x0))
    (v7648 c b2 hb2 b8 x1)) := rfl

theorem lr_14_apply (x0 : Vec Ideal S32x40x256 .i8) (x1 : Vec Ideal S40x32 .f32) (i : Fin 40) :
    ∀ q, (grp q).val < 20 → (r_14 c b1 hb1 b2 hb2 b8 x0 x1) (ix2 i q) = codeSum x0 (fun s i => x1 (ix2 i s)) i q := by
  rw [lr_14]
  exact (lstep_inv 19 28#32 _ _ _ x0 (fun s i => x1 (ix2 i s)) i rfl (fun i k => arow_apply b1 hb1 x0 19 _ i k)
    (fun i l => scaleA (F := Ideal) c b2 hb2 b8 x1 19 _ i l)
  (lstep_inv 18 20#32 _ _ _ x0 (fun s i => x1 (ix2 i s)) i rfl (fun i k => arow_apply b1 hb1 x0 18 _ i k)
    (fun i l => scaleA (F := Ideal) c b2 hb2 b8 x1 18 _ i l)
  (lstep_inv 17 12#32 _ _ _ x0 (fun s i => x1 (ix2 i s)) i rfl (fun i k => arow_apply b1 hb1 x0 17 _ i k)
    (fun i l => scaleA (F := Ideal) c b2 hb2 b8 x1 17 _ i l)
  (lr_11_apply c b1 hb1 b2 hb2 b8 x0 x1 i))))

theorem lr_16 : (r_16 c b1 hb1 b2 hb2 b8 x0 x1) =
  (lstep r_1 r_2 29#32 (lstep r_1 r_2 21#32 (lstep r_1 r_2 13#32 (lstep r_1 r_2 5#32 (r_14 c b1 hb1 b2 hb2 b8 x0 x1)
    (View.readAt (Elt F) b1.view (Rect.unit (s := S32x40x256) ![20, 0, 0] S1x40x256.size inb_S32x40x256_S1x40x256_20_0_0).toLoadRect (hb1.unread x0))
    (v7659 c b2 hb2 b8 x1))
    (View.readAt (Elt F) b1.view (Rect.unit (s := S32x40x256) ![21, 0, 0] S1x40x256.size inb_S32x40x256_S1x40x256_21_0_0).toLoadRect (hb1.unread x0))
    (v7670 c b2 hb2 b8 x1))
    (View.readAt (Elt F) b1.view (Rect.unit (s := S32x40x256) ![22, 0, 0] S1x40x256.size inb_S32x40x256_S1x40x256_22_0_0).toLoadRect (hb1.unread x0))
    (v7681 c b2 hb2 b8 x1))
    (View.readAt (Elt F) b1.view (Rect.unit (s := S32x40x256) ![23, 0, 0] S1x40x256.size inb_S32x40x256_S1x40x256_23_0_0).toLoadRect (hb1.unread x0))
    (v7692 c b2 hb2 b8 x1)) := rfl

theorem lr_16_apply (x0 : Vec Ideal S32x40x256 .i8) (x1 : Vec Ideal S40x32 .f32) (i : Fin 40) :
    ∀ q, (grp q).val < 24 → (r_16 c b1 hb1 b2 hb2 b8 x0 x1) (ix2 i q) = codeSum x0 (fun s i => x1 (ix2 i s)) i q := by
  rw [lr_16]
  exact (lstep_inv 23 29#32 _ _ _ x0 (fun s i => x1 (ix2 i s)) i rfl (fun i k => arow_apply b1 hb1 x0 23 _ i k)
    (fun i l => scaleA (F := Ideal) c b2 hb2 b8 x1 23 _ i l)
  (lstep_inv 22 21#32 _ _ _ x0 (fun s i => x1 (ix2 i s)) i rfl (fun i k => arow_apply b1 hb1 x0 22 _ i k)
    (fun i l => scaleA (F := Ideal) c b2 hb2 b8 x1 22 _ i l)
  (lstep_inv 21 13#32 _ _ _ x0 (fun s i => x1 (ix2 i s)) i rfl (fun i k => arow_apply b1 hb1 x0 21 _ i k)
    (fun i l => scaleA (F := Ideal) c b2 hb2 b8 x1 21 _ i l)
  (lstep_inv 20 5#32 _ _ _ x0 (fun s i => x1 (ix2 i s)) i rfl (fun i k => arow_apply b1 hb1 x0 20 _ i k)
    (fun i l => scaleA (F := Ideal) c b2 hb2 b8 x1 20 _ i l)
  (lr_14_apply c b1 hb1 b2 hb2 b8 x0 x1 i)))))

theorem lr_17 : (r_17 c b1 hb1 b2 hb2 b8 x0 x1) =
  (lstep r_1 r_2 22#32 (lstep r_1 r_2 14#32 (lstep r_1 r_2 6#32 (r_16 c b1 hb1 b2 hb2 b8 x0 x1)
    (View.readAt (Elt F) b1.view (Rect.unit (s := S32x40x256) ![24, 0, 0] S1x40x256.size inb_S32x40x256_S1x40x256_24_0_0).toLoadRect (hb1.unread x0))
    (v7703 c b2 hb2 b8 x1))
    (View.readAt (Elt F) b1.view (Rect.unit (s := S32x40x256) ![25, 0, 0] S1x40x256.size inb_S32x40x256_S1x40x256_25_0_0).toLoadRect (hb1.unread x0))
    (v7714 c b2 hb2 b8 x1))
    (View.readAt (Elt F) b1.view (Rect.unit (s := S32x40x256) ![26, 0, 0] S1x40x256.size inb_S32x40x256_S1x40x256_26_0_0).toLoadRect (hb1.unread x0))
    (v7725 c b2 hb2 b8 x1)) := rfl

theorem lr_17_apply (x0 : Vec Ideal S32x40x256 .i8) (x1 : Vec Ideal S40x32 .f32) (i : Fin 40) :
    ∀ q, (grp q).val < 27 → (r_17 c b1 hb1 b2 hb2 b8 x0 x1) (ix2 i q) = codeSum x0 (fun s i => x1 (ix2 i s)) i q := by
  rw [lr_17]
  exact (lstep_inv 26 22#32 _ _ _ x0 (fun s i => x1 (ix2 i s)) i rfl (fun i k => arow_apply b1 hb1 x0 26 _ i k)
    (fun i l => scaleA (F := Ideal) c b2 hb2 b8 x1 26 _ i l)
  (lstep_inv 25 14#32 _ _ _ x0 (fun s i => x1 (ix2 i s)) i rfl (fun i k => arow_apply b1 hb1 x0 25 _ i k)
    (fun i l => scaleA (F := Ideal) c b2 hb2 b8 x1 25 _ i l)
  (lstep_inv 24 6#32 _ _ _ x0 (fun s i => x1 (ix2 i s)) i rfl (fun i k => arow_apply b1 hb1 x0 24 _ i k)
    (fun i l => scaleA (F := Ideal) c b2 hb2 b8 x1 24 _ i l)
  (lr_16_apply c b1 hb1 b2 hb2 b8 x0 x1 i))))

theorem lr_19 : (r_19 c b1 hb1 b2 hb2 b8 x0 x1) =
  (lstep r_1 r_2 15#32 (lstep r_1 r_2 7#32 (lstep r_1 r_2 30#32 (r_17 c b1 hb1 b2 hb2 b8 x0 x1)
    (View.readAt (Elt F) b1.view (Rect.unit (s := S32x40x256) ![27, 0, 0] S1x40x256.size inb_S32x40x256_S1x40x256_27_0_0).toLoadRect (hb1.unread x0))
    (v7736 c b2 hb2 b8 x1))
    (View.readAt (Elt F) b1.view (Rect.unit (s := S32x40x256) ![28, 0, 0] S1x40x256.size inb_S32x40x256_S1x40x256_28_0_0).toLoadRect (hb1.unread x0))
    (v7747 c b2 hb2 b8 x1))
    (View.readAt (Elt F) b1.view (Rect.unit (s := S32x40x256) ![29, 0, 0] S1x40x256.size inb_S32x40x256_S1x40x256_29_0_0).toLoadRect (hb1.unread x0))
    (v7758 c b2 hb2 b8 x1)) := rfl

theorem lr_19_apply (x0 : Vec Ideal S32x40x256 .i8) (x1 : Vec Ideal S40x32 .f32) (i : Fin 40) :
    ∀ q, (grp q).val < 30 → (r_19 c b1 hb1 b2 hb2 b8 x0 x1) (ix2 i q) = codeSum x0 (fun s i => x1 (ix2 i s)) i q := by
  rw [lr_19]
  exact (lstep_inv 29 15#32 _ _ _ x0 (fun s i => x1 (ix2 i s)) i rfl (fun i k => arow_apply b1 hb1 x0 29 _ i k)
    (fun i l => scaleA (F := Ideal) c b2 hb2 b8 x1 29 _ i l)
  (lstep_inv 28 7#32 _ _ _ x0 (fun s i => x1 (ix2 i s)) i rfl (fun i k => arow_apply b1 hb1 x0 28 _ i k)
    (fun i l => scaleA (F := Ideal) c b2 hb2 b8 x1 28 _ i l)
  (lstep_inv 27 30#32 _ _ _ x0 (fun s i => x1 (ix2 i s)) i rfl (fun i k => arow_apply b1 hb1 x0 27 _ i k)
    (fun i l => scaleA (F := Ideal) c b2 hb2 b8 x1 27 _ i l)
  (lr_17_apply c b1 hb1 b2 hb2 b8 x0 x1 i))))

def lminA : FVec F S40x256 .f32 :=
  (k0_pay60 r_1 r_2 (r_19 c b1 hb1 b2 hb2 b8 x0 x1) (r_20 c b1 hb1 x0) (v7769 c b2 hb2 b8 x1) (View.readAt (Elt F) b1.view (Rect.unit (s := S32x40x256) ![31, 0, 0] S1x40x256.size inb_S32x40x256_S1x40x256_31_0_0).toLoadRect (hb1.unread x0)) (v7780 c b2 hb2 b8 x1))

theorem llminA : (lminA c b1 hb1 b2 hb2 b8 x0 x1) =
  (lstep r_1 r_2 31#32 (lstep r_1 r_2 23#32 (r_19 c b1 hb1 b2 hb2 b8 x0 x1)
    (View.readAt (Elt F) b1.view (Rect.unit (s := S32x40x256) ![30, 0, 0] S1x40x256.size inb_S32x40x256_S1x40x256_30_0_0).toLoadRect (hb1.unread x0))
    (v7769 c b2 hb2 b8 x1))
    (View.readAt (Elt F) b1.view (Rect.unit (s := S32x40x256) ![31, 0, 0] S1x40x256.size inb_S32x40x256_S1x40x256_31_0_0).toLoadRect (hb1.unread x0))
    (v7780 c b2 hb2 b8 x1)) :=
  (show _ = shapeCast S40x256 (lstep r_1 r_2 31#32 (lstep r_1 r_2 23#32 (r_19 c b1 hb1 b2 hb2 b8 x0 x1)
    (View.readAt (Elt F) b1.view (Rect.unit (s := S32x40x256) ![30, 0, 0] S1x40x256.size inb_S32x40x256_S1x40x256_30_0_0).toLoadRect (hb1.unread x0))
    (v7769 c b2 hb2 b8 x1))
    (View.readAt (Elt F) b1.view (Rect.unit (s := S32x40x256) ![31, 0, 0] S1x40x256.size inb_S32x40x256_S1x40x256_31_0_0).toLoadRect (hb1.unread x0))
    (v7780 c b2 hb2 b8 x1)) shapeCasts_S40x256_S40x256 from rfl).trans (shapeCast_self _ _)

theorem llminA_apply (x0 : Vec Ideal S32x40x256 .i8) (x1 : Vec Ideal S40x32 .f32) (i : Fin 40) :
    ∀ q, (grp q).val < 32 → (lminA (F := Ideal) c b1 hb1 b2 hb2 b8 x0 x1) (ix2 i q) = codeSum x0 (fun s i => x1 (ix2 i s)) i q := by
  rw [llminA]
  exact (lstep_inv 31 31#32 _ _ _ x0 (fun s i => x1 (ix2 i s)) i rfl (fun i k => arow_apply b1 hb1 x0 31 _ i k)
    (fun i l => scaleA (F := Ideal) c b2 hb2 b8 x1 31 _ i l)
  (lstep_inv 30 23#32 _ _ _ x0 (fun s i => x1 (ix2 i s)) i rfl (fun i k => arow_apply b1 hb1 x0 30 _ i k)
    (fun i l => scaleA (F := Ideal) c b2 hb2 b8 x1 30 _ i l)
  (lr_19_apply c b1 hb1 b2 hb2 b8 x0 x1 i)))

theorem lmin_pieces : (HS1_1 c b1 hb1 b2 hb2 b8 x0 x1) = [⟨Rect.unit (s := S40x256) ![0, 0] S40x256.size inb_S40x256_S40x256_0_0, lminA (F := F) c b1 hb1 b2 hb2 b8 x0 x1⟩] := rfl

end Cert.Step
end
-- ==== Proof.Tile.lean ====
/- A tile of the output: minus the scaled minima against the scaled sums of codes, plus the 32 blocks' terms. -/
module

public import proofs.«01_k».proof.Proof.LMin

@[expose] public section

noncomputable section

namespace Cert.Step

open Idealize.ShloMosaic Idealize.SL.Sem Cert.KernelIdeal Cert.KernelIdeal.Gen

/-- One scaled minimum: the six-bit minimum of sub-block `q / 32` of group `grp q`, times the column's factor. -/
def minTerm (x3 : Vec Ideal S12x32x256 .i8) (x5 : Vec Ideal S32x256 .i16) (q n : Fin 256) : EReal :=
  (((M6 (fun i => x3 (ix3 i (grp q) n)) (q.val / 32)).toNat : ℝ) : EReal) * factor (F := Ideal) x5 (grp q) n

/-- What one element of the output is. -/
def outVal (x0 : Vec Ideal S32x40x256 .i8) (x2 : Vec Ideal S256x32x128 .i8) (x3 : Vec Ideal S12x32x256 .i8) (x4 x5 : Vec Ideal S32x256 .i16)
    (Sa : Fin 32 → Fin 40 → EReal) (i : Fin 40) (n : Fin 256) : EReal :=
  (0 - ∑ q : Fin 256, codeSum x0 Sa i q * minTerm x3 x5 q n) + ∑ s : Fin 32, blockTerm x0 x2 x3 x4 Sa s i n

theorem sum32 (a : EReal) (t : Fin 32 → EReal) :
    ((((((((((((((((((((((((((((((((a + t 0) + t 1) + t 2) + t 3) + t 4) + t 5) + t 6) + t 7) + t 8) + t 9) + t 10) + t 11) + t 12) + t 13) + t 14) + t 15) + t 16) + t 17) + t 18) + t 19) + t 20) + t 21) + t 22) + t 23) + t 24) + t 25) + t 26) + t 27) + t 28) + t 29) + t 30) + t 31) = a + ∑ s, t s := by
  have e : ∑ s, t s = (List.map t [0, 1, 2, 3, 4, 5, 6, 7, 8, 9, 10, 11, 12, 13, 14, 15, 16, 17, 18, 19, 20, 21, 22, 23, 24, 25, 26, 27, 28, 29, 30, 31]).sum := by
    rw [Fin.sum_univ_def]; rfl
  rw [e]
  simp only [List.map_cons, List.map_nil, List.sum_cons, List.sum_nil, add_zero, add_assoc]

theorem initial (l : FVec Ideal S40x256 .f32) (r : FVec Ideal S256x256 .f32) (i : Fin 40) (n : Fin 256) :
    k0_pay214 (F := Ideal) l r (ix2 i n) = 0 - ∑ q : Fin 256, l (ix2 i q) * r (ix2 q n) := by
  unfold k0_pay214
  pointwise
  try rfl

theorem toInt_wide (b : BitVec 8) : (b.setWidth 32).toInt = b.toNat := by
  rw [BitVec.toInt_eq_toNat_of_lt (by simp only [BitVec.toNat_setWidth]; have := b.isLt; omega)]
  simp only [BitVec.toNat_setWidth]
  have := b.isLt
  congr 1
  omega

/-- The minima's table, loaded whole. -/
theorem minima (vw : View sig .tc .vmem S256x256 .f32) (vm : View sig .tc .vmem S2x32x128 .f32)
    (m4 : Memref sig .tc .vmem S12x32x256 .i8) (h4 : m4.IsWhole) (x3 : Vec Ideal S12x32x256 .i8)
    (m6 : Memref sig .tc .vmem S32x256 .i16) (h6 : m6.IsWhole) (x5 : Vec Ideal S32x256 .i16)
    (h : ∀ a, ![0, 0] a + S256x256.size a ≤ S256x256.size a) (h' : ∀ a, ![0, 0] a + S32x256.size a ≤ S32x256.size a) (q n : Fin 256) :
    vw.readCov (Val := Elt Ideal) (pieces32 (rmtile (F := Ideal) vm (planes m4 h4 x3) (View.readAt (Elt Ideal) m6.view (Rect.unit (s := S32x256) ![0, 0] S32x256.size h').toLoadRect (h6.unread x5))))
      (Rect.unit (s := S256x256) ![0, 0] S256x256.size h).toLoadRect (ix2 q n) = minTerm x3 x5 q n := by
  rw [rmload, rmtile_apply, rows16_apply]
  unfold scaledMin minTerm
  have e : minOf (planes m4 h4 x3) ⟨q.val / 32, by omega⟩ (grp q) n = M6 (fun i => x3 (ix3 i (grp q) n)) (q.val / 32) := by
    unfold minOf
    simp only [planes_apply]
  show FloatOps.mulf (F := Ideal) (FloatOps.sitofp .f32 ((minOf (planes m4 h4 x3) ⟨q.val / 32, by omega⟩ (grp q) n).setWidth 32)) (factor x5 (grp q) n) = _
  rw [e]
  show ((((M6 (fun i => x3 (ix3 i (grp q) n)) (q.val / 32)).setWidth 32).toInt : ℝ) : EReal) * factor x5 (grp q) n = _
  rw [toInt_wide]
  norm_num

theorem whole_canon (h : ∀ a, ![0, 0] a + S40x256.size a ≤ S40x256.size a) (v : FVec Ideal S40x256 .f32) (i : Fin 40) (n : Fin 256) :
    View.canon (Val := Elt Ideal) (e := .f32) [⟨Rect.unit (s := S40x256) ![0, 0] S40x256.size h, v⟩] (ix2 i n) = v (ix2 i n) := by
  have e : (Rect.unit (s := S40x256) ![0, 0] S40x256.size h).emb (ix2 i n) = ix2 i n := by
    funext a
    match a with
    | ⟨0, _⟩ => exact Fin.ext (by show 0 + 1 * i.val = i.val; omega)
    | ⟨1, _⟩ => exact Fin.ext (by show 0 + 1 * n.val = n.val; omega)
  exact (congrArg _ e.symm).trans (View.canon_cons_emb (Val := Elt Ideal) (e := .f32) (Rect.unit (s := S40x256) ![0, 0] S40x256.size h) v [] (ix2 i n))

theorem whole_load (vw : View sig .tc .vmem S40x256 .f32) (h : ∀ a, ![0, 0] a + S40x256.size a ≤ S40x256.size a) (v : FVec Ideal S40x256 .f32)
    (i : Fin 40) (n : Fin 256) (h' : ∀ a, ![0, 0] a + S40x256.size a ≤ S40x256.size a) :
    vw.readCov (Val := Elt Ideal) [⟨Rect.unit (s := S40x256) ![0, 0] S40x256.size h, v⟩] (Rect.unit (s := S40x256) ![0, 0] S40x256.size h').toLoadRect (ix2 i n) = v (ix2 i n) := by
  rw [View.readCov_eq_canon', ← whole_canon h v i n]
  refine congrArg _ ?_
  funext a
  match a with
  | ⟨0, _⟩ => exact Fin.ext (by show 0 + 1 * i.val = i.val; omega)
  | ⟨1, _⟩ => exact Fin.ext (by show 0 + 1 * n.val = n.val; omega)

theorem initial_eq (l : FVec Ideal S40x256 .f32) (r : FVec Ideal S256x256 .f32) (i : Fin 40) (n : Fin 256) (L R : Fin 256 → EReal)
    (hl : ∀ q, l (ix2 i q) = L q) (hr : ∀ q, r (ix2 q n) = R q) : k0_pay214 (F := Ideal) l r (ix2 i n) = 0 - ∑ q : Fin 256, L q * R q := by
  rw [initial]
  simp only [hl, hr]

end Cert.Step
end
-- ==== Proof.SumsA.lean ====
/- Case A of the kernel body: each block adds its term to an element of the running sum. -/
module

public import proofs.«01_k».proof.Proof.LoadsA

@[expose] public section

noncomputable section

namespace Cert.Step

open Idealize.ShloMosaic Idealize.SL.Sem Cert.KernelIdeal Cert.KernelIdeal.Gen Cert.KernelIdeal.Gen.kernelRun0_A.sl

variable (c : Dev nD)
  (b1 : Memref sig Kind.tc Space.vmem S32x40x256 EltTy.i8) (hb1 : b1.IsWhole)
  (b2 : Memref sig Kind.tc Space.vmem S40x32 EltTy.f32) (hb2 : b2.IsWhole)
  (b3 : Memref sig Kind.tc Space.vmem S256x32x128 EltTy.i8) (hb3 : b3.IsWhole)
  (b4 : Memref sig Kind.tc Space.vmem S12x32x256 EltTy.i8) (hb4 : b4.IsWhole)
  (b5 : Memref sig Kind.tc Space.vmem S32x256 EltTy.i16) (hb5 : b5.IsWhole)
  (b6 : Memref sig Kind.tc Space.vmem S32x256 EltTy.i16) (hb6 : b6.IsWhole)
  (b7 : Memref sig Kind.tc Space.vmem S40x256 EltTy.f32) (hb7 : b7.IsWhole)
  (b8 : Memref sig Kind.tc Space.vmem S32x40x128 EltTy.f32) (hb8 : b8.IsWhole)
  (b9 : Memref sig Kind.tc Space.vmem S40x256 EltTy.f32) (hb9 : b9.IsWhole)
  (b10 : Memref sig Kind.tc Space.vmem S2x2x512x128 EltTy.i32) (hb10 : b10.IsWhole)
  (b11 : Memref sig Kind.tc Space.vmem S4x4x8x256 EltTy.i32) (hb11 : b11.IsWhole)
  (b12 : Memref sig Kind.tc Space.vmem S4x4x8x256 EltTy.i32) (hb12 : b12.IsWhole)
  (b13 : Memref sig Kind.tc Space.vmem S2x32x128 EltTy.f32) (hb13 : b13.IsWhole)
  (b14 : Memref sig Kind.tc Space.vmem S2x32x128 EltTy.f32) (hb14 : b14.IsWhole)
  (b15 : Memref sig Kind.tc Space.vmem S256x256 EltTy.f32) (hb15 : b15.IsWhole)
  (x0 : Vec Ideal S32x40x256 .i8) (x1 : Vec Ideal S40x32 .f32) (x2 : Vec Ideal S256x32x128 .i8) (x3 : Vec Ideal S12x32x256 .i8) (x4 : Vec Ideal S32x256 .i16) (x5 : Vec Ideal S32x256 .i16) (xs0 : Vec Ideal S32x40x128 .f32) (xs1 : Vec Ideal S40x256 .f32)

theorem sumA_0  (i : Fin 40) (n : Fin 256) : (r_65 c b1 hb1 b2 hb2 b3 hb3 b4 hb4 b5 hb5 b6 hb6 b8 b9 b10 b11 b12 b13 b14 b15 x0 x1 x2 x3 x4 x5) (ix2 i n)
    = (r_44 c b1 hb1 b2 hb2 b4 hb4 b6 hb6 b8 b9 b14 b15 x0 x1 x3 x5) (ix2 i n) + blockTerm x0 x2 x3 x4 (fun s i => x1 (ix2 i s)) 0 i n :=
  have H := highA c b4 hb4 b11 x3
  have L := lowA c b4 hb4 b12 x3
  have W := wA_0 c b3 hb3 b10 x2
  (congrFun (stepA_0 (F := Ideal) ..) (ix2 i n)).trans
  (step_block x0 x2 x3 x4 (fun s i => x1 (ix2 i s)) 0 (W 0 0 _) (W 1 0 _) (H 0 0 0 0 _) (H 1 0 0 0 _) (H 2 0 0 0 _) (H 3 0 0 0 _) (L 0 0 0 0 _) (L 1 0 0 0 _) (L 2 0 0 0 _) (L 3 0 0 0 _) (H 0 0 0 1 _) (H 1 0 0 1 _) (H 2 0 0 1 _) (H 3 0 0 1 _) (L 0 0 0 1 _) (L 1 0 0 1 _) (L 2 0 0 1 _) (L 3 0 0 1 _) (fun i k => arow_apply b1 hb1 x0 0 _ i k) (factA c b5 hb5 b13 x4 0 0 _) (factA c b5 hb5 b13 x4 1 0 _) (fun i l => scaleA c b2 hb2 b8 x1 0 _ i l) i n)

theorem sumA_1  (i : Fin 40) (n : Fin 256) : (r_85 c b1 hb1 b2 hb2 b3 hb3 b4 hb4 b5 hb5 b6 hb6 b8 b9 b10 b11 b12 b13 b14 b15 x0 x1 x2 x3 x4 x5) (ix2 i n)
    = (r_65 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 1 i n :=
  have H := highA c b4 hb4 b11 x3
  have L := lowA c b4 hb4 b12 x3
  have W := wA_0 c b3 hb3 b10 x2
  (congrFun (stepA_1 (F := Ideal) ..) (ix2 i n)).trans
  (step_block x0 x2 x3 x4 (fun s i => x1 (ix2 i s)) 1 (W 0 1 _) (W 1 1 _) (H 0 1 0 0 _) (H 1 1 0 0 _) (H 2 1 0 0 _) (H 3 1 0 0 _) (L 0 1 0 0 _) (L 1 1 0 0 _) (L 2 1 0 0 _) (L 3 1 0 0 _) (H 0 1 0 1 _) (H 1 1 0 1 _) (H 2 1 0 1 _) (H 3 1 0 1 _) (L 0 1 0 1 _) (L 1 1 0 1 _) (L 2 1 0 1 _) (L 3 1 0 1 _) (fun i k => arow_apply b1 hb1 x0 1 _ i k) (factA c b5 hb5 b13 x4 0 1 _) (factA c b5 hb5 b13 x4 1 1 _) (fun i l => scaleA c b2 hb2 b8 x1 1 _ i l) i n)

theorem sumA_2  (i : Fin 40) (n : Fin 256) : (r_105 c b1 hb1 b2 hb2 b3 hb3 b4 hb4 b5 hb5 b6 hb6 b8 b9 b10 b11 b12 b13 b14 b15 x0 x1 x2 x3 x4 x5) (ix2 i n)
    = (r_85 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 2 i n :=
  have H := highA c b4 hb4 b11 x3
  have L := lowA c b4 hb4 b12 x3
  have W := wA_0 c b3 hb3 b10 x2
  (congrFun (stepA_2 (F := Ideal) ..) (ix2 i n)).trans
  (step_block x0 x2 x3 x4 (fun s i => x1 (ix2 i s)) 2 (W 0 2 _) (W 1 2 _) (H 0 2 0 0 _) (H 1 2 0 0 _) (H 2 2 0 0 _) (H 3 2 0 0 _) (L 0 2 0 0 _) (L 1 2 0 0 _) (L 2 2 0 0 _) (L 3 2 0 0 _) (H 0 2 0 1 _) (H 1 2 0 1 _) (H 2 2 0 1 _) (H 3 2 0 1 _) (L 0 2 0 1 _) (L 1 2 0 1 _) (L 2 2 0 1 _) (L 3 2 0 1 _) (fun i k => arow_apply b1 hb1 x0 2 _ i k) (factA c b5 hb5 b13 x4 0 2 _) (factA c b5 hb5 b13 x4 1 2 _) (fun i l => scaleA c b2 hb2 b8 x1 2 _ i l) i n)

theorem sumA_3  (i : Fin 40) (n : Fin 256) : (r_127 c b1 hb1 b2 hb2 b3 hb3 b4 hb4 b5 hb5 b6 hb6 b8 b9 b10 b11 b12 b13 b14 b15 x0 x1 x2 x3 x4 x5) (ix2 i n)
    = (r_105 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 3 i n :=
  have H := highA c b4 hb4 b11 x3
  have L := lowA c b4 hb4 b12 x3
  have W := wA_0 c b3 hb3 b10 x2
  (congrFun (stepA_3 (F := Ideal) ..) (ix2 i n)).trans
  (step_block x0 x2 x3 x4 (fun s i => x1 (ix2 i s)) 3 (W 0 3 _) (W 1 3 _) (H 0 3 0 0 _) (H 1 3 0 0 _) (H 2 3 0 0 _) (H 3 3 0 0 _) (L 0 3 0 0 _) (L 1 3 0 0 _) (L 2 3 0 0 _) (L 3 3 0 0 _) (H 0 3 0 1 _) (H 1 3 0 1 _) (H 2 3 0 1 _) (H 3 3 0 1 _) (L 0 3 0 1 _) (L 1 3 0 1 _) (L 2 3 0 1 _) (L 3 3 0 1 _) (fun i k => arow_apply b1 hb1 x0 3 _ i k) (factA c b5 hb5 b13 x4 0 3 _) (factA c b5 hb5 b13 x4 1 3 _) (fun i l => scaleA c b2 hb2 b8 x1 3 _ i l) i n)

theorem sumA_4  (i : Fin 40) (n : Fin 256) : (r_150 c b1 hb1 b2 hb2 b3 hb3 b4 hb4 b5 hb5 b6 hb6 b8 b9 b10 b11 b12 b13 b14 b15 x0 x1 x2 x3 x4 x5) (ix2 i n)
    = (r_127 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 4 i n :=
  have H := highA c b4 hb4 b11 x3
  have L := lowA c b4 hb4 b12 x3
  have W := wA_1 c b3 hb3 b10 x2
  (congrFun (stepA_4 (F := Ideal) ..) (ix2 i n)).trans
  (step_block x0 x2 x3 x4 (fun s i => x1 (ix2 i s)) 4 (W 0 0 _) (W 1 0 _) (H 0 0 1 0 _) (H 1 0 1 0 _) (H 2 0 1 0 _) (H 3 0 1 0 _) (L 0 0 1 0 _) (L 1 0 1 0 _) (L 2 0 1 0 _) (L 3 0 1 0 _) (H 0 0 1 1 _) (H 1 0 1 1 _) (H 2 0 1 1 _) (H 3 0 1 1 _) (L 0 0 1 1 _) (L 1 0 1 1 _) (L 2 0 1 1 _) (L 3 0 1 1 _) (fun i k => arow_apply b1 hb1 x0 4 _ i k) (factA c b5 hb5 b13 x4 0 4 _) (factA c b5 hb5 b13 x4 1 4 _) (fun i l => scaleA c b2 hb2 b8 x1 4 _ i l) i n)

theorem sumA_5  (i : Fin 40) (n : Fin 256) : (r_171 c b1 hb1 b2 hb2 b3 hb3 b4 hb4 b5 hb5 b6 hb6 b8 b9 b10 b11 b12 b13 b14 b15 x0 x1 x2 x3 x4 x5) (ix2 i n)
    = (r_150 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 5 i n :=
  have H := highA c b4 hb4 b11 x3
  have L := lowA c b4 hb4 b12 x3
  have W := wA_1 c b3 hb3 b10 x2
  (congrFun (stepA_5 (F := Ideal) ..) (ix2 i n)).trans
  (step_block x0 x2 x3 x4 (fun s i => x1 (ix2 i s)) 5 (W 0 1 _) (W 1 1 _) (H 0 1 1 0 _) (H 1 1 1 0 _) (H 2 1 1 0 _) (H 3 1 1 0 _) (L 0 1 1 0 _) (L 1 1 1 0 _) (L 2 1 1 0 _) (L 3 1 1 0 _) (H 0 1 1 1 _) (H 1 1 1 1 _) (H 2 1 1 1 _) (H 3 1 1 1 _) (L 0 1 1 1 _) (L 1 1 1 1 _) (L 2 1 1 1 _) (L 3 1 1 1 _) (fun i k => arow_apply b1 hb1 x0 5 _ i k) (factA c b5 hb5 b13 x4 0 5 _) (factA c b5 hb5 b13 x4 1 5 _) (fun i l => scaleA c b2 hb2 b8 x1 5 _ i l) i n)

theorem sumA_6  (i : Fin 40) (n : Fin 256) : (r_192 c b1 hb1 b2 hb2 b3 hb3 b4 hb4 b5 hb5 b6 hb6 b8 b9 b10 b11 b12 b13 b14 b15 x0 x1 x2 x3 x4 x5) (ix2 i n)
    = (r_171 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 6 i n :=
  have H := highA c b4 hb4 b11 x3
  have L := lowA c b4 hb4 b12 x3
  have W := wA_1 c b3 hb3 b10 x2
  (congrFun (stepA_6 (F := Ideal) ..) (ix2 i n)).trans
  (step_block x0 x2 x3 x4 (fun s i => x1 (ix2 i s)) 6 (W 0 2 _) (W 1 2 _) (H 0 2 1 0 _) (H 1 2 1 0 _) (H 2 2 1 0 _) (H 3 2 1 0 _) (L 0 2 1 0 _) (L 1 2 1 0 _) (L 2 2 1 0 _) (L 3 2 1 0 _) (H 0 2 1 1 _) (H 1 2 1 1 _) (H 2 2 1 1 _) (H 3 2 1 1 _) (L 0 2 1 1 _) (L 1 2 1 1 _) (L 2 2 1 1 _) (L 3 2 1 1 _) (fun i k => arow_apply b1 hb1 x0 6 _ i k) (factA c b5 hb5 b13 x4 0 6 _) (factA c b5 hb5 b13 x4 1 6 _) (fun i l => scaleA c b2 hb2 b8 x1 6 _ i l) i n)

theorem sumA_7  (i : Fin 40) (n : Fin 256) : (r_213 c b1 hb1 b2 hb2 b3 hb3 b4 hb4 b5 hb5 b6 hb6 b8 b9 b10 b11 b12 b13 b14 b15 x0 x1 x2 x3 x4 x5) (ix2 i n)
    = (r_192 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 7 i n :=
  have H := highA c b4 hb4 b11 x3
  have L := lowA c b4 hb4 b12 x3
  have W := wA_1 c b3 hb3 b10 x2
  (congrFun (stepA_7 (F := Ideal) ..) (ix2 i n)).trans
  (step_block x0 x2 x3 x4 (fun s i => x1 (ix2 i s)) 7 (W 0 3 _) (W 1 3 _) (H 0 3 1 0 _) (H 1 3 1 0 _) (H 2 3 1 0 _) (H 3 3 1 0 _) (L 0 3 1 0 _) (L 1 3 1 0 _) (L 2 3 1 0 _) (L 3 3 1 0 _) (H 0 3 1 1 _) (H 1 3 1 1 _) (H 2 3 1 1 _) (H 3 3 1 1 _) (L 0 3 1 1 _) (L 1 3 1 1 _) (L 2 3 1 1 _) (L 3 3 1 1 _) (fun i k => arow_apply b1 hb1 x0 7 _ i k) (factA c b5 hb5 b13 x4 0 7 _) (factA c b5 hb5 b13 x4 1 7 _) (fun i l => scaleA c b2 hb2 b8 x1 7 _ i l) i n)

theorem sumA_8  (i : Fin 40) (n : Fin 256) : (r_239 c b1 hb1 b2 hb2 b3 hb3 b4 hb4 b5 hb5 b6 hb6 b8 b9 b10 b11 b12 b13 b14 b15 x0 x1 x2 x3 x4 x5) (ix2 i n)
    = (r_213 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 8 i n :=
  have H := highA c b4 hb4 b11 x3
  have L := lowA c b4 hb4 b12 x3
  have W := wA_2 c b3 hb3 b10 x2
  (congrFun (stepA_8 (F := Ideal) ..) (ix2 i n)).trans
  (step_block x0 x2 x3 x4 (fun s i => x1 (ix2 i s)) 8 (W 0 0 _) (W 1 0 _) (H 0 0 2 0 _) (H 1 0 2 0 _) (H 2 0 2 0 _) (H 3 0 2 0 _) (L 0 0 2 0 _) (L 1 0 2 0 _) (L 2 0 2 0 _) (L 3 0 2 0 _) (H 0 0 2 1 _) (H 1 0 2 1 _) (H 2 0 2 1 _) (H 3 0 2 1 _) (L 0 0 2 1 _) (L 1 0 2 1 _) (L 2 0 2 1 _) (L 3 0 2 1 _) (fun i k => arow_apply b1 hb1 x0 8 _ i k) (factA c b5 hb5 b13 x4 0 8 _) (factA c b5 hb5 b13 x4 1 8 _) (fun i l => scaleA c b2 hb2 b8 x1 8 _ i l) i n)

theorem sumA_9  (i : Fin 40) (n : Fin 256) : (r_264 c b1 hb1 b2 hb2 b3 hb3 b4 hb4 b5 hb5 b6 hb6 b8 b9 b10 b11 b12 b13 b14 b15 x0 x1 x2 x3 x4 x5) (ix2 i n)
    = (r_239 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 9 i n :=
  have H := highA c b4 hb4 b11 x3
  have L := lowA c b4 hb4 b12 x3
  have W := wA_2 c b3 hb3 b10 x2
  (congrFun (stepA_9 (F := Ideal) ..) (ix2 i n)).trans
  (step_block x0 x2 x3 x4 (fun s i => x1 (ix2 i s)) 9 (W 0 1 _) (W 1 1 _) (H 0 1 2 0 _) (H 1 1 2 0 _) (H 2 1 2 0 _) (H 3 1 2 0 _) (L 0 1 2 0 _) (L 1 1 2 0 _) (L 2 1 2 0 _) (L 3 1 2 0 _) (H 0 1 2 1 _) (H 1 1 2 1 _) (H 2 1 2 1 _) (H 3 1 2 1 _) (L 0 1 2 1 _) (L 1 1 2 1 _) (L 2 1 2 1 _) (L 3 1 2 1 _) (fun i k => arow_apply b1 hb1 x0 9 _ i k) (factA c b5 hb5 b13 x4 0 9 _) (factA c b5 hb5 b13 x4 1 9 _) (fun i l => scaleA c b2 hb2 b8 x1 9 _ i l) i n)

theorem sumA_10  (i : Fin 40) (n : Fin 256) : (r_289 c b1 hb1 b2 hb2 b3 hb3 b4 hb4 b5 hb5 b6 hb6 b8 b9 b10 b11 b12 b13 b14 b15 x0 x1 x2 x3 x4 x5) (ix2 i n)
    = (r_264 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 10 i n :=
  have H := highA c b4 hb4 b11 x3
  have L := lowA c b4 hb4 b12 x3
  have W := wA_2 c b3 hb3 b10 x2
  (congrFun (stepA_10 (F := Ideal) ..) (ix2 i n)).trans
  (step_block x0 x2 x3 x4 (fun s i => x1 (ix2 i s)) 10 (W 0 2 _) (W 1 2 _) (H 0 2 2 0 _) (H 1 2 2 0 _) (H 2 2 2 0 _) (H 3 2 2 0 _) (L 0 2 2 0 _) (L 1 2 2 0 _) (L 2 2 2 0 _) (L 3 2 2 0 _) (H 0 2 2 1 _) (H 1 2 2 1 _) (H 2 2 2 1 _) (H 3 2 2 1 _) (L 0 2 2 1 _) (L 1 2 2 1 _) (L 2 2 2 1 _) (L 3 2 2 1 _) (fun i k => arow_apply b1 hb1 x0 10 _ i k) (factA c b5 hb5 b13 x4 0 10 _) (factA c b5 hb5 b13 x4 1 10 _) (fun i l => scaleA c b2 hb2 b8 x1 10 _ i l) i n)

theorem sumA_11  (i : Fin 40) (n : Fin 256) : (r_313 c b1 hb1 b2 hb2 b3 hb3 b4 hb4 b5 hb5 b6 hb6 b8 b9 b10 b11 b12 b13 b14 b15 x0 x1 x2 x3 x4 x5) (ix2 i n)
    = (r_289 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 11 i n :=
  have H := highA c b4 hb4 b11 x3
  have L := lowA c b4 hb4 b12 x3
  have W := wA_2 c b3 hb3 b10 x2
  (congrFun (stepA_11 (F := Ideal) ..) (ix2 i n)).trans
  (step_block x0 x2 x3 x4 (fun s i => x1 (ix2 i s)) 11 (W 0 3 _) (W 1 3 _) (H 0 3 2 0 _) (H 1 3 2 0 _) (H 2 3 2 0 _) (H 3 3 2 0 _) (L 0 3 2 0 _) (L 1 3 2 0 _) (L 2 3 2 0 _) (L 3 3 2 0 _) (H 0 3 2 1 _) (H 1 3 2 1 _) (H 2 3 2 1 _) (H 3 3 2 1 _) (L 0 3 2 1 _) (L 1 3 2 1 _) (L 2 3 2 1 _) (L 3 3 2 1 _) (fun i k => arow_apply b1 hb1 x0 11 _ i k) (factA c b5 hb5 b13 x4 0 11 _) (factA c b5 hb5 b13 x4 1 11 _) (fun i l => scaleA c b2 hb2 b8 x1 11 _ i l) i n)

theorem sumA_12  (i : Fin 40) (n : Fin 256) : (r_334 c b1 hb1 b2 hb2 b3 hb3 b4 hb4 b5 hb5 b6 hb6 b8 b9 b10 b11 b12 b13 b14 b15 x0 x1 x2 x3 x4 x5) (ix2 i n)
    = (r_313 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 12 i n :=
  have H := highA c b4 hb4 b11 x3
  have L := lowA c b4 hb4 b12 x3
  have W := wA_3 c b3 hb3 b10 x2
  (congrFun (stepA_12 (F := Ideal) ..) (ix2 i n)).trans
  (step_block x0 x2 x3 x4 (fun s i => x1 (ix2 i s)) 12 (W 0 0 _) (W 1 0 _) (H 0 0 3 0 _) (H 1 0 3 0 _) (H 2 0 3 0 _) (H 3 0 3 0 _) (L 0 0 3 0 _) (L 1 0 3 0 _) (L 2 0 3 0 _) (L 3 0 3 0 _) (H 0 0 3 1 _) (H 1 0 3 1 _) (H 2 0 3 1 _) (H 3 0 3 1 _) (L 0 0 3 1 _) (L 1 0 3 1 _) (L 2 0 3 1 _) (L 3 0 3 1 _) (fun i k => arow_apply b1 hb1 x0 12 _ i k) (factA c b5 hb5 b13 x4 0 12 _) (factA c b5 hb5 b13 x4 1 12 _) (fun i l => scaleA c b2 hb2 b8 x1 12 _ i l) i n)

theorem sumA_13  (i : Fin 40) (n : Fin 256) : (r_355 c b1 hb1 b2 hb2 b3 hb3 b4 hb4 b5 hb5 b6 hb6 b8 b9 b10 b11 b12 b13 b14 b15 x0 x1 x2 x3 x4 x5) (ix2 i n)
    = (r_334 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 13 i n :=
  have H := highA c b4 hb4 b11 x3
  have L := lowA c b4 hb4 b12 x3
  have W := wA_3 c b3 hb3 b10 x2
  (congrFun (stepA_13 (F := Ideal) ..) (ix2 i n)).trans
  (step_block x0 x2 x3 x4 (fun s i => x1 (ix2 i s)) 13 (W 0 1 _) (W 1 1 _) (H 0 1 3 0 _) (H 1 1 3 0 _) (H 2 1 3 0 _) (H 3 1 3 0 _) (L 0 1 3 0 _) (L 1 1 3 0 _) (L 2 1 3 0 _) (L 3 1 3 0 _) (H 0 1 3 1 _) (H 1 1 3 1 _) (H 2 1 3 1 _) (H 3 1 3 1 _) (L 0 1 3 1 _) (L 1 1 3 1 _) (L 2 1 3 1 _) (L 3 1 3 1 _) (fun i k => arow_apply b1 hb1 x0 13 _ i k) (factA c b5 hb5 b13 x4 0 13 _) (factA c b5 hb5 b13 x4 1 13 _) (fun i l => scaleA c b2 hb2 b8 x1 13 _ i l) i n)

theorem sumA_14  (i : Fin 40) (n : Fin 256) : (r_375 c b1 hb1 b2 hb2 b3 hb3 b4 hb4 b5 hb5 b6 hb6 b8 b9 b10 b11 b12 b13 b14 b15 x0 x1 x2 x3 x4 x5) (ix2 i n)
    = (r_355 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 14 i n :=
  have H := highA c b4 hb4 b11 x3
  have L := lowA c b4 hb4 b12 x3
  have W := wA_3 c b3 hb3 b10 x2
  (congrFun (stepA_14 (F := Ideal) ..) (ix2 i n)).trans
  (step_block x0 x2 x3 x4 (fun s i => x1 (ix2 i s)) 14 (W 0 2 _) (W 1 2 _) (H 0 2 3 0 _) (H 1 2 3 0 _) (H 2 2 3 0 _) (H 3 2 3 0 _) (L 0 2 3 0 _) (L 1 2 3 0 _) (L 2 2 3 0 _) (L 3 2 3 0 _) (H 0 2 3 1 _) (H 1 2 3 1 _) (H 2 2 3 1 _) (H 3 2 3 1 _) (L 0 2 3 1 _) (L 1 2 3 1 _) (L 2 2 3 1 _) (L 3 2 3 1 _) (fun i k => arow_apply b1 hb1 x0 14 _ i k) (factA c b5 hb5 b13 x4 0 14 _) (factA c b5 hb5 b13 x4 1 14 _) (fun i l => scaleA c b2 hb2 b8 x1 14 _ i l) i n)

theorem sumA_15  (i : Fin 40) (n : Fin 256) : (r_397 c b1 hb1 b2 hb2 b3 hb3 b4 hb4 b5 hb5 b6 hb6 b8 b9 b10 b11 b12 b13 b14 b15 x0 x1 x2 x3 x4 x5) (ix2 i n)
    = (r_375 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 15 i n :=
  have H := highA c b4 hb4 b11 x3
  have L := lowA c b4 hb4 b12 x3
  have W := wA_3 c b3 hb3 b10 x2
  (congrFun (stepA_15 (F := Ideal) ..) (ix2 i n)).trans
  (step_block x0 x2 x3 x4 (fun s i => x1 (ix2 i s)) 15 (W 0 3 _) (W 1 3 _) (H 0 3 3 0 _) (H 1 3 3 0 _) (H 2 3 3 0 _) (H 3 3 3 0 _) (L 0 3 3 0 _) (L 1 3 3 0 _) (L 2 3 3 0 _) (L 3 3 3 0 _) (H 0 3 3 1 _) (H 1 3 3 1 _) (H 2 3 3 1 _) (H 3 3 3 1 _) (L 0 3 3 1 _) (L 1 3 3 1 _) (L 2 3 3 1 _) (L 3 3 3 1 _) (fun i k => arow_apply b1 hb1 x0 15 _ i k) (factA c b5 hb5 b13 x4 0 15 _) (factA c b5 hb5 b13 x4 1 15 _) (fun i l => scaleA c b2 hb2 b8 x1 15 _ i l) i n)

theorem sumA_16  (i : Fin 40) (n : Fin 256) : (r_421 c b1 hb1 b2 hb2 b3 hb3 b4 hb4 b5 hb5 b6 hb6 b8 b9 b10 b11 b12 b13 b14 b15 x0 x1 x2 x3 x4 x5) (ix2 i n)
    = (r_397 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 16 i n :=
  have H := highA c b4 hb4 b11 x3
  have L := lowA c b4 hb4 b12 x3
  have W := wA_4 c b3 hb3 b10 x2
  (congrFun (stepA_16 (F := Ideal) ..) (ix2 i n)).trans
  (step_block x0 x2 x3 x4 (fun s i => x1 (ix2 i s)) 16 (W 0 0 _) (W 1 0 _) (H 0 0 4 0 _) (H 1 0 4 0 _) (H 2 0 4 0 _) (H 3 0 4 0 _) (L 0 0 4 0 _) (L 1 0 4 0 _) (L 2 0 4 0 _) (L 3 0 4 0 _) (H 0 0 4 1 _) (H 1 0 4 1 _) (H 2 0 4 1 _) (H 3 0 4 1 _) (L 0 0 4 1 _) (L 1 0 4 1 _) (L 2 0 4 1 _) (L 3 0 4 1 _) (fun i k => arow_apply b1 hb1 x0 16 _ i k) (factA c b5 hb5 b13 x4 0 16 _) (factA c b5 hb5 b13 x4 1 16 _) (fun i l => scaleA c b2 hb2 b8 x1 16 _ i l) i n)

theorem sumA_17  (i : Fin 40) (n : Fin 256) : (r_443 c b1 hb1 b2 hb2 b3 hb3 b4 hb4 b5 hb5 b6 hb6 b8 b9 b10 b11 b12 b13 b14 b15 x0 x1 x2 x3 x4 x5) (ix2 i n)
    = (r_421 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 17 i n :=
  have H := highA c b4 hb4 b11 x3
  have L := lowA c b4 hb4 b12 x3
  have W := wA_4 c b3 hb3 b10 x2
  (congrFun (stepA_17 (F := Ideal) ..) (ix2 i n)).trans
  (step_block x0 x2 x3 x4 (fun s i => x1 (ix2 i s)) 17 (W 0 1 _) (W 1 1 _) (H 0 1 4 0 _) (H 1 1 4 0 _) (H 2 1 4 0 _) (H 3 1 4 0 _) (L 0 1 4 0 _) (L 1 1 4 0 _) (L 2 1 4 0 _) (L 3 1 4 0 _) (H 0 1 4 1 _) (H 1 1 4 1 _) (H 2 1 4 1 _) (H 3 1 4 1 _) (L 0 1 4 1 _) (L 1 1 4 1 _) (L 2 1 4 1 _) (L 3 1 4 1 _) (fun i k => arow_apply b1 hb1 x0 17 _ i k) (factA c b5 hb5 b13 x4 0 17 _) (factA c b5 hb5 b13 x4 1 17 _) (fun i l => scaleA c b2 hb2 b8 x1 17 _ i l) i n)

theorem sumA_18  (i : Fin 40) (n : Fin 256) : (r_464 c b1 hb1 b2 hb2 b3 hb3 b4 hb4 b5 hb5 b6 hb6 b8 b9 b10 b11 b12 b13 b14 b15 x0 x1 x2 x3 x4 x5) (ix2 i n)
    = (r_443 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 18 i n :=
  have H := highA c b4 hb4 b11 x3
  have L := lowA c b4 hb4 b12 x3
  have W := wA_4 c b3 hb3 b10 x2
  (congrFun (stepA_18 (F := Ideal) ..) (ix2 i n)).trans
  (step_block x0 x2 x3 x4 (fun s i => x1 (ix2 i s)) 18 (W 0 2 _) (W 1 2 _) (H 0 2 4 0 _) (H 1 2 4 0 _) (H 2 2 4 0 _) (H 3 2 4 0 _) (L 0 2 4 0 _) (L 1 2 4 0 _) (L 2 2 4 0 _) (L 3 2 4 0 _) (H 0 2 4 1 _) (H 1 2 4 1 _) (H 2 2 4 1 _) (H 3 2 4 1 _) (L 0 2 4 1 _) (L 1 2 4 1 _) (L 2 2 4 1 _) (L 3 2 4 1 _) (fun i k => arow_apply b1 hb1 x0 18 _ i k) (factA c b5 hb5 b13 x4 0 18 _) (factA c b5 hb5 b13 x4 1 18 _) (fun i l => scaleA c b2 hb2 b8 x1 18 _ i l) i n)

theorem sumA_19  (i : Fin 40) (n : Fin 256) : (r_484 c b1 hb1 b2 hb2 b3 hb3 b4 hb4 b5 hb5 b6 hb6 b8 b9 b10 b11 b12 b13 b14 b15 x0 x1 x2 x3 x4 x5) (ix2 i n)
    = (r_464 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 19 i n :=
  have H := highA c b4 hb4 b11 x3
  have L := lowA c b4 hb4 b12 x3
  have W := wA_4 c b3 hb3 b10 x2
  (congrFun (stepA_19 (F := Ideal) ..) (ix2 i n)).trans
  (step_block x0 x2 x3 x4 (fun s i => x1 (ix2 i s)) 19 (W 0 3 _) (W 1 3 _) (H 0 3 4 0 _) (H 1 3 4 0 _) (H 2 3 4 0 _) (H 3 3 4 0 _) (L 0 3 4 0 _) (L 1 3 4 0 _) (L 2 3 4 0 _) (L 3 3 4 0 _) (H 0 3 4 1 _) (H 1 3 4 1 _) (H 2 3 4 1 _) (H 3 3 4 1 _) (L 0 3 4 1 _) (L 1 3 4 1 _) (L 2 3 4 1 _) (L 3 3 4 1 _) (fun i k => arow_apply b1 hb1 x0 19 _ i k) (factA c b5 hb5 b13 x4 0 19 _) (factA c b5 hb5 b13 x4 1 19 _) (fun i l => scaleA c b2 hb2 b8 x1 19 _ i l) i n)

theorem sumA_20  (i : Fin 40) (n : Fin 256) : (r_510 c b1 hb1 b2 hb2 b3 hb3 b4 hb4 b5 hb5 b6 hb6 b8 b9 b10 b11 b12 b13 b14 b15 x0 x1 x2 x3 x4 x5) (ix2 i n)
    = (r_484 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 20 i n :=
  have H := highA c b4 hb4 b11 x3
  have L := lowA c b4 hb4 b12 x3
  have W := wA_5 c b3 hb3 b10 x2
  (congrFun (stepA_20 (F := Ideal) ..) (ix2 i n)).trans
  (step_block x0 x2 x3 x4 (fun s i => x1 (ix2 i s)) 20 (W 0 0 _) (W 1 0 _) (H 0 0 5 0 _) (H 1 0 5 0 _) (H 2 0 5 0 _) (H 3 0 5 0 _) (L 0 0 5 0 _) (L 1 0 5 0 _) (L 2 0 5 0 _) (L 3 0 5 0 _) (H 0 0 5 1 _) (H 1 0 5 1 _) (H 2 0 5 1 _) (H 3 0 5 1 _) (L 0 0 5 1 _) (L 1 0 5 1 _) (L 2 0 5 1 _) (L 3 0 5 1 _) (fun i k => arow_apply b1 hb1 x0 20 _ i k) (factA c b5 hb5 b13 x4 0 20 _) (factA c b5 hb5 b13 x4 1 20 _) (fun i l => scaleA c b2 hb2 b8 x1 20 _ i l) i n)

theorem sumA_21  (i : Fin 40) (n : Fin 256) : (r_534 c b1 hb1 b2 hb2 b3 hb3 b4 hb4 b5 hb5 b6 hb6 b8 b9 b10 b11 b12 b13 b14 b15 x0 x1 x2 x3 x4 x5) (ix2 i n)
    = (r_510 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 21 i n :=
  have H := highA c b4 hb4 b11 x3
  have L := lowA c b4 hb4 b12 x3
  have W := wA_5 c b3 hb3 b10 x2
  (congrFun (stepA_21 (F := Ideal) ..) (ix2 i n)).trans
  (step_block x0 x2 x3 x4 (fun s i => x1 (ix2 i s)) 21 (W 0 1 _) (W 1 1 _) (H 0 1 5 0 _) (H 1 1 5 0 _) (H 2 1 5 0 _) (H 3 1 5 0 _) (L 0 1 5 0 _) (L 1 1 5 0 _) (L 2 1 5 0 _) (L 3 1 5 0 _) (H 0 1 5 1 _) (H 1 1 5 1 _) (H 2 1 5 1 _) (H 3 1 5 1 _) (L 0 1 5 1 _) (L 1 1 5 1 _) (L 2 1 5 1 _) (L 3 1 5 1 _) (fun i k => arow_apply b1 hb1 x0 21 _ i k) (factA c b5 hb5 b13 x4 0 21 _) (factA c b5 hb5 b13 x4 1 21 _) (fun i l => scaleA c b2 hb2 b8 x1 21 _ i l) i n)

theorem sumA_22  (i : Fin 40) (n : Fin 256) : (r_557 c b1 hb1 b2 hb2 b3 hb3 b4 hb4 b5 hb5 b6 hb6 b8 b9 b10 b11 b12 b13 b14 b15 x0 x1 x2 x3 x4 x5) (ix2 i n)
    = (r_534 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 22 i n :=
  have H := highA c b4 hb4 b11 x3
  have L := lowA c b4 hb4 b12 x3
  have W := wA_5 c b3 hb3 b10 x2
  (congrFun (stepA_22 (F := Ideal) ..) (ix2 i n)).trans
  (step_block x0 x2 x3 x4 (fun s i => x1 (ix2 i s)) 22 (W 0 2 _) (W 1 2 _) (H 0 2 5 0 _) (H 1 2 5 0 _) (H 2 2 5 0 _) (H 3 2 5 0 _) (L 0 2 5 0 _) (L 1 2 5 0 _) (L 2 2 5 0 _) (L 3 2 5 0 _) (H 0 2 5 1 _) (H 1 2 5 1 _) (H 2 2 5 1 _) (H 3 2 5 1 _) (L 0 2 5 1 _) (L 1 2 5 1 _) (L 2 2 5 1 _) (L 3 2 5 1 _) (fun i k => arow_apply b1 hb1 x0 22 _ i k) (factA c b5 hb5 b13 x4 0 22 _) (factA c b5 hb5 b13 x4 1 22 _) (fun i l => scaleA c b2 hb2 b8 x1 22 _ i l) i n)

theorem sumA_23  (i : Fin 40) (n : Fin 256) : (r_579 c b1 hb1 b2 hb2 b3 hb3 b4 hb4 b5 hb5 b6 hb6 b8 b9 b10 b11 b12 b13 b14 b15 x0 x1 x2 x3 x4 x5) (ix2 i n)
    = (r_557 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 23 i n :=
  have H := highA c b4 hb4 b11 x3
  have L := lowA c b4 hb4 b12 x3
  have W := wA_5 c b3 hb3 b10 x2
  (congrFun (stepA_23 (F := Ideal) ..) (ix2 i n)).trans
  (step_block x0 x2 x3 x4 (fun s i => x1 (ix2 i s)) 23 (W 0 3 _) (W 1 3 _) (H 0 3 5 0 _) (H 1 3 5 0 _) (H 2 3 5 0 _) (H 3 3 5 0 _) (L 0 3 5 0 _) (L 1 3 5 0 _) (L 2 3 5 0 _) (L 3 3 5 0 _) (H 0 3 5 1 _) (H 1 3 5 1 _) (H 2 3 5 1 _) (H 3 3 5 1 _) (L 0 3 5 1 _) (L 1 3 5 1 _) (L 2 3 5 1 _) (L 3 3 5 1 _) (fun i k => arow_apply b1 hb1 x0 23 _ i k) (factA c b5 hb5 b13 x4 0 23 _) (factA c b5 hb5 b13 x4 1 23 _) (fun i l => scaleA c b2 hb2 b8 x1 23 _ i l) i n)

theorem sumA_24  (i : Fin 40) (n : Fin 256) : (r_604 c b1 hb1 b2 hb2 b3 hb3 b4 hb4 b5 hb5 b6 hb6 b8 b9 b10 b11 b12 b13 b14 b15 x0 x1 x2 x3 x4 x5) (ix2 i n)
    = (r_579 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 24 i n :=
  have H := highA c b4 hb4 b11 x3
  have L := lowA c b4 hb4 b12 x3
  have W := wA_6 c b3 hb3 b10 x2
  (congrFun (stepA_24 (F := Ideal) ..) (ix2 i n)).trans
  (step_block x0 x2 x3 x4 (fun s i => x1 (ix2 i s)) 24 (W 0 0 _) (W 1 0 _) (H 0 0 6 0 _) (H 1 0 6 0 _) (H 2 0 6 0 _) (H 3 0 6 0 _) (L 0 0 6 0 _) (L 1 0 6 0 _) (L 2 0 6 0 _) (L 3 0 6 0 _) (H 0 0 6 1 _) (H 1 0 6 1 _) (H 2 0 6 1 _) (H 3 0 6 1 _) (L 0 0 6 1 _) (L 1 0 6 1 _) (L 2 0 6 1 _) (L 3 0 6 1 _) (fun i k => arow_apply b1 hb1 x0 24 _ i k) (factA c b5 hb5 b13 x4 0 24 _) (factA c b5 hb5 b13 x4 1 24 _) (fun i l => scaleA c b2 hb2 b8 x1 24 _ i l) i n)

theorem sumA_25  (i : Fin 40) (n : Fin 256) : (r_628 c b1 hb1 b2 hb2 b3 hb3 b4 hb4 b5 hb5 b6 hb6 b8 b9 b10 b11 b12 b13 b14 b15 x0 x1 x2 x3 x4 x5) (ix2 i n)
    = (r_604 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 25 i n :=
  have H := highA c b4 hb4 b11 x3
  have L := lowA c b4 hb4 b12 x3
  have W := wA_6 c b3 hb3 b10 x2
  (congrFun (stepA_25 (F := Ideal) ..) (ix2 i n)).trans
  (step_block x0 x2 x3 x4 (fun s i => x1 (ix2 i s)) 25 (W 0 1 _) (W 1 1 _) (H 0 1 6 0 _) (H 1 1 6 0 _) (H 2 1 6 0 _) (H 3 1 6 0 _) (L 0 1 6 0 _) (L 1 1 6 0 _) (L 2 1 6 0 _) (L 3 1 6 0 _) (H 0 1 6 1 _) (H 1 1 6 1 _) (H 2 1 6 1 _) (H 3 1 6 1 _) (L 0 1 6 1 _) (L 1 1 6 1 _) (L 2 1 6 1 _) (L 3 1 6 1 _) (fun i k => arow_apply b1 hb1 x0 25 _ i k) (factA c b5 hb5 b13 x4 0 25 _) (factA c b5 hb5 b13 x4 1 25 _) (fun i l => scaleA c b2 hb2 b8 x1 25 _ i l) i n)

theorem sumA_26  (i : Fin 40) (n : Fin 256) : (r_652 c b1 hb1 b2 hb2 b3 hb3 b4 hb4 b5 hb5 b6 hb6 b8 b9 b10 b11 b12 b13 b14 b15 x0 x1 x2 x3 x4 x5) (ix2 i n)
    = (r_628 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 26 i n :=
  have H := highA c b4 hb4 b11 x3
  have L := lowA c b4 hb4 b12 x3
  have W := wA_6 c b3 hb3 b10 x2
  (congrFun (stepA_26 (F := Ideal) ..) (ix2 i n)).trans
  (step_block x0 x2 x3 x4 (fun s i => x1 (ix2 i s)) 26 (W 0 2 _) (W 1 2 _) (H 0 2 6 0 _) (H 1 2 6 0 _) (H 2 2 6 0 _) (H 3 2 6 0 _) (L 0 2 6 0 _) (L 1 2 6 0 _) (L 2 2 6 0 _) (L 3 2 6 0 _) (H 0 2 6 1 _) (H 1 2 6 1 _) (H 2 2 6 1 _) (H 3 2 6 1 _) (L 0 2 6 1 _) (L 1 2 6 1 _) (L 2 2 6 1 _) (L 3 2 6 1 _) (fun i k => arow_apply b1 hb1 x0 26 _ i k) (factA c b5 hb5 b13 x4 0 26 _) (factA c b5 hb5 b13 x4 1 26 _) (fun i l => scaleA c b2 hb2 b8 x1 26 _ i l) i n)

theorem sumA_27  (i : Fin 40) (n : Fin 256) : (r_676 c b1 hb1 b2 hb2 b3 hb3 b4 hb4 b5 hb5 b6 hb6 b8 b9 b10 b11 b12 b13 b14 b15 x0 x1 x2 x3 x4 x5) (ix2 i n)
    = (r_652 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 27 i n :=
  have H := highA c b4 hb4 b11 x3
  have L := lowA c b4 hb4 b12 x3
  have W := wA_6 c b3 hb3 b10 x2
  (congrFun (stepA_27 (F := Ideal) ..) (ix2 i n)).trans
  (step_block x0 x2 x3 x4 (fun s i => x1 (ix2 i s)) 27 (W 0 3 _) (W 1 3 _) (H 0 3 6 0 _) (H 1 3 6 0 _) (H 2 3 6 0 _) (H 3 3 6 0 _) (L 0 3 6 0 _) (L 1 3 6 0 _) (L 2 3 6 0 _) (L 3 3 6 0 _) (H 0 3 6 1 _) (H 1 3 6 1 _) (H 2 3 6 1 _) (H 3 3 6 1 _) (L 0 3 6 1 _) (L 1 3 6 1 _) (L 2 3 6 1 _) (L 3 3 6 1 _) (fun i k => arow_apply b1 hb1 x0 27 _ i k) (factA c b5 hb5 b13 x4 0 27 _) (factA c b5 hb5 b13 x4 1 27 _) (fun i l => scaleA c b2 hb2 b8 x1 27 _ i l) i n)

theorem sumA_28  (i : Fin 40) (n : Fin 256) : (r_699 c b1 hb1 b2 hb2 b3 hb3 b4 hb4 b5 hb5 b6 hb6 b8 b9 b10 b11 b12 b13 b14 b15 x0 x1 x2 x3 x4 x5) (ix2 i n)
    = (r_676 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 28 i n :=
  have H := highA c b4 hb4 b11 x3
  have L := lowA c b4 hb4 b12 x3
  have W := wA_7 c b3 hb3 b10 x2
  (congrFun (stepA_28 (F := Ideal) ..) (ix2 i n)).trans
  (step_block x0 x2 x3 x4 (fun s i => x1 (ix2 i s)) 28 (W 0 0 _) (W 1 0 _) (H 0 0 7 0 _) (H 1 0 7 0 _) (H 2 0 7 0 _) (H 3 0 7 0 _) (L 0 0 7 0 _) (L 1 0 7 0 _) (L 2 0 7 0 _) (L 3 0 7 0 _) (H 0 0 7 1 _) (H 1 0 7 1 _) (H 2 0 7 1 _) (H 3 0 7 1 _) (L 0 0 7 1 _) (L 1 0 7 1 _) (L 2 0 7 1 _) (L 3 0 7 1 _) (fun i k => arow_apply b1 hb1 x0 28 _ i k) (factA c b5 hb5 b13 x4 0 28 _) (factA c b5 hb5 b13 x4 1 28 _) (fun i l => scaleA c b2 hb2 b8 x1 28 _ i l) i n)

theorem sumA_29  (i : Fin 40) (n : Fin 256) : (r_722 c b1 hb1 b2 hb2 b3 hb3 b4 hb4 b5 hb5 b6 hb6 b8 b9 b10 b11 b12 b13 b14 b15 x0 x1 x2 x3 x4 x5) (ix2 i n)
    = (r_699 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 29 i n :=
  have H := highA c b4 hb4 b11 x3
  have L := lowA c b4 hb4 b12 x3
  have W := wA_7 c b3 hb3 b10 x2
  (congrFun (stepA_29 (F := Ideal) ..) (ix2 i n)).trans
  (step_block x0 x2 x3 x4 (fun s i => x1 (ix2 i s)) 29 (W 0 1 _) (W 1 1 _) (H 0 1 7 0 _) (H 1 1 7 0 _) (H 2 1 7 0 _) (H 3 1 7 0 _) (L 0 1 7 0 _) (L 1 1 7 0 _) (L 2 1 7 0 _) (L 3 1 7 0 _) (H 0 1 7 1 _) (H 1 1 7 1 _) (H 2 1 7 1 _) (H 3 1 7 1 _) (L 0 1 7 1 _) (L 1 1 7 1 _) (L 2 1 7 1 _) (L 3 1 7 1 _) (fun i k => arow_apply b1 hb1 x0 29 _ i k) (factA c b5 hb5 b13 x4 0 29 _) (factA c b5 hb5 b13 x4 1 29 _) (fun i l => scaleA c b2 hb2 b8 x1 29 _ i l) i n)

theorem sumA_30  (i : Fin 40) (n : Fin 256) : (r_744 c b1 hb1 b2 hb2 b3 hb3 b4 hb4 b5 hb5 b6 hb6 b8 b9 b10 b11 b12 b13 b14 b15 x0 x1 x2 x3 x4 x5) (ix2 i n)
    = (r_722 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 30 i n :=
  have H := highA c b4 hb4 b11 x3
  have L := lowA c b4 hb4 b12 x3
  have W := wA_7 c b3 hb3 b10 x2
  (congrFun (stepA_30 (F := Ideal) ..) (ix2 i n)).trans
  (step_block x0 x2 x3 x4 (fun s i => x1 (ix2 i s)) 30 (W 0 2 _) (W 1 2 _) (H 0 2 7 0 _) (H 1 2 7 0 _) (H 2 2 7 0 _) (H 3 2 7 0 _) (L 0 2 7 0 _) (L 1 2 7 0 _) (L 2 2 7 0 _) (L 3 2 7 0 _) (H 0 2 7 1 _) (H 1 2 7 1 _) (H 2 2 7 1 _) (H 3 2 7 1 _) (L 0 2 7 1 _) (L 1 2 7 1 _) (L 2 2 7 1 _) (L 3 2 7 1 _) (fun i k => arow_apply b1 hb1 x0 30 _ i k) (factA c b5 hb5 b13 x4 0 30 _) (factA c b5 hb5 b13 x4 1 30 _) (fun i l => scaleA c b2 hb2 b8 x1 30 _ i l) i n)

theorem sumA_31  (i : Fin 40) (n : Fin 256) : (k0_pay1099 (r_744 c b1 hb1 b2 hb2 b3 hb3 b4 hb4 b5 hb5 b6 hb6 b8 b9 b10 b11 b12 b13 b14 b15 x0 x1 x2 x3 x4 x5) (r_752 c b3 hb3 b4 hb4 b10 b11 x2 x3) (r_753 c b3 hb3 b4 hb4 b10 b12 x2 x3) (r_755 c b3 hb3 b4 hb4 b10 b11 x2 x3) (r_756 c b3 hb3 b4 hb4 b10 b12 x2 x3) (r_758 c b3 hb3 b4 hb4 b10 b11 x2 x3) (r_760 c b3 hb3 b4 hb4 b10 b12 x2 x3) (r_761 c b3 hb3 b4 hb4 b10 b11 x2 x3) (r_762 c b3 hb3 b4 hb4 b10 b12 x2 x3) (r_763 c b3 hb3 b10 x2) (r_764 c b3 hb3 b4 hb4 b10 b11 x2 x3) (r_765 c b4 hb4 b12 x3) (View.readAt (Elt Ideal) b1.view (Rect.unit (s := S32x40x256) ![31, 0, 0] S1x40x256.size inb_S32x40x256_S1x40x256_31_0_0).toLoadRect (hb1.unread x0)) (v7138 c b5 hb5 b13 x4) (v7140 c b5 hb5 b13 x4) (v7780 c b2 hb2 b8 x1)) (ix2 i n)
    = (r_744 c b1 hb1 b2 hb2 b3 hb3 b4 hb4 b5 hb5 b6 hb6 b8 b9 b10 b11 b12 b13 b14 b15 x0 x1 x2 x3 x4 x5) (ix2 i n) + blockTerm x0 x2 x3 x4 (fun s i => x1 (ix2 i s)) 31 i n :=
  have H := highA c b4 hb4 b11 x3
  have L := lowA c b4 hb4 b12 x3
  have W := wA_7 c b3 hb3 b10 x2
  (congrFun (stepA_31 (F := Ideal) ..) (ix2 i n)).trans
  (step_block x0 x2 x3 x4 (fun s i => x1 (ix2 i s)) 31 (W 0 3 _) (W 1 3 _) (H 0 3 7 0 _) (H 1 3 7 0 _) (H 2 3 7 0 _) (H 3 3 7 0 _) (L 0 3 7 0 _) (L 1 3 7 0 _) (L 2 3 7 0 _) (L 3 3 7 0 _) (H 0 3 7 1 _) (H 1 3 7 1 _) (H 2 3 7 1 _) (H 3 3 7 1 _) (L 0 3 7 1 _) (L 1 3 7 1 _) (L 2 3 7 1 _) (L 3 3 7 1 _) (fun i k => arow_apply b1 hb1 x0 31 _ i k) (factA c b5 hb5 b13 x4 0 31 _) (factA c b5 hb5 b13 x4 1 31 _) (fun i l => scaleA c b2 hb2 b8 x1 31 _ i l) i n)

end Cert.Step
end
-- ==== Proof.OutA.lean ====
/- Case A of the kernel body: the tile it leaves. -/
module

public import proofs.«01_k».proof.Proof.Tile
public import proofs.«01_k».proof.Proof.SumsA

@[expose] public section

noncomputable section

namespace Cert.Step

open Idealize.ShloMosaic Idealize.SL.Sem Cert.KernelIdeal Cert.KernelIdeal.Gen Cert.KernelIdeal.Gen.kernelRun0_A.sl

variable (c : Dev nD)
  (b1 : Memref sig Kind.tc Space.vmem S32x40x256 EltTy.i8) (hb1 : b1.IsWhole)
  (b2 : Memref sig Kind.tc Space.vmem S40x32 EltTy.f32) (hb2 : b2.IsWhole)
  (b3 : Memref sig Kind.tc Space.vmem S256x32x128 EltTy.i8) (hb3 : b3.IsWhole)
  (b4 : Memref sig Kind.tc Space.vmem S12x32x256 EltTy.i8) (hb4 : b4.IsWhole)
  (b5 : Memref sig Kind.tc Space.vmem S32x256 EltTy.i16) (hb5 : b5.IsWhole)
  (b6 : Memref sig Kind.tc Space.vmem S32x256 EltTy.i16) (hb6 : b6.IsWhole)
  (b7 : Memref sig Kind.tc Space.vmem S40x256 EltTy.f32) (hb7 : b7.IsWhole)
  (b8 : Memref sig Kind.tc Space.vmem S32x40x128 EltTy.f32) (hb8 : b8.IsWhole)
  (b9 : Memref sig Kind.tc Space.vmem S40x256 EltTy.f32) (hb9 : b9.IsWhole)
  (b10 : Memref sig Kind.tc Space.vmem S2x2x512x128 EltTy.i32) (hb10 : b10.IsWhole)
  (b11 : Memref sig Kind.tc Space.vmem S4x4x8x256 EltTy.i32) (hb11 : b11.IsWhole)
  (b12 : Memref sig Kind.tc Space.vmem S4x4x8x256 EltTy.i32) (hb12 : b12.IsWhole)
  (b13 : Memref sig Kind.tc Space.vmem S2x32x128 EltTy.f32) (hb13 : b13.IsWhole)
  (b14 : Memref sig Kind.tc Space.vmem S2x32x128 EltTy.f32) (hb14 : b14.IsWhole)
  (b15 : Memref sig Kind.tc Space.vmem S256x256 EltTy.f32) (hb15 : b15.IsWhole)
  (x0 : Vec Ideal S32x40x256 .i8) (x1 : Vec Ideal S40x32 .f32) (x2 : Vec Ideal S256x32x128 .i8) (x3 : Vec Ideal S12x32x256 .i8) (x4 : Vec Ideal S32x256 .i16) (x5 : Vec Ideal S32x256 .i16) (xs0 : Vec Ideal S32x40x128 .f32) (xs1 : Vec Ideal S40x256 .f32)

theorem firstA (i : Fin 40) (n : Fin 256) : (r_44 c b1 hb1 b2 hb2 b4 hb4 b6 hb6 b8 b9 b14 b15 x0 x1 x3 x5) (ix2 i n) = 0 - ∑ q : Fin 256, codeSum x0 (fun s i => x1 (ix2 i s)) i q * minTerm x3 x5 q n :=
  initial_eq _ _ i n _ _ (fun q => (congrArg (fun L => View.readCov (Val := Elt Ideal) b9.view L (Rect.unit (s := S40x256) ![0, 0] S40x256.size inb_S40x256_S40x256_0_0).toLoadRect (ix2 i q)) (lmin_pieces (F := Ideal) c b1 hb1 b2 hb2 b8 x0 x1)).trans ((whole_load b9.view _ _ i q _).trans (llminA_apply c b1 hb1 b2 hb2 b8 x0 x1 i q (grp q).isLt)))
    (fun q => (congrArg (fun L => View.readCov (Val := Elt Ideal) b15.view L (Rect.unit (s := S256x256) ![0, 0] S256x256.size inb_S256x256_S256x256_0_0).toLoadRect (ix2 q n)) (rmpiecesA (F := Ideal) c b4 hb4 b6 hb6 b14 x3 x5)).trans (minima b15.view b14.view b4 hb4 x3 b6 hb6 x5 _ _ q n))

def lastA : FVec Ideal S40x256 .f32 := (k0_pay1099 (r_744 c b1 hb1 b2 hb2 b3 hb3 b4 hb4 b5 hb5 b6 hb6 b8 b9 b10 b11 b12 b13 b14 b15 x0 x1 x2 x3 x4 x5) (r_752 c b3 hb3 b4 hb4 b10 b11 x2 x3) (r_753 c b3 hb3 b4 hb4 b10 b12 x2 x3) (r_755 c b3 hb3 b4 hb4 b10 b11 x2 x3) (r_756 c b3 hb3 b4 hb4 b10 b12 x2 x3) (r_758 c b3 hb3 b4 hb4 b10 b11 x2 x3) (r_760 c b3 hb3 b4 hb4 b10 b12 x2 x3) (r_761 c b3 hb3 b4 hb4 b10 b11 x2 x3) (r_762 c b3 hb3 b4 hb4 b10 b12 x2 x3) (r_763 c b3 hb3 b10 x2) (r_764 c b3 hb3 b4 hb4 b10 b11 x2 x3) (r_765 c b4 hb4 b12 x3) (View.readAt (Elt Ideal) b1.view (Rect.unit (s := S32x40x256) ![31, 0, 0] S1x40x256.size inb_S32x40x256_S1x40x256_31_0_0).toLoadRect (hb1.unread x0)) (v7138 c b5 hb5 b13 x4) (v7140 c b5 hb5 b13 x4) (v7780 c b2 hb2 b8 x1))

theorem lastA_apply (i : Fin 40) (n : Fin 256) : lastA c b1 hb1 b2 hb2 b3 hb3 b4 hb4 b5 hb5 b6 hb6 b8 b9 b10 b11 b12 b13 b14 b15 x0 x1 x2 x3 x4 x5 (ix2 i n) = outVal x0 x2 x3 x4 x5 (fun s i => x1 (ix2 i s)) i n := by
  unfold lastA
  rw [sumA_31]
  rw [sumA_30]
  rw [sumA_29]
  rw [sumA_28]
  rw [sumA_27]
  rw [sumA_26]
  rw [sumA_25]
  rw [sumA_24]
  rw [sumA_23]
  rw [sumA_22]
  rw [sumA_21]
  rw [sumA_20]
  rw [sumA_19]
  rw [sumA_18]
  rw [sumA_17]
  rw [sumA_16]
  rw [sumA_15]
  rw [sumA_14]
  rw [sumA_13]
  rw [sumA_12]
  rw [sumA_11]
  rw [sumA_10]
  rw [sumA_9]
  rw [sumA_8]
  rw [sumA_7]
  rw [sumA_6]
  rw [sumA_5]
  rw [sumA_4]
  rw [sumA_3]
  rw [sumA_2]
  rw [sumA_1]
  rw [sumA_0]
  rw [firstA]
  exact sum32 _ (fun s => blockTerm x0 x2 x3 x4 (fun s i => x1 (ix2 i s)) s i n)

end Cert.Step
end
-- ==== Proof.BridgeB.lean ====
/- Case B of the kernel body: each running sum is `step` of the one before and of what is loaded. -/
module

public import proofs.«01_k».proof.Proof.Step

@[expose] public section

noncomputable section

namespace Cert.Step

open Idealize.ShloMosaic Idealize.SL.Sem Cert.KernelIdeal Cert.KernelIdeal.Gen Cert.KernelIdeal.Gen.kernelRun0_B.sl

variable {F : FTy → Type} [FloatOps F] (c : Dev nD)
  (b1 : Memref sig Kind.tc Space.vmem S32x40x256 EltTy.i8) (hb1 : b1.IsWhole)
  (b2 : Memref sig Kind.tc Space.vmem S40x32 EltTy.f32) (hb2 : b2.IsWhole)
  (b3 : Memref sig Kind.tc Space.vmem S256x32x128 EltTy.i8) (hb3 : b3.IsWhole)
  (b4 : Memref sig Kind.tc Space.vmem S12x32x256 EltTy.i8) (hb4 : b4.IsWhole)
  (b5 : Memref sig Kind.tc Space.vmem S32x256 EltTy.i16) (hb5 : b5.IsWhole)
  (b6 : Memref sig Kind.tc Space.vmem S32x256 EltTy.i16) (hb6 : b6.IsWhole)
  (b7 : Memref sig Kind.tc Space.vmem S40x256 EltTy.f32) (hb7 : b7.IsWhole)
  (b8 : Memref sig Kind.tc Space.vmem S32x40x128 EltTy.f32) (hb8 : b8.IsWhole)
  (b9 : Memref sig Kind.tc Space.vmem S40x256 EltTy.f32) (hb9 : b9.IsWhole)
  (b10 : Memref sig Kind.tc Space.vmem S2x2x512x128 EltTy.i32) (hb10 : b10.IsWhole)
  (b11 : Memref sig Kind.tc Space.vmem S4x4x8x256 EltTy.i32) (hb11 : b11.IsWhole)
  (b12 : Memref sig Kind.tc Space.vmem S4x4x8x256 EltTy.i32) (hb12 : b12.IsWhole)
  (b13 : Memref sig Kind.tc Space.vmem S2x32x128 EltTy.f32) (hb13 : b13.IsWhole)
  (b14 : Memref sig Kind.tc Space.vmem S2x32x128 EltTy.f32) (hb14 : b14.IsWhole)
  (b15 : Memref sig Kind.tc Space.vmem S256x256 EltTy.f32) (hb15 : b15.IsWhole)
  (x0 : Vec F S32x40x256 .i8) (x1 : Vec F S40x32 .f32) (x2 : Vec F S256x32x128 .i8) (x3 : Vec F S12x32x256 .i8) (x4 : Vec F S32x256 .i16) (x5 : Vec F S32x256 .i16) (xs0 : Vec F S32x40x128 .f32) (xs1 : Vec F S40x256 .f32)

/-- Row block `s` of the codes. -/
abbrev rowB (s : Fin 32) : Vec F S1x40x256 .i8 :=
  View.readAt (Elt F) b1.view (Rect.unit (s := S32x40x256) ![s.val, 0, 0] S1x40x256.size (by revert s; decide)).toLoadRect (hb1.unread x0)

/-- Row block `s` of the kept scales. -/
abbrev keptRow (s : Fin 32) : Vec F S1x40x128 .f32 :=
  View.readAt (Elt F) b8.view (Rect.unit (s := S32x40x128) ![s.val, 0, 0] S1x40x128.size (by revert s; decide)).toLoadRect (hb8.unread xs0)

/-- `step` of one block's loads, each load given as a function of the memory it reads. -/
abbrev stepOfB (acc : FVec F S40x256 .f32) (s : Fin 32)
    (w0 w1 : Dev nD → (b3 : Memref sig Kind.tc Space.vmem S256x32x128 EltTy.i8) → b3.IsWhole → Memref sig Kind.tc Space.vmem S2x2x512x128 EltTy.i32 → Vec F S256x32x128 .i8 → Vec F S1x1x128x128 .i32)
    (h0 h1 h2 h3 l0 l1 l2 l3 g0 g1 g2 g3 m0 m1 m2 m3 : Dev nD → (b4 : Memref sig Kind.tc Space.vmem S12x32x256 EltTy.i8) → b4.IsWhole → Memref sig Kind.tc Space.vmem S4x4x8x256 EltTy.i32 → Vec F S12x32x256 .i8 → Vec F S1x1x1x128 .i32)
    (d0 d1 : Dev nD → (b5 : Memref sig Kind.tc Space.vmem S32x256 EltTy.i16) → b5.IsWhole → Memref sig Kind.tc Space.vmem S2x32x128 EltTy.f32 → Vec F S32x256 .i16 → Vec F S1x1x128 .f32)
    (sa : Vec F S1x40x128 .f32) : FVec F S40x256 .f32 :=
  step acc (w0 c b3 hb3 b10 x2) (w1 c b3 hb3 b10 x2)
    (h0 c b4 hb4 b11 x3) (h1 c b4 hb4 b11 x3) (h2 c b4 hb4 b11 x3) (h3 c b4 hb4 b11 x3) (l0 c b4 hb4 b12 x3) (l1 c b4 hb4 b12 x3) (l2 c b4 hb4 b12 x3) (l3 c b4 hb4 b12 x3)
    (g0 c b4 hb4 b11 x3) (g1 c b4 hb4 b11 x3) (g2 c b4 hb4 b11 x3) (g3 c b4 hb4 b11 x3) (m0 c b4 hb4 b12 x3) (m1 c b4 hb4 b12 x3) (m2 c b4 hb4 b12 x3) (m3 c b4 hb4 b12 x3)
    (rowB b1 hb1 x0 s) (d0 c b5 hb5 b13 x4) (d1 c b5 hb5 b13 x4) sa

theorem stepB_0 : (r_44 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_23 c b4 hb4 b6 hb6 b9 hb9 b14 b15 x3 x5 xs1) 0 v909 v993 v915 v935 v955 v975 v923 v943 v963 v983 v999 v1019 v1039 v1059 v1007 v1027 v1047 v1067 v1087 v1089 (keptRow b8 hb8 xs0 0) := rfl

theorem stepB_1 : (r_64 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_44 c b1 hb1 b3 hb3 b4 hb4 b5 hb5 b6 hb6 b8 hb8 b9 hb9 b10 b11 b12 b13 b14 b15 x0 x2 x3 x4 x5 xs0 xs1) 1 v1099 v1183 v1105 v1125 v1145 v1165 v1113 v1133 v1153 v1173 v1189 v1209 v1229 v1249 v1197 v1217 v1237 v1257 v1277 v1279 (keptRow b8 hb8 xs0 1) := rfl

theorem stepB_2 : (r_84 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_64 c b1 hb1 b3 hb3 b4 hb4 b5 hb5 b6 hb6 b8 hb8 b9 hb9 b10 b11 b12 b13 b14 b15 x0 x2 x3 x4 x5 xs0 xs1) 2 v1289 v1373 v1295 v1315 v1335 v1355 v1303 v1323 v1343 v1363 v1379 v1399 v1419 v1439 v1387 v1407 v1427 v1447 v1467 v1469 (keptRow b8 hb8 xs0 2) := rfl

theorem stepB_3 : (r_106 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_84 c b1 hb1 b3 hb3 b4 hb4 b5 hb5 b6 hb6 b8 hb8 b9 hb9 b10 b11 b12 b13 b14 b15 x0 x2 x3 x4 x5 xs0 xs1) 3 v1479 v1563 v1485 v1505 v1525 v1545 v1493 v1513 v1533 v1553 v1569 v1589 v1609 v1629 v1577 v1597 v1617 v1637 v1657 v1659 (keptRow b8 hb8 xs0 3) := rfl

theorem stepB_4 : (r_129 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_106 c b1 hb1 b3 hb3 b4 hb4 b5 hb5 b6 hb6 b8 hb8 b9 hb9 b10 b11 b12 b13 b14 b15 x0 x2 x3 x4 x5 xs0 xs1) 4 v1692 v1776 v1698 v1718 v1738 v1758 v1706 v1726 v1746 v1766 v1782 v1802 v1822 v1842 v1790 v1810 v1830 v1850 v1870 v1872 (keptRow b8 hb8 xs0 4) := rfl

theorem stepB_5 : (r_150 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_129 c b1 hb1 b3 hb3 b4 hb4 b5 hb5 b6 hb6 b8 hb8 b9 hb9 b10 b11 b12 b13 b14 b15 x0 x2 x3 x4 x5 xs0 xs1) 5 v1882 v1966 v1888 v1908 v1928 v1948 v1896 v1916 v1936 v1956 v1972 v1992 v2012 v2032 v1980 v2000 v2020 v2040 v2060 v2062 (keptRow b8 hb8 xs0 5) := rfl

theorem stepB_6 : (r_171 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_150 c b1 hb1 b3 hb3 b4 hb4 b5 hb5 b6 hb6 b8 hb8 b9 hb9 b10 b11 b12 b13 b14 b15 x0 x2 x3 x4 x5 xs0 xs1) 6 v2072 v2156 v2078 v2098 v2118 v2138 v2086 v2106 v2126 v2146 v2162 v2182 v2202 v2222 v2170 v2190 v2210 v2230 v2250 v2252 (keptRow b8 hb8 xs0 6) := rfl

theorem stepB_7 : (r_192 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_171 c b1 hb1 b3 hb3 b4 hb4 b5 hb5 b6 hb6 b8 hb8 b9 hb9 b10 b11 b12 b13 b14 b15 x0 x2 x3 x4 x5 xs0 xs1) 7 v2262 v2346 v2268 v2288 v2308 v2328 v2276 v2296 v2316 v2336 v2352 v2372 v2392 v2412 v2360 v2380 v2400 v2420 v2440 v2442 (keptRow b8 hb8 xs0 7) := rfl

theorem stepB_8 : (r_218 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_192 c b1 hb1 b3 hb3 b4 hb4 b5 hb5 b6 hb6 b8 hb8 b9 hb9 b10 b11 b12 b13 b14 b15 x0 x2 x3 x4 x5 xs0 xs1) 8 v2475 v2559 v2481 v2501 v2521 v2541 v2489 v2509 v2529 v2549 v2565 v2585 v2605 v2625 v2573 v2593 v2613 v2633 v2653 v2655 (keptRow b8 hb8 xs0 8) := rfl

theorem stepB_9 : (r_243 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_218 c b1 hb1 b3 hb3 b4 hb4 b5 hb5 b6 hb6 b8 hb8 b9 hb9 b10 b11 b12 b13 b14 b15 x0 x2 x3 x4 x5 xs0 xs1) 9 v2665 v2749 v2671 v2691 v2711 v2731 v2679 v2699 v2719 v2739 v2755 v2775 v2795 v2815 v2763 v2783 v2803 v2823 v2843 v2845 (keptRow b8 hb8 xs0 9) := rfl

theorem stepB_10 : (r_268 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_243 c b1 hb1 b3 hb3 b4 hb4 b5 hb5 b6 hb6 b8 hb8 b9 hb9 b10 b11 b12 b13 b14 b15 x0 x2 x3 x4 x5 xs0 xs1) 10 v2855 v2939 v2861 v2881 v2901 v2921 v2869 v2889 v2909 v2929 v2945 v2965 v2985 v3005 v2953 v2973 v2993 v3013 v3033 v3035 (keptRow b8 hb8 xs0 10) := rfl

theorem stepB_11 : (r_293 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_268 c b1 hb1 b3 hb3 b4 hb4 b5 hb5 b6 hb6 b8 hb8 b9 hb9 b10 b11 b12 b13 b14 b15 x0 x2 x3 x4 x5 xs0 xs1) 11 v3045 v3129 v3051 v3071 v3091 v3111 v3059 v3079 v3099 v3119 v3135 v3155 v3175 v3195 v3143 v3163 v3183 v3203 v3223 v3225 (keptRow b8 hb8 xs0 11) := rfl

theorem stepB_12 : (r_314 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_293 c b1 hb1 b3 hb3 b4 hb4 b5 hb5 b6 hb6 b8 hb8 b9 hb9 b10 b11 b12 b13 b14 b15 x0 x2 x3 x4 x5 xs0 xs1) 12 v3258 v3342 v3264 v3284 v3304 v3324 v3272 v3292 v3312 v3332 v3348 v3368 v3388 v3408 v3356 v3376 v3396 v3416 v3436 v3438 (keptRow b8 hb8 xs0 12) := rfl

theorem stepB_13 : (r_335 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_314 c b1 hb1 b3 hb3 b4 hb4 b5 hb5 b6 hb6 b8 hb8 b9 hb9 b10 b11 b12 b13 b14 b15 x0 x2 x3 x4 x5 xs0 xs1) 13 v3448 v3532 v3454 v3474 v3494 v3514 v3462 v3482 v3502 v3522 v3538 v3558 v3578 v3598 v3546 v3566 v3586 v3606 v3626 v3628 (keptRow b8 hb8 xs0 13) := rfl

theorem stepB_14 : (r_355 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_335 c b1 hb1 b3 hb3 b4 hb4 b5 hb5 b6 hb6 b8 hb8 b9 hb9 b10 b11 b12 b13 b14 b15 x0 x2 x3 x4 x5 xs0 xs1) 14 v3638 v3722 v3644 v3664 v3684 v3704 v3652 v3672 v3692 v3712 v3728 v3748 v3768 v3788 v3736 v3756 v3776 v3796 v3816 v3818 (keptRow b8 hb8 xs0 14) := rfl

theorem stepB_15 : (r_377 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_355 c b1 hb1 b3 hb3 b4 hb4 b5 hb5 b6 hb6 b8 hb8 b9 hb9 b10 b11 b12 b13 b14 b15 x0 x2 x3 x4 x5 xs0 xs1) 15 v3828 v3912 v3834 v3854 v3874 v3894 v3842 v3862 v3882 v3902 v3918 v3938 v3958 v3978 v3926 v3946 v3966 v3986 v4006 v4008 (keptRow b8 hb8 xs0 15) := rfl

theorem stepB_16 : (r_401 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_377 c b1 hb1 b3 hb3 b4 hb4 b5 hb5 b6 hb6 b8 hb8 b9 hb9 b10 b11 b12 b13 b14 b15 x0 x2 x3 x4 x5 xs0 xs1) 16 v4041 v4125 v4047 v4067 v4087 v4107 v4055 v4075 v4095 v4115 v4131 v4151 v4171 v4191 v4139 v4159 v4179 v4199 v4219 v4221 (keptRow b8 hb8 xs0 16) := rfl

theorem stepB_17 : (r_423 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_401 c b1 hb1 b3 hb3 b4 hb4 b5 hb5 b6 hb6 b8 hb8 b9 hb9 b10 b11 b12 b13 b14 b15 x0 x2 x3 x4 x5 xs0 xs1) 17 v4231 v4315 v4237 v4257 v4277 v4297 v4245 v4265 v4285 v4305 v4321 v4341 v4361 v4381 v4329 v4349 v4369 v4389 v4409 v4411 (keptRow b8 hb8 xs0 17) := rfl

theorem stepB_18 : (r_444 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_423 c b1 hb1 b3 hb3 b4 hb4 b5 hb5 b6 hb6 b8 hb8 b9 hb9 b10 b11 b12 b13 b14 b15 x0 x2 x3 x4 x5 xs0 xs1) 18 v4421 v4505 v4427 v4447 v4467 v4487 v4435 v4455 v4475 v4495 v4511 v4531 v4551 v4571 v4519 v4539 v4559 v4579 v4599 v4601 (keptRow b8 hb8 xs0 18) := rfl

theorem stepB_19 : (r_464 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_444 c b1 hb1 b3 hb3 b4 hb4 b5 hb5 b6 hb6 b8 hb8 b9 hb9 b10 b11 b12 b13 b14 b15 x0 x2 x3 x4 x5 xs0 xs1) 19 v4611 v4695 v4617 v4637 v4657 v4677 v4625 v4645 v4665 v4685 v4701 v4721 v4741 v4761 v4709 v4729 v4749 v4769 v4789 v4791 (keptRow b8 hb8 xs0 19) := rfl

theorem stepB_20 : (r_490 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_464 c b1 hb1 b3 hb3 b4 hb4 b5 hb5 b6 hb6 b8 hb8 b9 hb9 b10 b11 b12 b13 b14 b15 x0 x2 x3 x4 x5 xs0 xs1) 20 v4824 v4908 v4830 v4850 v4870 v4890 v4838 v4858 v4878 v4898 v4914 v4934 v4954 v4974 v4922 v4942 v4962 v4982 v5002 v5004 (keptRow b8 hb8 xs0 20) := rfl

theorem stepB_21 : (r_514 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_490 c b1 hb1 b3 hb3 b4 hb4 b5 hb5 b6 hb6 b8 hb8 b9 hb9 b10 b11 b12 b13 b14 b15 x0 x2 x3 x4 x5 xs0 xs1) 21 v5014 v5098 v5020 v5040 v5060 v5080 v5028 v5048 v5068 v5088 v5104 v5124 v5144 v5164 v5112 v5132 v5152 v5172 v5192 v5194 (keptRow b8 hb8 xs0 21) := rfl

theorem stepB_22 : (r_537 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_514 c b1 hb1 b3 hb3 b4 hb4 b5 hb5 b6 hb6 b8 hb8 b9 hb9 b10 b11 b12 b13 b14 b15 x0 x2 x3 x4 x5 xs0 xs1) 22 v5204 v5288 v5210 v5230 v5250 v5270 v5218 v5238 v5258 v5278 v5294 v5314 v5334 v5354 v5302 v5322 v5342 v5362 v5382 v5384 (keptRow b8 hb8 xs0 22) := rfl

theorem stepB_23 : (r_559 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_537 c b1 hb1 b3 hb3 b4 hb4 b5 hb5 b6 hb6 b8 hb8 b9 hb9 b10 b11 b12 b13 b14 b15 x0 x2 x3 x4 x5 xs0 xs1) 23 v5394 v5478 v5400 v5420 v5440 v5460 v5408 v5428 v5448 v5468 v5484 v5504 v5524 v5544 v5492 v5512 v5532 v5552 v5572 v5574 (keptRow b8 hb8 xs0 23) := rfl

theorem stepB_24 : (r_584 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_559 c b1 hb1 b3 hb3 b4 hb4 b5 hb5 b6 hb6 b8 hb8 b9 hb9 b10 b11 b12 b13 b14 b15 x0 x2 x3 x4 x5 xs0 xs1) 24 v5607 v5691 v5613 v5633 v5653 v5673 v5621 v5641 v5661 v5681 v5697 v5717 v5737 v5757 v5705 v5725 v5745 v5765 v5785 v5787 (keptRow b8 hb8 xs0 24) := rfl

theorem stepB_25 : (r_608 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_584 c b1 hb1 b3 hb3 b4 hb4 b5 hb5 b6 hb6 b8 hb8 b9 hb9 b10 b11 b12 b13 b14 b15 x0 x2 x3 x4 x5 xs0 xs1) 25 v5797 v5881 v5803 v5823 v5843 v5863 v5811 v5831 v5851 v5871 v5887 v5907 v5927 v5947 v5895 v5915 v5935 v5955 v5975 v5977 (keptRow b8 hb8 xs0 25) := rfl

theorem stepB_26 : (r_632 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_608 c b1 hb1 b3 hb3 b4 hb4 b5 hb5 b6 hb6 b8 hb8 b9 hb9 b10 b11 b12 b13 b14 b15 x0 x2 x3 x4 x5 xs0 xs1) 26 v5987 v6071 v5993 v6013 v6033 v6053 v6001 v6021 v6041 v6061 v6077 v6097 v6117 v6137 v6085 v6105 v6125 v6145 v6165 v6167 (keptRow b8 hb8 xs0 26) := rfl

theorem stepB_27 : (r_656 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_632 c b1 hb1 b3 hb3 b4 hb4 b5 hb5 b6 hb6 b8 hb8 b9 hb9 b10 b11 b12 b13 b14 b15 x0 x2 x3 x4 x5 xs0 xs1) 27 v6177 v6261 v6183 v6203 v6223 v6243 v6191 v6211 v6231 v6251 v6267 v6287 v6307 v6327 v6275 v6295 v6315 v6335 v6355 v6357 (keptRow b8 hb8 xs0 27) := rfl

theorem stepB_28 : (r_679 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_656 c b1 hb1 b3 hb3 b4 hb4 b5 hb5 b6 hb6 b8 hb8 b9 hb9 b10 b11 b12 b13 b14 b15 x0 x2 x3 x4 x5 xs0 xs1) 28 v6390 v6474 v6396 v6416 v6436 v6456 v6404 v6424 v6444 v6464 v6480 v6500 v6520 v6540 v6488 v6508 v6528 v6548 v6568 v6570 (keptRow b8 hb8 xs0 28) := rfl

theorem stepB_29 : (r_702 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_679 c b1 hb1 b3 hb3 b4 hb4 b5 hb5 b6 hb6 b8 hb8 b9 hb9 b10 b11 b12 b13 b14 b15 x0 x2 x3 x4 x5 xs0 xs1) 29 v6580 v6664 v6586 v6606 v6626 v6646 v6594 v6614 v6634 v6654 v6670 v6690 v6710 v6730 v6678 v6698 v6718 v6738 v6758 v6760 (keptRow b8 hb8 xs0 29) := rfl

theorem stepB_30 : (r_724 c b1 hb1 b3 hb3 b4 hb4 b5 hb5 b6 hb6 b8 hb8 b9 hb9 b10 b11 b12 b13 b14 b15 x0 x2 x3 x4 x5 xs0 xs1) =
    stepOfB c b1 hb1 b3 hb3 b4 hb4 b5 hb5 b10 b11 b12 b13 x0 x2 x3 x4 (r_702 c b1 hb1 b3 hb3 b4 hb4 b5 hb5 b6 hb6 b8 hb8 b9 hb9 b10 b11 b12 b13 b14 b15 x0 x2 x3 x4 x5 xs0 xs1) 30 v6770 v6854 v6776 v6796 v6816 v6836 v6784 v6804 v6824 v6844 v6860 v6880 v6900 v6920 v6868 v6888 v6908 v6928 v6948 v6950 (keptRow b8 hb8 xs0 30) := rfl

theorem stepB_31 : (k0_pay1099 (r_724 c b1 hb1 b3 hb3 b4 hb4 b5 hb5 b6 hb6 b8 hb8 b9 hb9 b10 b11 b12 b13 b14 b15 x0 x2 x3 x4 x5 xs0 xs1) (r_732 c b3 hb3 b4 hb4 b10 b11 x2 x3) (r_733 c b3 hb3 b4 hb4 b10 b12 x2 x3) (r_735 c b3 hb3 b4 hb4 b10 b11 x2 x3) (r_736 c b3 hb3 b4 hb4 b10 b12 x2 x3) (r_738 c b3 hb3 b4 hb4 b10 b11 x2 x3) (r_740 c b3 hb3 b4 hb4 b10 b12 x2 x3) (r_741 c b3 hb3 b4 hb4 b10 b11 x2 x3) (r_742 c b3 hb3 b4 hb4 b10 b12 x2 x3) (r_743 c b3 hb3 b10 x2) (r_744 c b3 hb3 b4 hb4 b10 b11 x2 x3) (r_745 c b4 hb4 b12 x3) (View.readAt (Elt F) b1.view (Rect.unit (s := S32x40x256) ![31, 0, 0] S1x40x256.size inb_S32x40x256_S1x40x256_31_0_0).toLoadRect (hb1.unread x0)) (v7138 c b5 hb5 b13 x4) (v7140 c b5 hb5 b13 x4) (View.readAt (Elt F) b8.view (Rect.unit (s := S32x40x128) ![31, 0, 0] S1x40x128.size inb_S32x40x128_S1x40x128_31_0_0).toLoadRect (hb8.unread xs0))) =
    stepOfB c b1 hb1 b3 hb3 b4 hb4 b5 hb5 b10 b11 b12 b13 x0 x2 x3 x4 (r_724 c b1 hb1 b3 hb3 b4 hb4 b5 hb5 b6 hb6 b8 hb8 b9 hb9 b10 b11 b12 b13 b14 b15 x0 x2 x3 x4 x5 xs0 xs1) 31 v6960 v7044 v6966 v6986 v7006 v7026 v6974 v6994 v7014 v7034 v7050 v7070 v7090 v7110 v7058 v7078 v7098 v7118 v7138 v7140 (keptRow b8 hb8 xs0 31) := rfl

end Cert.Step
end
-- ==== Proof.LoadsB.lean ====
/- Case B of the kernel body: each block adds its term to an element of the running sum. -/
module

public import proofs.«01_k».proof.Proof.ASTile
public import proofs.«01_k».proof.Proof.BridgeB

@[expose] public section

noncomputable section

namespace Cert.Step

open Idealize.ShloMosaic Idealize.SL.Sem Cert.KernelIdeal Cert.KernelIdeal.Gen Cert.KernelIdeal.Gen.kernelRun0_B.sl

variable {F : FTy → Type} [FloatOps F] (c : Dev nD)
  (b1 : Memref sig Kind.tc Space.vmem S32x40x256 EltTy.i8) (hb1 : b1.IsWhole)
  (b2 : Memref sig Kind.tc Space.vmem S40x32 EltTy.f32) (hb2 : b2.IsWhole)
  (b3 : Memref sig Kind.tc Space.vmem S256x32x128 EltTy.i8) (hb3 : b3.IsWhole)
  (b4 : Memref sig Kind.tc Space.vmem S12x32x256 EltTy.i8) (hb4 : b4.IsWhole)
  (b5 : Memref sig Kind.tc Space.vmem S32x256 EltTy.i16) (hb5 : b5.IsWhole)
  (b6 : Memref sig Kind.tc Space.vmem S32x256 EltTy.i16) (hb6 : b6.IsWhole)
  (b7 : Memref sig Kind.tc Space.vmem S40x256 EltTy.f32) (hb7 : b7.IsWhole)
  (b8 : Memref sig Kind.tc Space.vmem S32x40x128 EltTy.f32) (hb8 : b8.IsWhole)
  (b9 : Memref sig Kind.tc Space.vmem S40x256 EltTy.f32) (hb9 : b9.IsWhole)
  (b10 : Memref sig Kind.tc Space.vmem S2x2x512x128 EltTy.i32) (hb10 : b10.IsWhole)
  (b11 : Memref sig Kind.tc Space.vmem S4x4x8x256 EltTy.i32) (hb11 : b11.IsWhole)
  (b12 : Memref sig Kind.tc Space.vmem S4x4x8x256 EltTy.i32) (hb12 : b12.IsWhole)
  (b13 : Memref sig Kind.tc Space.vmem S2x32x128 EltTy.f32) (hb13 : b13.IsWhole)
  (b14 : Memref sig Kind.tc Space.vmem S2x32x128 EltTy.f32) (hb14 : b14.IsWhole)
  (b15 : Memref sig Kind.tc Space.vmem S256x256 EltTy.f32) (hb15 : b15.IsWhole)
  (x0 : Vec F S32x40x256 .i8) (x1 : Vec F S40x32 .f32) (x2 : Vec F S256x32x128 .i8) (x3 : Vec F S12x32x256 .i8) (x4 : Vec F S32x256 .i16) (x5 : Vec F S32x256 .i16) (xs0 : Vec F S32x40x128 .f32) (xs1 : Vec F S40x256 .f32)

abbrev d5B := View.readAt (Elt F) b5.view (Rect.unit (s := S32x256) ![0, 0] S32x256.size inb_S32x256_S32x256_0_0).toLoadRect (hb5.unread x4)
abbrev d6B := View.readAt (Elt F) b6.view (Rect.unit (s := S32x256) ![0, 0] S32x256.size inb_S32x256_S32x256_0_0).toLoadRect (hb6.unread x5)

theorem highTileB : (HS3_16 c b4 hb4 x3) = pieces16 (highTile (planes b4 hb4 x3)) := rfl
theorem lowTileB : (HS4_16 c b4 hb4 x3) = pieces16 (lowTile (planes b4 hb4 x3)) := rfl
theorem dpiecesB : (HS5_4 c b5 hb5 x4) = dpieces (d5B b5 hb5 x4) := rfl
theorem dmpiecesB : (HS6_4 c b6 hb6 x5) = dpieces (d6B b6 hb6 x5) := rfl
theorem rmpiecesB : (HS7_32 c b4 hb4 b6 hb6 b14 x3 x5) = pieces32 (rmtile b14.view (planes b4 hb4 x3) (d6B b6 hb6 x5)) := rfl

theorem highB (q b : Fin 4) (r : Fin 8) (t : Fin 2) (h : ∀ a, ![q.val, b.val, r.val, 128 * t.val] a + S1x1x1x128.size a ≤ S4x4x8x256.size a) (l : Fin 128) :
    b11.view.readCov (Val := Elt F) (HS3_16 c b4 hb4 x3) (Rect.unit (s := S4x4x8x256) ![q.val, b.val, r.val, 128 * t.val] S1x1x1x128.size h).toLoadRect (ix4 0 0 0 l)
      = pairW ((six x3 ⟨4 * r.val + b.val, by omega⟩ (lane t l) 0 q >>> 3) &&& 7#8) ((six x3 ⟨4 * r.val + b.val, by omega⟩ (lane t l) 1 q >>> 3) &&& 7#8) := by
  rw [highTileB]
  refine (sixload b11.view (highTile (planes b4 hb4 x3)) q b r t h l).trans ((highTile_apply (planes b4 hb4 x3) q b r (lane t l)).trans ?_)
  rw [sixOf_planes, sixOf_planes]

theorem lowB (q b : Fin 4) (r : Fin 8) (t : Fin 2) (h : ∀ a, ![q.val, b.val, r.val, 128 * t.val] a + S1x1x1x128.size a ≤ S4x4x8x256.size a) (l : Fin 128) :
    b12.view.readCov (Val := Elt F) (HS4_16 c b4 hb4 x3) (Rect.unit (s := S4x4x8x256) ![q.val, b.val, r.val, 128 * t.val] S1x1x1x128.size h).toLoadRect (ix4 0 0 0 l)
      = pairW (six x3 ⟨4 * r.val + b.val, by omega⟩ (lane t l) 0 q &&& 7#8) (six x3 ⟨4 * r.val + b.val, by omega⟩ (lane t l) 1 q &&& 7#8) := by
  rw [lowTileB]
  refine (sixload b12.view (lowTile (planes b4 hb4 x3)) q b r t h l).trans ((lowTile_apply (planes b4 hb4 x3) q b r (lane t l)).trans ?_)
  rw [sixOf_planes, sixOf_planes]

theorem factB (t : Fin 2) (s : Fin 32) (h : ∀ a, ![t.val, s.val, 0] a + S1x1x128.size a ≤ S2x32x128.size a) (l : Fin 128) :
    b13.view.readCov (Val := Elt F) (HS5_4 c b5 hb5 x4) (Rect.unit (s := S2x32x128) ![t.val, s.val, 0] S1x1x128.size h).toLoadRect (ix3 0 0 l)
      = factor x4 s (lane t l) := by
  rw [dpiecesB]
  exact (dload b13.view _ t s h l).trans (congrArg (fun v => factor v s (lane t l)) (rows16_apply b5 hb5 x4 _))

theorem wB_0 (t : Fin 2) (b : Fin 4) (h : ∀ a, S1x1x128x128.size a = 0 ∨ ![0, t.val, b.val, 0] a + ![1, 1, 4, 1] a * (S1x1x128x128.size a - 1) < S2x2x512x128.size a) (y l : Fin 128) :
    b10.view.readCov (Val := Elt F) (HS2_2 c b3 hb3 x2) { off := ![0, t.val, b.val, 0], size := S1x1x128x128.size, stride := ![1, 1, 4, 1], inb := h } (ix4 0 0 y l)
      = pairW (x2 (ix3 (lane t l) ⟨0 + b.val, by omega⟩ y) &&& 15#8) (x2 (ix3 (lane t l) ⟨0 + b.val, by omega⟩ y) >>> 4) :=
  (wload b10.view (View.readAt (Elt F) b3.view (Rect.unit (s := S256x32x128) ![0, 0, 0] S256x4x128.size inb_S256x32x128_S256x4x128_0_0_0).toLoadRect (hb3.unread x2))
    [] 0 _ _ slices_S512x256_o0_128_S512x128 slices_S512x256_o0_0_S512x128 t b h y l).trans
    (congrArg (fun q : BitVec 8 => pairW (q &&& 15#8) (q >>> 4)) (rows_apply b3 hb3 x2 0 inb_S256x32x128_S256x4x128_0_0_0 (lane t l) b y))

theorem wB_1 (t : Fin 2) (b : Fin 4) (h : ∀ a, S1x1x128x128.size a = 0 ∨ ![1, t.val, b.val, 0] a + ![1, 1, 4, 1] a * (S1x1x128x128.size a - 1) < S2x2x512x128.size a) (y l : Fin 128) :
    b10.view.readCov (Val := Elt F) (HS2_4 c b3 hb3 x2) { off := ![1, t.val, b.val, 0], size := S1x1x128x128.size, stride := ![1, 1, 4, 1], inb := h } (ix4 0 0 y l)
      = pairW (x2 (ix3 (lane t l) ⟨4 + b.val, by omega⟩ y) &&& 15#8) (x2 (ix3 (lane t l) ⟨4 + b.val, by omega⟩ y) >>> 4) :=
  (wload b10.view (View.readAt (Elt F) b3.view (Rect.unit (s := S256x32x128) ![0, 4, 0] S256x4x128.size inb_S256x32x128_S256x4x128_0_4_0).toLoadRect (hb3.unread x2))
    (HS2_2 c b3 hb3 x2) 1 _ _ slices_S512x256_o0_128_S512x128 slices_S512x256_o0_0_S512x128 t b h y l).trans
    (congrArg (fun q : BitVec 8 => pairW (q &&& 15#8) (q >>> 4)) (rows_apply b3 hb3 x2 1 inb_S256x32x128_S256x4x128_0_4_0 (lane t l) b y))

theorem wB_2 (t : Fin 2) (b : Fin 4) (h : ∀ a, S1x1x128x128.size a = 0 ∨ ![0, t.val, b.val, 0] a + ![1, 1, 4, 1] a * (S1x1x128x128.size a - 1) < S2x2x512x128.size a) (y l : Fin 128) :
    b10.view.readCov (Val := Elt F) (HS2_6 c b3 hb3 x2) { off := ![0, t.val, b.val, 0], size := S1x1x128x128.size, stride := ![1, 1, 4, 1], inb := h } (ix4 0 0 y l)
      = pairW (x2 (ix3 (lane t l) ⟨8 + b.val, by omega⟩ y) &&& 15#8) (x2 (ix3 (lane t l) ⟨8 + b.val, by omega⟩ y) >>> 4) :=
  (wload b10.view (View.readAt (Elt F) b3.view (Rect.unit (s := S256x32x128) ![0, 8, 0] S256x4x128.size inb_S256x32x128_S256x4x128_0_8_0).toLoadRect (hb3.unread x2))
    (HS2_4 c b3 hb3 x2) 0 _ _ slices_S512x256_o0_128_S512x128 slices_S512x256_o0_0_S512x128 t b h y l).trans
    (congrArg (fun q : BitVec 8 => pairW (q &&& 15#8) (q >>> 4)) (rows_apply b3 hb3 x2 2 inb_S256x32x128_S256x4x128_0_8_0 (lane t l) b y))

theorem wB_3 (t : Fin 2) (b : Fin 4) (h : ∀ a, S1x1x128x128.size a = 0 ∨ ![1, t.val, b.val, 0] a + ![1, 1, 4, 1] a * (S1x1x128x128.size a - 1) < S2x2x512x128.size a) (y l : Fin 128) :
    b10.view.readCov (Val := Elt F) (HS2_8 c b3 hb3 x2) { off := ![1, t.val, b.val, 0], size := S1x1x128x128.size, stride := ![1, 1, 4, 1], inb := h } (ix4 0 0 y l)
      = pairW (x2 (ix3 (lane t l) ⟨12 + b.val, by omega⟩ y) &&& 15#8) (x2 (ix3 (lane t l) ⟨12 + b.val, by omega⟩ y) >>> 4) :=
  (wload b10.view (View.readAt (Elt F) b3.view (Rect.unit (s := S256x32x128) ![0, 12, 0] S256x4x128.size inb_S256x32x128_S256x4x128_0_12_0).toLoadRect (hb3.unread x2))
    (HS2_6 c b3 hb3 x2) 1 _ _ slices_S512x256_o0_128_S512x128 slices_S512x256_o0_0_S512x128 t b h y l).trans
    (congrArg (fun q : BitVec 8 => pairW (q &&& 15#8) (q >>> 4)) (rows_apply b3 hb3 x2 3 inb_S256x32x128_S256x4x128_0_12_0 (lane t l) b y))

theorem wB_4 (t : Fin 2) (b : Fin 4) (h : ∀ a, S1x1x128x128.size a = 0 ∨ ![0, t.val, b.val, 0] a + ![1, 1, 4, 1] a * (S1x1x128x128.size a - 1) < S2x2x512x128.size a) (y l : Fin 128) :
    b10.view.readCov (Val := Elt F) (HS2_10 c b3 hb3 x2) { off := ![0, t.val, b.val, 0], size := S1x1x128x128.size, stride := ![1, 1, 4, 1], inb := h } (ix4 0 0 y l)
      = pairW (x2 (ix3 (lane t l) ⟨16 + b.val, by omega⟩ y) &&& 15#8) (x2 (ix3 (lane t l) ⟨16 + b.val, by omega⟩ y) >>> 4) :=
  (wload b10.view (View.readAt (Elt F) b3.view (Rect.unit (s := S256x32x128) ![0, 16, 0] S256x4x128.size inb_S256x32x128_S256x4x128_0_16_0).toLoadRect (hb3.unread x2))
    (HS2_8 c b3 hb3 x2) 0 _ _ slices_S512x256_o0_128_S512x128 slices_S512x256_o0_0_S512x128 t b h y l).trans
    (congrArg (fun q : BitVec 8 => pairW (q &&& 15#8) (q >>> 4)) (rows_apply b3 hb3 x2 4 inb_S256x32x128_S256x4x128_0_16_0 (lane t l) b y))

theorem wB_5 (t : Fin 2) (b : Fin 4) (h : ∀ a, S1x1x128x128.size a = 0 ∨ ![1, t.val, b.val, 0] a + ![1, 1, 4, 1] a * (S1x1x128x128.size a - 1) < S2x2x512x128.size a) (y l : Fin 128) :
    b10.view.readCov (Val := Elt F) (HS2_12 c b3 hb3 x2) { off := ![1, t.val, b.val, 0], size := S1x1x128x128.size, stride := ![1, 1, 4, 1], inb := h } (ix4 0 0 y l)
      = pairW (x2 (ix3 (lane t l) ⟨20 + b.val, by omega⟩ y) &&& 15#8) (x2 (ix3 (lane t l) ⟨20 + b.val, by omega⟩ y) >>> 4) :=
  (wload b10.view (View.readAt (Elt F) b3.view (Rect.unit (s := S256x32x128) ![0, 20, 0] S256x4x128.size inb_S256x32x128_S256x4x128_0_20_0).toLoadRect (hb3.unread x2))
    (HS2_10 c b3 hb3 x2) 1 _ _ slices_S512x256_o0_128_S512x128 slices_S512x256_o0_0_S512x128 t b h y l).trans
    (congrArg (fun q : BitVec 8 => pairW (q &&& 15#8) (q >>> 4)) (rows_apply b3 hb3 x2 5 inb_S256x32x128_S256x4x128_0_20_0 (lane t l) b y))

theorem wB_6 (t : Fin 2) (b : Fin 4) (h : ∀ a, S1x1x128x128.size a = 0 ∨ ![0, t.val, b.val, 0] a + ![1, 1, 4, 1] a * (S1x1x128x128.size a - 1) < S2x2x512x128.size a) (y l : Fin 128) :
    b10.view.readCov (Val := Elt F) (HS2_14 c b3 hb3 x2) { off := ![0, t.val, b.val, 0], size := S1x1x128x128.size, stride := ![1, 1, 4, 1], inb := h } (ix4 0 0 y l)
      = pairW (x2 (ix3 (lane t l) ⟨24 + b.val, by omega⟩ y) &&& 15#8) (x2 (ix3 (lane t l) ⟨24 + b.val, by omega⟩ y) >>> 4) :=
  (wload b10.view (View.readAt (Elt F) b3.view (Rect.unit (s := S256x32x128) ![0, 24, 0] S256x4x128.size inb_S256x32x128_S256x4x128_0_24_0).toLoadRect (hb3.unread x2))
    (HS2_12 c b3 hb3 x2) 0 _ _ slices_S512x256_o0_128_S512x128 slices_S512x256_o0_0_S512x128 t b h y l).trans
    (congrArg (fun q : BitVec 8 => pairW (q &&& 15#8) (q >>> 4)) (rows_apply b3 hb3 x2 6 inb_S256x32x128_S256x4x128_0_24_0 (lane t l) b y))

theorem wB_7 (t : Fin 2) (b : Fin 4) (h : ∀ a, S1x1x128x128.size a = 0 ∨ ![1, t.val, b.val, 0] a + ![1, 1, 4, 1] a * (S1x1x128x128.size a - 1) < S2x2x512x128.size a) (y l : Fin 128) :
    b10.view.readCov (Val := Elt F) (HS2_16 c b3 hb3 x2) { off := ![1, t.val, b.val, 0], size := S1x1x128x128.size, stride := ![1, 1, 4, 1], inb := h } (ix4 0 0 y l)
      = pairW (x2 (ix3 (lane t l) ⟨28 + b.val, by omega⟩ y) &&& 15#8) (x2 (ix3 (lane t l) ⟨28 + b.val, by omega⟩ y) >>> 4) :=
  (wload b10.view (View.readAt (Elt F) b3.view (Rect.unit (s := S256x32x128) ![0, 28, 0] S256x4x128.size inb_S256x32x128_S256x4x128_0_28_0).toLoadRect (hb3.unread x2))
    (HS2_14 c b3 hb3 x2) 1 _ _ slices_S512x256_o0_128_S512x128 slices_S512x256_o0_0_S512x128 t b h y l).trans
    (congrArg (fun q : BitVec 8 => pairW (q &&& 15#8) (q >>> 4)) (rows_apply b3 hb3 x2 7 inb_S256x32x128_S256x4x128_0_28_0 (lane t l) b y))

end Cert.Step
end
-- ==== Proof.SumsB.lean ====
/- Case B of the kernel body: each block adds its term to an element of the running sum. -/
module

public import proofs.«01_k».proof.Proof.LoadsB

@[expose] public section

noncomputable section

namespace Cert.Step

open Idealize.ShloMosaic Idealize.SL.Sem Cert.KernelIdeal Cert.KernelIdeal.Gen Cert.KernelIdeal.Gen.kernelRun0_B.sl

variable (c : Dev nD)
  (b1 : Memref sig Kind.tc Space.vmem S32x40x256 EltTy.i8) (hb1 : b1.IsWhole)
  (b2 : Memref sig Kind.tc Space.vmem S40x32 EltTy.f32) (hb2 : b2.IsWhole)
  (b3 : Memref sig Kind.tc Space.vmem S256x32x128 EltTy.i8) (hb3 : b3.IsWhole)
  (b4 : Memref sig Kind.tc Space.vmem S12x32x256 EltTy.i8) (hb4 : b4.IsWhole)
  (b5 : Memref sig Kind.tc Space.vmem S32x256 EltTy.i16) (hb5 : b5.IsWhole)
  (b6 : Memref sig Kind.tc Space.vmem S32x256 EltTy.i16) (hb6 : b6.IsWhole)
  (b7 : Memref sig Kind.tc Space.vmem S40x256 EltTy.f32) (hb7 : b7.IsWhole)
  (b8 : Memref sig Kind.tc Space.vmem S32x40x128 EltTy.f32) (hb8 : b8.IsWhole)
  (b9 : Memref sig Kind.tc Space.vmem S40x256 EltTy.f32) (hb9 : b9.IsWhole)
  (b10 : Memref sig Kind.tc Space.vmem S2x2x512x128 EltTy.i32) (hb10 : b10.IsWhole)
  (b11 : Memref sig Kind.tc Space.vmem S4x4x8x256 EltTy.i32) (hb11 : b11.IsWhole)
  (b12 : Memref sig Kind.tc Space.vmem S4x4x8x256 EltTy.i32) (hb12 : b12.IsWhole)
  (b13 : Memref sig Kind.tc Space.vmem S2x32x128 EltTy.f32) (hb13 : b13.IsWhole)
  (b14 : Memref sig Kind.tc Space.vmem S2x32x128 EltTy.f32) (hb14 : b14.IsWhole)
  (b15 : Memref sig Kind.tc Space.vmem S256x256 EltTy.f32) (hb15 : b15.IsWhole)
  (x0 : Vec Ideal S32x40x256 .i8) (x1 : Vec Ideal S40x32 .f32) (x2 : Vec Ideal S256x32x128 .i8) (x3 : Vec Ideal S12x32x256 .i8) (x4 : Vec Ideal S32x256 .i16) (x5 : Vec Ideal S32x256 .i16) (xs0 : Vec Ideal S32x40x128 .f32) (xs1 : Vec Ideal S40x256 .f32)
  (Sa : Fin 32 → Fin 40 → EReal)

theorem sumB_0 (hS : ∀ s i l, xs0 (ix3 s i l) = Sa s i) (i : Fin 40) (n : Fin 256) : (r_44 c b1 hb1 b3 hb3 b4 hb4 b5 hb5 b6 hb6 b8 hb8 b9 hb9 b10 b11 b12 b13 b14 b15 x0 x2 x3 x4 x5 xs0 xs1) (ix2 i n)
    = (r_23 c b4 hb4 b6 hb6 b9 hb9 b14 b15 x3 x5 xs1) (ix2 i n) + blockTerm x0 x2 x3 x4 Sa 0 i n :=
  have H := highB c b4 hb4 b11 x3
  have L := lowB c b4 hb4 b12 x3
  have W := wB_0 c b3 hb3 b10 x2
  (congrFun (stepB_0 (F := Ideal) ..) (ix2 i n)).trans
  (step_block x0 x2 x3 x4 Sa 0 (W 0 0 _) (W 1 0 _) (H 0 0 0 0 _) (H 1 0 0 0 _) (H 2 0 0 0 _) (H 3 0 0 0 _) (L 0 0 0 0 _) (L 1 0 0 0 _) (L 2 0 0 0 _) (L 3 0 0 0 _) (H 0 0 0 1 _) (H 1 0 0 1 _) (H 2 0 0 1 _) (H 3 0 0 1 _) (L 0 0 0 1 _) (L 1 0 0 1 _) (L 2 0 0 1 _) (L 3 0 0 1 _) (fun i k => arow_apply b1 hb1 x0 0 _ i k) (factB c b5 hb5 b13 x4 0 0 _) (factB c b5 hb5 b13 x4 1 0 _) (fun i l => (srow_apply b8 hb8 xs0 0 _ i l).trans (hS 0 i l)) i n)

theorem sumB_1 (hS : ∀ s i l, xs0 (ix3 s i l) = Sa s i) (i : Fin 40) (n : Fin 256) : (r_64 c b1 hb1 b3 hb3 b4 hb4 b5 hb5 b6 hb6 b8 hb8 b9 hb9 b10 b11 b12 b13 b14 b15 x0 x2 x3 x4 x5 xs0 xs1) (ix2 i n)
    = (r_44 c b1 hb1 b3 hb3 b4 hb4 b5 hb5 b6 hb6 b8 hb8 b9 hb9 b10 b11 b12 b13 b14 b15 x0 x2 x3 x4 x5 xs0 xs1) (ix2 i n) + blockTerm x0 x2 x3 x4 Sa 1 i n :=
  have H := highB c b4 hb4 b11 x3
  have L := lowB c b4 hb4 b12 x3
  have W := wB_0 c b3 hb3 b10 x2
  (congrFun (stepB_1 (F := Ideal) ..) (ix2 i n)).trans
  (step_block x0 x2 x3 x4 Sa 1 (W 0 1 _) (W 1 1 _) (H 0 1 0 0 _) (H 1 1 0 0 _) (H 2 1 0 0 _) (H 3 1 0 0 _) (L 0 1 0 0 _) (L 1 1 0 0 _) (L 2 1 0 0 _) (L 3 1 0 0 _) (H 0 1 0 1 _) (H 1 1 0 1 _) (H 2 1 0 1 _) (H 3 1 0 1 _) (L 0 1 0 1 _) (L 1 1 0 1 _) (L 2 1 0 1 _) (L 3 1 0 1 _) (fun i k => arow_apply b1 hb1 x0 1 _ i k) (factB c b5 hb5 b13 x4 0 1 _) (factB c b5 hb5 b13 x4 1 1 _) (fun i l => (srow_apply b8 hb8 xs0 1 _ i l).trans (hS 1 i l)) i n)

theorem sumB_2 (hS : ∀ s i l, xs0 (ix3 s i l) = Sa s i) (i : Fin 40) (n : Fin 256) : (r_84 c b1 hb1 b3 hb3 b4 hb4 b5 hb5 b6 hb6 b8 hb8 b9 hb9 b10 b11 b12 b13 b14 b15 x0 x2 x3 x4 x5 xs0 xs1) (ix2 i n)
    = (r_64 c b1 hb1 b3 hb3 b4 hb4 b5 hb5 b6 hb6 b8 hb8 b9 hb9 b10 b11 b12 b13 b14 b15 x0 x2 x3 x4 x5 xs0 xs1) (ix2 i n) + blockTerm x0 x2 x3 x4 Sa 2 i n :=
  have H := highB c b4 hb4 b11 x3
  have L := lowB c b4 hb4 b12 x3
  have W := wB_0 c b3 hb3 b10 x2
  (congrFun (stepB_2 (F := Ideal) ..) (ix2 i n)).trans
  (step_block x0 x2 x3 x4 Sa 2 (W 0 2 _) (W 1 2 _) (H 0 2 0 0 _) (H 1 2 0 0 _) (H 2 2 0 0 _) (H 3 2 0 0 _) (L 0 2 0 0 _) (L 1 2 0 0 _) (L 2 2 0 0 _) (L 3 2 0 0 _) (H 0 2 0 1 _) (H 1 2 0 1 _) (H 2 2 0 1 _) (H 3 2 0 1 _) (L 0 2 0 1 _) (L 1 2 0 1 _) (L 2 2 0 1 _) (L 3 2 0 1 _) (fun i k => arow_apply b1 hb1 x0 2 _ i k) (factB c b5 hb5 b13 x4 0 2 _) (factB c b5 hb5 b13 x4 1 2 _) (fun i l => (srow_apply b8 hb8 xs0 2 _ i l).trans (hS 2 i l)) i n)

theorem sumB_3 (hS : ∀ s i l, xs0 (ix3 s i l) = Sa s i) (i : Fin 40) (n : Fin 256) : (r_106 c b1 hb1 b3 hb3 b4 hb4 b5 hb5 b6 hb6 b8 hb8 b9 hb9 b10 b11 b12 b13 b14 b15 x0 x2 x3 x4 x5 xs0 xs1) (ix2 i n)
    = (r_84 c b1 hb1 b3 hb3 b4 hb4 b5 hb5 b6 hb6 b8 hb8 b9 hb9 b10 b11 b12 b13 b14 b15 x0 x2 x3 x4 x5 xs0 xs1) (ix2 i n) + blockTerm x0 x2 x3 x4 Sa 3 i n :=
  have H := highB c b4 hb4 b11 x3
  have L := lowB c b4 hb4 b12 x3
  have W := wB_0 c b3 hb3 b10 x2
  (congrFun (stepB_3 (F := Ideal) ..) (ix2 i n)).trans
  (step_block x0 x2 x3 x4 Sa 3 (W 0 3 _) (W 1 3 _) (H 0 3 0 0 _) (H 1 3 0 0 _) (H 2 3 0 0 _) (H 3 3 0 0 _) (L 0 3 0 0 _) (L 1 3 0 0 _) (L 2 3 0 0 _) (L 3 3 0 0 _) (H 0 3 0 1 _) (H 1 3 0 1 _) (H 2 3 0 1 _) (H 3 3 0 1 _) (L 0 3 0 1 _) (L 1 3 0 1 _) (L 2 3 0 1 _) (L 3 3 0 1 _) (fun i k => arow_apply b1 hb1 x0 3 _ i k) (factB c b5 hb5 b13 x4 0 3 _) (factB c b5 hb5 b13 x4 1 3 _) (fun i l => (srow_apply b8 hb8 xs0 3 _ i l).trans (hS 3 i l)) i n)

theorem sumB_4 (hS : ∀ s i l, xs0 (ix3 s i l) = Sa s i) (i : Fin 40) (n : Fin 256) : (r_129 c b1 hb1 b3 hb3 b4 hb4 b5 hb5 b6 hb6 b8 hb8 b9 hb9 b10 b11 b12 b13 b14 b15 x0 x2 x3 x4 x5 xs0 xs1) (ix2 i n)
    = (r_106 c b1 hb1 b3 hb3 b4 hb4 b5 hb5 b6 hb6 b8 hb8 b9 hb9 b10 b11 b12 b13 b14 b15 x0 x2 x3 x4 x5 xs0 xs1) (ix2 i n) + blockTerm x0 x2 x3 x4 Sa 4 i n :=
  have H := highB c b4 hb4 b11 x3
  have L := lowB c b4 hb4 b12 x3
  have W := wB_1 c b3 hb3 b10 x2
  (congrFun (stepB_4 (F := Ideal) ..) (ix2 i n)).trans
  (step_block x0 x2 x3 x4 Sa 4 (W 0 0 _) (W 1 0 _) (H 0 0 1 0 _) (H 1 0 1 0 _) (H 2 0 1 0 _) (H 3 0 1 0 _) (L 0 0 1 0 _) (L 1 0 1 0 _) (L 2 0 1 0 _) (L 3 0 1 0 _) (H 0 0 1 1 _) (H 1 0 1 1 _) (H 2 0 1 1 _) (H 3 0 1 1 _) (L 0 0 1 1 _) (L 1 0 1 1 _) (L 2 0 1 1 _) (L 3 0 1 1 _) (fun i k => arow_apply b1 hb1 x0 4 _ i k) (factB c b5 hb5 b13 x4 0 4 _) (factB c b5 hb5 b13 x4 1 4 _) (fun i l => (srow_apply b8 hb8 xs0 4 _ i l).trans (hS 4 i l)) i n)

theorem sumB_5 (hS : ∀ s i l, xs0 (ix3 s i l) = Sa s i) (i : Fin 40) (n : Fin 256) : (r_150 c b1 hb1 b3 hb3 b4 hb4 b5 hb5 b6 hb6 b8 hb8 b9 hb9 b10 b11 b12 b13 b14 b15 x0 x2 x3 x4 x5 xs0 xs1) (ix2 i n)
    = (r_129 c b1 hb1 b3 hb3 b4 hb4 b5 hb5 b6 hb6 b8 hb8 b9 hb9 b10 b11 b12 b13 b14 b15 x0 x2 x3 x4 x5 xs0 xs1) (ix2 i n) + blockTerm x0 x2 x3 x4 Sa 5 i n :=
  have H := highB c b4 hb4 b11 x3
  have L := lowB c b4 hb4 b12 x3
  have W := wB_1 c b3 hb3 b10 x2
  (congrFun (stepB_5 (F := Ideal) ..) (ix2 i n)).trans
  (step_block x0 x2 x3 x4 Sa 5 (W 0 1 _) (W 1 1 _) (H 0 1 1 0 _) (H 1 1 1 0 _) (H 2 1 1 0 _) (H 3 1 1 0 _) (L 0 1 1 0 _) (L 1 1 1 0 _) (L 2 1 1 0 _) (L 3 1 1 0 _) (H 0 1 1 1 _) (H 1 1 1 1 _) (H 2 1 1 1 _) (H 3 1 1 1 _) (L 0 1 1 1 _) (L 1 1 1 1 _) (L 2 1 1 1 _) (L 3 1 1 1 _) (fun i k => arow_apply b1 hb1 x0 5 _ i k) (factB c b5 hb5 b13 x4 0 5 _) (factB c b5 hb5 b13 x4 1 5 _) (fun i l => (srow_apply b8 hb8 xs0 5 _ i l).trans (hS 5 i l)) i n)

theorem sumB_6 (hS : ∀ s i l, xs0 (ix3 s i l) = Sa s i) (i : Fin 40) (n : Fin 256) : (r_171 c b1 hb1 b3 hb3 b4 hb4 b5 hb5 b6 hb6 b8 hb8 b9 hb9 b10 b11 b12 b13 b14 b15 x0 x2 x3 x4 x5 xs0 xs1) (ix2 i n)
    = (r_150 c b1 hb1 b3 hb3 b4 hb4 b5 hb5 b6 hb6 b8 hb8 b9 hb9 b10 b11 b12 b13 b14 b15 x0 x2 x3 x4 x5 xs0 xs1) (ix2 i n) + blockTerm x0 x2 x3 x4 Sa 6 i n :=
  have H := highB c b4 hb4 b11 x3
  have L := lowB c b4 hb4 b12 x3
  have W := wB_1 c b3 hb3 b10 x2
  (congrFun (stepB_6 (F := Ideal) ..) (ix2 i n)).trans
  (step_block x0 x2 x3 x4 Sa 6 (W 0 2 _) (W 1 2 _) (H 0 2 1 0 _) (H 1 2 1 0 _) (H 2 2 1 0 _) (H 3 2 1 0 _) (L 0 2 1 0 _) (L 1 2 1 0 _) (L 2 2 1 0 _) (L 3 2 1 0 _) (H 0 2 1 1 _) (H 1 2 1 1 _) (H 2 2 1 1 _) (H 3 2 1 1 _) (L 0 2 1 1 _) (L 1 2 1 1 _) (L 2 2 1 1 _) (L 3 2 1 1 _) (fun i k => arow_apply b1 hb1 x0 6 _ i k) (factB c b5 hb5 b13 x4 0 6 _) (factB c b5 hb5 b13 x4 1 6 _) (fun i l => (srow_apply b8 hb8 xs0 6 _ i l).trans (hS 6 i l)) i n)

theorem sumB_7 (hS : ∀ s i l, xs0 (ix3 s i l) = Sa s i) (i : Fin 40) (n : Fin 256) : (r_192 c b1 hb1 b3 hb3 b4 hb4 b5 hb5 b6 hb6 b8 hb8 b9 hb9 b10 b11 b12 b13 b14 b15 x0 x2 x3 x4 x5 xs0 xs1) (ix2 i n)
    = (r_171 c b1 hb1 b3 hb3 b4 hb4 b5 hb5 b6 hb6 b8 hb8 b9 hb9 b10 b11 b12 b13 b14 b15 x0 x2 x3 x4 x5 xs0 xs1) (ix2 i n) + blockTerm x0 x2 x3 x4 Sa 7 i n :=
  have H := highB c b4 hb4 b11 x3
  have L := lowB c b4 hb4 b12 x3
  have W := wB_1 c b3 hb3 b10 x2
  (congrFun (stepB_7 (F := Ideal) ..) (ix2 i n)).trans
  (step_block x0 x2 x3 x4 Sa 7 (W 0 3 _) (W 1 3 _) (H 0 3 1 0 _) (H 1 3 1 0 _) (H 2 3 1 0 _) (H 3 3 1 0 _) (L 0 3 1 0 _) (L 1 3 1 0 _) (L 2 3 1 0 _) (L 3 3 1 0 _) (H 0 3 1 1 _) (H 1 3 1 1 _) (H 2 3 1 1 _) (H 3 3 1 1 _) (L 0 3 1 1 _) (L 1 3 1 1 _) (L 2 3 1 1 _) (L 3 3 1 1 _) (fun i k => arow_apply b1 hb1 x0 7 _ i k) (factB c b5 hb5 b13 x4 0 7 _) (factB c b5 hb5 b13 x4 1 7 _) (fun i l => (srow_apply b8 hb8 xs0 7 _ i l).trans (hS 7 i l)) i n)

theorem sumB_8 (hS : ∀ s i l, xs0 (ix3 s i l) = Sa s i) (i : Fin 40) (n : Fin 256) : (r_218 c b1 hb1 b3 hb3 b4 hb4 b5 hb5 b6 hb6 b8 hb8 b9 hb9 b10 b11 b12 b13 b14 b15 x0 x2 x3 x4 x5 xs0 xs1) (ix2 i n)
    = (r_192 c b1 hb1 b3 hb3 b4 hb4 b5 hb5 b6 hb6 b8 hb8 b9 hb9 b10 b11 b12 b13 b14 b15 x0 x2 x3 x4 x5 xs0 xs1) (ix2 i n) + blockTerm x0 x2 x3 x4 Sa 8 i n :=
  have H := highB c b4 hb4 b11 x3
  have L := lowB c b4 hb4 b12 x3
  have W := wB_2 c b3 hb3 b10 x2
  (congrFun (stepB_8 (F := Ideal) ..) (ix2 i n)).trans
  (step_block x0 x2 x3 x4 Sa 8 (W 0 0 _) (W 1 0 _) (H 0 0 2 0 _) (H 1 0 2 0 _) (H 2 0 2 0 _) (H 3 0 2 0 _) (L 0 0 2 0 _) (L 1 0 2 0 _) (L 2 0 2 0 _) (L 3 0 2 0 _) (H 0 0 2 1 _) (H 1 0 2 1 _) (H 2 0 2 1 _) (H 3 0 2 1 _) (L 0 0 2 1 _) (L 1 0 2 1 _) (L 2 0 2 1 _) (L 3 0 2 1 _) (fun i k => arow_apply b1 hb1 x0 8 _ i k) (factB c b5 hb5 b13 x4 0 8 _) (factB c b5 hb5 b13 x4 1 8 _) (fun i l => (srow_apply b8 hb8 xs0 8 _ i l).trans (hS 8 i l)) i n)

theorem sumB_9 (hS : ∀ s i l, xs0 (ix3 s i l) = Sa s i) (i : Fin 40) (n : Fin 256) : (r_243 c b1 hb1 b3 hb3 b4 hb4 b5 hb5 b6 hb6 b8 hb8 b9 hb9 b10 b11 b12 b13 b14 b15 x0 x2 x3 x4 x5 xs0 xs1) (ix2 i n)
    = (r_218 c b1 hb1 b3 hb3 b4 hb4 b5 hb5 b6 hb6 b8 hb8 b9 hb9 b10 b11 b12 b13 b14 b15 x0 x2 x3 x4 x5 xs0 xs1) (ix2 i n) + blockTerm x0 x2 x3 x4 Sa 9 i n :=
  have H := highB c b4 hb4 b11 x3
  have L := lowB c b4 hb4 b12 x3
  have W := wB_2 c b3 hb3 b10 x2
  (congrFun (stepB_9 (F := Ideal) ..) (ix2 i n)).trans
  (step_block x0 x2 x3 x4 Sa 9 (W 0 1 _) (W 1 1 _) (H 0 1 2 0 _) (H 1 1 2 0 _) (H 2 1 2 0 _) (H 3 1 2 0 _) (L 0 1 2 0 _) (L 1 1 2 0 _) (L 2 1 2 0 _) (L 3 1 2 0 _) (H 0 1 2 1 _) (H 1 1 2 1 _) (H 2 1 2 1 _) (H 3 1 2 1 _) (L 0 1 2 1 _) (L 1 1 2 1 _) (L 2 1 2 1 _) (L 3 1 2 1 _) (fun i k => arow_apply b1 hb1 x0 9 _ i k) (factB c b5 hb5 b13 x4 0 9 _) (factB c b5 hb5 b13 x4 1 9 _) (fun i l => (srow_apply b8 hb8 xs0 9 _ i l).trans (hS 9 i l)) i n)

theorem sumB_10 (hS : ∀ s i l, xs0 (ix3 s i l) = Sa s i) (i : Fin 40) (n : Fin 256) : (r_268 c b1 hb1 b3 hb3 b4 hb4 b5 hb5 b6 hb6 b8 hb8 b9 hb9 b10 b11 b12 b13 b14 b15 x0 x2 x3 x4 x5 xs0 xs1) (ix2 i n)
    = (r_243 c b1 hb1 b3 hb3 b4 hb4 b5 hb5 b6 hb6 b8 hb8 b9 hb9 b10 b11 b12 b13 b14 b15 x0 x2 x3 x4 x5 xs0 xs1) (ix2 i n) + blockTerm x0 x2 x3 x4 Sa 10 i n :=
  have H := highB c b4 hb4 b11 x3
  have L := lowB c b4 hb4 b12 x3
  have W := wB_2 c b3 hb3 b10 x2
  (congrFun (stepB_10 (F := Ideal) ..) (ix2 i n)).trans
  (step_block x0 x2 x3 x4 Sa 10 (W 0 2 _) (W 1 2 _) (H 0 2 2 0 _) (H 1 2 2 0 _) (H 2 2 2 0 _) (H 3 2 2 0 _) (L 0 2 2 0 _) (L 1 2 2 0 _) (L 2 2 2 0 _) (L 3 2 2 0 _) (H 0 2 2 1 _) (H 1 2 2 1 _) (H 2 2 2 1 _) (H 3 2 2 1 _) (L 0 2 2 1 _) (L 1 2 2 1 _) (L 2 2 2 1 _) (L 3 2 2 1 _) (fun i k => arow_apply b1 hb1 x0 10 _ i k) (factB c b5 hb5 b13 x4 0 10 _) (factB c b5 hb5 b13 x4 1 10 _) (fun i l => (srow_apply b8 hb8 xs0 10 _ i l).trans (hS 10 i l)) i n)

theorem sumB_11 (hS : ∀ s i l, xs0 (ix3 s i l) = Sa s i) (i : Fin 40) (n : Fin 256) : (r_293 c b1 hb1 b3 hb3 b4 hb4 b5 hb5 b6 hb6 b8 hb8 b9 hb9 b10 b11 b12 b13 b14 b15 x0 x2 x3 x4 x5 xs0 xs1) (ix2 i n)
    = (r_268 c b1 hb1 b3 hb3 b4 hb4 b5 hb5 b6 hb6 b8 hb8 b9 hb9 b10 b11 b12 b13 b14 b15 x0 x2 x3 x4 x5 xs0 xs1) (ix2 i n) + blockTerm x0 x2 x3 x4 Sa 11 i n :=
  have H := highB c b4 hb4 b11 x3
  have L := lowB c b4 hb4 b12 x3
  have W := wB_2 c b3 hb3 b10 x2
  (congrFun (stepB_11 (F := Ideal) ..) (ix2 i n)).trans
  (step_block x0 x2 x3 x4 Sa 11 (W 0 3 _) (W 1 3 _) (H 0 3 2 0 _) (H 1 3 2 0 _) (H 2 3 2 0 _) (H 3 3 2 0 _) (L 0 3 2 0 _) (L 1 3 2 0 _) (L 2 3 2 0 _) (L 3 3 2 0 _) (H 0 3 2 1 _) (H 1 3 2 1 _) (H 2 3 2 1 _) (H 3 3 2 1 _) (L 0 3 2 1 _) (L 1 3 2 1 _) (L 2 3 2 1 _) (L 3 3 2 1 _) (fun i k => arow_apply b1 hb1 x0 11 _ i k) (factB c b5 hb5 b13 x4 0 11 _) (factB c b5 hb5 b13 x4 1 11 _) (fun i l => (srow_apply b8 hb8 xs0 11 _ i l).trans (hS 11 i l)) i n)

theorem sumB_12 (hS : ∀ s i l, xs0 (ix3 s i l) = Sa s i) (i : Fin 40) (n : Fin 256) : (r_314 c b1 hb1 b3 hb3 b4 hb4 b5 hb5 b6 hb6 b8 hb8 b9 hb9 b10 b11 b12 b13 b14 b15 x0 x2 x3 x4 x5 xs0 xs1) (ix2 i n)
    = (r_293 c b1 hb1 b3 hb3 b4 hb4 b5 hb5 b6 hb6 b8 hb8 b9 hb9 b10 b11 b12 b13 b14 b15 x0 x2 x3 x4 x5 xs0 xs1) (ix2 i n) + blockTerm x0 x2 x3 x4 Sa 12 i n :=
  have H := highB c b4 hb4 b11 x3
  have L := lowB c b4 hb4 b12 x3
  have W := wB_3 c b3 hb3 b10 x2
  (congrFun (stepB_12 (F := Ideal) ..) (ix2 i n)).trans
  (step_block x0 x2 x3 x4 Sa 12 (W 0 0 _) (W 1 0 _) (H 0 0 3 0 _) (H 1 0 3 0 _) (H 2 0 3 0 _) (H 3 0 3 0 _) (L 0 0 3 0 _) (L 1 0 3 0 _) (L 2 0 3 0 _) (L 3 0 3 0 _) (H 0 0 3 1 _) (H 1 0 3 1 _) (H 2 0 3 1 _) (H 3 0 3 1 _) (L 0 0 3 1 _) (L 1 0 3 1 _) (L 2 0 3 1 _) (L 3 0 3 1 _) (fun i k => arow_apply b1 hb1 x0 12 _ i k) (factB c b5 hb5 b13 x4 0 12 _) (factB c b5 hb5 b13 x4 1 12 _) (fun i l => (srow_apply b8 hb8 xs0 12 _ i l).trans (hS 12 i l)) i n)

theorem sumB_13 (hS : ∀ s i l, xs0 (ix3 s i l) = Sa s i) (i : Fin 40) (n : Fin 256) : (r_335 c b1 hb1 b3 hb3 b4 hb4 b5 hb5 b6 hb6 b8 hb8 b9 hb9 b10 b11 b12 b13 b14 b15 x0 x2 x3 x4 x5 xs0 xs1) (ix2 i n)
    = (r_314 c b1 hb1 b3 hb3 b4 hb4 b5 hb5 b6 hb6 b8 hb8 b9 hb9 b10 b11 b12 b13 b14 b15 x0 x2 x3 x4 x5 xs0 xs1) (ix2 i n) + blockTerm x0 x2 x3 x4 Sa 13 i n :=
  have H := highB c b4 hb4 b11 x3
  have L := lowB c b4 hb4 b12 x3
  have W := wB_3 c b3 hb3 b10 x2
  (congrFun (stepB_13 (F := Ideal) ..) (ix2 i n)).trans
  (step_block x0 x2 x3 x4 Sa 13 (W 0 1 _) (W 1 1 _) (H 0 1 3 0 _) (H 1 1 3 0 _) (H 2 1 3 0 _) (H 3 1 3 0 _) (L 0 1 3 0 _) (L 1 1 3 0 _) (L 2 1 3 0 _) (L 3 1 3 0 _) (H 0 1 3 1 _) (H 1 1 3 1 _) (H 2 1 3 1 _) (H 3 1 3 1 _) (L 0 1 3 1 _) (L 1 1 3 1 _) (L 2 1 3 1 _) (L 3 1 3 1 _) (fun i k => arow_apply b1 hb1 x0 13 _ i k) (factB c b5 hb5 b13 x4 0 13 _) (factB c b5 hb5 b13 x4 1 13 _) (fun i l => (srow_apply b8 hb8 xs0 13 _ i l).trans (hS 13 i l)) i n)

theorem sumB_14 (hS : ∀ s i l, xs0 (ix3 s i l) = Sa s i) (i : Fin 40) (n : Fin 256) : (r_355 c b1 hb1 b3 hb3 b4 hb4 b5 hb5 b6 hb6 b8 hb8 b9 hb9 b10 b11 b12 b13 b14 b15 x0 x2 x3 x4 x5 xs0 xs1) (ix2 i n)
    = (r_335 c b1 hb1 b3 hb3 b4 hb4 b5 hb5 b6 hb6 b8 hb8 b9 hb9 b10 b11 b12 b13 b14 b15 x0 x2 x3 x4 x5 xs0 xs1) (ix2 i n) + blockTerm x0 x2 x3 x4 Sa 14 i n :=
  have H := highB c b4 hb4 b11 x3
  have L := lowB c b4 hb4 b12 x3
  have W := wB_3 c b3 hb3 b10 x2
  (congrFun (stepB_14 (F := Ideal) ..) (ix2 i n)).trans
  (step_block x0 x2 x3 x4 Sa 14 (W 0 2 _) (W 1 2 _) (H 0 2 3 0 _) (H 1 2 3 0 _) (H 2 2 3 0 _) (H 3 2 3 0 _) (L 0 2 3 0 _) (L 1 2 3 0 _) (L 2 2 3 0 _) (L 3 2 3 0 _) (H 0 2 3 1 _) (H 1 2 3 1 _) (H 2 2 3 1 _) (H 3 2 3 1 _) (L 0 2 3 1 _) (L 1 2 3 1 _) (L 2 2 3 1 _) (L 3 2 3 1 _) (fun i k => arow_apply b1 hb1 x0 14 _ i k) (factB c b5 hb5 b13 x4 0 14 _) (factB c b5 hb5 b13 x4 1 14 _) (fun i l => (srow_apply b8 hb8 xs0 14 _ i l).trans (hS 14 i l)) i n)

theorem sumB_15 (hS : ∀ s i l, xs0 (ix3 s i l) = Sa s i) (i : Fin 40) (n : Fin 256) : (r_377 c b1 hb1 b3 hb3 b4 hb4 b5 hb5 b6 hb6 b8 hb8 b9 hb9 b10 b11 b12 b13 b14 b15 x0 x2 x3 x4 x5 xs0 xs1) (ix2 i n)
    = (r_355 c b1 hb1 b3 hb3 b4 hb4 b5 hb5 b6 hb6 b8 hb8 b9 hb9 b10 b11 b12 b13 b14 b15 x0 x2 x3 x4 x5 xs0 xs1) (ix2 i n) + blockTerm x0 x2 x3 x4 Sa 15 i n :=
  have H := highB c b4 hb4 b11 x3
  have L := lowB c b4 hb4 b12 x3
  have W := wB_3 c b3 hb3 b10 x2
  (congrFun (stepB_15 (F := Ideal) ..) (ix2 i n)).trans
  (step_block x0 x2 x3 x4 Sa 15 (W 0 3 _) (W 1 3 _) (H 0 3 3 0 _) (H 1 3 3 0 _) (H 2 3 3 0 _) (H 3 3 3 0 _) (L 0 3 3 0 _) (L 1 3 3 0 _) (L 2 3 3 0 _) (L 3 3 3 0 _) (H 0 3 3 1 _) (H 1 3 3 1 _) (H 2 3 3 1 _) (H 3 3 3 1 _) (L 0 3 3 1 _) (L 1 3 3 1 _) (L 2 3 3 1 _) (L 3 3 3 1 _) (fun i k => arow_apply b1 hb1 x0 15 _ i k) (factB c b5 hb5 b13 x4 0 15 _) (factB c b5 hb5 b13 x4 1 15 _) (fun i l => (srow_apply b8 hb8 xs0 15 _ i l).trans (hS 15 i l)) i n)

theorem sumB_16 (hS : ∀ s i l, xs0 (ix3 s i l) = Sa s i) (i : Fin 40) (n : Fin 256) : (r_401 c b1 hb1 b3 hb3 b4 hb4 b5 hb5 b6 hb6 b8 hb8 b9 hb9 b10 b11 b12 b13 b14 b15 x0 x2 x3 x4 x5 xs0 xs1) (ix2 i n)
    = (r_377 c b1 hb1 b3 hb3 b4 hb4 b5 hb5 b6 hb6 b8 hb8 b9 hb9 b10 b11 b12 b13 b14 b15 x0 x2 x3 x4 x5 xs0 xs1) (ix2 i n) + blockTerm x0 x2 x3 x4 Sa 16 i n :=
  have H := highB c b4 hb4 b11 x3
  have L := lowB c b4 hb4 b12 x3
  have W := wB_4 c b3 hb3 b10 x2
  (congrFun (stepB_16 (F := Ideal) ..) (ix2 i n)).trans
  (step_block x0 x2 x3 x4 Sa 16 (W 0 0 _) (W 1 0 _) (H 0 0 4 0 _) (H 1 0 4 0 _) (H 2 0 4 0 _) (H 3 0 4 0 _) (L 0 0 4 0 _) (L 1 0 4 0 _) (L 2 0 4 0 _) (L 3 0 4 0 _) (H 0 0 4 1 _) (H 1 0 4 1 _) (H 2 0 4 1 _) (H 3 0 4 1 _) (L 0 0 4 1 _) (L 1 0 4 1 _) (L 2 0 4 1 _) (L 3 0 4 1 _) (fun i k => arow_apply b1 hb1 x0 16 _ i k) (factB c b5 hb5 b13 x4 0 16 _) (factB c b5 hb5 b13 x4 1 16 _) (fun i l => (srow_apply b8 hb8 xs0 16 _ i l).trans (hS 16 i l)) i n)

theorem sumB_17 (hS : ∀ s i l, xs0 (ix3 s i l) = Sa s i) (i : Fin 40) (n : Fin 256) : (r_423 c b1 hb1 b3 hb3 b4 hb4 b5 hb5 b6 hb6 b8 hb8 b9 hb9 b10 b11 b12 b13 b14 b15 x0 x2 x3 x4 x5 xs0 xs1) (ix2 i n)
    = (r_401 c b1 hb1 b3 hb3 b4 hb4 b5 hb5 b6 hb6 b8 hb8 b9 hb9 b10 b11 b12 b13 b14 b15 x0 x2 x3 x4 x5 xs0 xs1) (ix2 i n) + blockTerm x0 x2 x3 x4 Sa 17 i n :=
  have H := highB c b4 hb4 b11 x3
  have L := lowB c b4 hb4 b12 x3
  have W := wB_4 c b3 hb3 b10 x2
  (congrFun (stepB_17 (F := Ideal) ..) (ix2 i n)).trans
  (step_block x0 x2 x3 x4 Sa 17 (W 0 1 _) (W 1 1 _) (H 0 1 4 0 _) (H 1 1 4 0 _) (H 2 1 4 0 _) (H 3 1 4 0 _) (L 0 1 4 0 _) (L 1 1 4 0 _) (L 2 1 4 0 _) (L 3 1 4 0 _) (H 0 1 4 1 _) (H 1 1 4 1 _) (H 2 1 4 1 _) (H 3 1 4 1 _) (L 0 1 4 1 _) (L 1 1 4 1 _) (L 2 1 4 1 _) (L 3 1 4 1 _) (fun i k => arow_apply b1 hb1 x0 17 _ i k) (factB c b5 hb5 b13 x4 0 17 _) (factB c b5 hb5 b13 x4 1 17 _) (fun i l => (srow_apply b8 hb8 xs0 17 _ i l).trans (hS 17 i l)) i n)

theorem sumB_18 (hS : ∀ s i l, xs0 (ix3 s i l) = Sa s i) (i : Fin 40) (n : Fin 256) : (r_444 c b1 hb1 b3 hb3 b4 hb4 b5 hb5 b6 hb6 b8 hb8 b9 hb9 b10 b11 b12 b13 b14 b15 x0 x2 x3 x4 x5 xs0 xs1) (ix2 i n)
    = (r_423 c b1 hb1 b3 hb3 b4 hb4 b5 hb5 b6 hb6 b8 hb8 b9 hb9 b10 b11 b12 b13 b14 b15 x0 x2 x3 x4 x5 xs0 xs1) (ix2 i n) + blockTerm x0 x2 x3 x4 Sa 18 i n :=
  have H := highB c b4 hb4 b11 x3
  have L := lowB c b4 hb4 b12 x3
  have W := wB_4 c b3 hb3 b10 x2
  (congrFun (stepB_18 (F := Ideal) ..) (ix2 i n)).trans
  (step_block x0 x2 x3 x4 Sa 18 (W 0 2 _) (W 1 2 _) (H 0 2 4 0 _) (H 1 2 4 0 _) (H 2 2 4 0 _) (H 3 2 4 0 _) (L 0 2 4 0 _) (L 1 2 4 0 _) (L 2 2 4 0 _) (L 3 2 4 0 _) (H 0 2 4 1 _) (H 1 2 4 1 _) (H 2 2 4 1 _) (H 3 2 4 1 _) (L 0 2 4 1 _) (L 1 2 4 1 _) (L 2 2 4 1 _) (L 3 2 4 1 _) (fun i k => arow_apply b1 hb1 x0 18 _ i k) (factB c b5 hb5 b13 x4 0 18 _) (factB c b5 hb5 b13 x4 1 18 _) (fun i l => (srow_apply b8 hb8 xs0 18 _ i l).trans (hS 18 i l)) i n)

theorem sumB_19 (hS : ∀ s i l, xs0 (ix3 s i l) = Sa s i) (i : Fin 40) (n : Fin 256) : (r_464 c b1 hb1 b3 hb3 b4 hb4 b5 hb5 b6 hb6 b8 hb8 b9 hb9 b10 b11 b12 b13 b14 b15 x0 x2 x3 x4 x5 xs0 xs1) (ix2 i n)
    = (r_444 c b1 hb1 b3 hb3 b4 hb4 b5 hb5 b6 hb6 b8 hb8 b9 hb9 b10 b11 b12 b13 b14 b15 x0 x2 x3 x4 x5 xs0 xs1) (ix2 i n) + blockTerm x0 x2 x3 x4 Sa 19 i n :=
  have H := highB c b4 hb4 b11 x3
  have L := lowB c b4 hb4 b12 x3
  have W := wB_4 c b3 hb3 b10 x2
  (congrFun (stepB_19 (F := Ideal) ..) (ix2 i n)).trans
  (step_block x0 x2 x3 x4 Sa 19 (W 0 3 _) (W 1 3 _) (H 0 3 4 0 _) (H 1 3 4 0 _) (H 2 3 4 0 _) (H 3 3 4 0 _) (L 0 3 4 0 _) (L 1 3 4 0 _) (L 2 3 4 0 _) (L 3 3 4 0 _) (H 0 3 4 1 _) (H 1 3 4 1 _) (H 2 3 4 1 _) (H 3 3 4 1 _) (L 0 3 4 1 _) (L 1 3 4 1 _) (L 2 3 4 1 _) (L 3 3 4 1 _) (fun i k => arow_apply b1 hb1 x0 19 _ i k) (factB c b5 hb5 b13 x4 0 19 _) (factB c b5 hb5 b13 x4 1 19 _) (fun i l => (srow_apply b8 hb8 xs0 19 _ i l).trans (hS 19 i l)) i n)

theorem sumB_20 (hS : ∀ s i l, xs0 (ix3 s i l) = Sa s i) (i : Fin 40) (n : Fin 256) : (r_490 c b1 hb1 b3 hb3 b4 hb4 b5 hb5 b6 hb6 b8 hb8 b9 hb9 b10 b11 b12 b13 b14 b15 x0 x2 x3 x4 x5 xs0 xs1) (ix2 i n)
    = (r_464 c b1 hb1 b3 hb3 b4 hb4 b5 hb5 b6 hb6 b8 hb8 b9 hb9 b10 b11 b12 b13 b14 b15 x0 x2 x3 x4 x5 xs0 xs1) (ix2 i n) + blockTerm x0 x2 x3 x4 Sa 20 i n :=
  have H := highB c b4 hb4 b11 x3
  have L := lowB c b4 hb4 b12 x3
  have W := wB_5 c b3 hb3 b10 x2
  (congrFun (stepB_20 (F := Ideal) ..) (ix2 i n)).trans
  (step_block x0 x2 x3 x4 Sa 20 (W 0 0 _) (W 1 0 _) (H 0 0 5 0 _) (H 1 0 5 0 _) (H 2 0 5 0 _) (H 3 0 5 0 _) (L 0 0 5 0 _) (L 1 0 5 0 _) (L 2 0 5 0 _) (L 3 0 5 0 _) (H 0 0 5 1 _) (H 1 0 5 1 _) (H 2 0 5 1 _) (H 3 0 5 1 _) (L 0 0 5 1 _) (L 1 0 5 1 _) (L 2 0 5 1 _) (L 3 0 5 1 _) (fun i k => arow_apply b1 hb1 x0 20 _ i k) (factB c b5 hb5 b13 x4 0 20 _) (factB c b5 hb5 b13 x4 1 20 _) (fun i l => (srow_apply b8 hb8 xs0 20 _ i l).trans (hS 20 i l)) i n)

theorem sumB_21 (hS : ∀ s i l, xs0 (ix3 s i l) = Sa s i) (i : Fin 40) (n : Fin 256) : (r_514 c b1 hb1 b3 hb3 b4 hb4 b5 hb5 b6 hb6 b8 hb8 b9 hb9 b10 b11 b12 b13 b14 b15 x0 x2 x3 x4 x5 xs0 xs1) (ix2 i n)
    = (r_490 c b1 hb1 b3 hb3 b4 hb4 b5 hb5 b6 hb6 b8 hb8 b9 hb9 b10 b11 b12 b13 b14 b15 x0 x2 x3 x4 x5 xs0 xs1) (ix2 i n) + blockTerm x0 x2 x3 x4 Sa 21 i n :=
  have H := highB c b4 hb4 b11 x3
  have L := lowB c b4 hb4 b12 x3
  have W := wB_5 c b3 hb3 b10 x2
  (congrFun (stepB_21 (F := Ideal) ..) (ix2 i n)).trans
  (step_block x0 x2 x3 x4 Sa 21 (W 0 1 _) (W 1 1 _) (H 0 1 5 0 _) (H 1 1 5 0 _) (H 2 1 5 0 _) (H 3 1 5 0 _) (L 0 1 5 0 _) (L 1 1 5 0 _) (L 2 1 5 0 _) (L 3 1 5 0 _) (H 0 1 5 1 _) (H 1 1 5 1 _) (H 2 1 5 1 _) (H 3 1 5 1 _) (L 0 1 5 1 _) (L 1 1 5 1 _) (L 2 1 5 1 _) (L 3 1 5 1 _) (fun i k => arow_apply b1 hb1 x0 21 _ i k) (factB c b5 hb5 b13 x4 0 21 _) (factB c b5 hb5 b13 x4 1 21 _) (fun i l => (srow_apply b8 hb8 xs0 21 _ i l).trans (hS 21 i l)) i n)

theorem sumB_22 (hS : ∀ s i l, xs0 (ix3 s i l) = Sa s i) (i : Fin 40) (n : Fin 256) : (r_537 c b1 hb1 b3 hb3 b4 hb4 b5 hb5 b6 hb6 b8 hb8 b9 hb9 b10 b11 b12 b13 b14 b15 x0 x2 x3 x4 x5 xs0 xs1) (ix2 i n)
    = (r_514 c b1 hb1 b3 hb3 b4 hb4 b5 hb5 b6 hb6 b8 hb8 b9 hb9 b10 b11 b12 b13 b14 b15 x0 x2 x3 x4 x5 xs0 xs1) (ix2 i n) + blockTerm x0 x2 x3 x4 Sa 22 i n :=
  have H := highB c b4 hb4 b11 x3
  have L := lowB c b4 hb4 b12 x3
  have W := wB_5 c b3 hb3 b10 x2
  (congrFun (stepB_22 (F := Ideal) ..) (ix2 i n)).trans
  (step_block x0 x2 x3 x4 Sa 22 (W 0 2 _) (W 1 2 _) (H 0 2 5 0 _) (H 1 2 5 0 _) (H 2 2 5 0 _) (H 3 2 5 0 _) (L 0 2 5 0 _) (L 1 2 5 0 _) (L 2 2 5 0 _) (L 3 2 5 0 _) (H 0 2 5 1 _) (H 1 2 5 1 _) (H 2 2 5 1 _) (H 3 2 5 1 _) (L 0 2 5 1 _) (L 1 2 5 1 _) (L 2 2 5 1 _) (L 3 2 5 1 _) (fun i k => arow_apply b1 hb1 x0 22 _ i k) (factB c b5 hb5 b13 x4 0 22 _) (factB c b5 hb5 b13 x4 1 22 _) (fun i l => (srow_apply b8 hb8 xs0 22 _ i l).trans (hS 22 i l)) i n)

theorem sumB_23 (hS : ∀ s i l, xs0 (ix3 s i l) = Sa s i) (i : Fin 40) (n : Fin 256) : (r_559 c b1 hb1 b3 hb3 b4 hb4 b5 hb5 b6 hb6 b8 hb8 b9 hb9 b10 b11 b12 b13 b14 b15 x0 x2 x3 x4 x5 xs0 xs1) (ix2 i n)
    = (r_537 c b1 hb1 b3 hb3 b4 hb4 b5 hb5 b6 hb6 b8 hb8 b9 hb9 b10 b11 b12 b13 b14 b15 x0 x2 x3 x4 x5 xs0 xs1) (ix2 i n) + blockTerm x0 x2 x3 x4 Sa 23 i n :=
  have H := highB c b4 hb4 b11 x3
  have L := lowB c b4 hb4 b12 x3
  have W := wB_5 c b3 hb3 b10 x2
  (congrFun (stepB_23 (F := Ideal) ..) (ix2 i n)).trans
  (step_block x0 x2 x3 x4 Sa 23 (W 0 3 _) (W 1 3 _) (H 0 3 5 0 _) (H 1 3 5 0 _) (H 2 3 5 0 _) (H 3 3 5 0 _) (L 0 3 5 0 _) (L 1 3 5 0 _) (L 2 3 5 0 _) (L 3 3 5 0 _) (H 0 3 5 1 _) (H 1 3 5 1 _) (H 2 3 5 1 _) (H 3 3 5 1 _) (L 0 3 5 1 _) (L 1 3 5 1 _) (L 2 3 5 1 _) (L 3 3 5 1 _) (fun i k => arow_apply b1 hb1 x0 23 _ i k) (factB c b5 hb5 b13 x4 0 23 _) (factB c b5 hb5 b13 x4 1 23 _) (fun i l => (srow_apply b8 hb8 xs0 23 _ i l).trans (hS 23 i l)) i n)

theorem sumB_24 (hS : ∀ s i l, xs0 (ix3 s i l) = Sa s i) (i : Fin 40) (n : Fin 256) : (r_584 c b1 hb1 b3 hb3 b4 hb4 b5 hb5 b6 hb6 b8 hb8 b9 hb9 b10 b11 b12 b13 b14 b15 x0 x2 x3 x4 x5 xs0 xs1) (ix2 i n)
    = (r_559 c b1 hb1 b3 hb3 b4 hb4 b5 hb5 b6 hb6 b8 hb8 b9 hb9 b10 b11 b12 b13 b14 b15 x0 x2 x3 x4 x5 xs0 xs1) (ix2 i n) + blockTerm x0 x2 x3 x4 Sa 24 i n :=
  have H := highB c b4 hb4 b11 x3
  have L := lowB c b4 hb4 b12 x3
  have W := wB_6 c b3 hb3 b10 x2
  (congrFun (stepB_24 (F := Ideal) ..) (ix2 i n)).trans
  (step_block x0 x2 x3 x4 Sa 24 (W 0 0 _) (W 1 0 _) (H 0 0 6 0 _) (H 1 0 6 0 _) (H 2 0 6 0 _) (H 3 0 6 0 _) (L 0 0 6 0 _) (L 1 0 6 0 _) (L 2 0 6 0 _) (L 3 0 6 0 _) (H 0 0 6 1 _) (H 1 0 6 1 _) (H 2 0 6 1 _) (H 3 0 6 1 _) (L 0 0 6 1 _) (L 1 0 6 1 _) (L 2 0 6 1 _) (L 3 0 6 1 _) (fun i k => arow_apply b1 hb1 x0 24 _ i k) (factB c b5 hb5 b13 x4 0 24 _) (factB c b5 hb5 b13 x4 1 24 _) (fun i l => (srow_apply b8 hb8 xs0 24 _ i l).trans (hS 24 i l)) i n)

theorem sumB_25 (hS : ∀ s i l, xs0 (ix3 s i l) = Sa s i) (i : Fin 40) (n : Fin 256) : (r_608 c b1 hb1 b3 hb3 b4 hb4 b5 hb5 b6 hb6 b8 hb8 b9 hb9 b10 b11 b12 b13 b14 b15 x0 x2 x3 x4 x5 xs0 xs1) (ix2 i n)
    = (r_584 c b1 hb1 b3 hb3 b4 hb4 b5 hb5 b6 hb6 b8 hb8 b9 hb9 b10 b11 b12 b13 b14 b15 x0 x2 x3 x4 x5 xs0 xs1) (ix2 i n) + blockTerm x0 x2 x3 x4 Sa 25 i n :=
  have H := highB c b4 hb4 b11 x3
  have L := lowB c b4 hb4 b12 x3
  have W := wB_6 c b3 hb3 b10 x2
  (congrFun (stepB_25 (F := Ideal) ..) (ix2 i n)).trans
  (step_block x0 x2 x3 x4 Sa 25 (W 0 1 _) (W 1 1 _) (H 0 1 6 0 _) (H 1 1 6 0 _) (H 2 1 6 0 _) (H 3 1 6 0 _) (L 0 1 6 0 _) (L 1 1 6 0 _) (L 2 1 6 0 _) (L 3 1 6 0 _) (H 0 1 6 1 _) (H 1 1 6 1 _) (H 2 1 6 1 _) (H 3 1 6 1 _) (L 0 1 6 1 _) (L 1 1 6 1 _) (L 2 1 6 1 _) (L 3 1 6 1 _) (fun i k => arow_apply b1 hb1 x0 25 _ i k) (factB c b5 hb5 b13 x4 0 25 _) (factB c b5 hb5 b13 x4 1 25 _) (fun i l => (srow_apply b8 hb8 xs0 25 _ i l).trans (hS 25 i l)) i n)

theorem sumB_26 (hS : ∀ s i l, xs0 (ix3 s i l) = Sa s i) (i : Fin 40) (n : Fin 256) : (r_632 c b1 hb1 b3 hb3 b4 hb4 b5 hb5 b6 hb6 b8 hb8 b9 hb9 b10 b11 b12 b13 b14 b15 x0 x2 x3 x4 x5 xs0 xs1) (ix2 i n)
    = (r_608 c b1 hb1 b3 hb3 b4 hb4 b5 hb5 b6 hb6 b8 hb8 b9 hb9 b10 b11 b12 b13 b14 b15 x0 x2 x3 x4 x5 xs0 xs1) (ix2 i n) + blockTerm x0 x2 x3 x4 Sa 26 i n :=
  have H := highB c b4 hb4 b11 x3
  have L := lowB c b4 hb4 b12 x3
  have W := wB_6 c b3 hb3 b10 x2
  (congrFun (stepB_26 (F := Ideal) ..) (ix2 i n)).trans
  (step_block x0 x2 x3 x4 Sa 26 (W 0 2 _) (W 1 2 _) (H 0 2 6 0 _) (H 1 2 6 0 _) (H 2 2 6 0 _) (H 3 2 6 0 _) (L 0 2 6 0 _) (L 1 2 6 0 _) (L 2 2 6 0 _) (L 3 2 6 0 _) (H 0 2 6 1 _) (H 1 2 6 1 _) (H 2 2 6 1 _) (H 3 2 6 1 _) (L 0 2 6 1 _) (L 1 2 6 1 _) (L 2 2 6 1 _) (L 3 2 6 1 _) (fun i k => arow_apply b1 hb1 x0 26 _ i k) (factB c b5 hb5 b13 x4 0 26 _) (factB c b5 hb5 b13 x4 1 26 _) (fun i l => (srow_apply b8 hb8 xs0 26 _ i l).trans (hS 26 i l)) i n)

theorem sumB_27 (hS : ∀ s i l, xs0 (ix3 s i l) = Sa s i) (i : Fin 40) (n : Fin 256) : (r_656 c b1 hb1 b3 hb3 b4 hb4 b5 hb5 b6 hb6 b8 hb8 b9 hb9 b10 b11 b12 b13 b14 b15 x0 x2 x3 x4 x5 xs0 xs1) (ix2 i n)
    = (r_632 c b1 hb1 b3 hb3 b4 hb4 b5 hb5 b6 hb6 b8 hb8 b9 hb9 b10 b11 b12 b13 b14 b15 x0 x2 x3 x4 x5 xs0 xs1) (ix2 i n) + blockTerm x0 x2 x3 x4 Sa 27 i n :=
  have H := highB c b4 hb4 b11 x3
  have L := lowB c b4 hb4 b12 x3
  have W := wB_6 c b3 hb3 b10 x2
  (congrFun (stepB_27 (F := Ideal) ..) (ix2 i n)).trans
  (step_block x0 x2 x3 x4 Sa 27 (W 0 3 _) (W 1 3 _) (H 0 3 6 0 _) (H 1 3 6 0 _) (H 2 3 6 0 _) (H 3 3 6 0 _) (L 0 3 6 0 _) (L 1 3 6 0 _) (L 2 3 6 0 _) (L 3 3 6 0 _) (H 0 3 6 1 _) (H 1 3 6 1 _) (H 2 3 6 1 _) (H 3 3 6 1 _) (L 0 3 6 1 _) (L 1 3 6 1 _) (L 2 3 6 1 _) (L 3 3 6 1 _) (fun i k => arow_apply b1 hb1 x0 27 _ i k) (factB c b5 hb5 b13 x4 0 27 _) (factB c b5 hb5 b13 x4 1 27 _) (fun i l => (srow_apply b8 hb8 xs0 27 _ i l).trans (hS 27 i l)) i n)

theorem sumB_28 (hS : ∀ s i l, xs0 (ix3 s i l) = Sa s i) (i : Fin 40) (n : Fin 256) : (r_679 c b1 hb1 b3 hb3 b4 hb4 b5 hb5 b6 hb6 b8 hb8 b9 hb9 b10 b11 b12 b13 b14 b15 x0 x2 x3 x4 x5 xs0 xs1) (ix2 i n)
    = (r_656 c b1 hb1 b3 hb3 b4 hb4 b5 hb5 b6 hb6 b8 hb8 b9 hb9 b10 b11 b12 b13 b14 b15 x0 x2 x3 x4 x5 xs0 xs1) (ix2 i n) + blockTerm x0 x2 x3 x4 Sa 28 i n :=
  have H := highB c b4 hb4 b11 x3
  have L := lowB c b4 hb4 b12 x3
  have W := wB_7 c b3 hb3 b10 x2
  (congrFun (stepB_28 (F := Ideal) ..) (ix2 i n)).trans
  (step_block x0 x2 x3 x4 Sa 28 (W 0 0 _) (W 1 0 _) (H 0 0 7 0 _) (H 1 0 7 0 _) (H 2 0 7 0 _) (H 3 0 7 0 _) (L 0 0 7 0 _) (L 1 0 7 0 _) (L 2 0 7 0 _) (L 3 0 7 0 _) (H 0 0 7 1 _) (H 1 0 7 1 _) (H 2 0 7 1 _) (H 3 0 7 1 _) (L 0 0 7 1 _) (L 1 0 7 1 _) (L 2 0 7 1 _) (L 3 0 7 1 _) (fun i k => arow_apply b1 hb1 x0 28 _ i k) (factB c b5 hb5 b13 x4 0 28 _) (factB c b5 hb5 b13 x4 1 28 _) (fun i l => (srow_apply b8 hb8 xs0 28 _ i l).trans (hS 28 i l)) i n)

theorem sumB_29 (hS : ∀ s i l, xs0 (ix3 s i l) = Sa s i) (i : Fin 40) (n : Fin 256) : (r_702 c b1 hb1 b3 hb3 b4 hb4 b5 hb5 b6 hb6 b8 hb8 b9 hb9 b10 b11 b12 b13 b14 b15 x0 x2 x3 x4 x5 xs0 xs1) (ix2 i n)
    = (r_679 c b1 hb1 b3 hb3 b4 hb4 b5 hb5 b6 hb6 b8 hb8 b9 hb9 b10 b11 b12 b13 b14 b15 x0 x2 x3 x4 x5 xs0 xs1) (ix2 i n) + blockTerm x0 x2 x3 x4 Sa 29 i n :=
  have H := highB c b4 hb4 b11 x3
  have L := lowB c b4 hb4 b12 x3
  have W := wB_7 c b3 hb3 b10 x2
  (congrFun (stepB_29 (F := Ideal) ..) (ix2 i n)).trans
  (step_block x0 x2 x3 x4 Sa 29 (W 0 1 _) (W 1 1 _) (H 0 1 7 0 _) (H 1 1 7 0 _) (H 2 1 7 0 _) (H 3 1 7 0 _) (L 0 1 7 0 _) (L 1 1 7 0 _) (L 2 1 7 0 _) (L 3 1 7 0 _) (H 0 1 7 1 _) (H 1 1 7 1 _) (H 2 1 7 1 _) (H 3 1 7 1 _) (L 0 1 7 1 _) (L 1 1 7 1 _) (L 2 1 7 1 _) (L 3 1 7 1 _) (fun i k => arow_apply b1 hb1 x0 29 _ i k) (factB c b5 hb5 b13 x4 0 29 _) (factB c b5 hb5 b13 x4 1 29 _) (fun i l => (srow_apply b8 hb8 xs0 29 _ i l).trans (hS 29 i l)) i n)

theorem sumB_30 (hS : ∀ s i l, xs0 (ix3 s i l) = Sa s i) (i : Fin 40) (n : Fin 256) : (r_724 c b1 hb1 b3 hb3 b4 hb4 b5 hb5 b6 hb6 b8 hb8 b9 hb9 b10 b11 b12 b13 b14 b15 x0 x2 x3 x4 x5 xs0 xs1) (ix2 i n)
    = (r_702 c b1 hb1 b3 hb3 b4 hb4 b5 hb5 b6 hb6 b8 hb8 b9 hb9 b10 b11 b12 b13 b14 b15 x0 x2 x3 x4 x5 xs0 xs1) (ix2 i n) + blockTerm x0 x2 x3 x4 Sa 30 i n :=
  have H := highB c b4 hb4 b11 x3
  have L := lowB c b4 hb4 b12 x3
  have W := wB_7 c b3 hb3 b10 x2
  (congrFun (stepB_30 (F := Ideal) ..) (ix2 i n)).trans
  (step_block x0 x2 x3 x4 Sa 30 (W 0 2 _) (W 1 2 _) (H 0 2 7 0 _) (H 1 2 7 0 _) (H 2 2 7 0 _) (H 3 2 7 0 _) (L 0 2 7 0 _) (L 1 2 7 0 _) (L 2 2 7 0 _) (L 3 2 7 0 _) (H 0 2 7 1 _) (H 1 2 7 1 _) (H 2 2 7 1 _) (H 3 2 7 1 _) (L 0 2 7 1 _) (L 1 2 7 1 _) (L 2 2 7 1 _) (L 3 2 7 1 _) (fun i k => arow_apply b1 hb1 x0 30 _ i k) (factB c b5 hb5 b13 x4 0 30 _) (factB c b5 hb5 b13 x4 1 30 _) (fun i l => (srow_apply b8 hb8 xs0 30 _ i l).trans (hS 30 i l)) i n)

theorem sumB_31 (hS : ∀ s i l, xs0 (ix3 s i l) = Sa s i) (i : Fin 40) (n : Fin 256) : (k0_pay1099 (r_724 c b1 hb1 b3 hb3 b4 hb4 b5 hb5 b6 hb6 b8 hb8 b9 hb9 b10 b11 b12 b13 b14 b15 x0 x2 x3 x4 x5 xs0 xs1) (r_732 c b3 hb3 b4 hb4 b10 b11 x2 x3) (r_733 c b3 hb3 b4 hb4 b10 b12 x2 x3) (r_735 c b3 hb3 b4 hb4 b10 b11 x2 x3) (r_736 c b3 hb3 b4 hb4 b10 b12 x2 x3) (r_738 c b3 hb3 b4 hb4 b10 b11 x2 x3) (r_740 c b3 hb3 b4 hb4 b10 b12 x2 x3) (r_741 c b3 hb3 b4 hb4 b10 b11 x2 x3) (r_742 c b3 hb3 b4 hb4 b10 b12 x2 x3) (r_743 c b3 hb3 b10 x2) (r_744 c b3 hb3 b4 hb4 b10 b11 x2 x3) (r_745 c b4 hb4 b12 x3) (View.readAt (Elt Ideal) b1.view (Rect.unit (s := S32x40x256) ![31, 0, 0] S1x40x256.size inb_S32x40x256_S1x40x256_31_0_0).toLoadRect (hb1.unread x0)) (v7138 c b5 hb5 b13 x4) (v7140 c b5 hb5 b13 x4) (View.readAt (Elt Ideal) b8.view (Rect.unit (s := S32x40x128) ![31, 0, 0] S1x40x128.size inb_S32x40x128_S1x40x128_31_0_0).toLoadRect (hb8.unread xs0))) (ix2 i n)
    = (r_724 c b1 hb1 b3 hb3 b4 hb4 b5 hb5 b6 hb6 b8 hb8 b9 hb9 b10 b11 b12 b13 b14 b15 x0 x2 x3 x4 x5 xs0 xs1) (ix2 i n) + blockTerm x0 x2 x3 x4 Sa 31 i n :=
  have H := highB c b4 hb4 b11 x3
  have L := lowB c b4 hb4 b12 x3
  have W := wB_7 c b3 hb3 b10 x2
  (congrFun (stepB_31 (F := Ideal) ..) (ix2 i n)).trans
  (step_block x0 x2 x3 x4 Sa 31 (W 0 3 _) (W 1 3 _) (H 0 3 7 0 _) (H 1 3 7 0 _) (H 2 3 7 0 _) (H 3 3 7 0 _) (L 0 3 7 0 _) (L 1 3 7 0 _) (L 2 3 7 0 _) (L 3 3 7 0 _) (H 0 3 7 1 _) (H 1 3 7 1 _) (H 2 3 7 1 _) (H 3 3 7 1 _) (L 0 3 7 1 _) (L 1 3 7 1 _) (L 2 3 7 1 _) (L 3 3 7 1 _) (fun i k => arow_apply b1 hb1 x0 31 _ i k) (factB c b5 hb5 b13 x4 0 31 _) (factB c b5 hb5 b13 x4 1 31 _) (fun i l => (srow_apply b8 hb8 xs0 31 _ i l).trans (hS 31 i l)) i n)

end Cert.Step
end
-- ==== Proof.OutB.lean ====
/- Case B of the kernel body: the tile it leaves. -/
module

public import proofs.«01_k».proof.Proof.Tile
public import proofs.«01_k».proof.Proof.SumsB

@[expose] public section

noncomputable section

namespace Cert.Step

open Idealize.ShloMosaic Idealize.SL.Sem Cert.KernelIdeal Cert.KernelIdeal.Gen Cert.KernelIdeal.Gen.kernelRun0_B.sl

variable (c : Dev nD)
  (b1 : Memref sig Kind.tc Space.vmem S32x40x256 EltTy.i8) (hb1 : b1.IsWhole)
  (b2 : Memref sig Kind.tc Space.vmem S40x32 EltTy.f32) (hb2 : b2.IsWhole)
  (b3 : Memref sig Kind.tc Space.vmem S256x32x128 EltTy.i8) (hb3 : b3.IsWhole)
  (b4 : Memref sig Kind.tc Space.vmem S12x32x256 EltTy.i8) (hb4 : b4.IsWhole)
  (b5 : Memref sig Kind.tc Space.vmem S32x256 EltTy.i16) (hb5 : b5.IsWhole)
  (b6 : Memref sig Kind.tc Space.vmem S32x256 EltTy.i16) (hb6 : b6.IsWhole)
  (b7 : Memref sig Kind.tc Space.vmem S40x256 EltTy.f32) (hb7 : b7.IsWhole)
  (b8 : Memref sig Kind.tc Space.vmem S32x40x128 EltTy.f32) (hb8 : b8.IsWhole)
  (b9 : Memref sig Kind.tc Space.vmem S40x256 EltTy.f32) (hb9 : b9.IsWhole)
  (b10 : Memref sig Kind.tc Space.vmem S2x2x512x128 EltTy.i32) (hb10 : b10.IsWhole)
  (b11 : Memref sig Kind.tc Space.vmem S4x4x8x256 EltTy.i32) (hb11 : b11.IsWhole)
  (b12 : Memref sig Kind.tc Space.vmem S4x4x8x256 EltTy.i32) (hb12 : b12.IsWhole)
  (b13 : Memref sig Kind.tc Space.vmem S2x32x128 EltTy.f32) (hb13 : b13.IsWhole)
  (b14 : Memref sig Kind.tc Space.vmem S2x32x128 EltTy.f32) (hb14 : b14.IsWhole)
  (b15 : Memref sig Kind.tc Space.vmem S256x256 EltTy.f32) (hb15 : b15.IsWhole)
  (x0 : Vec Ideal S32x40x256 .i8) (x1 : Vec Ideal S40x32 .f32) (x2 : Vec Ideal S256x32x128 .i8) (x3 : Vec Ideal S12x32x256 .i8) (x4 : Vec Ideal S32x256 .i16) (x5 : Vec Ideal S32x256 .i16) (xs0 : Vec Ideal S32x40x128 .f32) (xs1 : Vec Ideal S40x256 .f32)
  (Sa : Fin 32 → Fin 40 → EReal)

theorem firstB (hL : ∀ i q, xs1 (ix2 i q) = codeSum x0 Sa i q) (i : Fin 40) (n : Fin 256) : (r_23 c b4 hb4 b6 hb6 b9 hb9 b14 b15 x3 x5 xs1) (ix2 i n) = 0 - ∑ q : Fin 256, codeSum x0 Sa i q * minTerm x3 x5 q n :=
  initial_eq _ _ i n _ _ (fun q => (congrFun (lrows_apply b9 hb9 xs1 _) (ix2 i q)).trans (hL i q))
    (fun q => (congrArg (fun L => View.readCov (Val := Elt Ideal) b15.view L (Rect.unit (s := S256x256) ![0, 0] S256x256.size inb_S256x256_S256x256_0_0).toLoadRect (ix2 q n)) (rmpiecesB (F := Ideal) c b4 hb4 b6 hb6 b14 x3 x5)).trans (minima b15.view b14.view b4 hb4 x3 b6 hb6 x5 _ _ q n))

def lastB : FVec Ideal S40x256 .f32 := (k0_pay1099 (r_724 c b1 hb1 b3 hb3 b4 hb4 b5 hb5 b6 hb6 b8 hb8 b9 hb9 b10 b11 b12 b13 b14 b15 x0 x2 x3 x4 x5 xs0 xs1) (r_732 c b3 hb3 b4 hb4 b10 b11 x2 x3) (r_733 c b3 hb3 b4 hb4 b10 b12 x2 x3) (r_735 c b3 hb3 b4 hb4 b10 b11 x2 x3) (r_736 c b3 hb3 b4 hb4 b10 b12 x2 x3) (r_738 c b3 hb3 b4 hb4 b10 b11 x2 x3) (r_740 c b3 hb3 b4 hb4 b10 b12 x2 x3) (r_741 c b3 hb3 b4 hb4 b10 b11 x2 x3) (r_742 c b3 hb3 b4 hb4 b10 b12 x2 x3) (r_743 c b3 hb3 b10 x2) (r_744 c b3 hb3 b4 hb4 b10 b11 x2 x3) (r_745 c b4 hb4 b12 x3) (View.readAt (Elt Ideal) b1.view (Rect.unit (s := S32x40x256) ![31, 0, 0] S1x40x256.size inb_S32x40x256_S1x40x256_31_0_0).toLoadRect (hb1.unread x0)) (v7138 c b5 hb5 b13 x4) (v7140 c b5 hb5 b13 x4) (View.readAt (Elt Ideal) b8.view (Rect.unit (s := S32x40x128) ![31, 0, 0] S1x40x128.size inb_S32x40x128_S1x40x128_31_0_0).toLoadRect (hb8.unread xs0)))

theorem lastB_apply (hL : ∀ i q, xs1 (ix2 i q) = codeSum x0 Sa i q) (hS : ∀ s i l, xs0 (ix3 s i l) = Sa s i) (i : Fin 40) (n : Fin 256) : lastB c b1 hb1 b3 hb3 b4 hb4 b5 hb5 b6 hb6 b8 hb8 b9 hb9 b10 b11 b12 b13 b14 b15 x0 x2 x3 x4 x5 xs0 xs1 (ix2 i n) = outVal x0 x2 x3 x4 x5 Sa i n := by
  unfold lastB
  rw [sumB_31 (Sa := Sa) (hS := hS)]
  rw [sumB_30 (Sa := Sa) (hS := hS)]
  rw [sumB_29 (Sa := Sa) (hS := hS)]
  rw [sumB_28 (Sa := Sa) (hS := hS)]
  rw [sumB_27 (Sa := Sa) (hS := hS)]
  rw [sumB_26 (Sa := Sa) (hS := hS)]
  rw [sumB_25 (Sa := Sa) (hS := hS)]
  rw [sumB_24 (Sa := Sa) (hS := hS)]
  rw [sumB_23 (Sa := Sa) (hS := hS)]
  rw [sumB_22 (Sa := Sa) (hS := hS)]
  rw [sumB_21 (Sa := Sa) (hS := hS)]
  rw [sumB_20 (Sa := Sa) (hS := hS)]
  rw [sumB_19 (Sa := Sa) (hS := hS)]
  rw [sumB_18 (Sa := Sa) (hS := hS)]
  rw [sumB_17 (Sa := Sa) (hS := hS)]
  rw [sumB_16 (Sa := Sa) (hS := hS)]
  rw [sumB_15 (Sa := Sa) (hS := hS)]
  rw [sumB_14 (Sa := Sa) (hS := hS)]
  rw [sumB_13 (Sa := Sa) (hS := hS)]
  rw [sumB_12 (Sa := Sa) (hS := hS)]
  rw [sumB_11 (Sa := Sa) (hS := hS)]
  rw [sumB_10 (Sa := Sa) (hS := hS)]
  rw [sumB_9 (Sa := Sa) (hS := hS)]
  rw [sumB_8 (Sa := Sa) (hS := hS)]
  rw [sumB_7 (Sa := Sa) (hS := hS)]
  rw [sumB_6 (Sa := Sa) (hS := hS)]
  rw [sumB_5 (Sa := Sa) (hS := hS)]
  rw [sumB_4 (Sa := Sa) (hS := hS)]
  rw [sumB_3 (Sa := Sa) (hS := hS)]
  rw [sumB_2 (Sa := Sa) (hS := hS)]
  rw [sumB_1 (Sa := Sa) (hS := hS)]
  rw [sumB_0 (Sa := Sa) (hS := hS)]
  rw [firstB (Sa := Sa) (hL := hL)]
  exact sum32 _ (fun s => blockTerm x0 x2 x3 x4 Sa s i n)

end Cert.Step
end
-- ==== Proof.Array.lean ====
/- The windows' blocks by the arguments' elements. -/
module

public import proofs.«01_k».proof.Proof.OutA
public import proofs.«01_k».proof.Proof.OutB
public import proofs.«01_k».proof.Proof.Gen.KernelIdeal.Value

@[expose] public section

noncomputable section

namespace Cert.Step

open Idealize.ShloMosaic Idealize.ShloMosaic.TcCoe Idealize.SL.Sem Cert.KernelIdeal Cert.KernelIdeal.Gen Idealize.ShloMosaic.Tactic

variable (m : (ℓ : Loc nD τ sig) → Buf (Elt Ideal) ℓ) (c : Dev nD)

/-- The arguments, as the program finds them. -/
abbrev arg0 : Vec Ideal S40x8192 .i8 := m ((c : Thread nD τ).loc main_arg0)
abbrev arg1 : Vec Ideal S40x32 .f32 := m ((c : Thread nD τ).loc main_arg1)
abbrev arg2 : Vec Ideal S7168x32x128 .i8 := m ((c : Thread nD τ).loc main_arg2)
abbrev arg3 : Vec Ideal S7168x32x12 .i8 := m ((c : Thread nD τ).loc main_arg3)
abbrev arg4 : Vec Ideal S7168x32 .i16 := m ((c : Thread nD τ).loc main_arg4)
abbrev arg5 : Vec Ideal S7168x32 .i16 := m ((c : Thread nD τ).loc main_arg5)

theorem V_main_v2 : V m c main_v2 = shapeCast S32x40x256 (transpose S32x40x4x32x2 [1, 0, 2, 4, 3]
    (shapeCast S40x32x4x2x32 (arg0 m c) shapeCasts_S40x8192_S40x32x4x2x32) transposes_S40x32x4x2x32_S32x40x4x32x2_1_0_2_4_3) shapeCasts_S32x40x4x32x2_S32x40x256 := by
  unfold V hostOps0
  after_results_simp
  all_goals rfl

theorem V_main_v3 : V m c main_v3 = transpose S12x32x7168 [2, 1, 0] (arg3 m c) transposes_S7168x32x12_S12x32x7168_2_1_0 := by
  unfold V hostOps0
  after_results_simp
  all_goals rfl

theorem V_main_v4 : V m c main_v4 = transpose S32x7168 [1, 0] (arg4 m c) transposes_S7168x32_S32x7168_1_0 := by
  unfold V hostOps0
  after_results_simp
  all_goals rfl

theorem V_main_v5 : V m c main_v5 = transpose S32x7168 [1, 0] (arg5 m c) transposes_S7168x32_S32x7168_1_0 := by
  unfold V hostOps0
  after_results_simp
  all_goals rfl

/-- The place of code `k` of a group among the group's codes as given. -/
def place (s : Fin 32) (k : Fin 256) : Fin 8192 := ⟨256 * s.val + 64 * (k.val / 64) + 32 * (k.val % 2) + k.val % 64 / 2, by omega⟩

/-- Column `n` of tile `t`. -/
def col (t : Fin cfg0.N) (n : Fin 256) : Fin 7168 := ⟨256 * t.val + n.val, by have := lt_of_lt_of_eq t.isLt (show cfg0.N = 28 from N_0); omega⟩

theorem blk0 (t : Fin cfg0.N) (s : Fin 32) (i : Fin 40) (k : Fin 256) : iblk m c 0 t (ix3 s i k) = arg0 m c (ix2 i (place s k)) := by
  have e : iblk m c 0 t (ix3 s i k) = V m c main_v2 (ix3 s i k) := by
    refine congrArg (V m c main_v2) ?_
    funext a
    match a with
    | ⟨0, _⟩ => exact Fin.ext (by show 0 * 32 + 1 * s.val = s.val; omega)
    | ⟨1, _⟩ => exact Fin.ext (by show 0 * 40 + 1 * i.val = i.val; omega)
    | ⟨2, _⟩ => exact Fin.ext (by show 0 * 256 + 1 * k.val = k.val; omega)
  rw [e, V_main_v2]
  pointwise
  exact congrArg (fun z => arg0 m c (ix2 i z)) (Fin.ext (by simp only [place]; omega))

theorem blk1 (t : Fin cfg0.N) (i : Fin 40) (s : Fin 32) : iblk m c 1 t (ix2 i s) = arg1 m c (ix2 i s) := by
  have e : iblk m c 1 t (ix2 i s) = V m c main_arg1 (ix2 i s) := by
    refine congrArg (V m c main_arg1) ?_
    funext a
    match a with
    | ⟨0, _⟩ => exact Fin.ext (by show 0 * 40 + 1 * i.val = i.val; omega)
    | ⟨1, _⟩ => exact Fin.ext (by show 0 * 32 + 1 * s.val = s.val; omega)
  rw [e, V_main_arg1]

/-- The codes as the kernel takes them. -/
def codes : Vec Ideal S32x40x256 .i8 := fun j => arg0 m c (ix2 (j 1) (place (j 0) (j 2)))

theorem eta3 {a b d : ℕ} (j : ((⟨3, ![a, b, d]⟩ : Shape)).Idx) : j = ix3 (j 0) (j 1) (j 2) := by
  funext x
  match x with
  | ⟨0, _⟩ => rfl
  | ⟨1, _⟩ => rfl
  | ⟨2, _⟩ => rfl

theorem eta2 {a b : ℕ} (j : ((⟨2, ![a, b]⟩ : Shape)).Idx) : j = ix2 (j 0) (j 1) := by
  funext x
  match x with
  | ⟨0, _⟩ => rfl
  | ⟨1, _⟩ => rfl

theorem blk0_eq (t : Fin cfg0.N) : iblk m c 0 t = codes m c := by
  funext j
  exact (congrArg (iblk m c 0 t) (eta3 j)).trans (blk0 m c t (j 0) (j 1) (j 2))

theorem blk1_eq (t : Fin cfg0.N) : iblk m c 1 t = arg1 m c := by
  funext j
  exact (congrArg (iblk m c 1 t) (eta2 j)).trans ((blk1 m c t (j 0) (j 1)).trans (congrArg (arg1 m c) (eta2 j).symm))

theorem blk2 (t : Fin cfg0.N) (n : Fin 256) (s : Fin 32) (y : Fin 128) : iblk m c 2 t (ix3 n s y) = arg2 m c (ix3 (col t n) s y) := by
  have h : ∀ t : Fin cfg0.N, win0_2.index t (0 : Fin 3) = t.val ∧ win0_2.index t (1 : Fin 3) = 0 ∧ win0_2.index t (2 : Fin 3) = 0 :=
    (by decide +kernel : ∀ t : Fin grid0.N, _)
  obtain ⟨h0, h1, h2⟩ := h t
  have e : iblk m c 2 t (ix3 n s y) = V m c main_arg2 (ix3 (col t n) s y) := by
    refine congrArg (V m c main_arg2) ?_
    funext a
    match a with
    | ⟨0, _⟩ => exact Fin.ext (by show win0_2.index t (0 : Fin 3) * 256 + 1 * n.val = 256 * t.val + n.val; omega)
    | ⟨1, _⟩ => exact Fin.ext (by show win0_2.index t (1 : Fin 3) * 32 + 1 * s.val = s.val; omega)
    | ⟨2, _⟩ => exact Fin.ext (by show win0_2.index t (2 : Fin 3) * 128 + 1 * y.val = y.val; omega)
  rw [e, V_main_arg2]

theorem blk3 (t : Fin cfg0.N) (i : Fin 12) (s : Fin 32) (n : Fin 256) : iblk m c 3 t (ix3 i s n) = arg3 m c (ix3 (col t n) s i) := by
  have h : ∀ t : Fin cfg0.N, win0_3.index t (0 : Fin 3) = 0 ∧ win0_3.index t (1 : Fin 3) = 0 ∧ win0_3.index t (2 : Fin 3) = t.val :=
    (by decide +kernel : ∀ t : Fin grid0.N, _)
  obtain ⟨h0, h1, h2⟩ := h t
  have e : iblk m c 3 t (ix3 i s n) = V m c main_v3 (ix3 i s (col t n)) := by
    refine congrArg (V m c main_v3) ?_
    funext a
    match a with
    | ⟨0, _⟩ => exact Fin.ext (by show win0_3.index t (0 : Fin 3) * 12 + 1 * i.val = i.val; omega)
    | ⟨1, _⟩ => exact Fin.ext (by show win0_3.index t (1 : Fin 3) * 32 + 1 * s.val = s.val; omega)
    | ⟨2, _⟩ => exact Fin.ext (by show win0_3.index t (2 : Fin 3) * 256 + 1 * n.val = 256 * t.val + n.val; omega)
  rw [e, V_main_v3]
  pointwise

theorem blk4 (t : Fin cfg0.N) (s : Fin 32) (n : Fin 256) : iblk m c 4 t (ix2 s n) = arg4 m c (ix2 (col t n) s) := by
  have h : ∀ t : Fin cfg0.N, win0_4.index t (0 : Fin 2) = 0 ∧ win0_4.index t (1 : Fin 2) = t.val :=
    (by decide +kernel : ∀ t : Fin grid0.N, _)
  obtain ⟨h0, h1⟩ := h t
  have e : iblk m c 4 t (ix2 s n) = V m c main_v4 (ix2 s (col t n)) := by
    refine congrArg (V m c main_v4) ?_
    funext a
    match a with
    | ⟨0, _⟩ => exact Fin.ext (by show win0_4.index t (0 : Fin 2) * 32 + 1 * s.val = s.val; omega)
    | ⟨1, _⟩ => exact Fin.ext (by show win0_4.index t (1 : Fin 2) * 256 + 1 * n.val = 256 * t.val + n.val; omega)
  rw [e, V_main_v4]
  pointwise

theorem blk5 (t : Fin cfg0.N) (s : Fin 32) (n : Fin 256) : iblk m c 5 t (ix2 s n) = arg5 m c (ix2 (col t n) s) := by
  have h : ∀ t : Fin cfg0.N, win0_5.index t (0 : Fin 2) = 0 ∧ win0_5.index t (1 : Fin 2) = t.val :=
    (by decide +kernel : ∀ t : Fin grid0.N, _)
  obtain ⟨h0, h1⟩ := h t
  have e : iblk m c 5 t (ix2 s n) = V m c main_v5 (ix2 s (col t n)) := by
    refine congrArg (V m c main_v5) ?_
    funext a
    match a with
    | ⟨0, _⟩ => exact Fin.ext (by show win0_5.index t (0 : Fin 2) * 32 + 1 * s.val = s.val; omega)
    | ⟨1, _⟩ => exact Fin.ext (by show win0_5.index t (1 : Fin 2) * 256 + 1 * n.val = 256 * t.val + n.val; omega)
  rw [e, V_main_v5]
  pointwise

end Cert.Step
end
-- ==== Proof.Sweep.lean ====
/- What each grid point leaves: its tile of the output, and the scales and code sums it carries. -/
module

public import proofs.«01_k».proof.Proof.Array

@[expose] public section

noncomputable section

namespace Cert.Step

open Idealize.ShloMosaic Idealize.ShloMosaic.TcCoe Idealize.SL.Sem Cert.KernelIdeal Cert.KernelIdeal.Gen

section

variable (c : Dev nD)
  (arg1 : Memref sig Kind.tc Space.vmem S32x40x256 EltTy.i8) (harg1 : arg1.IsWhole)
  (arg2 : Memref sig Kind.tc Space.vmem S40x32 EltTy.f32) (harg2 : arg2.IsWhole)
  (arg3 : Memref sig Kind.tc Space.vmem S256x32x128 EltTy.i8) (harg3 : arg3.IsWhole)
  (arg4 : Memref sig Kind.tc Space.vmem S12x32x256 EltTy.i8) (harg4 : arg4.IsWhole)
  (arg5 : Memref sig Kind.tc Space.vmem S32x256 EltTy.i16) (harg5 : arg5.IsWhole)
  (arg6 : Memref sig Kind.tc Space.vmem S32x256 EltTy.i16) (harg6 : arg6.IsWhole)
  (arg7 : Memref sig Kind.tc Space.vmem S40x256 EltTy.f32) (harg7 : arg7.IsWhole)
  (arg8 : Memref sig Kind.tc Space.vmem S32x40x128 EltTy.f32) (harg8 : arg8.IsWhole)
  (arg9 : Memref sig Kind.tc Space.vmem S40x256 EltTy.f32) (harg9 : arg9.IsWhole)
  (arg10 : Memref sig Kind.tc Space.vmem S2x2x512x128 EltTy.i32) (harg10 : arg10.IsWhole)
  (arg11 : Memref sig Kind.tc Space.vmem S4x4x8x256 EltTy.i32) (harg11 : arg11.IsWhole)
  (arg12 : Memref sig Kind.tc Space.vmem S4x4x8x256 EltTy.i32) (harg12 : arg12.IsWhole)
  (arg13 : Memref sig Kind.tc Space.vmem S2x32x128 EltTy.f32) (harg13 : arg13.IsWhole)
  (arg14 : Memref sig Kind.tc Space.vmem S2x32x128 EltTy.f32) (harg14 : arg14.IsWhole)
  (arg15 : Memref sig Kind.tc Space.vmem S256x256 EltTy.f32) (harg15 : arg15.IsWhole)
  (x0 : Vec Ideal S32x40x256 .i8) (x1 : Vec Ideal S40x32 .f32) (x2 : Vec Ideal S256x32x128 .i8) (x3 : Vec Ideal S12x32x256 .i8) (x4 : Vec Ideal S32x256 .i16) (x5 : Vec Ideal S32x256 .i16) (xs0 : Vec Ideal S32x40x128 .f32) (xs1 : Vec Ideal S40x256 .f32)
  (i : grid0.Coords)

theorem outA (hc0 : cond0_0 i) (j : Fin 40) (n : Fin 256) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix2 j n) = outVal x0 x2 x3 x4 x5 (fun s i => x1 (ix2 i s)) j n := by
  unfold out0_A_6
  rw [View.read_writes_junk_eq_canon]
  exact (whole_canon inb_S40x256_S40x256_0_0 (lastA c arg1 harg1 arg2 harg2 arg3 harg3 arg4 harg4 arg5 harg5 arg6 harg6 arg8 arg9 arg10 arg11 arg12 arg13 arg14 arg15 x0 x1 x2 x3 x4 x5) j n).trans (lastA_apply c arg1 harg1 arg2 harg2 arg3 harg3 arg4 harg4 arg5 harg5 arg6 harg6 arg8 arg9 arg10 arg11 arg12 arg13 arg14 arg15 x0 x1 x2 x3 x4 x5 j n)

theorem outB (hc0 : ¬cond0_0 i) (Sa : Fin 32 → Fin 40 → EReal) (hL : ∀ i q, xs1 (ix2 i q) = codeSum x0 Sa i q) (hS : ∀ s i l, xs0 (ix3 s i l) = Sa s i) (j : Fin 40) (n : Fin 256) :
    out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs1 (ix2 j n) = outVal x0 x2 x3 x4 x5 Sa j n := by
  unfold out0_B_6
  rw [View.read_writes_junk_eq_canon]
  exact (whole_canon inb_S40x256_S40x256_0_0 (lastB c arg1 harg1 arg3 harg3 arg4 harg4 arg5 harg5 arg6 harg6 arg8 harg8 arg9 harg9 arg10 arg11 arg12 arg13 arg14 arg15 x0 x2 x3 x4 x5 xs0 xs1) j n).trans (lastB_apply c arg1 harg1 arg3 harg3 arg4 harg4 arg5 harg5 arg6 harg6 arg8 harg8 arg9 harg9 arg10 arg11 arg12 arg13 arg14 arg15 x0 x2 x3 x4 x5 xs0 xs1 Sa hL hS j n)

theorem scalesLeft (hc0 : cond0_0 i) (s : Fin 32) (j : Fin 40) (l : Fin 128) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix3 s j l) = x1 (ix2 j s) := by
  unfold sout0_A_0
  rw [View.read_writes_junk_eq_canon]
  exact (congrArg (fun L => View.canon (Val := Elt Ideal) (e := .f32) L (ix3 s j l)) (aspiecesA (F := Ideal) c arg2 harg2 x1)).trans
    ((canon_aspieces _ s j l).trans (congrFun (scales_apply arg2 harg2 x1 _) (ix2 j s)))

theorem sumsLeft (hc0 : cond0_0 i) (j : Fin 40) (q : Fin 256) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix2 j q) = codeSum x0 (fun s i => x1 (ix2 i s)) j q := by
  unfold sout0_A_1
  rw [View.read_writes_junk_eq_canon]
  exact (congrArg (fun L => View.canon (Val := Elt Ideal) (e := .f32) L (ix2 j q)) (lmin_pieces (F := Ideal) c arg1 harg1 arg2 harg2 arg8 x0 x1)).trans
    ((whole_canon _ _ j q).trans (llminA_apply c arg1 harg1 arg2 harg2 arg8 x0 x1 j q (grp q).isLt))

end

variable (m : (ℓ : Loc nD τ sig) → Buf (Elt Ideal) ℓ) (c : Dev nD)

/-- The activations' scale of a group and a row. -/
def scaleOf (s : Fin 32) (i : Fin 40) : EReal := arg1 m c (ix2 i s)

theorem left (n : ℕ) (hn : n < cfg0.N) :
    (∀ i q, (outsAt0 m c n hn).1 (ix2 i q) = outVal (codes m c) (iblk m c 2 ⟨n, hn⟩) (iblk m c 3 ⟨n, hn⟩) (iblk m c 4 ⟨n, hn⟩) (iblk m c 5 ⟨n, hn⟩) (scaleOf m c) i q)
    ∧ (∀ s i l, (outsAt0 m c n hn).2.1 (ix3 s i l) = scaleOf m c s i)
    ∧ (∀ i q, (outsAt0 m c n hn).2.2 (ix2 i q) = codeSum (codes m c) (scaleOf m c) i q) := by
  have hN : cfg0.N = 28 := N_0
  induction n with
  | zero =>
    rw [outsAt0_A m c ⟨0, hn⟩ (Nat.zero_mod _)]
    dsimp only
    refine ⟨fun i q => ?_, fun s i l => ?_, fun i q => ?_⟩
    · refine (outA c (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (grid0.coords ⟨0, hn⟩) ((hcond0_0 ⟨0, hn⟩).mpr (Nat.zero_mod _)) i q).trans ?_
      rw [blk0_eq, blk1_eq]; rfl
    · refine (scalesLeft c (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (grid0.coords ⟨0, hn⟩) ((hcond0_0 ⟨0, hn⟩).mpr (Nat.zero_mod _)) s i l).trans ?_
      rw [blk1_eq]; rfl
    · refine (sumsLeft c (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (grid0.coords ⟨0, hn⟩) ((hcond0_0 ⟨0, hn⟩).mpr (Nat.zero_mod _)) i q).trans ?_
      rw [blk0_eq, blk1_eq]; rfl
  | succ n ih =>
    obtain ⟨-, h1, h2⟩ := ih (Nat.lt_of_succ_lt hn)
    have hb : ¬(n + 1) % 28 = 0 := by omega
    rw [outsAt0_B m c ⟨n + 1, hn⟩ hb]
    dsimp only
    refine ⟨fun i q => ?_, h1, h2⟩
    refine (outB c (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 m c n (Nat.lt_of_succ_lt hn)).2.1 (outsAt0 m c n (Nat.lt_of_succ_lt hn)).2.2 (grid0.coords ⟨n + 1, hn⟩) (fun h => hb ((hcond0_0 ⟨n + 1, hn⟩).mp h)) (scaleOf m c) (fun i q => ?_) h1 i q).trans ?_
    · rw [blk0_eq]; exact h2 i q
    · rw [blk0_eq]

end Cert.Step
end
-- ==== Proof.RefParts.lean ====
/- The reference's result in named parts. -/
module

public import proofs.«01_k».proof.Proof.Gen.ReferenceIdeal.Run
public import Idealize.ShloMosaic.Lib.Pointwise

@[expose] public section

noncomputable section

namespace Cert.RefVal

open Cert.ReferenceIdeal Cert.ReferenceIdeal.Gen Idealize.ShloMosaic Idealize.ShloMosaic.TcCoe Idealize.SL.Sem Idealize.ShloMosaic.StableHlo

variable {F : FTy → Type} [FloatOps F]

def c2 (v : BitVec 32) : IVec S7168x32 32 := broadcastInDim S7168x32 ![] bcast_S_S7168x32 (constantI S_ 32 v)
def c3 (v : BitVec 32) : IVec S7168x32x4 32 := broadcastInDim S7168x32x4 ![] bcast_S_S7168x32x4 (constantI S_ 32 v)
def c4 (v : BitVec 32) : IVec S7168x32x4x32 32 := broadcastInDim S7168x32x4x32 ![] bcast_S_S7168x32x4x32 (constantI S_ 32 v)

/-- The exponent fields of half-precision words. -/
def expo (v : IVec S7168x32 16) : IVec S7168x32 32 := andi (Host.shrui (extui 32 v natLt_16_32) (c2 10#32)) (c2 31#32)
/-- Their leading bits: one where the exponent is not zero. -/
def lead (v : IVec S7168x32 16) : IVec S7168x32 32 := Host.shrui (addi (expo v) (c2 31#32)) (c2 5#32)
/-- The magnitudes of half-precision words. -/
def half (v : IVec S7168x32 16) : FVec F S7168x32 .f32 :=
  mulf (uitofp .f32 (ori (andi (extui 32 v natLt_16_32) (c2 1023#32)) (Host.shli (lead v) (c2 10#32))))
    (bitcastToFloat (F := F) .f32 (Host.shli (subi (addi (expo v) (c2 103#32)) (lead v)) (c2 23#32)))

/-- Four of the twelve bytes. -/
def cut0 (x : IVec S7168x32x12 8) : IVec S7168x32x4 32 := extractStridedSlice S7168x32x4 ![0, 0, 0] (extui 32 x natLt_8_32) slices_S7168x32x12_S7168x32x4_0_0_0
def cut4 (x : IVec S7168x32x12 8) : IVec S7168x32x4 32 := extractStridedSlice S7168x32x4 ![0, 0, 4] (extui 32 x natLt_8_32) slices_S7168x32x12_S7168x32x4_0_0_4
def cut8 (x : IVec S7168x32x12 8) : IVec S7168x32x4 32 := extractStridedSlice S7168x32x4 ![0, 0, 8] (extui 32 x natLt_8_32) slices_S7168x32x12_S7168x32x4_0_0_8

/-- The eight six-bit scales of each block. -/
def six8 (x : IVec S7168x32x12 8) : IVec S7168x32x8 32 :=
  concatenate S7168x32x8 2 [⟨S7168x32x4, (andi (cut0 x) (c3 63#32))⟩,
    ⟨S7168x32x4, (ori (andi (cut8 x) (c3 15#32)) (Host.shli (Host.shrsi (cut0 x) (c3 6#32)) (c3 4#32)))⟩] concatenates_S7168x32x4_S7168x32x4_S7168x32x8_d2

/-- The eight six-bit minima of each block. -/
def min8 (x : IVec S7168x32x12 8) : IVec S7168x32x8 32 :=
  concatenate S7168x32x8 2 [⟨S7168x32x4, (andi (cut4 x) (c3 63#32))⟩,
    ⟨S7168x32x4, (ori (Host.shrsi (cut8 x) (c3 4#32)) (Host.shli (Host.shrsi (cut4 x) (c3 6#32)) (c3 4#32)))⟩] concatenates_S7168x32x4_S7168x32x4_S7168x32x8_d2

def quants (q : IVec S7168x32x128 8) : IVec S7168x32x4x32 32 := shapeCast _ (extui 32 q natLt_8_32) shapeCasts_S7168x32x128_S7168x32x4x32

/-- The integer weights of the low and of the high nibbles. -/
def wlow (q : IVec S7168x32x128 8) (x : IVec S7168x32x12 8) : IVec S7168x32x4x32 32 :=
  muli (broadcastInDim S7168x32x4x32 ![0, 1, 2, 3] bcast_S7168x32x4x1_S7168x32x4x32_0_1_2_3 (broadcastInDim S7168x32x4x1 ![0, 1, 2] bcast_S7168x32x4_S7168x32x4x1_0_1_2 (shapeCast _ (extractStridedSlice S7168x32x4x1 ![0, 0, 0, 0] (shapeCast _ (six8 x) shapeCasts_S7168x32x8_S7168x32x4x2) slices_S7168x32x4x2_S7168x32x4x1_0_0_0_0) shapeCasts_S7168x32x4x1_S7168x32x4)))
    (andi (quants q) (c4 15#32))
def whigh (q : IVec S7168x32x128 8) (x : IVec S7168x32x12 8) : IVec S7168x32x4x32 32 :=
  muli (broadcastInDim S7168x32x4x32 ![0, 1, 2, 3] bcast_S7168x32x4x1_S7168x32x4x32_0_1_2_3 (broadcastInDim S7168x32x4x1 ![0, 1, 2] bcast_S7168x32x4_S7168x32x4x1_0_1_2 (shapeCast _ (extractStridedSlice S7168x32x4x1 ![0, 0, 0, 1] (shapeCast _ (six8 x) shapeCasts_S7168x32x8_S7168x32x4x2) slices_S7168x32x4x2_S7168x32x4x1_0_0_0_1) shapeCasts_S7168x32x4x1_S7168x32x4)))
    (Host.shrsi (quants q) (c4 4#32))

/-- The codes that meet the low and the high nibbles. -/
def alow (a : IVec S40x8192 8) : IVec S40x32x4x32 32 :=
  extsi 32 (shapeCast _ (extractStridedSlice S40x32x4x1x32 ![0, 0, 0, 0, 0] (shapeCast _ a shapeCasts_S40x8192_S40x32x4x2x32) slices_S40x32x4x2x32_S40x32x4x1x32_0_0_0_0_0) shapeCasts_S40x32x4x1x32_S40x32x4x32) natLt_8_32
def ahigh (a : IVec S40x8192 8) : IVec S40x32x4x32 32 :=
  extsi 32 (shapeCast _ (extractStridedSlice S40x32x4x1x32 ![0, 0, 0, 1, 0] (shapeCast _ a shapeCasts_S40x8192_S40x32x4x2x32) slices_S40x32x4x2x32_S40x32x4x1x32_0_0_0_1_0) shapeCasts_S40x32x4x1x32_S40x32x4x32) natLt_8_32

/-- One product of integers by two products of narrow ones. -/
def dots (F : FTy → Type) [FloatOps F] (a : IVec S40x32x4x32 32) (w : IVec S7168x32x4x32 32) : IVec S32x40x7168 32 :=
  addi (muli (broadcastInDim S32x40x7168 ![] bcast_S_S32x40x7168 (constantI S_ 32 128#32))
      (fptosi 32 (Host.roundeven (Host.dotGeneral dot_S40x32x4x32_S7168x32x4x32_S32x40x7168_23_23_0_0_1_1 none (sitofp .bf16 a) (sitofp .bf16 (Host.shrsi w (c4 7#32))) : (⟨S32x40x7168, .f32⟩ : BufTy).Contents (Elt F)))))
    (fptosi 32 (Host.roundeven (Host.dotGeneral dot_S40x32x4x32_S7168x32x4x32_S32x40x7168_23_23_0_0_1_1 none (sitofp .bf16 a) (sitofp .bf16 (andi w (c4 127#32))) : (⟨S32x40x7168, .f32⟩ : BufTy).Contents (Elt F))))

/-- The sums of the codes of each thirty-two. -/
def asums (a : IVec S40x8192 8) : IVec S40x32x8 32 :=
  Host.reduce IntOp.addi (shapeCast _ (extsi 32 a natLt_8_32) shapeCasts_S40x8192_S40x32x8x32) (constantI S_ 32 0#32) reducesTo_S40x32x8x32_S40x32x8_d3 h_S_

/-- The correction by the minima. -/
def corr (a : IVec S40x8192 8) (x : IVec S7168x32x12 8) : FVec F S32x40x7168 .f32 :=
  Host.dotGeneral dot_S40x32x8_S7168x32x8_S32x40x7168_2_2_0_0_1_1 (some .fp32) (sitofp .f32 (asums a)) (sitofp .f32 (min8 x))

def spreadN (v : FVec F S7168x32 .f32) : FVec F S32x40x7168 .f32 :=
  broadcastInDim S32x40x7168 ![0, 1, 2] bcast_S32x1x7168_S32x40x7168_0_1_2 (broadcastInDim S32x1x7168 ![0, 2] bcast_S32x7168_S32x1x7168_0_2 (transpose S32x7168 [1, 0] v transposes_S7168x32_S32x7168_1_0))
def spreadI (v : FVec F S40x32 .f32) : FVec F S32x40x7168 .f32 :=
  broadcastInDim S32x40x7168 ![0, 1, 2] bcast_S32x40x1_S32x40x7168_0_1_2 (broadcastInDim S32x40x1 ![0, 1] bcast_S32x40_S32x40x1_0_1 (transpose S32x40 [1, 0] v transposes_S40x32_S32x40_1_0))

/-- What each block adds. -/
def parts (a : IVec S40x8192 8) (sc : FVec F S40x32 .f32) (q : IVec S7168x32x128 8) (x : IVec S7168x32x12 8) (d dm : IVec S7168x32 16) :
    FVec F S32x40x7168 .f32 :=
  mulf (spreadI sc) (subf (mulf (spreadN (half d)) (sitofp .f32 (addi (dots F (alow a) (wlow q x)) (dots F (ahigh a) (whigh q x)))))
    (mulf (spreadN (half dm)) (corr a x)))

def whole (a : IVec S40x8192 8) (sc : FVec F S40x32 .f32) (q : IVec S7168x32x128 8) (x : IVec S7168x32x12 8) (d dm : IVec S7168x32 16) :
    FVec F S40x7168 .f32 :=
  Host.reduceAdd (parts a sc q x d dm) (constant S_ .f32 0x00000000#32) reducesTo_S32x40x7168_S40x7168_d0 h_S_

theorem res_eq (m : (ℓ : Loc nD τ sig) → Buf (Elt F) ℓ) (c : Dev nD) :
    Cert.ReferenceIdeal.Value.res_main_v145 m c = whole (F := F) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  unfold Cert.ReferenceIdeal.Value.res_main_v145
  rfl

end Cert.RefVal
-- ==== Proof.RefWords.lean ====
/- The reference's parts at an index. -/
module

public import proofs.«01_k».proof.Proof.RefParts
public import proofs.«01_k».proof.Proof.DTile
public import proofs.«01_k».proof.Proof.Bits

@[expose] public section

noncomputable section

namespace Cert.RefVal

open Cert.ReferenceIdeal Cert.ReferenceIdeal.Gen Idealize.ShloMosaic

/-! ### Half-precision words -/

/-- The exponent field of a half-precision word, whichever way it is shifted out. -/
theorem expo_eq (b : BitVec 16) :
    IntOp.andi (IntOp.shrui ArithUnit.host (BitVec.setWidth 32 b) 10#32) 31#32 = (b.setWidth 32 &&& 32767#32).sshiftRight 10 &&& 31#32 := by
  show (BitVec.setWidth 32 b >>> 10) &&& 31#32 = _
  apply BitVec.eq_of_getLsbD_eq; intro i hi
  have h31 : ∀ i < 32, (31#32).getLsbD i = decide (i < 5) := by decide
  have hmask : ∀ i < 32, (32767#32).getLsbD i = decide (i < 15) := by decide
  simp only [BitVec.getLsbD_and, BitVec.getLsbD_ushiftRight, BitVec.getLsbD_sshiftRight, BitVec.getLsbD_setWidth]
  rw [h31 i hi]
  by_cases h5 : i < 5
  · rw [hmask (10 + i) (by omega)]
    have h1 : 10 + i < 32 := by omega
    have h2 : 10 + i < 15 := by omega
    have h3 : i < 32 := by omega
    have h4 : ¬ 32 ≤ i := by omega
    simp [h5, h1, h2, h4]
  · simp [h5]

theorem frac_eq (b : BitVec 16) : IntOp.andi (BitVec.setWidth 32 b) 1023#32 = (b.setWidth 32 &&& 32767#32) &&& 1023#32 := by
  show BitVec.setWidth 32 b &&& 1023#32 = _
  rw [BitVec.and_assoc]
  rfl

def sigE (e : BitVec 32) : BitVec 32 := IntOp.shli ArithUnit.host (IntOp.shrui ArithUnit.host (IntOp.addi e 31#32) 5#32) 10#32
def powE (e : BitVec 32) : BitVec 32 :=
  IntOp.shli ArithUnit.host (IntOp.subi (IntOp.addi e 103#32) (IntOp.shrui ArithUnit.host (IntOp.addi e 31#32) 5#32)) 23#32

theorem small : ∀ k : Fin 32,
    sigE (BitVec.ofNat 32 k.val) = ((BitVec.ofNat 32 k.val + 31#32).sshiftRight 5) <<< 10 ∧
    powE (BitVec.ofNat 32 k.val) = ((BitVec.ofNat 32 k.val + 103#32) - ((BitVec.ofNat 32 k.val + 31#32).sshiftRight 5)) <<< 23 ∧
    (sigE (BitVec.ofNat 32 k.val)).toNat < 2 ^ 11 ∧
    ((powE (BitVec.ofNat 32 k.val)).extractLsb' 23 8).toNat < 255 := by
  decide +kernel

def sigR (b : BitVec 16) : BitVec 32 :=
  IntOp.ori (IntOp.andi (BitVec.setWidth 32 b) 1023#32) (sigE (IntOp.andi (IntOp.shrui ArithUnit.host (BitVec.setWidth 32 b) 10#32) 31#32))
def powR (b : BitVec 16) : BitVec 32 := powE (IntOp.andi (IntOp.shrui ArithUnit.host (BitVec.setWidth 32 b) 10#32) 31#32)
def sigK (w : BitVec 32) : BitVec 32 := (w &&& 1023#32) ||| ((((w.sshiftRight 10 &&& 31#32) + 31#32).sshiftRight 5) <<< 10)
def powK (w : BitVec 32) : BitVec 32 := (((w.sshiftRight 10 &&& 31#32) + 103#32) - (((w.sshiftRight 10 &&& 31#32) + 31#32).sshiftRight 5)) <<< 23

theorem words_all (b : BitVec 16) :
    sigR b = sigK (b.setWidth 32 &&& 32767#32) ∧ powR b = powK (b.setWidth 32 &&& 32767#32) ∧ (sigR b).toNat < 2 ^ 11 ∧
    ((powR b).extractLsb' 23 8).toNat < 255 := by
  unfold sigR powR sigK powK
  rw [frac_eq, expo_eq]
  generalize hw : b.setWidth 32 &&& 32767#32 = w
  have hk : (w.sshiftRight 10 &&& 31#32).toNat < 32 := by
    rw [BitVec.toNat_and]
    exact Nat.lt_of_le_of_lt Nat.and_le_right (by decide)
  have hf : (w &&& 1023#32).toNat < 2 ^ 11 := by
    rw [BitVec.toNat_and]
    exact Nat.lt_of_le_of_lt Nat.and_le_right (by decide)
  generalize w &&& 1023#32 = f at hf
  generalize w.sshiftRight 10 &&& 31#32 = e at hk
  have h := small ⟨e.toNat, hk⟩
  have he : BitVec.ofNat 32 e.toNat = e := BitVec.eq_of_toNat_eq (by simp)
  simp only [he] at h
  refine ⟨congrArg (fun z => f ||| z) h.1, h.2.1, ?_, h.2.2.2⟩
  show (f ||| sigE e).toNat < 2 ^ 11
  rw [BitVec.toNat_or]
  exact Nat.or_lt_two_pow hf h.2.2.1

/-- A single-precision word whose exponent field is not all ones is a real. -/
theorem ieee_real (w : BitVec 32) (h : (w.extractLsb' 23 8).toNat < 255) : ∃ r : ℝ, Ideal.ofBits .f32 w = (r : EReal) := by
  show ∃ r : ℝ, Ideal.ieee 8 23 w = (r : EReal)
  unfold Ideal.ieee
  dsimp only
  rw [if_neg (by omega)]
  split
  · exact ⟨_, rfl⟩
  · exact ⟨_, rfl⟩

theorem half_apply (v : IVec S7168x32 16) (N : Fin 7168) (s : Fin 32) :
    half (F := Ideal) v (ix2 N s) = Cert.Step.f16 (F := Ideal) ((v (ix2 N s)).setWidth 32 &&& 32767#32) := by
  obtain ⟨h1, h2, h3, -⟩ := words_all (v (ix2 N s))
  have hs : (FloatOps.uitofp FTy.f32 (sigR (v (ix2 N s))) : Ideal .f32) = FloatOps.sitofp FTy.f32 (sigR (v (ix2 N s))) := by
    show (((sigR (v (ix2 N s))).toNat : ℝ) : EReal) = (((sigR (v (ix2 N s))).toInt : ℝ) : EReal)
    rw [BitVec.toInt_eq_toNat_of_lt (by omega)]
    norm_num
  unfold half lead expo c2
  pointwise
  show FloatOps.uitofp FTy.f32 (sigR (v (ix2 N s))) * Ideal.ofBits FTy.f32 (powR (v (ix2 N s))) = _
  rw [hs, h1, h2]
  rfl

theorem f16_real (b : BitVec 16) : ∃ r : ℝ, Cert.Step.f16 (F := Ideal) (b.setWidth 32 &&& 32767#32) = (r : EReal) := by
  obtain ⟨-, h2, -, h4⟩ := words_all b
  rw [h2] at h4
  obtain ⟨r, hr⟩ := ieee_real _ h4
  refine ⟨((sigK (b.setWidth 32 &&& 32767#32)).toInt : ℝ) * r, ?_⟩
  rw [EReal.coe_mul, ← hr]
  rfl

/-! ### Six-bit scales and minima -/

theorem byte_cases : ∀ h : Fin 256,
    IntOp.andi (BitVec.setWidth 32 (BitVec.ofNat 8 h.val)) 63#32 = BitVec.setWidth 32 (BitVec.ofNat 8 h.val &&& 63#8) ∧
    IntOp.andi (BitVec.setWidth 32 (BitVec.ofNat 8 h.val)) 15#32 = BitVec.setWidth 32 (BitVec.ofNat 8 h.val &&& 15#8) ∧
    IntOp.shrsi ArithUnit.host (BitVec.setWidth 32 (BitVec.ofNat 8 h.val)) 4#32 = BitVec.setWidth 32 (BitVec.ofNat 8 h.val >>> 4) ∧
    IntOp.shli ArithUnit.host (IntOp.shrsi ArithUnit.host (BitVec.setWidth 32 (BitVec.ofNat 8 h.val)) 6#32) 4#32
      = BitVec.setWidth 32 ((BitVec.ofNat 8 h.val >>> 2) &&& 48#8) ∧
    (BitVec.ofNat 8 h.val >>> 4) &&& 15#8 = BitVec.ofNat 8 h.val >>> 4 ∧
    (BitVec.ofNat 8 h.val &&& 63#8).toNat < 2 ^ 6 ∧ (BitVec.ofNat 8 h.val &&& 15#8).toNat < 2 ^ 6 ∧
    ((BitVec.ofNat 8 h.val >>> 2) &&& 48#8).toNat < 2 ^ 6 := by
  decide +kernel

theorem byte (x : BitVec 8) :
    IntOp.andi (BitVec.setWidth 32 x) 63#32 = BitVec.setWidth 32 (x &&& 63#8) ∧
    IntOp.andi (BitVec.setWidth 32 x) 15#32 = BitVec.setWidth 32 (x &&& 15#8) ∧
    IntOp.shrsi ArithUnit.host (BitVec.setWidth 32 x) 4#32 = BitVec.setWidth 32 (x >>> 4) ∧
    IntOp.shli ArithUnit.host (IntOp.shrsi ArithUnit.host (BitVec.setWidth 32 x) 6#32) 4#32 = BitVec.setWidth 32 ((x >>> 2) &&& 48#8) ∧
    (x >>> 4) &&& 15#8 = x >>> 4 ∧
    (x &&& 63#8).toNat < 2 ^ 6 ∧ (x &&& 15#8).toNat < 2 ^ 6 ∧ ((x >>> 2) &&& 48#8).toNat < 2 ^ 6 := by
  have h := byte_cases ⟨x.toNat, x.isLt⟩
  have e (z : BitVec 8) : BitVec.ofNat 8 z.toNat = z := BitVec.eq_of_toNat_eq (by simp)
  simpa only [e] using h

theorem or_wide (u v : BitVec 8) : IntOp.ori (BitVec.setWidth 32 u) (BitVec.setWidth 32 v) = BitVec.setWidth 32 (u ||| v) :=
  BitVec.setWidth_or.symm

theorem S6_lt (x : Fin 12 → BitVec 8) (j : Nat) : (Cert.Step.S6 x j).toNat < 64 := by
  unfold Cert.Step.S6
  split
  · exact (byte _).2.2.2.2.2.1
  · rw [BitVec.toNat_or]
    exact Nat.or_lt_two_pow (n := 6) (byte _).2.2.2.2.2.2.1 (byte _).2.2.2.2.2.2.2

theorem six8_apply (x : IVec S7168x32x12 8) (N : Fin 7168) (s : Fin 32) (j : Fin 8) :
    six8 x (ix3 N s j) = (Cert.Step.S6 (fun i => x (ix3 N s i)) j.val).setWidth 32 := by
  unfold six8 cut0 cut8 c3
  pointwise
  unfold Cert.Step.S6
  by_cases h : j.val < 4
  · rw [dif_pos h, if_pos h, (byte _).1]
    refine congrArg (fun k => BitVec.setWidth 32 (x (ix3 N s k) &&& 63#8)) (Fin.ext ?_)
    show j.val = j.val % 12
    omega
  · rw [dif_neg h, if_neg h, (byte _).2.1, (byte _).2.2.2.1, or_wide]
    refine congrArg₂ (fun k l => BitVec.setWidth 32 ((x (ix3 N s k) &&& 15#8) ||| ((x (ix3 N s l) >>> 2) &&& 48#8))) (Fin.ext ?_) (Fin.ext ?_)
    · show 8 + (j.val - 4) = (j.val + 4) % 12
      omega
    · show j.val - 4 = (j.val - 4) % 12
      omega

theorem min8_apply (x : IVec S7168x32x12 8) (N : Fin 7168) (s : Fin 32) (j : Fin 8) :
    min8 x (ix3 N s j) = (Cert.Step.M6 (fun i => x (ix3 N s i)) j.val).setWidth 32 := by
  unfold min8 cut4 cut8 c3
  pointwise
  unfold Cert.Step.M6
  by_cases h : j.val < 4
  · rw [dif_pos h, if_pos h, (byte _).1]
    refine congrArg (fun k => BitVec.setWidth 32 (x (ix3 N s k) &&& 63#8)) (Fin.ext ?_)
    show 4 + j.val = (j.val + 4) % 12
    omega
  · rw [dif_neg h, if_neg h, (byte _).2.2.1, (byte _).2.2.2.1, or_wide, (byte _).2.2.2.2.1]
    refine congrArg₂ (fun k l => BitVec.setWidth 32 ((x (ix3 N s k) >>> 4) ||| ((x (ix3 N s l) >>> 2) &&& 48#8))) (Fin.ext ?_) (Fin.ext ?_)
    · show 8 + (j.val - 4) = (j.val + 4) % 12
      omega
    · show 4 + (j.val - 4) = j.val % 12
      omega

/-! ### Weights and codes -/

theorem wlow_apply (q : IVec S7168x32x128 8) (x : IVec S7168x32x12 8) (N : Fin 7168) (s : Fin 32) (c : Fin 4) (l : Fin 32) :
    wlow q x (ix4 N s c l) = (Cert.Step.S6 (fun i => x (ix3 N s i)) (2 * c.val)).setWidth 32 *
      (q (ix3 N s ⟨32 * c.val + l.val, by omega⟩) &&& 15#8).setWidth 32 := by
  unfold wlow quants c4
  pointwise
  rw [six8_apply, (byte _).2.1]
  refine congrArg₂ (fun j k => (Cert.Step.S6 (fun i => x (ix3 N s i)) j).setWidth 32 * (q (ix3 N s k) &&& 15#8).setWidth 32) ?_ (Fin.ext ?_)
  · show c.val * 2 = 2 * c.val
    omega
  · show c.val * 32 + l.val = 32 * c.val + l.val
    omega

theorem whigh_apply (q : IVec S7168x32x128 8) (x : IVec S7168x32x12 8) (N : Fin 7168) (s : Fin 32) (c : Fin 4) (l : Fin 32) :
    whigh q x (ix4 N s c l) = (Cert.Step.S6 (fun i => x (ix3 N s i)) (2 * c.val + 1)).setWidth 32 *
      (q (ix3 N s ⟨32 * c.val + l.val, by omega⟩) >>> 4).setWidth 32 := by
  unfold whigh quants c4
  pointwise
  rw [six8_apply, (byte _).2.2.1]
  refine congrArg₂ (fun j k => (Cert.Step.S6 (fun i => x (ix3 N s i)) j).setWidth 32 * (q (ix3 N s k) >>> 4).setWidth 32) ?_ (Fin.ext ?_)
  · show c.val * 2 + 1 = 2 * c.val + 1
    omega
  · show c.val * 32 + l.val = 32 * c.val + l.val
    omega

theorem alow_apply (a : IVec S40x8192 8) (i : Fin 40) (s : Fin 32) (c : Fin 4) (l : Fin 32) :
    alow a (ix4 i s c l) = (a (ix2 i ⟨256 * s.val + 64 * c.val + l.val, by omega⟩)).signExtend 32 := by
  unfold alow
  pointwise
  refine congrArg (fun k => (a (ix2 i k)).signExtend 32) (Fin.ext ?_)
  show _ = 256 * s.val + 64 * c.val + l.val
  dsimp only
  omega

theorem ahigh_apply (a : IVec S40x8192 8) (i : Fin 40) (s : Fin 32) (c : Fin 4) (l : Fin 32) :
    ahigh a (ix4 i s c l) = (a (ix2 i ⟨256 * s.val + 64 * c.val + 32 + l.val, by omega⟩)).signExtend 32 := by
  unfold ahigh
  pointwise
  refine congrArg (fun k => (a (ix2 i k)).signExtend 32) (Fin.ext ?_)
  show _ = 256 * s.val + 64 * c.val + 32 + l.val
  dsimp only
  omega

end Cert.RefVal
-- ==== Proof.RefInts.lean ====
/- The reference's integer products and sums. -/
module

public import proofs.«01_k».proof.Proof.RefWords

@[expose] public section

noncomputable section

namespace Cert.RefVal

open Cert.ReferenceIdeal Cert.ReferenceIdeal.Gen Idealize.ShloMosaic

theorem floor_int (z : ℤ) : Ideal.liftRound Ideal.roundHalfEven (((z : ℝ)) : EReal) = (((z : ℝ)) : EReal) := by
  show (((Ideal.roundHalfEven (z : ℝ) : ℤ) : ℝ) : EReal) = _
  have h : Ideal.roundHalfEven (z : ℝ) = z := by
    unfold Ideal.roundHalfEven
    simp
  rw [h]

theorem word_int (z : ℤ) (h0 : -(2 ^ 31) ≤ z) (h1 : z < 2 ^ 31) : Ideal.fptosi 32 (((z : ℝ)) : EReal) = BitVec.ofInt 32 z := by
  unfold Ideal.fptosi
  rw [Ideal.toIntClamped_coe]
  refine congrArg (BitVec.ofInt 32) ?_
  rw [Int.floor_intCast, Int.ceil_intCast, ite_self]
  norm_num at h0 h1 ⊢
  omega

theorem coe_sum {ι : Type} (S : Finset ι) (f : ι → ℤ) : ∑ x ∈ S, (((f x : ℤ) : ℝ) : EReal) = (((∑ x ∈ S, f x : ℤ) : ℝ) : EReal) := by
  classical
  induction S using Finset.induction_on with
  | empty => simp
  | insert a S h ih => rw [Finset.sum_insert h, Finset.sum_insert h, ih, Int.cast_add, EReal.coe_add]

theorem coe_mul_int (x y : ℤ) : ((x : ℝ) : EReal) * ((y : ℝ) : EReal) = (((x * y : ℤ) : ℝ) : EReal) := by
  rw [← EReal.coe_mul, Int.cast_mul]

theorem bound (f : Fin 4 → Fin 32 → ℤ) (B : ℤ) (h : ∀ c l, -B ≤ f c l ∧ f c l ≤ B) :
    -(128 * B) ≤ ∑ c, ∑ l, f c l ∧ ∑ c, ∑ l, f c l ≤ 128 * B := by
  have h1 (c : Fin 4) : -(32 * B) ≤ ∑ l, f c l ∧ ∑ l, f c l ≤ 32 * B := by
    have hu := Finset.sum_le_card_nsmul Finset.univ (f c) B (fun l _ => (h c l).2)
    have hl := Finset.card_nsmul_le_sum Finset.univ (f c) (-B) (fun l _ => (h c l).1)
    simp at hu hl
    constructor <;> linarith
  have hu := Finset.sum_le_card_nsmul Finset.univ (fun c => ∑ l, f c l) (32 * B) (fun c _ => (h1 c).2)
  have hl := Finset.card_nsmul_le_sum Finset.univ (fun c => ∑ l, f c l) (-(32 * B)) (fun c _ => (h1 c).1)
  simp only [Finset.card_univ, Fintype.card_fin, nsmul_eq_mul] at hu hl
  push_cast at hu hl
  constructor <;> linarith

theorem split_cases : ∀ k : Fin 1024,
    (IntOp.shrsi ArithUnit.host (BitVec.ofNat 32 k.val) 7#32).toInt = (k.val : ℤ) / 128 ∧
    (IntOp.andi (BitVec.ofNat 32 k.val) 127#32).toInt = (k.val : ℤ) % 128 := by
  decide +kernel

theorem split_word (w : BitVec 32) (h0 : 0 ≤ w.toInt) (h1 : w.toInt < 1024) :
    (IntOp.shrsi ArithUnit.host w 7#32).toInt = w.toInt / 128 ∧ (IntOp.andi w 127#32).toInt = w.toInt % 128 := by
  have hn : (w.toNat : ℤ) = w.toInt := by
    rw [BitVec.toInt_eq_toNat_cond] at h0 ⊢
    split at h0 <;> split <;> omega
  have h := split_cases ⟨w.toNat, by omega⟩
  have he : BitVec.ofNat 32 w.toNat = w := BitVec.eq_of_toNat_eq (by simp)
  simp only [he, hn] at h
  exact h

/-- The two narrow products put together are the product. -/
theorem dots_apply (a : IVec S40x32x4x32 32) (w : IVec S7168x32x4x32 32) (i : Fin 40) (s : Fin 32) (N : Fin 7168)
    (ha : ∀ c l, -128 ≤ (a (ix4 i s c l)).toInt ∧ (a (ix4 i s c l)).toInt ≤ 127)
    (hw : ∀ c l, 0 ≤ (w (ix4 N s c l)).toInt ∧ (w (ix4 N s c l)).toInt < 1024) :
    dots Ideal a w (ix3 s i N) = BitVec.ofInt 32 (∑ c : Fin 4, ∑ l : Fin 32, (a (ix4 i s c l)).toInt * (w (ix4 N s c l)).toInt) := by
  unfold dots c4
  pointwise
  have hi : (∑ x : Fin 4, ∑ y : Fin 32, FloatOps.sitofp (F := Ideal) FTy.bf16 (a (ix4 i s x y)) *
        FloatOps.sitofp (F := Ideal) FTy.bf16 (IntOp.shrsi ArithUnit.host (w (ix4 N s x y)) 7#32))
      = ((((∑ x : Fin 4, ∑ y : Fin 32, (a (ix4 i s x y)).toInt * ((w (ix4 N s x y)).toInt / 128) : ℤ)) : ℝ) : EReal) := by
    rw [← coe_sum]
    refine Finset.sum_congr rfl fun x _ => ?_
    rw [← coe_sum]
    refine Finset.sum_congr rfl fun y _ => ?_
    rw [← coe_mul_int, ← (split_word _ (hw x y).1 (hw x y).2).1]
    rfl
  have lo : (∑ x : Fin 4, ∑ y : Fin 32, FloatOps.sitofp (F := Ideal) FTy.bf16 (a (ix4 i s x y)) *
        FloatOps.sitofp (F := Ideal) FTy.bf16 (IntOp.andi (w (ix4 N s x y)) 127#32))
      = ((((∑ x : Fin 4, ∑ y : Fin 32, (a (ix4 i s x y)).toInt * ((w (ix4 N s x y)).toInt % 128) : ℤ)) : ℝ) : EReal) := by
    rw [← coe_sum]
    refine Finset.sum_congr rfl fun x _ => ?_
    rw [← coe_sum]
    refine Finset.sum_congr rfl fun y _ => ?_
    rw [← coe_mul_int, ← (split_word _ (hw x y).1 (hw x y).2).2]
    rfl
  have bhi := bound (fun x y => (a (ix4 i s x y)).toInt * ((w (ix4 N s x y)).toInt / 128)) 1024 (fun x y => by
    have h1 := ha x y
    have h2 : 0 ≤ (w (ix4 N s x y)).toInt / 128 ∧ (w (ix4 N s x y)).toInt / 128 ≤ 7 := by have := hw x y; omega
    constructor <;> nlinarith [h1.1, h1.2, h2.1, h2.2])
  have blo := bound (fun x y => (a (ix4 i s x y)).toInt * ((w (ix4 N s x y)).toInt % 128)) 16384 (fun x y => by
    have h1 := ha x y
    have h2 : 0 ≤ (w (ix4 N s x y)).toInt % 128 ∧ (w (ix4 N s x y)).toInt % 128 ≤ 127 := by omega
    constructor <;> nlinarith [h1.1, h1.2, h2.1, h2.2])
  refine (congrArg₂ (fun u v => IntOp.addi (IntOp.muli 128#32 (Ideal.fptosi 32 (Ideal.liftRound Ideal.roundHalfEven u)))
    (Ideal.fptosi 32 (Ideal.liftRound Ideal.roundHalfEven v))) hi lo).trans ?_
  rw [floor_int, floor_int, word_int _ (by linarith [bhi.1]) (by linarith [bhi.2]), word_int _ (by linarith [blo.1]) (by linarith [blo.2])]
  show 128#32 * _ + _ = _
  rw [show 128#32 = BitVec.ofInt 32 128 from by decide, ← BitVec.ofInt_mul, ← BitVec.ofInt_add]
  refine congrArg (BitVec.ofInt 32) ?_
  rw [Finset.mul_sum, ← Finset.sum_add_distrib]
  refine Finset.sum_congr rfl fun x _ => ?_
  rw [Finset.mul_sum, ← Finset.sum_add_distrib]
  refine Finset.sum_congr rfl fun y _ => ?_
  have := Int.mul_ediv_add_emod (w (ix4 N s x y)).toInt 128
  generalize (w (ix4 N s x y)).toInt / 128 = p at *
  generalize (w (ix4 N s x y)).toInt % 128 = r at *
  rw [← this]
  ring

theorem fold_words {ι : Type} [DecidableEq ι] (S : Finset ι) (f : ι → BitVec 8) :
    Finset.fold IntOp.addi (0#32) (fun x => (f x).signExtend 32) S = BitVec.ofInt 32 (∑ x ∈ S, (f x).toInt) := by
  induction S using Finset.induction_on with
  | empty => rfl
  | insert a S h ih =>
    rw [Finset.fold_insert h, Finset.sum_insert h, ih, BitVec.ofInt_add]
    rfl

theorem byte_range (b : BitVec 8) : -128 ≤ b.toInt ∧ b.toInt ≤ 127 := by
  have := b.isLt
  rw [BitVec.toInt_eq_toNat_cond]
  split <;> omega

theorem toInt_ofInt_small (z : ℤ) (h0 : -(2 ^ 31) ≤ z) (h1 : z < 2 ^ 31) : (BitVec.ofInt 32 z).toInt = z := by
  rw [BitVec.toInt_ofInt]
  norm_num at h0 h1
  rw [Int.bmod_def]
  norm_num
  split <;> omega

theorem asums_apply (a : IVec S40x8192 8) (i : Fin 40) (s : Fin 32) (j : Fin 8) :
    (asums a (ix3 i s j)).toInt = ∑ l : Fin 32, (a (ix2 i ⟨256 * s.val + 32 * j.val + l.val, by omega⟩)).toInt := by
  have e : asums a (ix3 i s j) = BitVec.ofInt 32 (∑ l : Fin 32, (a (ix2 i ⟨256 * s.val + 32 * j.val + l.val, by omega⟩)).toInt) := by
    rw [← fold_words]
    unfold asums
    pointwise
    refine congrArg (fun f => Finset.fold IntOp.addi (0#32) f Finset.univ) (funext fun l => ?_)
    refine congrArg (fun k => (a (ix2 i k)).signExtend 32) (Fin.ext ?_)
    show _ = 256 * s.val + 32 * j.val + l.val
    dsimp only
    omega
  rw [e]
  have hu := Finset.sum_le_card_nsmul (Finset.univ : Finset (Fin 32))
    (fun l => (a (ix2 i ⟨256 * s.val + 32 * j.val + l.val, by omega⟩)).toInt) 127 (fun l _ => (byte_range _).2)
  have hl := Finset.card_nsmul_le_sum (Finset.univ : Finset (Fin 32))
    (fun l => (a (ix2 i ⟨256 * s.val + 32 * j.val + l.val, by omega⟩)).toInt) (-128) (fun l _ => (byte_range _).1)
  simp only [Finset.card_univ, Fintype.card_fin, nsmul_eq_mul] at hu hl
  push_cast at hu hl
  exact toInt_ofInt_small _ (by linarith) (by linarith)

theorem sext_toInt (b : BitVec 8) : (b.signExtend 32).toInt = b.toInt := by
  have h := byte_range b
  exact toInt_ofInt_small b.toInt (by linarith [h.1]) (by linarith [h.2])

theorem wide_mul (u v : BitVec 8) (hu : u.toNat < 64) (hv : v.toNat < 16) :
    (u.setWidth 32 * v.setWidth 32).toInt = (u.toNat : ℤ) * (v.toNat : ℤ) := by
  have hm : u.toNat * v.toNat ≤ 63 * 15 := Nat.mul_le_mul (by omega) (by omega)
  have e : (u.setWidth 32 * v.setWidth 32).toNat = u.toNat * v.toNat := by
    rw [BitVec.toNat_mul, BitVec.toNat_setWidth, BitVec.toNat_setWidth, Nat.mod_eq_of_lt (a := u.toNat) (by omega),
      Nat.mod_eq_of_lt (a := v.toNat) (by omega), Nat.mod_eq_of_lt (by omega)]
  rw [BitVec.toInt_eq_toNat_of_lt (by omega), e]
  push_cast
  rfl

end Cert.RefVal
-- ==== Proof.RefOut.lean ====
/- The reference's result at an index, in integers and reals. -/
module

public import proofs.«01_k».proof.Proof.RefInts
public import proofs.«01_k».proof.Proof.ASTile

@[expose] public section

noncomputable section

namespace Cert.RefVal

open Cert.ReferenceIdeal Cert.ReferenceIdeal.Gen Idealize.ShloMosaic Cert.Step

/-- The code at position `l` of sub-block `j` of block `s`. -/
def code (a : Vec Ideal S40x8192 .i8) (i : Fin 40) (s : Fin 32) (j : Fin 8) (l : Fin 32) : ℤ :=
  (a (ix2 i ⟨256 * s.val + 32 * j.val + l.val, by omega⟩) : BitVec 8).toInt

/-- The weight it meets, before the block's factor. -/
def wt (q : Vec Ideal S7168x32x128 .i8) (x : Vec Ideal S7168x32x12 .i8) (N : Fin 7168) (s : Fin 32) (j : Fin 8) (l : Fin 32) : ℤ :=
  ((S6 (fun t => x (ix3 N s t)) j.val).toNat : ℤ) *
    ((nib (q (ix3 N s ⟨32 * (j.val / 2) + l.val, by omega⟩)) ⟨j.val % 2, by omega⟩).toNat : ℤ)

/-- The block's product of codes and weights. -/
def prod (a : Vec Ideal S40x8192 .i8) (q : Vec Ideal S7168x32x128 .i8) (x : Vec Ideal S7168x32x12 .i8) (i : Fin 40) (s : Fin 32) (N : Fin 7168) : ℤ :=
  ∑ j : Fin 8, ∑ l : Fin 32, code a i s j l * wt q x N s j l

/-- The block's product of code sums and minima. -/
def mins (a : Vec Ideal S40x8192 .i8) (x : Vec Ideal S7168x32x12 .i8) (i : Fin 40) (s : Fin 32) (N : Fin 7168) : ℤ :=
  ∑ j : Fin 8, (∑ l : Fin 32, code a i s j l) * ((M6 (fun t => x (ix3 N s t)) j.val).toNat : ℤ)

/-- A half-precision word's magnitude. -/
def mag16 (v : Vec Ideal S7168x32 .i16) (N : Fin 7168) (s : Fin 32) : EReal := f16 (F := Ideal) ((v (ix2 N s) : BitVec 16).setWidth 32 &&& 32767#32)

theorem M6_lt (x : Fin 12 → BitVec 8) (j : Nat) : (M6 x j).toNat < 64 := by
  unfold M6
  split
  · exact (byte _).2.2.2.2.2.1
  · rw [BitVec.toNat_or]
    exact Nat.or_lt_two_pow (n := 6) (Nat.lt_of_lt_of_le (byte _).2.2.2.2.2.2.1 (by decide)) (byte _).2.2.2.2.2.2.2

theorem alow_code (a : Vec Ideal S40x8192 .i8) (i : Fin 40) (s : Fin 32) (c : Fin 4) (l : Fin 32) :
    (alow a (ix4 i s c l)).toInt = code a i s ⟨2 * c.val, by omega⟩ l := by
  rw [alow_apply, sext_toInt]
  refine congrArg (fun k => (a (ix2 i k) : BitVec 8).toInt) (Fin.ext ?_)
  show 256 * s.val + 64 * c.val + l.val = 256 * s.val + 32 * (2 * c.val) + l.val
  omega

theorem ahigh_code (a : Vec Ideal S40x8192 .i8) (i : Fin 40) (s : Fin 32) (c : Fin 4) (l : Fin 32) :
    (ahigh a (ix4 i s c l)).toInt = code a i s ⟨2 * c.val + 1, by omega⟩ l := by
  rw [ahigh_apply, sext_toInt]
  refine congrArg (fun k => (a (ix2 i k) : BitVec 8).toInt) (Fin.ext ?_)
  show 256 * s.val + 64 * c.val + 32 + l.val = 256 * s.val + 32 * (2 * c.val + 1) + l.val
  omega

theorem nib_eq (b : BitVec 8) (h : Fin 2) : nib b h = if h.val = 0 then b &&& 15#8 else b >>> 4 := by
  match h with
  | 0 => rfl
  | 1 => rfl

theorem wlow_wt (q : Vec Ideal S7168x32x128 .i8) (x : Vec Ideal S7168x32x12 .i8) (N : Fin 7168) (s : Fin 32) (c : Fin 4) (l : Fin 32) :
    (wlow q x (ix4 N s c l)).toInt = wt q x N s ⟨2 * c.val, by omega⟩ l := by
  have h16 : ((q (ix3 N s ⟨32 * c.val + l.val, by omega⟩) : BitVec 8) &&& 15#8).toNat < 16 := by
    have := nib_lt (q (ix3 N s ⟨32 * c.val + l.val, by omega⟩)) 0
    exact this
  rw [wlow_apply, wide_mul _ _ (S6_lt _ _) h16]
  unfold wt
  rw [nib_eq, if_pos (show 2 * c.val % 2 = 0 by omega)]
  refine congrArg (fun k => ((S6 (fun t => x (ix3 N s t)) (2 * c.val)).toNat : ℤ) * (((q (ix3 N s k) : BitVec 8) &&& 15#8).toNat : ℤ)) (Fin.ext ?_)
  show 32 * c.val + l.val = 32 * (2 * c.val / 2) + l.val
  omega

theorem whigh_wt (q : Vec Ideal S7168x32x128 .i8) (x : Vec Ideal S7168x32x12 .i8) (N : Fin 7168) (s : Fin 32) (c : Fin 4) (l : Fin 32) :
    (whigh q x (ix4 N s c l)).toInt = wt q x N s ⟨2 * c.val + 1, by omega⟩ l := by
  have h16 : ((q (ix3 N s ⟨32 * c.val + l.val, by omega⟩) : BitVec 8) >>> 4).toNat < 16 := by
    have := nib_lt (q (ix3 N s ⟨32 * c.val + l.val, by omega⟩)) 1
    exact this
  rw [whigh_apply, wide_mul _ _ (S6_lt _ _) h16]
  unfold wt
  rw [nib_eq, if_neg (show ¬ (2 * c.val + 1) % 2 = 0 by omega)]
  refine congrArg (fun k => ((S6 (fun t => x (ix3 N s t)) (2 * c.val + 1)).toNat : ℤ) * (((q (ix3 N s k) : BitVec 8) >>> 4).toNat : ℤ)) (Fin.ext ?_)
  show 32 * c.val + l.val = 32 * ((2 * c.val + 1) / 2) + l.val
  omega

theorem wt_range (q : Vec Ideal S7168x32x128 .i8) (x : Vec Ideal S7168x32x12 .i8) (N : Fin 7168) (s : Fin 32) (j : Fin 8) (l : Fin 32) :
    0 ≤ wt q x N s j l ∧ wt q x N s j l < 1024 := by
  unfold wt
  have h1 := S6_lt (fun t => x (ix3 N s t)) j.val
  have h2 := nib_lt (q (ix3 N s ⟨32 * (j.val / 2) + l.val, by omega⟩)) ⟨j.val % 2, by omega⟩
  generalize (S6 (fun t => x (ix3 N s t)) j.val).toNat = u at *
  generalize (nib (q (ix3 N s ⟨32 * (j.val / 2) + l.val, by omega⟩)) ⟨j.val % 2, by omega⟩).toNat = v at *
  constructor
  · positivity
  · have : u * v ≤ 63 * 15 := Nat.mul_le_mul (by omega) (by omega)
    exact_mod_cast (by omega : u * v < 1024)

theorem pair8 (f : Fin 8 → ℤ) :
    (∑ c : Fin 4, f ⟨2 * c.val, by omega⟩) + (∑ c : Fin 4, f ⟨2 * c.val + 1, by omega⟩) = ∑ j : Fin 8, f j := by
  rw [Fin.sum_univ_eight, Fin.sum_univ_four, Fin.sum_univ_four]
  show f 0 + f 2 + f 4 + f 6 + (f 1 + f 3 + f 5 + f 7) = _
  ring

theorem prod_words (a : Vec Ideal S40x8192 .i8) (q : Vec Ideal S7168x32x128 .i8) (x : Vec Ideal S7168x32x12 .i8) (i : Fin 40) (s : Fin 32) (N : Fin 7168) :
    (IntOp.addi (dots Ideal (alow a) (wlow q x) (ix3 s i N)) (dots Ideal (ahigh a) (whigh q x) (ix3 s i N))).toInt = prod a q x i s N := by
  have hlo := dots_apply (alow a) (wlow q x) i s N
    (fun c l => by rw [alow_code]; exact byte_range _) (fun c l => by rw [wlow_wt]; exact wt_range _ _ _ _ _ _)
  have hhi := dots_apply (ahigh a) (whigh q x) i s N
    (fun c l => by rw [ahigh_code]; exact byte_range _) (fun c l => by rw [whigh_wt]; exact wt_range _ _ _ _ _ _)
  simp only [alow_code, wlow_wt] at hlo
  simp only [ahigh_code, whigh_wt] at hhi
  have key (j : Fin 8) (l : Fin 32) : -131072 ≤ code a i s j l * wt q x N s j l ∧ code a i s j l * wt q x N s j l ≤ 131072 := by
    have h1 : -128 ≤ code a i s j l ∧ code a i s j l ≤ 127 := byte_range _
    have h2 := wt_range q x N s j l
    constructor <;> nlinarith [h1.1, h1.2, h2.1, h2.2]
  have b0 := bound (fun c l => code a i s ⟨2 * c.val, by omega⟩ l * wt q x N s ⟨2 * c.val, by omega⟩ l) 131072 (fun c l => key _ _)
  have b1 := bound (fun c l => code a i s ⟨2 * c.val + 1, by omega⟩ l * wt q x N s ⟨2 * c.val + 1, by omega⟩ l) 131072 (fun c l => key _ _)
  have e := pair8 (fun j => ∑ l : Fin 32, code a i s j l * wt q x N s j l)
  rw [hlo, hhi]
  show (BitVec.ofInt 32 _ + BitVec.ofInt 32 _).toInt = _
  rw [← BitVec.ofInt_add, toInt_ofInt_small _ (by linarith [b0.1, b1.1]) (by linarith [b0.2, b1.2])]
  exact e

theorem corr_apply (a : Vec Ideal S40x8192 .i8) (x : Vec Ideal S7168x32x12 .i8) (i : Fin 40) (s : Fin 32) (N : Fin 7168) :
    corr (F := Ideal) a x (ix3 s i N) = ((mins a x i s N : ℝ) : EReal) := by
  unfold corr
  pointwise
  unfold mins
  rw [← coe_sum]
  refine Finset.sum_congr rfl fun j _ => ?_
  rw [← coe_mul_int]
  refine congrArg₂ (fun u v : ℤ => ((u : ℝ) : EReal) * ((v : ℝ) : EReal)) ?_ ?_
  · exact asums_apply a i s j
  · rw [min8_apply, BitVec.toInt_eq_toNat_of_lt]
    · rw [BitVec.toNat_setWidth, Nat.mod_eq_of_lt]
      exact Nat.lt_of_lt_of_le (M6_lt _ _) (by decide)
    · rw [BitVec.toNat_setWidth, Nat.mod_eq_of_lt]
      · have := M6_lt (fun t => x (ix3 N s t)) j.val
        omega
      · exact Nat.lt_of_lt_of_le (M6_lt _ _) (by decide)

theorem spreadN_apply (v : FVec Ideal S7168x32 .f32) (i : Fin 40) (s : Fin 32) (N : Fin 7168) : spreadN v (ix3 s i N) = v (ix2 N s) := by
  unfold spreadN
  pointwise

theorem spreadI_apply (v : FVec Ideal S40x32 .f32) (i : Fin 40) (s : Fin 32) (N : Fin 7168) : spreadI v (ix3 s i N) = v (ix2 i s) := by
  unfold spreadI
  pointwise

/-- What the reference returns, element by element. -/
def refVal (a : Vec Ideal S40x8192 .i8) (sc : Vec Ideal S40x32 .f32) (q : Vec Ideal S7168x32x128 .i8) (x : Vec Ideal S7168x32x12 .i8)
    (d dm : Vec Ideal S7168x32 .i16) (i : Fin 40) (N : Fin 7168) : EReal :=
  ∑ s : Fin 32, sc (ix2 i s) * (mag16 d N s * ((prod a q x i s N : ℝ) : EReal) - mag16 dm N s * ((mins a x i s N : ℝ) : EReal))

theorem parts_apply (a : Vec Ideal S40x8192 .i8) (sc : Vec Ideal S40x32 .f32) (q : Vec Ideal S7168x32x128 .i8) (x : Vec Ideal S7168x32x12 .i8)
    (d dm : Vec Ideal S7168x32 .i16) (i : Fin 40) (s : Fin 32) (N : Fin 7168) :
    parts (F := Ideal) a sc q x d dm (ix3 s i N) =
      sc (ix2 i s) * (mag16 d N s * ((prod a q x i s N : ℝ) : EReal) - mag16 dm N s * ((mins a x i s N : ℝ) : EReal)) := by
  unfold parts
  show spreadI (F := Ideal) sc (ix3 s i N) * (spreadN (F := Ideal) (half d) (ix3 s i N) * (((IntOp.addi (dots Ideal (alow a) (wlow q x) (ix3 s i N))
    (dots Ideal (ahigh a) (whigh q x) (ix3 s i N))).toInt : ℝ) : EReal) - spreadN (F := Ideal) (half dm) (ix3 s i N) * corr (F := Ideal) a x (ix3 s i N)) = _
  rw [spreadI_apply, spreadN_apply, spreadN_apply, half_apply, half_apply, prod_words, corr_apply]
  rfl

theorem whole_apply (a : Vec Ideal S40x8192 .i8) (sc : Vec Ideal S40x32 .f32) (q : Vec Ideal S7168x32x128 .i8) (x : Vec Ideal S7168x32x12 .i8)
    (d dm : Vec Ideal S7168x32 .i16) (i : Fin 40) (N : Fin 7168) :
    whole (F := Ideal) a sc q x d dm (ix2 i N) = refVal a sc q x d dm i N := by
  have h : whole (F := Ideal) a sc q x d dm (ix2 i N) = ∑ s, parts (F := Ideal) a sc q x d dm (ix3 s i N) := by
    unfold whole
    generalize parts (F := Ideal) a sc q x d dm = v
    pointwise
  rw [h]
  exact Finset.sum_congr rfl fun s _ => parts_apply a sc q x d dm i s N

end Cert.RefVal
-- ==== Proof.Equal.lean ====
/- The kernel's element and the reference's are the same real. -/
module

public import proofs.«01_k».proof.Proof.RefOut
public import proofs.«01_k».proof.Proof.Tile

@[expose] public section

noncomputable section

namespace Cert.RefVal

open Idealize.ShloMosaic Cert.Step

/-! ### Two ways of counting -/

/-- The position in a block against its sub-block and the position there. -/
def posEquiv : Fin 256 ≃ Fin 8 × Fin 32 where
  toFun k := (⟨2 * (k.val / 64) + k.val % 2, by omega⟩, ⟨k.val % 64 / 2, by omega⟩)
  invFun p := ⟨64 * (p.1.val / 2) + 2 * p.2.val + p.1.val % 2, by omega⟩
  left_inv k := by apply Fin.ext; dsimp only; omega
  right_inv p := by
    obtain ⟨j, l⟩ := p
    refine Prod.ext (Fin.ext ?_) (Fin.ext ?_)
    · dsimp only; omega
    · dsimp only; omega

theorem sum_pos {M : Type} [AddCommMonoid M] (f : Fin 8 → Fin 32 → M) :
    ∑ k : Fin 256, f (posEquiv k).1 (posEquiv k).2 = ∑ j : Fin 8, ∑ l : Fin 32, f j l := by
  rw [← Fintype.sum_prod_type' f]
  exact Fintype.sum_equiv posEquiv _ _ fun _ => rfl

theorem col_left : ∀ q : Fin 256, 32 * (q.val / 32) + 8 * ((grp q).val % 4) + (grp q).val / 4 = q.val := by decide +kernel

theorem col_right : ∀ (s : Fin 32) (j : Fin 8), grp ⟨32 * j.val + 8 * (s.val % 4) + s.val / 4, by omega⟩ = s ∧
    (32 * j.val + 8 * (s.val % 4) + s.val / 4) / 32 = j.val := by decide +kernel

/-- The column of the minima against its block and sub-block. -/
def colEquiv : Fin 256 ≃ Fin 32 × Fin 8 where
  toFun q := (grp q, ⟨q.val / 32, by omega⟩)
  invFun p := ⟨32 * p.2.val + 8 * (p.1.val % 4) + p.1.val / 4, by omega⟩
  left_inv q := Fin.ext (col_left q)
  right_inv p := Prod.ext (col_right p.1 p.2).1 (Fin.ext (col_right p.1 p.2).2)

theorem sum_col {M : Type} [AddCommMonoid M] (f : Fin 32 → Fin 8 → M) :
    ∑ q : Fin 256, f (grp q) ⟨q.val / 32, by omega⟩ = ∑ s : Fin 32, ∑ j : Fin 8, f s j := by
  rw [← Fintype.sum_prod_type' f]
  exact Fintype.sum_equiv colEquiv _ _ fun _ => rfl

theorem coe_sumR {ι : Type} (S : Finset ι) (f : ι → ℝ) : ∑ x ∈ S, ((f x : ℝ) : EReal) = ((∑ x ∈ S, f x : ℝ) : EReal) := by
  classical
  induction S using Finset.induction_on with
  | empty => simp
  | insert a S h ih => rw [Finset.sum_insert h, Finset.sum_insert h, ih, EReal.coe_add]

/-! ### A block's sums -/

theorem split6_cases : ∀ b : Fin 64,
    ((BitVec.ofNat 8 b.val >>> 3) &&& 7#8).toNat * 8 + (BitVec.ofNat 8 b.val &&& 7#8).toNat = b.val := by
  decide +kernel

theorem split6 (b : BitVec 8) (h : b.toNat < 64) : ((b >>> 3) &&& 7#8).toNat * 8 + (b &&& 7#8).toNat = b.toNat := by
  have e := split6_cases ⟨b.toNat, h⟩
  have he : BitVec.ofNat 8 b.toNat = b := BitVec.eq_of_toNat_eq (by simp)
  simpa only [he] using e

theorem nat_int (n : ℕ) : ((n : ℝ) : EReal) = (((n : ℤ) : ℝ) : EReal) := by norm_num

section

variable (a : Vec Ideal Cert.ReferenceIdeal.S40x8192 .i8) (sc : Vec Ideal Cert.ReferenceIdeal.S40x32 .f32)
  (w : Vec Ideal Cert.ReferenceIdeal.S7168x32x128 .i8) (x : Vec Ideal Cert.ReferenceIdeal.S7168x32x12 .i8)
  (d dm : Vec Ideal Cert.ReferenceIdeal.S7168x32 .i16) (i : Fin 40) (N : Fin 7168)
  (x0 : Vec Ideal Cert.KernelIdeal.S32x40x256 .i8) (x2 : Vec Ideal Cert.KernelIdeal.S256x32x128 .i8)
  (x3 : Vec Ideal Cert.KernelIdeal.S12x32x256 .i8) (x4 x5 : Vec Ideal Cert.KernelIdeal.S32x256 .i16)
  (Sa : Fin 32 → Fin 40 → EReal) (n : Fin 256)

theorem code_pos (h0 : ∀ s k, x0 (ix3 s i k) = a (ix2 i ⟨256 * s.val + 64 * (k.val / 64) + 32 * (k.val % 2) + k.val % 64 / 2, by omega⟩))
    (s : Fin 32) (k : Fin 256) : BitVec.toInt (x0 (ix3 s i k)) = code a i s (posEquiv k).1 (posEquiv k).2 := by
  rw [h0]
  refine congrArg (fun t => BitVec.toInt (a (ix2 i t))) (Fin.ext ?_)
  show 256 * s.val + 64 * (k.val / 64) + 32 * (k.val % 2) + k.val % 64 / 2 = 256 * s.val + 32 * (2 * (k.val / 64) + k.val % 2) + k.val % 64 / 2
  omega

theorem csum_code (h0 : ∀ s k, x0 (ix3 s i k) = a (ix2 i ⟨256 * s.val + 64 * (k.val / 64) + 32 * (k.val % 2) + k.val % 64 / 2, by omega⟩))
    (s : Fin 32) (j : Fin 8) : csum (fun k => x0 (ix3 s i k)) j.val = (((∑ l : Fin 32, code a i s j l : ℤ) : ℝ) : EReal) := by
  have e : csum (fun k => x0 (ix3 s i k)) j.val =
      ∑ k : Fin 256, ((((code a i s (posEquiv k).1 (posEquiv k).2 * (if (posEquiv k).1 = j then 1 else 0) : ℤ)) : ℝ) : EReal) := by
    unfold csum
    refine Finset.sum_congr rfl fun k _ => ?_
    rw [code_pos a i x0 h0, ← coe_mul_int]
    refine congrArg (fun t : EReal => (((code a i s (posEquiv k).1 (posEquiv k).2 : ℤ) : ℝ) : EReal) * t) ?_
    by_cases hk : 2 * (k.val / 64) + k.val % 2 = j.val
    · rw [if_pos hk, if_pos (Fin.ext hk)]; norm_num
    · rw [if_neg hk, if_neg (fun h => hk (congrArg Fin.val h))]; norm_num
  rw [e, coe_sum, sum_pos (fun j' l => code a i s j' l * (if j' = j then 1 else 0))]
  refine congrArg (fun z : ℤ => ((z : ℝ) : EReal)) ?_
  rw [Finset.sum_eq_single j]
  · simp
  · intro b _ hb
    simp [hb]
  · intro h
    exact absurd (Finset.mem_univ j) h

theorem block_prod (h0 : ∀ s k, x0 (ix3 s i k) = a (ix2 i ⟨256 * s.val + 64 * (k.val / 64) + 32 * (k.val % 2) + k.val % 64 / 2, by omega⟩))
    (h2 : ∀ s y, x2 (ix3 n s y) = w (ix3 N s y)) (h3 : ∀ t s, x3 (ix3 t s n) = x (ix3 N s t))
    (h4 : ∀ s, x4 (ix2 s n) = d (ix2 N s)) (s : Fin 32) :
    blockTerm x0 x2 x3 x4 Sa s i n = Sa s i * (mag16 d N s * ((prod a w x i s N : ℝ) : EReal)) := by
  unfold blockTerm term factor mag16
  rw [h4]
  refine congrArg (fun t => Sa s i * (f16 (F := Ideal) ((d (ix2 N s) : BitVec 16).setWidth 32 &&& 32767#32) * t)) ?_
  have hx : ∀ (h : Fin 2) (c : Fin 4), six (F := Ideal) x3 s n h c = S6 (fun t => x (ix3 N s t)) (2 * c.val + h.val) := by
    intro h c
    unfold six
    exact congrArg (fun f => S6 f (2 * c.val + h.val)) (funext fun t => h3 t s)
  rw [← Finset.sum_add_distrib]
  unfold prod
  rw [← sum_pos (fun j l => code a i s j l * wt w x N s j l), ← coe_sum]
  refine Finset.sum_congr rfl fun k _ => ?_
  dsimp only
  rw [code_pos a i x0 h0, hx, h2]
  have hs := split6 _ (S6_lt (fun t => x (ix3 N s t)) (2 * (kc k).val + (kh k).val))
  have hw : wt w x N s (posEquiv k).1 (posEquiv k).2 =
      ((S6 (fun t => x (ix3 N s t)) (2 * (kc k).val + (kh k).val)).toNat : ℤ) * ((nib (w (ix3 N s (ky k))) (kh k)).toNat : ℤ) := by
    unfold wt
    refine congrArg (fun t => ((S6 (fun t => x (ix3 N s t)) (2 * (kc k).val + (kh k).val)).toNat : ℤ) * t) ?_
    refine congrArg₂ (fun u v => ((nib (w (ix3 N s u)) v).toNat : ℤ)) (Fin.ext ?_) (Fin.ext ?_)
    · show 32 * ((2 * (k.val / 64) + k.val % 2) / 2) + k.val % 64 / 2 = 32 * (k.val / 64) + k.val % 64 / 2
      omega
    · show (2 * (k.val / 64) + k.val % 2) % 2 = k.val % 2
      omega
  rw [hw, ← hs]
  generalize code a i s (posEquiv k).1 (posEquiv k).2 = A
  generalize (nib (w (ix3 N s (ky k))) (kh k)).toNat = B
  generalize ((S6 (fun t => x (ix3 N s t)) (2 * (kc k).val + (kh k).val) >>> 3) &&& 7#8).toNat = H
  generalize (S6 (fun t => x (ix3 N s t)) (2 * (kc k).val + (kh k).val) &&& 7#8).toNat = L
  have e8 : (8 : EReal) = ((8 : ℝ) : EReal) := rfl
  rw [e8, ← EReal.coe_mul, ← EReal.coe_mul, ← EReal.coe_mul, ← EReal.coe_mul, ← EReal.coe_mul, ← EReal.coe_add]
  refine congrArg (fun r : ℝ => (r : EReal)) ?_
  push_cast
  ring

theorem out_eq (h0 : ∀ s k, x0 (ix3 s i k) = a (ix2 i ⟨256 * s.val + 64 * (k.val / 64) + 32 * (k.val % 2) + k.val % 64 / 2, by omega⟩))
    (h2 : ∀ s y, x2 (ix3 n s y) = w (ix3 N s y)) (h3 : ∀ t s, x3 (ix3 t s n) = x (ix3 N s t))
    (h4 : ∀ s, x4 (ix2 s n) = d (ix2 N s)) (h5 : ∀ s, x5 (ix2 s n) = dm (ix2 N s))
    (hS : ∀ s, Sa s i = sc (ix2 i s)) (hr : ∀ s : Fin 32, ∃ r : ℝ, sc (ix2 i s) = (r : EReal)) :
    outVal x0 x2 x3 x4 x5 Sa i n = refVal a sc w x d dm i N := by
  choose rs hrs using hr
  choose rd hrd using fun s => f16_real (d (ix2 N s))
  choose rm hrm using fun s => f16_real (dm (ix2 N s))
  have hd : ∀ s, mag16 d N s = (rd s : EReal) := hrd
  have hm : ∀ s, mag16 dm N s = (rm s : EReal) := hrm
  have e1 : ∑ q : Fin 256, codeSum x0 Sa i q * minTerm x3 x5 q n
      = (((∑ s : Fin 32, rs s * rm s * (mins a x i s N : ℝ) : ℝ)) : EReal) := by
    have t (q : Fin 256) : codeSum x0 Sa i q * minTerm x3 x5 q n =
        ((((fun (s : Fin 32) (j : Fin 8) => ((∑ l : Fin 32, code a i s j l : ℤ) : ℝ) * rs s * (((M6 (fun t => x (ix3 N s t)) j.val).toNat : ℝ) * rm s))
          (grp q) ⟨q.val / 32, by omega⟩ : ℝ)) : EReal) := by
      unfold codeSum minTerm
      have hc := csum_code a i x0 h0 (grp q) ⟨q.val / 32, by omega⟩
      have hx : (fun t => x3 (ix3 t (grp q) n)) = (fun t => x (ix3 N (grp q) t)) := funext fun t => h3 t (grp q)
      have hf : factor (F := Ideal) x5 (grp q) n = (rm (grp q) : EReal) := by
        unfold factor
        rw [h5]
        exact hm (grp q)
      dsimp only at hc ⊢
      rw [hc, hS, hrs, hx, hf, ← EReal.coe_mul, ← EReal.coe_mul, ← EReal.coe_mul]
    rw [Finset.sum_congr rfl fun q _ => t q, coe_sumR, sum_col (fun (s : Fin 32) (j : Fin 8) =>
      ((∑ l : Fin 32, code a i s j l : ℤ) : ℝ) * rs s * (((M6 (fun t => x (ix3 N s t)) j.val).toNat : ℝ) * rm s))]
    refine congrArg (fun r : ℝ => (r : EReal)) (Finset.sum_congr rfl fun s _ => ?_)
    unfold mins
    push_cast
    rw [Finset.mul_sum]
    refine Finset.sum_congr rfl fun j _ => ?_
    ring
  have e2 : ∑ s : Fin 32, blockTerm x0 x2 x3 x4 Sa s i n = ((∑ s : Fin 32, rs s * (rd s * (prod a w x i s N : ℝ)) : ℝ) : EReal) := by
    rw [← coe_sumR]
    refine Finset.sum_congr rfl fun s _ => ?_
    rw [block_prod a w x d i N x0 x2 x3 x4 Sa n h0 h2 h3 h4, hS, hrs, hd, ← EReal.coe_mul, ← EReal.coe_mul]
  have e3 : refVal a sc w x d dm i N = ((∑ s : Fin 32, rs s * (rd s * (prod a w x i s N : ℝ) - rm s * (mins a x i s N : ℝ)) : ℝ) : EReal) := by
    unfold refVal
    rw [← coe_sumR]
    refine Finset.sum_congr rfl fun s _ => ?_
    rw [hrs, hd, hm, ← EReal.coe_mul, ← EReal.coe_mul, ← EReal.coe_sub, ← EReal.coe_mul]
  unfold outVal
  rw [e1, e2, e3, ← EReal.coe_zero, ← EReal.coe_sub, ← EReal.coe_add]
  refine congrArg (fun r : ℝ => (r : EReal)) ?_
  rw [zero_sub, ← Finset.sum_neg_distrib, ← Finset.sum_add_distrib]
  refine Finset.sum_congr rfl fun s _ => ?_
  ring

end

end Cert.RefVal
-- ==== Proof.Whole.lean ====
/- The kernel's array and the reference's are equal when the scales are finite. -/
module

public import proofs.«01_k».proof.Defs
public import proofs.«01_k».proof.Proof.Sweep
public import proofs.«01_k».proof.Proof.Equal

@[expose] public section

noncomputable section

namespace Cert.Step

open Idealize.ShloMosaic Idealize.ShloMosaic.TcCoe Idealize.SL.Sem Cert.KernelIdeal Cert.KernelIdeal.Gen

theorem pre_facts : Cert.Pre_finite_scales.Facts := ⟨by decide⟩

section

variable (m : (ℓ : Loc nD τ sig) → Buf (Elt Ideal) ℓ) (c : Dev nD)

/-- The kernel's array at an index: the column's tile, and the place in it. -/
theorem kernel_at (i : Fin 40) (N : Fin 7168) (t : Fin cfg0.N) (n : Fin 256) (hN : N.val = 256 * t.val + n.val) :
    Value.G6 m c (ix2 i N) = outVal (codes m c) (iblk m c 2 t) (iblk m c 3 t) (iblk m c 4 t) (iblk m c 5 t) (scaleOf m c) i n := by
  have hp : Value.pt6Of (ix2 i N) = t.val := by
    show 28 * (i.val / 40 - 0) + 1 * (N.val / 256 - 0) = t.val
    omega
  have hl : Value.loc6Of (ix2 i N) = ix2 i n := by
    funext a
    match a with
    | ⟨0, _⟩ => exact Fin.ext (by show i.val % 40 = i.val; omega)
    | ⟨1, _⟩ => exact Fin.ext (by show N.val % 256 = n.val; omega)
  have hlt : Value.pt6Of (ix2 i N) < cfg0.N := by rw [hp]; exact t.isLt
  unfold Value.G6
  rw [dif_pos hlt, hl, ← Value.outsAt0_sweep m c (Value.pt6Of (ix2 i N)) hlt, (left m c _ hlt).1 i n]
  have ht : (⟨Value.pt6Of (ix2 i N), hlt⟩ : Fin cfg0.N) = t := Fin.ext hp
  rw [ht]

theorem kernel_ref (hr : ∀ (i : Fin 40) (s : Fin 32), ∃ r : ℝ, arg1 m c (ix2 i s) = (r : EReal)) (i : Fin 40) (N : Fin 7168) :
    Value.G6 m c (ix2 i N) = Cert.RefVal.refVal (arg0 m c) (arg1 m c) (arg2 m c) (arg3 m c) (arg4 m c) (arg5 m c) i N := by
  have h28 : cfg0.N = 28 := N_0
  obtain ⟨t, ht⟩ : ∃ t : Fin cfg0.N, t.val = N.val / 256 := ⟨⟨N.val / 256, by rw [h28]; omega⟩, rfl⟩
  obtain ⟨n, hn⟩ : ∃ n : Fin 256, n.val = N.val % 256 := ⟨⟨N.val % 256, by omega⟩, rfl⟩
  have hN : N.val = 256 * t.val + n.val := by omega
  have hc : col t n = N := Fin.ext hN.symm
  rw [kernel_at m c i N t n hN]
  refine Cert.RefVal.out_eq (arg0 m c) (arg1 m c) (arg2 m c) (arg3 m c) (arg4 m c) (arg5 m c) i N (codes m c) (iblk m c 2 t)
    (iblk m c 3 t) (iblk m c 4 t) (iblk m c 5 t) (scaleOf m c) n (fun s k => rfl) ?_ ?_ ?_ ?_ (fun s => rfl) (hr i)
  · intro s y
    rw [blk2, hc]
  · intro k s
    rw [blk3, hc]
  · intro s
    rw [blk4, hc]
  · intro s
    rw [blk5, hc]

theorem real_of_abs (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

theorem finite_of_pre (hpre : Cert.Pre_KernelIdeal_finite_scales (hPre_finite_scales := pre_facts) m) (i : Fin 40) (s : Fin 32) :
    ∃ r : ℝ, arg1 m c (ix2 i s) = (r : EReal) := by
  have h := congrFun (hpre c) (ix2 i s)
  exact real_of_abs _ h

end

end Cert.Step
-- ==== Proof.Quant.lean ====
/- Quantising one block of 256 values per row to eight-bit codes and a scale. -/
module

public import proofs.«01_k».proof.Proof.Gen.AttnQuantIdeal
public import Idealize.ShloMosaic.Lib.Pointwise

@[expose] public section

noncomputable section

namespace Cert.Quant

open Idealize.ShloMosaic

abbrev S40 : Shape := ⟨1, ![40]⟩
abbrev S40x1 : Shape := ⟨2, ![40, 1]⟩
abbrev S40x256 : Shape := ⟨2, ![40, 256]⟩
/-- Forty rows of `n`. -/
abbrev Rows (n : Nat) : Shape := ⟨2, ![40, n]⟩

variable {F : FTy → Type} [FloatOps F]

/-- The largest magnitude of each row of a block. -/
def top (b : FVec F S40x256 .f32) (h : S40x256.Reduces [1] S40) (h' : S40.ShapeCasts S40x1) : FVec F S40x1 .f32 :=
  shapeCast S40x1 (multiReduction .maximumf [1] S40 (absf b) 0xFF800000#32 h (.inl rfl) rfl) h'

/-- The scale of each row, given its largest magnitude. -/
def scl (a : FVec F S40x1 .f32) : FVec F S40x1 .f32 :=
  select (cmpf .oeq a (broadcast S40x1 (Scalar.ofBits .f32 0x00000000#32)))
    (broadcast S40x1 (Scalar.ofBits .f32 0x3F800000#32)) (divf a (broadcast S40x1 (Scalar.ofBits .f32 0x42FE0000#32)))

/-- The codes of a block, given the scales of its rows. -/
def cod (b : FVec F S40x256 .f32) (c : FVec F S40x1 .f32) (h : S40x1.Broadcasts S40x256) : IVec S40x256 8 :=
  fptosi 8 (minimumf (broadcast S40x256 (Scalar.sitofp .f32 127#32))
    (maximumf (broadcast S40x256 (Scalar.sitofp .f32 4294967169#32)) (roundeven (divf b (broadcastTo S40x256 c h)))))

/-- The table of scales with the column `s` set. -/
def put {n : Nat} (s : BitVec 32) (c : FVec F S40x1 .f32) (acc : FVec F (Rows n) .f32) (hi : (Rows n).Iotas .tc 32 [1])
    (h : S40x1.ShapeCasts S40x1) (h' : S40x1.Broadcasts (Rows n)) : FVec F (Rows n) .f32 :=
  select (cmpi .eq (iota .tc (Rows n) 32 [1] hi) (broadcast (Rows n) s)) (broadcastTo (Rows n) (shapeCast S40x1 c h) h') acc

/-- The block of 256 columns from column `o`. -/
def blk {n : Nat} (x : FVec F (Rows n) .f32) (o : Nat) (h : (Rows n).Slices ![0, o] S40x256) : FVec F S40x256 .f32 :=
  extractStridedSlice S40x256 ![0, o] x h

/-- The scales of that block. -/
def sblk {n : Nat} (x : FVec F (Rows n) .f32) (o : Nat) (h : (Rows n).Slices ![0, o] S40x256)
    (hr : S40x256.Reduces [1] S40) (hc : S40.ShapeCasts S40x1) : FVec F S40x1 .f32 :=
  scl (top (blk x o h) hr hc)

/-- The codes of that block. -/
def cblk {n : Nat} (x : FVec F (Rows n) .f32) (o : Nat) (h : (Rows n).Slices ![0, o] S40x256)
    (hr : S40x256.Reduces [1] S40) (hc : S40.ShapeCasts S40x1) (hb : S40x1.Broadcasts S40x256) : IVec S40x256 8 :=
  cod (blk x o h) (sblk x o h hr hc) hb

/-- The table of scales before any is set. -/
def none (n : Nat) : FVec F (Rows n) .f32 := broadcast (Rows n) (Scalar.ofBits .f32 0x00000000#32)

theorem hz : (![0, 0] : Fin 2 → Nat) = fun _ => 0 := funext fun a => by fin_cases a <;> rfl

/-! ## Values -/

/-- The largest magnitude among 256 values. -/
def peak (f : Fin 256 → EReal) : EReal :=
  Finset.fold max (Ideal.ofBits .f32 4286578688#32) (fun t => FloatOps.absf (F := Ideal) (φ := .f32) (f t)) Finset.univ

/-- The scale that goes with a largest magnitude. -/
def step (a : EReal) : EReal := if a = 0 then 1 else Ideal.div a (Ideal.ofBits .f32 1123942400#32)

/-- A value over its scale, rounded and held between -127 and 127. -/
def clip (v c : EReal) : EReal :=
  min (((127#32 : BitVec 32).toInt : ℝ) : EReal) (max (((4294967169#32 : BitVec 32).toInt : ℝ) : EReal) (Ideal.liftRound Ideal.roundHalfEven (Ideal.div v c)))

/-- The code of a value. -/
def code (v c : EReal) : BitVec 8 := FloatOps.fptosi (F := Ideal) (φ := .f32) 8 (clip v c)

/-- Column `t` of block `s`. -/
def col {n K : Nat} (hn : n = 256 * K) (s : Fin K) (t : Fin 256) : Fin n := ⟨256 * s.val + t.val, by omega⟩

/-- The scale of block `s` of row `i`. -/
def scale {n K : Nat} (hn : n = 256 * K) (x : FVec Ideal (Rows n) .f32) (i : Fin 40) (s : Fin K) : EReal :=
  step (peak fun t => x (ix2 i (col hn s t)))

/-- The code at column `t` of block `s` of row `i`. -/
def codeAt {n K : Nat} (hn : n = 256 * K) (x : FVec Ideal (Rows n) .f32) (i : Fin 40) (s : Fin K) (t : Fin 256) : BitVec 8 :=
  code (x (ix2 i (col hn s t))) (scale hn x i s)

/-- All codes. -/
def codes {n K : Nat} (hn : n = 256 * K) (x : FVec Ideal (Rows n) .f32) : IVec (Rows n) 8 := fun j =>
  codeAt hn x (j 0) ⟨(j 1).val / 256, by have : (j 1).val < n := (j 1).isLt; omega⟩ ⟨(j 1).val % 256, Nat.mod_lt _ (by decide)⟩

/-- All scales. -/
def scales {n K : Nat} (hn : n = 256 * K) (x : FVec Ideal (Rows n) .f32) : FVec Ideal (Rows K) .f32 := fun j => scale hn x (j 0) (j 1)

theorem top_apply (b : FVec Ideal S40x256 .f32) (h : S40x256.Reduces [1] S40) (h' : S40.ShapeCasts S40x1) (i : Fin 40) (z : Fin 1) :
    top (F := Ideal) b h h' (ix2 i z) = peak fun t => b (ix2 i t) := by
  unfold top
  pointwise
  rfl

theorem scl_apply (a : FVec Ideal S40x1 .f32) (i : Fin 40) (z : Fin 1) : scl (F := Ideal) a (ix2 i z) = step (a (ix2 i z)) := by
  unfold scl
  pointwise
  rfl

theorem cod_apply (b : FVec Ideal S40x256 .f32) (c : FVec Ideal S40x1 .f32) (h : S40x1.Broadcasts S40x256) (i : Fin 40) (t : Fin 256) :
    cod (F := Ideal) b c h (ix2 i t) = code (b (ix2 i t)) (c (ix2 i 0)) := by
  unfold cod
  pointwise
  rfl

theorem put_apply {n : Nat} (s : BitVec 32) (c : FVec Ideal S40x1 .f32) (acc : FVec Ideal (Rows n) .f32) (hi : (Rows n).Iotas .tc 32 [1])
    (h : S40x1.ShapeCasts S40x1) (h' : S40x1.Broadcasts (Rows n)) (i : Fin 40) (j : Fin n) :
    put (F := Ideal) s c acc hi h h' (ix2 i j) = if BitVec.ofNat 32 j.val = s then c (ix2 i 0) else acc (ix2 i j) := by
  unfold put
  pointwise
  by_cases e : BitVec.ofNat 32 j.val = s
  · rw [if_pos e, e]
    have : IntOp.cmpi CmpIPredicate.eq s s = 1#1 := by simp [IntOp.cmpi]
    rw [this]
    rfl
  · rw [if_neg e]
    have : IntOp.cmpi CmpIPredicate.eq (BitVec.ofNat 32 j.val) s = 0#1 := by
      have : (BitVec.ofNat 32 j.val == s) = false := by simpa using e
      show BitVec.ofBool (BitVec.ofNat 32 j.val == s) = 0#1
      rw [this]
      rfl
    rw [this]
    rfl

theorem blk_apply {n : Nat} (x : FVec Ideal (Rows n) .f32) (o : Nat) (h : (Rows n).Slices ![0, o] S40x256) (i : Fin 40) (t : Fin 256)
    (ht : o + t.val < n) : blk (F := Ideal) x o h (ix2 i t) = x (ix2 i ⟨o + t.val, ht⟩) := by
  unfold blk
  refine congrArg x ?_
  funext a
  match a with
  | ⟨0, _⟩ => exact Fin.ext (Nat.zero_add _)
  | ⟨1, _⟩ => rfl

theorem blk_col {n K : Nat} (hn : n = 256 * K) (x : FVec Ideal (Rows n) .f32) (s : Fin K) (h : (Rows n).Slices ![0, 256 * s.val] S40x256)
    (i : Fin 40) (t : Fin 256) : blk (F := Ideal) x (256 * s.val) h (ix2 i t) = x (ix2 i (col hn s t)) :=
  blk_apply x _ h i t (by omega)

theorem sblk_apply {n K : Nat} (hn : n = 256 * K) (x : FVec Ideal (Rows n) .f32) (s : Fin K) (h : (Rows n).Slices ![0, 256 * s.val] S40x256)
    (hr : S40x256.Reduces [1] S40) (hc : S40.ShapeCasts S40x1) (i : Fin 40) (z : Fin 1) :
    sblk (F := Ideal) x (256 * s.val) h hr hc (ix2 i z) = scale hn x i s := by
  unfold sblk scale
  rw [scl_apply, top_apply]
  refine congrArg (fun f => step (peak f)) (funext fun t => ?_)
  exact blk_col hn x s h i t

theorem cblk_apply {n K : Nat} (hn : n = 256 * K) (x : FVec Ideal (Rows n) .f32) (s : Fin K) (h : (Rows n).Slices ![0, 256 * s.val] S40x256)
    (hr : S40x256.Reduces [1] S40) (hc : S40.ShapeCasts S40x1) (hb : S40x1.Broadcasts S40x256) (i : Fin 40) (t : Fin 256) :
    cblk (F := Ideal) x (256 * s.val) h hr hc hb (ix2 i t) = codeAt hn x i s t := by
  unfold cblk codeAt
  rw [cod_apply, sblk_apply hn, blk_col hn]

theorem codes_col {n K : Nat} (hn : n = 256 * K) (x : FVec Ideal (Rows n) .f32) (i : Fin 40) (s : Fin K) (t : Fin 256) (j : (Rows n).Idx)
    (h0 : (j 0).val = i.val) (h1 : (j 1).val = 256 * s.val + t.val) : codes hn x j = codeAt hn x i s t := by
  unfold codes
  have e0 : j 0 = i := Fin.ext h0
  have e1 : (⟨(j 1).val / 256, by have : (j 1).val < n := (j 1).isLt; omega⟩ : Fin K) = s := Fin.ext (by show (j 1).val / 256 = _; omega)
  have e2 : (⟨(j 1).val % 256, Nat.mod_lt _ (by decide)⟩ : Fin 256) = t := Fin.ext (by show (j 1).val % 256 = _; omega)
  rw [e1, e2, e0]

/-- The codes stored for block `s` are the block's part of all codes. -/
theorem piece {n K : Nat} (hn : n = 256 * K) (x : FVec Ideal (Rows n) .f32) (s : Fin K) (o : Nat) (ho : o = 256 * s.val)
    (h : (Rows n).Slices ![0, o] S40x256) (hr : S40x256.Reduces [1] S40) (hc : S40.ShapeCasts S40x1) (hb : S40x1.Broadcasts S40x256)
    (inb : ∀ a, (![0, o] : Fin 2 → Nat) a + S40x256.size a ≤ (Rows n).size a) (y : S40x256.Idx) :
    cblk (F := Ideal) x o h hr hc hb y = codes hn x ((Rect.unit (s := Rows n) ![0, o] S40x256.size inb).emb y) := by
  subst ho
  have e : y = ix2 (y 0) (y 1) := by
    funext a
    match a with
    | ⟨0, _⟩ => rfl
    | ⟨1, _⟩ => rfl
  rw [codes_col hn x (y 0) s (y 1) _ (by show 0 + 1 * (y 0).val = _; omega) (by show 256 * s.val + 1 * (y 1).val = _; omega)]
  conv_lhs => rw [e]
  exact cblk_apply hn x s h hr hc hb (y 0) (y 1)

/-- The first `k` columns of a table are the scales of the first `k` blocks. -/
def Upto {n K : Nat} (hn : n = 256 * K) (x : FVec Ideal (Rows n) .f32) (k : Nat) (acc : FVec Ideal (Rows K) .f32) : Prop :=
  ∀ (i : Fin 40) (j : Fin K), j.val < k → acc (ix2 i j) = scale hn x i j

theorem Upto.zero {n K : Nat} (hn : n = 256 * K) (x : FVec Ideal (Rows n) .f32) (acc : FVec Ideal (Rows K) .f32) : Upto hn x 0 acc :=
  fun _ _ h => absurd h (Nat.not_lt_zero _)

theorem Upto.next {n K : Nat} {hn : n = 256 * K} {x : FVec Ideal (Rows n) .f32} (s : Nat) (hs : s < K) (hK : K ≤ 256) {acc : FVec Ideal (Rows K) .f32}
    (ih : Upto hn x s acc) (o : Nat) (ho : o = 256 * s) (h : (Rows n).Slices ![0, o] S40x256) (hr : S40x256.Reduces [1] S40) (hc : S40.ShapeCasts S40x1)
    (hi : (Rows K).Iotas .tc 32 [1]) (hq : S40x1.ShapeCasts S40x1) (hb : S40x1.Broadcasts (Rows K)) :
    Upto hn x (s + 1) (put (F := Ideal) (BitVec.ofNat 32 s) (sblk (F := Ideal) x o h hr hc) acc hi hq hb) := by
  subst ho
  intro i j hj
  rw [put_apply]
  by_cases e : j.val = s
  · subst e
    rw [if_pos rfl]
    exact sblk_apply hn x j h hr hc i 0
  · have hne : BitVec.ofNat 32 j.val ≠ BitVec.ofNat 32 s := fun q => e (by
      have := congrArg BitVec.toNat q
      simp only [BitVec.toNat_ofNat] at this
      omega)
    rw [if_neg hne]
    exact ih i j (by omega)

theorem Upto.all {n K : Nat} {hn : n = 256 * K} {x : FVec Ideal (Rows n) .f32} {acc : FVec Ideal (Rows K) .f32} (h : Upto hn x K acc) :
    acc = scales hn x := by
  funext j
  have e : j = ix2 (j 0) (j 1) := by
    funext a
    match a with
    | ⟨0, _⟩ => rfl
    | ⟨1, _⟩ => rfl
  conv_lhs => rw [e]
  exact h (j 0) (j 1) (j 1).isLt

/-- A code passes through a 32-bit integer unchanged. -/
theorem code_wide (v c : EReal) : BitVec.truncate 8 (FloatOps.fptosi (F := Ideal) (φ := .f32) 32 (clip v c)) = code v c := by
  obtain ⟨r, hr, lo, hi⟩ : ∃ r : ℝ, clip v c = (r : EReal) ∧ -127 ≤ r ∧ r ≤ 127 := by
    have a1 : ((127#32 : BitVec 32).toInt : ℝ) = 127 := by
      have : (127#32 : BitVec 32).toInt = 127 := by decide
      rw [this]; norm_num
    have a2 : ((4294967169#32 : BitVec 32).toInt : ℝ) = -127 := by
      have : (4294967169#32 : BitVec 32).toInt = -127 := by decide
      rw [this]; norm_num
    have h1 : clip v c ≤ ((127 : ℝ) : EReal) := by unfold clip; rw [a1]; exact min_le_left _ _
    have h2 : ((-127 : ℝ) : EReal) ≤ clip v c := by
      unfold clip; rw [a1, a2]
      exact le_min (EReal.coe_le_coe_iff.2 (by norm_num)) (le_max_left _ _)
    induction hq : clip v c using EReal.rec with
    | bot => rw [hq] at h2; exact absurd (le_bot_iff.1 h2) (EReal.coe_ne_bot _)
    | top => rw [hq] at h1; exact absurd (top_le_iff.1 h1) (EReal.coe_ne_top _)
    | coe r => rw [hq] at h1 h2; exact ⟨r, rfl, EReal.coe_le_coe_iff.1 h2, EReal.coe_le_coe_iff.1 h1⟩
  unfold code
  rw [hr]
  show BitVec.truncate 8 (Ideal.fptosi 32 (r : EReal)) = Ideal.fptosi 8 (r : EReal)
  unfold Ideal.fptosi
  rw [Ideal.toIntClamped_coe, Ideal.toIntClamped_coe]
  have hz : -127 ≤ (if 0 ≤ r then ⌊r⌋ else ⌈r⌉) ∧ (if 0 ≤ r then ⌊r⌋ else ⌈r⌉) ≤ 127 := by
    split
    · exact ⟨Int.le_floor.2 (by exact_mod_cast lo), Int.cast_le.1 ((Int.floor_le r).trans (by exact_mod_cast hi) : ((⌊r⌋ : ℤ) : ℝ) ≤ ((127 : ℤ) : ℝ))⟩
    · exact ⟨Int.cast_le.1 (((by exact_mod_cast lo : ((-127 : ℤ) : ℝ) ≤ r)).trans (Int.le_ceil r)), Int.ceil_le.2 (by exact_mod_cast hi)⟩
  generalize (if 0 ≤ r then ⌊r⌋ else ⌈r⌉) = z at hz ⊢
  have e1 : max (-((2 ^ (32 - 1) : Nat) : Int)) (min (((2 ^ (32 - 1) : Nat) : Int) - 1) z) = z := by omega
  have e2 : max (-((2 ^ (8 - 1) : Nat) : Int)) (min (((2 ^ (8 - 1) : Nat) : Int) - 1) z) = z := by omega
  rw [e1, e2]
  apply BitVec.eq_of_toNat_eq
  simp only [BitVec.truncate_eq_setWidth, BitVec.toNat_setWidth, BitVec.toNat_ofInt]
  omega

end Cert.Quant

end
-- ==== Proof.XNormVal.lean ====
/- Quantising the normalised input: what the kernel stores, block by block. -/
module

public import proofs.«01_k».proof.Proof.Gen.XNormIdeal.Value
public import proofs.«01_k».proof.Proof.Quant
public import Idealize.ShloMosaic.Lib.Pipeline.ReadBack

@[expose] public section

set_option maxRecDepth 100000

noncomputable section

namespace Cert.XNormVal

open Cert.XNormIdeal Cert.XNormIdeal.Gen Idealize.ShloMosaic Idealize.ShloMosaic.TcCoe Idealize.SL.Sem

variable {F : FTy → Type} [FloatOps F]

/-! The facts about shapes that every block uses. -/
theorem hr : S40x256.Reduces [1] S40 := reduces_S40x256_S40
theorem hc : S40.ShapeCasts S40x1 := shapeCasts_S40_S40x1
theorem hb : S40x1.Broadcasts S40x256 := broadcasts_S40x1_S40x256
theorem hi : S40x32.Iotas .tc 32 [1] := iota_S40x32_d1_w32
theorem hq : S40x1.ShapeCasts S40x1 := shapeCasts_S40x1_S40x1
theorem hp : S40x1.Broadcasts S40x32 := broadcasts_S40x1_S40x32

/-- The values that are quantised. -/
def inp (a0 : Vec F S40x8192 .bf16) (a1 : Vec F S1x8192 .f32) : FVec F S40x8192 .f32 := k0_pay1 (View.ld a0 r0_0) (View.ld a1 r0_1)

/-- The stores of codes, the last first. -/
def pieces (a0 : Vec F S40x8192 .bf16) (a1 : Vec F S1x8192 .f32) : List (View.Piece (Elt F) S40x8192 .i8) :=
  [⟨r0_33, Quant.cblk (inp a0 a1) 7936 slices_S40x8192_o0_7936_S40x256 hr hc hb⟩,
    ⟨r0_32, Quant.cblk (inp a0 a1) 7680 slices_S40x8192_o0_7680_S40x256 hr hc hb⟩,
    ⟨r0_31, Quant.cblk (inp a0 a1) 7424 slices_S40x8192_o0_7424_S40x256 hr hc hb⟩,
    ⟨r0_30, Quant.cblk (inp a0 a1) 7168 slices_S40x8192_o0_7168_S40x256 hr hc hb⟩,
    ⟨r0_29, Quant.cblk (inp a0 a1) 6912 slices_S40x8192_o0_6912_S40x256 hr hc hb⟩,
    ⟨r0_28, Quant.cblk (inp a0 a1) 6656 slices_S40x8192_o0_6656_S40x256 hr hc hb⟩,
    ⟨r0_27, Quant.cblk (inp a0 a1) 6400 slices_S40x8192_o0_6400_S40x256 hr hc hb⟩,
    ⟨r0_26, Quant.cblk (inp a0 a1) 6144 slices_S40x8192_o0_6144_S40x256 hr hc hb⟩,
    ⟨r0_25, Quant.cblk (inp a0 a1) 5888 slices_S40x8192_o0_5888_S40x256 hr hc hb⟩,
    ⟨r0_24, Quant.cblk (inp a0 a1) 5632 slices_S40x8192_o0_5632_S40x256 hr hc hb⟩,
    ⟨r0_23, Quant.cblk (inp a0 a1) 5376 slices_S40x8192_o0_5376_S40x256 hr hc hb⟩,
    ⟨r0_22, Quant.cblk (inp a0 a1) 5120 slices_S40x8192_o0_5120_S40x256 hr hc hb⟩,
    ⟨r0_21, Quant.cblk (inp a0 a1) 4864 slices_S40x8192_o0_4864_S40x256 hr hc hb⟩,
    ⟨r0_20, Quant.cblk (inp a0 a1) 4608 slices_S40x8192_o0_4608_S40x256 hr hc hb⟩,
    ⟨r0_19, Quant.cblk (inp a0 a1) 4352 slices_S40x8192_o0_4352_S40x256 hr hc hb⟩,
    ⟨r0_18, Quant.cblk (inp a0 a1) 4096 slices_S40x8192_o0_4096_S40x256 hr hc hb⟩,
    ⟨r0_17, Quant.cblk (inp a0 a1) 3840 slices_S40x8192_o0_3840_S40x256 hr hc hb⟩,
    ⟨r0_16, Quant.cblk (inp a0 a1) 3584 slices_S40x8192_o0_3584_S40x256 hr hc hb⟩,
    ⟨r0_15, Quant.cblk (inp a0 a1) 3328 slices_S40x8192_o0_3328_S40x256 hr hc hb⟩,
    ⟨r0_14, Quant.cblk (inp a0 a1) 3072 slices_S40x8192_o0_3072_S40x256 hr hc hb⟩,
    ⟨r0_13, Quant.cblk (inp a0 a1) 2816 slices_S40x8192_o0_2816_S40x256 hr hc hb⟩,
    ⟨r0_12, Quant.cblk (inp a0 a1) 2560 slices_S40x8192_o0_2560_S40x256 hr hc hb⟩,
    ⟨r0_11, Quant.cblk (inp a0 a1) 2304 slices_S40x8192_o0_2304_S40x256 hr hc hb⟩,
    ⟨r0_10, Quant.cblk (inp a0 a1) 2048 slices_S40x8192_o0_2048_S40x256 hr hc hb⟩,
    ⟨r0_9, Quant.cblk (inp a0 a1) 1792 slices_S40x8192_o0_1792_S40x256 hr hc hb⟩,
    ⟨r0_8, Quant.cblk (inp a0 a1) 1536 slices_S40x8192_o0_1536_S40x256 hr hc hb⟩,
    ⟨r0_7, Quant.cblk (inp a0 a1) 1280 slices_S40x8192_o0_1280_S40x256 hr hc hb⟩,
    ⟨r0_6, Quant.cblk (inp a0 a1) 1024 slices_S40x8192_o0_1024_S40x256 hr hc hb⟩,
    ⟨r0_5, Quant.cblk (inp a0 a1) 768 slices_S40x8192_o0_768_S40x256 hr hc hb⟩,
    ⟨r0_4, Quant.cblk (inp a0 a1) 512 slices_S40x8192_o0_512_S40x256 hr hc hb⟩,
    ⟨r0_3, Quant.cblk (inp a0 a1) 256 slices_S40x8192_o0_256_S40x256 hr hc hb⟩,
    ⟨r0_2, Quant.cblk (inp a0 a1) 0 slices_S40x8192_o0_0_S40x256 hr hc hb⟩]

/-- The codes as the kernel stores them. -/
def stored (a0 : Vec F S40x8192 .bf16) (a1 : Vec F S1x8192 .f32) : Vec F S40x8192 .i8 := View.canon (pieces a0 a1)

/-- The scales as the kernel stores them. -/
def table (a0 : Vec F S40x8192 .bf16) (a1 : Vec F S1x8192 .f32) : Vec F S40x32 .f32 :=
  (Quant.put 31#32 (Quant.sblk (inp a0 a1) 7936 slices_S40x8192_o0_7936_S40x256 hr hc)
    (Quant.put 30#32 (Quant.sblk (inp a0 a1) 7680 slices_S40x8192_o0_7680_S40x256 hr hc)
    (Quant.put 29#32 (Quant.sblk (inp a0 a1) 7424 slices_S40x8192_o0_7424_S40x256 hr hc)
    (Quant.put 28#32 (Quant.sblk (inp a0 a1) 7168 slices_S40x8192_o0_7168_S40x256 hr hc)
    (Quant.put 27#32 (Quant.sblk (inp a0 a1) 6912 slices_S40x8192_o0_6912_S40x256 hr hc)
    (Quant.put 26#32 (Quant.sblk (inp a0 a1) 6656 slices_S40x8192_o0_6656_S40x256 hr hc)
    (Quant.put 25#32 (Quant.sblk (inp a0 a1) 6400 slices_S40x8192_o0_6400_S40x256 hr hc)
    (Quant.put 24#32 (Quant.sblk (inp a0 a1) 6144 slices_S40x8192_o0_6144_S40x256 hr hc)
    (Quant.put 23#32 (Quant.sblk (inp a0 a1) 5888 slices_S40x8192_o0_5888_S40x256 hr hc)
    (Quant.put 22#32 (Quant.sblk (inp a0 a1) 5632 slices_S40x8192_o0_5632_S40x256 hr hc)
    (Quant.put 21#32 (Quant.sblk (inp a0 a1) 5376 slices_S40x8192_o0_5376_S40x256 hr hc)
    (Quant.put 20#32 (Quant.sblk (inp a0 a1) 5120 slices_S40x8192_o0_5120_S40x256 hr hc)
    (Quant.put 19#32 (Quant.sblk (inp a0 a1) 4864 slices_S40x8192_o0_4864_S40x256 hr hc)
    (Quant.put 18#32 (Quant.sblk (inp a0 a1) 4608 slices_S40x8192_o0_4608_S40x256 hr hc)
    (Quant.put 17#32 (Quant.sblk (inp a0 a1) 4352 slices_S40x8192_o0_4352_S40x256 hr hc)
    (Quant.put 16#32 (Quant.sblk (inp a0 a1) 4096 slices_S40x8192_o0_4096_S40x256 hr hc)
    (Quant.put 15#32 (Quant.sblk (inp a0 a1) 3840 slices_S40x8192_o0_3840_S40x256 hr hc)
    (Quant.put 14#32 (Quant.sblk (inp a0 a1) 3584 slices_S40x8192_o0_3584_S40x256 hr hc)
    (Quant.put 13#32 (Quant.sblk (inp a0 a1) 3328 slices_S40x8192_o0_3328_S40x256 hr hc)
    (Quant.put 12#32 (Quant.sblk (inp a0 a1) 3072 slices_S40x8192_o0_3072_S40x256 hr hc)
    (Quant.put 11#32 (Quant.sblk (inp a0 a1) 2816 slices_S40x8192_o0_2816_S40x256 hr hc)
    (Quant.put 10#32 (Quant.sblk (inp a0 a1) 2560 slices_S40x8192_o0_2560_S40x256 hr hc)
    (Quant.put 9#32 (Quant.sblk (inp a0 a1) 2304 slices_S40x8192_o0_2304_S40x256 hr hc)
    (Quant.put 8#32 (Quant.sblk (inp a0 a1) 2048 slices_S40x8192_o0_2048_S40x256 hr hc)
    (Quant.put 7#32 (Quant.sblk (inp a0 a1) 1792 slices_S40x8192_o0_1792_S40x256 hr hc)
    (Quant.put 6#32 (Quant.sblk (inp a0 a1) 1536 slices_S40x8192_o0_1536_S40x256 hr hc)
    (Quant.put 5#32 (Quant.sblk (inp a0 a1) 1280 slices_S40x8192_o0_1280_S40x256 hr hc)
    (Quant.put 4#32 (Quant.sblk (inp a0 a1) 1024 slices_S40x8192_o0_1024_S40x256 hr hc)
    (Quant.put 3#32 (Quant.sblk (inp a0 a1) 768 slices_S40x8192_o0_768_S40x256 hr hc)
    (Quant.put 2#32 (Quant.sblk (inp a0 a1) 512 slices_S40x8192_o0_512_S40x256 hr hc)
    (Quant.put 1#32 (Quant.sblk (inp a0 a1) 256 slices_S40x8192_o0_256_S40x256 hr hc)
    (Quant.put 0#32 (Quant.sblk (inp a0 a1) 0 slices_S40x8192_o0_0_S40x256 hr hc)
    (Quant.none 32)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)

set_option maxHeartbeats 4000000 in
theorem stored_eq (a0 : Vec F S40x8192 .bf16) (a1 : Vec F S1x8192 .f32) : out0_2 (F := F) a0 a1 = stored a0 a1 := by
  unfold out0_2
  simp only [stored, inp, pieces, Quant.cblk, Quant.sblk, Quant.blk, Quant.scl, Quant.top, Quant.cod, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175]

set_option maxHeartbeats 4000000 in
theorem table_eq (a0 : Vec F S40x8192 .bf16) (a1 : Vec F S1x8192 .f32) : out0_3 (F := F) a0 a1 = table a0 a1 := by
  unfold out0_3
  rw [View.canon_unit_zero Cert.Quant.hz]
  simp only [table, inp, Quant.put, Quant.none, Quant.sblk, Quant.blk, Quant.scl, Quant.top, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175]

theorem stored_codes (a0 : Vec Ideal S40x8192 .bf16) (a1 : Vec Ideal S1x8192 .f32) : stored (F := Ideal) a0 a1 = Quant.codes (n := 8192) (K := 32) rfl (inp (F := Ideal) a0 a1) := by
  funext y
  unfold stored
  have h : View.PiecesOf (Quant.codes (n := 8192) (K := 32) rfl (inp (F := Ideal) a0 a1)) (pieces (F := Ideal) a0 a1) := ⟨fun y => Quant.piece (n := 8192) (K := 32) rfl (inp (F := Ideal) a0 a1) 31 7936 rfl slices_S40x8192_o0_7936_S40x256 hr hc hb inb_S40x8192_S40x256_0_7936 y,
    fun y => Quant.piece (n := 8192) (K := 32) rfl (inp (F := Ideal) a0 a1) 30 7680 rfl slices_S40x8192_o0_7680_S40x256 hr hc hb inb_S40x8192_S40x256_0_7680 y,
    fun y => Quant.piece (n := 8192) (K := 32) rfl (inp (F := Ideal) a0 a1) 29 7424 rfl slices_S40x8192_o0_7424_S40x256 hr hc hb inb_S40x8192_S40x256_0_7424 y,
    fun y => Quant.piece (n := 8192) (K := 32) rfl (inp (F := Ideal) a0 a1) 28 7168 rfl slices_S40x8192_o0_7168_S40x256 hr hc hb inb_S40x8192_S40x256_0_7168 y,
    fun y => Quant.piece (n := 8192) (K := 32) rfl (inp (F := Ideal) a0 a1) 27 6912 rfl slices_S40x8192_o0_6912_S40x256 hr hc hb inb_S40x8192_S40x256_0_6912 y,
    fun y => Quant.piece (n := 8192) (K := 32) rfl (inp (F := Ideal) a0 a1) 26 6656 rfl slices_S40x8192_o0_6656_S40x256 hr hc hb inb_S40x8192_S40x256_0_6656 y,
    fun y => Quant.piece (n := 8192) (K := 32) rfl (inp (F := Ideal) a0 a1) 25 6400 rfl slices_S40x8192_o0_6400_S40x256 hr hc hb inb_S40x8192_S40x256_0_6400 y,
    fun y => Quant.piece (n := 8192) (K := 32) rfl (inp (F := Ideal) a0 a1) 24 6144 rfl slices_S40x8192_o0_6144_S40x256 hr hc hb inb_S40x8192_S40x256_0_6144 y,
    fun y => Quant.piece (n := 8192) (K := 32) rfl (inp (F := Ideal) a0 a1) 23 5888 rfl slices_S40x8192_o0_5888_S40x256 hr hc hb inb_S40x8192_S40x256_0_5888 y,
    fun y => Quant.piece (n := 8192) (K := 32) rfl (inp (F := Ideal) a0 a1) 22 5632 rfl slices_S40x8192_o0_5632_S40x256 hr hc hb inb_S40x8192_S40x256_0_5632 y,
    fun y => Quant.piece (n := 8192) (K := 32) rfl (inp (F := Ideal) a0 a1) 21 5376 rfl slices_S40x8192_o0_5376_S40x256 hr hc hb inb_S40x8192_S40x256_0_5376 y,
    fun y => Quant.piece (n := 8192) (K := 32) rfl (inp (F := Ideal) a0 a1) 20 5120 rfl slices_S40x8192_o0_5120_S40x256 hr hc hb inb_S40x8192_S40x256_0_5120 y,
    fun y => Quant.piece (n := 8192) (K := 32) rfl (inp (F := Ideal) a0 a1) 19 4864 rfl slices_S40x8192_o0_4864_S40x256 hr hc hb inb_S40x8192_S40x256_0_4864 y,
    fun y => Quant.piece (n := 8192) (K := 32) rfl (inp (F := Ideal) a0 a1) 18 4608 rfl slices_S40x8192_o0_4608_S40x256 hr hc hb inb_S40x8192_S40x256_0_4608 y,
    fun y => Quant.piece (n := 8192) (K := 32) rfl (inp (F := Ideal) a0 a1) 17 4352 rfl slices_S40x8192_o0_4352_S40x256 hr hc hb inb_S40x8192_S40x256_0_4352 y,
    fun y => Quant.piece (n := 8192) (K := 32) rfl (inp (F := Ideal) a0 a1) 16 4096 rfl slices_S40x8192_o0_4096_S40x256 hr hc hb inb_S40x8192_S40x256_0_4096 y,
    fun y => Quant.piece (n := 8192) (K := 32) rfl (inp (F := Ideal) a0 a1) 15 3840 rfl slices_S40x8192_o0_3840_S40x256 hr hc hb inb_S40x8192_S40x256_0_3840 y,
    fun y => Quant.piece (n := 8192) (K := 32) rfl (inp (F := Ideal) a0 a1) 14 3584 rfl slices_S40x8192_o0_3584_S40x256 hr hc hb inb_S40x8192_S40x256_0_3584 y,
    fun y => Quant.piece (n := 8192) (K := 32) rfl (inp (F := Ideal) a0 a1) 13 3328 rfl slices_S40x8192_o0_3328_S40x256 hr hc hb inb_S40x8192_S40x256_0_3328 y,
    fun y => Quant.piece (n := 8192) (K := 32) rfl (inp (F := Ideal) a0 a1) 12 3072 rfl slices_S40x8192_o0_3072_S40x256 hr hc hb inb_S40x8192_S40x256_0_3072 y,
    fun y => Quant.piece (n := 8192) (K := 32) rfl (inp (F := Ideal) a0 a1) 11 2816 rfl slices_S40x8192_o0_2816_S40x256 hr hc hb inb_S40x8192_S40x256_0_2816 y,
    fun y => Quant.piece (n := 8192) (K := 32) rfl (inp (F := Ideal) a0 a1) 10 2560 rfl slices_S40x8192_o0_2560_S40x256 hr hc hb inb_S40x8192_S40x256_0_2560 y,
    fun y => Quant.piece (n := 8192) (K := 32) rfl (inp (F := Ideal) a0 a1) 9 2304 rfl slices_S40x8192_o0_2304_S40x256 hr hc hb inb_S40x8192_S40x256_0_2304 y,
    fun y => Quant.piece (n := 8192) (K := 32) rfl (inp (F := Ideal) a0 a1) 8 2048 rfl slices_S40x8192_o0_2048_S40x256 hr hc hb inb_S40x8192_S40x256_0_2048 y,
    fun y => Quant.piece (n := 8192) (K := 32) rfl (inp (F := Ideal) a0 a1) 7 1792 rfl slices_S40x8192_o0_1792_S40x256 hr hc hb inb_S40x8192_S40x256_0_1792 y,
    fun y => Quant.piece (n := 8192) (K := 32) rfl (inp (F := Ideal) a0 a1) 6 1536 rfl slices_S40x8192_o0_1536_S40x256 hr hc hb inb_S40x8192_S40x256_0_1536 y,
    fun y => Quant.piece (n := 8192) (K := 32) rfl (inp (F := Ideal) a0 a1) 5 1280 rfl slices_S40x8192_o0_1280_S40x256 hr hc hb inb_S40x8192_S40x256_0_1280 y,
    fun y => Quant.piece (n := 8192) (K := 32) rfl (inp (F := Ideal) a0 a1) 4 1024 rfl slices_S40x8192_o0_1024_S40x256 hr hc hb inb_S40x8192_S40x256_0_1024 y,
    fun y => Quant.piece (n := 8192) (K := 32) rfl (inp (F := Ideal) a0 a1) 3 768 rfl slices_S40x8192_o0_768_S40x256 hr hc hb inb_S40x8192_S40x256_0_768 y,
    fun y => Quant.piece (n := 8192) (K := 32) rfl (inp (F := Ideal) a0 a1) 2 512 rfl slices_S40x8192_o0_512_S40x256 hr hc hb inb_S40x8192_S40x256_0_512 y,
    fun y => Quant.piece (n := 8192) (K := 32) rfl (inp (F := Ideal) a0 a1) 1 256 rfl slices_S40x8192_o0_256_S40x256 hr hc hb inb_S40x8192_S40x256_0_256 y,
    fun y => Quant.piece (n := 8192) (K := 32) rfl (inp (F := Ideal) a0 a1) 0 0 rfl slices_S40x8192_o0_0_S40x256 hr hc hb inb_S40x8192_S40x256_0_0 y, trivial⟩
  exact View.canon_apply_of_pieces (Quant.codes (n := 8192) (K := 32) rfl (inp (F := Ideal) a0 a1)) _ h.mem y (cover0_2 _ _ _ _ _ _ _ _ _ _ _ _ _ _ _ _ _ _ _ _ _ _ _ _ _ _ _ _ _ _ _ _ y)

theorem table_scales (a0 : Vec Ideal S40x8192 .bf16) (a1 : Vec Ideal S1x8192 .f32) : table (F := Ideal) a0 a1 = Quant.scales (n := 8192) (K := 32) rfl (inp (F := Ideal) a0 a1) := by
  have h0 := Quant.Upto.zero (n := 8192) (K := 32) rfl (inp (F := Ideal) a0 a1) (Quant.none 32)
  have h1 := h0.next 0 (by decide) (by decide) 0 rfl slices_S40x8192_o0_0_S40x256 hr hc hi hq hp
  have h2 := h1.next 1 (by decide) (by decide) 256 rfl slices_S40x8192_o0_256_S40x256 hr hc hi hq hp
  have h3 := h2.next 2 (by decide) (by decide) 512 rfl slices_S40x8192_o0_512_S40x256 hr hc hi hq hp
  have h4 := h3.next 3 (by decide) (by decide) 768 rfl slices_S40x8192_o0_768_S40x256 hr hc hi hq hp
  have h5 := h4.next 4 (by decide) (by decide) 1024 rfl slices_S40x8192_o0_1024_S40x256 hr hc hi hq hp
  have h6 := h5.next 5 (by decide) (by decide) 1280 rfl slices_S40x8192_o0_1280_S40x256 hr hc hi hq hp
  have h7 := h6.next 6 (by decide) (by decide) 1536 rfl slices_S40x8192_o0_1536_S40x256 hr hc hi hq hp
  have h8 := h7.next 7 (by decide) (by decide) 1792 rfl slices_S40x8192_o0_1792_S40x256 hr hc hi hq hp
  have h9 := h8.next 8 (by decide) (by decide) 2048 rfl slices_S40x8192_o0_2048_S40x256 hr hc hi hq hp
  have h10 := h9.next 9 (by decide) (by decide) 2304 rfl slices_S40x8192_o0_2304_S40x256 hr hc hi hq hp
  have h11 := h10.next 10 (by decide) (by decide) 2560 rfl slices_S40x8192_o0_2560_S40x256 hr hc hi hq hp
  have h12 := h11.next 11 (by decide) (by decide) 2816 rfl slices_S40x8192_o0_2816_S40x256 hr hc hi hq hp
  have h13 := h12.next 12 (by decide) (by decide) 3072 rfl slices_S40x8192_o0_3072_S40x256 hr hc hi hq hp
  have h14 := h13.next 13 (by decide) (by decide) 3328 rfl slices_S40x8192_o0_3328_S40x256 hr hc hi hq hp
  have h15 := h14.next 14 (by decide) (by decide) 3584 rfl slices_S40x8192_o0_3584_S40x256 hr hc hi hq hp
  have h16 := h15.next 15 (by decide) (by decide) 3840 rfl slices_S40x8192_o0_3840_S40x256 hr hc hi hq hp
  have h17 := h16.next 16 (by decide) (by decide) 4096 rfl slices_S40x8192_o0_4096_S40x256 hr hc hi hq hp
  have h18 := h17.next 17 (by decide) (by decide) 4352 rfl slices_S40x8192_o0_4352_S40x256 hr hc hi hq hp
  have h19 := h18.next 18 (by decide) (by decide) 4608 rfl slices_S40x8192_o0_4608_S40x256 hr hc hi hq hp
  have h20 := h19.next 19 (by decide) (by decide) 4864 rfl slices_S40x8192_o0_4864_S40x256 hr hc hi hq hp
  have h21 := h20.next 20 (by decide) (by decide) 5120 rfl slices_S40x8192_o0_5120_S40x256 hr hc hi hq hp
  have h22 := h21.next 21 (by decide) (by decide) 5376 rfl slices_S40x8192_o0_5376_S40x256 hr hc hi hq hp
  have h23 := h22.next 22 (by decide) (by decide) 5632 rfl slices_S40x8192_o0_5632_S40x256 hr hc hi hq hp
  have h24 := h23.next 23 (by decide) (by decide) 5888 rfl slices_S40x8192_o0_5888_S40x256 hr hc hi hq hp
  have h25 := h24.next 24 (by decide) (by decide) 6144 rfl slices_S40x8192_o0_6144_S40x256 hr hc hi hq hp
  have h26 := h25.next 25 (by decide) (by decide) 6400 rfl slices_S40x8192_o0_6400_S40x256 hr hc hi hq hp
  have h27 := h26.next 26 (by decide) (by decide) 6656 rfl slices_S40x8192_o0_6656_S40x256 hr hc hi hq hp
  have h28 := h27.next 27 (by decide) (by decide) 6912 rfl slices_S40x8192_o0_6912_S40x256 hr hc hi hq hp
  have h29 := h28.next 28 (by decide) (by decide) 7168 rfl slices_S40x8192_o0_7168_S40x256 hr hc hi hq hp
  have h30 := h29.next 29 (by decide) (by decide) 7424 rfl slices_S40x8192_o0_7424_S40x256 hr hc hi hq hp
  have h31 := h30.next 30 (by decide) (by decide) 7680 rfl slices_S40x8192_o0_7680_S40x256 hr hc hi hq hp
  have h32 := h31.next 31 (by decide) (by decide) 7936 rfl slices_S40x8192_o0_7936_S40x256 hr hc hi hq hp
  exact h32.all

end Cert.XNormVal

end
-- ==== Proof.XNormRef.lean ====
/- Quantising the normalised input: the reference's arrays in named parts, and at an index. -/
module

public import proofs.«01_k».proof.Proof.Gen.XNormReferenceIdeal.Run
public import proofs.«01_k».proof.Proof.Quant

@[expose] public section

set_option maxRecDepth 100000

noncomputable section

namespace Cert.XNormRef

open Cert.XNormReferenceIdeal Cert.XNormReferenceIdeal.Gen Idealize.ShloMosaic Idealize.ShloMosaic.TcCoe Idealize.SL.Sem Idealize.ShloMosaic.StableHlo

variable {F : FTy → Type} [FloatOps F]

/-- The array to be quantised. -/
def inp (a0 : Vec F S40x8192 .bf16) (a1 : Vec F S8192 .f32) : FVec F S40x8192 .f32 := (mulf (Host.divf (extf .f32 a0 bitsLt_bf16_f32) (broadcastInDim S40x8192 ![0, 1] bcast_S40x1_S40x8192_0_1 (Host.sqrt (addf (Host.divf (broadcastInDim S40x1 ![0] bcast_S40_S40x1_0 (Host.reduceAdd (mulf (extf .f32 a0 bitsLt_bf16_f32) (extf .f32 a0 bitsLt_bf16_f32)) (constant S_ .f32 0x00000000#32) reducesTo_S40x8192_S40_d1 h_S_)) (broadcastInDim S40x1 ![] bcast_S_S40x1 (constant S_ .f32 0x46000000#32))) (broadcastInDim S40x1 ![] bcast_S_S40x1 (constant S_ .f32 0x3727C5AC#32)))))) (broadcastInDim S40x8192 ![0, 1] bcast_S1x8192_S40x8192_0_1 (broadcastInDim S1x8192 ![1] bcast_S8192_S1x8192_1 a1)))

/-- The largest magnitude of each block of 256 values. -/
def top (x : FVec F S40x8192 .f32) : FVec F S40x32 .f32 := Host.reduce FloatOps.maximumf (Host.absf (shapeCast _ x shapeCasts_S40x8192_S40x32x256)) (constant S_ .f32 0xFF800000#32) reducesTo_S40x32x256_S40x32_d2 h_S_

/-- The scale of each block, given its largest magnitude. -/
def scl (a : FVec F S40x32 .f32) : FVec F S40x32 .f32 := select (cmpf .oeq a (broadcastInDim S40x32 ![] bcast_S_S40x32 (constant S_ .f32 0x00000000#32))) (broadcastInDim S40x32 ![] bcast_S_S40x32 (id (constant S_ .f32 0x3F800000#32))) (Host.divf a (broadcastInDim S40x32 ![] bcast_S_S40x32 (constant S_ .f32 0x42FE0000#32)))

/-- The codes, given the scales. -/
def cod (x : FVec F S40x8192 .f32) (c : FVec F S40x32 .f32) : IVec S40x8192 8 := shapeCast _ (trunci 8 (fptosi 32 (minimumf (broadcastInDim S40x32x256 ![] bcast_S_S40x32x256 (sitofp .f32 (constantI S_ 32 127#32))) (maximumf (broadcastInDim S40x32x256 ![] bcast_S_S40x32x256 (sitofp .f32 (constantI S_ 32 4294967169#32))) (Host.roundeven (Host.divf (shapeCast _ x shapeCasts_S40x8192_S40x32x256) (broadcastInDim S40x32x256 ![0, 1, 2] bcast_S40x32x1_S40x32x256_0_1_2 (broadcastInDim S40x32x1 ![0, 1] bcast_S40x32_S40x32x1_0_1 (c)))))))) natLt_8_32) shapeCasts_S40x32x256_S40x8192

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = cod (inp (m ((c.tc : Thread nD τ).loc main_arg0)) (m ((c.tc : Thread nD τ).loc main_arg1))) (scl (top (inp (m ((c.tc : Thread nD τ).loc main_arg0)) (m ((c.tc : Thread nD τ).loc main_arg1)))))
      ∧ r.2.mem ((c.tc : Thread nD τ).loc main_v21) = scl (top (inp (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  simp only [cod, scl, top, inp]
  exact Cert.XNormReferenceIdeal.Value.run m ρ

theorem top_apply (x : FVec Ideal S40x8192 .f32) (i : Fin 40) (s : Fin 32) :
    top (F := Ideal) x (ix2 i s) = Quant.peak fun t => x (ix2 i (Quant.col (n := 8192) (K := 32) rfl s t)) := by
  unfold top
  pointwise
  exact (congrArg Quant.peak (funext fun t => congrArg (fun k => x (ix2 i k)) (Fin.ext (by show s.val * 256 + t.val = 256 * s.val + t.val; omega))) :
    Quant.peak (fun t => x (ix2 i ⟨s.val * 256 + t.val, by omega⟩)) = Quant.peak fun t => x (ix2 i (Quant.col (n := 8192) (K := 32) rfl s t)))

theorem scl_apply (a : FVec Ideal S40x32 .f32) (i : Fin 40) (s : Fin 32) : scl (F := Ideal) a (ix2 i s) = Quant.step (a (ix2 i s)) := by
  unfold scl
  simp only [id]
  pointwise
  rfl

theorem cod_apply (x : FVec Ideal S40x8192 .f32) (c : FVec Ideal S40x32 .f32) (i : Fin 40) (j : Fin 8192) :
    cod (F := Ideal) x c (ix2 i j) = Quant.code (x (ix2 i j)) (c (ix2 i ⟨j.val / 256, by omega⟩)) := by
  unfold cod
  pointwise
  exact Quant.code_wide _ _

theorem scales_eq (x : FVec Ideal S40x8192 .f32) : scl (F := Ideal) (top (F := Ideal) x) = Quant.scales (n := 8192) (K := 32) rfl x := by
  funext j
  have e : j = ix2 (j 0) (j 1) := by
    funext a
    match a with
    | ⟨0, _⟩ => rfl
    | ⟨1, _⟩ => rfl
  rw [e]
  exact (scl_apply _ (j 0) (j 1)).trans (congrArg Quant.step (top_apply x (j 0) (j 1)))

theorem codes_eq (x : FVec Ideal S40x8192 .f32) :
    cod (F := Ideal) x (scl (F := Ideal) (top (F := Ideal) x)) = Quant.codes (n := 8192) (K := 32) rfl x := by
  funext j
  have e : j = ix2 (j 0) (j 1) := by
    funext a
    match a with
    | ⟨0, _⟩ => rfl
    | ⟨1, _⟩ => rfl
  have hj : (j 1).val < 8192 := (j 1).isLt
  rw [scales_eq]
  refine (congrArg (cod (F := Ideal) x (Quant.scales (n := 8192) (K := 32) rfl x)) e).trans ?_
  refine (cod_apply x _ (j 0) (j 1)).trans ?_
  refine congrArg (fun k => Quant.code (x (ix2 (j 0) k)) (Quant.scale (n := 8192) (K := 32) rfl x (j 0) ⟨(j 1).val / 256, by omega⟩)) (Fin.ext ?_)
  show (j 1).val = 256 * ((j 1).val / 256) + (j 1).val % 256
  omega

end Cert.XNormRef

end
-- ==== Proof.XNormSame.lean ====
/- Quantising the normalised input: kernel and reference leave the same codes and scales. -/
module

public import proofs.«01_k».proof.Defs
public import proofs.«01_k».proof.Proof.XNormVal
public import proofs.«01_k».proof.Proof.XNormRef
public import Idealize.ShloMosaic.Adequacy
public import Idealize.ShloMosaic.Init

@[expose] public section

set_option maxRecDepth 100000

noncomputable section

namespace Cert.XNormVal

open Cert.XNormIdeal Cert.XNormIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! The one grid point's block of every window is the window's whole array. -/

theorem idx_zero0 : ∀ t : Fin cfg0.N, win0_0.index t (0 : Fin 2) = 0 ∧ win0_0.index t (1 : Fin 2) = 0 :=
  (by decide +kernel : ∀ t : Fin grid0.N, _)

theorem emb0 (t : Fin cfg0.N) (j : S40x8192.Idx) : ((cfg0.win 0).blk t).view.emb j = j := by
  obtain ⟨e0, e1⟩ := idx_zero0 t
  funext a; apply Fin.ext
  match a with
  | ⟨0, _⟩ => show win0_0.index t (0 : Fin 2) * 40 + 1 * (j 0).val = (j 0).val; omega
  | ⟨1, _⟩ => show win0_0.index t (1 : Fin 2) * 8192 + 1 * (j 1).val = (j 1).val; omega

theorem idx_zero1 : ∀ t : Fin cfg0.N, win0_1.index t (0 : Fin 2) = 0 ∧ win0_1.index t (1 : Fin 2) = 0 :=
  (by decide +kernel : ∀ t : Fin grid0.N, _)

theorem emb1 (t : Fin cfg0.N) (j : S1x8192.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S40x8192.Idx) : ((cfg0.win 2).blk t).view.emb j = j := by
  obtain ⟨e0, e1⟩ := idx_zero2 t
  funext a; apply Fin.ext
  match a with
  | ⟨0, _⟩ => show win0_2.index t (0 : Fin 2) * 40 + 1 * (j 0).val = (j 0).val; omega
  | ⟨1, _⟩ => show win0_2.index t (1 : Fin 2) * 8192 + 1 * (j 1).val = (j 1).val; omega

theorem idx_zero3 : ∀ t : Fin cfg0.N, win0_3.index t (0 : Fin 2) = 0 ∧ win0_3.index t (1 : Fin 2) = 0 :=
  (by decide +kernel : ∀ t : Fin grid0.N, _)

theorem emb3 (t : Fin cfg0.N) (j : S40x32.Idx) : ((cfg0.win 3).blk t).view.emb j = j := by
  obtain ⟨e0, e1⟩ := idx_zero3 t
  funext a; apply Fin.ext
  match a with
  | ⟨0, _⟩ => show win0_3.index t (0 : Fin 2) * 40 + 1 * (j 0).val = (j 0).val; omega
  | ⟨1, _⟩ => show win0_3.index t (1 : Fin 2) * 32 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem iblk1_eq (c : Dev nD) (t : Fin cfg0.N) : iblk m c 1 t = V m c main_v0 := by
  funext j; show V m c main_v0 (((cfg0.win 1).blk t).view.emb j) = V m c main_v0 j; rw [emb1]

/-- The gain as one row. -/
def row (g : Vec F S8192 .f32) : Vec F S1x8192 .f32 := shapeCast S1x8192 g shapeCasts_S8192_S1x8192

theorem V_main_v0 (c : Dev nD) : V m c main_v0 = row (m ((c : Thread nD τ).loc main_arg1)) := by
  show StableHlo.after hostOps0 (fun b => m (c, b)) _ = _
  simp only [hostOps0, List.flatten_cons, List.flatten_nil, List.append_nil, List.cons_append, List.nil_append]
  after_results
  rfl

theorem cut2_eq (t : Fin cfg0.N) (X : Vec F S40x8192 .i8) :
    (cfg0.win 2).cut (grid0.coords t) X = ((cfg0.win 2).blk t).view.read (Elt F) X := by
  funext j
  show X j = X (((cfg0.win 2).blk t).view.emb j)
  rw [emb2]

theorem flushed2_eq (c : Dev nD) (t : Fin cfg0.N) :
    (dats m 0 c).flushed 2 t = ((cfg0.win 2).blk t).view.read (Elt F) (stored (V m c main_arg0) (V m c main_v0)) := by
  show (cfg0.win 2).cut (grid0.coords t) ((dats m 0 c).after 2 t) = _
  rw [after0_2, stored_eq, iblk0_eq, iblk1_eq]
  exact cut2_eq t _

theorem covered2 (i : S40x8192.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

theorem final2 (c : Dev nD) : (dats m 0 c).arrAt 2 cfg0.N =
    stored (m ((c : Thread nD τ).loc main_arg0)) (row (m ((c : Thread nD τ).loc main_arg1))) :=
  ((dats m 0 c).arrAt_eq_of_cover 2 (stored (V m c main_arg0) (V m c main_v0)) (fun t _ => flushed2_eq m c t) covered2).trans
    (by rw [V_main_arg0, V_main_v0])

theorem cut3_eq (t : Fin cfg0.N) (X : Vec F S40x32 .f32) :
    (cfg0.win 3).cut (grid0.coords t) X = ((cfg0.win 3).blk t).view.read (Elt F) X := by
  funext j
  show X j = X (((cfg0.win 3).blk t).view.emb j)
  rw [emb3]

theorem flushed3_eq (c : Dev nD) (t : Fin cfg0.N) :
    (dats m 0 c).flushed 3 t = ((cfg0.win 3).blk t).view.read (Elt F) (table (V m c main_arg0) (V m c main_v0)) := by
  show (cfg0.win 3).cut (grid0.coords t) ((dats m 0 c).after 3 t) = _
  rw [after0_3, table_eq, iblk0_eq, iblk1_eq]
  exact cut3_eq t _

theorem covered3 (i : S40x32.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

theorem final3 (c : Dev nD) : (dats m 0 c).arrAt 3 cfg0.N =
    table (m ((c : Thread nD τ).loc main_arg0)) (row (m ((c : Thread nD τ).loc main_arg1))) :=
  ((dats m 0 c).arrAt_eq_of_cover 3 (table (V m c main_arg0) (V m c main_v0)) (fun t _ => flushed3_eq m c t) covered3).trans
    (by rw [V_main_arg0, V_main_v0])

end Cert.XNormVal

namespace Cert.XNormSame

open Cert.XNormIdeal Cert.XNormIdeal.Gen Idealize.ShloMosaic Idealize.ShloMosaic.TcCoe Idealize.SL.Sem

variable (m : (ℓ : Loc nD τ sig) → Buf (Elt Ideal) ℓ) (ρ : Dev nD → PrngReg)

/-- Both sides quantise the same array. -/
theorem inp_eq (a0 : Vec Ideal S40x8192 .bf16) (a1 : Vec Ideal S8192 .f32) : Cert.XNormVal.inp (F := Ideal) a0 (Cert.XNormVal.row a1) = Cert.XNormRef.inp (F := Ideal) a0 a1 := by
  unfold Cert.XNormVal.inp Cert.XNormRef.inp
  rw [View.ld_unit_zero (S := S40x8192) Quant.hz _ _, View.ld_unit_zero (S := S1x8192) Quant.hz _ _]
  funext j
  have e : j = ix2 (j 0) (j 1) := by
    funext a
    match a with
    | ⟨0, _⟩ => rfl
    | ⟨1, _⟩ => rfl
  rw [e]
  generalize (j 0 : Fin 40) = p
  generalize (j 1 : Fin 8192) = q
  unfold k0_pay1 Cert.XNormVal.row
  pointwise

/-- The kernel's run: the codes and scales it leaves, its arguments unchanged. -/
theorem run : θ_run defs (onTc (τ := τ) (main (F := Ideal))) ⟨m, fun _ => 0, ρ⟩ fun r => ∀ c : Dev nD,
      r.2.mem ((c : Thread nD τ).loc main_v1_0) = Cert.XNormVal.stored (F := Ideal) (m ((c : Thread nD τ).loc main_arg0)) (Cert.XNormVal.row (m ((c : Thread nD τ).loc main_arg1)))
      ∧ r.2.mem ((c : Thread nD τ).loc main_v1_1) = Cert.XNormVal.table (F := Ideal) (m ((c : Thread nD τ).loc main_arg0)) (Cert.XNormVal.row (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Cert.XNormIdeal.Value.post2 m r h c).trans (Cert.XNormVal.final2 m c), (Cert.XNormIdeal.Value.post3 m r h c).trans (Cert.XNormVal.final3 m c),
      Cert.XNormIdeal.Value.kept_main_arg0 m r h c, Cert.XNormIdeal.Value.kept_main_arg1 m r h c⟩) (run_main m ρ)

theorem frame_r : Cert.quiescent_XNormReferenceIdeal := by
  intro m ρ _
  exact (θ_run Cert.XNormReferenceIdeal.defs _ _).mono
    (fun r h => ⟨fun c => (h c).2.2, Idealize.ShloMosaic.sem_eq_zero_of_no_sems (by decide) r.2⟩)
    (Cert.XNormReferenceIdeal.Value.run m ρ)

theorem same_values : Cert.algebraic_XNormIdeal_XNormReferenceIdeal := by
  intro m ρ m' ρ' _ hargs
  refine ⟨fun c => Cert.XNormVal.stored (F := Ideal) (m ((c : Thread nD τ).loc main_arg0)) (Cert.XNormVal.row (m ((c : Thread nD τ).loc main_arg1))), fun c => Cert.XNormVal.table (F := Ideal) (m ((c : Thread nD τ).loc main_arg0)) (Cert.XNormVal.row (m ((c : Thread nD τ).loc main_arg1))), run m ρ, ?_⟩
  refine (θ_run Cert.XNormReferenceIdeal.defs _ _).mono (fun r h c => ?_) (Cert.XNormRef.run m' ρ')
  have ha := hargs c
  obtain ⟨a0, a1⟩ := ha
  refine ⟨(h c).1.trans ?_, (h c).2.1.trans ?_, (h c).2.2⟩
  · rw [Cert.XNormRef.codes_eq, a0, a1, ← inp_eq]
    exact (Cert.XNormVal.stored_codes _ _).symm
  · rw [Cert.XNormRef.scales_eq, a0, a1, ← inp_eq]
    exact (Cert.XNormVal.table_scales _ _).symm

end Cert.XNormSame

end
-- ==== Proof.HNormVal.lean ====
/- Quantising the normalised hidden state: what the kernel stores, block by block. -/
module

public import proofs.«01_k».proof.Proof.Gen.HNormIdeal.Value
public import proofs.«01_k».proof.Proof.Quant
public import Idealize.ShloMosaic.Lib.Pipeline.ReadBack

@[expose] public section

set_option maxRecDepth 100000

noncomputable section

namespace Cert.HNormVal

open Cert.HNormIdeal Cert.HNormIdeal.Gen Idealize.ShloMosaic Idealize.ShloMosaic.TcCoe Idealize.SL.Sem

variable {F : FTy → Type} [FloatOps F]

/-! The facts about shapes that every block uses. -/
theorem hr : S40x256.Reduces [1] S40 := reduces_S40x256_S40
theorem hc : S40.ShapeCasts S40x1 := shapeCasts_S40_S40x1
theorem hb : S40x1.Broadcasts S40x256 := broadcasts_S40x1_S40x256
theorem hi : S40x32.Iotas .tc 32 [1] := iota_S40x32_d1_w32
theorem hq : S40x1.ShapeCasts S40x1 := shapeCasts_S40x1_S40x1
theorem hp : S40x1.Broadcasts S40x32 := broadcasts_S40x1_S40x32

/-- The values that are quantised. -/
def inp (a0 : Vec F S40x8192 .f32) (a1 : Vec F S1x8192 .f32) : FVec F S40x8192 .f32 := k0_pay1 (View.ld a0 r0_0) (View.ld a1 r0_1)

/-- The stores of codes, the last first. -/
def pieces (a0 : Vec F S40x8192 .f32) (a1 : Vec F S1x8192 .f32) : List (View.Piece (Elt F) S40x8192 .i8) :=
  [⟨r0_33, Quant.cblk (inp a0 a1) 7936 slices_S40x8192_o0_7936_S40x256 hr hc hb⟩,
    ⟨r0_32, Quant.cblk (inp a0 a1) 7680 slices_S40x8192_o0_7680_S40x256 hr hc hb⟩,
    ⟨r0_31, Quant.cblk (inp a0 a1) 7424 slices_S40x8192_o0_7424_S40x256 hr hc hb⟩,
    ⟨r0_30, Quant.cblk (inp a0 a1) 7168 slices_S40x8192_o0_7168_S40x256 hr hc hb⟩,
    ⟨r0_29, Quant.cblk (inp a0 a1) 6912 slices_S40x8192_o0_6912_S40x256 hr hc hb⟩,
    ⟨r0_28, Quant.cblk (inp a0 a1) 6656 slices_S40x8192_o0_6656_S40x256 hr hc hb⟩,
    ⟨r0_27, Quant.cblk (inp a0 a1) 6400 slices_S40x8192_o0_6400_S40x256 hr hc hb⟩,
    ⟨r0_26, Quant.cblk (inp a0 a1) 6144 slices_S40x8192_o0_6144_S40x256 hr hc hb⟩,
    ⟨r0_25, Quant.cblk (inp a0 a1) 5888 slices_S40x8192_o0_5888_S40x256 hr hc hb⟩,
    ⟨r0_24, Quant.cblk (inp a0 a1) 5632 slices_S40x8192_o0_5632_S40x256 hr hc hb⟩,
    ⟨r0_23, Quant.cblk (inp a0 a1) 5376 slices_S40x8192_o0_5376_S40x256 hr hc hb⟩,
    ⟨r0_22, Quant.cblk (inp a0 a1) 5120 slices_S40x8192_o0_5120_S40x256 hr hc hb⟩,
    ⟨r0_21, Quant.cblk (inp a0 a1) 4864 slices_S40x8192_o0_4864_S40x256 hr hc hb⟩,
    ⟨r0_20, Quant.cblk (inp a0 a1) 4608 slices_S40x8192_o0_4608_S40x256 hr hc hb⟩,
    ⟨r0_19, Quant.cblk (inp a0 a1) 4352 slices_S40x8192_o0_4352_S40x256 hr hc hb⟩,
    ⟨r0_18, Quant.cblk (inp a0 a1) 4096 slices_S40x8192_o0_4096_S40x256 hr hc hb⟩,
    ⟨r0_17, Quant.cblk (inp a0 a1) 3840 slices_S40x8192_o0_3840_S40x256 hr hc hb⟩,
    ⟨r0_16, Quant.cblk (inp a0 a1) 3584 slices_S40x8192_o0_3584_S40x256 hr hc hb⟩,
    ⟨r0_15, Quant.cblk (inp a0 a1) 3328 slices_S40x8192_o0_3328_S40x256 hr hc hb⟩,
    ⟨r0_14, Quant.cblk (inp a0 a1) 3072 slices_S40x8192_o0_3072_S40x256 hr hc hb⟩,
    ⟨r0_13, Quant.cblk (inp a0 a1) 2816 slices_S40x8192_o0_2816_S40x256 hr hc hb⟩,
    ⟨r0_12, Quant.cblk (inp a0 a1) 2560 slices_S40x8192_o0_2560_S40x256 hr hc hb⟩,
    ⟨r0_11, Quant.cblk (inp a0 a1) 2304 slices_S40x8192_o0_2304_S40x256 hr hc hb⟩,
    ⟨r0_10, Quant.cblk (inp a0 a1) 2048 slices_S40x8192_o0_2048_S40x256 hr hc hb⟩,
    ⟨r0_9, Quant.cblk (inp a0 a1) 1792 slices_S40x8192_o0_1792_S40x256 hr hc hb⟩,
    ⟨r0_8, Quant.cblk (inp a0 a1) 1536 slices_S40x8192_o0_1536_S40x256 hr hc hb⟩,
    ⟨r0_7, Quant.cblk (inp a0 a1) 1280 slices_S40x8192_o0_1280_S40x256 hr hc hb⟩,
    ⟨r0_6, Quant.cblk (inp a0 a1) 1024 slices_S40x8192_o0_1024_S40x256 hr hc hb⟩,
    ⟨r0_5, Quant.cblk (inp a0 a1) 768 slices_S40x8192_o0_768_S40x256 hr hc hb⟩,
    ⟨r0_4, Quant.cblk (inp a0 a1) 512 slices_S40x8192_o0_512_S40x256 hr hc hb⟩,
    ⟨r0_3, Quant.cblk (inp a0 a1) 256 slices_S40x8192_o0_256_S40x256 hr hc hb⟩,
    ⟨r0_2, Quant.cblk (inp a0 a1) 0 slices_S40x8192_o0_0_S40x256 hr hc hb⟩]

/-- The codes as the kernel stores them. -/
def stored (a0 : Vec F S40x8192 .f32) (a1 : Vec F S1x8192 .f32) : Vec F S40x8192 .i8 := View.canon (pieces a0 a1)

/-- The scales as the kernel stores them. -/
def table (a0 : Vec F S40x8192 .f32) (a1 : Vec F S1x8192 .f32) : Vec F S40x32 .f32 :=
  (Quant.put 31#32 (Quant.sblk (inp a0 a1) 7936 slices_S40x8192_o0_7936_S40x256 hr hc)
    (Quant.put 30#32 (Quant.sblk (inp a0 a1) 7680 slices_S40x8192_o0_7680_S40x256 hr hc)
    (Quant.put 29#32 (Quant.sblk (inp a0 a1) 7424 slices_S40x8192_o0_7424_S40x256 hr hc)
    (Quant.put 28#32 (Quant.sblk (inp a0 a1) 7168 slices_S40x8192_o0_7168_S40x256 hr hc)
    (Quant.put 27#32 (Quant.sblk (inp a0 a1) 6912 slices_S40x8192_o0_6912_S40x256 hr hc)
    (Quant.put 26#32 (Quant.sblk (inp a0 a1) 6656 slices_S40x8192_o0_6656_S40x256 hr hc)
    (Quant.put 25#32 (Quant.sblk (inp a0 a1) 6400 slices_S40x8192_o0_6400_S40x256 hr hc)
    (Quant.put 24#32 (Quant.sblk (inp a0 a1) 6144 slices_S40x8192_o0_6144_S40x256 hr hc)
    (Quant.put 23#32 (Quant.sblk (inp a0 a1) 5888 slices_S40x8192_o0_5888_S40x256 hr hc)
    (Quant.put 22#32 (Quant.sblk (inp a0 a1) 5632 slices_S40x8192_o0_5632_S40x256 hr hc)
    (Quant.put 21#32 (Quant.sblk (inp a0 a1) 5376 slices_S40x8192_o0_5376_S40x256 hr hc)
    (Quant.put 20#32 (Quant.sblk (inp a0 a1) 5120 slices_S40x8192_o0_5120_S40x256 hr hc)
    (Quant.put 19#32 (Quant.sblk (inp a0 a1) 4864 slices_S40x8192_o0_4864_S40x256 hr hc)
    (Quant.put 18#32 (Quant.sblk (inp a0 a1) 4608 slices_S40x8192_o0_4608_S40x256 hr hc)
    (Quant.put 17#32 (Quant.sblk (inp a0 a1) 4352 slices_S40x8192_o0_4352_S40x256 hr hc)
    (Quant.put 16#32 (Quant.sblk (inp a0 a1) 4096 slices_S40x8192_o0_4096_S40x256 hr hc)
    (Quant.put 15#32 (Quant.sblk (inp a0 a1) 3840 slices_S40x8192_o0_3840_S40x256 hr hc)
    (Quant.put 14#32 (Quant.sblk (inp a0 a1) 3584 slices_S40x8192_o0_3584_S40x256 hr hc)
    (Quant.put 13#32 (Quant.sblk (inp a0 a1) 3328 slices_S40x8192_o0_3328_S40x256 hr hc)
    (Quant.put 12#32 (Quant.sblk (inp a0 a1) 3072 slices_S40x8192_o0_3072_S40x256 hr hc)
    (Quant.put 11#32 (Quant.sblk (inp a0 a1) 2816 slices_S40x8192_o0_2816_S40x256 hr hc)
    (Quant.put 10#32 (Quant.sblk (inp a0 a1) 2560 slices_S40x8192_o0_2560_S40x256 hr hc)
    (Quant.put 9#32 (Quant.sblk (inp a0 a1) 2304 slices_S40x8192_o0_2304_S40x256 hr hc)
    (Quant.put 8#32 (Quant.sblk (inp a0 a1) 2048 slices_S40x8192_o0_2048_S40x256 hr hc)
    (Quant.put 7#32 (Quant.sblk (inp a0 a1) 1792 slices_S40x8192_o0_1792_S40x256 hr hc)
    (Quant.put 6#32 (Quant.sblk (inp a0 a1) 1536 slices_S40x8192_o0_1536_S40x256 hr hc)
    (Quant.put 5#32 (Quant.sblk (inp a0 a1) 1280 slices_S40x8192_o0_1280_S40x256 hr hc)
    (Quant.put 4#32 (Quant.sblk (inp a0 a1) 1024 slices_S40x8192_o0_1024_S40x256 hr hc)
    (Quant.put 3#32 (Quant.sblk (inp a0 a1) 768 slices_S40x8192_o0_768_S40x256 hr hc)
    (Quant.put 2#32 (Quant.sblk (inp a0 a1) 512 slices_S40x8192_o0_512_S40x256 hr hc)
    (Quant.put 1#32 (Quant.sblk (inp a0 a1) 256 slices_S40x8192_o0_256_S40x256 hr hc)
    (Quant.put 0#32 (Quant.sblk (inp a0 a1) 0 slices_S40x8192_o0_0_S40x256 hr hc)
    (Quant.none 32)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)

set_option maxHeartbeats 4000000 in
theorem stored_eq (a0 : Vec F S40x8192 .f32) (a1 : Vec F S1x8192 .f32) : out0_2 (F := F) a0 a1 = stored a0 a1 := by
  unfold out0_2
  simp only [stored, inp, pieces, Quant.cblk, Quant.sblk, Quant.blk, Quant.scl, Quant.top, Quant.cod, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175]

set_option maxHeartbeats 4000000 in
theorem table_eq (a0 : Vec F S40x8192 .f32) (a1 : Vec F S1x8192 .f32) : out0_3 (F := F) a0 a1 = table a0 a1 := by
  unfold out0_3
  rw [View.canon_unit_zero Cert.Quant.hz]
  simp only [table, inp, Quant.put, Quant.none, Quant.sblk, Quant.blk, Quant.scl, Quant.top, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175]

theorem stored_codes (a0 : Vec Ideal S40x8192 .f32) (a1 : Vec Ideal S1x8192 .f32) : stored (F := Ideal) a0 a1 = Quant.codes (n := 8192) (K := 32) rfl (inp (F := Ideal) a0 a1) := by
  funext y
  unfold stored
  have h : View.PiecesOf (Quant.codes (n := 8192) (K := 32) rfl (inp (F := Ideal) a0 a1)) (pieces (F := Ideal) a0 a1) := ⟨fun y => Quant.piece (n := 8192) (K := 32) rfl (inp (F := Ideal) a0 a1) 31 7936 rfl slices_S40x8192_o0_7936_S40x256 hr hc hb inb_S40x8192_S40x256_0_7936 y,
    fun y => Quant.piece (n := 8192) (K := 32) rfl (inp (F := Ideal) a0 a1) 30 7680 rfl slices_S40x8192_o0_7680_S40x256 hr hc hb inb_S40x8192_S40x256_0_7680 y,
    fun y => Quant.piece (n := 8192) (K := 32) rfl (inp (F := Ideal) a0 a1) 29 7424 rfl slices_S40x8192_o0_7424_S40x256 hr hc hb inb_S40x8192_S40x256_0_7424 y,
    fun y => Quant.piece (n := 8192) (K := 32) rfl (inp (F := Ideal) a0 a1) 28 7168 rfl slices_S40x8192_o0_7168_S40x256 hr hc hb inb_S40x8192_S40x256_0_7168 y,
    fun y => Quant.piece (n := 8192) (K := 32) rfl (inp (F := Ideal) a0 a1) 27 6912 rfl slices_S40x8192_o0_6912_S40x256 hr hc hb inb_S40x8192_S40x256_0_6912 y,
    fun y => Quant.piece (n := 8192) (K := 32) rfl (inp (F := Ideal) a0 a1) 26 6656 rfl slices_S40x8192_o0_6656_S40x256 hr hc hb inb_S40x8192_S40x256_0_6656 y,
    fun y => Quant.piece (n := 8192) (K := 32) rfl (inp (F := Ideal) a0 a1) 25 6400 rfl slices_S40x8192_o0_6400_S40x256 hr hc hb inb_S40x8192_S40x256_0_6400 y,
    fun y => Quant.piece (n := 8192) (K := 32) rfl (inp (F := Ideal) a0 a1) 24 6144 rfl slices_S40x8192_o0_6144_S40x256 hr hc hb inb_S40x8192_S40x256_0_6144 y,
    fun y => Quant.piece (n := 8192) (K := 32) rfl (inp (F := Ideal) a0 a1) 23 5888 rfl slices_S40x8192_o0_5888_S40x256 hr hc hb inb_S40x8192_S40x256_0_5888 y,
    fun y => Quant.piece (n := 8192) (K := 32) rfl (inp (F := Ideal) a0 a1) 22 5632 rfl slices_S40x8192_o0_5632_S40x256 hr hc hb inb_S40x8192_S40x256_0_5632 y,
    fun y => Quant.piece (n := 8192) (K := 32) rfl (inp (F := Ideal) a0 a1) 21 5376 rfl slices_S40x8192_o0_5376_S40x256 hr hc hb inb_S40x8192_S40x256_0_5376 y,
    fun y => Quant.piece (n := 8192) (K := 32) rfl (inp (F := Ideal) a0 a1) 20 5120 rfl slices_S40x8192_o0_5120_S40x256 hr hc hb inb_S40x8192_S40x256_0_5120 y,
    fun y => Quant.piece (n := 8192) (K := 32) rfl (inp (F := Ideal) a0 a1) 19 4864 rfl slices_S40x8192_o0_4864_S40x256 hr hc hb inb_S40x8192_S40x256_0_4864 y,
    fun y => Quant.piece (n := 8192) (K := 32) rfl (inp (F := Ideal) a0 a1) 18 4608 rfl slices_S40x8192_o0_4608_S40x256 hr hc hb inb_S40x8192_S40x256_0_4608 y,
    fun y => Quant.piece (n := 8192) (K := 32) rfl (inp (F := Ideal) a0 a1) 17 4352 rfl slices_S40x8192_o0_4352_S40x256 hr hc hb inb_S40x8192_S40x256_0_4352 y,
    fun y => Quant.piece (n := 8192) (K := 32) rfl (inp (F := Ideal) a0 a1) 16 4096 rfl slices_S40x8192_o0_4096_S40x256 hr hc hb inb_S40x8192_S40x256_0_4096 y,
    fun y => Quant.piece (n := 8192) (K := 32) rfl (inp (F := Ideal) a0 a1) 15 3840 rfl slices_S40x8192_o0_3840_S40x256 hr hc hb inb_S40x8192_S40x256_0_3840 y,
    fun y => Quant.piece (n := 8192) (K := 32) rfl (inp (F := Ideal) a0 a1) 14 3584 rfl slices_S40x8192_o0_3584_S40x256 hr hc hb inb_S40x8192_S40x256_0_3584 y,
    fun y => Quant.piece (n := 8192) (K := 32) rfl (inp (F := Ideal) a0 a1) 13 3328 rfl slices_S40x8192_o0_3328_S40x256 hr hc hb inb_S40x8192_S40x256_0_3328 y,
    fun y => Quant.piece (n := 8192) (K := 32) rfl (inp (F := Ideal) a0 a1) 12 3072 rfl slices_S40x8192_o0_3072_S40x256 hr hc hb inb_S40x8192_S40x256_0_3072 y,
    fun y => Quant.piece (n := 8192) (K := 32) rfl (inp (F := Ideal) a0 a1) 11 2816 rfl slices_S40x8192_o0_2816_S40x256 hr hc hb inb_S40x8192_S40x256_0_2816 y,
    fun y => Quant.piece (n := 8192) (K := 32) rfl (inp (F := Ideal) a0 a1) 10 2560 rfl slices_S40x8192_o0_2560_S40x256 hr hc hb inb_S40x8192_S40x256_0_2560 y,
    fun y => Quant.piece (n := 8192) (K := 32) rfl (inp (F := Ideal) a0 a1) 9 2304 rfl slices_S40x8192_o0_2304_S40x256 hr hc hb inb_S40x8192_S40x256_0_2304 y,
    fun y => Quant.piece (n := 8192) (K := 32) rfl (inp (F := Ideal) a0 a1) 8 2048 rfl slices_S40x8192_o0_2048_S40x256 hr hc hb inb_S40x8192_S40x256_0_2048 y,
    fun y => Quant.piece (n := 8192) (K := 32) rfl (inp (F := Ideal) a0 a1) 7 1792 rfl slices_S40x8192_o0_1792_S40x256 hr hc hb inb_S40x8192_S40x256_0_1792 y,
    fun y => Quant.piece (n := 8192) (K := 32) rfl (inp (F := Ideal) a0 a1) 6 1536 rfl slices_S40x8192_o0_1536_S40x256 hr hc hb inb_S40x8192_S40x256_0_1536 y,
    fun y => Quant.piece (n := 8192) (K := 32) rfl (inp (F := Ideal) a0 a1) 5 1280 rfl slices_S40x8192_o0_1280_S40x256 hr hc hb inb_S40x8192_S40x256_0_1280 y,
    fun y => Quant.piece (n := 8192) (K := 32) rfl (inp (F := Ideal) a0 a1) 4 1024 rfl slices_S40x8192_o0_1024_S40x256 hr hc hb inb_S40x8192_S40x256_0_1024 y,
    fun y => Quant.piece (n := 8192) (K := 32) rfl (inp (F := Ideal) a0 a1) 3 768 rfl slices_S40x8192_o0_768_S40x256 hr hc hb inb_S40x8192_S40x256_0_768 y,
    fun y => Quant.piece (n := 8192) (K := 32) rfl (inp (F := Ideal) a0 a1) 2 512 rfl slices_S40x8192_o0_512_S40x256 hr hc hb inb_S40x8192_S40x256_0_512 y,
    fun y => Quant.piece (n := 8192) (K := 32) rfl (inp (F := Ideal) a0 a1) 1 256 rfl slices_S40x8192_o0_256_S40x256 hr hc hb inb_S40x8192_S40x256_0_256 y,
    fun y => Quant.piece (n := 8192) (K := 32) rfl (inp (F := Ideal) a0 a1) 0 0 rfl slices_S40x8192_o0_0_S40x256 hr hc hb inb_S40x8192_S40x256_0_0 y, trivial⟩
  exact View.canon_apply_of_pieces (Quant.codes (n := 8192) (K := 32) rfl (inp (F := Ideal) a0 a1)) _ h.mem y (cover0_2 _ _ _ _ _ _ _ _ _ _ _ _ _ _ _ _ _ _ _ _ _ _ _ _ _ _ _ _ _ _ _ _ y)

theorem table_scales (a0 : Vec Ideal S40x8192 .f32) (a1 : Vec Ideal S1x8192 .f32) : table (F := Ideal) a0 a1 = Quant.scales (n := 8192) (K := 32) rfl (inp (F := Ideal) a0 a1) := by
  have h0 := Quant.Upto.zero (n := 8192) (K := 32) rfl (inp (F := Ideal) a0 a1) (Quant.none 32)
  have h1 := h0.next 0 (by decide) (by decide) 0 rfl slices_S40x8192_o0_0_S40x256 hr hc hi hq hp
  have h2 := h1.next 1 (by decide) (by decide) 256 rfl slices_S40x8192_o0_256_S40x256 hr hc hi hq hp
  have h3 := h2.next 2 (by decide) (by decide) 512 rfl slices_S40x8192_o0_512_S40x256 hr hc hi hq hp
  have h4 := h3.next 3 (by decide) (by decide) 768 rfl slices_S40x8192_o0_768_S40x256 hr hc hi hq hp
  have h5 := h4.next 4 (by decide) (by decide) 1024 rfl slices_S40x8192_o0_1024_S40x256 hr hc hi hq hp
  have h6 := h5.next 5 (by decide) (by decide) 1280 rfl slices_S40x8192_o0_1280_S40x256 hr hc hi hq hp
  have h7 := h6.next 6 (by decide) (by decide) 1536 rfl slices_S40x8192_o0_1536_S40x256 hr hc hi hq hp
  have h8 := h7.next 7 (by decide) (by decide) 1792 rfl slices_S40x8192_o0_1792_S40x256 hr hc hi hq hp
  have h9 := h8.next 8 (by decide) (by decide) 2048 rfl slices_S40x8192_o0_2048_S40x256 hr hc hi hq hp
  have h10 := h9.next 9 (by decide) (by decide) 2304 rfl slices_S40x8192_o0_2304_S40x256 hr hc hi hq hp
  have h11 := h10.next 10 (by decide) (by decide) 2560 rfl slices_S40x8192_o0_2560_S40x256 hr hc hi hq hp
  have h12 := h11.next 11 (by decide) (by decide) 2816 rfl slices_S40x8192_o0_2816_S40x256 hr hc hi hq hp
  have h13 := h12.next 12 (by decide) (by decide) 3072 rfl slices_S40x8192_o0_3072_S40x256 hr hc hi hq hp
  have h14 := h13.next 13 (by decide) (by decide) 3328 rfl slices_S40x8192_o0_3328_S40x256 hr hc hi hq hp
  have h15 := h14.next 14 (by decide) (by decide) 3584 rfl slices_S40x8192_o0_3584_S40x256 hr hc hi hq hp
  have h16 := h15.next 15 (by decide) (by decide) 3840 rfl slices_S40x8192_o0_3840_S40x256 hr hc hi hq hp
  have h17 := h16.next 16 (by decide) (by decide) 4096 rfl slices_S40x8192_o0_4096_S40x256 hr hc hi hq hp
  have h18 := h17.next 17 (by decide) (by decide) 4352 rfl slices_S40x8192_o0_4352_S40x256 hr hc hi hq hp
  have h19 := h18.next 18 (by decide) (by decide) 4608 rfl slices_S40x8192_o0_4608_S40x256 hr hc hi hq hp
  have h20 := h19.next 19 (by decide) (by decide) 4864 rfl slices_S40x8192_o0_4864_S40x256 hr hc hi hq hp
  have h21 := h20.next 20 (by decide) (by decide) 5120 rfl slices_S40x8192_o0_5120_S40x256 hr hc hi hq hp
  have h22 := h21.next 21 (by decide) (by decide) 5376 rfl slices_S40x8192_o0_5376_S40x256 hr hc hi hq hp
  have h23 := h22.next 22 (by decide) (by decide) 5632 rfl slices_S40x8192_o0_5632_S40x256 hr hc hi hq hp
  have h24 := h23.next 23 (by decide) (by decide) 5888 rfl slices_S40x8192_o0_5888_S40x256 hr hc hi hq hp
  have h25 := h24.next 24 (by decide) (by decide) 6144 rfl slices_S40x8192_o0_6144_S40x256 hr hc hi hq hp
  have h26 := h25.next 25 (by decide) (by decide) 6400 rfl slices_S40x8192_o0_6400_S40x256 hr hc hi hq hp
  have h27 := h26.next 26 (by decide) (by decide) 6656 rfl slices_S40x8192_o0_6656_S40x256 hr hc hi hq hp
  have h28 := h27.next 27 (by decide) (by decide) 6912 rfl slices_S40x8192_o0_6912_S40x256 hr hc hi hq hp
  have h29 := h28.next 28 (by decide) (by decide) 7168 rfl slices_S40x8192_o0_7168_S40x256 hr hc hi hq hp
  have h30 := h29.next 29 (by decide) (by decide) 7424 rfl slices_S40x8192_o0_7424_S40x256 hr hc hi hq hp
  have h31 := h30.next 30 (by decide) (by decide) 7680 rfl slices_S40x8192_o0_7680_S40x256 hr hc hi hq hp
  have h32 := h31.next 31 (by decide) (by decide) 7936 rfl slices_S40x8192_o0_7936_S40x256 hr hc hi hq hp
  exact h32.all

end Cert.HNormVal

end
-- ==== Proof.HNormRef.lean ====
/- Quantising the normalised hidden state: the reference's arrays in named parts, and at an index. -/
module

public import proofs.«01_k».proof.Proof.Gen.HNormReferenceIdeal.Run
public import proofs.«01_k».proof.Proof.Quant

@[expose] public section

set_option maxRecDepth 100000

noncomputable section

namespace Cert.HNormRef

open Cert.HNormReferenceIdeal Cert.HNormReferenceIdeal.Gen Idealize.ShloMosaic Idealize.ShloMosaic.TcCoe Idealize.SL.Sem Idealize.ShloMosaic.StableHlo

variable {F : FTy → Type} [FloatOps F]

/-- The array to be quantised. -/
def inp (a0 : Vec F S40x8192 .f32) (a1 : Vec F S8192 .f32) : FVec F S40x8192 .f32 := (mulf (Host.divf a0 (broadcastInDim S40x8192 ![0, 1] bcast_S40x1_S40x8192_0_1 (Host.sqrt (addf (Host.divf (broadcastInDim S40x1 ![0] bcast_S40_S40x1_0 (Host.reduceAdd (mulf a0 a0) (constant S_ .f32 0x00000000#32) reducesTo_S40x8192_S40_d1 h_S_)) (broadcastInDim S40x1 ![] bcast_S_S40x1 (constant S_ .f32 0x46000000#32))) (broadcastInDim S40x1 ![] bcast_S_S40x1 (constant S_ .f32 0x3727C5AC#32)))))) (broadcastInDim S40x8192 ![0, 1] bcast_S1x8192_S40x8192_0_1 (broadcastInDim S1x8192 ![1] bcast_S8192_S1x8192_1 a1)))

/-- The largest magnitude of each block of 256 values. -/
def top (x : FVec F S40x8192 .f32) : FVec F S40x32 .f32 := Host.reduce FloatOps.maximumf (Host.absf (shapeCast _ x shapeCasts_S40x8192_S40x32x256)) (constant S_ .f32 0xFF800000#32) reducesTo_S40x32x256_S40x32_d2 h_S_

/-- The scale of each block, given its largest magnitude. -/
def scl (a : FVec F S40x32 .f32) : FVec F S40x32 .f32 := select (cmpf .oeq a (broadcastInDim S40x32 ![] bcast_S_S40x32 (constant S_ .f32 0x00000000#32))) (broadcastInDim S40x32 ![] bcast_S_S40x32 (id (constant S_ .f32 0x3F800000#32))) (Host.divf a (broadcastInDim S40x32 ![] bcast_S_S40x32 (constant S_ .f32 0x42FE0000#32)))

/-- The codes, given the scales. -/
def cod (x : FVec F S40x8192 .f32) (c : FVec F S40x32 .f32) : IVec S40x8192 8 := shapeCast _ (trunci 8 (fptosi 32 (minimumf (broadcastInDim S40x32x256 ![] bcast_S_S40x32x256 (sitofp .f32 (constantI S_ 32 127#32))) (maximumf (broadcastInDim S40x32x256 ![] bcast_S_S40x32x256 (sitofp .f32 (constantI S_ 32 4294967169#32))) (Host.roundeven (Host.divf (shapeCast _ x shapeCasts_S40x8192_S40x32x256) (broadcastInDim S40x32x256 ![0, 1, 2] bcast_S40x32x1_S40x32x256_0_1_2 (broadcastInDim S40x32x1 ![0, 1] bcast_S40x32_S40x32x1_0_1 (c)))))))) natLt_8_32) shapeCasts_S40x32x256_S40x8192

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = cod (inp (m ((c.tc : Thread nD τ).loc main_arg0)) (m ((c.tc : Thread nD τ).loc main_arg1))) (scl (top (inp (m ((c.tc : Thread nD τ).loc main_arg0)) (m ((c.tc : Thread nD τ).loc main_arg1)))))
      ∧ r.2.mem ((c.tc : Thread nD τ).loc main_v20) = scl (top (inp (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  simp only [cod, scl, top, inp]
  exact Cert.HNormReferenceIdeal.Value.run m ρ

theorem top_apply (x : FVec Ideal S40x8192 .f32) (i : Fin 40) (s : Fin 32) :
    top (F := Ideal) x (ix2 i s) = Quant.peak fun t => x (ix2 i (Quant.col (n := 8192) (K := 32) rfl s t)) := by
  unfold top
  pointwise
  exact (congrArg Quant.peak (funext fun t => congrArg (fun k => x (ix2 i k)) (Fin.ext (by show s.val * 256 + t.val = 256 * s.val + t.val; omega))) :
    Quant.peak (fun t => x (ix2 i ⟨s.val * 256 + t.val, by omega⟩)) = Quant.peak fun t => x (ix2 i (Quant.col (n := 8192) (K := 32) rfl s t)))

theorem scl_apply (a : FVec Ideal S40x32 .f32) (i : Fin 40) (s : Fin 32) : scl (F := Ideal) a (ix2 i s) = Quant.step (a (ix2 i s)) := by
  unfold scl
  simp only [id]
  pointwise
  rfl

theorem cod_apply (x : FVec Ideal S40x8192 .f32) (c : FVec Ideal S40x32 .f32) (i : Fin 40) (j : Fin 8192) :
    cod (F := Ideal) x c (ix2 i j) = Quant.code (x (ix2 i j)) (c (ix2 i ⟨j.val / 256, by omega⟩)) := by
  unfold cod
  pointwise
  exact Quant.code_wide _ _

theorem scales_eq (x : FVec Ideal S40x8192 .f32) : scl (F := Ideal) (top (F := Ideal) x) = Quant.scales (n := 8192) (K := 32) rfl x := by
  funext j
  have e : j = ix2 (j 0) (j 1) := by
    funext a
    match a with
    | ⟨0, _⟩ => rfl
    | ⟨1, _⟩ => rfl
  rw [e]
  exact (scl_apply _ (j 0) (j 1)).trans (congrArg Quant.step (top_apply x (j 0) (j 1)))

theorem codes_eq (x : FVec Ideal S40x8192 .f32) :
    cod (F := Ideal) x (scl (F := Ideal) (top (F := Ideal) x)) = Quant.codes (n := 8192) (K := 32) rfl x := by
  funext j
  have e : j = ix2 (j 0) (j 1) := by
    funext a
    match a with
    | ⟨0, _⟩ => rfl
    | ⟨1, _⟩ => rfl
  have hj : (j 1).val < 8192 := (j 1).isLt
  rw [scales_eq]
  refine (congrArg (cod (F := Ideal) x (Quant.scales (n := 8192) (K := 32) rfl x)) e).trans ?_
  refine (cod_apply x _ (j 0) (j 1)).trans ?_
  refine congrArg (fun k => Quant.code (x (ix2 (j 0) k)) (Quant.scale (n := 8192) (K := 32) rfl x (j 0) ⟨(j 1).val / 256, by omega⟩)) (Fin.ext ?_)
  show (j 1).val = 256 * ((j 1).val / 256) + (j 1).val % 256
  omega

end Cert.HNormRef

end
-- ==== Proof.HNormSame.lean ====
/- Quantising the normalised hidden state: kernel and reference leave the same codes and scales. -/
module

public import proofs.«01_k».proof.Defs
public import proofs.«01_k».proof.Proof.HNormVal
public import proofs.«01_k».proof.Proof.HNormRef
public import Idealize.ShloMosaic.Adequacy
public import Idealize.ShloMosaic.Init

@[expose] public section

set_option maxRecDepth 100000

noncomputable section

namespace Cert.HNormVal

open Cert.HNormIdeal Cert.HNormIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! The one grid point's block of every window is the window's whole array. -/

theorem idx_zero0 : ∀ t : Fin cfg0.N, win0_0.index t (0 : Fin 2) = 0 ∧ win0_0.index t (1 : Fin 2) = 0 :=
  (by decide +kernel : ∀ t : Fin grid0.N, _)

theorem emb0 (t : Fin cfg0.N) (j : S40x8192.Idx) : ((cfg0.win 0).blk t).view.emb j = j := by
  obtain ⟨e0, e1⟩ := idx_zero0 t
  funext a; apply Fin.ext
  match a with
  | ⟨0, _⟩ => show win0_0.index t (0 : Fin 2) * 40 + 1 * (j 0).val = (j 0).val; omega
  | ⟨1, _⟩ => show win0_0.index t (1 : Fin 2) * 8192 + 1 * (j 1).val = (j 1).val; omega

theorem idx_zero1 : ∀ t : Fin cfg0.N, win0_1.index t (0 : Fin 2) = 0 ∧ win0_1.index t (1 : Fin 2) = 0 :=
  (by decide +kernel : ∀ t : Fin grid0.N, _)

theorem emb1 (t : Fin cfg0.N) (j : S1x8192.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S40x8192.Idx) : ((cfg0.win 2).blk t).view.emb j = j := by
  obtain ⟨e0, e1⟩ := idx_zero2 t
  funext a; apply Fin.ext
  match a with
  | ⟨0, _⟩ => show win0_2.index t (0 : Fin 2) * 40 + 1 * (j 0).val = (j 0).val; omega
  | ⟨1, _⟩ => show win0_2.index t (1 : Fin 2) * 8192 + 1 * (j 1).val = (j 1).val; omega

theorem idx_zero3 : ∀ t : Fin cfg0.N, win0_3.index t (0 : Fin 2) = 0 ∧ win0_3.index t (1 : Fin 2) = 0 :=
  (by decide +kernel : ∀ t : Fin grid0.N, _)

theorem emb3 (t : Fin cfg0.N) (j : S40x32.Idx) : ((cfg0.win 3).blk t).view.emb j = j := by
  obtain ⟨e0, e1⟩ := idx_zero3 t
  funext a; apply Fin.ext
  match a with
  | ⟨0, _⟩ => show win0_3.index t (0 : Fin 2) * 40 + 1 * (j 0).val = (j 0).val; omega
  | ⟨1, _⟩ => show win0_3.index t (1 : Fin 2) * 32 + 1 * (j 1).val = (j 1).val; omega

theorem iblk0_eq (c : Dev nD) (t : Fin cfg0.N) : iblk m c 0 t = V m c main_arg0 := by
  funext j; show V m c main_arg0 (((cfg0.win 0).blk t).view.emb j) = V m c main_arg0 j; rw [emb0]

theorem iblk1_eq (c : Dev nD) (t : Fin cfg0.N) : iblk m c 1 t = V m c main_v0 := by
  funext j; show V m c main_v0 (((cfg0.win 1).blk t).view.emb j) = V m c main_v0 j; rw [emb1]

/-- The gain as one row. -/
def row (g : Vec F S8192 .f32) : Vec F S1x8192 .f32 := shapeCast S1x8192 g shapeCasts_S8192_S1x8192

theorem V_main_v0 (c : Dev nD) : V m c main_v0 = row (m ((c : Thread nD τ).loc main_arg1)) := by
  show StableHlo.after hostOps0 (fun b => m (c, b)) _ = _
  simp only [hostOps0, List.flatten_cons, List.flatten_nil, List.append_nil, List.cons_append, List.nil_append]
  after_results
  rfl

theorem cut2_eq (t : Fin cfg0.N) (X : Vec F S40x8192 .i8) :
    (cfg0.win 2).cut (grid0.coords t) X = ((cfg0.win 2).blk t).view.read (Elt F) X := by
  funext j
  show X j = X (((cfg0.win 2).blk t).view.emb j)
  rw [emb2]

theorem flushed2_eq (c : Dev nD) (t : Fin cfg0.N) :
    (dats m 0 c).flushed 2 t = ((cfg0.win 2).blk t).view.read (Elt F) (stored (V m c main_arg0) (V m c main_v0)) := by
  show (cfg0.win 2).cut (grid0.coords t) ((dats m 0 c).after 2 t) = _
  rw [after0_2, stored_eq, iblk0_eq, iblk1_eq]
  exact cut2_eq t _

theorem covered2 (i : S40x8192.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

theorem final2 (c : Dev nD) : (dats m 0 c).arrAt 2 cfg0.N =
    stored (m ((c : Thread nD τ).loc main_arg0)) (row (m ((c : Thread nD τ).loc main_arg1))) :=
  ((dats m 0 c).arrAt_eq_of_cover 2 (stored (V m c main_arg0) (V m c main_v0)) (fun t _ => flushed2_eq m c t) covered2).trans
    (by rw [V_main_arg0, V_main_v0])

theorem cut3_eq (t : Fin cfg0.N) (X : Vec F S40x32 .f32) :
    (cfg0.win 3).cut (grid0.coords t) X = ((cfg0.win 3).blk t).view.read (Elt F) X := by
  funext j
  show X j = X (((cfg0.win 3).blk t).view.emb j)
  rw [emb3]

theorem flushed3_eq (c : Dev nD) (t : Fin cfg0.N) :
    (dats m 0 c).flushed 3 t = ((cfg0.win 3).blk t).view.read (Elt F) (table (V m c main_arg0) (V m c main_v0)) := by
  show (cfg0.win 3).cut (grid0.coords t) ((dats m 0 c).after 3 t) = _
  rw [after0_3, table_eq, iblk0_eq, iblk1_eq]
  exact cut3_eq t _

theorem covered3 (i : S40x32.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

theorem final3 (c : Dev nD) : (dats m 0 c).arrAt 3 cfg0.N =
    table (m ((c : Thread nD τ).loc main_arg0)) (row (m ((c : Thread nD τ).loc main_arg1))) :=
  ((dats m 0 c).arrAt_eq_of_cover 3 (table (V m c main_arg0) (V m c main_v0)) (fun t _ => flushed3_eq m c t) covered3).trans
    (by rw [V_main_arg0, V_main_v0])

end Cert.HNormVal

namespace Cert.HNormSame

open Cert.HNormIdeal Cert.HNormIdeal.Gen Idealize.ShloMosaic Idealize.ShloMosaic.TcCoe Idealize.SL.Sem

variable (m : (ℓ : Loc nD τ sig) → Buf (Elt Ideal) ℓ) (ρ : Dev nD → PrngReg)

/-- Both sides quantise the same array. -/
theorem inp_eq (a0 : Vec Ideal S40x8192 .f32) (a1 : Vec Ideal S8192 .f32) : Cert.HNormVal.inp (F := Ideal) a0 (Cert.HNormVal.row a1) = Cert.HNormRef.inp (F := Ideal) a0 a1 := by
  unfold Cert.HNormVal.inp Cert.HNormRef.inp
  rw [View.ld_unit_zero (S := S40x8192) Quant.hz _ _, View.ld_unit_zero (S := S1x8192) Quant.hz _ _]
  funext j
  have e : j = ix2 (j 0) (j 1) := by
    funext a
    match a with
    | ⟨0, _⟩ => rfl
    | ⟨1, _⟩ => rfl
  rw [e]
  generalize (j 0 : Fin 40) = p
  generalize (j 1 : Fin 8192) = q
  unfold k0_pay1 Cert.HNormVal.row
  pointwise

/-- The kernel's run: the codes and scales it leaves, its arguments unchanged. -/
theorem run : θ_run defs (onTc (τ := τ) (main (F := Ideal))) ⟨m, fun _ => 0, ρ⟩ fun r => ∀ c : Dev nD,
      r.2.mem ((c : Thread nD τ).loc main_v1_0) = Cert.HNormVal.stored (F := Ideal) (m ((c : Thread nD τ).loc main_arg0)) (Cert.HNormVal.row (m ((c : Thread nD τ).loc main_arg1)))
      ∧ r.2.mem ((c : Thread nD τ).loc main_v1_1) = Cert.HNormVal.table (F := Ideal) (m ((c : Thread nD τ).loc main_arg0)) (Cert.HNormVal.row (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Cert.HNormIdeal.Value.post2 m r h c).trans (Cert.HNormVal.final2 m c), (Cert.HNormIdeal.Value.post3 m r h c).trans (Cert.HNormVal.final3 m c),
      Cert.HNormIdeal.Value.kept_main_arg0 m r h c, Cert.HNormIdeal.Value.kept_main_arg1 m r h c⟩) (run_main m ρ)

theorem frame_r : Cert.quiescent_HNormReferenceIdeal := by
  intro m ρ _
  exact (θ_run Cert.HNormReferenceIdeal.defs _ _).mono
    (fun r h => ⟨fun c => (h c).2.2, Idealize.ShloMosaic.sem_eq_zero_of_no_sems (by decide) r.2⟩)
    (Cert.HNormReferenceIdeal.Value.run m ρ)

theorem same_values : Cert.algebraic_HNormIdeal_HNormReferenceIdeal := by
  intro m ρ m' ρ' _ hargs
  refine ⟨fun c => Cert.HNormVal.stored (F := Ideal) (m ((c : Thread nD τ).loc main_arg0)) (Cert.HNormVal.row (m ((c : Thread nD τ).loc main_arg1))), fun c => Cert.HNormVal.table (F := Ideal) (m ((c : Thread nD τ).loc main_arg0)) (Cert.HNormVal.row (m ((c : Thread nD τ).loc main_arg1))), run m ρ, ?_⟩
  refine (θ_run Cert.HNormReferenceIdeal.defs _ _).mono (fun r h c => ?_) (Cert.HNormRef.run m' ρ')
  have ha := hargs c
  obtain ⟨a0, a1⟩ := ha
  refine ⟨(h c).1.trans ?_, (h c).2.1.trans ?_, (h c).2.2⟩
  · rw [Cert.HNormRef.codes_eq, a0, a1, ← inp_eq]
    exact (Cert.HNormVal.stored_codes _ _).symm
  · rw [Cert.HNormRef.scales_eq, a0, a1, ← inp_eq]
    exact (Cert.HNormVal.table_scales _ _).symm

end Cert.HNormSame

end
-- ==== Proof.AttnQuantVal.lean ====
/- Quantising the attention output: what the kernel stores, block by block. -/
module

public import proofs.«01_k».proof.Proof.Gen.AttnQuantIdeal.Value
public import proofs.«01_k».proof.Proof.Quant
public import Idealize.ShloMosaic.Lib.Pipeline.ReadBack

@[expose] public section

set_option maxRecDepth 100000

noncomputable section

namespace Cert.AttnQuantVal

open Cert.AttnQuantIdeal Cert.AttnQuantIdeal.Gen Idealize.ShloMosaic Idealize.ShloMosaic.TcCoe Idealize.SL.Sem

variable {F : FTy → Type} [FloatOps F]

/-! The facts about shapes that every block uses. -/
theorem hr : S40x256.Reduces [1] S40 := reduces_S40x256_S40
theorem hc : S40.ShapeCasts S40x1 := shapeCasts_S40_S40x1
theorem hb : S40x1.Broadcasts S40x256 := broadcasts_S40x1_S40x256
theorem hi : S40x8.Iotas .tc 32 [1] := iota_S40x8_d1_w32
theorem hq : S40x1.ShapeCasts S40x1 := shapeCasts_S40x1_S40x1
theorem hp : S40x1.Broadcasts S40x8 := broadcasts_S40x1_S40x8

/-- The values that are quantised. -/
def inp (a0 : Vec F S40x2048 .f32) : FVec F S40x2048 .f32 := (View.ld a0 r0_0)

/-- The stores of codes, the last first. -/
def pieces (a0 : Vec F S40x2048 .f32) : List (View.Piece (Elt F) S40x2048 .i8) :=
  [⟨r0_8, Quant.cblk (inp a0) 1792 slices_S40x2048_o0_1792_S40x256 hr hc hb⟩,
    ⟨r0_7, Quant.cblk (inp a0) 1536 slices_S40x2048_o0_1536_S40x256 hr hc hb⟩,
    ⟨r0_6, Quant.cblk (inp a0) 1280 slices_S40x2048_o0_1280_S40x256 hr hc hb⟩,
    ⟨r0_5, Quant.cblk (inp a0) 1024 slices_S40x2048_o0_1024_S40x256 hr hc hb⟩,
    ⟨r0_4, Quant.cblk (inp a0) 768 slices_S40x2048_o0_768_S40x256 hr hc hb⟩,
    ⟨r0_3, Quant.cblk (inp a0) 512 slices_S40x2048_o0_512_S40x256 hr hc hb⟩,
    ⟨r0_2, Quant.cblk (inp a0) 256 slices_S40x2048_o0_256_S40x256 hr hc hb⟩,
    ⟨r0_1, Quant.cblk (inp a0) 0 slices_S40x2048_o0_0_S40x256 hr hc hb⟩]

/-- The codes as the kernel stores them. -/
def stored (a0 : Vec F S40x2048 .f32) : Vec F S40x2048 .i8 := View.canon (pieces a0)

/-- The scales as the kernel stores them. -/
def table (a0 : Vec F S40x2048 .f32) : Vec F S40x8 .f32 :=
  (Quant.put 7#32 (Quant.sblk (inp a0) 1792 slices_S40x2048_o0_1792_S40x256 hr hc)
    (Quant.put 6#32 (Quant.sblk (inp a0) 1536 slices_S40x2048_o0_1536_S40x256 hr hc)
    (Quant.put 5#32 (Quant.sblk (inp a0) 1280 slices_S40x2048_o0_1280_S40x256 hr hc)
    (Quant.put 4#32 (Quant.sblk (inp a0) 1024 slices_S40x2048_o0_1024_S40x256 hr hc)
    (Quant.put 3#32 (Quant.sblk (inp a0) 768 slices_S40x2048_o0_768_S40x256 hr hc)
    (Quant.put 2#32 (Quant.sblk (inp a0) 512 slices_S40x2048_o0_512_S40x256 hr hc)
    (Quant.put 1#32 (Quant.sblk (inp a0) 256 slices_S40x2048_o0_256_S40x256 hr hc)
    (Quant.put 0#32 (Quant.sblk (inp a0) 0 slices_S40x2048_o0_0_S40x256 hr hc)
    (Quant.none 8)
    hi hq hp)
    hi hq hp)
    hi hq hp)
    hi hq hp)
    hi hq hp)
    hi hq hp)
    hi hq hp)
    hi hq hp)

set_option maxHeartbeats 4000000 in
theorem stored_eq (a0 : Vec F S40x2048 .f32) : out0_1 (F := F) a0 = stored a0 := by
  unfold out0_1
  simp only [stored, inp, pieces, Quant.cblk, Quant.sblk, Quant.blk, Quant.scl, Quant.top, Quant.cod, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]

set_option maxHeartbeats 4000000 in
theorem table_eq (a0 : Vec F S40x2048 .f32) : out0_2 (F := F) a0 = table a0 := by
  unfold out0_2
  rw [View.canon_unit_zero Cert.Quant.hz]
  simp only [table, inp, Quant.put, Quant.none, Quant.sblk, Quant.blk, Quant.scl, Quant.top, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34]

theorem stored_codes (a0 : Vec Ideal S40x2048 .f32) : stored (F := Ideal) a0 = Quant.codes (n := 2048) (K := 8) rfl (inp (F := Ideal) a0) := by
  funext y
  unfold stored
  have h : View.PiecesOf (Quant.codes (n := 2048) (K := 8) rfl (inp (F := Ideal) a0)) (pieces (F := Ideal) a0) := ⟨fun y => Quant.piece (n := 2048) (K := 8) rfl (inp (F := Ideal) a0) 7 1792 rfl slices_S40x2048_o0_1792_S40x256 hr hc hb inb_S40x2048_S40x256_0_1792 y,
    fun y => Quant.piece (n := 2048) (K := 8) rfl (inp (F := Ideal) a0) 6 1536 rfl slices_S40x2048_o0_1536_S40x256 hr hc hb inb_S40x2048_S40x256_0_1536 y,
    fun y => Quant.piece (n := 2048) (K := 8) rfl (inp (F := Ideal) a0) 5 1280 rfl slices_S40x2048_o0_1280_S40x256 hr hc hb inb_S40x2048_S40x256_0_1280 y,
    fun y => Quant.piece (n := 2048) (K := 8) rfl (inp (F := Ideal) a0) 4 1024 rfl slices_S40x2048_o0_1024_S40x256 hr hc hb inb_S40x2048_S40x256_0_1024 y,
    fun y => Quant.piece (n := 2048) (K := 8) rfl (inp (F := Ideal) a0) 3 768 rfl slices_S40x2048_o0_768_S40x256 hr hc hb inb_S40x2048_S40x256_0_768 y,
    fun y => Quant.piece (n := 2048) (K := 8) rfl (inp (F := Ideal) a0) 2 512 rfl slices_S40x2048_o0_512_S40x256 hr hc hb inb_S40x2048_S40x256_0_512 y,
    fun y => Quant.piece (n := 2048) (K := 8) rfl (inp (F := Ideal) a0) 1 256 rfl slices_S40x2048_o0_256_S40x256 hr hc hb inb_S40x2048_S40x256_0_256 y,
    fun y => Quant.piece (n := 2048) (K := 8) rfl (inp (F := Ideal) a0) 0 0 rfl slices_S40x2048_o0_0_S40x256 hr hc hb inb_S40x2048_S40x256_0_0 y, trivial⟩
  exact View.canon_apply_of_pieces (Quant.codes (n := 2048) (K := 8) rfl (inp (F := Ideal) a0)) _ h.mem y (cover0_1 _ _ _ _ _ _ _ _ y)

theorem table_scales (a0 : Vec Ideal S40x2048 .f32) : table (F := Ideal) a0 = Quant.scales (n := 2048) (K := 8) rfl (inp (F := Ideal) a0) := by
  have h0 := Quant.Upto.zero (n := 2048) (K := 8) rfl (inp (F := Ideal) a0) (Quant.none 8)
  have h1 := h0.next 0 (by decide) (by decide) 0 rfl slices_S40x2048_o0_0_S40x256 hr hc hi hq hp
  have h2 := h1.next 1 (by decide) (by decide) 256 rfl slices_S40x2048_o0_256_S40x256 hr hc hi hq hp
  have h3 := h2.next 2 (by decide) (by decide) 512 rfl slices_S40x2048_o0_512_S40x256 hr hc hi hq hp
  have h4 := h3.next 3 (by decide) (by decide) 768 rfl slices_S40x2048_o0_768_S40x256 hr hc hi hq hp
  have h5 := h4.next 4 (by decide) (by decide) 1024 rfl slices_S40x2048_o0_1024_S40x256 hr hc hi hq hp
  have h6 := h5.next 5 (by decide) (by decide) 1280 rfl slices_S40x2048_o0_1280_S40x256 hr hc hi hq hp
  have h7 := h6.next 6 (by decide) (by decide) 1536 rfl slices_S40x2048_o0_1536_S40x256 hr hc hi hq hp
  have h8 := h7.next 7 (by decide) (by decide) 1792 rfl slices_S40x2048_o0_1792_S40x256 hr hc hi hq hp
  exact h8.all

end Cert.AttnQuantVal

end
-- ==== Proof.AttnQuantRef.lean ====
/- Quantising the attention output: the reference's arrays in named parts, and at an index. -/
module

public import proofs.«01_k».proof.Proof.Gen.AttnQuantReferenceIdeal.Run
public import proofs.«01_k».proof.Proof.Quant

@[expose] public section

set_option maxRecDepth 100000

noncomputable section

namespace Cert.AttnQuantRef

open Cert.AttnQuantReferenceIdeal Cert.AttnQuantReferenceIdeal.Gen Idealize.ShloMosaic Idealize.ShloMosaic.TcCoe Idealize.SL.Sem Idealize.ShloMosaic.StableHlo

variable {F : FTy → Type} [FloatOps F]

/-- The array to be quantised. -/
def inp (a0 : Vec F S40x2048 .f32) : FVec F S40x2048 .f32 := a0

/-- The largest magnitude of each block of 256 values. -/
def top (x : FVec F S40x2048 .f32) : FVec F S40x8 .f32 := Host.reduce FloatOps.maximumf (Host.absf (shapeCast _ x shapeCasts_S40x2048_S40x8x256)) (constant S_ .f32 0xFF800000#32) reducesTo_S40x8x256_S40x8_d2 h_S_

/-- The scale of each block, given its largest magnitude. -/
def scl (a : FVec F S40x8 .f32) : FVec F S40x8 .f32 := select (cmpf .oeq a (broadcastInDim S40x8 ![] bcast_S_S40x8 (constant S_ .f32 0x00000000#32))) (broadcastInDim S40x8 ![] bcast_S_S40x8 (id (constant S_ .f32 0x3F800000#32))) (Host.divf a (broadcastInDim S40x8 ![] bcast_S_S40x8 (constant S_ .f32 0x42FE0000#32)))

/-- The codes, given the scales. -/
def cod (x : FVec F S40x2048 .f32) (c : FVec F S40x8 .f32) : IVec S40x2048 8 := shapeCast _ (trunci 8 (fptosi 32 (minimumf (broadcastInDim S40x8x256 ![] bcast_S_S40x8x256 (sitofp .f32 (constantI S_ 32 127#32))) (maximumf (broadcastInDim S40x8x256 ![] bcast_S_S40x8x256 (sitofp .f32 (constantI S_ 32 4294967169#32))) (Host.roundeven (Host.divf (shapeCast _ x shapeCasts_S40x2048_S40x8x256) (broadcastInDim S40x8x256 ![0, 1, 2] bcast_S40x8x1_S40x8x256_0_1_2 (broadcastInDim S40x8x1 ![0, 1] bcast_S40x8_S40x8x1_0_1 (c)))))))) natLt_8_32) shapeCasts_S40x8x256_S40x2048

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = cod (inp (m ((c.tc : Thread nD τ).loc main_arg0))) (scl (top (inp (m ((c.tc : Thread nD τ).loc main_arg0)))))
      ∧ r.2.mem ((c.tc : Thread nD τ).loc main_v7) = scl (top (inp (m ((c.tc : Thread nD τ).loc main_arg0))))
      ∧ r.2.mem ((c.tc : Thread nD τ).loc main_arg0) = m ((c.tc : Thread nD τ).loc main_arg0) := by
  simp only [cod, scl, top, inp]
  exact Cert.AttnQuantReferenceIdeal.Value.run m ρ

theorem top_apply (x : FVec Ideal S40x2048 .f32) (i : Fin 40) (s : Fin 8) :
    top (F := Ideal) x (ix2 i s) = Quant.peak fun t => x (ix2 i (Quant.col (n := 2048) (K := 8) rfl s t)) := by
  unfold top
  pointwise
  exact (congrArg Quant.peak (funext fun t => congrArg (fun k => x (ix2 i k)) (Fin.ext (by show s.val * 256 + t.val = 256 * s.val + t.val; omega))) :
    Quant.peak (fun t => x (ix2 i ⟨s.val * 256 + t.val, by omega⟩)) = Quant.peak fun t => x (ix2 i (Quant.col (n := 2048) (K := 8) rfl s t)))

theorem scl_apply (a : FVec Ideal S40x8 .f32) (i : Fin 40) (s : Fin 8) : scl (F := Ideal) a (ix2 i s) = Quant.step (a (ix2 i s)) := by
  unfold scl
  simp only [id]
  pointwise
  rfl

theorem cod_apply (x : FVec Ideal S40x2048 .f32) (c : FVec Ideal S40x8 .f32) (i : Fin 40) (j : Fin 2048) :
    cod (F := Ideal) x c (ix2 i j) = Quant.code (x (ix2 i j)) (c (ix2 i ⟨j.val / 256, by omega⟩)) := by
  unfold cod
  pointwise
  exact Quant.code_wide _ _

theorem scales_eq (x : FVec Ideal S40x2048 .f32) : scl (F := Ideal) (top (F := Ideal) x) = Quant.scales (n := 2048) (K := 8) rfl x := by
  funext j
  have e : j = ix2 (j 0) (j 1) := by
    funext a
    match a with
    | ⟨0, _⟩ => rfl
    | ⟨1, _⟩ => rfl
  rw [e]
  exact (scl_apply _ (j 0) (j 1)).trans (congrArg Quant.step (top_apply x (j 0) (j 1)))

theorem codes_eq (x : FVec Ideal S40x2048 .f32) :
    cod (F := Ideal) x (scl (F := Ideal) (top (F := Ideal) x)) = Quant.codes (n := 2048) (K := 8) rfl x := by
  funext j
  have e : j = ix2 (j 0) (j 1) := by
    funext a
    match a with
    | ⟨0, _⟩ => rfl
    | ⟨1, _⟩ => rfl
  have hj : (j 1).val < 2048 := (j 1).isLt
  rw [scales_eq]
  refine (congrArg (cod (F := Ideal) x (Quant.scales (n := 2048) (K := 8) rfl x)) e).trans ?_
  refine (cod_apply x _ (j 0) (j 1)).trans ?_
  refine congrArg (fun k => Quant.code (x (ix2 (j 0) k)) (Quant.scale (n := 2048) (K := 8) rfl x (j 0) ⟨(j 1).val / 256, by omega⟩)) (Fin.ext ?_)
  show (j 1).val = 256 * ((j 1).val / 256) + (j 1).val % 256
  omega

end Cert.AttnQuantRef

end
-- ==== Proof.AttnQuantSame.lean ====
/- Quantising the attention output: kernel and reference leave the same codes and scales. -/
module

public import proofs.«01_k».proof.Defs
public import proofs.«01_k».proof.Proof.AttnQuantVal
public import proofs.«01_k».proof.Proof.AttnQuantRef
public import Idealize.ShloMosaic.Adequacy
public import Idealize.ShloMosaic.Init

@[expose] public section

set_option maxRecDepth 100000

noncomputable section

namespace Cert.AttnQuantSame

open Cert.AttnQuantIdeal Cert.AttnQuantIdeal.Gen Idealize.ShloMosaic Idealize.ShloMosaic.TcCoe Idealize.SL.Sem

variable (m : (ℓ : Loc nD τ sig) → Buf (Elt Ideal) ℓ) (ρ : Dev nD → PrngReg)

/-- Both sides quantise the same array. -/
theorem inp_eq (a0 : Vec Ideal S40x2048 .f32) : Cert.AttnQuantVal.inp (F := Ideal) a0 = Cert.AttnQuantRef.inp (F := Ideal) a0 := by
  unfold Cert.AttnQuantVal.inp Cert.AttnQuantRef.inp
  rw [View.ld_unit_zero (S := S40x2048) Quant.hz _ _]

/-- The kernel's run: the codes and scales it leaves, its arguments unchanged. -/
theorem run : θ_run defs (onTc (τ := τ) (main (F := Ideal))) ⟨m, fun _ => 0, ρ⟩ fun r => ∀ c : Dev nD,
      r.2.mem ((c : Thread nD τ).loc main_v0_0) = Cert.AttnQuantVal.stored (F := Ideal) (m ((c : Thread nD τ).loc main_arg0))
      ∧ r.2.mem ((c : Thread nD τ).loc main_v0_1) = Cert.AttnQuantVal.table (F := Ideal) (m ((c : Thread nD τ).loc main_arg0))
      ∧ r.2.mem ((c : Thread nD τ).loc main_arg0) = m ((c : Thread nD τ).loc main_arg0) :=
  (θ_run defs _ _).mono (fun r h c => ⟨(Cert.AttnQuantIdeal.Value.post1 m r h c).trans ((Cert.AttnQuantIdeal.Value.final1 m c).trans (((Cert.AttnQuantIdeal.Value.out1_eq _).symm).trans (Cert.AttnQuantVal.stored_eq _))),
      (Cert.AttnQuantIdeal.Value.post2 m r h c).trans ((Cert.AttnQuantIdeal.Value.final2 m c).trans (((Cert.AttnQuantIdeal.Value.out2_eq _).symm).trans (Cert.AttnQuantVal.table_eq _))),
      Cert.AttnQuantIdeal.Value.kept_main_arg0 m r h c⟩) (run_main m ρ)

theorem frame_r : Cert.quiescent_AttnQuantReferenceIdeal := by
  intro m ρ _
  exact (θ_run Cert.AttnQuantReferenceIdeal.defs _ _).mono
    (fun r h => ⟨fun c => (h c).2.2, Idealize.ShloMosaic.sem_eq_zero_of_no_sems (by decide) r.2⟩)
    (Cert.AttnQuantReferenceIdeal.Value.run m ρ)

theorem same_values : Cert.algebraic_AttnQuantIdeal_AttnQuantReferenceIdeal := by
  intro m ρ m' ρ' _ hargs
  refine ⟨fun c => Cert.AttnQuantVal.stored (F := Ideal) (m ((c : Thread nD τ).loc main_arg0)), fun c => Cert.AttnQuantVal.table (F := Ideal) (m ((c : Thread nD τ).loc main_arg0)), run m ρ, ?_⟩
  refine (θ_run Cert.AttnQuantReferenceIdeal.defs _ _).mono (fun r h c => ?_) (Cert.AttnQuantRef.run m' ρ')
  have ha := hargs c
  have a0 := ha
  refine ⟨(h c).1.trans ?_, (h c).2.1.trans ?_, (h c).2.2⟩
  · rw [Cert.AttnQuantRef.codes_eq, a0, ← inp_eq]
    exact (Cert.AttnQuantVal.stored_codes _).symm
  · rw [Cert.AttnQuantRef.scales_eq, a0, ← inp_eq]
    exact (Cert.AttnQuantVal.table_scales _).symm

end Cert.AttnQuantSame

end
-- ==== Proof.SiluQuantVal.lean ====
/- Quantising the gated product: what the kernel stores, block by block. -/
module

public import proofs.«01_k».proof.Proof.Gen.SiluQuantIdeal.Value
public import proofs.«01_k».proof.Proof.Quant
public import Idealize.ShloMosaic.Lib.Pipeline.ReadBack

@[expose] public section

set_option maxRecDepth 100000

noncomputable section

namespace Cert.SiluQuantVal

open Cert.SiluQuantIdeal Cert.SiluQuantIdeal.Gen Idealize.ShloMosaic Idealize.ShloMosaic.TcCoe Idealize.SL.Sem

variable {F : FTy → Type} [FloatOps F]

/-! The facts about shapes that every block uses. -/
theorem hr : S40x256.Reduces [1] S40 := reduces_S40x256_S40
theorem hc : S40.ShapeCasts S40x1 := shapeCasts_S40_S40x1
theorem hb : S40x1.Broadcasts S40x256 := broadcasts_S40x1_S40x256
theorem hi : S40x28.Iotas .tc 32 [1] := iota_S40x28_d1_w32
theorem hq : S40x1.ShapeCasts S40x1 := shapeCasts_S40x1_S40x1
theorem hp : S40x1.Broadcasts S40x28 := broadcasts_S40x1_S40x28

/-- The values that are quantised. -/
def inp (a0 : Vec F S40x7168 .f32) (a1 : Vec F S40x7168 .f32) : FVec F S40x7168 .f32 := k0_pay1 (View.ld a0 r0_0) (View.ld a1 r0_0)

/-- The stores of codes, the last first. -/
def pieces (a0 : Vec F S40x7168 .f32) (a1 : Vec F S40x7168 .f32) : List (View.Piece (Elt F) S40x7168 .i8) :=
  [⟨r0_28, Quant.cblk (inp a0 a1) 6912 slices_S40x7168_o0_6912_S40x256 hr hc hb⟩,
    ⟨r0_27, Quant.cblk (inp a0 a1) 6656 slices_S40x7168_o0_6656_S40x256 hr hc hb⟩,
    ⟨r0_26, Quant.cblk (inp a0 a1) 6400 slices_S40x7168_o0_6400_S40x256 hr hc hb⟩,
    ⟨r0_25, Quant.cblk (inp a0 a1) 6144 slices_S40x7168_o0_6144_S40x256 hr hc hb⟩,
    ⟨r0_24, Quant.cblk (inp a0 a1) 5888 slices_S40x7168_o0_5888_S40x256 hr hc hb⟩,
    ⟨r0_23, Quant.cblk (inp a0 a1) 5632 slices_S40x7168_o0_5632_S40x256 hr hc hb⟩,
    ⟨r0_22, Quant.cblk (inp a0 a1) 5376 slices_S40x7168_o0_5376_S40x256 hr hc hb⟩,
    ⟨r0_21, Quant.cblk (inp a0 a1) 5120 slices_S40x7168_o0_5120_S40x256 hr hc hb⟩,
    ⟨r0_20, Quant.cblk (inp a0 a1) 4864 slices_S40x7168_o0_4864_S40x256 hr hc hb⟩,
    ⟨r0_19, Quant.cblk (inp a0 a1) 4608 slices_S40x7168_o0_4608_S40x256 hr hc hb⟩,
    ⟨r0_18, Quant.cblk (inp a0 a1) 4352 slices_S40x7168_o0_4352_S40x256 hr hc hb⟩,
    ⟨r0_17, Quant.cblk (inp a0 a1) 4096 slices_S40x7168_o0_4096_S40x256 hr hc hb⟩,
    ⟨r0_16, Quant.cblk (inp a0 a1) 3840 slices_S40x7168_o0_3840_S40x256 hr hc hb⟩,
    ⟨r0_15, Quant.cblk (inp a0 a1) 3584 slices_S40x7168_o0_3584_S40x256 hr hc hb⟩,
    ⟨r0_14, Quant.cblk (inp a0 a1) 3328 slices_S40x7168_o0_3328_S40x256 hr hc hb⟩,
    ⟨r0_13, Quant.cblk (inp a0 a1) 3072 slices_S40x7168_o0_3072_S40x256 hr hc hb⟩,
    ⟨r0_12, Quant.cblk (inp a0 a1) 2816 slices_S40x7168_o0_2816_S40x256 hr hc hb⟩,
    ⟨r0_11, Quant.cblk (inp a0 a1) 2560 slices_S40x7168_o0_2560_S40x256 hr hc hb⟩,
    ⟨r0_10, Quant.cblk (inp a0 a1) 2304 slices_S40x7168_o0_2304_S40x256 hr hc hb⟩,
    ⟨r0_9, Quant.cblk (inp a0 a1) 2048 slices_S40x7168_o0_2048_S40x256 hr hc hb⟩,
    ⟨r0_8, Quant.cblk (inp a0 a1) 1792 slices_S40x7168_o0_1792_S40x256 hr hc hb⟩,
    ⟨r0_7, Quant.cblk (inp a0 a1) 1536 slices_S40x7168_o0_1536_S40x256 hr hc hb⟩,
    ⟨r0_6, Quant.cblk (inp a0 a1) 1280 slices_S40x7168_o0_1280_S40x256 hr hc hb⟩,
    ⟨r0_5, Quant.cblk (inp a0 a1) 1024 slices_S40x7168_o0_1024_S40x256 hr hc hb⟩,
    ⟨r0_4, Quant.cblk (inp a0 a1) 768 slices_S40x7168_o0_768_S40x256 hr hc hb⟩,
    ⟨r0_3, Quant.cblk (inp a0 a1) 512 slices_S40x7168_o0_512_S40x256 hr hc hb⟩,
    ⟨r0_2, Quant.cblk (inp a0 a1) 256 slices_S40x7168_o0_256_S40x256 hr hc hb⟩,
    ⟨r0_1, Quant.cblk (inp a0 a1) 0 slices_S40x7168_o0_0_S40x256 hr hc hb⟩]

/-- The codes as the kernel stores them. -/
def stored (a0 : Vec F S40x7168 .f32) (a1 : Vec F S40x7168 .f32) : Vec F S40x7168 .i8 := View.canon (pieces a0 a1)

/-- The scales as the kernel stores them. -/
def table (a0 : Vec F S40x7168 .f32) (a1 : Vec F S40x7168 .f32) : Vec F S40x28 .f32 :=
  (Quant.put 27#32 (Quant.sblk (inp a0 a1) 6912 slices_S40x7168_o0_6912_S40x256 hr hc)
    (Quant.put 26#32 (Quant.sblk (inp a0 a1) 6656 slices_S40x7168_o0_6656_S40x256 hr hc)
    (Quant.put 25#32 (Quant.sblk (inp a0 a1) 6400 slices_S40x7168_o0_6400_S40x256 hr hc)
    (Quant.put 24#32 (Quant.sblk (inp a0 a1) 6144 slices_S40x7168_o0_6144_S40x256 hr hc)
    (Quant.put 23#32 (Quant.sblk (inp a0 a1) 5888 slices_S40x7168_o0_5888_S40x256 hr hc)
    (Quant.put 22#32 (Quant.sblk (inp a0 a1) 5632 slices_S40x7168_o0_5632_S40x256 hr hc)
    (Quant.put 21#32 (Quant.sblk (inp a0 a1) 5376 slices_S40x7168_o0_5376_S40x256 hr hc)
    (Quant.put 20#32 (Quant.sblk (inp a0 a1) 5120 slices_S40x7168_o0_5120_S40x256 hr hc)
    (Quant.put 19#32 (Quant.sblk (inp a0 a1) 4864 slices_S40x7168_o0_4864_S40x256 hr hc)
    (Quant.put 18#32 (Quant.sblk (inp a0 a1) 4608 slices_S40x7168_o0_4608_S40x256 hr hc)
    (Quant.put 17#32 (Quant.sblk (inp a0 a1) 4352 slices_S40x7168_o0_4352_S40x256 hr hc)
    (Quant.put 16#32 (Quant.sblk (inp a0 a1) 4096 slices_S40x7168_o0_4096_S40x256 hr hc)
    (Quant.put 15#32 (Quant.sblk (inp a0 a1) 3840 slices_S40x7168_o0_3840_S40x256 hr hc)
    (Quant.put 14#32 (Quant.sblk (inp a0 a1) 3584 slices_S40x7168_o0_3584_S40x256 hr hc)
    (Quant.put 13#32 (Quant.sblk (inp a0 a1) 3328 slices_S40x7168_o0_3328_S40x256 hr hc)
    (Quant.put 12#32 (Quant.sblk (inp a0 a1) 3072 slices_S40x7168_o0_3072_S40x256 hr hc)
    (Quant.put 11#32 (Quant.sblk (inp a0 a1) 2816 slices_S40x7168_o0_2816_S40x256 hr hc)
    (Quant.put 10#32 (Quant.sblk (inp a0 a1) 2560 slices_S40x7168_o0_2560_S40x256 hr hc)
    (Quant.put 9#32 (Quant.sblk (inp a0 a1) 2304 slices_S40x7168_o0_2304_S40x256 hr hc)
    (Quant.put 8#32 (Quant.sblk (inp a0 a1) 2048 slices_S40x7168_o0_2048_S40x256 hr hc)
    (Quant.put 7#32 (Quant.sblk (inp a0 a1) 1792 slices_S40x7168_o0_1792_S40x256 hr hc)
    (Quant.put 6#32 (Quant.sblk (inp a0 a1) 1536 slices_S40x7168_o0_1536_S40x256 hr hc)
    (Quant.put 5#32 (Quant.sblk (inp a0 a1) 1280 slices_S40x7168_o0_1280_S40x256 hr hc)
    (Quant.put 4#32 (Quant.sblk (inp a0 a1) 1024 slices_S40x7168_o0_1024_S40x256 hr hc)
    (Quant.put 3#32 (Quant.sblk (inp a0 a1) 768 slices_S40x7168_o0_768_S40x256 hr hc)
    (Quant.put 2#32 (Quant.sblk (inp a0 a1) 512 slices_S40x7168_o0_512_S40x256 hr hc)
    (Quant.put 1#32 (Quant.sblk (inp a0 a1) 256 slices_S40x7168_o0_256_S40x256 hr hc)
    (Quant.put 0#32 (Quant.sblk (inp a0 a1) 0 slices_S40x7168_o0_0_S40x256 hr hc)
    (Quant.none 28)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)
    hi hq hp)

set_option maxHeartbeats 4000000 in
theorem stored_eq (a0 : Vec F S40x7168 .f32) (a1 : Vec F S40x7168 .f32) : out0_2 (F := F) a0 a1 = stored a0 a1 := by
  unfold out0_2
  simp only [stored, inp, pieces, Quant.cblk, Quant.sblk, Quant.blk, Quant.scl, Quant.top, Quant.cod, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144]

set_option maxHeartbeats 4000000 in
theorem table_eq (a0 : Vec F S40x7168 .f32) (a1 : Vec F S40x7168 .f32) : out0_3 (F := F) a0 a1 = table a0 a1 := by
  unfold out0_3
  rw [View.canon_unit_zero Cert.Quant.hz]
  simp only [table, inp, Quant.put, Quant.none, Quant.sblk, Quant.blk, Quant.scl, Quant.top, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144]

theorem stored_codes (a0 : Vec Ideal S40x7168 .f32) (a1 : Vec Ideal S40x7168 .f32) : stored (F := Ideal) a0 a1 = Quant.codes (n := 7168) (K := 28) rfl (inp (F := Ideal) a0 a1) := by
  funext y
  unfold stored
  have h : View.PiecesOf (Quant.codes (n := 7168) (K := 28) rfl (inp (F := Ideal) a0 a1)) (pieces (F := Ideal) a0 a1) := ⟨fun y => Quant.piece (n := 7168) (K := 28) rfl (inp (F := Ideal) a0 a1) 27 6912 rfl slices_S40x7168_o0_6912_S40x256 hr hc hb inb_S40x7168_S40x256_0_6912 y,
    fun y => Quant.piece (n := 7168) (K := 28) rfl (inp (F := Ideal) a0 a1) 26 6656 rfl slices_S40x7168_o0_6656_S40x256 hr hc hb inb_S40x7168_S40x256_0_6656 y,
    fun y => Quant.piece (n := 7168) (K := 28) rfl (inp (F := Ideal) a0 a1) 25 6400 rfl slices_S40x7168_o0_6400_S40x256 hr hc hb inb_S40x7168_S40x256_0_6400 y,
    fun y => Quant.piece (n := 7168) (K := 28) rfl (inp (F := Ideal) a0 a1) 24 6144 rfl slices_S40x7168_o0_6144_S40x256 hr hc hb inb_S40x7168_S40x256_0_6144 y,
    fun y => Quant.piece (n := 7168) (K := 28) rfl (inp (F := Ideal) a0 a1) 23 5888 rfl slices_S40x7168_o0_5888_S40x256 hr hc hb inb_S40x7168_S40x256_0_5888 y,
    fun y => Quant.piece (n := 7168) (K := 28) rfl (inp (F := Ideal) a0 a1) 22 5632 rfl slices_S40x7168_o0_5632_S40x256 hr hc hb inb_S40x7168_S40x256_0_5632 y,
    fun y => Quant.piece (n := 7168) (K := 28) rfl (inp (F := Ideal) a0 a1) 21 5376 rfl slices_S40x7168_o0_5376_S40x256 hr hc hb inb_S40x7168_S40x256_0_5376 y,
    fun y => Quant.piece (n := 7168) (K := 28) rfl (inp (F := Ideal) a0 a1) 20 5120 rfl slices_S40x7168_o0_5120_S40x256 hr hc hb inb_S40x7168_S40x256_0_5120 y,
    fun y => Quant.piece (n := 7168) (K := 28) rfl (inp (F := Ideal) a0 a1) 19 4864 rfl slices_S40x7168_o0_4864_S40x256 hr hc hb inb_S40x7168_S40x256_0_4864 y,
    fun y => Quant.piece (n := 7168) (K := 28) rfl (inp (F := Ideal) a0 a1) 18 4608 rfl slices_S40x7168_o0_4608_S40x256 hr hc hb inb_S40x7168_S40x256_0_4608 y,
    fun y => Quant.piece (n := 7168) (K := 28) rfl (inp (F := Ideal) a0 a1) 17 4352 rfl slices_S40x7168_o0_4352_S40x256 hr hc hb inb_S40x7168_S40x256_0_4352 y,
    fun y => Quant.piece (n := 7168) (K := 28) rfl (inp (F := Ideal) a0 a1) 16 4096 rfl slices_S40x7168_o0_4096_S40x256 hr hc hb inb_S40x7168_S40x256_0_4096 y,
    fun y => Quant.piece (n := 7168) (K := 28) rfl (inp (F := Ideal) a0 a1) 15 3840 rfl slices_S40x7168_o0_3840_S40x256 hr hc hb inb_S40x7168_S40x256_0_3840 y,
    fun y => Quant.piece (n := 7168) (K := 28) rfl (inp (F := Ideal) a0 a1) 14 3584 rfl slices_S40x7168_o0_3584_S40x256 hr hc hb inb_S40x7168_S40x256_0_3584 y,
    fun y => Quant.piece (n := 7168) (K := 28) rfl (inp (F := Ideal) a0 a1) 13 3328 rfl slices_S40x7168_o0_3328_S40x256 hr hc hb inb_S40x7168_S40x256_0_3328 y,
    fun y => Quant.piece (n := 7168) (K := 28) rfl (inp (F := Ideal) a0 a1) 12 3072 rfl slices_S40x7168_o0_3072_S40x256 hr hc hb inb_S40x7168_S40x256_0_3072 y,
    fun y => Quant.piece (n := 7168) (K := 28) rfl (inp (F := Ideal) a0 a1) 11 2816 rfl slices_S40x7168_o0_2816_S40x256 hr hc hb inb_S40x7168_S40x256_0_2816 y,
    fun y => Quant.piece (n := 7168) (K := 28) rfl (inp (F := Ideal) a0 a1) 10 2560 rfl slices_S40x7168_o0_2560_S40x256 hr hc hb inb_S40x7168_S40x256_0_2560 y,
    fun y => Quant.piece (n := 7168) (K := 28) rfl (inp (F := Ideal) a0 a1) 9 2304 rfl slices_S40x7168_o0_2304_S40x256 hr hc hb inb_S40x7168_S40x256_0_2304 y,
    fun y => Quant.piece (n := 7168) (K := 28) rfl (inp (F := Ideal) a0 a1) 8 2048 rfl slices_S40x7168_o0_2048_S40x256 hr hc hb inb_S40x7168_S40x256_0_2048 y,
    fun y => Quant.piece (n := 7168) (K := 28) rfl (inp (F := Ideal) a0 a1) 7 1792 rfl slices_S40x7168_o0_1792_S40x256 hr hc hb inb_S40x7168_S40x256_0_1792 y,
    fun y => Quant.piece (n := 7168) (K := 28) rfl (inp (F := Ideal) a0 a1) 6 1536 rfl slices_S40x7168_o0_1536_S40x256 hr hc hb inb_S40x7168_S40x256_0_1536 y,
    fun y => Quant.piece (n := 7168) (K := 28) rfl (inp (F := Ideal) a0 a1) 5 1280 rfl slices_S40x7168_o0_1280_S40x256 hr hc hb inb_S40x7168_S40x256_0_1280 y,
    fun y => Quant.piece (n := 7168) (K := 28) rfl (inp (F := Ideal) a0 a1) 4 1024 rfl slices_S40x7168_o0_1024_S40x256 hr hc hb inb_S40x7168_S40x256_0_1024 y,
    fun y => Quant.piece (n := 7168) (K := 28) rfl (inp (F := Ideal) a0 a1) 3 768 rfl slices_S40x7168_o0_768_S40x256 hr hc hb inb_S40x7168_S40x256_0_768 y,
    fun y => Quant.piece (n := 7168) (K := 28) rfl (inp (F := Ideal) a0 a1) 2 512 rfl slices_S40x7168_o0_512_S40x256 hr hc hb inb_S40x7168_S40x256_0_512 y,
    fun y => Quant.piece (n := 7168) (K := 28) rfl (inp (F := Ideal) a0 a1) 1 256 rfl slices_S40x7168_o0_256_S40x256 hr hc hb inb_S40x7168_S40x256_0_256 y,
    fun y => Quant.piece (n := 7168) (K := 28) rfl (inp (F := Ideal) a0 a1) 0 0 rfl slices_S40x7168_o0_0_S40x256 hr hc hb inb_S40x7168_S40x256_0_0 y, trivial⟩
  exact View.canon_apply_of_pieces (Quant.codes (n := 7168) (K := 28) rfl (inp (F := Ideal) a0 a1)) _ h.mem y (cover0_2 _ _ _ _ _ _ _ _ _ _ _ _ _ _ _ _ _ _ _ _ _ _ _ _ _ _ _ _ y)

theorem table_scales (a0 : Vec Ideal S40x7168 .f32) (a1 : Vec Ideal S40x7168 .f32) : table (F := Ideal) a0 a1 = Quant.scales (n := 7168) (K := 28) rfl (inp (F := Ideal) a0 a1) := by
  have h0 := Quant.Upto.zero (n := 7168) (K := 28) rfl (inp (F := Ideal) a0 a1) (Quant.none 28)
  have h1 := h0.next 0 (by decide) (by decide) 0 rfl slices_S40x7168_o0_0_S40x256 hr hc hi hq hp
  have h2 := h1.next 1 (by decide) (by decide) 256 rfl slices_S40x7168_o0_256_S40x256 hr hc hi hq hp
  have h3 := h2.next 2 (by decide) (by decide) 512 rfl slices_S40x7168_o0_512_S40x256 hr hc hi hq hp
  have h4 := h3.next 3 (by decide) (by decide) 768 rfl slices_S40x7168_o0_768_S40x256 hr hc hi hq hp
  have h5 := h4.next 4 (by decide) (by decide) 1024 rfl slices_S40x7168_o0_1024_S40x256 hr hc hi hq hp
  have h6 := h5.next 5 (by decide) (by decide) 1280 rfl slices_S40x7168_o0_1280_S40x256 hr hc hi hq hp
  have h7 := h6.next 6 (by decide) (by decide) 1536 rfl slices_S40x7168_o0_1536_S40x256 hr hc hi hq hp
  have h8 := h7.next 7 (by decide) (by decide) 1792 rfl slices_S40x7168_o0_1792_S40x256 hr hc hi hq hp
  have h9 := h8.next 8 (by decide) (by decide) 2048 rfl slices_S40x7168_o0_2048_S40x256 hr hc hi hq hp
  have h10 := h9.next 9 (by decide) (by decide) 2304 rfl slices_S40x7168_o0_2304_S40x256 hr hc hi hq hp
  have h11 := h10.next 10 (by decide) (by decide) 2560 rfl slices_S40x7168_o0_2560_S40x256 hr hc hi hq hp
  have h12 := h11.next 11 (by decide) (by decide) 2816 rfl slices_S40x7168_o0_2816_S40x256 hr hc hi hq hp
  have h13 := h12.next 12 (by decide) (by decide) 3072 rfl slices_S40x7168_o0_3072_S40x256 hr hc hi hq hp
  have h14 := h13.next 13 (by decide) (by decide) 3328 rfl slices_S40x7168_o0_3328_S40x256 hr hc hi hq hp
  have h15 := h14.next 14 (by decide) (by decide) 3584 rfl slices_S40x7168_o0_3584_S40x256 hr hc hi hq hp
  have h16 := h15.next 15 (by decide) (by decide) 3840 rfl slices_S40x7168_o0_3840_S40x256 hr hc hi hq hp
  have h17 := h16.next 16 (by decide) (by decide) 4096 rfl slices_S40x7168_o0_4096_S40x256 hr hc hi hq hp
  have h18 := h17.next 17 (by decide) (by decide) 4352 rfl slices_S40x7168_o0_4352_S40x256 hr hc hi hq hp
  have h19 := h18.next 18 (by decide) (by decide) 4608 rfl slices_S40x7168_o0_4608_S40x256 hr hc hi hq hp
  have h20 := h19.next 19 (by decide) (by decide) 4864 rfl slices_S40x7168_o0_4864_S40x256 hr hc hi hq hp
  have h21 := h20.next 20 (by decide) (by decide) 5120 rfl slices_S40x7168_o0_5120_S40x256 hr hc hi hq hp
  have h22 := h21.next 21 (by decide) (by decide) 5376 rfl slices_S40x7168_o0_5376_S40x256 hr hc hi hq hp
  have h23 := h22.next 22 (by decide) (by decide) 5632 rfl slices_S40x7168_o0_5632_S40x256 hr hc hi hq hp
  have h24 := h23.next 23 (by decide) (by decide) 5888 rfl slices_S40x7168_o0_5888_S40x256 hr hc hi hq hp
  have h25 := h24.next 24 (by decide) (by decide) 6144 rfl slices_S40x7168_o0_6144_S40x256 hr hc hi hq hp
  have h26 := h25.next 25 (by decide) (by decide) 6400 rfl slices_S40x7168_o0_6400_S40x256 hr hc hi hq hp
  have h27 := h26.next 26 (by decide) (by decide) 6656 rfl slices_S40x7168_o0_6656_S40x256 hr hc hi hq hp
  have h28 := h27.next 27 (by decide) (by decide) 6912 rfl slices_S40x7168_o0_6912_S40x256 hr hc hi hq hp
  exact h28.all

end Cert.SiluQuantVal

end
-- ==== Proof.SiluQuantRef.lean ====
/- Quantising the gated product: the reference's arrays in named parts, and at an index. -/
module

public import proofs.«01_k».proof.Proof.Gen.SiluQuantReferenceIdeal.Run
public import proofs.«01_k».proof.Proof.Quant

@[expose] public section

set_option maxRecDepth 100000

noncomputable section

namespace Cert.SiluQuantRef

open Cert.SiluQuantReferenceIdeal Cert.SiluQuantReferenceIdeal.Gen Idealize.ShloMosaic Idealize.ShloMosaic.TcCoe Idealize.SL.Sem Idealize.ShloMosaic.StableHlo

variable {F : FTy → Type} [FloatOps F]

/-- The array to be quantised. -/
def inp (a0 : Vec F S40x7168 .f32) (a1 : Vec F S40x7168 .f32) : FVec F S40x7168 .f32 := (mulf (mulf a0 (Host.divf (broadcastInDim S40x7168 ![] bcast_S_S40x7168 (constant S_ .f32 0x3F800000#32)) (addf (broadcastInDim S40x7168 ![] bcast_S_S40x7168 (constant S_ .f32 0x3F800000#32)) (Host.exp (Host.negf a0))))) a1)

/-- The largest magnitude of each block of 256 values. -/
def top (x : FVec F S40x7168 .f32) : FVec F S40x28 .f32 := Host.reduce FloatOps.maximumf (Host.absf (shapeCast _ x shapeCasts_S40x7168_S40x28x256)) (constant S_ .f32 0xFF800000#32) reducesTo_S40x28x256_S40x28_d2 h_S_

/-- The scale of each block, given its largest magnitude. -/
def scl (a : FVec F S40x28 .f32) : FVec F S40x28 .f32 := select (cmpf .oeq a (broadcastInDim S40x28 ![] bcast_S_S40x28 (constant S_ .f32 0x00000000#32))) (broadcastInDim S40x28 ![] bcast_S_S40x28 (id (constant S_ .f32 0x3F800000#32))) (Host.divf a (broadcastInDim S40x28 ![] bcast_S_S40x28 (constant S_ .f32 0x42FE0000#32)))

/-- The codes, given the scales. -/
def cod (x : FVec F S40x7168 .f32) (c : FVec F S40x28 .f32) : IVec S40x7168 8 := shapeCast _ (trunci 8 (fptosi 32 (minimumf (broadcastInDim S40x28x256 ![] bcast_S_S40x28x256 (sitofp .f32 (constantI S_ 32 127#32))) (maximumf (broadcastInDim S40x28x256 ![] bcast_S_S40x28x256 (sitofp .f32 (constantI S_ 32 4294967169#32))) (Host.roundeven (Host.divf (shapeCast _ x shapeCasts_S40x7168_S40x28x256) (broadcastInDim S40x28x256 ![0, 1, 2] bcast_S40x28x1_S40x28x256_0_1_2 (broadcastInDim S40x28x1 ![0, 1] bcast_S40x28_S40x28x1_0_1 (c)))))))) natLt_8_32) shapeCasts_S40x28x256_S40x7168

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = cod (inp (m ((c.tc : Thread nD τ).loc main_arg0)) (m ((c.tc : Thread nD τ).loc main_arg1))) (scl (top (inp (m ((c.tc : Thread nD τ).loc main_arg0)) (m ((c.tc : Thread nD τ).loc main_arg1)))))
      ∧ r.2.mem ((c.tc : Thread nD τ).loc main_v9) = scl (top (inp (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  simp only [cod, scl, top, inp]
  exact Cert.SiluQuantReferenceIdeal.Value.run m ρ

theorem top_apply (x : FVec Ideal S40x7168 .f32) (i : Fin 40) (s : Fin 28) :
    top (F := Ideal) x (ix2 i s) = Quant.peak fun t => x (ix2 i (Quant.col (n := 7168) (K := 28) rfl s t)) := by
  unfold top
  pointwise
  exact (congrArg Quant.peak (funext fun t => congrArg (fun k => x (ix2 i k)) (Fin.ext (by show s.val * 256 + t.val = 256 * s.val + t.val; omega))) :
    Quant.peak (fun t => x (ix2 i ⟨s.val * 256 + t.val, by omega⟩)) = Quant.peak fun t => x (ix2 i (Quant.col (n := 7168) (K := 28) rfl s t)))

theorem scl_apply (a : FVec Ideal S40x28 .f32) (i : Fin 40) (s : Fin 28) : scl (F := Ideal) a (ix2 i s) = Quant.step (a (ix2 i s)) := by
  unfold scl
  simp only [id]
  pointwise
  rfl

theorem cod_apply (x : FVec Ideal S40x7168 .f32) (c : FVec Ideal S40x28 .f32) (i : Fin 40) (j : Fin 7168) :
    cod (F := Ideal) x c (ix2 i j) = Quant.code (x (ix2 i j)) (c (ix2 i ⟨j.val / 256, by omega⟩)) := by
  unfold cod
  pointwise
  exact Quant.code_wide _ _

theorem scales_eq (x : FVec Ideal S40x7168 .f32) : scl (F := Ideal) (top (F := Ideal) x) = Quant.scales (n := 7168) (K := 28) rfl x := by
  funext j
  have e : j = ix2 (j 0) (j 1) := by
    funext a
    match a with
    | ⟨0, _⟩ => rfl
    | ⟨1, _⟩ => rfl
  rw [e]
  exact (scl_apply _ (j 0) (j 1)).trans (congrArg Quant.step (top_apply x (j 0) (j 1)))

theorem codes_eq (x : FVec Ideal S40x7168 .f32) :
    cod (F := Ideal) x (scl (F := Ideal) (top (F := Ideal) x)) = Quant.codes (n := 7168) (K := 28) rfl x := by
  funext j
  have e : j = ix2 (j 0) (j 1) := by
    funext a
    match a with
    | ⟨0, _⟩ => rfl
    | ⟨1, _⟩ => rfl
  have hj : (j 1).val < 7168 := (j 1).isLt
  rw [scales_eq]
  refine (congrArg (cod (F := Ideal) x (Quant.scales (n := 7168) (K := 28) rfl x)) e).trans ?_
  refine (cod_apply x _ (j 0) (j 1)).trans ?_
  refine congrArg (fun k => Quant.code (x (ix2 (j 0) k)) (Quant.scale (n := 7168) (K := 28) rfl x (j 0) ⟨(j 1).val / 256, by omega⟩)) (Fin.ext ?_)
  show (j 1).val = 256 * ((j 1).val / 256) + (j 1).val % 256
  omega

end Cert.SiluQuantRef

end
-- ==== Proof.SiluQuantSame.lean ====
/- Quantising the gated product: kernel and reference leave the same codes and scales. -/
module

public import proofs.«01_k».proof.Defs
public import proofs.«01_k».proof.Proof.SiluQuantVal
public import proofs.«01_k».proof.Proof.SiluQuantRef
public import Idealize.ShloMosaic.Adequacy
public import Idealize.ShloMosaic.Init

@[expose] public section

set_option maxRecDepth 100000

noncomputable section

namespace Cert.SiluQuantSame

open Cert.SiluQuantIdeal Cert.SiluQuantIdeal.Gen Idealize.ShloMosaic Idealize.ShloMosaic.TcCoe Idealize.SL.Sem

variable (m : (ℓ : Loc nD τ sig) → Buf (Elt Ideal) ℓ) (ρ : Dev nD → PrngReg)

/-- Both sides quantise the same array. -/
theorem inp_eq (a0 : Vec Ideal S40x7168 .f32) (a1 : Vec Ideal S40x7168 .f32) : Cert.SiluQuantVal.inp (F := Ideal) a0 a1 = Cert.SiluQuantRef.inp (F := Ideal) a0 a1 := by
  unfold Cert.SiluQuantVal.inp Cert.SiluQuantRef.inp
  rw [View.ld_unit_zero (S := S40x7168) Quant.hz _ _, View.ld_unit_zero (S := S40x7168) Quant.hz _ _]
  funext j
  have e : j = ix2 (j 0) (j 1) := by
    funext a
    match a with
    | ⟨0, _⟩ => rfl
    | ⟨1, _⟩ => rfl
  rw [e]
  generalize (j 0 : Fin 40) = p
  generalize (j 1 : Fin 7168) = q
  unfold k0_pay1
  pointwise
  rfl

/-- The kernel's run: the codes and scales it leaves, its arguments unchanged. -/
theorem run : θ_run defs (onTc (τ := τ) (main (F := Ideal))) ⟨m, fun _ => 0, ρ⟩ fun r => ∀ c : Dev nD,
      r.2.mem ((c : Thread nD τ).loc main_v0_0) = Cert.SiluQuantVal.stored (F := Ideal) (m ((c : Thread nD τ).loc main_arg0)) (m ((c : Thread nD τ).loc main_arg1))
      ∧ r.2.mem ((c : Thread nD τ).loc main_v0_1) = Cert.SiluQuantVal.table (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Cert.SiluQuantIdeal.Value.post2 m r h c).trans ((Cert.SiluQuantIdeal.Value.final2 m c).trans (((Cert.SiluQuantIdeal.Value.out2_eq _ _).symm).trans (Cert.SiluQuantVal.stored_eq _ _))),
      (Cert.SiluQuantIdeal.Value.post3 m r h c).trans ((Cert.SiluQuantIdeal.Value.final3 m c).trans (((Cert.SiluQuantIdeal.Value.out3_eq _ _).symm).trans (Cert.SiluQuantVal.table_eq _ _))),
      Cert.SiluQuantIdeal.Value.kept_main_arg0 m r h c, Cert.SiluQuantIdeal.Value.kept_main_arg1 m r h c⟩) (run_main m ρ)

theorem frame_r : Cert.quiescent_SiluQuantReferenceIdeal := by
  intro m ρ _
  exact (θ_run Cert.SiluQuantReferenceIdeal.defs _ _).mono
    (fun r h => ⟨fun c => (h c).2.2, Idealize.ShloMosaic.sem_eq_zero_of_no_sems (by decide) r.2⟩)
    (Cert.SiluQuantReferenceIdeal.Value.run m ρ)

theorem same_values : Cert.algebraic_SiluQuantIdeal_SiluQuantReferenceIdeal := by
  intro m ρ m' ρ' _ hargs
  refine ⟨fun c => Cert.SiluQuantVal.stored (F := Ideal) (m ((c : Thread nD τ).loc main_arg0)) (m ((c : Thread nD τ).loc main_arg1)), fun c => Cert.SiluQuantVal.table (F := Ideal) (m ((c : Thread nD τ).loc main_arg0)) (m ((c : Thread nD τ).loc main_arg1)), run m ρ, ?_⟩
  refine (θ_run Cert.SiluQuantReferenceIdeal.defs _ _).mono (fun r h c => ?_) (Cert.SiluQuantRef.run m' ρ')
  have ha := hargs c
  obtain ⟨a0, a1⟩ := ha
  refine ⟨(h c).1.trans ?_, (h c).2.1.trans ?_, (h c).2.2⟩
  · rw [Cert.SiluQuantRef.codes_eq, a0, a1, ← inp_eq]
    exact (Cert.SiluQuantVal.stored_codes _ _).symm
  · rw [Cert.SiluQuantRef.scales_eq, a0, a1, ← inp_eq]
    exact (Cert.SiluQuantVal.table_scales _ _).symm

end Cert.SiluQuantSame

end
-- ==== Proof.DownBits.lean ====
/- The bits of the packed six-bit weights and of their scales. -/
module

public import Idealize.ShloMosaic.Lib.Pointwise
public import Idealize.ShloMosaic.Lib.BitcastFour

@[expose] public section

noncomputable section

namespace Cert.Six

open Idealize.ShloMosaic

/-- Byte `b` of a word. -/
def byteOf (w : BitVec 32) (b : Fin 4) : BitVec 8 := w.extractLsb' (8 * b.val) 8

theorem byte_low0 (w : BitVec 32) (b : Fin 4) : byteOf (w &&& 252645135#32) b = byteOf w b &&& 15#8 := by
  apply BitVec.eq_of_getLsbD_eq
  intro i hi
  fin_cases b <;> interval_cases i <;> simp [byteOf, BitVec.getElem_sshiftRight, BitVec.getLsbD_sshiftRight, BitVec.getLsbD_ofNat, Nat.testBit]

theorem byte_low1 (w : BitVec 32) (b : Fin 4) : byteOf (w.sshiftRight 4 &&& 252645135#32) b = byteOf w b >>> 4 := by
  apply BitVec.eq_of_getLsbD_eq
  intro i hi
  fin_cases b <;> interval_cases i <;> simp [byteOf, BitVec.getElem_sshiftRight, BitVec.getLsbD_sshiftRight, BitVec.getLsbD_ofNat, Nat.testBit]

theorem byte_h00 (w : BitVec 32) (b : Fin 4) : byteOf ((w <<< 4) &&& 808464432#32) b = (byteOf w b <<< 4) &&& 48#8 := by
  apply BitVec.eq_of_getLsbD_eq
  intro i hi
  fin_cases b <;> interval_cases i <;> simp [byteOf, BitVec.getElem_sshiftRight, BitVec.getLsbD_sshiftRight, BitVec.getLsbD_ofNat, Nat.testBit]

theorem byte_h01 (w : BitVec 32) (b : Fin 4) : byteOf ((w <<< 2) &&& 808464432#32) b = (byteOf w b <<< 2) &&& 48#8 := by
  apply BitVec.eq_of_getLsbD_eq
  intro i hi
  fin_cases b <;> interval_cases i <;> simp [byteOf, BitVec.getElem_sshiftRight, BitVec.getLsbD_sshiftRight, BitVec.getLsbD_ofNat, Nat.testBit]

theorem byte_h10 (w : BitVec 32) (b : Fin 4) : byteOf (w &&& 808464432#32) b = byteOf w b &&& 48#8 := by
  apply BitVec.eq_of_getLsbD_eq
  intro i hi
  fin_cases b <;> interval_cases i <;> simp [byteOf, BitVec.getElem_sshiftRight, BitVec.getLsbD_sshiftRight, BitVec.getLsbD_ofNat, Nat.testBit]

theorem byte_h11 (w : BitVec 32) (b : Fin 4) : byteOf (w.sshiftRight 2 &&& 808464432#32) b = (byteOf w b >>> 2) &&& 48#8 := by
  apply BitVec.eq_of_getLsbD_eq
  intro i hi
  fin_cases b <;> interval_cases i <;> simp [byteOf, BitVec.getElem_sshiftRight, BitVec.getLsbD_sshiftRight, BitVec.getLsbD_ofNat, Nat.testBit]

/-- The lower four bits of the weight, from the low or the high half of its byte. -/
def lowOf (f : Fin 2) (q : BitVec 8) : BitVec 8 :=
  match f with
  | 0 => q &&& 15#8
  | 1 => q >>> 4

/-- The upper two bits of the weight, in their place, from the pair `2 f + g` of its byte. -/
def highOf (f g : Fin 2) (q : BitVec 8) : BitVec 8 :=
  match f, g with
  | 0, 0 => (q <<< 4) &&& 48#8
  | 0, 1 => (q <<< 2) &&& 48#8
  | 1, 0 => q &&& 48#8
  | 1, 1 => (q >>> 2) &&& 48#8

/-- The weight, less the 32 it is stored above. -/
def six (f g : Fin 2) (q p : BitVec 8) : ℤ := ((lowOf f q).toNat : ℤ) + ((highOf f g p).toNat : ℤ) - 32

/-- A signed scale in two parts, `16 hiS + loS`. -/
def hiS (x : BitVec 8) : ℤ := (x.toInt + 8) / 16
def loS (x : BitVec 8) : ℤ := x.toInt - 16 * hiS x

theorem split_scale (x : BitVec 8) : 16 * hiS x + loS x = x.toInt := by unfold loS; omega

/-- The word the kernel keeps of a part: the part and eight, in both halves, each under the exponent of 128. -/
def dup (b : BitVec 32) : BitVec 32 := (b ||| (b <<< 16)) ||| 1124090624#32
def hiW (x : BitVec 8) : BitVec 32 := (x.signExtend 32 + 8#32).sshiftRight 4
def loW (x : BitVec 8) : BitVec 32 := x.signExtend 32 - (hiW x <<< 4)

theorem dup_hi (x : BitVec 8) (h : Fin 2) : (dup (hiW x + 8#32)).extractLsb' (16 * h.val) 16 = 0x4300#16 ||| BitVec.ofNat 16 (hiS x + 8).toNat := by
  revert x h; decide +kernel
theorem dup_lo (x : BitVec 8) (h : Fin 2) : (dup (loW x + 8#32)).extractLsb' (16 * h.val) 16 = 0x4300#16 ||| BitVec.ofNat 16 (loS x + 8).toNat := by
  revert x h; decide +kernel
theorem hi_range (x : BitVec 8) : 0 ≤ hiS x + 8 ∧ hiS x + 8 < 17 := by
  revert x; decide +kernel
theorem lo_range (x : BitVec 8) : 0 ≤ loS x + 8 ∧ loS x + 8 < 17 := by
  revert x; decide +kernel

private theorem mag_fin (k : Fin 17) :
    Ideal.ieee 8 7 (0x4300#16 ||| BitVec.ofNat 16 k.val) - Ideal.ieee 8 7 0x4308#16 = ((k.val - 8 : ℝ) : EReal) := by
  have h1 : ((0x4300#16 ||| BitVec.ofNat 16 k.val).extractLsb' 15 1 == 1#1) = false := by revert k; decide
  have h2 : ((0x4300#16 ||| BitVec.ofNat 16 k.val).extractLsb' 7 8).toNat = 134 := by revert k; decide
  have h3 : ((0x4300#16 ||| BitVec.ofNat 16 k.val).extractLsb' 0 7).toNat = k.val := by revert k; decide
  have h4 : ((0x4308#16).extractLsb' 15 1 == 1#1) = false := by decide
  have h5 : ((0x4308#16).extractLsb' 7 8).toNat = 134 := by decide
  have h6 : ((0x4308#16).extractLsb' 0 7).toNat = 8 := by decide
  unfold Ideal.ieee
  simp only [Nat.reduceAdd, h1, h2, h3, h4, h5, h6]
  repeat rw [if_neg (by decide)]
  rw [← EReal.coe_sub]
  congr 1
  norm_num
  ring

theorem mag (z : ℤ) (h0 : 0 ≤ z + 8) (h1 : z + 8 < 17) :
    Ideal.ofBits .bf16 (0x4300#16 ||| BitVec.ofNat 16 (z + 8).toNat) - Ideal.ofBits .bf16 0x4308#16 = ((z : ℝ) : EReal) := by
  have h := mag_fin ⟨(z + 8).toNat, by omega⟩
  have e : (((z + 8).toNat : ℕ) : ℝ) - 8 = (z : ℝ) := by
    have : (((z + 8).toNat : ℤ) : ℝ) = ((z + 8 : ℤ) : ℝ) := by rw [Int.toNat_of_nonneg h0]
    push_cast at this
    linarith
  rw [← e]
  exact h

theorem thirtytwo : Ideal.ofBits .bf16 0x4200#16 = ((32 : ℝ) : EReal) := by
  simp [Ideal.ofBits, Ideal.ieee]; rw [← EReal.coe_mul]; norm_num
theorem sixteen : Ideal.ofBits .bf16 0x4180#16 = ((16 : ℝ) : EReal) := by
  simp [Ideal.ofBits, Ideal.ieee]; rw [← EReal.coe_mul]; norm_num

end Cert.Six
end
-- ==== Proof.DownStep.lean ====
/- The work of one block of the down projection, as one function of what it loads. -/
module

public import proofs.«01_k».proof.Proof.Gen.DownIdeal
public import proofs.«01_k».proof.Proof.DownBits
public import Idealize.ShloMosaic.Lib.Pointwise
public import Idealize.ShloMosaic.Lib.BitcastPair

@[expose] public section

noncomputable section

namespace Cert.Six

open Idealize.ShloMosaic Idealize.SL.Sem Cert.DownIdeal Cert.DownIdeal.Gen

variable {F : FTy → Type} [FloatOps F]

/-- A row of scale words, each part twice, read over the 16 rows it multiplies. -/
def scl (q : Vec F S1x1x256 .i32) : FVec F S16x256 .bf16 :=
  subf (bitcastToFloat .bf16 (bitcast S16x256 16 (broadcastTo S8x256 (shapeCast S1x256 (shapeCast S1x256 q shapeCasts_S1x1x256_S1x256)
    shapeCasts_S1x256_S1x256) broadcasts_S1x256_S8x256) bitcasts_S8x256_w32_S16x256_w16)) (broadcast S16x256 (Scalar.ofBits .bf16 0x4308#16))

def qlw (v : Vec F S1x256x128 .i8) : IVec S64x128 32 :=
  bitcast S64x128 32 (shapeCast S256x128 v shapeCasts_S1x256x128_S256x128) bitcasts_S256x128_w8_S64x128_w32
def lowW (f : Fin 2) (w : IVec S64x128 32) : IVec S64x128 32 :=
  match f with
  | 0 => andi w (broadcast S64x128 252645135#32)
  | 1 => andi (shrsi w (broadcast S64x128 4#32)) (broadcast S64x128 252645135#32)
/-- The lower four bits of half `f` of the bytes, a weight to a row. -/
def low (f : Fin 2) (v : Vec F S1x256x128 .i8) : FVec F S128x256 .bf16 :=
  transpose S128x256 [1, 0] (uitofp .bf16 (bitcast S256x128 8 (lowW f (qlw v)) bitcasts_S64x128_w32_S256x128_w8)) transposes_S256x128_p1_0_S128x256

def qhw (v : Vec F S1x64x256 .i8) : IVec S16x256 32 :=
  bitcast S16x256 32 (shapeCast S64x256 v shapeCasts_S1x64x256_S64x256) bitcasts_S64x256_w8_S16x256_w32
def highW (f g : Fin 2) (w : IVec S16x256 32) : IVec S16x256 32 :=
  match f, g with
  | 0, 0 => shli w (broadcast S16x256 4#32)
  | 0, 1 => shli w (broadcast S16x256 2#32)
  | 1, 0 => w
  | 1, 1 => shrsi w (broadcast S16x256 2#32)
/-- The upper two bits of pair `2 f + g` of the bytes, less 32. -/
def high (f g : Fin 2) (v : Vec F S1x64x256 .i8) : FVec F S64x256 .bf16 :=
  subf (uitofp .bf16 (bitcast S64x256 8 (andi (highW f g (qhw v)) (broadcast S16x256 808464432#32)) bitcasts_S16x256_w32_S64x256_w8))
    (broadcast S64x256 (Scalar.ofBits .bf16 0x4200#16))

/-- Sixteen rows of weights, times their scale's part. -/
def cell {o h i : Fin 2 → Nat} (nb : FVec F S128x256 .bf16) (hi : FVec F S64x256 .bf16) (so : S128x256.Slices o S32x256) (sh : S64x256.Slices h S32x256)
    (si : S32x256.Slices i S16x256) (q : Vec F S1x1x256 .i32) : FVec F S16x256 .bf16 :=
  mulf (extractStridedSlice S16x256 i (addf (extractStridedSlice S32x256 o nb so) (extractStridedSlice S32x256 h hi sh)) si) (scl q)

/-- The sixteen cells of a block. -/
def weights (ql : Vec F S1x256x128 .i8) (qh : Vec F S1x64x256 .i8) (Q : Fin 16 → Vec F S1x1x256 .i32) : FVec F S256x256 .bf16 :=
  concatenate S256x256 0
    [⟨S16x256, cell (low 0 ql) (high 0 0 qh) slices_S128x256_o0_0_S32x256 slices_S64x256_o0_0_S32x256 slices_S32x256_o0_0_S16x256 (Q ⟨0, by decide⟩)⟩,
     ⟨S16x256, cell (low 0 ql) (high 0 0 qh) slices_S128x256_o0_0_S32x256 slices_S64x256_o0_0_S32x256 slices_S32x256_o16_0_S16x256 (Q ⟨1, by decide⟩)⟩,
     ⟨S16x256, cell (low 0 ql) (high 0 1 qh) slices_S128x256_o32_0_S32x256 slices_S64x256_o0_0_S32x256 slices_S32x256_o0_0_S16x256 (Q ⟨2, by decide⟩)⟩,
     ⟨S16x256, cell (low 0 ql) (high 0 1 qh) slices_S128x256_o32_0_S32x256 slices_S64x256_o0_0_S32x256 slices_S32x256_o16_0_S16x256 (Q ⟨3, by decide⟩)⟩,
     ⟨S16x256, cell (low 1 ql) (high 1 0 qh) slices_S128x256_o0_0_S32x256 slices_S64x256_o0_0_S32x256 slices_S32x256_o0_0_S16x256 (Q ⟨4, by decide⟩)⟩,
     ⟨S16x256, cell (low 1 ql) (high 1 0 qh) slices_S128x256_o0_0_S32x256 slices_S64x256_o0_0_S32x256 slices_S32x256_o16_0_S16x256 (Q ⟨5, by decide⟩)⟩,
     ⟨S16x256, cell (low 1 ql) (high 1 1 qh) slices_S128x256_o32_0_S32x256 slices_S64x256_o0_0_S32x256 slices_S32x256_o0_0_S16x256 (Q ⟨6, by decide⟩)⟩,
     ⟨S16x256, cell (low 1 ql) (high 1 1 qh) slices_S128x256_o32_0_S32x256 slices_S64x256_o0_0_S32x256 slices_S32x256_o16_0_S16x256 (Q ⟨7, by decide⟩)⟩,
     ⟨S16x256, cell (low 0 ql) (high 0 0 qh) slices_S128x256_o64_0_S32x256 slices_S64x256_o32_0_S32x256 slices_S32x256_o0_0_S16x256 (Q ⟨8, by decide⟩)⟩,
     ⟨S16x256, cell (low 0 ql) (high 0 0 qh) slices_S128x256_o64_0_S32x256 slices_S64x256_o32_0_S32x256 slices_S32x256_o16_0_S16x256 (Q ⟨9, by decide⟩)⟩,
     ⟨S16x256, cell (low 0 ql) (high 0 1 qh) slices_S128x256_o96_0_S32x256 slices_S64x256_o32_0_S32x256 slices_S32x256_o0_0_S16x256 (Q ⟨10, by decide⟩)⟩,
     ⟨S16x256, cell (low 0 ql) (high 0 1 qh) slices_S128x256_o96_0_S32x256 slices_S64x256_o32_0_S32x256 slices_S32x256_o16_0_S16x256 (Q ⟨11, by decide⟩)⟩,
     ⟨S16x256, cell (low 1 ql) (high 1 0 qh) slices_S128x256_o64_0_S32x256 slices_S64x256_o32_0_S32x256 slices_S32x256_o0_0_S16x256 (Q ⟨12, by decide⟩)⟩,
     ⟨S16x256, cell (low 1 ql) (high 1 0 qh) slices_S128x256_o64_0_S32x256 slices_S64x256_o32_0_S32x256 slices_S32x256_o16_0_S16x256 (Q ⟨13, by decide⟩)⟩,
     ⟨S16x256, cell (low 1 ql) (high 1 1 qh) slices_S128x256_o96_0_S32x256 slices_S64x256_o32_0_S32x256 slices_S32x256_o0_0_S16x256 (Q ⟨14, by decide⟩)⟩,
     ⟨S16x256, cell (low 1 ql) (high 1 1 qh) slices_S128x256_o96_0_S32x256 slices_S64x256_o32_0_S32x256 slices_S32x256_o16_0_S16x256 (Q ⟨15, by decide⟩)⟩]
    concatenates_S16x256_S16x256_S16x256_S16x256_S16x256_S16x256_S16x256_S16x256_S16x256_S16x256_S16x256_S16x256_S16x256_S16x256_S16x256_S16x256_S256x256_d0

/-- One block's contribution added to the sum so far. -/
def step (acc : FVec F S40x256 .f32) (ql : Vec F S1x256x128 .i8) (qh : Vec F S1x64x256 .i8) (QH QL : Fin 16 → Vec F S1x1x256 .i32)
    (a : Vec F S1x40x256 .i8) (d0 d1 : Vec F S1x1x128 .f32) (sa : Vec F S1x40x128 .f32) : FVec F S40x256 .f32 :=
  addf acc (mulf
    (concatenate S40x256 1 [⟨S40x128, shapeCast S40x128 sa shapeCasts_S1x40x128_S40x128⟩, ⟨S40x128, shapeCast S40x128 sa shapeCasts_S1x40x128_S40x128⟩] concatenates_S40x128_S40x128_S40x256_d1)
    (mulf (broadcastTo S40x256 (concatenate S1x256 1 [⟨S1x128, shapeCast S1x128 d0 shapeCasts_S1x1x128_S1x128⟩, ⟨S1x128, shapeCast S1x128 d1 shapeCasts_S1x1x128_S1x128⟩] concatenates_S1x128_S1x128_S1x256_d1) broadcasts_S1x256_S40x256)
      (addf
        (matmul dot_S40x256_S256x256_S40x256_1_0_0_1_n_n none
          (mulf (sitofp .bf16 (shapeCast S40x256 a shapeCasts_S1x40x256_S40x256)) (broadcast S40x256 (Scalar.ofBits .bf16 0x4180#16)))
          (weights ql qh QH) (constant S40x256 .f32 0x00000000#32))
        (matmul dot_S40x256_S256x256_S40x256_1_0_0_1_n_n none
          (sitofp .bf16 (shapeCast S40x256 a shapeCasts_S1x40x256_S40x256))
          (weights ql qh QL) (constant S40x256 .f32 0x00000000#32)))))

end Cert.Six
end
-- ==== Proof.DownVal.lean ====
/- One block's contribution at an index, over the extended reals. -/
module

public import proofs.«01_k».proof.Proof.DownStep

@[expose] public section

noncomputable section

namespace Cert.Six

open Idealize.ShloMosaic Idealize.SL.Sem Cert.DownIdeal Cert.DownIdeal.Gen

variable {F : FTy → Type} [FloatOps F]

/-- Lane `l` of half `t` of a tile of 256 columns. -/
def lane (t : Fin 2) (l : Fin 128) : Fin 256 := ⟨128 * t.val + l.val, by omega⟩

theorem scl_apply (q : Vec Ideal S1x1x256 .i32) (r : Fin 16) (n : Fin 256) (z : ℤ) (h0 : 0 ≤ z + 8) (h1 : z + 8 < 17)
    (hq : ∀ h : Fin 2, (q (ix3 0 0 n)).extractLsb' (16 * h.val) 16 = 0x4300#16 ||| BitVec.ofNat 16 (z + 8).toNat) :
    scl (F := Ideal) q (ix2 r n) = ((z : ℝ) : EReal) := by
  unfold scl
  pointwise
  rw [bitcast_32_16]
  have hrow : S16x256.row (ix2 r n) = r.val := by simp [Shape.row, Shape.rowAx]
  have e : ∀ hp, bitcasts_S8x256_w32_S16x256_w16.srcIdx (ix2 r n) (S16x256.row (ix2 r n) / 2) hp = ix2 ⟨r.val / 2, by omega⟩ n := by
    intro hp
    funext a
    match a with
    | ⟨0, _⟩ => exact Fin.ext ((Shape.Bitcasts.srcIdx_row _ _ _ _ ⟨0, Nat.zero_lt_two⟩ rfl).trans (by show S16x256.row (ix2 r n) / 2 = r.val / 2; rw [hrow]))
    | ⟨1, _⟩ => exact Fin.ext (Shape.Bitcasts.srcIdx_other _ _ _ _ ⟨1, Nat.one_lt_two⟩ (by show ¬ 1 + 2 = 2; omega))
  rw [e, hrow]
  pointwise
  refine Eq.trans ?_ (mag z h0 h1)
  exact congrArg (fun w => Ideal.ofBits .bf16 w - Ideal.ofBits .bf16 0x4308#16) (hq ⟨r.val % 2, by omega⟩)

/-- The byte of row `4 y + b` is byte `b` of word row `y`, either way. -/
theorem toBytesL (w : IVec S64x128 32) (y : Fin 64) (b : Fin 4) (l : Fin 128) (r : Fin 256) (hr : r.val = 4 * y.val + b.val) :
    bitcast S256x128 8 w bitcasts_S64x128_w32_S256x128_w8 (ix2 r l) = byteOf (w (ix2 y l)) b := by
  have hrow : S256x128.row (ix2 r l) = r.val := by simp [Shape.row, Shape.rowAx]
  apply BitVec.eq_of_getLsbD_eq
  intro q hq
  rw [bitcast_getLsbD _ _ _ q hq (by decide)]
  have e : ∀ hp, bitcasts_S64x128_w32_S256x128_w8.srcIdx (ix2 r l) ((S256x128.row (ix2 r l) * 8 + q) / 32) hp = ix2 y l := by
    intro hp
    funext a
    match a with
    | ⟨0, _⟩ => exact Fin.ext ((Shape.Bitcasts.srcIdx_row _ _ _ _ ⟨0, Nat.zero_lt_two⟩ rfl).trans (by show (S256x128.row (ix2 r l) * 8 + q) / 32 = y.val; rw [hrow]; omega))
    | ⟨1, _⟩ => exact Fin.ext (Shape.Bitcasts.srcIdx_other _ _ _ _ ⟨1, Nat.one_lt_two⟩ (by show ¬ 1 + 2 = 2; omega))
  have e1 : (S256x128.row (ix2 r l) * 8 + q) % 32 = 8 * b.val + q := by rw [hrow]; omega
  rw [e, e1]
  simp [byteOf, hq]

theorem toWordsL (v : IVec S256x128 8) (y : Fin 64) (b : Fin 4) (l : Fin 128) :
    byteOf (bitcast S64x128 32 v bitcasts_S256x128_w8_S64x128_w32 (ix2 y l)) b = v (ix2 ⟨4 * y.val + b.val, by omega⟩ l) := by
  have hrow : S64x128.row (ix2 y l) = y.val := by simp [Shape.row, Shape.rowAx]
  apply BitVec.eq_of_getLsbD_eq
  intro q hq
  have e0 : ∀ w : BitVec 32, (byteOf w b).getLsbD q = w.getLsbD (8 * b.val + q) := by intro w; simp [byteOf, hq]
  rw [e0, bitcast_8_32_getLsbD _ _ _ (8 * b.val + q) (by omega)]
  have e2 : (8 * b.val + q) % 8 = q := by omega
  have e3 : ∀ hp, bitcasts_S256x128_w8_S64x128_w32.srcIdx (ix2 y l) (4 * S64x128.row (ix2 y l) + (8 * b.val + q) / 8) hp = ix2 ⟨4 * y.val + b.val, by omega⟩ l := by
    intro hp
    funext a
    match a with
    | ⟨0, _⟩ => exact Fin.ext ((Shape.Bitcasts.srcIdx_row _ _ _ _ ⟨0, Nat.zero_lt_two⟩ rfl).trans (by show 4 * S64x128.row (ix2 y l) + (8 * b.val + q) / 8 = 4 * y.val + b.val; rw [hrow]; omega))
    | ⟨1, _⟩ => exact Fin.ext (Shape.Bitcasts.srcIdx_other _ _ _ _ ⟨1, Nat.one_lt_two⟩ (by show ¬ 1 + 2 = 2; omega))
  rw [e3, e2]

/-- The byte of row `4 y + b` is byte `b` of word row `y`, either way. -/
theorem toBytesH (w : IVec S16x256 32) (y : Fin 16) (b : Fin 4) (l : Fin 256) (r : Fin 64) (hr : r.val = 4 * y.val + b.val) :
    bitcast S64x256 8 w bitcasts_S16x256_w32_S64x256_w8 (ix2 r l) = byteOf (w (ix2 y l)) b := by
  have hrow : S64x256.row (ix2 r l) = r.val := by simp [Shape.row, Shape.rowAx]
  apply BitVec.eq_of_getLsbD_eq
  intro q hq
  rw [bitcast_getLsbD _ _ _ q hq (by decide)]
  have e : ∀ hp, bitcasts_S16x256_w32_S64x256_w8.srcIdx (ix2 r l) ((S64x256.row (ix2 r l) * 8 + q) / 32) hp = ix2 y l := by
    intro hp
    funext a
    match a with
    | ⟨0, _⟩ => exact Fin.ext ((Shape.Bitcasts.srcIdx_row _ _ _ _ ⟨0, Nat.zero_lt_two⟩ rfl).trans (by show (S64x256.row (ix2 r l) * 8 + q) / 32 = y.val; rw [hrow]; omega))
    | ⟨1, _⟩ => exact Fin.ext (Shape.Bitcasts.srcIdx_other _ _ _ _ ⟨1, Nat.one_lt_two⟩ (by show ¬ 1 + 2 = 2; omega))
  have e1 : (S64x256.row (ix2 r l) * 8 + q) % 32 = 8 * b.val + q := by rw [hrow]; omega
  rw [e, e1]
  simp [byteOf, hq]

theorem toWordsH (v : IVec S64x256 8) (y : Fin 16) (b : Fin 4) (l : Fin 256) :
    byteOf (bitcast S16x256 32 v bitcasts_S64x256_w8_S16x256_w32 (ix2 y l)) b = v (ix2 ⟨4 * y.val + b.val, by omega⟩ l) := by
  have hrow : S16x256.row (ix2 y l) = y.val := by simp [Shape.row, Shape.rowAx]
  apply BitVec.eq_of_getLsbD_eq
  intro q hq
  have e0 : ∀ w : BitVec 32, (byteOf w b).getLsbD q = w.getLsbD (8 * b.val + q) := by intro w; simp [byteOf, hq]
  rw [e0, bitcast_8_32_getLsbD _ _ _ (8 * b.val + q) (by omega)]
  have e2 : (8 * b.val + q) % 8 = q := by omega
  have e3 : ∀ hp, bitcasts_S64x256_w8_S16x256_w32.srcIdx (ix2 y l) (4 * S16x256.row (ix2 y l) + (8 * b.val + q) / 8) hp = ix2 ⟨4 * y.val + b.val, by omega⟩ l := by
    intro hp
    funext a
    match a with
    | ⟨0, _⟩ => exact Fin.ext ((Shape.Bitcasts.srcIdx_row _ _ _ _ ⟨0, Nat.zero_lt_two⟩ rfl).trans (by show 4 * S16x256.row (ix2 y l) + (8 * b.val + q) / 8 = 4 * y.val + b.val; rw [hrow]; omega))
    | ⟨1, _⟩ => exact Fin.ext (Shape.Bitcasts.srcIdx_other _ _ _ _ ⟨1, Nat.one_lt_two⟩ (by show ¬ 1 + 2 = 2; omega))
  rw [e3, e2]

theorem low_apply (f : Fin 2) (v : Vec Ideal S1x256x128 .i8) (p : Fin 128) (n : Fin 256) :
    low (F := Ideal) f v (ix2 p n) = (((lowOf f (v (ix3 0 n p))).toNat : ℝ) : EReal) := by
  obtain ⟨y, b, rfl⟩ : ∃ (y : Fin 64) (b : Fin 4), n = ⟨4 * y.val + b.val, by omega⟩ := ⟨⟨n.val / 4, by omega⟩, ⟨n.val % 4, by omega⟩, Fin.ext (by simp only []; omega)⟩
  unfold low
  pointwise
  rw [toBytesL _ y b p _ rfl]
  have e : byteOf (qlw (F := Ideal) v (ix2 y p)) b = v (ix3 0 ⟨4 * y.val + b.val, by omega⟩ p) := by
    unfold qlw
    rw [toWordsL]
    pointwise
  have h : byteOf (lowW f (qlw (F := Ideal) v) (ix2 y p)) b = lowOf f (v (ix3 0 ⟨4 * y.val + b.val, by omega⟩ p)) := by
    rw [← e]
    match f with
    | 0 => exact byte_low0 _ b
    | 1 => exact byte_low1 _ b
  rw [h]
  rfl

theorem high_apply (f g : Fin 2) (v : Vec Ideal S1x64x256 .i8) (p : Fin 64) (n : Fin 256) :
    high (F := Ideal) f g v (ix2 p n) = (((highOf f g (v (ix3 0 p n))).toNat : ℝ) : EReal) - ((32 : ℝ) : EReal) := by
  obtain ⟨y, b, rfl⟩ : ∃ (y : Fin 16) (b : Fin 4), p = ⟨4 * y.val + b.val, by omega⟩ := ⟨⟨p.val / 4, by omega⟩, ⟨p.val % 4, by omega⟩, Fin.ext (by simp only []; omega)⟩
  unfold high
  pointwise
  rw [toBytesH _ y b n _ rfl]
  have e : byteOf (qhw (F := Ideal) v (ix2 y n)) b = v (ix3 0 ⟨4 * y.val + b.val, by omega⟩ n) := by
    unfold qhw
    rw [toWordsH]
    pointwise
  have h : byteOf (andi (highW f g (qhw (F := Ideal) v)) (broadcast S16x256 808464432#32) (ix2 y n)) b
      = highOf f g (v (ix3 0 ⟨4 * y.val + b.val, by omega⟩ n)) := by
    rw [← e]
    match f, g with
    | 0, 0 => exact byte_h00 _ b
    | 0, 1 => exact byte_h01 _ b
    | 1, 0 => exact byte_h10 _ b
    | 1, 1 => exact byte_h11 _ b
  rw [h, ← thirtytwo]
  rfl

/-- Where position `k` of a block keeps its bits and its scale. -/
def kf (k : Fin 256) : Fin 2 := ⟨k.val / 64 % 2, by omega⟩
def kg (k : Fin 256) : Fin 2 := ⟨k.val / 32 % 2, by omega⟩
def kl (k : Fin 256) : Fin 128 := ⟨64 * (k.val / 128) + 32 * (k.val / 32 % 2) + k.val % 32, by omega⟩
def kh (k : Fin 256) : Fin 64 := ⟨32 * (k.val / 128) + k.val % 32, by omega⟩
def kc (k : Fin 256) : Fin 16 := ⟨k.val / 16, by omega⟩

theorem cell_apply (f g : Fin 2) (ql : Vec Ideal S1x256x128 .i8) (qh : Vec Ideal S1x64x256 .i8) (o h i : Fin 2 → Nat) (so : S128x256.Slices o S32x256)
    (sh : S64x256.Slices h S32x256) (si : S32x256.Slices i S16x256) (q : Vec Ideal S1x1x256 .i32) (r : Fin 16) (n : Fin 256) (z : ℤ)
    (p : Fin 128) (p' : Fin 64) (o' h' i' : Nat) (ho : o = ![o', 0]) (hh : h = ![h', 0]) (hi : i = ![i', 0]) (hp : p.val = o' + (i' + r.val)) (hp' : p'.val = h' + (i' + r.val))
    (h0 : 0 ≤ z + 8) (h1 : z + 8 < 17) (hq : ∀ h : Fin 2, (q (ix3 0 0 n)).extractLsb' (16 * h.val) 16 = 0x4300#16 ||| BitVec.ofNat 16 (z + 8).toNat) :
    cell (low (F := Ideal) f ql) (high f g qh) so sh si q (ix2 r n) = (((six f g (ql (ix3 0 n p)) (qh (ix3 0 p' n)) * z : ℤ) : ℝ) : EReal) := by
  subst ho hh hi
  have e := scl_apply q r n z h0 h1 hq
  have ep : ∀ x, (⟨o' + (i' + r.val), x⟩ : Fin 128) = p := fun x => Fin.ext hp.symm
  have ep' : ∀ x, (⟨h' + (i' + r.val), x⟩ : Fin 64) = p' := fun x => Fin.ext hp'.symm
  unfold cell
  pointwise
  rw [e, ep, ep', low_apply, high_apply]
  show ((((lowOf f (ql (ix3 0 n p))).toNat : ℝ) : EReal) + ((((highOf f g (qh (ix3 0 p' n))).toNat : ℝ) : EReal) - ((32 : ℝ) : EReal))) * ((z : ℝ) : EReal) = _
  rw [← EReal.coe_sub, ← EReal.coe_add, ← EReal.coe_mul]
  congr 1
  unfold six
  push_cast
  ring

set_option maxHeartbeats 2000000 in
theorem concat16 (x : Fin 16 → FVec Ideal S16x256 .bf16) (k : Fin 256) (n : Fin 256) (c r : Fin 16) (hk : k.val = 16 * c.val + r.val) :
    concatenate S256x256 0 [⟨S16x256, x ⟨0, by decide⟩⟩, ⟨S16x256, x ⟨1, by decide⟩⟩, ⟨S16x256, x ⟨2, by decide⟩⟩, ⟨S16x256, x ⟨3, by decide⟩⟩, ⟨S16x256, x ⟨4, by decide⟩⟩, ⟨S16x256, x ⟨5, by decide⟩⟩, ⟨S16x256, x ⟨6, by decide⟩⟩, ⟨S16x256, x ⟨7, by decide⟩⟩, ⟨S16x256, x ⟨8, by decide⟩⟩, ⟨S16x256, x ⟨9, by decide⟩⟩, ⟨S16x256, x ⟨10, by decide⟩⟩, ⟨S16x256, x ⟨11, by decide⟩⟩, ⟨S16x256, x ⟨12, by decide⟩⟩, ⟨S16x256, x ⟨13, by decide⟩⟩, ⟨S16x256, x ⟨14, by decide⟩⟩, ⟨S16x256, x ⟨15, by decide⟩⟩]
      concatenates_S16x256_S16x256_S16x256_S16x256_S16x256_S16x256_S16x256_S16x256_S16x256_S16x256_S16x256_S16x256_S16x256_S16x256_S16x256_S16x256_S256x256_d0 (ix2 k n) = x c (ix2 r n) := by
  have side : ∀ b : Fin S16x256.rank, Fin.cast rfl b ≠ (0 : Fin S256x256.rank) → (ix2 r n b).val = (ix2 k n (Fin.cast rfl b)).val := fun b hb =>
    match b with
    | ⟨0, _⟩ => absurd rfl hb
    | ⟨1, _⟩ => rfl
  match c with
  | ⟨0, _⟩ => exact concatenate_apply_piece 0 _ _ (ix2 k n) 0 (by show 0 < 16; omega) S16x256 (x ⟨0, by decide⟩) rfl rfl 0 rfl (ix2 r n) side hk.symm
  | ⟨1, _⟩ => exact concatenate_apply_piece 0 _ _ (ix2 k n) 1 (by show 1 < 16; omega) S16x256 (x ⟨1, by decide⟩) rfl rfl 16 rfl (ix2 r n) side hk.symm
  | ⟨2, _⟩ => exact concatenate_apply_piece 0 _ _ (ix2 k n) 2 (by show 2 < 16; omega) S16x256 (x ⟨2, by decide⟩) rfl rfl 32 rfl (ix2 r n) side hk.symm
  | ⟨3, _⟩ => exact concatenate_apply_piece 0 _ _ (ix2 k n) 3 (by show 3 < 16; omega) S16x256 (x ⟨3, by decide⟩) rfl rfl 48 rfl (ix2 r n) side hk.symm
  | ⟨4, _⟩ => exact concatenate_apply_piece 0 _ _ (ix2 k n) 4 (by show 4 < 16; omega) S16x256 (x ⟨4, by decide⟩) rfl rfl 64 rfl (ix2 r n) side hk.symm
  | ⟨5, _⟩ => exact concatenate_apply_piece 0 _ _ (ix2 k n) 5 (by show 5 < 16; omega) S16x256 (x ⟨5, by decide⟩) rfl rfl 80 rfl (ix2 r n) side hk.symm
  | ⟨6, _⟩ => exact concatenate_apply_piece 0 _ _ (ix2 k n) 6 (by show 6 < 16; omega) S16x256 (x ⟨6, by decide⟩) rfl rfl 96 rfl (ix2 r n) side hk.symm
  | ⟨7, _⟩ => exact concatenate_apply_piece 0 _ _ (ix2 k n) 7 (by show 7 < 16; omega) S16x256 (x ⟨7, by decide⟩) rfl rfl 112 rfl (ix2 r n) side hk.symm
  | ⟨8, _⟩ => exact concatenate_apply_piece 0 _ _ (ix2 k n) 8 (by show 8 < 16; omega) S16x256 (x ⟨8, by decide⟩) rfl rfl 128 rfl (ix2 r n) side hk.symm
  | ⟨9, _⟩ => exact concatenate_apply_piece 0 _ _ (ix2 k n) 9 (by show 9 < 16; omega) S16x256 (x ⟨9, by decide⟩) rfl rfl 144 rfl (ix2 r n) side hk.symm
  | ⟨10, _⟩ => exact concatenate_apply_piece 0 _ _ (ix2 k n) 10 (by show 10 < 16; omega) S16x256 (x ⟨10, by decide⟩) rfl rfl 160 rfl (ix2 r n) side hk.symm
  | ⟨11, _⟩ => exact concatenate_apply_piece 0 _ _ (ix2 k n) 11 (by show 11 < 16; omega) S16x256 (x ⟨11, by decide⟩) rfl rfl 176 rfl (ix2 r n) side hk.symm
  | ⟨12, _⟩ => exact concatenate_apply_piece 0 _ _ (ix2 k n) 12 (by show 12 < 16; omega) S16x256 (x ⟨12, by decide⟩) rfl rfl 192 rfl (ix2 r n) side hk.symm
  | ⟨13, _⟩ => exact concatenate_apply_piece 0 _ _ (ix2 k n) 13 (by show 13 < 16; omega) S16x256 (x ⟨13, by decide⟩) rfl rfl 208 rfl (ix2 r n) side hk.symm
  | ⟨14, _⟩ => exact concatenate_apply_piece 0 _ _ (ix2 k n) 14 (by show 14 < 16; omega) S16x256 (x ⟨14, by decide⟩) rfl rfl 224 rfl (ix2 r n) side hk.symm
  | ⟨15, _⟩ => exact concatenate_apply_piece 0 _ _ (ix2 k n) 15 (by show 15 < 16; omega) S16x256 (x ⟨15, by decide⟩) rfl rfl 240 rfl (ix2 r n) side hk.symm
  | ⟨_ + 16, h⟩ => exact absurd h (by omega)

theorem weights_apply (ql : Vec Ideal S1x256x128 .i8) (qh : Vec Ideal S1x64x256 .i8) (Q : Fin 16 → Vec Ideal S1x1x256 .i32) (n : Fin 256) (Z : Fin 16 → ℤ)
    (h0 : ∀ c, 0 ≤ Z c + 8) (h1 : ∀ c, Z c + 8 < 17)
    (hq : ∀ c, ∀ h : Fin 2, (Q c (ix3 0 0 n)).extractLsb' (16 * h.val) 16 = 0x4300#16 ||| BitVec.ofNat 16 (Z c + 8).toNat) (k : Fin 256) :
    weights (F := Ideal) ql qh Q (ix2 k n)
      = (((six (kf k) (kg k) (ql (ix3 0 n (kl k))) (qh (ix3 0 (kh k) n)) * Z (kc k) : ℤ) : ℝ) : EReal) := by
  obtain ⟨c, r, hk⟩ : ∃ c r : Fin 16, k.val = 16 * c.val + r.val := ⟨⟨k.val / 16, by omega⟩, ⟨k.val % 16, by omega⟩, by simp only []; omega⟩
  have hr := r.isLt
  unfold weights
  refine (concat16 (fun c => match c with
    | ⟨0, _⟩ => cell (low 0 ql) (high 0 0 qh) slices_S128x256_o0_0_S32x256 slices_S64x256_o0_0_S32x256 slices_S32x256_o0_0_S16x256 (Q ⟨0, by decide⟩)
    | ⟨1, _⟩ => cell (low 0 ql) (high 0 0 qh) slices_S128x256_o0_0_S32x256 slices_S64x256_o0_0_S32x256 slices_S32x256_o16_0_S16x256 (Q ⟨1, by decide⟩)
    | ⟨2, _⟩ => cell (low 0 ql) (high 0 1 qh) slices_S128x256_o32_0_S32x256 slices_S64x256_o0_0_S32x256 slices_S32x256_o0_0_S16x256 (Q ⟨2, by decide⟩)
    | ⟨3, _⟩ => cell (low 0 ql) (high 0 1 qh) slices_S128x256_o32_0_S32x256 slices_S64x256_o0_0_S32x256 slices_S32x256_o16_0_S16x256 (Q ⟨3, by decide⟩)
    | ⟨4, _⟩ => cell (low 1 ql) (high 1 0 qh) slices_S128x256_o0_0_S32x256 slices_S64x256_o0_0_S32x256 slices_S32x256_o0_0_S16x256 (Q ⟨4, by decide⟩)
    | ⟨5, _⟩ => cell (low 1 ql) (high 1 0 qh) slices_S128x256_o0_0_S32x256 slices_S64x256_o0_0_S32x256 slices_S32x256_o16_0_S16x256 (Q ⟨5, by decide⟩)
    | ⟨6, _⟩ => cell (low 1 ql) (high 1 1 qh) slices_S128x256_o32_0_S32x256 slices_S64x256_o0_0_S32x256 slices_S32x256_o0_0_S16x256 (Q ⟨6, by decide⟩)
    | ⟨7, _⟩ => cell (low 1 ql) (high 1 1 qh) slices_S128x256_o32_0_S32x256 slices_S64x256_o0_0_S32x256 slices_S32x256_o16_0_S16x256 (Q ⟨7, by decide⟩)
    | ⟨8, _⟩ => cell (low 0 ql) (high 0 0 qh) slices_S128x256_o64_0_S32x256 slices_S64x256_o32_0_S32x256 slices_S32x256_o0_0_S16x256 (Q ⟨8, by decide⟩)
    | ⟨9, _⟩ => cell (low 0 ql) (high 0 0 qh) slices_S128x256_o64_0_S32x256 slices_S64x256_o32_0_S32x256 slices_S32x256_o16_0_S16x256 (Q ⟨9, by decide⟩)
    | ⟨10, _⟩ => cell (low 0 ql) (high 0 1 qh) slices_S128x256_o96_0_S32x256 slices_S64x256_o32_0_S32x256 slices_S32x256_o0_0_S16x256 (Q ⟨10, by decide⟩)
    | ⟨11, _⟩ => cell (low 0 ql) (high 0 1 qh) slices_S128x256_o96_0_S32x256 slices_S64x256_o32_0_S32x256 slices_S32x256_o16_0_S16x256 (Q ⟨11, by decide⟩)
    | ⟨12, _⟩ => cell (low 1 ql) (high 1 0 qh) slices_S128x256_o64_0_S32x256 slices_S64x256_o32_0_S32x256 slices_S32x256_o0_0_S16x256 (Q ⟨12, by decide⟩)
    | ⟨13, _⟩ => cell (low 1 ql) (high 1 0 qh) slices_S128x256_o64_0_S32x256 slices_S64x256_o32_0_S32x256 slices_S32x256_o16_0_S16x256 (Q ⟨13, by decide⟩)
    | ⟨14, _⟩ => cell (low 1 ql) (high 1 1 qh) slices_S128x256_o96_0_S32x256 slices_S64x256_o32_0_S32x256 slices_S32x256_o0_0_S16x256 (Q ⟨14, by decide⟩)
    | ⟨15, _⟩ => cell (low 1 ql) (high 1 1 qh) slices_S128x256_o96_0_S32x256 slices_S64x256_o32_0_S32x256 slices_S32x256_o16_0_S16x256 (Q ⟨15, by decide⟩)
    | ⟨_ + 16, h⟩ => absurd h (by omega)) k n c r hk).trans ?_
  match c with
  | ⟨0, _⟩ =>
    have e : k.val = 0 + r.val := hk
    rw [show kf k = 0 from Fin.ext (by show k.val / 64 % 2 = 0; omega), show kg k = 0 from Fin.ext (by show k.val / 32 % 2 = 0; omega), show kc k = ⟨0, by decide⟩ from Fin.ext (by show k.val / 16 = 0; omega)]
    exact cell_apply 0 0 ql qh _ _ _ _ _ _ _ r n _ (kl k) (kh k) 0 0 0 rfl rfl rfl (by simp only [kl]; omega) (by simp only [kh]; omega) (h0 _) (h1 _) (hq _)
  | ⟨1, _⟩ =>
    have e : k.val = 16 + r.val := hk
    rw [show kf k = 0 from Fin.ext (by show k.val / 64 % 2 = 0; omega), show kg k = 0 from Fin.ext (by show k.val / 32 % 2 = 0; omega), show kc k = ⟨1, by decide⟩ from Fin.ext (by show k.val / 16 = 1; omega)]
    exact cell_apply 0 0 ql qh _ _ _ _ _ _ _ r n _ (kl k) (kh k) 0 0 16 rfl rfl rfl (by simp only [kl]; omega) (by simp only [kh]; omega) (h0 _) (h1 _) (hq _)
  | ⟨2, _⟩ =>
    have e : k.val = 32 + r.val := hk
    rw [show kf k = 0 from Fin.ext (by show k.val / 64 % 2 = 0; omega), show kg k = 1 from Fin.ext (by show k.val / 32 % 2 = 1; omega), show kc k = ⟨2, by decide⟩ from Fin.ext (by show k.val / 16 = 2; omega)]
    exact cell_apply 0 1 ql qh _ _ _ _ _ _ _ r n _ (kl k) (kh k) 32 0 0 rfl rfl rfl (by simp only [kl]; omega) (by simp only [kh]; omega) (h0 _) (h1 _) (hq _)
  | ⟨3, _⟩ =>
    have e : k.val = 48 + r.val := hk
    rw [show kf k = 0 from Fin.ext (by show k.val / 64 % 2 = 0; omega), show kg k = 1 from Fin.ext (by show k.val / 32 % 2 = 1; omega), show kc k = ⟨3, by decide⟩ from Fin.ext (by show k.val / 16 = 3; omega)]
    exact cell_apply 0 1 ql qh _ _ _ _ _ _ _ r n _ (kl k) (kh k) 32 0 16 rfl rfl rfl (by simp only [kl]; omega) (by simp only [kh]; omega) (h0 _) (h1 _) (hq _)
  | ⟨4, _⟩ =>
    have e : k.val = 64 + r.val := hk
    rw [show kf k = 1 from Fin.ext (by show k.val / 64 % 2 = 1; omega), show kg k = 0 from Fin.ext (by show k.val / 32 % 2 = 0; omega), show kc k = ⟨4, by decide⟩ from Fin.ext (by show k.val / 16 = 4; omega)]
    exact cell_apply 1 0 ql qh _ _ _ _ _ _ _ r n _ (kl k) (kh k) 0 0 0 rfl rfl rfl (by simp only [kl]; omega) (by simp only [kh]; omega) (h0 _) (h1 _) (hq _)
  | ⟨5, _⟩ =>
    have e : k.val = 80 + r.val := hk
    rw [show kf k = 1 from Fin.ext (by show k.val / 64 % 2 = 1; omega), show kg k = 0 from Fin.ext (by show k.val / 32 % 2 = 0; omega), show kc k = ⟨5, by decide⟩ from Fin.ext (by show k.val / 16 = 5; omega)]
    exact cell_apply 1 0 ql qh _ _ _ _ _ _ _ r n _ (kl k) (kh k) 0 0 16 rfl rfl rfl (by simp only [kl]; omega) (by simp only [kh]; omega) (h0 _) (h1 _) (hq _)
  | ⟨6, _⟩ =>
    have e : k.val = 96 + r.val := hk
    rw [show kf k = 1 from Fin.ext (by show k.val / 64 % 2 = 1; omega), show kg k = 1 from Fin.ext (by show k.val / 32 % 2 = 1; omega), show kc k = ⟨6, by decide⟩ from Fin.ext (by show k.val / 16 = 6; omega)]
    exact cell_apply 1 1 ql qh _ _ _ _ _ _ _ r n _ (kl k) (kh k) 32 0 0 rfl rfl rfl (by simp only [kl]; omega) (by simp only [kh]; omega) (h0 _) (h1 _) (hq _)
  | ⟨7, _⟩ =>
    have e : k.val = 112 + r.val := hk
    rw [show kf k = 1 from Fin.ext (by show k.val / 64 % 2 = 1; omega), show kg k = 1 from Fin.ext (by show k.val / 32 % 2 = 1; omega), show kc k = ⟨7, by decide⟩ from Fin.ext (by show k.val / 16 = 7; omega)]
    exact cell_apply 1 1 ql qh _ _ _ _ _ _ _ r n _ (kl k) (kh k) 32 0 16 rfl rfl rfl (by simp only [kl]; omega) (by simp only [kh]; omega) (h0 _) (h1 _) (hq _)
  | ⟨8, _⟩ =>
    have e : k.val = 128 + r.val := hk
    rw [show kf k = 0 from Fin.ext (by show k.val / 64 % 2 = 0; omega), show kg k = 0 from Fin.ext (by show k.val / 32 % 2 = 0; omega), show kc k = ⟨8, by decide⟩ from Fin.ext (by show k.val / 16 = 8; omega)]
    exact cell_apply 0 0 ql qh _ _ _ _ _ _ _ r n _ (kl k) (kh k) 64 32 0 rfl rfl rfl (by simp only [kl]; omega) (by simp only [kh]; omega) (h0 _) (h1 _) (hq _)
  | ⟨9, _⟩ =>
    have e : k.val = 144 + r.val := hk
    rw [show kf k = 0 from Fin.ext (by show k.val / 64 % 2 = 0; omega), show kg k = 0 from Fin.ext (by show k.val / 32 % 2 = 0; omega), show kc k = ⟨9, by decide⟩ from Fin.ext (by show k.val / 16 = 9; omega)]
    exact cell_apply 0 0 ql qh _ _ _ _ _ _ _ r n _ (kl k) (kh k) 64 32 16 rfl rfl rfl (by simp only [kl]; omega) (by simp only [kh]; omega) (h0 _) (h1 _) (hq _)
  | ⟨10, _⟩ =>
    have e : k.val = 160 + r.val := hk
    rw [show kf k = 0 from Fin.ext (by show k.val / 64 % 2 = 0; omega), show kg k = 1 from Fin.ext (by show k.val / 32 % 2 = 1; omega), show kc k = ⟨10, by decide⟩ from Fin.ext (by show k.val / 16 = 10; omega)]
    exact cell_apply 0 1 ql qh _ _ _ _ _ _ _ r n _ (kl k) (kh k) 96 32 0 rfl rfl rfl (by simp only [kl]; omega) (by simp only [kh]; omega) (h0 _) (h1 _) (hq _)
  | ⟨11, _⟩ =>
    have e : k.val = 176 + r.val := hk
    rw [show kf k = 0 from Fin.ext (by show k.val / 64 % 2 = 0; omega), show kg k = 1 from Fin.ext (by show k.val / 32 % 2 = 1; omega), show kc k = ⟨11, by decide⟩ from Fin.ext (by show k.val / 16 = 11; omega)]
    exact cell_apply 0 1 ql qh _ _ _ _ _ _ _ r n _ (kl k) (kh k) 96 32 16 rfl rfl rfl (by simp only [kl]; omega) (by simp only [kh]; omega) (h0 _) (h1 _) (hq _)
  | ⟨12, _⟩ =>
    have e : k.val = 192 + r.val := hk
    rw [show kf k = 1 from Fin.ext (by show k.val / 64 % 2 = 1; omega), show kg k = 0 from Fin.ext (by show k.val / 32 % 2 = 0; omega), show kc k = ⟨12, by decide⟩ from Fin.ext (by show k.val / 16 = 12; omega)]
    exact cell_apply 1 0 ql qh _ _ _ _ _ _ _ r n _ (kl k) (kh k) 64 32 0 rfl rfl rfl (by simp only [kl]; omega) (by simp only [kh]; omega) (h0 _) (h1 _) (hq _)
  | ⟨13, _⟩ =>
    have e : k.val = 208 + r.val := hk
    rw [show kf k = 1 from Fin.ext (by show k.val / 64 % 2 = 1; omega), show kg k = 0 from Fin.ext (by show k.val / 32 % 2 = 0; omega), show kc k = ⟨13, by decide⟩ from Fin.ext (by show k.val / 16 = 13; omega)]
    exact cell_apply 1 0 ql qh _ _ _ _ _ _ _ r n _ (kl k) (kh k) 64 32 16 rfl rfl rfl (by simp only [kl]; omega) (by simp only [kh]; omega) (h0 _) (h1 _) (hq _)
  | ⟨14, _⟩ =>
    have e : k.val = 224 + r.val := hk
    rw [show kf k = 1 from Fin.ext (by show k.val / 64 % 2 = 1; omega), show kg k = 1 from Fin.ext (by show k.val / 32 % 2 = 1; omega), show kc k = ⟨14, by decide⟩ from Fin.ext (by show k.val / 16 = 14; omega)]
    exact cell_apply 1 1 ql qh _ _ _ _ _ _ _ r n _ (kl k) (kh k) 96 32 0 rfl rfl rfl (by simp only [kl]; omega) (by simp only [kh]; omega) (h0 _) (h1 _) (hq _)
  | ⟨15, _⟩ =>
    have e : k.val = 240 + r.val := hk
    rw [show kf k = 1 from Fin.ext (by show k.val / 64 % 2 = 1; omega), show kg k = 1 from Fin.ext (by show k.val / 32 % 2 = 1; omega), show kc k = ⟨15, by decide⟩ from Fin.ext (by show k.val / 16 = 15; omega)]
    exact cell_apply 1 1 ql qh _ _ _ _ _ _ _ r n _ (kl k) (kh k) 96 32 16 rfl rfl rfl (by simp only [kl]; omega) (by simp only [kh]; omega) (h0 _) (h1 _) (hq _)
  | ⟨_ + 16, h⟩ => exact absurd h (by omega)

/-- What one block adds, at a row and a column: the group's scale, the column's scale, and the products of the codes with the weights
and their signed scales. -/
def term (A : Fin 256 → BitVec 8) (q : Fin 128 → BitVec 8) (p : Fin 64 → BitVec 8) (v : Fin 16 → BitVec 8) (D a : EReal) : EReal :=
  a * (D * (((∑ k : Fin 256, (A k).toInt * (six (kf k) (kg k) (q (kl k)) (p (kh k)) * (v (kc k)).toInt) : ℤ) : ℝ) : EReal))

theorem coe_sum (f : Fin 256 → ℝ) : (∑ k, ((f k : ℝ) : EReal)) = ((∑ k, f k : ℝ) : EReal) := by
  classical
  induction (Finset.univ : Finset (Fin 256)) using Finset.induction_on with
  | empty => simp
  | insert a s ha ih => rw [Finset.sum_insert ha, Finset.sum_insert ha, ih, EReal.coe_add]

theorem dots_eq (A : Fin 256 → ℤ) (w : Fin 256 → ℤ) (H L V : Fin 256 → ℤ) (hv : ∀ k, 16 * H k + L k = V k) :
    (∑ k : Fin 256, (((A k : ℤ) : ℝ) : EReal) * ((16 : ℝ) : EReal) * (((w k * H k : ℤ) : ℝ) : EReal)) + ∑ k : Fin 256, (((A k : ℤ) : ℝ) : EReal) * (((w k * L k : ℤ) : ℝ) : EReal)
      = (((∑ k, A k * (w k * V k) : ℤ) : ℝ) : EReal) := by
  simp only [← EReal.coe_mul]
  rw [coe_sum, coe_sum, ← EReal.coe_add, ← Finset.sum_add_distrib]
  congr 1
  push_cast
  refine Finset.sum_congr rfl fun k _ => ?_
  rw [← hv k]
  push_cast
  ring

theorem step_apply (acc : FVec Ideal S40x256 .f32) (ql : Vec Ideal S1x256x128 .i8) (qh : Vec Ideal S1x64x256 .i8) (QH QL : Fin 16 → Vec Ideal S1x1x256 .i32)
    (a : Vec Ideal S1x40x256 .i8) (d0 d1 : Vec Ideal S1x1x128 .f32) (sa : Vec Ideal S1x40x128 .f32)
    (v : Fin 16 → Fin 256 → BitVec 8) (D : Fin 256 → EReal) (Sa : Fin 40 → EReal)
    (hQH : ∀ c n, QH c (ix3 0 0 n) = dup (hiW (v c n) + 8#32)) (hQL : ∀ c n, QL c (ix3 0 0 n) = dup (loW (v c n) + 8#32))
    (hd0 : ∀ l, d0 (ix3 0 0 l) = D (lane 0 l)) (hd1 : ∀ l, d1 (ix3 0 0 l) = D (lane 1 l))
    (hsa : ∀ i l, sa (ix3 0 i l) = Sa i) (i : Fin 40) (n : Fin 256) :
    step acc ql qh QH QL a d0 d1 sa (ix2 i n)
      = acc (ix2 i n) + term (fun k => a (ix3 0 i k)) (fun p => ql (ix3 0 n p)) (fun p => qh (ix3 0 p n)) (fun c => v c n) (D n) (Sa i) := by
  have eh : ∀ k, weights (F := Ideal) ql qh QH (ix2 k n) = _ := weights_apply ql qh QH n (fun c => hiS (v c n))
    (fun c => (hi_range _).1) (fun c => (hi_range _).2) (fun c h => by rw [hQH]; exact dup_hi _ h)
  have el : ∀ k, weights (F := Ideal) ql qh QL (ix2 k n) = _ := weights_apply ql qh QL n (fun c => loS (v c n))
    (fun c => (lo_range _).1) (fun c => (lo_range _).2) (fun c h => by rw [hQL]; exact dup_lo _ h)
  have key := dots_eq (fun k => (a (ix3 0 i k)).toInt) (fun k => six (kf k) (kg k) (ql (ix3 0 n (kl k))) (qh (ix3 0 (kh k) n)))
    (fun k => hiS (v (kc k) n)) (fun k => loS (v (kc k) n)) (fun k => (v (kc k) n).toInt) (fun k => split_scale _)
  unfold step term
  rw [← key]
  obtain ⟨t, l, rfl⟩ : ∃ t l, n = lane t l := ⟨⟨n.val / 128, by omega⟩, ⟨n.val % 128, by omega⟩, Fin.ext (by simp only [lane]; omega)⟩
  pointwise
  match t with
  | ⟨0, _⟩ =>
    have hlt : (lane 0 l).val < 128 := by have := l.isLt; simp [lane]
    have hl : ∀ p, (⟨(lane 0 l).val, p⟩ : Fin 128) = l := fun p => Fin.ext (by simp [lane])
    simp only [Fin.mk_zero, Fin.mk_one, Fin.zero_eta, Fin.reduceFinMk] at eh el ⊢
    simp only [dif_pos hlt, hl, hsa, hd0, sixteen, eh, el]
    rfl
  | ⟨1, _⟩ =>
    have hlt : ¬ (lane 1 l).val < 128 := by have := l.isLt; simp [lane]
    have hl : ∀ p, (⟨(lane 1 l).val - 128, p⟩ : Fin 128) = l := fun p => Fin.ext (by simp [lane])
    simp only [Fin.mk_zero, Fin.mk_one, Fin.zero_eta, Fin.reduceFinMk] at eh el ⊢
    simp only [dif_neg hlt, hl, hsa, hd1, sixteen, eh, el]
    rfl

end Cert.Six
end
-- ==== Proof.DownDTile.lean ====
/- The 16-bit factors of the down projection: the words built of them, and what a load of rows reads. -/
module

public import proofs.«01_k».proof.Proof.DTile
public import proofs.«01_k».proof.Proof.DownVal
public import Idealize.ShloMosaic.Lib.WholeRead

@[expose] public section

noncomputable section

namespace Cert.Six

open Idealize.ShloMosaic Idealize.SL.Sem Cert.DownIdeal Cert.DownIdeal.Gen
open Cert.Step (f16)

variable {F : FTy → Type} [FloatOps F]

/-- The exponent bits and the fraction bits of 16-bit words, made a float. -/
def fv16 (w : IVec S14x256 32) : FVec F S14x256 .f32 :=
  let e : IVec S14x256 32 := andi (shrsi w (broadcast S14x256 10#32)) (broadcast S14x256 31#32)
  let f : IVec S14x256 32 := andi w (broadcast S14x256 1023#32)
  let lead : IVec S14x256 32 := shrsi (addi e (broadcast S14x256 31#32)) (broadcast S14x256 5#32)
  mulf (sitofp .f32 (ori f (shli lead (broadcast S14x256 10#32))))
    (bitcastToFloat .f32 (shli (subi (addi e (broadcast S14x256 103#32)) lead) (broadcast S14x256 23#32)))

theorem fv16_apply (w : IVec S14x256 32) (i : S14x256.Idx) : (fv16 w : FVec F S14x256 .f32) i = f16 (w i) := rfl

def words16 (v : Vec F S28x256 .i16) : IVec S14x256 32 := shapeCast S14x256 (bitcast S14x256 32 v bitcasts_S28x256_w16_S14x256_w32) shapeCasts_S14x256_S14x256
def evens (v : Vec F S28x256 .i16) : IVec S14x256 32 := andi (words16 v) (broadcast S14x256 32767#32)
def odds (v : Vec F S28x256 .i16) : IVec S14x256 32 := andi (shrsi (words16 v) (broadcast S14x256 16#32)) (broadcast S14x256 32767#32)

def dtile (w : IVec S14x256 32) (off : Fin 2 → Nat) (h : S14x256.Slices off S14x128) : FVec F S1x14x128 .f32 :=
  shapeCast S1x14x128 (extractStridedSlice S14x128 off (fv16 w) h) shapeCasts_S14x128_S1x14x128

theorem words16_eq (v : Vec F S28x256 .i16) : words16 v = bitcast S14x256 32 v bitcasts_S28x256_w16_S14x256_w32 := by
  unfold words16
  exact shapeCast_self _ _

theorem evens_apply (v : Vec F S28x256 .i16) (i : S14x256.Idx) : evens v i = words16 v i &&& 32767#32 := rfl
theorem odds_apply (v : Vec F S28x256 .i16) (i : S14x256.Idx) : odds v i = (words16 v i).sshiftRight 16 &&& 32767#32 := rfl

theorem words16_lo (v : Vec F S28x256 .i16) (y : Fin 14) (n : Fin 256) :
    words16 v (ix2 y n) &&& 32767#32 = (v (ix2 ⟨2 * y.val, by omega⟩ n)).setWidth 32 &&& 32767#32 := by
  have hrow : S14x256.row (ix2 y n) = y.val := by simp [Shape.row, Shape.rowAx]
  apply BitVec.eq_of_getLsbD_eq; intro q hq
  rw [BitVec.getLsbD_and, BitVec.getLsbD_and, BitVec.getLsbD_setWidth]
  have hm : ∀ q < 32, (32767#32).getLsbD q = decide (q < 15) := by decide
  rw [hm q hq]
  by_cases h15 : q < 15
  · rw [words16_eq, bitcast_getLsbD _ _ _ q hq (by decide)]
    have e : ∀ hp, bitcasts_S28x256_w16_S14x256_w32.srcIdx (ix2 y n) ((S14x256.row (ix2 y n) * 32 + q) / 16) hp = ix2 ⟨2 * y.val, by omega⟩ n := by
      intro hp
      funext a
      match a with
      | ⟨0, _⟩ => exact Fin.ext ((Shape.Bitcasts.srcIdx_row _ _ _ _ ⟨0, Nat.zero_lt_two⟩ rfl).trans (by show (S14x256.row (ix2 y n) * 32 + q) / 16 = 2 * y.val; rw [hrow]; omega))
      | ⟨1, _⟩ => exact Fin.ext (Shape.Bitcasts.srcIdx_other _ _ _ _ ⟨1, Nat.one_lt_two⟩ (by show ¬ 1 + 2 = 2; omega))
    have e1 : (S14x256.row (ix2 y n) * 32 + q) % 16 = q := by rw [hrow]; omega
    rw [e, e1]
    simp [h15, hq]
  · simp [h15]

theorem words16_hi (v : Vec F S28x256 .i16) (y : Fin 14) (n : Fin 256) :
    (words16 v (ix2 y n)).sshiftRight 16 &&& 32767#32 = (v (ix2 ⟨2 * y.val + 1, by omega⟩ n)).setWidth 32 &&& 32767#32 := by
  have hrow : S14x256.row (ix2 y n) = y.val := by simp [Shape.row, Shape.rowAx]
  apply BitVec.eq_of_getLsbD_eq; intro q hq
  rw [BitVec.getLsbD_and, BitVec.getLsbD_and, BitVec.getLsbD_setWidth, BitVec.getLsbD_sshiftRight]
  have hm : ∀ q < 32, (32767#32).getLsbD q = decide (q < 15) := by decide
  rw [hm q hq]
  by_cases h15 : q < 15
  · have h1 : decide (32 ≤ q) = false := by simp; omega
    have h2 : 16 + q < 32 := by omega
    rw [h1, if_pos h2]
    rw [words16_eq, bitcast_getLsbD _ _ _ (16 + q) h2 (by decide)]
    have e : ∀ hp, bitcasts_S28x256_w16_S14x256_w32.srcIdx (ix2 y n) ((S14x256.row (ix2 y n) * 32 + (16 + q)) / 16) hp = ix2 ⟨2 * y.val + 1, by omega⟩ n := by
      intro hp
      funext a
      match a with
      | ⟨0, _⟩ => exact Fin.ext ((Shape.Bitcasts.srcIdx_row _ _ _ _ ⟨0, Nat.zero_lt_two⟩ rfl).trans (by show (S14x256.row (ix2 y n) * 32 + (16 + q)) / 16 = 2 * y.val + 1; rw [hrow]; omega))
      | ⟨1, _⟩ => exact Fin.ext (Shape.Bitcasts.srcIdx_other _ _ _ _ ⟨1, Nat.one_lt_two⟩ (by show ¬ 1 + 2 = 2; omega))
    have e1 : (S14x256.row (ix2 y n) * 32 + (16 + q)) % 16 = q := by rw [hrow]; omega
    rw [e, e1]
    simp [h15, hq]
  · simp [h15]

/-- The factor of block `s` of column `n`. -/
def factor (v : Vec F S28x256 .i16) (s : Fin 28) (n : Fin 256) : F .f32 := f16 ((v (ix2 s n)).setWidth 32 &&& 32767#32)

theorem dtile_evens (v : Vec F S28x256 .i16) (t : Fin 2) (h : S14x256.Slices ![0, 128 * t.val] S14x128) (y : Fin 14) (l : Fin 128) :
    dtile (F := F) (evens v) ![0, 128 * t.val] h (ix3 0 y l) = factor v ⟨2 * y.val, by omega⟩ (lane t l) := by
  unfold dtile
  pointwise
  rw [fv16_apply, evens_apply]
  exact congrArg f16 (words16_lo v y (lane t l))

theorem dtile_odds (v : Vec F S28x256 .i16) (t : Fin 2) (h : S14x256.Slices ![0, 128 * t.val] S14x128) (y : Fin 14) (l : Fin 128) :
    dtile (F := F) (odds v) ![0, 128 * t.val] h (ix3 0 y l) = factor v ⟨2 * y.val + 1, by omega⟩ (lane t l) := by
  unfold dtile
  pointwise
  rw [fv16_apply, odds_apply]
  exact congrArg f16 (words16_hi v y (lane t l))

theorem inb4 (t p : Fin 2) : ∀ a, S1x14x128.size a = 0 ∨ ![t.val, p.val, 0] a + ![1, 2, 1] a * (S1x14x128.size a - 1) < S2x28x128.size a := by
  revert t p; decide

theorem slices4 (t : Fin 2) : S14x256.Slices ![0, 128 * t.val] S14x128 := by
  revert t; decide

def dp (v : Vec F S28x256 .i16) (t p : Fin 2) : View.Piece (Elt F) S2x28x128 .f32 :=
  ⟨{ off := ![t.val, p.val, 0], size := S1x14x128.size, stride := ![1, 2, 1], inb := inb4 t p, stride_pos := spos_1_2_1 },
    match p with
    | 0 => dtile (evens v) ![0, 128 * t.val] (slices4 t)
    | 1 => dtile (odds v) ![0, 128 * t.val] (slices4 t)⟩

def dpieces (v : Vec F S28x256 .i16) : List (View.Piece (Elt F) S2x28x128 .f32) := [dp v 1 1, dp v 1 0, dp v 0 1, dp v 0 0]

theorem canon_dpieces (v : Vec F S28x256 .i16) (t : Fin 2) (s : Fin 28) (l : Fin 128) :
    View.canon (Val := Elt F) (dpieces v) (ix3 t s l) = factor v s (lane t l) := by
  refine View.canon_apply_of_pieces (Val := Elt F) (e := .f32) (S := S2x28x128) (fun j => factor v (j 1) (lane (j 0) (j 2))) _ ?_ (ix3 t s l) ?_
  · intro p hp x
    obtain ⟨t', p', rfl⟩ : ∃ t b, p = dp v t b := by
      simp only [dpieces, List.mem_cons, List.not_mem_nil, or_false] at hp
      rcases hp with h|h|h|h <;> exact ⟨_, _, h⟩
    have e0 : (x 0).val = 0 := Nat.lt_one_iff.mp (x 0).isLt
    have k0 : (dp v t' p').1.emb x 0 = t' := Fin.ext (by show t'.val + 1 * (x 0).val = t'.val; omega)
    have k2 : (dp v t' p').1.emb x 2 = x 2 := Fin.ext (by show 0 + 1 * (x 2).val = (x 2).val; omega)
    have k : x = ix3 0 (x 1) (x 2) := by
      funext a
      match a with
      | ⟨0, _⟩ => exact Fin.ext e0
      | ⟨1, _⟩ => rfl
      | ⟨2, _⟩ => rfl
    show (dp v t' p').2 x = factor v _ (lane _ _)
    rw [k0, k2]
    match p' with
    | 0 =>
      refine (congrArg (dp v t' 0).2 k).trans ((dtile_evens v t' (slices4 t') (x 1) (x 2)).trans (congrArg (fun q => factor v q (lane t' (x 2))) ?_))
      exact Fin.ext (by show 2 * (x 1).val = 0 + 2 * (x 1).val; omega)
    | 1 =>
      refine (congrArg (dp v t' 1).2 k).trans ((dtile_odds v t' (slices4 t') (x 1) (x 2)).trans (congrArg (fun q => factor v q (lane t' (x 2))) ?_))
      exact Fin.ext (by show 2 * (x 1).val + 1 = 1 + 2 * (x 1).val; omega)
  · have hp : s.val % 2 < 2 := Nat.mod_lt _ (by decide)
    refine ⟨dp v t ⟨s.val % 2, hp⟩, ?_, ?_⟩
    · generalize (⟨s.val % 2, hp⟩ : Fin 2) = p
      fin_cases t <;> fin_cases p <;> simp [dpieces]
    · have e : ix3 t s l = (dp v t ⟨s.val % 2, hp⟩).1.emb (ix3 0 ⟨s.val / 2, by omega⟩ l) := by
        funext a
        match a with
        | ⟨0, _⟩ => rfl
        | ⟨1, _⟩ => exact Fin.ext (by show s.val = s.val % 2 + 2 * (s.val / 2); omega)
        | ⟨2, _⟩ => exact Fin.ext (by show l.val = 0 + 1 * l.val; omega)
      rw [e]
      exact LoadRect.idx_mem _ _

theorem dload (vw : View sig .tc .vmem S2x28x128 .f32) (v : Vec F S28x256 .i16) (t : Fin 2) (s : Fin 28)
    (h : ∀ a, ![t.val, s.val, 0] a + S1x1x128.size a ≤ S2x28x128.size a) (l : Fin 128) :
    vw.readCov (Val := Elt F) (dpieces v) (Rect.unit (s := S2x28x128) ![t.val, s.val, 0] S1x1x128.size h).toLoadRect (ix3 0 0 l)
      = factor v s (lane t l) := by
  rw [View.readCov_eq_canon', ← canon_dpieces v t s l]
  refine congrArg _ ?_
  funext a
  match a with
  | ⟨0, _⟩ => rfl
  | ⟨1, _⟩ => rfl
  | ⟨2, _⟩ => exact Fin.ext (by show 0 + 1 * l.val = l.val; omega)

theorem rows16_apply (m : Memref sig .tc .vmem S28x256 .i16) (hm : m.IsWhole) (x : Vec F S28x256 .i16)
    (h : ∀ a, ![0, 0] a + S28x256.size a ≤ S28x256.size a) :
    View.readAt (Elt F) m.view (Rect.unit (s := S28x256) ![0, 0] S28x256.size h).toLoadRect (hm.unread x) = x := by
  funext i
  rw [Memref.IsWhole.readAt_unread]
  refine congrArg x ?_
  funext a
  match a with
  | ⟨0, _⟩ => exact Fin.ext (by show 0 + 1 * (i 0).val = (i 0).val; omega)
  | ⟨1, _⟩ => exact Fin.ext (by show 0 + 1 * (i 1).val = (i 1).val; omega)

end Cert.Six
end
-- ==== Proof.DownTile.lean ====
/- The scale words of the down projection and the activations' scales, spread over lanes: what a load reads. -/
module

public import proofs.«01_k».proof.Proof.DownDTile

@[expose] public section

noncomputable section

namespace Cert.Six

open Idealize.ShloMosaic Idealize.SL.Sem Cert.DownIdeal Cert.DownIdeal.Gen

variable {F : FTy → Type} [FloatOps F]

theorem inbAS (s : Fin 28) : ∀ a, ![s.val, 0, 0] a + S1x40x128.size a ≤ S28x40x128.size a := by
  revert s; decide

theorem slicesAS (s : Fin 28) : S40x28.Slices ![0, s.val] S40x1 := by
  revert s; decide

theorem castsAS : S40x1.ShapeCasts S40x1 := by decide
theorem broadcastsAS : S40x1.Broadcasts S40x128 := by decide
theorem castsAS' : S40x128.ShapeCasts S1x40x128 := by decide

def astile (v : Vec F S40x28 .f32) (s : Fin 28) : FVec F S1x40x128 .f32 :=
  shapeCast S1x40x128 (broadcastTo S40x128 (shapeCast S40x1 (extractStridedSlice S40x1 ![0, s.val] v (slicesAS s)) castsAS) broadcastsAS) castsAS'

theorem astile_apply (v : Vec F S40x28 .f32) (s : Fin 28) (i : Fin 40) (l : Fin 128) : astile v s (ix3 0 i l) = v (ix2 i s) := by
  unfold astile
  pointwise

def asp (v : Vec F S40x28 .f32) (s : Fin 28) : View.Piece (Elt F) S28x40x128 .f32 :=
  ⟨Rect.unit (s := S28x40x128) ![s.val, 0, 0] S1x40x128.size (inbAS s), astile v s⟩

def aspieces (v : Vec F S40x28 .f32) : List (View.Piece (Elt F) S28x40x128 .f32) :=
  [asp v 27, asp v 26, asp v 25, asp v 24, asp v 23, asp v 22, asp v 21, asp v 20, asp v 19, asp v 18, asp v 17, asp v 16, asp v 15, asp v 14, asp v 13, asp v 12, asp v 11, asp v 10, asp v 9, asp v 8, asp v 7, asp v 6, asp v 5, asp v 4, asp v 3, asp v 2, asp v 1, asp v 0]

theorem canon_aspieces (v : Vec F S40x28 .f32) (s : Fin 28) (i : Fin 40) (l : Fin 128) :
    View.canon (Val := Elt F) (aspieces v) (ix3 s i l) = v (ix2 i s) := by
  refine View.canon_apply_of_pieces (Val := Elt F) (e := .f32) (S := S28x40x128) (fun j => v (ix2 (j 1) (j 0))) _ ?_ (ix3 s i l) ?_
  · intro p hp x
    obtain ⟨s', rfl⟩ : ∃ s, p = asp v s := by
      simp only [aspieces, List.mem_cons, List.not_mem_nil, or_false] at hp
      rcases hp with h|h|h|h|h|h|h|h|h|h|h|h|h|h|h|h|h|h|h|h|h|h|h|h|h|h|h|h <;> exact ⟨_, h⟩
    have e0 : (x 0).val = 0 := Nat.lt_one_iff.mp (x 0).isLt
    have k0 : (asp v s').1.emb x 0 = s' := Fin.ext (by show s'.val + 1 * (x 0).val = s'.val; omega)
    have k1 : (asp v s').1.emb x 1 = x 1 := Fin.ext (by show 0 + 1 * (x 1).val = (x 1).val; omega)
    have k : x = ix3 0 (x 1) (x 2) := by
      funext a
      match a with
      | ⟨0, _⟩ => exact Fin.ext e0
      | ⟨1, _⟩ => rfl
      | ⟨2, _⟩ => rfl
    show astile v s' x = v (ix2 _ _)
    rw [k0, k1]
    exact (congrArg (astile v s') k).trans (astile_apply v s' (x 1) (x 2))
  · refine ⟨asp v s, ?_, ?_⟩
    · fin_cases s <;> simp [aspieces]
    · refine (Rect.mem_set_unit (s := S28x40x128) (inb := inbAS s)).mpr fun a => ?_
      match a with
      | ⟨0, _⟩ => exact ⟨Nat.le_refl _, Nat.lt_succ_self _⟩
      | ⟨1, _⟩ => exact ⟨Nat.zero_le _, by show i.val < 0 + 40; omega⟩
      | ⟨2, _⟩ => exact ⟨Nat.zero_le _, by show l.val < 0 + 128; omega⟩

theorem asload (vw : View sig .tc .vmem S28x40x128 .f32) (v : Vec F S40x28 .f32) (s : Fin 28)
    (h : ∀ a, ![s.val, 0, 0] a + S1x40x128.size a ≤ S28x40x128.size a) (i : Fin 40) (l : Fin 128) :
    vw.readCov (Val := Elt F) (aspieces v) (Rect.unit (s := S28x40x128) ![s.val, 0, 0] S1x40x128.size h).toLoadRect (ix3 0 i l) = v (ix2 i s) := by
  rw [View.readCov_eq_canon', ← canon_aspieces v s i l]
  refine congrArg _ ?_
  funext a
  match a with
  | ⟨0, _⟩ => rfl
  | ⟨1, _⟩ => exact Fin.ext (by show 0 + 1 * i.val = i.val; omega)
  | ⟨2, _⟩ => exact Fin.ext (by show 0 + 1 * l.val = l.val; omega)

theorem scales_apply (m : Memref sig .tc .vmem S40x28 .f32) (hm : m.IsWhole) (x : Vec F S40x28 .f32)
    (h : ∀ a, ![0, 0] a + S40x28.size a ≤ S40x28.size a) :
    View.readAt (Elt F) m.view (Rect.unit (s := S40x28) ![0, 0] S40x28.size h).toLoadRect (hm.unread x) = x := by
  funext i
  rw [Memref.IsWhole.readAt_unread]
  refine congrArg x ?_
  funext a
  match a with
  | ⟨0, _⟩ => exact Fin.ext (by show 0 + 1 * (i 0).val = (i 0).val; omega)
  | ⟨1, _⟩ => exact Fin.ext (by show 0 + 1 * (i 1).val = (i 1).val; omega)

/-- One block's rows of a whole window of three axes. -/
theorem arow_apply (m : Memref sig .tc .vmem S28x40x256 .i8) (hm : m.IsWhole) (x : Vec F S28x40x256 .i8) (s : Fin 28)
    (h : ∀ a, ![s.val, 0, 0] a + S1x40x256.size a ≤ S28x40x256.size a) (i : Fin 40) (k : Fin 256) :
    View.readAt (Elt F) m.view (Rect.unit (s := S28x40x256) ![s.val, 0, 0] S1x40x256.size h).toLoadRect (hm.unread x) (ix3 0 i k) = x (ix3 s i k) := by
  rw [Memref.IsWhole.readAt_unread]
  refine congrArg x ?_
  funext a
  match a with
  | ⟨0, _⟩ => rfl
  | ⟨1, _⟩ => exact Fin.ext (by show 0 + 1 * i.val = i.val; omega)
  | ⟨2, _⟩ => exact Fin.ext (by show 0 + 1 * k.val = k.val; omega)

theorem srow_apply (m : Memref sig .tc .vmem S28x40x128 .f32) (hm : m.IsWhole) (x : Vec F S28x40x128 .f32) (s : Fin 28)
    (h : ∀ a, ![s.val, 0, 0] a + S1x40x128.size a ≤ S28x40x128.size a) (i : Fin 40) (k : Fin 128) :
    View.readAt (Elt F) m.view (Rect.unit (s := S28x40x128) ![s.val, 0, 0] S1x40x128.size h).toLoadRect (hm.unread x) (ix3 0 i k) = x (ix3 s i k) := by
  rw [Memref.IsWhole.readAt_unread]
  refine congrArg x ?_
  funext a
  match a with
  | ⟨0, _⟩ => rfl
  | ⟨1, _⟩ => exact Fin.ext (by show 0 + 1 * i.val = i.val; omega)
  | ⟨2, _⟩ => exact Fin.ext (by show 0 + 1 * k.val = k.val; omega)

/-- One block's rows of the packed weights. -/
theorem lrow_apply (m : Memref sig .tc .vmem S28x256x128 .i8) (hm : m.IsWhole) (x : Vec F S28x256x128 .i8) (s : Fin 28)
    (h : ∀ a, ![s.val, 0, 0] a + S1x256x128.size a ≤ S28x256x128.size a) (i : Fin 256) (k : Fin 128) :
    View.readAt (Elt F) m.view (Rect.unit (s := S28x256x128) ![s.val, 0, 0] S1x256x128.size h).toLoadRect (hm.unread x) (ix3 0 i k) = x (ix3 s i k) := by
  rw [Memref.IsWhole.readAt_unread]
  refine congrArg x ?_
  funext a
  match a with
  | ⟨0, _⟩ => rfl
  | ⟨1, _⟩ => exact Fin.ext (by show 0 + 1 * i.val = i.val; omega)
  | ⟨2, _⟩ => exact Fin.ext (by show 0 + 1 * k.val = k.val; omega)

theorem hrow_apply (m : Memref sig .tc .vmem S28x64x256 .i8) (hm : m.IsWhole) (x : Vec F S28x64x256 .i8) (s : Fin 28)
    (h : ∀ a, ![s.val, 0, 0] a + S1x64x256.size a ≤ S28x64x256.size a) (i : Fin 64) (k : Fin 256) :
    View.readAt (Elt F) m.view (Rect.unit (s := S28x64x256) ![s.val, 0, 0] S1x64x256.size h).toLoadRect (hm.unread x) (ix3 0 i k) = x (ix3 s i k) := by
  rw [Memref.IsWhole.readAt_unread]
  refine congrArg x ?_
  funext a
  match a with
  | ⟨0, _⟩ => rfl
  | ⟨1, _⟩ => exact Fin.ext (by show 0 + 1 * i.val = i.val; omega)
  | ⟨2, _⟩ => exact Fin.ext (by show 0 + 1 * k.val = k.val; omega)

/-- One block's scales. -/
theorem crow_apply (m : Memref sig .tc .vmem S28x16x256 .i8) (hm : m.IsWhole) (x : Vec F S28x16x256 .i8) (s : Fin 28)
    (h : ∀ a, ![s.val, 0, 0] a + S1x16x256.size a ≤ S28x16x256.size a) (i : Fin 16) (k : Fin 256) :
    View.readAt (Elt F) m.view (Rect.unit (s := S28x16x256) ![s.val, 0, 0] S1x16x256.size h).toLoadRect (hm.unread x) (ix3 0 i k) = x (ix3 s i k) := by
  rw [Memref.IsWhole.readAt_unread]
  refine congrArg x ?_
  funext a
  match a with
  | ⟨0, _⟩ => rfl
  | ⟨1, _⟩ => exact Fin.ext (by show 0 + 1 * i.val = i.val; omega)
  | ⟨2, _⟩ => exact Fin.ext (by show 0 + 1 * k.val = k.val; omega)

def ext16 (w : Vec F S1x16x256 .i8) : IVec S16x256 32 := extsi 32 (shapeCast S16x256 w shapeCasts_S1x16x256_S16x256) natLt_8_32
def hi16 (w : Vec F S1x16x256 .i8) : IVec S16x256 32 := shrsi (addi (ext16 w) (broadcast S16x256 8#32)) (broadcast S16x256 4#32)
def lo16 (w : Vec F S1x16x256 .i8) : IVec S16x256 32 := subi (ext16 w) (shli (hi16 w) (broadcast S16x256 4#32))
/-- A part and eight, in both halves of a word, each under the exponent of 128. -/
def dupv (b : IVec S16x256 32) : IVec S1x16x256 32 :=
  shapeCast S1x16x256 (ori (ori (addi b (broadcast S16x256 8#32)) (shli (addi b (broadcast S16x256 8#32)) (broadcast S16x256 16#32))) (broadcast S16x256 1124090624#32))
    shapeCasts_S16x256_S1x16x256

theorem hi16_apply (w : Vec F S1x16x256 .i8) (k : Fin 16) (n : Fin 256) : dupv (hi16 w) (ix3 0 k n) = dup (hiW (w (ix3 0 k n)) + 8#32) := by
  unfold dupv hi16 ext16
  pointwise
  rfl
theorem lo16_apply (w : Vec F S1x16x256 .i8) (k : Fin 16) (n : Fin 256) : dupv (lo16 w) (ix3 0 k n) = dup (loW (w (ix3 0 k n)) + 8#32) := by
  unfold dupv lo16 hi16 ext16
  pointwise
  rfl

theorem inbC (s : Fin 28) : ∀ a, ![s.val, 0, 0] a + S1x16x256.size a ≤ S28x16x256.size a := by
  revert s; decide

/-- Which part of the scales: the upper or the lower. -/
def part (b : Bool) (w : Vec F S1x16x256 .i8) : IVec S16x256 32 :=
  match b with
  | true => hi16 w
  | false => lo16 w
def partW (b : Bool) (x : BitVec 8) : BitVec 32 :=
  match b with
  | true => hiW x
  | false => loW x

theorem part_apply (b : Bool) (w : Vec F S1x16x256 .i8) (k : Fin 16) (n : Fin 256) : dupv (part b w) (ix3 0 k n) = dup (partW b (w (ix3 0 k n)) + 8#32) :=
  match b with
  | true => hi16_apply w k n
  | false => lo16_apply w k n

def scp (b : Bool) (m : Memref sig .tc .vmem S28x16x256 .i8) (hm : m.IsWhole) (x : Vec F S28x16x256 .i8) (s : Fin 28) : View.Piece (Elt F) S28x16x256 .i32 :=
  ⟨Rect.unit (s := S28x16x256) ![s.val, 0, 0] S1x16x256.size (inbC s),
    dupv (part b (View.readAt (Elt F) m.view (Rect.unit (s := S28x16x256) ![s.val, 0, 0] S1x16x256.size (inbC s)).toLoadRect (hm.unread x)))⟩

def scpieces (b : Bool) (m : Memref sig .tc .vmem S28x16x256 .i8) (hm : m.IsWhole) (x : Vec F S28x16x256 .i8) : List (View.Piece (Elt F) S28x16x256 .i32) :=
  [scp b m hm x ⟨27, by decide⟩, scp b m hm x ⟨26, by decide⟩, scp b m hm x ⟨25, by decide⟩, scp b m hm x ⟨24, by decide⟩, scp b m hm x ⟨23, by decide⟩, scp b m hm x ⟨22, by decide⟩, scp b m hm x ⟨21, by decide⟩, scp b m hm x ⟨20, by decide⟩, scp b m hm x ⟨19, by decide⟩, scp b m hm x ⟨18, by decide⟩, scp b m hm x ⟨17, by decide⟩, scp b m hm x ⟨16, by decide⟩, scp b m hm x ⟨15, by decide⟩, scp b m hm x ⟨14, by decide⟩, scp b m hm x ⟨13, by decide⟩, scp b m hm x ⟨12, by decide⟩, scp b m hm x ⟨11, by decide⟩, scp b m hm x ⟨10, by decide⟩, scp b m hm x ⟨9, by decide⟩, scp b m hm x ⟨8, by decide⟩, scp b m hm x ⟨7, by decide⟩, scp b m hm x ⟨6, by decide⟩, scp b m hm x ⟨5, by decide⟩, scp b m hm x ⟨4, by decide⟩, scp b m hm x ⟨3, by decide⟩, scp b m hm x ⟨2, by decide⟩, scp b m hm x ⟨1, by decide⟩, scp b m hm x ⟨0, by decide⟩]

theorem canon_scpieces (b : Bool) (m : Memref sig .tc .vmem S28x16x256 .i8) (hm : m.IsWhole) (x : Vec F S28x16x256 .i8) (s : Fin 28) (k : Fin 16) (n : Fin 256) :
    View.canon (Val := Elt F) (scpieces b m hm x) (ix3 s k n) = dup (partW b (x (ix3 s k n)) + 8#32) := by
  refine View.canon_apply_of_pieces (Val := Elt F) (e := .i32) (S := S28x16x256) (fun j => dup (partW b (x j) + 8#32)) _ ?_ (ix3 s k n) ?_
  · intro p hp y
    obtain ⟨s', rfl⟩ : ∃ s, p = scp b m hm x s := by
      simp only [scpieces, List.mem_cons, List.not_mem_nil, or_false] at hp
      rcases hp with h|h|h|h|h|h|h|h|h|h|h|h|h|h|h|h|h|h|h|h|h|h|h|h|h|h|h|h <;> exact ⟨_, h⟩
    have k0 : (scp b m hm x s').1.emb y = ix3 s' (y 1) (y 2) := by
      have e0 : (y 0).val = 0 := Nat.lt_one_iff.mp (y 0).isLt
      funext a
      match a with
      | ⟨0, _⟩ => exact Fin.ext (by show s'.val + 1 * (y 0).val = s'.val; omega)
      | ⟨1, _⟩ => exact Fin.ext (by show 0 + 1 * (y 1).val = (y 1).val; omega)
      | ⟨2, _⟩ => exact Fin.ext (by show 0 + 1 * (y 2).val = (y 2).val; omega)
    have k1 : y = ix3 0 (y 1) (y 2) := by
      have e0 : (y 0).val = 0 := Nat.lt_one_iff.mp (y 0).isLt
      funext a
      match a with
      | ⟨0, _⟩ => exact Fin.ext e0
      | ⟨1, _⟩ => rfl
      | ⟨2, _⟩ => rfl
    show (scp b m hm x s').2 y = dup (partW b (x _) + 8#32)
    rw [k0]
    refine (congrArg (scp b m hm x s').2 k1).trans ((part_apply b _ (y 1) (y 2)).trans ?_)
    rw [crow_apply m hm x s' (inbC s') (y 1) (y 2)]
    rfl
  · refine ⟨scp b m hm x s, ?_, ?_⟩
    · fin_cases s <;> simp [scpieces]
    · refine (Rect.mem_set_unit (s := S28x16x256) (inb := inbC s)).mpr fun a => ?_
      match a with
      | ⟨0, _⟩ => exact ⟨Nat.le_refl _, Nat.lt_succ_self _⟩
      | ⟨1, _⟩ => exact ⟨Nat.zero_le _, by show k.val < 0 + 16; omega⟩
      | ⟨2, _⟩ => exact ⟨Nat.zero_le _, by show n.val < 0 + 256; omega⟩

theorem scload (vw : View sig .tc .vmem S28x16x256 .i32) (b : Bool) (m : Memref sig .tc .vmem S28x16x256 .i8) (hm : m.IsWhole) (x : Vec F S28x16x256 .i8)
    (s : Fin 28) (k : Fin 16) (h : ∀ a, ![s.val, k.val, 0] a + S1x1x256.size a ≤ S28x16x256.size a) (n : Fin 256) :
    vw.readCov (Val := Elt F) (scpieces b m hm x) (Rect.unit (s := S28x16x256) ![s.val, k.val, 0] S1x1x256.size h).toLoadRect (ix3 0 0 n)
      = dup (partW b (x (ix3 s k n)) + 8#32) := by
  rw [View.readCov_eq_canon', ← canon_scpieces b m hm x s k n]
  refine congrArg _ ?_
  funext a
  match a with
  | ⟨0, _⟩ => rfl
  | ⟨1, _⟩ => rfl
  | ⟨2, _⟩ => exact Fin.ext (by show 0 + 1 * n.val = n.val; omega)

end Cert.Six
end
-- ==== Proof.DownChain.lean ====
/- One block of the down projection's kernel body, by the windows' elements. -/
module

public import proofs.«01_k».proof.Proof.DownTile

@[expose] public section

noncomputable section

namespace Cert.Six

open Idealize.ShloMosaic Idealize.SL.Sem Cert.DownIdeal Cert.DownIdeal.Gen

theorem inbR1 (s : Fin 28) : ∀ a, ![s.val, 0, 0] a + S1x40x256.size a ≤ S28x40x256.size a := by revert s; decide
theorem inbR3 (s : Fin 28) : ∀ a, ![s.val, 0, 0] a + S1x256x128.size a ≤ S28x256x128.size a := by revert s; decide
theorem inbR4 (s : Fin 28) : ∀ a, ![s.val, 0, 0] a + S1x64x256.size a ≤ S28x64x256.size a := by revert s; decide
theorem inbQ (s : Fin 28) (k : Fin 16) : ∀ a, ![s.val, k.val, 0] a + S1x1x256.size a ≤ S28x16x256.size a := fun a =>
  match a with
  | ⟨0, _⟩ => by show s.val + 1 ≤ 28; omega
  | ⟨1, _⟩ => by show k.val + 1 ≤ 16; omega
  | ⟨2, _⟩ => by show 0 + 256 ≤ 256; omega
theorem inbD (t : Fin 2) (s : Fin 28) : ∀ a, ![t.val, s.val, 0] a + S1x1x128.size a ≤ S2x28x128.size a := fun a =>
  match a with
  | ⟨0, _⟩ => by show t.val + 1 ≤ 2; omega
  | ⟨1, _⟩ => by show s.val + 1 ≤ 28; omega
  | ⟨2, _⟩ => by show 0 + 128 ≤ 128; omega

/-- What a block does to the running sum, with the loads it makes. -/
def blockStep {F : FTy → Type} [FloatOps F] (b1 : Memref sig .tc .vmem S28x40x256 .i8) (hb1 : b1.IsWhole) (b3 : Memref sig .tc .vmem S28x256x128 .i8) (hb3 : b3.IsWhole)
    (b4 : Memref sig .tc .vmem S28x64x256 .i8) (hb4 : b4.IsWhole) (b9 b10 : Memref sig .tc .vmem S28x16x256 .i32) (b11 : Memref sig .tc .vmem S2x28x128 .f32)
    (x0 : Vec F S28x40x256 .i8) (x2 : Vec F S28x256x128 .i8) (x3 : Vec F S28x64x256 .i8)
    (LH LL : List (View.Piece (Elt F) S28x16x256 .i32)) (LD : List (View.Piece (Elt F) S2x28x128 .f32))
    (s : Fin 28) (acc : FVec F S40x256 .f32) (sa : Vec F S1x40x128 .f32) : FVec F S40x256 .f32 :=
  step acc (View.readAt (Elt F) b3.view (Rect.unit (s := S28x256x128) ![s.val, 0, 0] S1x256x128.size (inbR3 s)).toLoadRect (hb3.unread x2))
    (View.readAt (Elt F) b4.view (Rect.unit (s := S28x64x256) ![s.val, 0, 0] S1x64x256.size (inbR4 s)).toLoadRect (hb4.unread x3))
    (fun k => b9.view.readCov (Val := Elt F) LH (Rect.unit (s := S28x16x256) ![s.val, k.val, 0] S1x1x256.size (inbQ s k)).toLoadRect)
    (fun k => b10.view.readCov (Val := Elt F) LL (Rect.unit (s := S28x16x256) ![s.val, k.val, 0] S1x1x256.size (inbQ s k)).toLoadRect)
    (View.readAt (Elt F) b1.view (Rect.unit (s := S28x40x256) ![s.val, 0, 0] S1x40x256.size (inbR1 s)).toLoadRect (hb1.unread x0))
    (b11.view.readCov (Val := Elt F) LD (Rect.unit (s := S2x28x128) ![0, s.val, 0] S1x1x128.size (inbD 0 s)).toLoadRect)
    (b11.view.readCov (Val := Elt F) LD (Rect.unit (s := S2x28x128) ![1, s.val, 0] S1x1x128.size (inbD 1 s)).toLoadRect) sa

/-- A block's term at an element, by the windows' elements. -/
def blockTerm (x0 : Vec Ideal S28x40x256 .i8) (x2 : Vec Ideal S28x256x128 .i8) (x3 : Vec Ideal S28x64x256 .i8) (x4 : Vec Ideal S28x16x256 .i8) (x5 : Vec Ideal S28x256 .i16)
    (Sa : Fin 28 → Fin 40 → EReal) (i : Fin 40) (n : Fin 256) (s : Fin 28) : EReal :=
  term (fun k => x0 (ix3 s i k)) (fun p => x2 (ix3 s n p)) (fun p => x3 (ix3 s p n)) (fun c => x4 (ix3 s c n)) (factor (F := Ideal) x5 s n) (Sa s i)

/-- The sum of the first blocks' terms. -/
def upTo (x0 : Vec Ideal S28x40x256 .i8) (x2 : Vec Ideal S28x256x128 .i8) (x3 : Vec Ideal S28x64x256 .i8) (x4 : Vec Ideal S28x16x256 .i8) (x5 : Vec Ideal S28x256 .i16)
    (Sa : Fin 28 → Fin 40 → EReal) (i : Fin 40) (n : Fin 256) (N : ℕ) : EReal :=
  ∑ s ∈ Finset.range N, if h : s < 28 then blockTerm x0 x2 x3 x4 x5 Sa i n ⟨s, h⟩ else 0

theorem upTo_all (x0 : Vec Ideal S28x40x256 .i8) (x2 : Vec Ideal S28x256x128 .i8) (x3 : Vec Ideal S28x64x256 .i8) (x4 : Vec Ideal S28x16x256 .i8) (x5 : Vec Ideal S28x256 .i16)
    (Sa : Fin 28 → Fin 40 → EReal) (i : Fin 40) (n : Fin 256) : upTo x0 x2 x3 x4 x5 Sa i n 28 = ∑ s, blockTerm x0 x2 x3 x4 x5 Sa i n s := by
  unfold upTo
  rw [Finset.sum_range]
  exact Finset.sum_congr rfl fun s _ => dif_pos s.isLt

theorem start_apply (x0 : Vec Ideal S28x40x256 .i8) (x2 : Vec Ideal S28x256x128 .i8) (x3 : Vec Ideal S28x64x256 .i8) (x4 : Vec Ideal S28x16x256 .i8) (x5 : Vec Ideal S28x256 .i16)
    (Sa : Fin 28 → Fin 40 → EReal) (i : Fin 40) (n : Fin 256) : (constant S40x256 .f32 0x00000000#32 : FVec Ideal S40x256 .f32) (ix2 i n) = upTo x0 x2 x3 x4 x5 Sa i n 0 := by
  show Ideal.ofBits .f32 0x00000000#32 = _
  simp [upTo, Ideal.ofBits, Ideal.ieee]

theorem next (b1 : Memref sig .tc .vmem S28x40x256 .i8) (hb1 : b1.IsWhole) (b3 : Memref sig .tc .vmem S28x256x128 .i8) (hb3 : b3.IsWhole)
    (b4 : Memref sig .tc .vmem S28x64x256 .i8) (hb4 : b4.IsWhole) (b5 : Memref sig .tc .vmem S28x16x256 .i8) (hb5 : b5.IsWhole) (b9 b10 : Memref sig .tc .vmem S28x16x256 .i32) (b11 : Memref sig .tc .vmem S2x28x128 .f32)
    (x0 : Vec Ideal S28x40x256 .i8) (x2 : Vec Ideal S28x256x128 .i8) (x3 : Vec Ideal S28x64x256 .i8) (x4 : Vec Ideal S28x16x256 .i8) (x5 : Vec Ideal S28x256 .i16)
    (LH LL : List (View.Piece (Elt Ideal) S28x16x256 .i32)) (LD : List (View.Piece (Elt Ideal) S2x28x128 .f32))
    (eH : LH = scpieces true b5 hb5 x4) (eL : LL = scpieces false b5 hb5 x4) (eD : LD = dpieces x5)
    (Sa : Fin 28 → Fin 40 → EReal) (s : Fin 28) (acc out : FVec Ideal S40x256 .f32) (sa : Vec Ideal S1x40x128 .f32)
    (h : out = blockStep b1 hb1 b3 hb3 b4 hb4 b9 b10 b11 x0 x2 x3 LH LL LD s acc sa)
    (hsa : ∀ i l, sa (ix3 0 i l) = Sa s i) (hacc : ∀ i n, acc (ix2 i n) = upTo x0 x2 x3 x4 x5 Sa i n s.val) (i : Fin 40) (n : Fin 256) :
    out (ix2 i n) = upTo x0 x2 x3 x4 x5 Sa i n (s.val + 1) := by
  subst h eH eL eD
  unfold blockStep
  refine (step_apply _ _ _ _ _ _ _ _ _ (fun c n => x4 (ix3 s c n)) (fun n => factor (F := Ideal) x5 s n) (fun i => Sa s i)
    (fun c n => scload b9.view true b5 hb5 x4 s c _ n) (fun c n => scload b10.view false b5 hb5 x4 s c _ n)
    (fun l => dload b11.view x5 0 s _ l) (fun l => dload b11.view x5 1 s _ l) hsa i n).trans ?_
  rw [hacc i n]
  simp only [lrow_apply b3 hb3 x2 s, hrow_apply b4 hb4 x3 s, arow_apply b1 hb1 x0 s]
  unfold upTo
  rw [Finset.sum_range_succ, dif_pos s.isLt]
  rfl

end Cert.Six
end
-- ==== Proof.DownA.lean ====
/- The down projection's body at the first grid point: its running sum after each block. -/
module

public import proofs.«01_k».proof.Proof.DownChain
public import proofs.«01_k».proof.Proof.Gen.DownIdeal.Frame
public import proofs.«01_k».proof.Proof.Tile

@[expose] public section

noncomputable section

namespace Cert.Six

open Idealize.ShloMosaic Idealize.SL.Sem Cert.DownIdeal Cert.DownIdeal.Gen Cert.DownIdeal.Gen.kernelRun0_A.sl

section

variable {F : FTy → Type} [FloatOps F] (c : Dev nD) (i0 : grid0.Coords)
  (b1 : Memref sig Kind.tc Space.vmem S28x40x256 EltTy.i8) (hb1 : b1.IsWhole)
  (b2 : Memref sig Kind.tc Space.vmem S40x28 EltTy.f32) (hb2 : b2.IsWhole)
  (b3 : Memref sig Kind.tc Space.vmem S28x256x128 EltTy.i8) (hb3 : b3.IsWhole)
  (b4 : Memref sig Kind.tc Space.vmem S28x64x256 EltTy.i8) (hb4 : b4.IsWhole)
  (b5 : Memref sig Kind.tc Space.vmem S28x16x256 EltTy.i8) (hb5 : b5.IsWhole)
  (b6 : Memref sig Kind.tc Space.vmem S28x256 EltTy.i16) (hb6 : b6.IsWhole)
  (b7 : Memref sig Kind.tc Space.vmem S40x256 EltTy.f32) (hb7 : b7.IsWhole)
  (b8 : Memref sig Kind.tc Space.vmem S28x40x128 EltTy.f32) (hb8 : b8.IsWhole)
  (b9 : Memref sig Kind.tc Space.vmem S28x16x256 EltTy.i32) (hb9 : b9.IsWhole)
  (b10 : Memref sig Kind.tc Space.vmem S28x16x256 EltTy.i32) (hb10 : b10.IsWhole)
  (b11 : Memref sig Kind.tc Space.vmem S2x28x128 EltTy.f32) (hb11 : b11.IsWhole)
  (x0 : Vec F S28x40x256 .i8) (x1 : Vec F S40x28 .f32) (x2 : Vec F S28x256x128 .i8) (x3 : Vec F S28x64x256 .i8) (x4 : Vec F S28x16x256 .i8) (x5 : Vec F S28x256 .i16) (xs0 : Vec F S28x40x128 .f32)

theorem hiA : (HS1_28 (F := F) c b5 hb5 x4) = scpieces true b5 hb5 x4 := rfl
theorem loA : (HS2_28 (F := F) c b5 hb5 x4) = scpieces false b5 hb5 x4 := rfl
theorem facA : (HS3_4 (F := F) c b6 hb6 x5) = dpieces (View.readAt (Elt F) b6.view (Rect.unit (s := S28x256) ![0, 0] S28x256.size inb_S28x256_S28x256_0_0).toLoadRect (hb6.unread x5)) := rfl
theorem scaA : (HS0_28 (F := F) c b2 hb2 x1) = aspieces (View.readAt (Elt F) b2.view (Rect.unit (s := S40x28) ![0, 0] S40x28.size inb_S40x28_S40x28_0_0).toLoadRect (hb2.unread x1)) := rfl
/-- Block `s` of the body. -/
def bodyA (s : Fin 28) (acc : FVec F S40x256 .f32) : FVec F S40x256 .f32 := blockStep b1 hb1 b3 hb3 b4 hb4 b9 b10 b11 x0 x2 x3 (HS1_28 (F := F) c b5 hb5 x4) (HS2_28 (F := F) c b5 hb5 x4) (HS3_4 (F := F) c b6 hb6 x5) s acc (b8.view.readCov (Val := Elt F) (HS0_28 (F := F) c b2 hb2 x1) (Rect.unit (s := S28x40x128) ![s.val, 0, 0] S1x40x128.size (inbAS s)).toLoadRect)
theorem blockA_0 : (r_60 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 0 (constant S40x256 .f32 0x00000000#32) := rfl
theorem blockA_1 : (r_114 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 1 (r_60 c b1 hb1 b2 hb2 b3 hb3 b4 hb4 b5 hb5 b6 hb6 b8 b9 b10 b11 x0 x1 x2 x3 x4 x5) := rfl
theorem blockA_2 : (r_169 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 2 (r_114 c b1 hb1 b2 hb2 b3 hb3 b4 hb4 b5 hb5 b6 hb6 b8 b9 b10 b11 x0 x1 x2 x3 x4 x5) := rfl
theorem blockA_3 : (r_224 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 3 (r_169 c b1 hb1 b2 hb2 b3 hb3 b4 hb4 b5 hb5 b6 hb6 b8 b9 b10 b11 x0 x1 x2 x3 x4 x5) := rfl
theorem blockA_4 : (r_276 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 4 (r_224 c b1 hb1 b2 hb2 b3 hb3 b4 hb4 b5 hb5 b6 hb6 b8 b9 b10 b11 x0 x1 x2 x3 x4 x5) := rfl
theorem blockA_5 : (r_333 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 5 (r_276 c b1 hb1 b2 hb2 b3 hb3 b4 hb4 b5 hb5 b6 hb6 b8 b9 b10 b11 x0 x1 x2 x3 x4 x5) := rfl
theorem blockA_6 : (r_387 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 6 (r_333 c b1 hb1 b2 hb2 b3 hb3 b4 hb4 b5 hb5 b6 hb6 b8 b9 b10 b11 x0 x1 x2 x3 x4 x5) := rfl
theorem blockA_7 : (r_440 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 7 (r_387 c b1 hb1 b2 hb2 b3 hb3 b4 hb4 b5 hb5 b6 hb6 b8 b9 b10 b11 x0 x1 x2 x3 x4 x5) := rfl
theorem blockA_8 : (r_495 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 8 (r_440 c b1 hb1 b2 hb2 b3 hb3 b4 hb4 b5 hb5 b6 hb6 b8 b9 b10 b11 x0 x1 x2 x3 x4 x5) := rfl
theorem blockA_9 : (r_546 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 9 (r_495 c b1 hb1 b2 hb2 b3 hb3 b4 hb4 b5 hb5 b6 hb6 b8 b9 b10 b11 x0 x1 x2 x3 x4 x5) := rfl
theorem blockA_10 : (r_601 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 10 (r_546 c b1 hb1 b2 hb2 b3 hb3 b4 hb4 b5 hb5 b6 hb6 b8 b9 b10 b11 x0 x1 x2 x3 x4 x5) := rfl
theorem blockA_11 : (r_656 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 11 (r_601 c b1 hb1 b2 hb2 b3 hb3 b4 hb4 b5 hb5 b6 hb6 b8 b9 b10 b11 x0 x1 x2 x3 x4 x5) := rfl
theorem blockA_12 : (r_710 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 12 (r_656 c b1 hb1 b2 hb2 b3 hb3 b4 hb4 b5 hb5 b6 hb6 b8 b9 b10 b11 x0 x1 x2 x3 x4 x5) := rfl
theorem blockA_13 : (r_766 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 13 (r_710 c b1 hb1 b2 hb2 b3 hb3 b4 hb4 b5 hb5 b6 hb6 b8 b9 b10 b11 x0 x1 x2 x3 x4 x5) := rfl
theorem blockA_14 : (r_822 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 14 (r_766 c b1 hb1 b2 hb2 b3 hb3 b4 hb4 b5 hb5 b6 hb6 b8 b9 b10 b11 x0 x1 x2 x3 x4 x5) := rfl
theorem blockA_15 : (r_874 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 15 (r_822 c b1 hb1 b2 hb2 b3 hb3 b4 hb4 b5 hb5 b6 hb6 b8 b9 b10 b11 x0 x1 x2 x3 x4 x5) := rfl
theorem blockA_16 : (r_930 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 16 (r_874 c b1 hb1 b2 hb2 b3 hb3 b4 hb4 b5 hb5 b6 hb6 b8 b9 b10 b11 x0 x1 x2 x3 x4 x5) := rfl
theorem blockA_17 : (r_982 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 17 (r_930 c b1 hb1 b2 hb2 b3 hb3 b4 hb4 b5 hb5 b6 hb6 b8 b9 b10 b11 x0 x1 x2 x3 x4 x5) := rfl
theorem blockA_18 : (r_1037 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 18 (r_982 c b1 hb1 b2 hb2 b3 hb3 b4 hb4 b5 hb5 b6 hb6 b8 b9 b10 b11 x0 x1 x2 x3 x4 x5) := rfl
theorem blockA_19 : (r_1093 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 19 (r_1037 c b1 hb1 b2 hb2 b3 hb3 b4 hb4 b5 hb5 b6 hb6 b8 b9 b10 b11 x0 x1 x2 x3 x4 x5) := rfl
theorem blockA_20 : (r_1144 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 20 (r_1093 c b1 hb1 b2 hb2 b3 hb3 b4 hb4 b5 hb5 b6 hb6 b8 b9 b10 b11 x0 x1 x2 x3 x4 x5) := rfl
theorem blockA_21 : (r_1200 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 21 (r_1144 c b1 hb1 b2 hb2 b3 hb3 b4 hb4 b5 hb5 b6 hb6 b8 b9 b10 b11 x0 x1 x2 x3 x4 x5) := rfl
theorem blockA_22 : (r_1254 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 22 (r_1200 c b1 hb1 b2 hb2 b3 hb3 b4 hb4 b5 hb5 b6 hb6 b8 b9 b10 b11 x0 x1 x2 x3 x4 x5) := rfl
theorem blockA_23 : (r_1308 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 23 (r_1254 c b1 hb1 b2 hb2 b3 hb3 b4 hb4 b5 hb5 b6 hb6 b8 b9 b10 b11 x0 x1 x2 x3 x4 x5) := rfl
theorem blockA_24 : (r_1363 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 24 (r_1308 c b1 hb1 b2 hb2 b3 hb3 b4 hb4 b5 hb5 b6 hb6 b8 b9 b10 b11 x0 x1 x2 x3 x4 x5) := rfl
theorem blockA_25 : (r_1416 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 25 (r_1363 c b1 hb1 b2 hb2 b3 hb3 b4 hb4 b5 hb5 b6 hb6 b8 b9 b10 b11 x0 x1 x2 x3 x4 x5) := rfl
theorem blockA_26 : (r_1469 c b1 hb1 b2 hb2 b3 hb3 b4 hb4 b5 hb5 b6 hb6 b8 b9 b10 b11 x0 x1 x2 x3 x4 x5) = bodyA c b1 hb1 b2 hb2 b3 hb3 b4 hb4 b5 hb5 b6 hb6 b8 b9 b10 b11 x0 x1 x2 x3 x4 x5 26 (r_1416 c b1 hb1 b2 hb2 b3 hb3 b4 hb4 b5 hb5 b6 hb6 b8 b9 b10 b11 x0 x1 x2 x3 x4 x5) := rfl
/-- The running sum after the last block. -/
def lastA : FVec F S40x256 .f32 := bodyA c b1 hb1 b2 hb2 b3 hb3 b4 hb4 b5 hb5 b6 hb6 b8 b9 b10 b11 x0 x1 x2 x3 x4 x5 ⟨27, by decide⟩ (r_1469 c b1 hb1 b2 hb2 b3 hb3 b4 hb4 b5 hb5 b6 hb6 b8 b9 b10 b11 x0 x1 x2 x3 x4 x5)
theorem storedA (hc0 : cond0_0 i0) : (kernelRun0_A (F := F) c i0 b1 hb1 b2 hb2 b3 hb3 b4 hb4 b5 hb5 b6 hb6 b7 hb7 b8 hb8 b9 hb9 b10 hb10 b11 hb11 hc0 x0 x1 x2 x3 x4 x5).1 = [⟨Rect.unit (s := S40x256) ![0, 0] S40x256.size inb_S40x256_S40x256_0_0, lastA c b1 hb1 b2 hb2 b3 hb3 b4 hb4 b5 hb5 b6 hb6 b8 b9 b10 b11 x0 x1 x2 x3 x4 x5⟩] := rfl
theorem keptA (hc0 : cond0_0 i0) : (kernelRun0_A (F := F) c i0 b1 hb1 b2 hb2 b3 hb3 b4 hb4 b5 hb5 b6 hb6 b7 hb7 b8 hb8 b9 hb9 b10 hb10 b11 hb11 hc0 x0 x1 x2 x3 x4 x5).2.1 = (HS0_28 (F := F) c b2 hb2 x1) := rfl

end

section

variable {c : Dev nD} {i0 : grid0.Coords}
  {b1 : Memref sig Kind.tc Space.vmem S28x40x256 EltTy.i8} {hb1 : b1.IsWhole}
  {b2 : Memref sig Kind.tc Space.vmem S40x28 EltTy.f32} {hb2 : b2.IsWhole}
  {b3 : Memref sig Kind.tc Space.vmem S28x256x128 EltTy.i8} {hb3 : b3.IsWhole}
  {b4 : Memref sig Kind.tc Space.vmem S28x64x256 EltTy.i8} {hb4 : b4.IsWhole}
  {b5 : Memref sig Kind.tc Space.vmem S28x16x256 EltTy.i8} {hb5 : b5.IsWhole}
  {b6 : Memref sig Kind.tc Space.vmem S28x256 EltTy.i16} {hb6 : b6.IsWhole}
  {b7 : Memref sig Kind.tc Space.vmem S40x256 EltTy.f32} {hb7 : b7.IsWhole}
  {b8 : Memref sig Kind.tc Space.vmem S28x40x128 EltTy.f32} {hb8 : b8.IsWhole}
  {b9 : Memref sig Kind.tc Space.vmem S28x16x256 EltTy.i32} {hb9 : b9.IsWhole}
  {b10 : Memref sig Kind.tc Space.vmem S28x16x256 EltTy.i32} {hb10 : b10.IsWhole}
  {b11 : Memref sig Kind.tc Space.vmem S2x28x128 EltTy.f32} {hb11 : b11.IsWhole}
  {x0 : Vec Ideal S28x40x256 .i8} {x1 : Vec Ideal S40x28 .f32} {x2 : Vec Ideal S28x256x128 .i8} {x3 : Vec Ideal S28x64x256 .i8} {x4 : Vec Ideal S28x16x256 .i8} {x5 : Vec Ideal S28x256 .i16} {xs0 : Vec Ideal S28x40x128 .f32}

theorem facA' : (HS3_4 (F := Ideal) c b6 hb6 x5) = dpieces x5 := (facA (F := Ideal) c b6 hb6 x5).trans (congrArg dpieces (rows16_apply b6 hb6 x5 _))
theorem saA (s : Fin 28) (i : Fin 40) (l : Fin 128) : b8.view.readCov (Val := Elt Ideal) (HS0_28 (F := Ideal) c b2 hb2 x1) (Rect.unit (s := S28x40x128) ![s.val, 0, 0] S1x40x128.size (inbAS s)).toLoadRect (ix3 0 i l) = x1 (ix2 i s) := by
  rw [scaA]
  exact (asload b8.view _ s _ i l).trans (congrFun (scales_apply b2 hb2 x1 _) (ix2 i s))
theorem nextA (s : Fin 28) {acc out : FVec Ideal S40x256 .f32} (h : out = bodyA c b1 hb1 b2 hb2 b3 hb3 b4 hb4 b5 hb5 b6 hb6 b8 b9 b10 b11 x0 x1 x2 x3 x4 x5 s acc)
    (hacc : ∀ i n, acc (ix2 i n) = upTo x0 x2 x3 x4 x5 (fun s i => x1 (ix2 i s)) i n s.val) (i : Fin 40) (n : Fin 256) : out (ix2 i n) = upTo x0 x2 x3 x4 x5 (fun s i => x1 (ix2 i s)) i n (s.val + 1) :=
  next b1 hb1 b3 hb3 b4 hb4 b5 hb5 b9 b10 b11 x0 x2 x3 x4 x5 _ _ _ (hiA (F := Ideal) c b5 hb5 x4) (loA (F := Ideal) c b5 hb5 x4) facA' (fun s i => x1 (ix2 i s)) s _ _ _ h (saA s) hacc i n
theorem sumA_0 (i : Fin 40) (n : Fin 256) : (r_60 c b1 hb1 b2 hb2 b3 hb3 b4 hb4 b5 hb5 b6 hb6 b8 b9 b10 b11 x0 x1 x2 x3 x4 x5) (ix2 i n) = upTo x0 x2 x3 x4 x5 (fun s i => x1 (ix2 i s)) i n 1 :=
  nextA 0 (blockA_0 (F := Ideal) ..) (start_apply x0 x2 x3 x4 x5 _) i n
theorem sumA_1 (i : Fin 40) (n : Fin 256) : (r_114 c b1 hb1 b2 hb2 b3 hb3 b4 hb4 b5 hb5 b6 hb6 b8 b9 b10 b11 x0 x1 x2 x3 x4 x5) (ix2 i n) = upTo x0 x2 x3 x4 x5 (fun s i => x1 (ix2 i s)) i n 2 :=
  nextA 1 (blockA_1 (F := Ideal) ..) sumA_0 i n
theorem sumA_2 (i : Fin 40) (n : Fin 256) : (r_169 c b1 hb1 b2 hb2 b3 hb3 b4 hb4 b5 hb5 b6 hb6 b8 b9 b10 b11 x0 x1 x2 x3 x4 x5) (ix2 i n) = upTo x0 x2 x3 x4 x5 (fun s i => x1 (ix2 i s)) i n 3 :=
  nextA 2 (blockA_2 (F := Ideal) ..) sumA_1 i n
theorem sumA_3 (i : Fin 40) (n : Fin 256) : (r_224 c b1 hb1 b2 hb2 b3 hb3 b4 hb4 b5 hb5 b6 hb6 b8 b9 b10 b11 x0 x1 x2 x3 x4 x5) (ix2 i n) = upTo x0 x2 x3 x4 x5 (fun s i => x1 (ix2 i s)) i n 4 :=
  nextA 3 (blockA_3 (F := Ideal) ..) sumA_2 i n
theorem sumA_4 (i : Fin 40) (n : Fin 256) : (r_276 c b1 hb1 b2 hb2 b3 hb3 b4 hb4 b5 hb5 b6 hb6 b8 b9 b10 b11 x0 x1 x2 x3 x4 x5) (ix2 i n) = upTo x0 x2 x3 x4 x5 (fun s i => x1 (ix2 i s)) i n 5 :=
  nextA 4 (blockA_4 (F := Ideal) ..) sumA_3 i n
theorem sumA_5 (i : Fin 40) (n : Fin 256) : (r_333 c b1 hb1 b2 hb2 b3 hb3 b4 hb4 b5 hb5 b6 hb6 b8 b9 b10 b11 x0 x1 x2 x3 x4 x5) (ix2 i n) = upTo x0 x2 x3 x4 x5 (fun s i => x1 (ix2 i s)) i n 6 :=
  nextA 5 (blockA_5 (F := Ideal) ..) sumA_4 i n
theorem sumA_6 (i : Fin 40) (n : Fin 256) : (r_387 c b1 hb1 b2 hb2 b3 hb3 b4 hb4 b5 hb5 b6 hb6 b8 b9 b10 b11 x0 x1 x2 x3 x4 x5) (ix2 i n) = upTo x0 x2 x3 x4 x5 (fun s i => x1 (ix2 i s)) i n 7 :=
  nextA 6 (blockA_6 (F := Ideal) ..) sumA_5 i n
theorem sumA_7 (i : Fin 40) (n : Fin 256) : (r_440 c b1 hb1 b2 hb2 b3 hb3 b4 hb4 b5 hb5 b6 hb6 b8 b9 b10 b11 x0 x1 x2 x3 x4 x5) (ix2 i n) = upTo x0 x2 x3 x4 x5 (fun s i => x1 (ix2 i s)) i n 8 :=
  nextA 7 (blockA_7 (F := Ideal) ..) sumA_6 i n
theorem sumA_8 (i : Fin 40) (n : Fin 256) : (r_495 c b1 hb1 b2 hb2 b3 hb3 b4 hb4 b5 hb5 b6 hb6 b8 b9 b10 b11 x0 x1 x2 x3 x4 x5) (ix2 i n) = upTo x0 x2 x3 x4 x5 (fun s i => x1 (ix2 i s)) i n 9 :=
  nextA 8 (blockA_8 (F := Ideal) ..) sumA_7 i n
theorem sumA_9 (i : Fin 40) (n : Fin 256) : (r_546 c b1 hb1 b2 hb2 b3 hb3 b4 hb4 b5 hb5 b6 hb6 b8 b9 b10 b11 x0 x1 x2 x3 x4 x5) (ix2 i n) = upTo x0 x2 x3 x4 x5 (fun s i => x1 (ix2 i s)) i n 10 :=
  nextA 9 (blockA_9 (F := Ideal) ..) sumA_8 i n
theorem sumA_10 (i : Fin 40) (n : Fin 256) : (r_601 c b1 hb1 b2 hb2 b3 hb3 b4 hb4 b5 hb5 b6 hb6 b8 b9 b10 b11 x0 x1 x2 x3 x4 x5) (ix2 i n) = upTo x0 x2 x3 x4 x5 (fun s i => x1 (ix2 i s)) i n 11 :=
  nextA 10 (blockA_10 (F := Ideal) ..) sumA_9 i n
theorem sumA_11 (i : Fin 40) (n : Fin 256) : (r_656 c b1 hb1 b2 hb2 b3 hb3 b4 hb4 b5 hb5 b6 hb6 b8 b9 b10 b11 x0 x1 x2 x3 x4 x5) (ix2 i n) = upTo x0 x2 x3 x4 x5 (fun s i => x1 (ix2 i s)) i n 12 :=
  nextA 11 (blockA_11 (F := Ideal) ..) sumA_10 i n
theorem sumA_12 (i : Fin 40) (n : Fin 256) : (r_710 c b1 hb1 b2 hb2 b3 hb3 b4 hb4 b5 hb5 b6 hb6 b8 b9 b10 b11 x0 x1 x2 x3 x4 x5) (ix2 i n) = upTo x0 x2 x3 x4 x5 (fun s i => x1 (ix2 i s)) i n 13 :=
  nextA 12 (blockA_12 (F := Ideal) ..) sumA_11 i n
theorem sumA_13 (i : Fin 40) (n : Fin 256) : (r_766 c b1 hb1 b2 hb2 b3 hb3 b4 hb4 b5 hb5 b6 hb6 b8 b9 b10 b11 x0 x1 x2 x3 x4 x5) (ix2 i n) = upTo x0 x2 x3 x4 x5 (fun s i => x1 (ix2 i s)) i n 14 :=
  nextA 13 (blockA_13 (F := Ideal) ..) sumA_12 i n
theorem sumA_14 (i : Fin 40) (n : Fin 256) : (r_822 c b1 hb1 b2 hb2 b3 hb3 b4 hb4 b5 hb5 b6 hb6 b8 b9 b10 b11 x0 x1 x2 x3 x4 x5) (ix2 i n) = upTo x0 x2 x3 x4 x5 (fun s i => x1 (ix2 i s)) i n 15 :=
  nextA 14 (blockA_14 (F := Ideal) ..) sumA_13 i n
theorem sumA_15 (i : Fin 40) (n : Fin 256) : (r_874 c b1 hb1 b2 hb2 b3 hb3 b4 hb4 b5 hb5 b6 hb6 b8 b9 b10 b11 x0 x1 x2 x3 x4 x5) (ix2 i n) = upTo x0 x2 x3 x4 x5 (fun s i => x1 (ix2 i s)) i n 16 :=
  nextA 15 (blockA_15 (F := Ideal) ..) sumA_14 i n
theorem sumA_16 (i : Fin 40) (n : Fin 256) : (r_930 c b1 hb1 b2 hb2 b3 hb3 b4 hb4 b5 hb5 b6 hb6 b8 b9 b10 b11 x0 x1 x2 x3 x4 x5) (ix2 i n) = upTo x0 x2 x3 x4 x5 (fun s i => x1 (ix2 i s)) i n 17 :=
  nextA 16 (blockA_16 (F := Ideal) ..) sumA_15 i n
theorem sumA_17 (i : Fin 40) (n : Fin 256) : (r_982 c b1 hb1 b2 hb2 b3 hb3 b4 hb4 b5 hb5 b6 hb6 b8 b9 b10 b11 x0 x1 x2 x3 x4 x5) (ix2 i n) = upTo x0 x2 x3 x4 x5 (fun s i => x1 (ix2 i s)) i n 18 :=
  nextA 17 (blockA_17 (F := Ideal) ..) sumA_16 i n
theorem sumA_18 (i : Fin 40) (n : Fin 256) : (r_1037 c b1 hb1 b2 hb2 b3 hb3 b4 hb4 b5 hb5 b6 hb6 b8 b9 b10 b11 x0 x1 x2 x3 x4 x5) (ix2 i n) = upTo x0 x2 x3 x4 x5 (fun s i => x1 (ix2 i s)) i n 19 :=
  nextA 18 (blockA_18 (F := Ideal) ..) sumA_17 i n
theorem sumA_19 (i : Fin 40) (n : Fin 256) : (r_1093 c b1 hb1 b2 hb2 b3 hb3 b4 hb4 b5 hb5 b6 hb6 b8 b9 b10 b11 x0 x1 x2 x3 x4 x5) (ix2 i n) = upTo x0 x2 x3 x4 x5 (fun s i => x1 (ix2 i s)) i n 20 :=
  nextA 19 (blockA_19 (F := Ideal) ..) sumA_18 i n
theorem sumA_20 (i : Fin 40) (n : Fin 256) : (r_1144 c b1 hb1 b2 hb2 b3 hb3 b4 hb4 b5 hb5 b6 hb6 b8 b9 b10 b11 x0 x1 x2 x3 x4 x5) (ix2 i n) = upTo x0 x2 x3 x4 x5 (fun s i => x1 (ix2 i s)) i n 21 :=
  nextA 20 (blockA_20 (F := Ideal) ..) sumA_19 i n
theorem sumA_21 (i : Fin 40) (n : Fin 256) : (r_1200 c b1 hb1 b2 hb2 b3 hb3 b4 hb4 b5 hb5 b6 hb6 b8 b9 b10 b11 x0 x1 x2 x3 x4 x5) (ix2 i n) = upTo x0 x2 x3 x4 x5 (fun s i => x1 (ix2 i s)) i n 22 :=
  nextA 21 (blockA_21 (F := Ideal) ..) sumA_20 i n
theorem sumA_22 (i : Fin 40) (n : Fin 256) : (r_1254 c b1 hb1 b2 hb2 b3 hb3 b4 hb4 b5 hb5 b6 hb6 b8 b9 b10 b11 x0 x1 x2 x3 x4 x5) (ix2 i n) = upTo x0 x2 x3 x4 x5 (fun s i => x1 (ix2 i s)) i n 23 :=
  nextA 22 (blockA_22 (F := Ideal) ..) sumA_21 i n
theorem sumA_23 (i : Fin 40) (n : Fin 256) : (r_1308 c b1 hb1 b2 hb2 b3 hb3 b4 hb4 b5 hb5 b6 hb6 b8 b9 b10 b11 x0 x1 x2 x3 x4 x5) (ix2 i n) = upTo x0 x2 x3 x4 x5 (fun s i => x1 (ix2 i s)) i n 24 :=
  nextA 23 (blockA_23 (F := Ideal) ..) sumA_22 i n
theorem sumA_24 (i : Fin 40) (n : Fin 256) : (r_1363 c b1 hb1 b2 hb2 b3 hb3 b4 hb4 b5 hb5 b6 hb6 b8 b9 b10 b11 x0 x1 x2 x3 x4 x5) (ix2 i n) = upTo x0 x2 x3 x4 x5 (fun s i => x1 (ix2 i s)) i n 25 :=
  nextA 24 (blockA_24 (F := Ideal) ..) sumA_23 i n
theorem sumA_25 (i : Fin 40) (n : Fin 256) : (r_1416 c b1 hb1 b2 hb2 b3 hb3 b4 hb4 b5 hb5 b6 hb6 b8 b9 b10 b11 x0 x1 x2 x3 x4 x5) (ix2 i n) = upTo x0 x2 x3 x4 x5 (fun s i => x1 (ix2 i s)) i n 26 :=
  nextA 25 (blockA_25 (F := Ideal) ..) sumA_24 i n
theorem sumA_26 (i : Fin 40) (n : Fin 256) : (r_1469 c b1 hb1 b2 hb2 b3 hb3 b4 hb4 b5 hb5 b6 hb6 b8 b9 b10 b11 x0 x1 x2 x3 x4 x5) (ix2 i n) = upTo x0 x2 x3 x4 x5 (fun s i => x1 (ix2 i s)) i n 27 :=
  nextA 26 (blockA_26 (F := Ideal) ..) sumA_25 i n
theorem lastA_apply (i : Fin 40) (n : Fin 256) : lastA (F := Ideal) c b1 hb1 b2 hb2 b3 hb3 b4 hb4 b5 hb5 b6 hb6 b8 b9 b10 b11 x0 x1 x2 x3 x4 x5 (ix2 i n) = ∑ s, blockTerm x0 x2 x3 x4 x5 (fun s i => x1 (ix2 i s)) i n s :=
  (nextA ⟨27, by decide⟩ rfl (sumA_26) i n).trans (upTo_all x0 x2 x3 x4 x5 _ i n)

end

end Cert.Six
end
-- ==== Proof.DownB.lean ====
/- The down projection's body at the later grid points: its running sum after each block. -/
module

public import proofs.«01_k».proof.Proof.DownChain
public import proofs.«01_k».proof.Proof.Gen.DownIdeal.Frame
public import proofs.«01_k».proof.Proof.Tile

@[expose] public section

noncomputable section

namespace Cert.Six

open Idealize.ShloMosaic Idealize.SL.Sem Cert.DownIdeal Cert.DownIdeal.Gen Cert.DownIdeal.Gen.kernelRun0_B.sl

section

variable {F : FTy → Type} [FloatOps F] (c : Dev nD) (i0 : grid0.Coords)
  (b1 : Memref sig Kind.tc Space.vmem S28x40x256 EltTy.i8) (hb1 : b1.IsWhole)
  (b2 : Memref sig Kind.tc Space.vmem S40x28 EltTy.f32) (hb2 : b2.IsWhole)
  (b3 : Memref sig Kind.tc Space.vmem S28x256x128 EltTy.i8) (hb3 : b3.IsWhole)
  (b4 : Memref sig Kind.tc Space.vmem S28x64x256 EltTy.i8) (hb4 : b4.IsWhole)
  (b5 : Memref sig Kind.tc Space.vmem S28x16x256 EltTy.i8) (hb5 : b5.IsWhole)
  (b6 : Memref sig Kind.tc Space.vmem S28x256 EltTy.i16) (hb6 : b6.IsWhole)
  (b7 : Memref sig Kind.tc Space.vmem S40x256 EltTy.f32) (hb7 : b7.IsWhole)
  (b8 : Memref sig Kind.tc Space.vmem S28x40x128 EltTy.f32) (hb8 : b8.IsWhole)
  (b9 : Memref sig Kind.tc Space.vmem S28x16x256 EltTy.i32) (hb9 : b9.IsWhole)
  (b10 : Memref sig Kind.tc Space.vmem S28x16x256 EltTy.i32) (hb10 : b10.IsWhole)
  (b11 : Memref sig Kind.tc Space.vmem S2x28x128 EltTy.f32) (hb11 : b11.IsWhole)
  (x0 : Vec F S28x40x256 .i8) (x1 : Vec F S40x28 .f32) (x2 : Vec F S28x256x128 .i8) (x3 : Vec F S28x64x256 .i8) (x4 : Vec F S28x16x256 .i8) (x5 : Vec F S28x256 .i16) (xs0 : Vec F S28x40x128 .f32)

theorem hiB : (HS1_28 (F := F) c b5 hb5 x4) = scpieces true b5 hb5 x4 := rfl
theorem loB : (HS2_28 (F := F) c b5 hb5 x4) = scpieces false b5 hb5 x4 := rfl
theorem facB : (HS3_4 (F := F) c b6 hb6 x5) = dpieces (View.readAt (Elt F) b6.view (Rect.unit (s := S28x256) ![0, 0] S28x256.size inb_S28x256_S28x256_0_0).toLoadRect (hb6.unread x5)) := rfl
/-- Block `s` of the body. -/
def bodyB (s : Fin 28) (acc : FVec F S40x256 .f32) : FVec F S40x256 .f32 := blockStep b1 hb1 b3 hb3 b4 hb4 b9 b10 b11 x0 x2 x3 (HS1_28 (F := F) c b5 hb5 x4) (HS2_28 (F := F) c b5 hb5 x4) (HS3_4 (F := F) c b6 hb6 x5) s acc (View.readAt (Elt F) b8.view (Rect.unit (s := S28x40x128) ![s.val, 0, 0] S1x40x128.size (inbAS s)).toLoadRect (hb8.unread xs0))
theorem blockB_0 : (r_59 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 0 (constant S40x256 .f32 0x00000000#32) := rfl
theorem blockB_1 : (r_113 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 1 (r_59 c b1 hb1 b3 hb3 b4 hb4 b5 hb5 b6 hb6 b8 hb8 b9 b10 b11 x0 x2 x3 x4 x5 xs0) := rfl
theorem blockB_2 : (r_168 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 2 (r_113 c b1 hb1 b3 hb3 b4 hb4 b5 hb5 b6 hb6 b8 hb8 b9 b10 b11 x0 x2 x3 x4 x5 xs0) := rfl
theorem blockB_3 : (r_223 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 3 (r_168 c b1 hb1 b3 hb3 b4 hb4 b5 hb5 b6 hb6 b8 hb8 b9 b10 b11 x0 x2 x3 x4 x5 xs0) := rfl
theorem blockB_4 : (r_275 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 4 (r_223 c b1 hb1 b3 hb3 b4 hb4 b5 hb5 b6 hb6 b8 hb8 b9 b10 b11 x0 x2 x3 x4 x5 xs0) := rfl
theorem blockB_5 : (r_332 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 5 (r_275 c b1 hb1 b3 hb3 b4 hb4 b5 hb5 b6 hb6 b8 hb8 b9 b10 b11 x0 x2 x3 x4 x5 xs0) := rfl
theorem blockB_6 : (r_386 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 6 (r_332 c b1 hb1 b3 hb3 b4 hb4 b5 hb5 b6 hb6 b8 hb8 b9 b10 b11 x0 x2 x3 x4 x5 xs0) := rfl
theorem blockB_7 : (r_439 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 7 (r_386 c b1 hb1 b3 hb3 b4 hb4 b5 hb5 b6 hb6 b8 hb8 b9 b10 b11 x0 x2 x3 x4 x5 xs0) := rfl
theorem blockB_8 : (r_494 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 8 (r_439 c b1 hb1 b3 hb3 b4 hb4 b5 hb5 b6 hb6 b8 hb8 b9 b10 b11 x0 x2 x3 x4 x5 xs0) := rfl
theorem blockB_9 : (r_545 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 9 (r_494 c b1 hb1 b3 hb3 b4 hb4 b5 hb5 b6 hb6 b8 hb8 b9 b10 b11 x0 x2 x3 x4 x5 xs0) := rfl
theorem blockB_10 : (r_600 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 10 (r_545 c b1 hb1 b3 hb3 b4 hb4 b5 hb5 b6 hb6 b8 hb8 b9 b10 b11 x0 x2 x3 x4 x5 xs0) := rfl
theorem blockB_11 : (r_655 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 11 (r_600 c b1 hb1 b3 hb3 b4 hb4 b5 hb5 b6 hb6 b8 hb8 b9 b10 b11 x0 x2 x3 x4 x5 xs0) := rfl
theorem blockB_12 : (r_709 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 12 (r_655 c b1 hb1 b3 hb3 b4 hb4 b5 hb5 b6 hb6 b8 hb8 b9 b10 b11 x0 x2 x3 x4 x5 xs0) := rfl
theorem blockB_13 : (r_765 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 13 (r_709 c b1 hb1 b3 hb3 b4 hb4 b5 hb5 b6 hb6 b8 hb8 b9 b10 b11 x0 x2 x3 x4 x5 xs0) := rfl
theorem blockB_14 : (r_821 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 14 (r_765 c b1 hb1 b3 hb3 b4 hb4 b5 hb5 b6 hb6 b8 hb8 b9 b10 b11 x0 x2 x3 x4 x5 xs0) := rfl
theorem blockB_15 : (r_873 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 15 (r_821 c b1 hb1 b3 hb3 b4 hb4 b5 hb5 b6 hb6 b8 hb8 b9 b10 b11 x0 x2 x3 x4 x5 xs0) := rfl
theorem blockB_16 : (r_930 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 16 (r_873 c b1 hb1 b3 hb3 b4 hb4 b5 hb5 b6 hb6 b8 hb8 b9 b10 b11 x0 x2 x3 x4 x5 xs0) := rfl
theorem blockB_17 : (r_982 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 17 (r_930 c b1 hb1 b3 hb3 b4 hb4 b5 hb5 b6 hb6 b8 hb8 b9 b10 b11 x0 x2 x3 x4 x5 xs0) := rfl
theorem blockB_18 : (r_1037 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 18 (r_982 c b1 hb1 b3 hb3 b4 hb4 b5 hb5 b6 hb6 b8 hb8 b9 b10 b11 x0 x2 x3 x4 x5 xs0) := rfl
theorem blockB_19 : (r_1093 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 19 (r_1037 c b1 hb1 b3 hb3 b4 hb4 b5 hb5 b6 hb6 b8 hb8 b9 b10 b11 x0 x2 x3 x4 x5 xs0) := rfl
theorem blockB_20 : (r_1144 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 20 (r_1093 c b1 hb1 b3 hb3 b4 hb4 b5 hb5 b6 hb6 b8 hb8 b9 b10 b11 x0 x2 x3 x4 x5 xs0) := rfl
theorem blockB_21 : (r_1200 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 21 (r_1144 c b1 hb1 b3 hb3 b4 hb4 b5 hb5 b6 hb6 b8 hb8 b9 b10 b11 x0 x2 x3 x4 x5 xs0) := rfl
theorem blockB_22 : (r_1254 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 22 (r_1200 c b1 hb1 b3 hb3 b4 hb4 b5 hb5 b6 hb6 b8 hb8 b9 b10 b11 x0 x2 x3 x4 x5 xs0) := rfl
theorem blockB_23 : (r_1308 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 23 (r_1254 c b1 hb1 b3 hb3 b4 hb4 b5 hb5 b6 hb6 b8 hb8 b9 b10 b11 x0 x2 x3 x4 x5 xs0) := rfl
theorem blockB_24 : (r_1363 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 24 (r_1308 c b1 hb1 b3 hb3 b4 hb4 b5 hb5 b6 hb6 b8 hb8 b9 b10 b11 x0 x2 x3 x4 x5 xs0) := rfl
theorem blockB_25 : (r_1416 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 25 (r_1363 c b1 hb1 b3 hb3 b4 hb4 b5 hb5 b6 hb6 b8 hb8 b9 b10 b11 x0 x2 x3 x4 x5 xs0) := rfl
theorem blockB_26 : (r_1469 c b1 hb1 b3 hb3 b4 hb4 b5 hb5 b6 hb6 b8 hb8 b9 b10 b11 x0 x2 x3 x4 x5 xs0) = bodyB c b1 hb1 b3 hb3 b4 hb4 b5 hb5 b6 hb6 b8 hb8 b9 b10 b11 x0 x2 x3 x4 x5 xs0 26 (r_1416 c b1 hb1 b3 hb3 b4 hb4 b5 hb5 b6 hb6 b8 hb8 b9 b10 b11 x0 x2 x3 x4 x5 xs0) := rfl
/-- The running sum after the last block. -/
def lastB : FVec F S40x256 .f32 := bodyB c b1 hb1 b3 hb3 b4 hb4 b5 hb5 b6 hb6 b8 hb8 b9 b10 b11 x0 x2 x3 x4 x5 xs0 ⟨27, by decide⟩ (r_1469 c b1 hb1 b3 hb3 b4 hb4 b5 hb5 b6 hb6 b8 hb8 b9 b10 b11 x0 x2 x3 x4 x5 xs0)
theorem storedB (hc0 : ¬cond0_0 i0) : (kernelRun0_B (F := F) c i0 b1 hb1 b2 hb2 b3 hb3 b4 hb4 b5 hb5 b6 hb6 b7 hb7 b8 hb8 b9 hb9 b10 hb10 b11 hb11 hc0 x0 x1 x2 x3 x4 x5 xs0).1 = [⟨Rect.unit (s := S40x256) ![0, 0] S40x256.size inb_S40x256_S40x256_0_0, lastB c b1 hb1 b3 hb3 b4 hb4 b5 hb5 b6 hb6 b8 hb8 b9 b10 b11 x0 x2 x3 x4 x5 xs0⟩] := rfl

end

section

variable {c : Dev nD} {i0 : grid0.Coords}
  {b1 : Memref sig Kind.tc Space.vmem S28x40x256 EltTy.i8} {hb1 : b1.IsWhole}
  {b2 : Memref sig Kind.tc Space.vmem S40x28 EltTy.f32} {hb2 : b2.IsWhole}
  {b3 : Memref sig Kind.tc Space.vmem S28x256x128 EltTy.i8} {hb3 : b3.IsWhole}
  {b4 : Memref sig Kind.tc Space.vmem S28x64x256 EltTy.i8} {hb4 : b4.IsWhole}
  {b5 : Memref sig Kind.tc Space.vmem S28x16x256 EltTy.i8} {hb5 : b5.IsWhole}
  {b6 : Memref sig Kind.tc Space.vmem S28x256 EltTy.i16} {hb6 : b6.IsWhole}
  {b7 : Memref sig Kind.tc Space.vmem S40x256 EltTy.f32} {hb7 : b7.IsWhole}
  {b8 : Memref sig Kind.tc Space.vmem S28x40x128 EltTy.f32} {hb8 : b8.IsWhole}
  {b9 : Memref sig Kind.tc Space.vmem S28x16x256 EltTy.i32} {hb9 : b9.IsWhole}
  {b10 : Memref sig Kind.tc Space.vmem S28x16x256 EltTy.i32} {hb10 : b10.IsWhole}
  {b11 : Memref sig Kind.tc Space.vmem S2x28x128 EltTy.f32} {hb11 : b11.IsWhole}
  {x0 : Vec Ideal S28x40x256 .i8} {x1 : Vec Ideal S40x28 .f32} {x2 : Vec Ideal S28x256x128 .i8} {x3 : Vec Ideal S28x64x256 .i8} {x4 : Vec Ideal S28x16x256 .i8} {x5 : Vec Ideal S28x256 .i16} {xs0 : Vec Ideal S28x40x128 .f32}

theorem facB' : (HS3_4 (F := Ideal) c b6 hb6 x5) = dpieces x5 := (facB (F := Ideal) c b6 hb6 x5).trans (congrArg dpieces (rows16_apply b6 hb6 x5 _))
theorem nextB (Sa : Fin 28 → Fin 40 → EReal) (hS : ∀ s i l, xs0 (ix3 s i l) = Sa s i) (s : Fin 28) {acc out : FVec Ideal S40x256 .f32} (h : out = bodyB c b1 hb1 b3 hb3 b4 hb4 b5 hb5 b6 hb6 b8 hb8 b9 b10 b11 x0 x2 x3 x4 x5 xs0 s acc)
    (hacc : ∀ i n, acc (ix2 i n) = upTo x0 x2 x3 x4 x5 Sa i n s.val) (i : Fin 40) (n : Fin 256) : out (ix2 i n) = upTo x0 x2 x3 x4 x5 Sa i n (s.val + 1) :=
  next b1 hb1 b3 hb3 b4 hb4 b5 hb5 b9 b10 b11 x0 x2 x3 x4 x5 _ _ _ (hiB (F := Ideal) c b5 hb5 x4) (loB (F := Ideal) c b5 hb5 x4) facB' Sa s _ _ _ h (fun i l => (srow_apply b8 hb8 xs0 s _ i l).trans (hS _ i l)) hacc i n
theorem sumB_0 (Sa : Fin 28 → Fin 40 → EReal) (hS : ∀ s i l, xs0 (ix3 s i l) = Sa s i) (i : Fin 40) (n : Fin 256) : (r_59 c b1 hb1 b3 hb3 b4 hb4 b5 hb5 b6 hb6 b8 hb8 b9 b10 b11 x0 x2 x3 x4 x5 xs0) (ix2 i n) = upTo x0 x2 x3 x4 x5 Sa i n 1 :=
  nextB Sa hS 0 (blockB_0 (F := Ideal) ..) (start_apply x0 x2 x3 x4 x5 _) i n
theorem sumB_1 (Sa : Fin 28 → Fin 40 → EReal) (hS : ∀ s i l, xs0 (ix3 s i l) = Sa s i) (i : Fin 40) (n : Fin 256) : (r_113 c b1 hb1 b3 hb3 b4 hb4 b5 hb5 b6 hb6 b8 hb8 b9 b10 b11 x0 x2 x3 x4 x5 xs0) (ix2 i n) = upTo x0 x2 x3 x4 x5 Sa i n 2 :=
  nextB Sa hS 1 (blockB_1 (F := Ideal) ..) (sumB_0 Sa hS) i n
theorem sumB_2 (Sa : Fin 28 → Fin 40 → EReal) (hS : ∀ s i l, xs0 (ix3 s i l) = Sa s i) (i : Fin 40) (n : Fin 256) : (r_168 c b1 hb1 b3 hb3 b4 hb4 b5 hb5 b6 hb6 b8 hb8 b9 b10 b11 x0 x2 x3 x4 x5 xs0) (ix2 i n) = upTo x0 x2 x3 x4 x5 Sa i n 3 :=
  nextB Sa hS 2 (blockB_2 (F := Ideal) ..) (sumB_1 Sa hS) i n
theorem sumB_3 (Sa : Fin 28 → Fin 40 → EReal) (hS : ∀ s i l, xs0 (ix3 s i l) = Sa s i) (i : Fin 40) (n : Fin 256) : (r_223 c b1 hb1 b3 hb3 b4 hb4 b5 hb5 b6 hb6 b8 hb8 b9 b10 b11 x0 x2 x3 x4 x5 xs0) (ix2 i n) = upTo x0 x2 x3 x4 x5 Sa i n 4 :=
  nextB Sa hS 3 (blockB_3 (F := Ideal) ..) (sumB_2 Sa hS) i n
theorem sumB_4 (Sa : Fin 28 → Fin 40 → EReal) (hS : ∀ s i l, xs0 (ix3 s i l) = Sa s i) (i : Fin 40) (n : Fin 256) : (r_275 c b1 hb1 b3 hb3 b4 hb4 b5 hb5 b6 hb6 b8 hb8 b9 b10 b11 x0 x2 x3 x4 x5 xs0) (ix2 i n) = upTo x0 x2 x3 x4 x5 Sa i n 5 :=
  nextB Sa hS 4 (blockB_4 (F := Ideal) ..) (sumB_3 Sa hS) i n
theorem sumB_5 (Sa : Fin 28 → Fin 40 → EReal) (hS : ∀ s i l, xs0 (ix3 s i l) = Sa s i) (i : Fin 40) (n : Fin 256) : (r_332 c b1 hb1 b3 hb3 b4 hb4 b5 hb5 b6 hb6 b8 hb8 b9 b10 b11 x0 x2 x3 x4 x5 xs0) (ix2 i n) = upTo x0 x2 x3 x4 x5 Sa i n 6 :=
  nextB Sa hS 5 (blockB_5 (F := Ideal) ..) (sumB_4 Sa hS) i n
theorem sumB_6 (Sa : Fin 28 → Fin 40 → EReal) (hS : ∀ s i l, xs0 (ix3 s i l) = Sa s i) (i : Fin 40) (n : Fin 256) : (r_386 c b1 hb1 b3 hb3 b4 hb4 b5 hb5 b6 hb6 b8 hb8 b9 b10 b11 x0 x2 x3 x4 x5 xs0) (ix2 i n) = upTo x0 x2 x3 x4 x5 Sa i n 7 :=
  nextB Sa hS 6 (blockB_6 (F := Ideal) ..) (sumB_5 Sa hS) i n
theorem sumB_7 (Sa : Fin 28 → Fin 40 → EReal) (hS : ∀ s i l, xs0 (ix3 s i l) = Sa s i) (i : Fin 40) (n : Fin 256) : (r_439 c b1 hb1 b3 hb3 b4 hb4 b5 hb5 b6 hb6 b8 hb8 b9 b10 b11 x0 x2 x3 x4 x5 xs0) (ix2 i n) = upTo x0 x2 x3 x4 x5 Sa i n 8 :=
  nextB Sa hS 7 (blockB_7 (F := Ideal) ..) (sumB_6 Sa hS) i n
theorem sumB_8 (Sa : Fin 28 → Fin 40 → EReal) (hS : ∀ s i l, xs0 (ix3 s i l) = Sa s i) (i : Fin 40) (n : Fin 256) : (r_494 c b1 hb1 b3 hb3 b4 hb4 b5 hb5 b6 hb6 b8 hb8 b9 b10 b11 x0 x2 x3 x4 x5 xs0) (ix2 i n) = upTo x0 x2 x3 x4 x5 Sa i n 9 :=
  nextB Sa hS 8 (blockB_8 (F := Ideal) ..) (sumB_7 Sa hS) i n
theorem sumB_9 (Sa : Fin 28 → Fin 40 → EReal) (hS : ∀ s i l, xs0 (ix3 s i l) = Sa s i) (i : Fin 40) (n : Fin 256) : (r_545 c b1 hb1 b3 hb3 b4 hb4 b5 hb5 b6 hb6 b8 hb8 b9 b10 b11 x0 x2 x3 x4 x5 xs0) (ix2 i n) = upTo x0 x2 x3 x4 x5 Sa i n 10 :=
  nextB Sa hS 9 (blockB_9 (F := Ideal) ..) (sumB_8 Sa hS) i n
theorem sumB_10 (Sa : Fin 28 → Fin 40 → EReal) (hS : ∀ s i l, xs0 (ix3 s i l) = Sa s i) (i : Fin 40) (n : Fin 256) : (r_600 c b1 hb1 b3 hb3 b4 hb4 b5 hb5 b6 hb6 b8 hb8 b9 b10 b11 x0 x2 x3 x4 x5 xs0) (ix2 i n) = upTo x0 x2 x3 x4 x5 Sa i n 11 :=
  nextB Sa hS 10 (blockB_10 (F := Ideal) ..) (sumB_9 Sa hS) i n
theorem sumB_11 (Sa : Fin 28 → Fin 40 → EReal) (hS : ∀ s i l, xs0 (ix3 s i l) = Sa s i) (i : Fin 40) (n : Fin 256) : (r_655 c b1 hb1 b3 hb3 b4 hb4 b5 hb5 b6 hb6 b8 hb8 b9 b10 b11 x0 x2 x3 x4 x5 xs0) (ix2 i n) = upTo x0 x2 x3 x4 x5 Sa i n 12 :=
  nextB Sa hS 11 (blockB_11 (F := Ideal) ..) (sumB_10 Sa hS) i n
theorem sumB_12 (Sa : Fin 28 → Fin 40 → EReal) (hS : ∀ s i l, xs0 (ix3 s i l) = Sa s i) (i : Fin 40) (n : Fin 256) : (r_709 c b1 hb1 b3 hb3 b4 hb4 b5 hb5 b6 hb6 b8 hb8 b9 b10 b11 x0 x2 x3 x4 x5 xs0) (ix2 i n) = upTo x0 x2 x3 x4 x5 Sa i n 13 :=
  nextB Sa hS 12 (blockB_12 (F := Ideal) ..) (sumB_11 Sa hS) i n
theorem sumB_13 (Sa : Fin 28 → Fin 40 → EReal) (hS : ∀ s i l, xs0 (ix3 s i l) = Sa s i) (i : Fin 40) (n : Fin 256) : (r_765 c b1 hb1 b3 hb3 b4 hb4 b5 hb5 b6 hb6 b8 hb8 b9 b10 b11 x0 x2 x3 x4 x5 xs0) (ix2 i n) = upTo x0 x2 x3 x4 x5 Sa i n 14 :=
  nextB Sa hS 13 (blockB_13 (F := Ideal) ..) (sumB_12 Sa hS) i n
theorem sumB_14 (Sa : Fin 28 → Fin 40 → EReal) (hS : ∀ s i l, xs0 (ix3 s i l) = Sa s i) (i : Fin 40) (n : Fin 256) : (r_821 c b1 hb1 b3 hb3 b4 hb4 b5 hb5 b6 hb6 b8 hb8 b9 b10 b11 x0 x2 x3 x4 x5 xs0) (ix2 i n) = upTo x0 x2 x3 x4 x5 Sa i n 15 :=
  nextB Sa hS 14 (blockB_14 (F := Ideal) ..) (sumB_13 Sa hS) i n
theorem sumB_15 (Sa : Fin 28 → Fin 40 → EReal) (hS : ∀ s i l, xs0 (ix3 s i l) = Sa s i) (i : Fin 40) (n : Fin 256) : (r_873 c b1 hb1 b3 hb3 b4 hb4 b5 hb5 b6 hb6 b8 hb8 b9 b10 b11 x0 x2 x3 x4 x5 xs0) (ix2 i n) = upTo x0 x2 x3 x4 x5 Sa i n 16 :=
  nextB Sa hS 15 (blockB_15 (F := Ideal) ..) (sumB_14 Sa hS) i n
theorem sumB_16 (Sa : Fin 28 → Fin 40 → EReal) (hS : ∀ s i l, xs0 (ix3 s i l) = Sa s i) (i : Fin 40) (n : Fin 256) : (r_930 c b1 hb1 b3 hb3 b4 hb4 b5 hb5 b6 hb6 b8 hb8 b9 b10 b11 x0 x2 x3 x4 x5 xs0) (ix2 i n) = upTo x0 x2 x3 x4 x5 Sa i n 17 :=
  nextB Sa hS 16 (blockB_16 (F := Ideal) ..) (sumB_15 Sa hS) i n
theorem sumB_17 (Sa : Fin 28 → Fin 40 → EReal) (hS : ∀ s i l, xs0 (ix3 s i l) = Sa s i) (i : Fin 40) (n : Fin 256) : (r_982 c b1 hb1 b3 hb3 b4 hb4 b5 hb5 b6 hb6 b8 hb8 b9 b10 b11 x0 x2 x3 x4 x5 xs0) (ix2 i n) = upTo x0 x2 x3 x4 x5 Sa i n 18 :=
  nextB Sa hS 17 (blockB_17 (F := Ideal) ..) (sumB_16 Sa hS) i n
theorem sumB_18 (Sa : Fin 28 → Fin 40 → EReal) (hS : ∀ s i l, xs0 (ix3 s i l) = Sa s i) (i : Fin 40) (n : Fin 256) : (r_1037 c b1 hb1 b3 hb3 b4 hb4 b5 hb5 b6 hb6 b8 hb8 b9 b10 b11 x0 x2 x3 x4 x5 xs0) (ix2 i n) = upTo x0 x2 x3 x4 x5 Sa i n 19 :=
  nextB Sa hS 18 (blockB_18 (F := Ideal) ..) (sumB_17 Sa hS) i n
theorem sumB_19 (Sa : Fin 28 → Fin 40 → EReal) (hS : ∀ s i l, xs0 (ix3 s i l) = Sa s i) (i : Fin 40) (n : Fin 256) : (r_1093 c b1 hb1 b3 hb3 b4 hb4 b5 hb5 b6 hb6 b8 hb8 b9 b10 b11 x0 x2 x3 x4 x5 xs0) (ix2 i n) = upTo x0 x2 x3 x4 x5 Sa i n 20 :=
  nextB Sa hS 19 (blockB_19 (F := Ideal) ..) (sumB_18 Sa hS) i n
theorem sumB_20 (Sa : Fin 28 → Fin 40 → EReal) (hS : ∀ s i l, xs0 (ix3 s i l) = Sa s i) (i : Fin 40) (n : Fin 256) : (r_1144 c b1 hb1 b3 hb3 b4 hb4 b5 hb5 b6 hb6 b8 hb8 b9 b10 b11 x0 x2 x3 x4 x5 xs0) (ix2 i n) = upTo x0 x2 x3 x4 x5 Sa i n 21 :=
  nextB Sa hS 20 (blockB_20 (F := Ideal) ..) (sumB_19 Sa hS) i n
theorem sumB_21 (Sa : Fin 28 → Fin 40 → EReal) (hS : ∀ s i l, xs0 (ix3 s i l) = Sa s i) (i : Fin 40) (n : Fin 256) : (r_1200 c b1 hb1 b3 hb3 b4 hb4 b5 hb5 b6 hb6 b8 hb8 b9 b10 b11 x0 x2 x3 x4 x5 xs0) (ix2 i n) = upTo x0 x2 x3 x4 x5 Sa i n 22 :=
  nextB Sa hS 21 (blockB_21 (F := Ideal) ..) (sumB_20 Sa hS) i n
theorem sumB_22 (Sa : Fin 28 → Fin 40 → EReal) (hS : ∀ s i l, xs0 (ix3 s i l) = Sa s i) (i : Fin 40) (n : Fin 256) : (r_1254 c b1 hb1 b3 hb3 b4 hb4 b5 hb5 b6 hb6 b8 hb8 b9 b10 b11 x0 x2 x3 x4 x5 xs0) (ix2 i n) = upTo x0 x2 x3 x4 x5 Sa i n 23 :=
  nextB Sa hS 22 (blockB_22 (F := Ideal) ..) (sumB_21 Sa hS) i n
theorem sumB_23 (Sa : Fin 28 → Fin 40 → EReal) (hS : ∀ s i l, xs0 (ix3 s i l) = Sa s i) (i : Fin 40) (n : Fin 256) : (r_1308 c b1 hb1 b3 hb3 b4 hb4 b5 hb5 b6 hb6 b8 hb8 b9 b10 b11 x0 x2 x3 x4 x5 xs0) (ix2 i n) = upTo x0 x2 x3 x4 x5 Sa i n 24 :=
  nextB Sa hS 23 (blockB_23 (F := Ideal) ..) (sumB_22 Sa hS) i n
theorem sumB_24 (Sa : Fin 28 → Fin 40 → EReal) (hS : ∀ s i l, xs0 (ix3 s i l) = Sa s i) (i : Fin 40) (n : Fin 256) : (r_1363 c b1 hb1 b3 hb3 b4 hb4 b5 hb5 b6 hb6 b8 hb8 b9 b10 b11 x0 x2 x3 x4 x5 xs0) (ix2 i n) = upTo x0 x2 x3 x4 x5 Sa i n 25 :=
  nextB Sa hS 24 (blockB_24 (F := Ideal) ..) (sumB_23 Sa hS) i n
theorem sumB_25 (Sa : Fin 28 → Fin 40 → EReal) (hS : ∀ s i l, xs0 (ix3 s i l) = Sa s i) (i : Fin 40) (n : Fin 256) : (r_1416 c b1 hb1 b3 hb3 b4 hb4 b5 hb5 b6 hb6 b8 hb8 b9 b10 b11 x0 x2 x3 x4 x5 xs0) (ix2 i n) = upTo x0 x2 x3 x4 x5 Sa i n 26 :=
  nextB Sa hS 25 (blockB_25 (F := Ideal) ..) (sumB_24 Sa hS) i n
theorem sumB_26 (Sa : Fin 28 → Fin 40 → EReal) (hS : ∀ s i l, xs0 (ix3 s i l) = Sa s i) (i : Fin 40) (n : Fin 256) : (r_1469 c b1 hb1 b3 hb3 b4 hb4 b5 hb5 b6 hb6 b8 hb8 b9 b10 b11 x0 x2 x3 x4 x5 xs0) (ix2 i n) = upTo x0 x2 x3 x4 x5 Sa i n 27 :=
  nextB Sa hS 26 (blockB_26 (F := Ideal) ..) (sumB_25 Sa hS) i n
theorem lastB_apply (Sa : Fin 28 → Fin 40 → EReal) (hS : ∀ s i l, xs0 (ix3 s i l) = Sa s i) (i : Fin 40) (n : Fin 256) : lastB (F := Ideal) c b1 hb1 b3 hb3 b4 hb4 b5 hb5 b6 hb6 b8 hb8 b9 b10 b11 x0 x2 x3 x4 x5 xs0 (ix2 i n) = ∑ s, blockTerm x0 x2 x3 x4 x5 Sa i n s :=
  (nextB Sa hS ⟨27, by decide⟩ rfl (sumB_26 Sa hS) i n).trans (upTo_all x0 x2 x3 x4 x5 _ i n)

end

end Cert.Six
end
-- ==== Proof.DownSweep.lean ====
/- The down projection: the kernel's array by the arguments' elements. -/
module

public import proofs.«01_k».proof.Proof.Array
public import proofs.«01_k».proof.Proof.DownA
public import proofs.«01_k».proof.Proof.DownB
public import proofs.«01_k».proof.Proof.Gen.DownIdeal.Value

@[expose] public section

noncomputable section

namespace Cert.Six

open Idealize.ShloMosaic Idealize.ShloMosaic.TcCoe Idealize.SL.Sem Cert.DownIdeal Cert.DownIdeal.Gen Idealize.ShloMosaic.Tactic

section

variable (c : Dev nD)
  (b1 : Memref sig Kind.tc Space.vmem S28x40x256 EltTy.i8) (hb1 : b1.IsWhole)
  (b2 : Memref sig Kind.tc Space.vmem S40x28 EltTy.f32) (hb2 : b2.IsWhole)
  (b3 : Memref sig Kind.tc Space.vmem S28x256x128 EltTy.i8) (hb3 : b3.IsWhole)
  (b4 : Memref sig Kind.tc Space.vmem S28x64x256 EltTy.i8) (hb4 : b4.IsWhole)
  (b5 : Memref sig Kind.tc Space.vmem S28x16x256 EltTy.i8) (hb5 : b5.IsWhole)
  (b6 : Memref sig Kind.tc Space.vmem S28x256 EltTy.i16) (hb6 : b6.IsWhole)
  (b7 : Memref sig Kind.tc Space.vmem S40x256 EltTy.f32) (hb7 : b7.IsWhole)
  (b8 : Memref sig Kind.tc Space.vmem S28x40x128 EltTy.f32) (hb8 : b8.IsWhole)
  (b9 : Memref sig Kind.tc Space.vmem S28x16x256 EltTy.i32) (hb9 : b9.IsWhole)
  (b10 : Memref sig Kind.tc Space.vmem S28x16x256 EltTy.i32) (hb10 : b10.IsWhole)
  (b11 : Memref sig Kind.tc Space.vmem S2x28x128 EltTy.f32) (hb11 : b11.IsWhole)
  (x0 : Vec Ideal S28x40x256 .i8) (x1 : Vec Ideal S40x28 .f32) (x2 : Vec Ideal S28x256x128 .i8) (x3 : Vec Ideal S28x64x256 .i8) (x4 : Vec Ideal S28x16x256 .i8) (x5 : Vec Ideal S28x256 .i16) (xs0 : Vec Ideal S28x40x128 .f32)
  (i : grid0.Coords)

theorem outA (hc0 : cond0_0 i) (j : Fin 40) (n : Fin 256) :
    out0_A_6 (F := Ideal) c i b1 hb1 b2 hb2 b3 hb3 b4 hb4 b5 hb5 b6 hb6 b7 hb7 b8 hb8 b9 hb9 b10 hb10 b11 hb11 hc0 x0 x1 x2 x3 x4 x5 (ix2 j n) = ∑ s, blockTerm x0 x2 x3 x4 x5 (fun s i => x1 (ix2 i s)) j n s := by
  unfold out0_A_6
  rw [View.read_writes_junk_eq_canon, storedA]
  exact (Cert.Step.whole_canon inb_S40x256_S40x256_0_0 (lastA (F := Ideal) c b1 hb1 b2 hb2 b3 hb3 b4 hb4 b5 hb5 b6 hb6 b8 b9 b10 b11 x0 x1 x2 x3 x4 x5) j n).trans (lastA_apply j n)

theorem outB (hc0 : ¬cond0_0 i) (Sa : Fin 28 → Fin 40 → EReal) (hS : ∀ s i l, xs0 (ix3 s i l) = Sa s i) (j : Fin 40) (n : Fin 256) :
    out0_B_6 (F := Ideal) c i b1 hb1 b2 hb2 b3 hb3 b4 hb4 b5 hb5 b6 hb6 b7 hb7 b8 hb8 b9 hb9 b10 hb10 b11 hb11 hc0 x0 x1 x2 x3 x4 x5 xs0 (ix2 j n) = ∑ s, blockTerm x0 x2 x3 x4 x5 Sa j n s := by
  unfold out0_B_6
  rw [View.read_writes_junk_eq_canon, storedB]
  exact (Cert.Step.whole_canon inb_S40x256_S40x256_0_0 (lastB (F := Ideal) c b1 hb1 b3 hb3 b4 hb4 b5 hb5 b6 hb6 b8 hb8 b9 b10 b11 x0 x2 x3 x4 x5 xs0) j n).trans (lastB_apply Sa hS j n)

theorem scalesLeft (hc0 : cond0_0 i) (s : Fin 28) (j : Fin 40) (l : Fin 128) :
    sout0_A_0 (F := Ideal) c i b1 hb1 b2 hb2 b3 hb3 b4 hb4 b5 hb5 b6 hb6 b7 hb7 b8 hb8 b9 hb9 b10 hb10 b11 hb11 hc0 x0 x1 x2 x3 x4 x5 (ix3 s j l) = x1 (ix2 j s) := by
  unfold sout0_A_0
  rw [View.read_writes_junk_eq_canon, keptA, scaA]
  exact (canon_aspieces _ s j l).trans (congrFun (scales_apply b2 hb2 x1 _) (ix2 j s))

end

variable (m : (ℓ : Loc nD τ sig) → Buf (Elt Ideal) ℓ) (c : Dev nD)

/-- The arguments, as the program finds them. -/
abbrev arg0 : Vec Ideal S40x7168 .i8 := m ((c : Thread nD τ).loc main_arg0)
abbrev arg1 : Vec Ideal S40x28 .f32 := m ((c : Thread nD τ).loc main_arg1)
abbrev arg2 : Vec Ideal S8192x28x128 .i8 := m ((c : Thread nD τ).loc main_arg2)
abbrev arg3 : Vec Ideal S8192x28x64 .i8 := m ((c : Thread nD τ).loc main_arg3)
abbrev arg4 : Vec Ideal S8192x28x16 .i8 := m ((c : Thread nD τ).loc main_arg4)
abbrev arg5 : Vec Ideal S8192x28 .i16 := m ((c : Thread nD τ).loc main_arg5)

theorem V_main_v1 : V m c main_v1 = transpose S28x40x256 [1, 0, 2] (shapeCast S40x28x256 (arg0 m c) shapeCasts_S40x7168_S40x28x256) transposes_S40x28x256_S28x40x256_1_0_2 := by
  unfold V hostOps0
  after_results_simp
  all_goals rfl

theorem V_main_v2 : V m c main_v2 = transpose S28x8192x128 [1, 0, 2] (arg2 m c) transposes_S8192x28x128_S28x8192x128_1_0_2 := by
  unfold V hostOps0
  after_results_simp
  all_goals rfl

theorem V_main_v3 : V m c main_v3 = transpose S28x64x8192 [1, 2, 0] (arg3 m c) transposes_S8192x28x64_S28x64x8192_1_2_0 := by
  unfold V hostOps0
  after_results_simp
  all_goals rfl

theorem V_main_v4 : V m c main_v4 = transpose S28x16x8192 [1, 2, 0] (arg4 m c) transposes_S8192x28x16_S28x16x8192_1_2_0 := by
  unfold V hostOps0
  after_results_simp
  all_goals rfl

theorem V_main_v5 : V m c main_v5 = transpose S28x8192 [1, 0] (arg5 m c) transposes_S8192x28_S28x8192_1_0 := by
  unfold V hostOps0
  after_results_simp
  all_goals rfl

/-- Column `n` of tile `t`. -/
def col (t : Fin cfg0.N) (n : Fin 256) : Fin 8192 := ⟨256 * t.val + n.val, by have := lt_of_lt_of_eq t.isLt (show cfg0.N = 32 from N_0); omega⟩

theorem blk0 (t : Fin cfg0.N) (s : Fin 28) (i : Fin 40) (k : Fin 256) : iblk m c 0 t (ix3 s i k) = arg0 m c (ix2 i ⟨256 * s.val + k.val, by omega⟩) := by
  have e : iblk m c 0 t (ix3 s i k) = V m c main_v1 (ix3 s i k) := by
    refine congrArg (V m c main_v1) ?_
    funext a
    match a with
    | ⟨0, _⟩ => exact Fin.ext (by show 0 * 28 + 1 * s.val = s.val; omega)
    | ⟨1, _⟩ => exact Fin.ext (by show 0 * 40 + 1 * i.val = i.val; omega)
    | ⟨2, _⟩ => exact Fin.ext (by show 0 * 256 + 1 * k.val = k.val; omega)
  rw [e, V_main_v1]
  pointwise
  exact congrArg (fun z => arg0 m c (ix2 i z)) (Fin.ext (by dsimp only; omega))

theorem blk1 (t : Fin cfg0.N) (i : Fin 40) (s : Fin 28) : iblk m c 1 t (ix2 i s) = arg1 m c (ix2 i s) := by
  have e : iblk m c 1 t (ix2 i s) = V m c main_arg1 (ix2 i s) := by
    refine congrArg (V m c main_arg1) ?_
    funext a
    match a with
    | ⟨0, _⟩ => exact Fin.ext (by show 0 * 40 + 1 * i.val = i.val; omega)
    | ⟨1, _⟩ => exact Fin.ext (by show 0 * 28 + 1 * s.val = s.val; omega)
  rw [e, V_main_arg1]

/-- The codes as the kernel takes them. -/
def codes : Vec Ideal S28x40x256 .i8 := fun j => arg0 m c (ix2 (j 1) ⟨256 * (j 0).val + (j 2).val, by
  have h0 : (j 0).val < 28 := (j 0).isLt
  have h2 : (j 2).val < 256 := (j 2).isLt
  omega⟩)

theorem blk0_eq (t : Fin cfg0.N) : iblk m c 0 t = codes m c := by
  funext j
  exact (congrArg (iblk m c 0 t) (Cert.Step.eta3 j)).trans (blk0 m c t (j 0) (j 1) (j 2))

theorem blk1_eq (t : Fin cfg0.N) : iblk m c 1 t = arg1 m c := by
  funext j
  exact (congrArg (iblk m c 1 t) (Cert.Step.eta2 j)).trans ((blk1 m c t (j 0) (j 1)).trans (congrArg (arg1 m c) (Cert.Step.eta2 j).symm))

theorem blk2 (t : Fin cfg0.N) (s : Fin 28) (n : Fin 256) (y : Fin 128) : iblk m c 2 t (ix3 s n y) = arg2 m c (ix3 (col t n) s y) := by
  have h : ∀ t : Fin cfg0.N, win0_2.index t (0 : Fin 3) = 0 ∧ win0_2.index t (1 : Fin 3) = t.val ∧ win0_2.index t (2 : Fin 3) = 0 :=
    (by decide +kernel : ∀ t : Fin grid0.N, _)
  obtain ⟨h0, h1, h2⟩ := h t
  have e : iblk m c 2 t (ix3 s n y) = V m c main_v2 (ix3 s (col t n) y) := by
    refine congrArg (V m c main_v2) ?_
    funext a
    match a with
    | ⟨0, _⟩ => exact Fin.ext (by show win0_2.index t (0 : Fin 3) * 28 + 1 * s.val = s.val; omega)
    | ⟨1, _⟩ => exact Fin.ext (by show win0_2.index t (1 : Fin 3) * 256 + 1 * n.val = 256 * t.val + n.val; omega)
    | ⟨2, _⟩ => exact Fin.ext (by show win0_2.index t (2 : Fin 3) * 128 + 1 * y.val = y.val; omega)
  rw [e, V_main_v2]
  pointwise

theorem blk3 (t : Fin cfg0.N) (s : Fin 28) (y : Fin 64) (n : Fin 256) : iblk m c 3 t (ix3 s y n) = arg3 m c (ix3 (col t n) s y) := by
  have h : ∀ t : Fin cfg0.N, win0_3.index t (0 : Fin 3) = 0 ∧ win0_3.index t (1 : Fin 3) = 0 ∧ win0_3.index t (2 : Fin 3) = t.val :=
    (by decide +kernel : ∀ t : Fin grid0.N, _)
  obtain ⟨h0, h1, h2⟩ := h t
  have e : iblk m c 3 t (ix3 s y n) = V m c main_v3 (ix3 s y (col t n)) := by
    refine congrArg (V m c main_v3) ?_
    funext a
    match a with
    | ⟨0, _⟩ => exact Fin.ext (by show win0_3.index t (0 : Fin 3) * 28 + 1 * s.val = s.val; omega)
    | ⟨1, _⟩ => exact Fin.ext (by show win0_3.index t (1 : Fin 3) * 64 + 1 * y.val = y.val; omega)
    | ⟨2, _⟩ => exact Fin.ext (by show win0_3.index t (2 : Fin 3) * 256 + 1 * n.val = 256 * t.val + n.val; omega)
  rw [e, V_main_v3]
  pointwise

theorem blk4 (t : Fin cfg0.N) (s : Fin 28) (y : Fin 16) (n : Fin 256) : iblk m c 4 t (ix3 s y n) = arg4 m c (ix3 (col t n) s y) := by
  have h : ∀ t : Fin cfg0.N, win0_4.index t (0 : Fin 3) = 0 ∧ win0_4.index t (1 : Fin 3) = 0 ∧ win0_4.index t (2 : Fin 3) = t.val :=
    (by decide +kernel : ∀ t : Fin grid0.N, _)
  obtain ⟨h0, h1, h2⟩ := h t
  have e : iblk m c 4 t (ix3 s y n) = V m c main_v4 (ix3 s y (col t n)) := by
    refine congrArg (V m c main_v4) ?_
    funext a
    match a with
    | ⟨0, _⟩ => exact Fin.ext (by show win0_4.index t (0 : Fin 3) * 28 + 1 * s.val = s.val; omega)
    | ⟨1, _⟩ => exact Fin.ext (by show win0_4.index t (1 : Fin 3) * 16 + 1 * y.val = y.val; omega)
    | ⟨2, _⟩ => exact Fin.ext (by show win0_4.index t (2 : Fin 3) * 256 + 1 * n.val = 256 * t.val + n.val; omega)
  rw [e, V_main_v4]
  pointwise

theorem blk5 (t : Fin cfg0.N) (s : Fin 28) (n : Fin 256) : iblk m c 5 t (ix2 s n) = arg5 m c (ix2 (col t n) s) := by
  have h : ∀ t : Fin cfg0.N, win0_5.index t (0 : Fin 2) = 0 ∧ win0_5.index t (1 : Fin 2) = t.val :=
    (by decide +kernel : ∀ t : Fin grid0.N, _)
  obtain ⟨h0, h1⟩ := h t
  have e : iblk m c 5 t (ix2 s n) = V m c main_v5 (ix2 s (col t n)) := by
    refine congrArg (V m c main_v5) ?_
    funext a
    match a with
    | ⟨0, _⟩ => exact Fin.ext (by show win0_5.index t (0 : Fin 2) * 28 + 1 * s.val = s.val; omega)
    | ⟨1, _⟩ => exact Fin.ext (by show win0_5.index t (1 : Fin 2) * 256 + 1 * n.val = 256 * t.val + n.val; omega)
  rw [e, V_main_v5]
  pointwise

/-- The activations' scale of a block and a row. -/
def scaleOf (s : Fin 28) (i : Fin 40) : EReal := arg1 m c (ix2 i s)

theorem left (n : ℕ) (hn : n < cfg0.N) :
    (∀ i q, (outsAt0 m c n hn).1 (ix2 i q) = ∑ s, blockTerm (codes m c) (iblk m c 2 ⟨n, hn⟩) (iblk m c 3 ⟨n, hn⟩) (iblk m c 4 ⟨n, hn⟩) (iblk m c 5 ⟨n, hn⟩) (scaleOf m c) i q s)
    ∧ (∀ s i l, (outsAt0 m c n hn).2 (ix3 s i l) = scaleOf m c s i) := by
  have hN : cfg0.N = 32 := N_0
  induction n with
  | zero =>
    rw [outsAt0_A m c ⟨0, hn⟩ (Nat.zero_mod _)]
    dsimp only
    refine ⟨fun i q => ?_, fun s i l => ?_⟩
    · refine (outA c (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) _ _ i q).trans ?_
      rw [blk0_eq, blk1_eq]; rfl
    · refine (scalesLeft c (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) _ _ s i l).trans ?_
      rw [blk1_eq]; rfl
  | succ n ih =>
    obtain ⟨-, h1⟩ := ih (Nat.lt_of_succ_lt hn)
    have hb : ¬(n + 1) % 32 = 0 := by omega
    rw [outsAt0_B m c ⟨n + 1, hn⟩ hb]
    dsimp only
    refine ⟨fun i q => ?_, h1⟩
    refine (outB c (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) _ _ _ (scaleOf m c) h1 i q).trans ?_
    rw [blk0_eq]

/-- The kernel's array at an index: the column's tile, and the place in it. -/
theorem kernel_at (i : Fin 40) (N : Fin 8192) (t : Fin cfg0.N) (n : Fin 256) (hN : N.val = 256 * t.val + n.val) :
    Value.G6 m c (ix2 i N) = ∑ s, blockTerm (codes m c) (iblk m c 2 t) (iblk m c 3 t) (iblk m c 4 t) (iblk m c 5 t) (scaleOf m c) i n s := by
  have hp : Value.pt6Of (ix2 i N) = t.val := by
    show 32 * (i.val / 40 - 0) + 1 * (N.val / 256 - 0) = t.val
    omega
  have hl : Value.loc6Of (ix2 i N) = ix2 i n := by
    funext a
    match a with
    | ⟨0, _⟩ => exact Fin.ext (by show i.val % 40 = i.val; omega)
    | ⟨1, _⟩ => exact Fin.ext (by show N.val % 256 = n.val; omega)
  have hlt : Value.pt6Of (ix2 i N) < cfg0.N := by rw [hp]; exact t.isLt
  unfold Value.G6
  rw [dif_pos hlt, hl, ← Value.outsAt0_sweep m c (Value.pt6Of (ix2 i N)) hlt, (left m c _ hlt).1 i n]
  have ht : (⟨Value.pt6Of (ix2 i N), hlt⟩ : Fin cfg0.N) = t := Fin.ext hp
  rw [ht]

end Cert.Six
end
-- ==== Proof.DownRefParts.lean ====
/- The down projection's reference in named parts. -/
module

public import proofs.«01_k».proof.Proof.Gen.DownReferenceIdeal.Run
public import Idealize.ShloMosaic.Lib.Pointwise

@[expose] public section

noncomputable section

namespace Cert.SixRef

open Cert.DownReferenceIdeal Cert.DownReferenceIdeal.Gen Idealize.ShloMosaic Idealize.ShloMosaic.TcCoe Idealize.SL.Sem Idealize.ShloMosaic.StableHlo

variable {F : FTy → Type} [FloatOps F]

def c2 (v : BitVec 32) : IVec S8192x28 32 := broadcastInDim S8192x28 ![] bcast_S_S8192x28 (constantI S_ 32 v)
def c5 (v : BitVec 32) : IVec S8192x28x2x2x32 32 := broadcastInDim S8192x28x2x2x32 ![] bcast_S_S8192x28x2x2x32 (constantI S_ 32 v)

/-- The exponent fields of half-precision words, their leading bits, and their magnitudes. -/
def expo (v : IVec S8192x28 16) : IVec S8192x28 32 := andi (Host.shrui (extui 32 v natLt_16_32) (c2 10#32)) (c2 31#32)
def lead (v : IVec S8192x28 16) : IVec S8192x28 32 := Host.shrui (addi (expo v) (c2 31#32)) (c2 5#32)
def half (v : IVec S8192x28 16) : FVec F S8192x28 .f32 :=
  mulf (uitofp .f32 (ori (andi (extui 32 v natLt_16_32) (c2 1023#32)) (Host.shli (lead v) (c2 10#32))))
    (bitcastToFloat (F := F) .f32 (Host.shli (subi (addi (expo v) (c2 103#32)) (lead v)) (c2 23#32)))

def low4 (q : IVec S8192x28x128 8) : IVec S8192x28x2x2x32 32 := shapeCast _ (extui 32 q natLt_8_32) shapeCasts_S8192x28x128_S8192x28x2x2x32
def high2 (q : IVec S8192x28x64 8) : IVec S8192x28x2x1x32 32 := shapeCast _ (extui 32 q natLt_8_32) shapeCasts_S8192x28x64_S8192x28x2x1x32
def sh : IVec S2x1 32 := muli (broadcastInDim S2x1 ![] bcast_S_S2x1 (constantI S_ 32 2#32)) (broadcastInDim S2x1 ![0] bcast_S2_S2x1_0 (iotaInDim S2 32 0))

/-- The upper two bits of the weights, in their place, each shifted out by the word for its half. -/
def upper (q : IVec S8192x28x64 8) (h : IVec S2x1 32) : IVec S8192x28x2x2x32 32 :=
  Host.shli (andi (Host.shrsi (broadcastInDim S8192x28x2x2x32 ![0, 1, 2, 3, 4] bcast_S8192x28x2x1x32_S8192x28x2x2x32_0_1_2_3_4 (high2 q))
    (broadcastInDim S8192x28x2x2x32 ![0, 1, 2, 3, 4] bcast_S1x1x1x2x1_S8192x28x2x2x32_0_1_2_3_4 (broadcastInDim S1x1x1x2x1 ![3, 4] bcast_S2x1_S1x1x1x2x1_3_4 h))) (c5 3#32)) (c5 4#32)
def qa (q : IVec S8192x28x128 8) (p : IVec S8192x28x64 8) : IVec S8192x28x2x2x32 32 := ori (andi (low4 q) (c5 15#32)) (upper p sh)
def qb (q : IVec S8192x28x128 8) (p : IVec S8192x28x64 8) : IVec S8192x28x2x2x32 32 :=
  ori (Host.shrsi (low4 q) (c5 4#32)) (upper p (addi sh (broadcastInDim S2x1 ![] bcast_S_S2x1 (constantI S_ 32 4#32))))

def scales (x : IVec S8192x28x16 8) : IVec S8192x28x2x2x2x2 32 := shapeCast _ (extsi 32 x natLt_8_32) shapeCasts_S8192x28x16_S8192x28x2x2x2x2
def sca (x : IVec S8192x28x16 8) : IVec S8192x28x2x2x2 32 :=
  shapeCast _ (extractStridedSlice S8192x28x2x1x2x2 ![0, 0, 0, 0, 0, 0] (scales x) slices_S8192x28x2x2x2x2_S8192x28x2x1x2x2_0_0_0_0_0_0) shapeCasts_S8192x28x2x1x2x2_S8192x28x2x2x2
def scb (x : IVec S8192x28x16 8) : IVec S8192x28x2x2x2 32 :=
  shapeCast _ (extractStridedSlice S8192x28x2x1x2x2 ![0, 0, 0, 1, 0, 0] (scales x) slices_S8192x28x2x2x2x2_S8192x28x2x1x2x2_0_0_0_1_0_0) shapeCasts_S8192x28x2x1x2x2_S8192x28x2x2x2

/-- The integer weights: the centred codes times their scales. -/
def fold (q : IVec S8192x28x2x2x32 32) (s : IVec S8192x28x2x2x2 32) : IVec S8192x28x2x2x32 32 :=
  shapeCast _ (muli (subi (shapeCast _ q shapeCasts_S8192x28x2x2x32_S8192x28x2x2x2x16) (broadcastInDim S8192x28x2x2x2x16 ![] bcast_S_S8192x28x2x2x2x16 (constantI S_ 32 32#32)))
    (broadcastInDim S8192x28x2x2x2x16 ![0, 1, 2, 3, 4, 5] bcast_S8192x28x2x2x2x1_S8192x28x2x2x2x16_0_1_2_3_4_5 (broadcastInDim S8192x28x2x2x2x1 ![0, 1, 2, 3, 4] bcast_S8192x28x2x2x2_S8192x28x2x2x2x1_0_1_2_3_4 s)))
    shapeCasts_S8192x28x2x2x2x16_S8192x28x2x2x32

/-- The codes that meet the low and the high halves. -/
def aa (a : IVec S40x7168 8) : IVec S40x28x2x2x32 32 :=
  extsi 32 (shapeCast _ (extractStridedSlice S40x28x2x1x2x32 ![0, 0, 0, 0, 0, 0] (shapeCast _ a shapeCasts_S40x7168_S40x28x2x2x2x32) slices_S40x28x2x2x2x32_S40x28x2x1x2x32_0_0_0_0_0_0) shapeCasts_S40x28x2x1x2x32_S40x28x2x2x32) natLt_8_32
def ab (a : IVec S40x7168 8) : IVec S40x28x2x2x32 32 :=
  extsi 32 (shapeCast _ (extractStridedSlice S40x28x2x1x2x32 ![0, 0, 0, 1, 0, 0] (shapeCast _ a shapeCasts_S40x7168_S40x28x2x2x2x32) slices_S40x28x2x2x2x32_S40x28x2x1x2x32_0_0_0_1_0_0) shapeCasts_S40x28x2x1x2x32_S40x28x2x2x32) natLt_8_32

/-- One product of integers by two products of narrow ones. -/
def dots (F : FTy → Type) [FloatOps F] (a : IVec S40x28x2x2x32 32) (w : IVec S8192x28x2x2x32 32) : IVec S28x40x8192 32 :=
  addi (muli (broadcastInDim S28x40x8192 ![] bcast_S_S28x40x8192 (constantI S_ 32 128#32))
      (fptosi 32 (Host.roundeven (Host.dotGeneral dot_S40x28x2x2x32_S8192x28x2x2x32_S28x40x8192_324_324_0_0_1_1 none (sitofp .bf16 a) (sitofp .bf16 (Host.shrsi w (c5 7#32))) : (⟨S28x40x8192, .f32⟩ : BufTy).Contents (Elt F)))))
    (fptosi 32 (Host.roundeven (Host.dotGeneral dot_S40x28x2x2x32_S8192x28x2x2x32_S28x40x8192_324_324_0_0_1_1 none (sitofp .bf16 a) (sitofp .bf16 (andi w (c5 127#32))) : (⟨S28x40x8192, .f32⟩ : BufTy).Contents (Elt F))))

def spreadN (v : FVec F S8192x28 .f32) : FVec F S28x40x8192 .f32 :=
  broadcastInDim S28x40x8192 ![0, 1, 2] bcast_S28x1x8192_S28x40x8192_0_1_2 (broadcastInDim S28x1x8192 ![0, 2] bcast_S28x8192_S28x1x8192_0_2 (transpose S28x8192 [1, 0] v transposes_S8192x28_S28x8192_1_0))
def spreadI (v : FVec F S40x28 .f32) : FVec F S28x40x8192 .f32 :=
  broadcastInDim S28x40x8192 ![0, 1, 2] bcast_S28x40x1_S28x40x8192_0_1_2 (broadcastInDim S28x40x1 ![0, 1] bcast_S28x40_S28x40x1_0_1 (transpose S28x40 [1, 0] v transposes_S40x28_S28x40_1_0))

/-- What each block adds. -/
def parts (a : IVec S40x7168 8) (sc : FVec F S40x28 .f32) (q : IVec S8192x28x128 8) (p : IVec S8192x28x64 8) (x : IVec S8192x28x16 8) (d : IVec S8192x28 16) :
    FVec F S28x40x8192 .f32 :=
  mulf (spreadI sc) (mulf (spreadN (half d)) (sitofp .f32 (addi (dots F (aa a) (fold (qa q p) (sca x))) (dots F (ab a) (fold (qb q p) (scb x))))))

def whole (a : IVec S40x7168 8) (sc : FVec F S40x28 .f32) (q : IVec S8192x28x128 8) (p : IVec S8192x28x64 8) (x : IVec S8192x28x16 8) (d : IVec S8192x28 16) :
    FVec F S40x8192 .f32 :=
  Host.reduceAdd (parts a sc q p x d) (constant S_ .f32 0x00000000#32) reducesTo_S28x40x8192_S40x8192_d0 h_S_

theorem res_eq (m : (ℓ : Loc nD τ sig) → Buf (Elt F) ℓ) (c : Dev nD) :
    Cert.DownReferenceIdeal.Value.res_main_v123 m c = whole (F := F) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  unfold Cert.DownReferenceIdeal.Value.res_main_v123
  rfl

end Cert.SixRef
-- ==== Proof.DownRef.lean ====
/- The down projection's reference at an index, in integers and reals. -/
module

public import proofs.«01_k».proof.Proof.DownRefParts
public import proofs.«01_k».proof.Proof.DownVal
public import proofs.«01_k».proof.Proof.RefInts
public import Idealize.ShloMosaic.Lib.ValueIdxRank6

@[expose] public section

noncomputable section

namespace Cert.SixRef

open Cert.DownReferenceIdeal Cert.DownReferenceIdeal.Gen Idealize.ShloMosaic Cert.Six
open Cert.RefVal (words_all sigR powR floor_int word_int coe_mul_int byte_range toInt_ofInt_small sext_toInt)

theorem half_apply (v : IVec S8192x28 16) (N : Fin 8192) (s : Fin 28) :
    half (F := Ideal) v (ix2 N s) = Cert.Step.f16 (F := Ideal) ((v (ix2 N s)).setWidth 32 &&& 32767#32) := by
  obtain ⟨h1, h2, h3, -⟩ := words_all (v (ix2 N s))
  have hs : (FloatOps.uitofp FTy.f32 (sigR (v (ix2 N s))) : Ideal .f32) = FloatOps.sitofp FTy.f32 (sigR (v (ix2 N s))) := by
    show (((sigR (v (ix2 N s))).toNat : ℝ) : EReal) = (((sigR (v (ix2 N s))).toInt : ℝ) : EReal)
    rw [BitVec.toInt_eq_toNat_of_lt (by omega)]
    norm_num
  unfold half lead expo c2
  pointwise
  show FloatOps.uitofp FTy.f32 (sigR (v (ix2 N s))) * Ideal.ofBits FTy.f32 (powR (v (ix2 N s))) = _
  rw [hs, h1, h2]
  rfl

/-! ### The six-bit weights -/

def lowW (f : Fin 2) (x : BitVec 8) : BitVec 32 :=
  match f with
  | 0 => IntOp.andi (BitVec.setWidth 32 x) 15#32
  | 1 => IntOp.shrsi ArithUnit.host (BitVec.setWidth 32 x) 4#32
def shW (f g : Fin 2) : BitVec 32 :=
  match f with
  | 0 => IntOp.muli 2#32 (BitVec.ofNat 32 g.val)
  | 1 => IntOp.addi (IntOp.muli 2#32 (BitVec.ofNat 32 g.val)) 4#32
def highW (f g : Fin 2) (y : BitVec 8) : BitVec 32 :=
  IntOp.shli ArithUnit.host (IntOp.andi (IntOp.shrsi ArithUnit.host (BitVec.setWidth 32 y) (shW f g)) 3#32) 4#32

theorem lowW_eq : ∀ (f : Fin 2) (x : BitVec 8), lowW f x = BitVec.ofNat 32 (lowOf f x).toNat ∧ (lowOf f x).toNat < 16 := by decide +kernel
theorem highW_eq : ∀ (f g : Fin 2) (y : BitVec 8), highW f g y = BitVec.ofNat 32 (16 * ((highOf f g y).toNat / 16)) ∧ (highOf f g y).toNat = 16 * ((highOf f g y).toNat / 16) ∧ (highOf f g y).toNat / 16 < 4 := by decide +kernel
theorem put : ∀ (u : Fin 16) (v : Fin 4), (IntOp.subi (IntOp.ori (BitVec.ofNat 32 u.val) (BitVec.ofNat 32 (16 * v.val))) 32#32).toInt = (u.val : ℤ) + (16 * v.val : ℕ) - 32 := by decide +kernel

theorem six_word (f g : Fin 2) (x y : BitVec 8) : (IntOp.subi (IntOp.ori (lowW f x) (highW f g y)) 32#32).toInt = six f g x y := by
  obtain ⟨h1, h2⟩ := lowW_eq f x
  obtain ⟨h3, h4, h5⟩ := highW_eq f g y
  rw [h1, h3, put ⟨_, h2⟩ ⟨_, h5⟩]
  unfold six
  rw [← h4]

theorem six_range (f g : Fin 2) (x y : BitVec 8) : -32 ≤ six f g x y ∧ six f g x y ≤ 31 := by
  obtain ⟨-, h2⟩ := lowW_eq f x
  obtain ⟨-, h4, h5⟩ := highW_eq f g y
  unfold six
  omega

theorem mul_word (u v : BitVec 32) (hu : -32 ≤ u.toInt ∧ u.toInt ≤ 31) (hv : -128 ≤ v.toInt ∧ v.toInt ≤ 127) : (IntOp.muli u v).toInt = u.toInt * v.toInt := by
  have e : u * v = BitVec.ofInt 32 (u.toInt * v.toInt) := by rw [BitVec.ofInt_mul, BitVec.ofInt_toInt, BitVec.ofInt_toInt]
  show (u * v).toInt = _
  rw [e, toInt_ofInt_small]
  · nlinarith [hu.1, hu.2, hv.1, hv.2]
  · nlinarith [hu.1, hu.2, hv.1, hv.2]

theorem split_cases : ∀ k : Fin 8448,
    (IntOp.shrsi ArithUnit.host (BitVec.ofInt 32 ((k.val : ℤ) - 4096)) 7#32).toInt = ((k.val : ℤ) - 4096) / 128 ∧
    (IntOp.andi (BitVec.ofInt 32 ((k.val : ℤ) - 4096)) 127#32).toInt = ((k.val : ℤ) - 4096) % 128 := by
  decide +kernel

theorem split_word (w : BitVec 32) (h0 : -4096 ≤ w.toInt) (h1 : w.toInt < 4352) :
    (IntOp.shrsi ArithUnit.host w 7#32).toInt = w.toInt / 128 ∧ (IntOp.andi w 127#32).toInt = w.toInt % 128 := by
  have h := split_cases ⟨(w.toInt + 4096).toNat, by omega⟩
  have e : (((w.toInt + 4096).toNat : ℕ) : ℤ) - 4096 = w.toInt := by omega
  simp only [e, BitVec.ofInt_toInt] at h
  exact h

theorem bound {ι : Type} [Fintype ι] (f : ι → ℤ) (B : ℤ) (C : ℤ) (hC : (Fintype.card ι : ℤ) = C) (h : ∀ c, -B ≤ f c ∧ f c ≤ B) : -(C * B) ≤ ∑ c, f c ∧ ∑ c, f c ≤ C * B := by
  have hu := Finset.sum_le_card_nsmul Finset.univ f B (fun c _ => (h c).2)
  have hl := Finset.card_nsmul_le_sum Finset.univ f (-B) (fun c _ => (h c).1)
  simp only [Finset.card_univ, nsmul_eq_mul] at hu hl
  rw [hC] at hu hl
  constructor <;> linarith

theorem bound3 (f : Fin 2 → Fin 2 → Fin 32 → ℤ) (B : ℤ) (h : ∀ g k l, -B ≤ f g k l ∧ f g k l ≤ B) :
    -(128 * B) ≤ ∑ g, ∑ k, ∑ l, f g k l ∧ ∑ g, ∑ k, ∑ l, f g k l ≤ 128 * B := by
  have h3 := bound (fun g => ∑ k, ∑ l, f g k l) (2 * (32 * B)) 2 rfl (fun g => bound (fun k => ∑ l, f g k l) (32 * B) 2 rfl (fun k => bound (f g k) B 32 rfl (h g k)))
  constructor <;> linarith [h3.1, h3.2]

theorem coe_sum3 (f : Fin 2 → Fin 2 → Fin 32 → ℤ) : (∑ g, ∑ k, ∑ l, (((f g k l : ℤ) : ℝ) : EReal)) = (((∑ g, ∑ k, ∑ l, f g k l : ℤ) : ℝ) : EReal) := by
  rw [← Cert.RefVal.coe_sum]
  refine Finset.sum_congr rfl fun g _ => ?_
  rw [← Cert.RefVal.coe_sum]
  refine Finset.sum_congr rfl fun k _ => ?_
  rw [← Cert.RefVal.coe_sum]

abbrev dims3 := dot_S40x28x2x2x32_S8192x28x2x2x32_S28x40x8192_324_324_0_0_1_1

/-- The contraction's index from its three coordinates. -/
def contr3 (g h : Fin 2) (l : Fin 32) : dims3.contr.Idx := fun p =>
  match p with
  | ⟨0, _⟩ => g
  | ⟨1, _⟩ => h
  | ⟨2, _⟩ => l
  | ⟨n + 3, hn⟩ => absurd (show n + 3 < 3 from hn) (by omega)

def contrEquiv3 : Fin 2 × Fin 2 × Fin 32 ≃ dims3.contr.Idx where
  toFun k := contr3 k.1 k.2.1 k.2.2
  invFun kk := (kk ⟨0, by decide⟩, kk ⟨1, by decide⟩, kk ⟨2, by decide⟩)
  left_inv _ := rfl
  right_inv kk := by
    funext p
    match p with
    | ⟨0, _⟩ => rfl
    | ⟨1, _⟩ => rfl
    | ⟨2, _⟩ => rfl
    | ⟨n + 3, hn⟩ => exact absurd (show n + 3 < 3 from hn) (by omega)

theorem dot3 (lhs : S40x28x2x2x32.Idx → EReal) (rhs : S8192x28x2x2x32.Idx → EReal) (s : Fin 28) (i : Fin 40) (N : Fin 8192) :
    Ideal.matmul dims3 lhs rhs (fun _ => 0) (ix3 s i N) = ∑ g : Fin 2, ∑ h : Fin 2, ∑ l : Fin 32, lhs (ix5 i s h g l) * rhs (ix5 N s h g l) := by
  refine (zero_add _).trans ?_
  refine (Fintype.sum_equiv contrEquiv3 _ _ fun _ => rfl).symm.trans ?_
  simp only [Fintype.sum_prod_type]
  refine Finset.sum_congr rfl fun g _ => Finset.sum_congr rfl fun h _ => Finset.sum_congr rfl fun l _ => ?_
  refine congrArg₂ (fun u v => lhs u * rhs v) ?_ ?_
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

/-- The two narrow products put together are the product. -/
theorem dots_apply (a : IVec S40x28x2x2x32 32) (w : IVec S8192x28x2x2x32 32) (i : Fin 40) (s : Fin 28) (N : Fin 8192)
    (ha : ∀ h g l, -128 ≤ (a (ix5 i s h g l)).toInt ∧ (a (ix5 i s h g l)).toInt ≤ 127)
    (hw : ∀ h g l, -4096 ≤ (w (ix5 N s h g l)).toInt ∧ (w (ix5 N s h g l)).toInt < 4352) :
    dots Ideal a w (ix3 s i N) = BitVec.ofInt 32 (∑ g : Fin 2, ∑ h : Fin 2, ∑ l : Fin 32, (a (ix5 i s h g l)).toInt * (w (ix5 N s h g l)).toInt) := by
  unfold dots c5
  pointwise
  rw [dot3, dot3]
  have hi : (∑ g : Fin 2, ∑ h : Fin 2, ∑ l : Fin 32, FloatOps.sitofp (F := Ideal) FTy.bf16 (a (ix5 i s h g l)) *
        FloatOps.sitofp (F := Ideal) FTy.bf16 (IntOp.shrsi ArithUnit.host (w (ix5 N s h g l)) 7#32))
      = ((((∑ g : Fin 2, ∑ h : Fin 2, ∑ l : Fin 32, (a (ix5 i s h g l)).toInt * ((w (ix5 N s h g l)).toInt / 128) : ℤ)) : ℝ) : EReal) := by
    rw [← coe_sum3]
    refine Finset.sum_congr rfl fun g _ => Finset.sum_congr rfl fun h _ => Finset.sum_congr rfl fun l _ => ?_
    rw [← coe_mul_int, ← (split_word _ (hw h g l).1 (hw h g l).2).1]
    rfl
  have lo : (∑ g : Fin 2, ∑ h : Fin 2, ∑ l : Fin 32, FloatOps.sitofp (F := Ideal) FTy.bf16 (a (ix5 i s h g l)) *
        FloatOps.sitofp (F := Ideal) FTy.bf16 (IntOp.andi (w (ix5 N s h g l)) 127#32))
      = ((((∑ g : Fin 2, ∑ h : Fin 2, ∑ l : Fin 32, (a (ix5 i s h g l)).toInt * ((w (ix5 N s h g l)).toInt % 128) : ℤ)) : ℝ) : EReal) := by
    rw [← coe_sum3]
    refine Finset.sum_congr rfl fun g _ => Finset.sum_congr rfl fun h _ => Finset.sum_congr rfl fun l _ => ?_
    rw [← coe_mul_int, ← (split_word _ (hw h g l).1 (hw h g l).2).2]
    rfl
  have bhi := bound3 (fun g h l => (a (ix5 i s h g l)).toInt * ((w (ix5 N s h g l)).toInt / 128)) 8192 (fun g h l => by
    have h1 := ha h g l
    have h2 : -32 ≤ (w (ix5 N s h g l)).toInt / 128 ∧ (w (ix5 N s h g l)).toInt / 128 ≤ 33 := by have := hw h g l; omega
    constructor <;> nlinarith [h1.1, h1.2, h2.1, h2.2])
  have blo := bound3 (fun g h l => (a (ix5 i s h g l)).toInt * ((w (ix5 N s h g l)).toInt % 128)) 16384 (fun g h l => by
    have h1 := ha h g l
    have h2 : 0 ≤ (w (ix5 N s h g l)).toInt % 128 ∧ (w (ix5 N s h g l)).toInt % 128 ≤ 127 := by omega
    constructor <;> nlinarith [h1.1, h1.2, h2.1, h2.2])
  refine (congrArg₂ (fun u v => IntOp.addi (IntOp.muli 128#32 (Ideal.fptosi 32 (Ideal.liftRound Ideal.roundHalfEven u)))
    (Ideal.fptosi 32 (Ideal.liftRound Ideal.roundHalfEven v))) hi lo).trans ?_
  rw [floor_int, floor_int, word_int _ (by linarith [bhi.1]) (by linarith [bhi.2]), word_int _ (by linarith [blo.1]) (by linarith [blo.2])]
  show 128#32 * _ + _ = _
  rw [show 128#32 = BitVec.ofInt 32 128 from by decide, ← BitVec.ofInt_mul, ← BitVec.ofInt_add]
  refine congrArg (BitVec.ofInt 32) ?_
  rw [Finset.mul_sum, ← Finset.sum_add_distrib]
  refine Finset.sum_congr rfl fun g _ => ?_
  rw [Finset.mul_sum, ← Finset.sum_add_distrib]
  refine Finset.sum_congr rfl fun h _ => ?_
  rw [Finset.mul_sum, ← Finset.sum_add_distrib]
  refine Finset.sum_congr rfl fun l _ => ?_
  have := Int.mul_ediv_add_emod (w (ix5 N s h g l)).toInt 128
  generalize (w (ix5 N s h g l)).toInt / 128 = p at *
  generalize (w (ix5 N s h g l)).toInt % 128 = r at *
  rw [← this]
  ring

/-! ### Weights and codes -/

/-- Weight `128 h + 64 f + 32 g + l` of a block. -/
def at4 (h f g : Fin 2) (l : Fin 32) : Fin 256 := ⟨128 * h.val + 64 * f.val + 32 * g.val + l.val, by omega⟩

theorem fold_apply (q : IVec S8192x28x2x2x32 32) (s : IVec S8192x28x2x2x2 32) (N : Fin 8192) (b : Fin 28) (h g : Fin 2) (l : Fin 32) :
    fold q s (ix5 N b h g l) = IntOp.muli (IntOp.subi (q (ix5 N b h g l)) 32#32) (s (ix5 N b h g ⟨l.val / 16, by omega⟩)) := by
  unfold fold
  pointwise

theorem qa_apply (q : IVec S8192x28x128 8) (p : IVec S8192x28x64 8) (N : Fin 8192) (b : Fin 28) (h g : Fin 2) (l : Fin 32) :
    qa q p (ix5 N b h g l) = IntOp.ori (lowW 0 (q (ix3 N b (kl (at4 h 0 g l))))) (highW 0 g (p (ix3 N b (kh (at4 h 0 g l))))) := by
  unfold qa low4 upper high2 sh c5
  pointwise
  refine congrArg₂ (fun u v => IntOp.ori (lowW 0 (q (ix3 N b u))) (highW 0 g (p (ix3 N b v)))) (Fin.ext ?_) (Fin.ext ?_)
  · show _ = 64 * ((128 * h.val + 64 * 0 + 32 * g.val + l.val) / 128) + 32 * ((128 * h.val + 64 * 0 + 32 * g.val + l.val) / 32 % 2) + (128 * h.val + 64 * 0 + 32 * g.val + l.val) % 32
    dsimp only
    omega
  · show _ = 32 * ((128 * h.val + 64 * 0 + 32 * g.val + l.val) / 128) + (128 * h.val + 64 * 0 + 32 * g.val + l.val) % 32
    dsimp only
    omega

theorem sca_apply (x : IVec S8192x28x16 8) (N : Fin 8192) (b : Fin 28) (h g : Fin 2) (l : Fin 32) :
    sca x (ix5 N b h g ⟨l.val / 16, by omega⟩) = (x (ix3 N b (kc (at4 h 0 g l)))).signExtend 32 := by
  unfold sca scales
  pointwise
  refine congrArg (fun k => (x (ix3 N b k)).signExtend 32) (Fin.ext ?_)
  show _ = (128 * h.val + 64 * 0 + 32 * g.val + l.val) / 16
  dsimp only
  omega

theorem aa_apply (a : IVec S40x7168 8) (i : Fin 40) (b : Fin 28) (h g : Fin 2) (l : Fin 32) :
    aa a (ix5 i b h g l) = (a (ix2 i ⟨256 * b.val + (at4 h 0 g l).val, by omega⟩)).signExtend 32 := by
  unfold aa
  pointwise
  refine congrArg (fun k => (a (ix2 i k)).signExtend 32) (Fin.ext ?_)
  show _ = 256 * b.val + (128 * h.val + 64 * 0 + 32 * g.val + l.val)
  dsimp only
  omega

theorem qb_apply (q : IVec S8192x28x128 8) (p : IVec S8192x28x64 8) (N : Fin 8192) (b : Fin 28) (h g : Fin 2) (l : Fin 32) :
    qb q p (ix5 N b h g l) = IntOp.ori (lowW 1 (q (ix3 N b (kl (at4 h 1 g l))))) (highW 1 g (p (ix3 N b (kh (at4 h 1 g l))))) := by
  unfold qb low4 upper high2 sh c5
  pointwise
  refine congrArg₂ (fun u v => IntOp.ori (lowW 1 (q (ix3 N b u))) (highW 1 g (p (ix3 N b v)))) (Fin.ext ?_) (Fin.ext ?_)
  · show _ = 64 * ((128 * h.val + 64 * 1 + 32 * g.val + l.val) / 128) + 32 * ((128 * h.val + 64 * 1 + 32 * g.val + l.val) / 32 % 2) + (128 * h.val + 64 * 1 + 32 * g.val + l.val) % 32
    dsimp only
    omega
  · show _ = 32 * ((128 * h.val + 64 * 1 + 32 * g.val + l.val) / 128) + (128 * h.val + 64 * 1 + 32 * g.val + l.val) % 32
    dsimp only
    omega

theorem scb_apply (x : IVec S8192x28x16 8) (N : Fin 8192) (b : Fin 28) (h g : Fin 2) (l : Fin 32) :
    scb x (ix5 N b h g ⟨l.val / 16, by omega⟩) = (x (ix3 N b (kc (at4 h 1 g l)))).signExtend 32 := by
  unfold scb scales
  pointwise
  refine congrArg (fun k => (x (ix3 N b k)).signExtend 32) (Fin.ext ?_)
  show _ = (128 * h.val + 64 * 1 + 32 * g.val + l.val) / 16
  dsimp only
  omega

theorem ab_apply (a : IVec S40x7168 8) (i : Fin 40) (b : Fin 28) (h g : Fin 2) (l : Fin 32) :
    ab a (ix5 i b h g l) = (a (ix2 i ⟨256 * b.val + (at4 h 1 g l).val, by omega⟩)).signExtend 32 := by
  unfold ab
  pointwise
  refine congrArg (fun k => (a (ix2 i k)).signExtend 32) (Fin.ext ?_)
  show _ = 256 * b.val + (128 * h.val + 64 * 1 + 32 * g.val + l.val)
  dsimp only
  omega

/-- The code and the weight at place `k` of a block. -/
def code (a : Vec Ideal S40x7168 .i8) (i : Fin 40) (b : Fin 28) (k : Fin 256) : BitVec 8 := a (ix2 i ⟨256 * b.val + k.val, by omega⟩)
def wt (q : Vec Ideal S8192x28x128 .i8) (p : Vec Ideal S8192x28x64 .i8) (x : Vec Ideal S8192x28x16 .i8) (N : Fin 8192) (b : Fin 28) (k : Fin 256) : ℤ :=
  six (kf k) (kg k) (q (ix3 N b (kl k))) (p (ix3 N b (kh k))) * (x (ix3 N b (kc k)) : BitVec 8).toInt

theorem wt_range (q : Vec Ideal S8192x28x128 .i8) (p : Vec Ideal S8192x28x64 .i8) (x : Vec Ideal S8192x28x16 .i8) (N : Fin 8192) (b : Fin 28) (k : Fin 256) :
    -4096 ≤ wt q p x N b k ∧ wt q p x N b k ≤ 4096 := by
  unfold wt
  have h1 := six_range (kf k) (kg k) (q (ix3 N b (kl k))) (p (ix3 N b (kh k)))
  have h2 := byte_range (x (ix3 N b (kc k)))
  constructor <;> nlinarith [h1.1, h1.2, h2.1, h2.2]

theorem kf_at (h f g : Fin 2) (l : Fin 32) : kf (at4 h f g l) = f := Fin.ext (by simp only [kf, at4]; omega)
theorem kg_at (h f g : Fin 2) (l : Fin 32) : kg (at4 h f g l) = g := Fin.ext (by simp only [kg, at4]; omega)

theorem wa_wt (q : Vec Ideal S8192x28x128 .i8) (p : Vec Ideal S8192x28x64 .i8) (x : Vec Ideal S8192x28x16 .i8) (N : Fin 8192) (b : Fin 28) (h g : Fin 2) (l : Fin 32) :
    (fold (qa q p) (sca x) (ix5 N b h g l)).toInt = wt q p x N b (at4 h 0 g l) := by
  rw [fold_apply, qa_apply, sca_apply, mul_word]
  · rw [six_word, sext_toInt]
    unfold wt
    rw [kf_at, kg_at]
  · rw [six_word]; exact six_range _ _ _ _
  · rw [sext_toInt]; exact byte_range _

theorem aa_code (a : Vec Ideal S40x7168 .i8) (i : Fin 40) (b : Fin 28) (h g : Fin 2) (l : Fin 32) :
    (aa a (ix5 i b h g l)).toInt = (code a i b (at4 h 0 g l)).toInt := by
  rw [aa_apply, sext_toInt]
  rfl

theorem wb_wt (q : Vec Ideal S8192x28x128 .i8) (p : Vec Ideal S8192x28x64 .i8) (x : Vec Ideal S8192x28x16 .i8) (N : Fin 8192) (b : Fin 28) (h g : Fin 2) (l : Fin 32) :
    (fold (qb q p) (scb x) (ix5 N b h g l)).toInt = wt q p x N b (at4 h 1 g l) := by
  rw [fold_apply, qb_apply, scb_apply, mul_word]
  · rw [six_word, sext_toInt]
    unfold wt
    rw [kf_at, kg_at]
  · rw [six_word]; exact six_range _ _ _ _
  · rw [sext_toInt]; exact byte_range _

theorem ab_code (a : Vec Ideal S40x7168 .i8) (i : Fin 40) (b : Fin 28) (h g : Fin 2) (l : Fin 32) :
    (ab a (ix5 i b h g l)).toInt = (code a i b (at4 h 1 g l)).toInt := by
  rw [ab_apply, sext_toInt]
  rfl

/-- A sum over a block's places, half by half. -/
theorem sum_places (f : Fin 256 → ℤ) :
    (∑ g : Fin 2, ∑ h : Fin 2, ∑ l : Fin 32, f (at4 h 0 g l)) + (∑ g : Fin 2, ∑ h : Fin 2, ∑ l : Fin 32, f (at4 h 1 g l)) = ∑ k, f k := by
  have e : ∑ k, f k = ∑ u : Fin 8, ∑ l : Fin 32, f ⟨32 * u.val + l.val, by omega⟩ := by
    rw [← Fintype.sum_prod_type' (f := fun (u : Fin 8) (l : Fin 32) => f ⟨32 * u.val + l.val, by omega⟩)]
    refine ((finProdFinEquiv (m := 8) (n := 32)).sum_comp (fun k => f k)).symm.trans ?_
    refine Finset.sum_congr rfl fun u _ => congrArg f (Fin.ext ?_)
    show u.2.val + 32 * u.1.val = 32 * u.1.val + u.2.val
    omega
  have k (h f' g : Fin 2) (u : Fin 8) (hu : u.val = 4 * h.val + 2 * f'.val + g.val) : (∑ l : Fin 32, f (at4 h f' g l)) = ∑ l : Fin 32, f ⟨32 * u.val + l.val, by omega⟩ :=
    Finset.sum_congr rfl fun l _ => congrArg f (Fin.ext (by show 128 * h.val + 64 * f'.val + 32 * g.val + l.val = 32 * u.val + l.val; omega))
  rw [e, Fin.sum_univ_eight]
  simp only [Fin.sum_univ_two]
  rw [k 0 0 0 0 rfl, k 0 0 1 1 rfl, k 0 1 0 2 rfl, k 0 1 1 3 rfl, k 1 0 0 4 rfl, k 1 0 1 5 rfl, k 1 1 0 6 rfl, k 1 1 1 7 rfl]
  ring

/-- The block's product of codes and weights. -/
def prod (a : Vec Ideal S40x7168 .i8) (q : Vec Ideal S8192x28x128 .i8) (p : Vec Ideal S8192x28x64 .i8) (x : Vec Ideal S8192x28x16 .i8) (i : Fin 40) (b : Fin 28) (N : Fin 8192) : ℤ :=
  ∑ k : Fin 256, (code a i b k).toInt * wt q p x N b k

theorem prod_words (a : Vec Ideal S40x7168 .i8) (q : Vec Ideal S8192x28x128 .i8) (p : Vec Ideal S8192x28x64 .i8) (x : Vec Ideal S8192x28x16 .i8) (i : Fin 40) (b : Fin 28) (N : Fin 8192) :
    (IntOp.addi (dots Ideal (aa a) (fold (qa q p) (sca x)) (ix3 b i N)) (dots Ideal (ab a) (fold (qb q p) (scb x)) (ix3 b i N))).toInt = prod a q p x i b N := by
  have hlo := dots_apply (aa a) (fold (qa q p) (sca x)) i b N
    (fun h g l => by rw [aa_code]; exact byte_range _) (fun h g l => by rw [wa_wt]; exact ⟨(wt_range _ _ _ _ _ _).1, lt_of_le_of_lt (wt_range _ _ _ _ _ _).2 (by norm_num)⟩)
  have hhi := dots_apply (ab a) (fold (qb q p) (scb x)) i b N
    (fun h g l => by rw [ab_code]; exact byte_range _) (fun h g l => by rw [wb_wt]; exact ⟨(wt_range _ _ _ _ _ _).1, lt_of_le_of_lt (wt_range _ _ _ _ _ _).2 (by norm_num)⟩)
  simp only [aa_code, wa_wt] at hlo
  simp only [ab_code, wb_wt] at hhi
  have key (k : Fin 256) : -524288 ≤ (code a i b k).toInt * wt q p x N b k ∧ (code a i b k).toInt * wt q p x N b k ≤ 524288 := by
    have h1 : -128 ≤ (code a i b k).toInt ∧ (code a i b k).toInt ≤ 127 := byte_range _
    have h2 := wt_range q p x N b k
    constructor <;> nlinarith [h1.1, h1.2, h2.1, h2.2]
  have b0 := bound (fun k => (code a i b k).toInt * wt q p x N b k) 524288 256 rfl key
  rw [hlo, hhi]
  show (BitVec.ofInt 32 _ + BitVec.ofInt 32 _).toInt = _
  rw [← BitVec.ofInt_add, sum_places (fun k => (code a i b k).toInt * wt q p x N b k), toInt_ofInt_small _ (by linarith [b0.1]) (by linarith [b0.2])]
  rfl

theorem spreadN_apply (v : FVec Ideal S8192x28 .f32) (i : Fin 40) (s : Fin 28) (N : Fin 8192) : spreadN v (ix3 s i N) = v (ix2 N s) := by
  unfold spreadN
  pointwise

theorem spreadI_apply (v : FVec Ideal S40x28 .f32) (i : Fin 40) (s : Fin 28) (N : Fin 8192) : spreadI v (ix3 s i N) = v (ix2 i s) := by
  unfold spreadI
  pointwise

/-- What the reference returns, element by element. -/
def refVal (a : Vec Ideal S40x7168 .i8) (sc : Vec Ideal S40x28 .f32) (q : Vec Ideal S8192x28x128 .i8) (p : Vec Ideal S8192x28x64 .i8) (x : Vec Ideal S8192x28x16 .i8)
    (d : Vec Ideal S8192x28 .i16) (i : Fin 40) (N : Fin 8192) : EReal :=
  ∑ s : Fin 28, sc (ix2 i s) * (Cert.Step.f16 (F := Ideal) ((d (ix2 N s) : BitVec 16).setWidth 32 &&& 32767#32) * ((prod a q p x i s N : ℝ) : EReal))

theorem parts_apply (a : Vec Ideal S40x7168 .i8) (sc : Vec Ideal S40x28 .f32) (q : Vec Ideal S8192x28x128 .i8) (p : Vec Ideal S8192x28x64 .i8) (x : Vec Ideal S8192x28x16 .i8)
    (d : Vec Ideal S8192x28 .i16) (i : Fin 40) (s : Fin 28) (N : Fin 8192) :
    parts (F := Ideal) a sc q p x d (ix3 s i N) =
      sc (ix2 i s) * (Cert.Step.f16 (F := Ideal) ((d (ix2 N s) : BitVec 16).setWidth 32 &&& 32767#32) * ((prod a q p x i s N : ℝ) : EReal)) := by
  unfold parts
  show spreadI (F := Ideal) sc (ix3 s i N) * (spreadN (F := Ideal) (half d) (ix3 s i N) * (((IntOp.addi (dots Ideal (aa a) (fold (qa q p) (sca x)) (ix3 s i N))
    (dots Ideal (ab a) (fold (qb q p) (scb x)) (ix3 s i N))).toInt : ℝ) : EReal)) = _
  rw [spreadI_apply, spreadN_apply, half_apply, prod_words]

theorem whole_apply (a : Vec Ideal S40x7168 .i8) (sc : Vec Ideal S40x28 .f32) (q : Vec Ideal S8192x28x128 .i8) (p : Vec Ideal S8192x28x64 .i8) (x : Vec Ideal S8192x28x16 .i8)
    (d : Vec Ideal S8192x28 .i16) (i : Fin 40) (N : Fin 8192) :
    whole (F := Ideal) a sc q p x d (ix2 i N) = refVal a sc q p x d i N := by
  have h : whole (F := Ideal) a sc q p x d (ix2 i N) = ∑ s, parts (F := Ideal) a sc q p x d (ix3 s i N) := by
    unfold whole
    generalize parts (F := Ideal) a sc q p x d = v
    pointwise
  rw [h]
  exact Finset.sum_congr rfl fun s _ => parts_apply a sc q p x d i s N

end Cert.SixRef
-- ==== Proof.DownSame.lean ====
/- The down projection: the kernel's array and the reference's are equal. -/
module

public import proofs.«01_k».proof.Defs
public import proofs.«01_k».proof.Proof.DownSweep
public import proofs.«01_k».proof.Proof.DownRef

@[expose] public section

noncomputable section

namespace Cert.DownSame

open Idealize.ShloMosaic Idealize.ShloMosaic.TcCoe Idealize.SL.Sem Cert.DownIdeal Cert.DownIdeal.Gen Cert.Six

theorem kernel_ref (m : (ℓ : Loc nD τ sig) → Buf (Elt Ideal) ℓ) (c : Dev nD) (i : Fin 40) (N : Fin 8192) :
    Value.G6 m c (ix2 i N) = Cert.SixRef.refVal (arg0 m c) (arg1 m c) (arg2 m c) (arg3 m c) (arg4 m c) (arg5 m c) i N := by
  have h32 : cfg0.N = 32 := N_0
  obtain ⟨t, ht⟩ : ∃ t : Fin cfg0.N, t.val = N.val / 256 := ⟨⟨N.val / 256, by rw [h32]; omega⟩, rfl⟩
  obtain ⟨n, hn⟩ : ∃ n : Fin 256, n.val = N.val % 256 := ⟨⟨N.val % 256, by omega⟩, rfl⟩
  have hN : N.val = 256 * t.val + n.val := by omega
  have hc : col t n = N := Fin.ext hN.symm
  refine (kernel_at m c i N t n hN).trans ?_
  have key : (∑ s : Fin 28, blockTerm (codes m c) (iblk m c 2 t) (iblk m c 3 t) (iblk m c 4 t) (iblk m c 5 t) (scaleOf m c) i n s : EReal)
      = Cert.SixRef.refVal (arg0 m c) (arg1 m c) (arg2 m c) (arg3 m c) (arg4 m c) (arg5 m c) i N := by
    unfold Cert.SixRef.refVal
    refine Finset.sum_congr rfl fun s _ => ?_
    unfold blockTerm term
    have e5 : factor (F := Ideal) (iblk m c 5 t) s n = Cert.Step.f16 (F := Ideal) ((arg5 m c (ix2 N s) : BitVec 16).setWidth 32 &&& 32767#32) := by
      unfold factor
      rw [blk5, hc]
    rw [e5]
    simp only [blk2, blk3, blk4, hc]
    rfl
  exact key

/-- The reference's run leaves its arguments as they were; it declares no semaphore. -/
theorem frame_r : Cert.quiescent_DownReferenceIdeal := by
  intro m ρ _
  exact (θ_run Cert.DownReferenceIdeal.defs _ _).mono
    (fun r h => ⟨fun c => (h c).2, Idealize.ShloMosaic.sem_eq_zero_of_no_sems (by decide) r.2⟩)
    (Cert.DownReferenceIdeal.Value.run m ρ)

/-- The reference's array is the kernel's, for arguments that agree. -/
theorem arrays_eq (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ) (c : Dev Cert.DownIdeal.nD)
    (h0 : m' ((c.tc : Thread Cert.DownReferenceIdeal.nD Cert.DownReferenceIdeal.τ).loc Cert.DownReferenceIdeal.main_arg0) = arg0 m c)
    (h1 : m' ((c.tc : Thread Cert.DownReferenceIdeal.nD Cert.DownReferenceIdeal.τ).loc Cert.DownReferenceIdeal.main_arg1) = arg1 m c)
    (h2 : m' ((c.tc : Thread Cert.DownReferenceIdeal.nD Cert.DownReferenceIdeal.τ).loc Cert.DownReferenceIdeal.main_arg2) = arg2 m c)
    (h3 : m' ((c.tc : Thread Cert.DownReferenceIdeal.nD Cert.DownReferenceIdeal.τ).loc Cert.DownReferenceIdeal.main_arg3) = arg3 m c)
    (h4 : m' ((c.tc : Thread Cert.DownReferenceIdeal.nD Cert.DownReferenceIdeal.τ).loc Cert.DownReferenceIdeal.main_arg4) = arg4 m c)
    (h5 : m' ((c.tc : Thread Cert.DownReferenceIdeal.nD Cert.DownReferenceIdeal.τ).loc Cert.DownReferenceIdeal.main_arg5) = arg5 m c) :
    Cert.DownReferenceIdeal.Value.res_main_v123 m' c = Value.G6 m c := by
  refine (Cert.SixRef.res_eq (F := Ideal) m' c).trans ?_
  rw [h0, h1, h2, h3, h4, h5]
  funext j
  rw [Cert.Step.eta2 j]
  exact (Cert.SixRef.whole_apply _ _ _ _ _ _ (j 0) (j 1)).trans (kernel_ref m c (j 0) (j 1)).symm

theorem same_values : Cert.algebraic_DownIdeal_DownReferenceIdeal := by
  intro m ρ m' ρ' hpre hargs
  refine ⟨fun c => Value.G6 m c, Cert.DownIdeal.Value.run m ρ, ?_⟩
  refine (θ_run Cert.DownReferenceIdeal.defs _ _).mono (fun r h c => ?_) (Cert.DownReferenceIdeal.Value.run m' ρ')
  obtain ⟨a0, a1, a2, a3, a4, a5⟩ := hargs c
  exact ⟨(h c).1.trans (arrays_eq m m' c a0 a1 a2 a3 a4 a5), (h c).2⟩

end Cert.DownSame
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.XNorm
public import proofs.«01_k».proof.Proof.Gen.XNorm.Frame
public import proofs.«01_k».proof.Proof.Gen.XNormIdeal
public import proofs.«01_k».proof.Proof.Gen.XNormIdeal.Frame
public import proofs.«01_k».proof.Proof.Gen.XNormIdeal.Value
public import proofs.«01_k».proof.Proof.Gen.XNormReferenceIdeal.Run
public import proofs.«01_k».proof.Proof.Gen.HNorm
public import proofs.«01_k».proof.Proof.Gen.HNorm.Frame
public import proofs.«01_k».proof.Proof.Gen.HNormIdeal
public import proofs.«01_k».proof.Proof.Gen.HNormIdeal.Frame
public import proofs.«01_k».proof.Proof.Gen.HNormIdeal.Value
public import proofs.«01_k».proof.Proof.Gen.HNormReferenceIdeal.Run
public import proofs.«01_k».proof.Proof.Gen.AttnQuant
public import proofs.«01_k».proof.Proof.Gen.AttnQuant.Frame
public import proofs.«01_k».proof.Proof.Gen.AttnQuantIdeal
public import proofs.«01_k».proof.Proof.Gen.AttnQuantIdeal.Frame
public import proofs.«01_k».proof.Proof.Gen.AttnQuantIdeal.Value
public import proofs.«01_k».proof.Proof.Gen.AttnQuantReferenceIdeal.Run
public import proofs.«01_k».proof.Proof.Gen.SiluQuant
public import proofs.«01_k».proof.Proof.Gen.SiluQuant.Frame
public import proofs.«01_k».proof.Proof.Gen.SiluQuantIdeal
public import proofs.«01_k».proof.Proof.Gen.SiluQuantIdeal.Frame
public import proofs.«01_k».proof.Proof.Gen.SiluQuantIdeal.Value
public import proofs.«01_k».proof.Proof.Gen.SiluQuantReferenceIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal.Run
public import proofs.«01_k».proof.Proof.Whole
public import proofs.«01_k».proof.Proof.XNormSame
public import proofs.«01_k».proof.Proof.HNormSame
public import proofs.«01_k».proof.Proof.AttnQuantSame
public import proofs.«01_k».proof.Proof.SiluQuantSame
public import proofs.«01_k».proof.Proof.DownSame
public import Idealize.ShloMosaic.Adequacy
public import Idealize.ShloMosaic.Init

@[expose] public section

noncomputable section

namespace Cert.Proof

open Idealize.ShloMosaic Idealize.SL.Sem Cert.Kernel

/-- The reference's run leaves its arguments as they were; it declares no semaphore. -/
theorem frame_r : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- The reference's array is the kernel's, for arguments that agree and scales that are finite. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_scales (hPre_finite_scales := Cert.Step.pre_facts) m) (c : Dev Cert.KernelIdeal.nD)
    (h0 : m' ((c.tc : Thread Cert.ReferenceIdeal.nD Cert.ReferenceIdeal.τ).loc Cert.ReferenceIdeal.main_arg0) = Cert.Step.arg0 m c)
    (h1 : m' ((c.tc : Thread Cert.ReferenceIdeal.nD Cert.ReferenceIdeal.τ).loc Cert.ReferenceIdeal.main_arg1) = Cert.Step.arg1 m c)
    (h2 : m' ((c.tc : Thread Cert.ReferenceIdeal.nD Cert.ReferenceIdeal.τ).loc Cert.ReferenceIdeal.main_arg2) = Cert.Step.arg2 m c)
    (h3 : m' ((c.tc : Thread Cert.ReferenceIdeal.nD Cert.ReferenceIdeal.τ).loc Cert.ReferenceIdeal.main_arg3) = Cert.Step.arg3 m c)
    (h4 : m' ((c.tc : Thread Cert.ReferenceIdeal.nD Cert.ReferenceIdeal.τ).loc Cert.ReferenceIdeal.main_arg4) = Cert.Step.arg4 m c)
    (h5 : m' ((c.tc : Thread Cert.ReferenceIdeal.nD Cert.ReferenceIdeal.τ).loc Cert.ReferenceIdeal.main_arg5) = Cert.Step.arg5 m c) :
    Cert.ReferenceIdeal.Value.res_main_v145 m' c = Cert.KernelIdeal.Value.G6 m c := by
  refine (Cert.RefVal.res_eq (F := Ideal) m' c).trans ?_
  rw [h0, h1, h2, h3, h4, h5]
  funext j
  rw [Cert.Step.eta2 j]
  refine (Cert.RefVal.whole_apply _ _ _ _ _ _ (j 0) (j 1)).trans ?_
  exact (Cert.Step.kernel_ref m c (fun i s => Cert.Step.finite_of_pre m c hpre i s) (j 0) (j 1)).symm

theorem same_values : Cert.algebraic_KernelIdeal_ReferenceIdeal_pre_finite_scales (hPre_finite_scales := Cert.Step.pre_facts) := by
  intro m ρ m' ρ' hpre hargs
  refine ⟨fun c => Cert.KernelIdeal.Value.G6 m c, Cert.KernelIdeal.Value.run m ρ, ?_⟩
  refine (θ_run Cert.ReferenceIdeal.defs _ _).mono (fun r h c => ?_) (Cert.ReferenceIdeal.Value.run m' ρ')
  obtain ⟨a0, a1, a2, a3, a4, a5⟩ := hargs c
  exact ⟨(h c).1.trans (arrays_eq m m' hpre c a0 a1 a2 a3 a4 a5), (h c).2⟩

theorem claim : Cert.Claim :=
  ⟨Cert.Kernel.Gen.facts, Cert.KernelIdeal.Gen.facts, Cert.ReferenceIdeal.Gen.facts,
    Cert.XNorm.Gen.facts, Cert.XNormIdeal.Gen.facts, Cert.XNormReferenceIdeal.Gen.facts,
    Cert.HNorm.Gen.facts, Cert.HNormIdeal.Gen.facts, Cert.HNormReferenceIdeal.Gen.facts,
    Cert.AttnQuant.Gen.facts, Cert.AttnQuantIdeal.Gen.facts, Cert.AttnQuantReferenceIdeal.Gen.facts,
    Cert.SiluQuant.Gen.facts, Cert.SiluQuantIdeal.Gen.facts, Cert.SiluQuantReferenceIdeal.Gen.facts,
    Cert.Down.Gen.facts, Cert.DownIdeal.Gen.facts, Cert.DownReferenceIdeal.Gen.facts,
    Cert.Step.pre_facts,
    fun m ρ _ => Cert.Kernel.Gen.frame m ρ, fun m ρ _ => Cert.KernelIdeal.Gen.frame m ρ, fun m ρ _ => Cert.KernelIdeal.Gen.frame m ρ,
    frame_r, fun m ρ _ => frame_r m ρ True.intro,
    fun m ρ _ => Cert.XNorm.Gen.frame m ρ, fun m ρ _ => Cert.XNormIdeal.Gen.frame m ρ, Cert.XNormSame.frame_r,
    fun m ρ _ => Cert.HNorm.Gen.frame m ρ, fun m ρ _ => Cert.HNormIdeal.Gen.frame m ρ, Cert.HNormSame.frame_r,
    fun m ρ _ => Cert.AttnQuant.Gen.frame m ρ, fun m ρ _ => Cert.AttnQuantIdeal.Gen.frame m ρ, Cert.AttnQuantSame.frame_r,
    fun m ρ _ => Cert.SiluQuant.Gen.frame m ρ, fun m ρ _ => Cert.SiluQuantIdeal.Gen.frame m ρ, Cert.SiluQuantSame.frame_r,
    fun m ρ _ => Cert.Down.Gen.frame m ρ, fun m ρ _ => Cert.DownIdeal.Gen.frame m ρ, Cert.DownSame.frame_r,
    trivial, same_values,
    trivial, Cert.XNormSame.same_values,
    trivial, Cert.HNormSame.same_values,
    trivial, Cert.AttnQuantSame.same_values,
    trivial, Cert.SiluQuantSame.same_values,
    trivial, Cert.DownSame.same_values⟩

end Cert.Proof

end
